-- ==== Defs.lean ====
def Pre_Kernel [hPre_listed : Cert.Pre_listed.Facts] (m : (ℓ : Loc Cert.Kernel.nD Cert.Kernel.τ Cert.Kernel.sig) → Buf (Elt Bits) ℓ) : Prop :=
  ∀ c : Dev Cert.Kernel.nD,
    (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_listed : Cert.Pre_listed.Facts] (m : (ℓ : Loc Cert.KernelIdeal.nD Cert.KernelIdeal.τ Cert.KernelIdeal.sig) → Buf (Elt Ideal) ℓ) : Prop :=
  ∀ c : Dev Cert.KernelIdeal.nD,
    (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Moments (m : (ℓ : Loc Cert.Moments.nD Cert.Moments.τ Cert.Moments.sig) → Buf (Elt Bits) ℓ) : Prop :=
  True

def Pre_MomentsIdeal (m : (ℓ : Loc Cert.MomentsIdeal.nD Cert.MomentsIdeal.τ Cert.MomentsIdeal.sig) → Buf (Elt Ideal) ℓ) : Prop :=
  True

def Pre_MomentsIdeal_finite [hPre_finite : Cert.Pre_finite.Facts] (m : (ℓ : Loc Cert.MomentsIdeal.nD Cert.MomentsIdeal.τ Cert.MomentsIdeal.sig) → Buf (Elt Ideal) ℓ) : Prop :=
  ∀ c : Dev Cert.MomentsIdeal.nD,
    (Cert.Pre_finite.fn (F := Ideal) (m ((c.tc : Thread Cert.MomentsIdeal.nD Cert.MomentsIdeal.τ).loc Cert.MomentsIdeal.main_arg0)) (m ((c.tc : Thread Cert.MomentsIdeal.nD Cert.MomentsIdeal.τ).loc Cert.MomentsIdeal.main_arg1)) (m ((c.tc : Thread Cert.MomentsIdeal.nD Cert.MomentsIdeal.τ).loc Cert.MomentsIdeal.main_arg2)) (m ((c.tc : Thread Cert.MomentsIdeal.nD Cert.MomentsIdeal.τ).loc Cert.MomentsIdeal.main_arg3))) = (fun _ => 1#1)

def Pre_MomentsReferenceIdeal (m : (ℓ : Loc Cert.MomentsReferenceIdeal.nD Cert.MomentsReferenceIdeal.τ Cert.MomentsReferenceIdeal.sig) → Buf (Elt Ideal) ℓ) : Prop :=
  True

def Pre_MomentsReferenceIdeal_finite [hPre_finite : Cert.Pre_finite.Facts] (m : (ℓ : Loc Cert.MomentsReferenceIdeal.nD Cert.MomentsReferenceIdeal.τ Cert.MomentsReferenceIdeal.sig) → Buf (Elt Ideal) ℓ) : Prop :=
  ∀ c : Dev Cert.MomentsReferenceIdeal.nD,
    (Cert.Pre_finite.fn (F := Ideal) (m ((c.tc : Thread Cert.MomentsReferenceIdeal.nD Cert.MomentsReferenceIdeal.τ).loc Cert.MomentsReferenceIdeal.main_arg0)) (m ((c.tc : Thread Cert.MomentsReferenceIdeal.nD Cert.MomentsReferenceIdeal.τ).loc Cert.MomentsReferenceIdeal.main_arg1)) (m ((c.tc : Thread Cert.MomentsReferenceIdeal.nD Cert.MomentsReferenceIdeal.τ).loc Cert.MomentsReferenceIdeal.main_arg2)) (m ((c.tc : Thread Cert.MomentsReferenceIdeal.nD Cert.MomentsReferenceIdeal.τ).loc Cert.MomentsReferenceIdeal.main_arg3))) = (fun _ => 1#1)

def Pre_Neighbours (m : (ℓ : Loc Cert.Neighbours.nD Cert.Neighbours.τ Cert.Neighbours.sig) → Buf (Elt Bits) ℓ) : Prop :=
  True

def Pre_NeighboursIdeal (m : (ℓ : Loc Cert.NeighboursIdeal.nD Cert.NeighboursIdeal.τ Cert.NeighboursIdeal.sig) → Buf (Elt Ideal) ℓ) : Prop :=
  True

def Pre_NeighboursIdeal_bounded [hPre_bounded : Cert.Pre_bounded.Facts] (m : (ℓ : Loc Cert.NeighboursIdeal.nD Cert.NeighboursIdeal.τ Cert.NeighboursIdeal.sig) → Buf (Elt Ideal) ℓ) : Prop :=
  ∀ c : Dev Cert.NeighboursIdeal.nD,
    (Cert.Pre_bounded.fn (F := Ideal) (m ((c.tc : Thread Cert.NeighboursIdeal.nD Cert.NeighboursIdeal.τ).loc Cert.NeighboursIdeal.main_arg0)) (m ((c.tc : Thread Cert.NeighboursIdeal.nD Cert.NeighboursIdeal.τ).loc Cert.NeighboursIdeal.main_arg1))) = (fun _ => 1#1)

def Pre_NeighboursReferenceIdeal (m : (ℓ : Loc Cert.NeighboursReferenceIdeal.nD Cert.NeighboursReferenceIdeal.τ Cert.NeighboursReferenceIdeal.sig) → Buf (Elt Ideal) ℓ) : Prop :=
  True

def Pre_NeighboursReferenceIdeal_bounded [hPre_bounded : Cert.Pre_bounded.Facts] (m : (ℓ : Loc Cert.NeighboursReferenceIdeal.nD Cert.NeighboursReferenceIdeal.τ Cert.NeighboursReferenceIdeal.sig) → Buf (Elt Ideal) ℓ) : Prop :=
  ∀ c : Dev Cert.NeighboursReferenceIdeal.nD,
    (Cert.Pre_bounded.fn (F := Ideal) (m ((c.tc : Thread Cert.NeighboursReferenceIdeal.nD Cert.NeighboursReferenceIdeal.τ).loc Cert.NeighboursReferenceIdeal.main_arg0)) (m ((c.tc : Thread Cert.NeighboursReferenceIdeal.nD Cert.NeighboursReferenceIdeal.τ).loc Cert.NeighboursReferenceIdeal.main_arg1))) = (fun _ => 1#1)

def Pre_Features [hPre_named : Cert.Pre_named.Facts] (m : (ℓ : Loc Cert.Features.nD Cert.Features.τ Cert.Features.sig) → Buf (Elt Bits) ℓ) : Prop :=
  ∀ c : Dev Cert.Features.nD,
    (Cert.Pre_named.fn (F := Bits) (m ((c.tc : Thread Cert.Features.nD Cert.Features.τ).loc Cert.Features.main_arg0)) (m ((c.tc : Thread Cert.Features.nD Cert.Features.τ).loc Cert.Features.main_arg1)) (m ((c.tc : Thread Cert.Features.nD Cert.Features.τ).loc Cert.Features.main_arg2)) (m ((c.tc : Thread Cert.Features.nD Cert.Features.τ).loc Cert.Features.main_arg3)) (m ((c.tc : Thread Cert.Features.nD Cert.Features.τ).loc Cert.Features.main_arg4))) = (fun _ => 1#1)

def Pre_FeaturesIdeal [hPre_named : Cert.Pre_named.Facts] (m : (ℓ : Loc Cert.FeaturesIdeal.nD Cert.FeaturesIdeal.τ Cert.FeaturesIdeal.sig) → Buf (Elt Ideal) ℓ) : Prop :=
  ∀ c : Dev Cert.FeaturesIdeal.nD,
    (Cert.Pre_named.fn (F := Ideal) (m ((c.tc : Thread Cert.FeaturesIdeal.nD Cert.FeaturesIdeal.τ).loc Cert.FeaturesIdeal.main_arg0)) (m ((c.tc : Thread Cert.FeaturesIdeal.nD Cert.FeaturesIdeal.τ).loc Cert.FeaturesIdeal.main_arg1)) (m ((c.tc : Thread Cert.FeaturesIdeal.nD Cert.FeaturesIdeal.τ).loc Cert.FeaturesIdeal.main_arg2)) (m ((c.tc : Thread Cert.FeaturesIdeal.nD Cert.FeaturesIdeal.τ).loc Cert.FeaturesIdeal.main_arg3)) (m ((c.tc : Thread Cert.FeaturesIdeal.nD Cert.FeaturesIdeal.τ).loc Cert.FeaturesIdeal.main_arg4))) = (fun _ => 1#1)

def Pre_FeaturesIdeal_ordered [hPre_ordered : Cert.Pre_ordered.Facts] (m : (ℓ : Loc Cert.FeaturesIdeal.nD Cert.FeaturesIdeal.τ Cert.FeaturesIdeal.sig) → Buf (Elt Ideal) ℓ) : Prop :=
  ∀ c : Dev Cert.FeaturesIdeal.nD,
    (Cert.Pre_ordered.fn (F := Ideal) (m ((c.tc : Thread Cert.FeaturesIdeal.nD Cert.FeaturesIdeal.τ).loc Cert.FeaturesIdeal.main_arg0)) (m ((c.tc : Thread Cert.FeaturesIdeal.nD Cert.FeaturesIdeal.τ).loc Cert.FeaturesIdeal.main_arg1)) (m ((c.tc : Thread Cert.FeaturesIdeal.nD Cert.FeaturesIdeal.τ).loc Cert.FeaturesIdeal.main_arg2)) (m ((c.tc : Thread Cert.FeaturesIdeal.nD Cert.FeaturesIdeal.τ).loc Cert.FeaturesIdeal.main_arg3)) (m ((c.tc : Thread Cert.FeaturesIdeal.nD Cert.FeaturesIdeal.τ).loc Cert.FeaturesIdeal.main_arg4))) = (fun _ => 1#1)

def Pre_FeaturesReferenceIdeal (m : (ℓ : Loc Cert.FeaturesReferenceIdeal.nD Cert.FeaturesReferenceIdeal.τ Cert.FeaturesReferenceIdeal.sig) → Buf (Elt Ideal) ℓ) : Prop :=
  True

def Pre_FeaturesReferenceIdeal_ordered [hPre_ordered : Cert.Pre_ordered.Facts] (m : (ℓ : Loc Cert.FeaturesReferenceIdeal.nD Cert.FeaturesReferenceIdeal.τ Cert.FeaturesReferenceIdeal.sig) → Buf (Elt Ideal) ℓ) : Prop :=
  ∀ c : Dev Cert.FeaturesReferenceIdeal.nD,
    (Cert.Pre_ordered.fn (F := Ideal) (m ((c.tc : Thread Cert.FeaturesReferenceIdeal.nD Cert.FeaturesReferenceIdeal.τ).loc Cert.FeaturesReferenceIdeal.main_arg0)) (m ((c.tc : Thread Cert.FeaturesReferenceIdeal.nD Cert.FeaturesReferenceIdeal.τ).loc Cert.FeaturesReferenceIdeal.main_arg1)) (m ((c.tc : Thread Cert.FeaturesReferenceIdeal.nD Cert.FeaturesReferenceIdeal.τ).loc Cert.FeaturesReferenceIdeal.main_arg2)) (m ((c.tc : Thread Cert.FeaturesReferenceIdeal.nD Cert.FeaturesReferenceIdeal.τ).loc Cert.FeaturesReferenceIdeal.main_arg3)) (m ((c.tc : Thread Cert.FeaturesReferenceIdeal.nD Cert.FeaturesReferenceIdeal.τ).loc Cert.FeaturesReferenceIdeal.main_arg4))) = (fun _ => 1#1)

def Pre_WholeIdeal (m : (ℓ : Loc Cert.WholeIdeal.nD Cert.WholeIdeal.τ Cert.WholeIdeal.sig) → Buf (Elt Ideal) ℓ) : Prop :=
  True

def Pre_WholeIdeal_tame [hPre_tame : Cert.Pre_tame.Facts] (m : (ℓ : Loc Cert.WholeIdeal.nD Cert.WholeIdeal.τ Cert.WholeIdeal.sig) → Buf (Elt Ideal) ℓ) : Prop :=
  ∀ c : Dev Cert.WholeIdeal.nD,
    (Cert.Pre_tame.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_tame [hPre_tame : Cert.Pre_tame.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_tame.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4))) = (fun _ => 1#1)

def quiescent_Kernel [hKernel : Cert.Kernel.Facts] [hPre_listed : Cert.Pre_listed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0))
      ∧ r.2.sem = fun _ => 0)

def quiescent_Moments [hMoments : Cert.Moments.Facts] : Prop :=
  ∀ (m : (ℓ : Loc Cert.Moments.nD Cert.Moments.τ Cert.Moments.sig) → Buf (Elt Bits) ℓ) (g : Dev Cert.Moments.nD → PrngReg), Pre_Moments m →
    θ_run (Cert.Moments.defs (F := Bits)) (onTc (τ := Cert.Moments.τ) (Cert.Moments.main (F := Bits))) ⟨m, fun _ => 0, g⟩ (fun r => (∀ c : Dev Cert.Moments.nD,
      r.2.mem ((c.tc : Thread Cert.Moments.nD Cert.Moments.τ).loc Cert.Moments.main_arg0) = m ((c.tc : Thread Cert.Moments.nD Cert.Moments.τ).loc Cert.Moments.main_arg0)
      ∧ r.2.mem ((c.tc : Thread Cert.Moments.nD Cert.Moments.τ).loc Cert.Moments.main_arg1) = m ((c.tc : Thread Cert.Moments.nD Cert.Moments.τ).loc Cert.Moments.main_arg1)
      ∧ r.2.mem ((c.tc : Thread Cert.Moments.nD Cert.Moments.τ).loc Cert.Moments.main_arg2) = m ((c.tc : Thread Cert.Moments.nD Cert.Moments.τ).loc Cert.Moments.main_arg2)
      ∧ r.2.mem ((c.tc : Thread Cert.Moments.nD Cert.Moments.τ).loc Cert.Moments.main_arg3) = m ((c.tc : Thread Cert.Moments.nD Cert.Moments.τ).loc Cert.Moments.main_arg3))
      ∧ r.2.sem = fun _ => 0)

def quiescent_MomentsIdeal [hMomentsIdeal : Cert.MomentsIdeal.Facts] : Prop :=
  ∀ (m : (ℓ : Loc Cert.MomentsIdeal.nD Cert.MomentsIdeal.τ Cert.MomentsIdeal.sig) → Buf (Elt Ideal) ℓ) (g : Dev Cert.MomentsIdeal.nD → PrngReg), Pre_MomentsIdeal m →
    θ_run (Cert.MomentsIdeal.defs (F := Ideal)) (onTc (τ := Cert.MomentsIdeal.τ) (Cert.MomentsIdeal.main (F := Ideal))) ⟨m, fun _ => 0, g⟩ (fun r => (∀ c : Dev Cert.MomentsIdeal.nD,
      r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
      ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
      ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2)
      ∧ r.2.mem ((c.tc : Thread Cert.MomentsIdeal.nD Cert.MomentsIdeal.τ).loc Cert.MomentsIdeal.main_arg3) = m ((c.tc : Thread Cert.MomentsIdeal.nD Cert.MomentsIdeal.τ).loc Cert.MomentsIdeal.main_arg3))
      ∧ r.2.sem = fun _ => 0)

def quiescent_MomentsIdeal_pre_finite [hMomentsIdeal : Cert.MomentsIdeal.Facts] [hPre_finite : Cert.Pre_finite.Facts] : Prop :=
  ∀ (m : (ℓ : Loc Cert.MomentsIdeal.nD Cert.MomentsIdeal.τ Cert.MomentsIdeal.sig) → Buf (Elt Ideal) ℓ) (g : Dev Cert.MomentsIdeal.nD → PrngReg), Pre_MomentsIdeal_finite m →
    θ_run (Cert.MomentsIdeal.defs (F := Ideal)) (onTc (τ := Cert.MomentsIdeal.τ) (Cert.MomentsIdeal.main (F := Ideal))) ⟨m, fun _ => 0, g⟩ (fun r => (∀ c : Dev Cert.MomentsIdeal.nD,
      r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
      ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
      ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2)
      ∧ r.2.mem ((c.tc : Thread Cert.MomentsIdeal.nD Cert.MomentsIdeal.τ).loc Cert.MomentsIdeal.main_arg3) = m ((c.tc : Thread Cert.MomentsIdeal.nD Cert.MomentsIdeal.τ).loc Cert.MomentsIdeal.main_arg3))
      ∧ r.2.sem = fun _ => 0)

def quiescent_MomentsReferenceIdeal [hMomentsReferenceIdeal : Cert.MomentsReferenceIdeal.Facts] : Prop :=
  ∀ (m : (ℓ : Loc Cert.MomentsReferenceIdeal.nD Cert.MomentsReferenceIdeal.τ Cert.MomentsReferenceIdeal.sig) → Buf (Elt Ideal) ℓ) (g : Dev Cert.MomentsReferenceIdeal.nD → PrngReg), Pre_MomentsReferenceIdeal m →
    θ_run (Cert.MomentsReferenceIdeal.defs (F := Ideal)) (onTc (τ := Cert.MomentsReferenceIdeal.τ) (Cert.MomentsReferenceIdeal.main (F := Ideal))) ⟨m, fun _ => 0, g⟩ (fun r => (∀ c : Dev Cert.MomentsReferenceIdeal.nD,
      r.2.mem ((c.tc : Thread Cert.MomentsReferenceIdeal.nD Cert.MomentsReferenceIdeal.τ).loc Cert.MomentsReferenceIdeal.main_arg0) = m ((c.tc : Thread Cert.MomentsReferenceIdeal.nD Cert.MomentsReferenceIdeal.τ).loc Cert.MomentsReferenceIdeal.main_arg0)
      ∧ r.2.mem ((c.tc : Thread Cert.MomentsReferenceIdeal.nD Cert.MomentsReferenceIdeal.τ).loc Cert.MomentsReferenceIdeal.main_arg1) = m ((c.tc : Thread Cert.MomentsReferenceIdeal.nD Cert.MomentsReferenceIdeal.τ).loc Cert.MomentsReferenceIdeal.main_arg1)
      ∧ r.2.mem ((c.tc : Thread Cert.MomentsReferenceIdeal.nD Cert.MomentsReferenceIdeal.τ).loc Cert.MomentsReferenceIdeal.main_arg2) = m ((c.tc : Thread Cert.MomentsReferenceIdeal.nD Cert.MomentsReferenceIdeal.τ).loc Cert.MomentsReferenceIdeal.main_arg2)
      ∧ r.2.mem ((c.tc : Thread Cert.MomentsReferenceIdeal.nD Cert.MomentsReferenceIdeal.τ).loc Cert.MomentsReferenceIdeal.main_arg3) = m ((c.tc : Thread Cert.MomentsReferenceIdeal.nD Cert.MomentsReferenceIdeal.τ).loc Cert.MomentsReferenceIdeal.main_arg3))
      ∧ r.2.sem = fun _ => 0)

def quiescent_MomentsReferenceIdeal_pre_finite [hMomentsReferenceIdeal : Cert.MomentsReferenceIdeal.Facts] [hPre_finite : Cert.Pre_finite.Facts] : Prop :=
  ∀ (m : (ℓ : Loc Cert.MomentsReferenceIdeal.nD Cert.MomentsReferenceIdeal.τ Cert.MomentsReferenceIdeal.sig) → Buf (Elt Ideal) ℓ) (g : Dev Cert.MomentsReferenceIdeal.nD → PrngReg), Pre_MomentsReferenceIdeal_finite m →
    θ_run (Cert.MomentsReferenceIdeal.defs (F := Ideal)) (onTc (τ := Cert.MomentsReferenceIdeal.τ) (Cert.MomentsReferenceIdeal.main (F := Ideal))) ⟨m, fun _ => 0, g⟩ (fun r => (∀ c : Dev Cert.MomentsReferenceIdeal.nD,
      r.2.mem ((c.tc : Thread Cert.MomentsReferenceIdeal.nD Cert.MomentsReferenceIdeal.τ).loc Cert.MomentsReferenceIdeal.main_arg0) = m ((c.tc : Thread Cert.MomentsReferenceIdeal.nD Cert.MomentsReferenceIdeal.τ).loc Cert.MomentsReferenceIdeal.main_arg0)
      ∧ r.2.mem ((c.tc : Thread Cert.MomentsReferenceIdeal.nD Cert.MomentsReferenceIdeal.τ).loc Cert.MomentsReferenceIdeal.main_arg1) = m ((c.tc : Thread Cert.MomentsReferenceIdeal.nD Cert.MomentsReferenceIdeal.τ).loc Cert.MomentsReferenceIdeal.main_arg1)
      ∧ r.2.mem ((c.tc : Thread Cert.MomentsReferenceIdeal.nD Cert.MomentsReferenceIdeal.τ).loc Cert.MomentsReferenceIdeal.main_arg2) = m ((c.tc : Thread Cert.MomentsReferenceIdeal.nD Cert.MomentsReferenceIdeal.τ).loc Cert.MomentsReferenceIdeal.main_arg2)
      ∧ r.2.mem ((c.tc : Thread Cert.MomentsReferenceIdeal.nD Cert.MomentsReferenceIdeal.τ).loc Cert.MomentsReferenceIdeal.main_arg3) = m ((c.tc : Thread Cert.MomentsReferenceIdeal.nD Cert.MomentsReferenceIdeal.τ).loc Cert.MomentsReferenceIdeal.main_arg3))
      ∧ r.2.sem = fun _ => 0)

def quiescent_Neighbours [hNeighbours : Cert.Neighbours.Facts] : Prop :=
  ∀ (m : (ℓ : Loc Cert.Neighbours.nD Cert.Neighbours.τ Cert.Neighbours.sig) → Buf (Elt Bits) ℓ) (g : Dev Cert.Neighbours.nD → PrngReg), Pre_Neighbours m →
    θ_run (Cert.Neighbours.defs (F := Bits)) (onTc (τ := Cert.Neighbours.τ) (Cert.Neighbours.main (F := Bits))) ⟨m, fun _ => 0, g⟩ (fun r => (∀ c : Dev Cert.Neighbours.nD,
      r.2.mem ((c.tc : Thread Cert.Neighbours.nD Cert.Neighbours.τ).loc Cert.Neighbours.main_arg0) = m ((c.tc : Thread Cert.Neighbours.nD Cert.Neighbours.τ).loc Cert.Neighbours.main_arg0)
      ∧ r.2.mem ((c.tc : Thread Cert.Neighbours.nD Cert.Neighbours.τ).loc Cert.Neighbours.main_arg1) = m ((c.tc : Thread Cert.Neighbours.nD Cert.Neighbours.τ).loc Cert.Neighbours.main_arg1))
      ∧ r.2.sem = fun _ => 0)

def quiescent_NeighboursIdeal [hNeighboursIdeal : Cert.NeighboursIdeal.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursIdeal_pre_bounded [hNeighboursIdeal : Cert.NeighboursIdeal.Facts] [hPre_bounded : Cert.Pre_bounded.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal_bounded m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursReferenceIdeal [hNeighboursReferenceIdeal : Cert.NeighboursReferenceIdeal.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_NeighboursReferenceIdeal_pre_bounded [hNeighboursReferenceIdeal : Cert.NeighboursReferenceIdeal.Facts] [hPre_bounded : Cert.Pre_bounded.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal_bounded m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_Features [hFeatures : Cert.Features.Facts] [hPre_named : Cert.Pre_named.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (Cert.Features.threads (F := Bits)) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4))
      ∧ r.2.sem = fun _ => 0)

def quiescent_FeaturesIdeal [hFeaturesIdeal : Cert.FeaturesIdeal.Facts] [hPre_named : Cert.Pre_named.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (Cert.FeaturesIdeal.threads (F := Ideal)) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4))
      ∧ r.2.sem = fun _ => 0)

def quiescent_FeaturesIdeal_pre_ordered [hFeaturesIdeal : Cert.FeaturesIdeal.Facts] [hPre_ordered : Cert.Pre_ordered.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal_ordered m →
    θ_run (Cert.FeaturesIdeal.defs (F := Ideal)) (Cert.FeaturesIdeal.threads (F := Ideal)) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4))
      ∧ r.2.sem = fun _ => 0)

def quiescent_FeaturesReferenceIdeal [hFeaturesReferenceIdeal : Cert.FeaturesReferenceIdeal.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4))
      ∧ r.2.sem = fun _ => 0)

def quiescent_FeaturesReferenceIdeal_pre_ordered [hFeaturesReferenceIdeal : Cert.FeaturesReferenceIdeal.Facts] [hPre_ordered : Cert.Pre_ordered.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal_ordered m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeIdeal_pre_tame [hWholeIdeal : Cert.WholeIdeal.Facts] [hPre_tame : Cert.Pre_tame.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_tame m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4))
      ∧ r.2.sem = fun _ => 0)

def quiescent_WholeReferenceIdeal_pre_tame [hWholeReferenceIdeal : Cert.WholeReferenceIdeal.Facts] [hPre_tame : Cert.Pre_tame.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_tame m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v5) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v24) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0))

def preserves_Moments_MomentsIdeal : Prop :=
  True

def algebraic_MomentsIdeal_MomentsReferenceIdeal_pre_finite [hMomentsIdeal : Cert.MomentsIdeal.Facts] [hMomentsReferenceIdeal : Cert.MomentsReferenceIdeal.Facts] [hPre_finite : Cert.Pre_finite.Facts] : Prop :=
  ∀ (m : (ℓ : Loc Cert.MomentsIdeal.nD Cert.MomentsIdeal.τ Cert.MomentsIdeal.sig) → Buf (Elt Ideal) ℓ) (g : Dev Cert.MomentsIdeal.nD → PrngReg)
    (m' : (ℓ : Loc Cert.MomentsReferenceIdeal.nD Cert.MomentsReferenceIdeal.τ Cert.MomentsReferenceIdeal.sig) → Buf (Elt Ideal) ℓ) (g' : Dev Cert.MomentsReferenceIdeal.nD → PrngReg), Pre_MomentsIdeal_finite m →
    (∀ c : Dev Cert.MomentsIdeal.nD,
      m' ((c.tc : Thread Cert.MomentsReferenceIdeal.nD Cert.MomentsReferenceIdeal.τ).loc Cert.MomentsReferenceIdeal.main_arg0) = m ((c.tc : Thread Cert.MomentsIdeal.nD Cert.MomentsIdeal.τ).loc Cert.MomentsIdeal.main_arg0)
      ∧ m' ((c.tc : Thread Cert.MomentsReferenceIdeal.nD Cert.MomentsReferenceIdeal.τ).loc Cert.MomentsReferenceIdeal.main_arg1) = m ((c.tc : Thread Cert.MomentsIdeal.nD Cert.MomentsIdeal.τ).loc Cert.MomentsIdeal.main_arg1)
      ∧ m' ((c.tc : Thread Cert.MomentsReferenceIdeal.nD Cert.MomentsReferenceIdeal.τ).loc Cert.MomentsReferenceIdeal.main_arg2) = m ((c.tc : Thread Cert.MomentsIdeal.nD Cert.MomentsIdeal.τ).loc Cert.MomentsIdeal.main_arg2)
      ∧ m' ((c.tc : Thread Cert.MomentsReferenceIdeal.nD Cert.MomentsReferenceIdeal.τ).loc Cert.MomentsReferenceIdeal.main_arg3) = m ((c.tc : Thread Cert.MomentsIdeal.nD Cert.MomentsIdeal.τ).loc Cert.MomentsIdeal.main_arg3)) →
    ∃ (v0 : (c : Dev Cert.MomentsIdeal.nD) → Buf (Elt Ideal) ((c.tc : Thread Cert.MomentsIdeal.nD Cert.MomentsIdeal.τ).loc Cert.MomentsIdeal.main_v2_0)) (v1 : (c : Dev Cert.MomentsIdeal.nD) → Buf (Elt Ideal) ((c.tc : Thread Cert.MomentsIdeal.nD Cert.MomentsIdeal.τ).loc Cert.MomentsIdeal.main_v16)) (v2 : (c : Dev Cert.MomentsIdeal.nD) → Buf (Elt Ideal) ((c.tc : Thread Cert.MomentsIdeal.nD Cert.MomentsIdeal.τ).loc Cert.MomentsIdeal.main_v18)),
      θ_run (Cert.MomentsIdeal.defs (F := Ideal)) (onTc (τ := Cert.MomentsIdeal.τ) (Cert.MomentsIdeal.main (F := Ideal))) ⟨m, fun _ => 0, g⟩ (fun r => ∀ c : Dev Cert.MomentsIdeal.nD,
          r.2.mem ((c.tc : Thread Cert.MomentsIdeal.nD Cert.MomentsIdeal.τ).loc Cert.MomentsIdeal.main_v2_0) = v0 c
          ∧ r.2.mem ((c.tc : Thread Cert.MomentsIdeal.nD Cert.MomentsIdeal.τ).loc Cert.MomentsIdeal.main_v16) = v1 c
          ∧ r.2.mem ((c.tc : Thread Cert.MomentsIdeal.nD Cert.MomentsIdeal.τ).loc Cert.MomentsIdeal.main_v18) = v2 c
          ∧ r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
          ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
          ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2)
          ∧ r.2.mem ((c.tc : Thread Cert.MomentsIdeal.nD Cert.MomentsIdeal.τ).loc Cert.MomentsIdeal.main_arg3) = m ((c.tc : Thread Cert.MomentsIdeal.nD Cert.MomentsIdeal.τ).loc Cert.MomentsIdeal.main_arg3))
      ∧ θ_run (Cert.MomentsReferenceIdeal.defs (F := Ideal)) (onTc (τ := Cert.MomentsReferenceIdeal.τ) (Cert.MomentsReferenceIdeal.main (F := Ideal))) ⟨m', fun _ => 0, g'⟩ (fun r => ∀ c : Dev Cert.MomentsReferenceIdeal.nD,
          r.2.mem ((c.tc : Thread Cert.MomentsReferenceIdeal.nD Cert.MomentsReferenceIdeal.τ).loc Cert.MomentsReferenceIdeal.main_v11) = v0 c
          ∧ r.2.mem ((c.tc : Thread Cert.MomentsReferenceIdeal.nD Cert.MomentsReferenceIdeal.τ).loc Cert.MomentsReferenceIdeal.main_v8) = v1 c
          ∧ r.2.mem ((c.tc : Thread Cert.MomentsReferenceIdeal.nD Cert.MomentsReferenceIdeal.τ).loc Cert.MomentsReferenceIdeal.main_v10) = v2 c
          ∧ r.2.mem ((c.tc : Thread Cert.MomentsReferenceIdeal.nD Cert.MomentsReferenceIdeal.τ).loc Cert.MomentsReferenceIdeal.main_arg0) = m' ((c.tc : Thread Cert.MomentsReferenceIdeal.nD Cert.MomentsReferenceIdeal.τ).loc Cert.MomentsReferenceIdeal.main_arg0)
          ∧ r.2.mem ((c.tc : Thread Cert.MomentsReferenceIdeal.nD Cert.MomentsReferenceIdeal.τ).loc Cert.MomentsReferenceIdeal.main_arg1) = m' ((c.tc : Thread Cert.MomentsReferenceIdeal.nD Cert.MomentsReferenceIdeal.τ).loc Cert.MomentsReferenceIdeal.main_arg1)
          ∧ r.2.mem ((c.tc : Thread Cert.MomentsReferenceIdeal.nD Cert.MomentsReferenceIdeal.τ).loc Cert.MomentsReferenceIdeal.main_arg2) = m' ((c.tc : Thread Cert.MomentsReferenceIdeal.nD Cert.MomentsReferenceIdeal.τ).loc Cert.MomentsReferenceIdeal.main_arg2)
          ∧ r.2.mem ((c.tc : Thread Cert.MomentsReferenceIdeal.nD Cert.MomentsReferenceIdeal.τ).loc Cert.MomentsReferenceIdeal.main_arg3) = m' ((c.tc : Thread Cert.MomentsReferenceIdeal.nD Cert.MomentsReferenceIdeal.τ).loc Cert.MomentsReferenceIdeal.main_arg3))

def preserves_Neighbours_NeighboursIdeal : Prop :=
  True

def algebraic_NeighboursIdeal_NeighboursReferenceIdeal_pre_bounded [hNeighboursIdeal : Cert.NeighboursIdeal.Facts] [hNeighboursReferenceIdeal : Cert.NeighboursReferenceIdeal.Facts] [hPre_bounded : Cert.Pre_bounded.Facts] : Prop :=
  ∀ (m : (ℓ : Loc Cert.NeighboursIdeal.nD Cert.NeighboursIdeal.τ Cert.NeighboursIdeal.sig) → Buf (Elt Ideal) ℓ) (g : Dev Cert.NeighboursIdeal.nD → PrngReg)
    (m' : (ℓ : Loc Cert.NeighboursReferenceIdeal.nD Cert.NeighboursReferenceIdeal.τ Cert.NeighboursReferenceIdeal.sig) → Buf (Elt Ideal) ℓ) (g' : Dev Cert.NeighboursReferenceIdeal.nD → PrngReg), Pre_NeighboursIdeal_bounded m →
    (∀ c : Dev Cert.NeighboursIdeal.nD,
      m' ((c.tc : Thread Cert.NeighboursReferenceIdeal.nD Cert.NeighboursReferenceIdeal.τ).loc Cert.NeighboursReferenceIdeal.main_arg0) = m ((c.tc : Thread Cert.NeighboursIdeal.nD Cert.NeighboursIdeal.τ).loc Cert.NeighboursIdeal.main_arg0)
      ∧ m' ((c.tc : Thread Cert.NeighboursReferenceIdeal.nD Cert.NeighboursReferenceIdeal.τ).loc Cert.NeighboursReferenceIdeal.main_arg1) = m ((c.tc : Thread Cert.NeighboursIdeal.nD Cert.NeighboursIdeal.τ).loc Cert.NeighboursIdeal.main_arg1)) →
    ∃ (v0 : (c : Dev Cert.NeighboursIdeal.nD) → Buf (Elt Ideal) ((c.tc : Thread Cert.NeighboursIdeal.nD Cert.NeighboursIdeal.τ).loc Cert.NeighboursIdeal.main_v4)),
      θ_run (Cert.NeighboursIdeal.defs (F := Ideal)) (onTc (τ := Cert.NeighboursIdeal.τ) (Cert.NeighboursIdeal.main (F := Ideal))) ⟨m, fun _ => 0, g⟩ (fun r => ∀ c : Dev Cert.NeighboursIdeal.nD,
          r.2.mem ((c.tc : Thread Cert.NeighboursIdeal.nD Cert.NeighboursIdeal.τ).loc Cert.NeighboursIdeal.main_v4) = v0 c
          ∧ r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
          ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ θ_run (Cert.NeighboursReferenceIdeal.defs (F := Ideal)) (onTc (τ := Cert.NeighboursReferenceIdeal.τ) (Cert.NeighboursReferenceIdeal.main (F := Ideal))) ⟨m', fun _ => 0, g'⟩ (fun r => ∀ c : Dev Cert.NeighboursReferenceIdeal.nD,
          r.2.mem ((c.tc : Thread Cert.NeighboursReferenceIdeal.nD Cert.NeighboursReferenceIdeal.τ).loc Cert.NeighboursReferenceIdeal.main_v13) = v0 c
          ∧ r.2.mem ((c.tc : Thread Cert.NeighboursReferenceIdeal.nD Cert.NeighboursReferenceIdeal.τ).loc Cert.NeighboursReferenceIdeal.main_arg0) = m' ((c.tc : Thread Cert.NeighboursReferenceIdeal.nD Cert.NeighboursReferenceIdeal.τ).loc Cert.NeighboursReferenceIdeal.main_arg0)
          ∧ r.2.mem ((c.tc : Thread Cert.NeighboursReferenceIdeal.nD Cert.NeighboursReferenceIdeal.τ).loc Cert.NeighboursReferenceIdeal.main_arg1) = m' ((c.tc : Thread Cert.NeighboursReferenceIdeal.nD Cert.NeighboursReferenceIdeal.τ).loc Cert.NeighboursReferenceIdeal.main_arg1))

def preserves_Features_FeaturesIdeal : Prop :=
  True

def algebraic_FeaturesIdeal_FeaturesReferenceIdeal_pre_ordered [hFeaturesIdeal : Cert.FeaturesIdeal.Facts] [hFeaturesReferenceIdeal : Cert.FeaturesReferenceIdeal.Facts] [hPre_ordered : Cert.Pre_ordered.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesReferenceIdeal.nD Cert.FeaturesReferenceIdeal.τ Cert.FeaturesReferenceIdeal.sig) → Buf (Elt Ideal) ℓ) (g' : Dev Cert.FeaturesReferenceIdeal.nD → PrngReg), Pre_FeaturesIdeal_ordered m →
    (∀ c : Dev Cert.FeaturesIdeal.nD,
      m' ((c.tc : Thread Cert.FeaturesReferenceIdeal.nD Cert.FeaturesReferenceIdeal.τ).loc Cert.FeaturesReferenceIdeal.main_arg0) = m ((c.tc : Thread Cert.FeaturesIdeal.nD Cert.FeaturesIdeal.τ).loc Cert.FeaturesIdeal.main_arg0)
      ∧ m' ((c.tc : Thread Cert.FeaturesReferenceIdeal.nD Cert.FeaturesReferenceIdeal.τ).loc Cert.FeaturesReferenceIdeal.main_arg1) = m ((c.tc : Thread Cert.FeaturesIdeal.nD Cert.FeaturesIdeal.τ).loc Cert.FeaturesIdeal.main_arg1)
      ∧ m' ((c.tc : Thread Cert.FeaturesReferenceIdeal.nD Cert.FeaturesReferenceIdeal.τ).loc Cert.FeaturesReferenceIdeal.main_arg2) = m ((c.tc : Thread Cert.FeaturesIdeal.nD Cert.FeaturesIdeal.τ).loc Cert.FeaturesIdeal.main_arg2)
      ∧ m' ((c.tc : Thread Cert.FeaturesReferenceIdeal.nD Cert.FeaturesReferenceIdeal.τ).loc Cert.FeaturesReferenceIdeal.main_arg3) = m ((c.tc : Thread Cert.FeaturesIdeal.nD Cert.FeaturesIdeal.τ).loc Cert.FeaturesIdeal.main_arg3)
      ∧ m' ((c.tc : Thread Cert.FeaturesReferenceIdeal.nD Cert.FeaturesReferenceIdeal.τ).loc Cert.FeaturesReferenceIdeal.main_arg4) = m ((c.tc : Thread Cert.FeaturesIdeal.nD Cert.FeaturesIdeal.τ).loc Cert.FeaturesIdeal.main_arg4)) →
    ∃ (v0 : (c : Dev Cert.FeaturesIdeal.nD) → Buf (Elt Ideal) ((c.tc : Thread Cert.FeaturesIdeal.nD Cert.FeaturesIdeal.τ).loc Cert.FeaturesIdeal.main_v21)),
      θ_run (Cert.FeaturesIdeal.defs (F := Ideal)) (Cert.FeaturesIdeal.threads (F := Ideal)) ⟨m, fun _ => 0, g⟩ (fun r => ∀ c : Dev Cert.FeaturesIdeal.nD,
          r.2.mem ((c.tc : Thread Cert.FeaturesIdeal.nD Cert.FeaturesIdeal.τ).loc Cert.FeaturesIdeal.main_v21) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4))
      ∧ θ_run (Cert.FeaturesReferenceIdeal.defs (F := Ideal)) (onTc (τ := Cert.FeaturesReferenceIdeal.τ) (Cert.FeaturesReferenceIdeal.main (F := Ideal))) ⟨m', fun _ => 0, g'⟩ (fun r => ∀ c : Dev Cert.FeaturesReferenceIdeal.nD,
          r.2.mem ((c.tc : Thread Cert.FeaturesReferenceIdeal.nD Cert.FeaturesReferenceIdeal.τ).loc Cert.FeaturesReferenceIdeal.main_v25) = v0 c
          ∧ r.2.mem ((c.tc : Thread Cert.FeaturesReferenceIdeal.nD Cert.FeaturesReferenceIdeal.τ).loc Cert.FeaturesReferenceIdeal.main_arg0) = m' ((c.tc : Thread Cert.FeaturesReferenceIdeal.nD Cert.FeaturesReferenceIdeal.τ).loc Cert.FeaturesReferenceIdeal.main_arg0)
          ∧ r.2.mem ((c.tc : Thread Cert.FeaturesReferenceIdeal.nD Cert.FeaturesReferenceIdeal.τ).loc Cert.FeaturesReferenceIdeal.main_arg1) = m' ((c.tc : Thread Cert.FeaturesReferenceIdeal.nD Cert.FeaturesReferenceIdeal.τ).loc Cert.FeaturesReferenceIdeal.main_arg1)
          ∧ r.2.mem ((c.tc : Thread Cert.FeaturesReferenceIdeal.nD Cert.FeaturesReferenceIdeal.τ).loc Cert.FeaturesReferenceIdeal.main_arg2) = m' ((c.tc : Thread Cert.FeaturesReferenceIdeal.nD Cert.FeaturesReferenceIdeal.τ).loc Cert.FeaturesReferenceIdeal.main_arg2)
          ∧ r.2.mem ((c.tc : Thread Cert.FeaturesReferenceIdeal.nD Cert.FeaturesReferenceIdeal.τ).loc Cert.FeaturesReferenceIdeal.main_arg3) = m' ((c.tc : Thread Cert.FeaturesReferenceIdeal.nD Cert.FeaturesReferenceIdeal.τ).loc Cert.FeaturesReferenceIdeal.main_arg3)
          ∧ r.2.mem ((c.tc : Thread Cert.FeaturesReferenceIdeal.nD Cert.FeaturesReferenceIdeal.τ).loc Cert.FeaturesReferenceIdeal.main_arg4) = m' ((c.tc : Thread Cert.FeaturesReferenceIdeal.nD Cert.FeaturesReferenceIdeal.τ).loc Cert.FeaturesReferenceIdeal.main_arg4))

def algebraic_WholeIdeal_WholeReferenceIdeal_pre_tame [hWholeIdeal : Cert.WholeIdeal.Facts] [hWholeReferenceIdeal : Cert.WholeReferenceIdeal.Facts] [hPre_tame : Cert.Pre_tame.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_tame m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)) →
    ∃ (v0 : (c : Dev Cert.WholeIdeal.nD) → Buf (Elt Ideal) ((c.tc : Thread Cert.WholeIdeal.nD Cert.WholeIdeal.τ).loc Cert.WholeIdeal.main_v26)) (v1 : (c : Dev Cert.WholeIdeal.nD) → Buf (Elt Ideal) ((c.tc : Thread Cert.WholeIdeal.nD Cert.WholeIdeal.τ).loc Cert.WholeIdeal.main_v28)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v26) = v0 c
          ∧ r.2.mem ((c.tc : Thread Cert.WholeIdeal.nD Cert.WholeIdeal.τ).loc Cert.WholeIdeal.main_v28) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v58) = v0 c
          ∧ r.2.mem ((c.tc : Thread Cert.WholeReferenceIdeal.nD Cert.WholeReferenceIdeal.τ).loc Cert.WholeReferenceIdeal.main_v24) = v1 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hMoments : Cert.Moments.Facts) (hMomentsIdeal : Cert.MomentsIdeal.Facts) (hMomentsReferenceIdeal : Cert.MomentsReferenceIdeal.Facts) (hNeighbours : Cert.Neighbours.Facts) (hNeighboursIdeal : Cert.NeighboursIdeal.Facts) (hNeighboursReferenceIdeal : Cert.NeighboursReferenceIdeal.Facts) (hFeatures : Cert.Features.Facts) (hFeaturesIdeal : Cert.FeaturesIdeal.Facts) (hFeaturesReferenceIdeal : Cert.FeaturesReferenceIdeal.Facts) (hWholeIdeal : Cert.WholeIdeal.Facts) (hWholeReferenceIdeal : Cert.WholeReferenceIdeal.Facts) (hPre_listed : Cert.Pre_listed.Facts) (hPre_in_range : Cert.Pre_in_range.Facts) (hPre_finite : Cert.Pre_finite.Facts) (hPre_bounded : Cert.Pre_bounded.Facts) (hPre_named : Cert.Pre_named.Facts) (hPre_ordered : Cert.Pre_ordered.Facts) (hPre_tame : Cert.Pre_tame.Facts),
    quiescent_Kernel (hKernel := hKernel) (hPre_listed := hPre_listed)
    ∧ quiescent_KernelIdeal (hKernelIdeal := hKernelIdeal) (hPre_listed := hPre_listed)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Sample (hSample := hSample)
    ∧ quiescent_SampleIdeal (hSampleIdeal := hSampleIdeal)
    ∧ quiescent_SampleReferenceIdeal (hSampleReferenceIdeal := hSampleReferenceIdeal)
    ∧ quiescent_Moments (hMoments := hMoments)
    ∧ quiescent_MomentsIdeal (hMomentsIdeal := hMomentsIdeal)
    ∧ quiescent_MomentsIdeal_pre_finite (hMomentsIdeal := hMomentsIdeal) (hPre_finite := hPre_finite)
    ∧ quiescent_MomentsReferenceIdeal (hMomentsReferenceIdeal := hMomentsReferenceIdeal)
    ∧ quiescent_MomentsReferenceIdeal_pre_finite (hMomentsReferenceIdeal := hMomentsReferenceIdeal) (hPre_finite := hPre_finite)
    ∧ quiescent_Neighbours (hNeighbours := hNeighbours)
    ∧ quiescent_NeighboursIdeal (hNeighboursIdeal := hNeighboursIdeal)
    ∧ quiescent_NeighboursIdeal_pre_bounded (hNeighboursIdeal := hNeighboursIdeal) (hPre_bounded := hPre_bounded)
    ∧ quiescent_NeighboursReferenceIdeal (hNeighboursReferenceIdeal := hNeighboursReferenceIdeal)
    ∧ quiescent_NeighboursReferenceIdeal_pre_bounded (hNeighboursReferenceIdeal := hNeighboursReferenceIdeal) (hPre_bounded := hPre_bounded)
    ∧ quiescent_Features (hFeatures := hFeatures) (hPre_named := hPre_named)
    ∧ quiescent_FeaturesIdeal (hFeaturesIdeal := hFeaturesIdeal) (hPre_named := hPre_named)
    ∧ quiescent_FeaturesIdeal_pre_ordered (hFeaturesIdeal := hFeaturesIdeal) (hPre_ordered := hPre_ordered)
    ∧ quiescent_FeaturesReferenceIdeal (hFeaturesReferenceIdeal := hFeaturesReferenceIdeal)
    ∧ quiescent_FeaturesReferenceIdeal_pre_ordered (hFeaturesReferenceIdeal := hFeaturesReferenceIdeal) (hPre_ordered := hPre_ordered)
    ∧ quiescent_WholeIdeal (hWholeIdeal := hWholeIdeal)
    ∧ quiescent_WholeIdeal_pre_tame (hWholeIdeal := hWholeIdeal) (hPre_tame := hPre_tame)
    ∧ quiescent_WholeReferenceIdeal (hWholeReferenceIdeal := hWholeReferenceIdeal)
    ∧ quiescent_WholeReferenceIdeal_pre_tame (hWholeReferenceIdeal := hWholeReferenceIdeal) (hPre_tame := hPre_tame)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Sample_SampleIdeal
    ∧ algebraic_SampleIdeal_SampleReferenceIdeal (hSampleIdeal := hSampleIdeal) (hSampleReferenceIdeal := hSampleReferenceIdeal)
    ∧ preserves_Moments_MomentsIdeal
    ∧ algebraic_MomentsIdeal_MomentsReferenceIdeal_pre_finite (hMomentsIdeal := hMomentsIdeal) (hMomentsReferenceIdeal := hMomentsReferenceIdeal) (hPre_finite := hPre_finite)
    ∧ preserves_Neighbours_NeighboursIdeal
    ∧ algebraic_NeighboursIdeal_NeighboursReferenceIdeal_pre_bounded (hNeighboursIdeal := hNeighboursIdeal) (hNeighboursReferenceIdeal := hNeighboursReferenceIdeal) (hPre_bounded := hPre_bounded)
    ∧ preserves_Features_FeaturesIdeal
    ∧ algebraic_FeaturesIdeal_FeaturesReferenceIdeal_pre_ordered (hFeaturesIdeal := hFeaturesIdeal) (hFeaturesReferenceIdeal := hFeaturesReferenceIdeal) (hPre_ordered := hPre_ordered)
    ∧ algebraic_WholeIdeal_WholeReferenceIdeal_pre_tame (hWholeIdeal := hWholeIdeal) (hWholeReferenceIdeal := hWholeReferenceIdeal) (hPre_tame := hPre_tame)
-- ==== Pre_bounded.lean ====
abbrev S4x8192x3 : Shape := ⟨3, ![4, 8192, 3]⟩
abbrev S4x2048x3 : Shape := ⟨3, ![4, 2048, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x8192x3 .f32) (main_arg1 : FVec F S4x2048x3 .f32) : IVec S_ 1 :=
  let main_v0 : FVec F S4x8192x3 .f32 := Host.absf main_arg0
  let main_cst : FVec F S_ .f32 := constant S_ .f32 0x5D5E0B6B#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x5D5E0B6B#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Pre_finite.lean ====
abbrev S4x8192x64 : Shape := ⟨3, ![4, 8192, 64]⟩
abbrev S128x64 : Shape := ⟨2, ![128, 64]⟩
abbrev S128 : Shape := ⟨1, ![128]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S4x8192x64 .f32) (main_arg1 : FVec F S128x64 .f32) (main_arg2 : FVec F S128 .f32) (main_arg3 : FVec F S128 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Pre_in_range.lean ====
abbrev S32768x128 : Shape := ⟨2, ![32768, 128]⟩
abbrev S4x2048x16 : Shape := ⟨3, ![4, 2048, 16]⟩
abbrev S128 : Shape := ⟨1, ![128]⟩
abbrev S_ : Shape := ⟨0, ![]⟩

class Facts : Prop where
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S32768x128 .f32) (main_arg1 : IVec S4x2048x16 32) (main_arg2 : FVec F S128 .f32) (main_arg3 : FVec F S128 .f32) : IVec S_ 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg1 main_v0
  let main_c_0 : IVec S_ 32 := constantI S_ 32 32768#32
  let main_v2 : IVec S4x2048x16 32 := broadcastInDim S4x2048x16 ![] bcast_S_S4x2048x16 main_c_0
  let main_v3 : IVec S4x2048x16 1 := cmpi .slt main_arg1 main_v2
  let main_v4 : IVec S4x2048x16 1 := andi main_v1 main_v3
  let main_c_1 : IVec S_ 1 := constantI S_ 1 1#1
  let main_v5 : IVec S_ 1 := (fun x v => Host.reduce IntOp.andi x v reducesTo_S4x2048x16_S_d0_1_2 h_S_) main_v4 main_c_1
  let main_cst : FVec F S_ .f32 := constant S_ .f32 0x00000000#32
  let main_v6 : FVec F S128 .f32 := broadcastInDim S128 ![] bcast_S_S128 main_cst
  let main_v7 : IVec S128 1 := cmpf .oge main_arg2 main_v6
  let main_c_2 : IVec S_ 1 := constantI S_ 1 1#1
  let main_v8 : IVec S_ 1 := (fun x v => Host.reduce IntOp.andi x v reducesTo_S128_S_d0 h_S_) main_v7 main_c_2
  let main_v9 : IVec S_ 1 := andi main_v5 main_v8
  main_v9
-- ==== Pre_listed.lean ====
abbrev S32768x128 : Shape := ⟨2, ![32768, 128]⟩
abbrev S4x2048x16 : Shape := ⟨3, ![4, 2048, 16]⟩
abbrev S128 : Shape := ⟨1, ![128]⟩
abbrev S_ : Shape := ⟨0, ![]⟩

class Facts : Prop where
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel

variable [Facts]

def fn {F : FTy → Type} [FloatOps F] (main_arg0 : FVec F S32768x128 .f32) (main_arg1 : IVec S4x2048x16 32) (main_arg2 : FVec F S128 .f32) (main_arg3 : FVec F S128 .f32) : IVec S_ 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg1 main_v0
  let main_c_0 : IVec S_ 32 := constantI S_ 32 32768#32
  let main_v2 : IVec S4x2048x16 32 := broadcastInDim S4x2048x16 ![] bcast_S_S4x2048x16 main_c_0
  let main_v3 : IVec S4x2048x16 1 := cmpi .slt main_arg1 main_v2
  let main_v4 : IVec S4x2048x16 1 := andi main_v1 main_v3
  let main_c_1 : IVec S_ 1 := constantI S_ 1 1#1
  let main_v5 : IVec S_ 1 := (fun x v => Host.reduce IntOp.andi x v reducesTo_S4x2048x16_S_d0_1_2 h_S_) main_v4 main_c_1
  main_v5
-- ==== Pre_named.lean ====
abbrev S4x8192x64 : Shape := ⟨3, ![4, 8192, 64]⟩
abbrev S4x2048x16 : Shape := ⟨3, ![4, 2048, 16]⟩
abbrev S128x64 : Shape := ⟨2, ![128, 64]⟩
abbrev S128 : Shape := ⟨1, ![128]⟩
abbrev S_ : Shape := ⟨0, ![]⟩

class Facts : Prop where
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel

variable [Facts]

def fn {F : FTy → Type} [FloatOps F] (main_arg0 : FVec F S4x8192x64 .f32) (main_arg1 : IVec S4x2048x16 32) (main_arg2 : FVec F S128x64 .f32) (main_arg3 : FVec F S128 .f32) (main_arg4 : FVec F S128 .f32) : IVec S_ 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg1 main_v0
  let main_c_0 : IVec S_ 32 := constantI S_ 32 32768#32
  let main_v2 : IVec S4x2048x16 32 := broadcastInDim S4x2048x16 ![] bcast_S_S4x2048x16 main_c_0
  let main_v3 : IVec S4x2048x16 1 := cmpi .slt main_arg1 main_v2
  let main_v4 : IVec S4x2048x16 1 := andi main_v1 main_v3
  let main_c_1 : IVec S_ 1 := constantI S_ 1 1#1
  let main_v5 : IVec S_ 1 := (fun x v => Host.reduce IntOp.andi x v reducesTo_S4x2048x16_S_d0_1_2 h_S_) main_v4 main_c_1
  main_v5
-- ==== Pre_ordered.lean ====
abbrev S4x8192x64 : Shape := ⟨3, ![4, 8192, 64]⟩
abbrev S4x2048x16 : Shape := ⟨3, ![4, 2048, 16]⟩
abbrev S128x64 : Shape := ⟨2, ![128, 64]⟩
abbrev S128 : Shape := ⟨1, ![128]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_v15 : IVec S_ 1) (main_cst_5 : FVec F S_ .f32) : IVec S_ 1 :=
  let main_v16 : FVec F S128 .f32 := broadcastInDim S128 ![] bcast_S_S128 main_cst_5
  let main_v17 : IVec S128 1 := cmpf .oge main_arg3 main_v16
  let main_cst_6 : FVec F S_ .f32 := constant S_ .f32 0x7F800000#32
  let main_v18 : FVec F S128 .f32 := broadcastInDim S128 ![] bcast_S_S128 main_cst_6
  let main_v19 : IVec S128 1 := cmpf .olt main_arg3 main_v18
  let main_v20 : IVec S128 1 := andi main_v17 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v15 main_v21
  main_v22

def fn {F : FTy → Type} [FloatOps F] (main_arg0 : FVec F S4x8192x64 .f32) (main_arg1 : IVec S4x2048x16 32) (main_arg2 : FVec F S128x64 .f32) (main_arg3 : FVec F S128 .f32) (main_arg4 : FVec F S128 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_c_0 : IVec S_ 32 := constantI S_ 32 0#32
  let main_v4 : IVec S4x2048x16 32 := broadcastInDim S4x2048x16 ![] bcast_S_S4x2048x16 main_c_0
  let main_v5 : IVec S4x2048x16 1 := cmpi .sge main_arg1 main_v4
  let main_c_1 : IVec S_ 32 := constantI S_ 32 32768#32
  let main_v6 : IVec S4x2048x16 32 := broadcastInDim S4x2048x16 ![] bcast_S_S4x2048x16 main_c_1
  let main_v7 : IVec S4x2048x16 1 := cmpi .slt main_arg1 main_v6
  let main_v8 : IVec S4x2048x16 1 := andi main_v5 main_v7
  let main_c_2 : IVec S_ 1 := constantI S_ 1 1#1
  let main_v9 : IVec S_ 1 := (fun x v => Host.reduce IntOp.andi x v reducesTo_S4x2048x16_S_d0_1_2 h_S_) main_v8 main_c_2
  let main_v10 : IVec S_ 1 := andi main_v3 main_v9
  let main_v11 : FVec F S128x64 .f32 := Host.absf main_arg2
  let main_cst_3 : FVec F S_ .f32 := constant S_ .f32 0x7F800000#32
  let main_v12 : FVec F S128x64 .f32 := broadcastInDim S128x64 ![] bcast_S_S128x64 main_cst_3
  let main_v13 : IVec S128x64 1 := cmpf .olt main_v11 main_v12
  let main_c_4 : IVec S_ 1 := constantI S_ 1 1#1
  let main_v14 : IVec S_ 1 := (fun x v => Host.reduce IntOp.andi x v reducesTo_S128x64_S_d0_1 h_S_) main_v13 main_c_4
  let main_v15 : IVec S_ 1 := andi main_v10 main_v14
  let main_cst_5 : FVec F S_ .f32 := constant S_ .f32 0x00000000#32
  fn_part1 (F := F) main_arg3 main_v15 main_cst_5
-- ==== Pre_tame.lean ====
abbrev S4x8192x64 : Shape := ⟨3, ![4, 8192, 64]⟩
abbrev S4x8192x3 : Shape := ⟨3, ![4, 8192, 3]⟩
abbrev S128x64 : Shape := ⟨2, ![128, 64]⟩
abbrev S128 : Shape := ⟨1, ![128]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_v13 : IVec S_ 1) (main_v15 : IVec S128 1) (main_cst_5 : FVec F S_ .f32) : IVec S_ 1 :=
  let main_v16 : FVec F S128 .f32 := broadcastInDim S128 ![] bcast_S_S128 main_cst_5
  let main_v17 : IVec S128 1 := cmpf .olt main_arg3 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  main_v20

def fn {F : FTy → Type} [FloatOps F] (main_arg0 : FVec F S4x8192x64 .f32) (main_arg1 : FVec F S4x8192x3 .f32) (main_arg2 : FVec F S128x64 .f32) (main_arg3 : FVec F S128 .f32) (main_arg4 : FVec F S128 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x3 .f32 := Host.absf main_arg1
  let main_cst_0 : FVec F S_ .f32 := constant S_ .f32 0x5D5E0B6B#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_cst_4 : FVec F S_ .f32 := constant S_ .f32 0x00000000#32
  let main_v14 : FVec F S128 .f32 := broadcastInDim S128 ![] bcast_S_S128 main_cst_4
  let main_v15 : IVec S128 1 := cmpf .oge main_arg3 main_v14
  let main_cst_5 : FVec F S_ .f32 := constant S_ .f32 0x7F800000#32
  fn_part1 (F := F) main_arg3 main_v13 main_v15 main_cst_5
-- ==== Kernel.lean ====
abbrev S32768x128 : Shape := ⟨2, ![32768, 128]⟩
abbrev S4x2048x16 : Shape := ⟨3, ![4, 2048, 16]⟩
abbrev S128 : Shape := ⟨1, ![128]⟩
abbrev S131072 : Shape := ⟨1, ![131072]⟩
abbrev S8192x128 : Shape := ⟨2, ![8192, 128]⟩
abbrev S4096 : Shape := ⟨1, ![4096]⟩
abbrev S128x128 : Shape := ⟨2, ![128, 128]⟩
abbrev S256x128 : Shape := ⟨2, ![256, 128]⟩
abbrev S_ : Shape := ⟨0, ![]⟩
abbrev S1x16 : Shape := ⟨2, ![1, 16]⟩
abbrev S16 : Shape := ⟨1, ![16]⟩
abbrev S4x2048x128 : Shape := ⟨3, ![4, 2048, 128]⟩

abbrev nBuf : Table → Nat
  | .hbm => 7
  | .local .scVector .vmem => 5
  | _ => 0

abbrev bufTy : (tb : Table) → Fin (nBuf tb) → BufTy
  | .hbm, ⟨0, _⟩ => ⟨S32768x128, .f32⟩
  | .hbm, ⟨1, _⟩ => ⟨S4x2048x16, .i32⟩
  | .hbm, ⟨2, _⟩ => ⟨S128, .f32⟩
  | .hbm, ⟨3, _⟩ => ⟨S128, .f32⟩
  | .hbm, ⟨4, _⟩ => ⟨S131072, .i32⟩
  | .hbm, ⟨5, _⟩ => ⟨S8192x128, .f32⟩
  | .hbm, ⟨6, _⟩ => ⟨S4x2048x128, .f32⟩
  | .local .scVector .vmem, ⟨0, _⟩ => ⟨S4096, .i32⟩
  | .local .scVector .vmem, ⟨1, _⟩ => ⟨S128x128, .f32⟩
  | .local .scVector .vmem, ⟨2, _⟩ => ⟨S256x128, .f32⟩
  | .local .scVector .vmem, ⟨3, _⟩ => ⟨S128, .f32⟩
  | .local .scVector .vmem, ⟨4, _⟩ => ⟨S128, .f32⟩
  | _, _ => ⟨S32768x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32 : BitVec 32 := 16#32
  let v3 : BitVec 32 := Scalar.muli v2 c16_i32
  ![v3.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c128_i32 : BitVec 32 := 128#32
  let v6 : BitVec 32 := Scalar.muli arg13 c128_i32
  ![v6.toNat]
@[reducible] def k0_t2_loop : Scf.Loop 32 :=
  let c0_i32_7 : BitVec 32 := 0#32
  let c8_i32 : BitVec 32 := 8#32
  let v11 : BitVec 32 := Scalar.addi c0_i32_7 c8_i32
  let c1_i32_8 : BitVec 32 := 1#32
  ⟨c0_i32_7, v11, c1_i32_8⟩
def k0_off3 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v14 : Index := Scalar.indexCast v13
  let c0 : Index := 0#32
  ![v14.toNat, 0]
def k0_off4 (k0_t2 : Fin k0_t2_loop.trips) (c1_i32_12 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v17 : BitVec 32 := Scalar.addi v13 c1_i32_12
  let v18 : Index := Scalar.indexCast v17
  let c0_13 : Index := 0#32
  ![v18.toNat, 0]
def k0_off5 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_32 : BitVec 32 := 8#32
  let v100 : BitVec 32 := Scalar.muli arg13 c8_i32_32
  let c0_i32_7 : BitVec 32 := 0#32
  let c1_i32_8 : BitVec 32 := 1#32
  let arg15 : BitVec 32 := Scf.iv c0_i32_7 c1_i32_8 k0_t2
  let v101 : BitVec 32 := Scalar.addi v100 arg15
  let v102 : Index := Scalar.indexCast v101
  let c0_33 : Index := 0#32
  ![v102.toNat, 0]
def k0_off6 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v106 : Index := Scalar.indexCast v13
  let c16 : Index := 16#32
  ![v106.toNat, 16]
def k0_off7 (k0_t2 : Fin k0_t2_loop.trips) (c1_i32_34 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v109 : BitVec 32 := Scalar.addi v13 c1_i32_34
  let v110 : Index := Scalar.indexCast v109
  let c16_35 : Index := 16#32
  ![v110.toNat, 16]
def k0_off8 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_67 : BitVec 32 := 8#32
  let v192 : BitVec 32 := Scalar.muli arg13 c8_i32_67
  let c0_i32_7 : BitVec 32 := 0#32
  let c1_i32_8 : BitVec 32 := 1#32
  let arg15 : BitVec 32 := Scf.iv c0_i32_7 c1_i32_8 k0_t2
  let v193 : BitVec 32 := Scalar.addi v192 arg15
  let v194 : Index := Scalar.indexCast v193
  let c16_68 : Index := 16#32
  ![v194.toNat, 16]
def k0_off9 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v198 : Index := Scalar.indexCast v13
  let c32 : Index := 32#32
  ![v198.toNat, 32]
def k0_off10 (k0_t2 : Fin k0_t2_loop.trips) (c1_i32_69 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v201 : BitVec 32 := Scalar.addi v13 c1_i32_69
  let v202 : Index := Scalar.indexCast v201
  let c32_70 : Index := 32#32
  ![v202.toNat, 32]
def k0_off11 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_102 : BitVec 32 := 8#32
  let v284 : BitVec 32 := Scalar.muli arg13 c8_i32_102
  let c0_i32_7 : BitVec 32 := 0#32
  let c1_i32_8 : BitVec 32 := 1#32
  let arg15 : BitVec 32 := Scf.iv c0_i32_7 c1_i32_8 k0_t2
  let v285 : BitVec 32 := Scalar.addi v284 arg15
  let v286 : Index := Scalar.indexCast v285
  let c32_103 : Index := 32#32
  ![v286.toNat, 32]
def k0_off12 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v290 : Index := Scalar.indexCast v13
  let c48 : Index := 48#32
  ![v290.toNat, 48]
def k0_off13 (k0_t2 : Fin k0_t2_loop.trips) (c1_i32_104 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v293 : BitVec 32 := Scalar.addi v13 c1_i32_104
  let v294 : Index := Scalar.indexCast v293
  let c48_105 : Index := 48#32
  ![v294.toNat, 48]
def k0_off14 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_137 : BitVec 32 := 8#32
  let v376 : BitVec 32 := Scalar.muli arg13 c8_i32_137
  let c0_i32_7 : BitVec 32 := 0#32
  let c1_i32_8 : BitVec 32 := 1#32
  let arg15 : BitVec 32 := Scf.iv c0_i32_7 c1_i32_8 k0_t2
  let v377 : BitVec 32 := Scalar.addi v376 arg15
  let v378 : Index := Scalar.indexCast v377
  let c48_138 : Index := 48#32
  ![v378.toNat, 48]
def k0_off15 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v382 : Index := Scalar.indexCast v13
  let c64 : Index := 64#32
  ![v382.toNat, 64]
def k0_off16 (k0_t2 : Fin k0_t2_loop.trips) (c1_i32_139 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v385 : BitVec 32 := Scalar.addi v13 c1_i32_139
  let v386 : Index := Scalar.indexCast v385
  let c64_140 : Index := 64#32
  ![v386.toNat, 64]
def k0_off17 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_172 : BitVec 32 := 8#32
  let v468 : BitVec 32 := Scalar.muli arg13 c8_i32_172
  let c0_i32_7 : BitVec 32 := 0#32
  let c1_i32_8 : BitVec 32 := 1#32
  let arg15 : BitVec 32 := Scf.iv c0_i32_7 c1_i32_8 k0_t2
  let v469 : BitVec 32 := Scalar.addi v468 arg15
  let v470 : Index := Scalar.indexCast v469
  let c64_173 : Index := 64#32
  ![v470.toNat, 64]
def k0_off18 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v474 : Index := Scalar.indexCast v13
  let c80 : Index := 80#32
  ![v474.toNat, 80]
def k0_off19 (k0_t2 : Fin k0_t2_loop.trips) (c1_i32_174 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v477 : BitVec 32 := Scalar.addi v13 c1_i32_174
  let v478 : Index := Scalar.indexCast v477
  let c80_175 : Index := 80#32
  ![v478.toNat, 80]
def k0_off20 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_207 : BitVec 32 := 8#32
  let v560 : BitVec 32 := Scalar.muli arg13 c8_i32_207
  let c0_i32_7 : BitVec 32 := 0#32
  let c1_i32_8 : BitVec 32 := 1#32
  let arg15 : BitVec 32 := Scf.iv c0_i32_7 c1_i32_8 k0_t2
  let v561 : BitVec 32 := Scalar.addi v560 arg15
  let v562 : Index := Scalar.indexCast v561
  let c80_208 : Index := 80#32
  ![v562.toNat, 80]
def k0_off21 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v566 : Index := Scalar.indexCast v13
  let c96 : Index := 96#32
  ![v566.toNat, 96]
def k0_off22 (k0_t2 : Fin k0_t2_loop.trips) (c1_i32_209 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v569 : BitVec 32 := Scalar.addi v13 c1_i32_209
  let v570 : Index := Scalar.indexCast v569
  let c96_210 : Index := 96#32
  ![v570.toNat, 96]
def k0_off23 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_242 : BitVec 32 := 8#32
  let v652 : BitVec 32 := Scalar.muli arg13 c8_i32_242
  let c0_i32_7 : BitVec 32 := 0#32
  let c1_i32_8 : BitVec 32 := 1#32
  let arg15 : BitVec 32 := Scf.iv c0_i32_7 c1_i32_8 k0_t2
  let v653 : BitVec 32 := Scalar.addi v652 arg15
  let v654 : Index := Scalar.indexCast v653
  let c96_243 : Index := 96#32
  ![v654.toNat, 96]
def k0_off24 (k0_t2 : Fin k0_t2_loop.trips) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v658 : Index := Scalar.indexCast v13
  let c112 : Index := 112#32
  ![v658.toNat, 112]
def k0_off25 (k0_t2 : Fin k0_t2_loop.trips) (c1_i32_244 : BitVec 32) : Fin 2 → Nat :=
  let c0_i32_7 : BitVec 32 := 0#32
  let c1_i32_8 : BitVec 32 := 1#32
  let arg15 : BitVec 32 := Scf.iv c0_i32_7 c1_i32_8 k0_t2
  let c16_i32_11 : BitVec 32 := 16#32
  let v13 : BitVec 32 := Scalar.muli arg15 c16_i32_11
  let v661 : BitVec 32 := Scalar.addi v13 c1_i32_244
  let v662 : Index := Scalar.indexCast v661
  let c112_245 : Index := 112#32
  ![v662.toNat, 112]
def k0_off26 (k0_t1 : Fin k0_t1_loop.trips) (k0_t2 : Fin k0_t2_loop.trips) : Fin 2 → Nat :=
  let c0_i32_0 : BitVec 32 := 0#32
  let c1_i32 : BitVec 32 := 1#32
  let arg13 : BitVec 32 := Scf.iv c0_i32_0 c1_i32 k0_t1
  let c8_i32_277 : BitVec 32 := 8#32
  let v744 : BitVec 32 := Scalar.muli arg13 c8_i32_277
  let c0_i32_7 : BitVec 32 := 0#32
  let c1_i32_8 : BitVec 32 := 1#32
  let arg15 : BitVec 32 := Scf.iv c0_i32_7 c1_i32_8 k0_t2
  let v745 : BitVec 32 := Scalar.addi v744 arg15
  let v746 : Index := Scalar.indexCast v745
  let c112_278 : Index := 112#32
  ![v746.toNat, 112]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2_r3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S4x2048x16 : Shape := ⟨3, ![4, 2048, 16]⟩
abbrev S128 : Shape := ⟨1, ![128]⟩
abbrev S1x128 : Shape := ⟨2, ![1, 128]⟩
abbrev S_ : Shape := ⟨0, ![]⟩
abbrev S131072 : Shape := ⟨1, ![131072]⟩
abbrev S131072x1 : Shape := ⟨2, ![131072, 1]⟩
abbrev S1 : Shape := ⟨1, ![1]⟩
abbrev S1x1 : Shape := ⟨2, ![1, 1]⟩
abbrev S131072x128 : Shape := ⟨2, ![131072, 128]⟩
abbrev S4x2048x16x128 : Shape := ⟨4, ![4, 2048, 16, 128]⟩
abbrev S4x2048x128 : Shape := ⟨3, ![4, 2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4x2048x16, .i32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S32768x128, .f32⟩
  | .hbm, ⟨6, _⟩ => ⟨S32768x128, .f32⟩
  | .hbm, ⟨7, _⟩ => ⟨S1x128, .f32⟩
  | .hbm, ⟨8, _⟩ => ⟨S32768x128, .f32⟩
  | .hbm, ⟨9, _⟩ => ⟨S32768x128, .f32⟩
  | .hbm, ⟨10, _⟩ => ⟨S_, .f32⟩
  | .hbm, ⟨11, _⟩ => ⟨S32768x128, .f32⟩
  | .hbm, ⟨12, _⟩ => ⟨S32768x128, .f32⟩
  | .hbm, ⟨13, _⟩ => ⟨S131072, .i32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S131072x1, .i32⟩
  | .hbm, ⟨22, _⟩ => ⟨S1, .i32⟩
  | .hbm, ⟨23, _⟩ => ⟨S_, .i32⟩
  | .hbm, ⟨24, _⟩ => ⟨S131072x1, .i32⟩
  | .hbm, ⟨25, _⟩ => ⟨S131072x1, .i1⟩
  | .hbm, ⟨26, _⟩ => ⟨S1x1, .i32⟩
  | .hbm, ⟨27, _⟩ => ⟨S131072x1, .i32⟩
  | .hbm, ⟨28, _⟩ => ⟨S131072x1, .i1⟩
  | .hbm, ⟨29, _⟩ => ⟨S131072x1, .i1⟩
  | .hbm, ⟨30, _⟩ => ⟨S_, .i1⟩
  | .hbm, ⟨31, _⟩ => ⟨S131072, .i1⟩
  | .hbm, ⟨32, _⟩ => ⟨S131072x128, .f32⟩
  | .hbm, ⟨33, _⟩ => ⟨S131072x128, .i1⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S4x2048x16x128, .f32⟩
  | .hbm, ⟨38, _⟩ => ⟨S_, .f32⟩
  | .hbm, ⟨39, _⟩ => ⟨S4x2048x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩

abbrev nD : Nat := 1
abbrev τ : Topo := Topo.v7x

variable {F : FTy → Type} [FloatOps F]
-- ==== Sample.lean ====
abbrev S4x8192x3 : Shape := ⟨3, ![4, 8192, 3]⟩
abbrev S3x4x8192 : Shape := ⟨3, ![3, 4, 8192]⟩
abbrev S12x8192 : Shape := ⟨2, ![12, 8192]⟩
abbrev S12x64x128 : Shape := ⟨3, ![12, 64, 128]⟩
abbrev S2048x12 : Shape := ⟨2, ![2048, 12]⟩
abbrev S4x64x128 : Shape := ⟨3, ![4, 64, 128]⟩
abbrev S12x1x1 : Shape := ⟨3, ![12, 1, 1]⟩
abbrev S1x12 : Shape := ⟨2, ![1, 12]⟩
abbrev S4 : Shape := ⟨1, ![4]⟩
abbrev S4x1x1 : Shape := ⟨3, ![4, 1, 1]⟩
abbrev S12 : Shape := ⟨1, ![12]⟩
abbrev S2048x3x4 : Shape := ⟨3, ![2048, 3, 4]⟩
abbrev S4x2048x3 : Shape := ⟨3, ![4, 2048, 3]⟩

abbrev nBuf : Space → Nat
  | .hbm => 7
  | .vmem => 2
  | .smem => 0
  | _ => 0

abbrev bufTy : (tb : Table) → Fin (tcTables nBuf tb) → BufTy
  | .hbm, ⟨0, _⟩ => ⟨S4x8192x3, .f32⟩
  | .hbm, ⟨1, _⟩ => ⟨S3x4x8192, .f32⟩
  | .hbm, ⟨2, _⟩ => ⟨S12x8192, .f32⟩
  | .hbm, ⟨3, _⟩ => ⟨S12x64x128, .f32⟩
  | .hbm, ⟨4, _⟩ => ⟨S2048x12, .f32⟩
  | .hbm, ⟨5, _⟩ => ⟨S2048x3x4, .f32⟩
  | .hbm, ⟨6, _⟩ => ⟨S4x2048x3, .f32⟩
  | .local _ .vmem, ⟨0, _⟩ => ⟨S12x64x128, .f32⟩
  | .local _ .vmem, ⟨1, _⟩ => ⟨S2048x12, .f32⟩
  | _, _ => ⟨S4x8192x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c2047_i32 : BitVec 32 := 2047#32
  let v11 : BitVec 32 := Scalar.addi c1_i32 c2047_i32
  let c1_i32_4 : BitVec 32 := 1#32
  ⟨c1_i32, v11, c1_i32_4⟩
def k0_off1 (k0_t1 : Fin k0_t1_loop.trips) : Fin 2 → Nat :=
  let c1_i32 : BitVec 32 := 1#32
  let c1_i32_4 : BitVec 32 := 1#32
  let arg2 : BitVec 32 := Scf.iv c1_i32 c1_i32_4 k0_t1
  let v38 : Index := Scalar.indexCast arg2
  let c0_10 : Index := 0#32
  ![v38.toNat, 0]
abbrev stage0_0 : Fin 1 → Memref sig .tc .vmem S12x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SampleReferenceIdeal.lean ====
abbrev S4x8192x3 : Shape := ⟨3, ![4, 8192, 3]⟩
abbrev S4 : Shape := ⟨1, ![4]⟩
abbrev S_ : Shape := ⟨0, ![]⟩
abbrev S4x2048 : Shape := ⟨2, ![4, 2048]⟩
abbrev S1 : Shape := ⟨1, ![1]⟩
abbrev S4x8192 : Shape := ⟨2, ![4, 8192]⟩
abbrev S4x1 : Shape := ⟨2, ![4, 1]⟩
abbrev S4x2 : Shape := ⟨2, ![4, 2]⟩
abbrev S4x3 : Shape := ⟨2, ![4, 3]⟩
abbrev S4x1x3 : Shape := ⟨3, ![4, 1, 3]⟩
abbrev S4x2048x1 : Shape := ⟨3, ![4, 2048, 1]⟩
abbrev S4x2048x2 : Shape := ⟨3, ![4, 2048, 2]⟩
abbrev S4x2048x3 : Shape := ⟨3, ![4, 2048, 3]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4, .i32⟩
  | .hbm, ⟨2, _⟩ => ⟨S4, .i32⟩
  | .hbm, ⟨3, _⟩ => ⟨S_, .i32⟩
  | .hbm, ⟨4, _⟩ => ⟨S4x2048, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S4, .i32⟩
  | .hbm, ⟨9, _⟩ => ⟨S4x2048, .i32⟩
  | .hbm, ⟨10, _⟩ => ⟨S_, .f32⟩
  | .hbm, ⟨11, _⟩ => ⟨S4x8192, .f32⟩
  | .hbm, ⟨12, _⟩ => ⟨S_, .i32⟩
  | .hbm, ⟨13, _⟩ => ⟨S4, .i32⟩
  | .hbm, ⟨14, _⟩ => ⟨S_, .i32⟩
  | .hbm, ⟨15, _⟩ => ⟨S_, .i32⟩
  | .hbm, ⟨16, _⟩ => ⟨S4, .i32⟩
  | .hbm, ⟨17, _⟩ => ⟨S4x8192x3, .f32⟩
  | .hbm, ⟨18, _⟩ => ⟨S_, .i32⟩
  | .hbm, ⟨19, _⟩ => ⟨S_, .i32⟩
  | .hbm, ⟨20, _⟩ => ⟨S4x2048, .i32⟩
  | .hbm, ⟨21, _⟩ => ⟨S4x8192, .f32⟩
  | .hbm, ⟨22, _⟩ => ⟨S4, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4, .i32⟩
  | .hbm, ⟨29, _⟩ => ⟨S4, .i1⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i32⟩
  | .hbm, ⟨41, _⟩ => ⟨S4x1, .i32⟩
  | .hbm, ⟨42, _⟩ => ⟨S4x1, .i32⟩
  | .hbm, ⟨43, _⟩ => ⟨S4x2, .i32⟩
  | .hbm, ⟨44, _⟩ => ⟨S4x3, .f32⟩
  | .hbm, ⟨45, _⟩ => ⟨S4x1x3, .f32⟩
  | .hbm, ⟨46, _⟩ => ⟨S4x8192x3, .f32⟩
  | .hbm, ⟨47, _⟩ => ⟨S4x8192x3, .f32⟩
  | .hbm, ⟨48, _⟩ => ⟨S4x8192x3, .f32⟩
  | .hbm, ⟨49, _⟩ => ⟨S_, .f32⟩
  | .hbm, ⟨50, _⟩ => ⟨S4x8192, .f32⟩
  | .hbm, ⟨51, _⟩ => ⟨S4x8192, .f32⟩
  | .hbm, ⟨52, _⟩ => ⟨S4x8192, .i32⟩
  | .hbm, ⟨53, _⟩ => ⟨S_, .f32⟩
  | .hbm, ⟨54, _⟩ => ⟨S_, .i32⟩
  | .hbm, ⟨55, _⟩ => ⟨S4, .f32⟩
  | .hbm, ⟨56, _⟩ => ⟨S4, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S4x2048, .i32⟩
  | .hbm, ⟨65, _⟩ => ⟨S_, .i32⟩
  | .hbm, ⟨66, _⟩ => ⟨S_, .i32⟩
  | .hbm, ⟨67, _⟩ => ⟨S4x1, .i32⟩
  | .hbm, ⟨68, _⟩ => ⟨S_, .i32⟩
  | .hbm, ⟨69, _⟩ => ⟨S4x1, .i32⟩
  | .hbm, ⟨70, _⟩ => ⟨S4x1, .i1⟩
  | .hbm, ⟨71, _⟩ => ⟨S_, .i32⟩
  | .hbm, ⟨72, _⟩ => ⟨S4x1, .i32⟩
  | .hbm, ⟨73, _⟩ => ⟨S4x1, .i32⟩
  | .hbm, ⟨74, _⟩ => ⟨S4x1, .i32⟩
  | .hbm, ⟨75, _⟩ => ⟨S_, .i32⟩
  | .hbm, ⟨76, _⟩ => ⟨S4x2048, .i32⟩
  | .hbm, ⟨77, _⟩ => ⟨S4x2048, .i1⟩
  | .hbm, ⟨78, _⟩ => ⟨S_, .i32⟩
  | .hbm, ⟨79, _⟩ => ⟨S4x2048, .i32⟩
  | .hbm, ⟨80, _⟩ => ⟨S4x2048, .i32⟩
  | .hbm, ⟨81, _⟩ => ⟨S4x2048, .i32⟩
  | .hbm, ⟨82, _⟩ => ⟨S4x2048, .i32⟩
  | .hbm, ⟨83, _⟩ => ⟨S4x2048x1, .i32⟩
  | .hbm, ⟨84, _⟩ => ⟨S4x2048x1, .i32⟩
  | .hbm, ⟨85, _⟩ => ⟨S4x2048x2, .i32⟩
  | .hbm, ⟨86, _⟩ => ⟨S4x2048x3, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_c_3 : Ref sig .tc := ⟨.hbm, 14, rfl⟩
abbrev main_c_4 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_while0c_c_15 : Ref sig .tc := ⟨.hbm, 23, rfl⟩
abbrev main_while0c_v25 : Ref sig .tc := ⟨.hbm, 24, rfl⟩
abbrev main_while0b_c_15 : Ref sig .tc := ⟨.hbm, 25, rfl⟩
abbrev main_while0b_v25 : Ref sig .tc := ⟨.hbm, 26, rfl⟩
abbrev main_while0b_c_16 : Ref sig .tc := ⟨.hbm, 27, rfl⟩
abbrev main_while0b_v26 : Ref sig .tc := ⟨.hbm, 28, rfl⟩
abbrev main_while0b_v27 : Ref sig .tc := ⟨.hbm, 29, rfl⟩
abbrev main_while0b_c_17 : Ref sig .tc := ⟨.hbm, 30, rfl⟩
abbrev main_while0b_v28 : Ref sig .tc := ⟨.hbm, 31, rfl⟩
abbrev main_while0b_v29 : Ref sig .tc := ⟨.hbm, 32, rfl⟩
abbrev main_while0b_v30 : Ref sig .tc := ⟨.hbm, 33, rfl⟩
abbrev main_while0b_c_18 : Ref sig .tc := ⟨.hbm, 34, rfl⟩
abbrev main_while0b_v31 : Ref sig .tc := ⟨.hbm, 35, rfl⟩
abbrev main_while0b_v32 : Ref sig .tc := ⟨.hbm, 36, rfl⟩
abbrev main_while0b_c_19 : Ref sig .tc := ⟨.hbm, 37, rfl⟩
abbrev main_while0b_v33 : Ref sig .tc := ⟨.hbm, 38, rfl⟩
abbrev main_while0b_v34 : Ref sig .tc := ⟨.hbm, 39, rfl⟩
abbrev main_while0b_v35 : Ref sig .tc := ⟨.hbm, 40, rfl⟩
abbrev main_while0b_v36 : Ref sig .tc := ⟨.hbm, 41, rfl⟩
abbrev main_while0b_v37 : Ref sig .tc := ⟨.hbm, 42, rfl⟩
abbrev main_while0b_v38 : Ref sig .tc := ⟨.hbm, 43, rfl⟩
abbrev main_while0b_v39 : Ref sig .tc := ⟨.hbm, 44, rfl⟩
abbrev main_while0b_v40 : Ref sig .tc := ⟨.hbm, 45, rfl⟩
abbrev main_while0b_v41 : Ref sig .tc := ⟨.hbm, 46, rfl⟩
abbrev main_while0b_v42 : Ref sig .tc := ⟨.hbm, 47, rfl⟩
abbrev main_while0b_v43 : Ref sig .tc := ⟨.hbm, 48, rfl⟩
abbrev main_while0b_cst_20 : Ref sig .tc := ⟨.hbm, 49, rfl⟩
abbrev main_while0b_v44 : Ref sig .tc := ⟨.hbm, 50, rfl⟩
abbrev main_while0b_v45 : Ref sig .tc := ⟨.hbm, 51, rfl⟩
abbrev main_while0b_call0_v0 : Ref sig .tc := ⟨.hbm, 52, rfl⟩
abbrev main_while0b_call0_cst : Ref sig .tc := ⟨.hbm, 53, rfl⟩
abbrev main_while0b_call0_c : Ref sig .tc := ⟨.hbm, 54, rfl⟩
abbrev main_while0b_call0_v1_0 : Ref sig .tc := ⟨.hbm, 55, rfl⟩
abbrev main_while0b_v46 : Ref sig .tc := ⟨.hbm, 56, rfl⟩
abbrev main_while0b_c_21 : Ref sig .tc := ⟨.hbm, 57, rfl⟩
abbrev main_while0b_v47 : Ref sig .tc := ⟨.hbm, 58, rfl⟩
abbrev main_while0b_c_22 : Ref sig .tc := ⟨.hbm, 59, rfl⟩
abbrev main_while0b_v48 : Ref sig .tc := ⟨.hbm, 60, rfl⟩
abbrev main_while0b_v49 : Ref sig .tc := ⟨.hbm, 61, rfl⟩
abbrev main_while0b_v50 : Ref sig .tc := ⟨.hbm, 62, rfl⟩
abbrev main_while0b_v51 : Ref sig .tc := ⟨.hbm, 63, rfl⟩
abbrev main_while0b_v52 : Ref sig .tc := ⟨.hbm, 64, rfl⟩
abbrev main_while0b_c_23 : Ref sig .tc := ⟨.hbm, 65, rfl⟩
abbrev main_while0b_v53 : Ref sig .tc := ⟨.hbm, 66, rfl⟩
abbrev main_v9 : Ref sig .tc := ⟨.hbm, 67, rfl⟩
abbrev main_c_5 : Ref sig .tc := ⟨.hbm, 68, rfl⟩
abbrev main_v10 : Ref sig .tc := ⟨.hbm, 69, rfl⟩
abbrev main_v11 : Ref sig .tc := ⟨.hbm, 70, rfl⟩
abbrev main_c_6 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_c_7 : Ref sig .tc := ⟨.hbm, 75, rfl⟩
abbrev main_v15 : Ref sig .tc := ⟨.hbm, 76, rfl⟩
abbrev main_v16 : Ref sig .tc := ⟨.hbm, 77, rfl⟩
abbrev main_c_8 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩

abbrev nD : Nat := 1
abbrev τ : Topo := Topo.v7x

variable {F : FTy → Type} [FloatOps F]

abbrev main_while0_count : Scf.Loop 32 := ⟨0#32, 2047#32, 1#32⟩
-- ==== Moments.lean ====
abbrev S4x8192x64 : Shape := ⟨3, ![4, 8192, 64]⟩
abbrev S128x64 : Shape := ⟨2, ![128, 64]⟩
abbrev S128 : Shape := ⟨1, ![128]⟩
abbrev S32768x64 : Shape := ⟨2, ![32768, 64]⟩
abbrev S64x128 : Shape := ⟨2, ![64, 128]⟩
abbrev S32768x128 : Shape := ⟨2, ![32768, 128]⟩
abbrev S8x128 : Shape := ⟨2, ![8, 128]⟩
abbrev S512x64 : Shape := ⟨2, ![512, 64]⟩
abbrev S512x128 : Shape := ⟨2, ![512, 128]⟩
abbrev S1x128 : Shape := ⟨2, ![1, 128]⟩
abbrev S_ : Shape := ⟨0, ![]⟩

abbrev nBuf : Space → Nat
  | .hbm => 27
  | .vmem => 7
  | .smem => 0
  | _ => 0

abbrev bufTy : (tb : Table) → Fin (tcTables nBuf tb) → BufTy
  | .hbm, ⟨0, _⟩ => ⟨S4x8192x64, .f32⟩
  | .hbm, ⟨1, _⟩ => ⟨S128x64, .f32⟩
  | .hbm, ⟨2, _⟩ => ⟨S128, .f32⟩
  | .hbm, ⟨3, _⟩ => ⟨S128, .f32⟩
  | .hbm, ⟨4, _⟩ => ⟨S32768x64, .f32⟩
  | .hbm, ⟨5, _⟩ => ⟨S64x128, .f32⟩
  | .hbm, ⟨6, _⟩ => ⟨S32768x128, .f32⟩
  | .hbm, ⟨7, _⟩ => ⟨S8x128, .f32⟩
  | .hbm, ⟨8, _⟩ => ⟨S1x128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .local _ .vmem, ⟨0, _⟩ => ⟨S512x64, .f32⟩
  | .local _ .vmem, ⟨1, _⟩ => ⟨S512x64, .f32⟩
  | .local _ .vmem, ⟨2, _⟩ => ⟨S64x128, .f32⟩
  | .local _ .vmem, ⟨3, _⟩ => ⟨S512x128, .f32⟩
  | .local _ .vmem, ⟨4, _⟩ => ⟨S512x128, .f32⟩
  | .local _ .vmem, ⟨5, _⟩ => ⟨S8x128, .f32⟩
  | .local _ .vmem, ⟨6, _⟩ => ⟨S8x128, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MomentsReferenceIdeal.lean ====
abbrev S4x8192x64 : Shape := ⟨3, ![4, 8192, 64]⟩
abbrev S128x64 : Shape := ⟨2, ![128, 64]⟩
abbrev S128 : Shape := ⟨1, ![128]⟩
abbrev S4x8192x128 : Shape := ⟨3, ![4, 8192, 128]⟩
abbrev S_ : Shape := ⟨0, ![]⟩
abbrev S1x1x128 : Shape := ⟨3, ![1, 1, 128]⟩
abbrev S32768x128 : Shape := ⟨2, ![32768, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S128x64, .f32⟩
  | .hbm, ⟨2, _⟩ => ⟨S128, .f32⟩
  | .hbm, ⟨3, _⟩ => ⟨S128, .f32⟩
  | .hbm, ⟨4, _⟩ => ⟨S4x8192x128, .f32⟩
  | .hbm, ⟨5, _⟩ => ⟨S_, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x1x128, .f32⟩
  | .hbm, ⟨14, _⟩ => ⟨S_, .f32⟩
  | .hbm, ⟨15, _⟩ => ⟨S1x1x128, .f32⟩
  | .hbm, ⟨16, _⟩ => ⟨S1x1x128, .f32⟩
  | .hbm, ⟨17, _⟩ => ⟨S4x8192x128, .f32⟩
  | .hbm, ⟨18, _⟩ => ⟨S4x8192x128, .f32⟩
  | .hbm, ⟨19, _⟩ => ⟨S4x8192x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S32768x128, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_3 : Ref sig .tc := ⟨.hbm, 27, rfl⟩
abbrev main_call0_v12 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Neighbours.lean ====
abbrev S4x8192x3 : Shape := ⟨3, ![4, 8192, 3]⟩
abbrev S4x2048x3 : Shape := ⟨3, ![4, 2048, 3]⟩
abbrev S3x4x8192 : Shape := ⟨3, ![3, 4, 8192]⟩
abbrev S12x8192 : Shape := ⟨2, ![12, 8192]⟩
abbrev S2048x3x4 : Shape := ⟨3, ![2048, 3, 4]⟩
abbrev S2048x12 : Shape := ⟨2, ![2048, 12]⟩
abbrev S4x2048x16 : Shape := ⟨3, ![4, 2048, 16]⟩
abbrev S128x12 : Shape := ⟨2, ![128, 12]⟩
abbrev S4x128x16 : Shape := ⟨3, ![4, 128, 16]⟩
abbrev S128x8192 : Shape := ⟨2, ![128, 8192]⟩
abbrev S128x1 : Shape := ⟨2, ![128, 1]⟩
abbrev S1x8192 : Shape := ⟨2, ![1, 8192]⟩
abbrev S128 : Shape := ⟨1, ![128]⟩
abbrev S128x16 : Shape := ⟨2, ![128, 16]⟩
abbrev S1x128x16 : Shape := ⟨3, ![1, 128, 16]⟩

abbrev nBuf : Space → Nat
  | .hbm => 7
  | .vmem => 5
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S3x4x8192, .f32⟩
  | .hbm, ⟨3, _⟩ => ⟨S12x8192, .f32⟩
  | .hbm, ⟨4, _⟩ => ⟨S2048x3x4, .f32⟩
  | .hbm, ⟨5, _⟩ => ⟨S2048x12, .f32⟩
  | .hbm, ⟨6, _⟩ => ⟨S4x2048x16, .i32⟩
  | .local _ .vmem, ⟨0, _⟩ => ⟨S12x8192, .f32⟩
  | .local _ .vmem, ⟨1, _⟩ => ⟨S128x12, .f32⟩
  | .local _ .vmem, ⟨2, _⟩ => ⟨S128x12, .f32⟩
  | .local _ .vmem, ⟨3, _⟩ => ⟨S4x128x16, .i32⟩
  | .local _ .vmem, ⟨4, _⟩ => ⟨S4x128x16, .i32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S12x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NeighboursReferenceIdeal.lean ====
abbrev S4x8192x3 : Shape := ⟨3, ![4, 8192, 3]⟩
abbrev S4x2048x3 : Shape := ⟨3, ![4, 2048, 3]⟩
abbrev S4x2048x1x3 : Shape := ⟨4, ![4, 2048, 1, 3]⟩
abbrev S4x1x8192x3 : Shape := ⟨4, ![4, 1, 8192, 3]⟩
abbrev S4x2048x8192x3 : Shape := ⟨4, ![4, 2048, 8192, 3]⟩
abbrev S_ : Shape := ⟨0, ![]⟩
abbrev S4x2048x8192 : Shape := ⟨3, ![4, 2048, 8192]⟩
abbrev S4x2048x16 : Shape := ⟨3, ![4, 2048, 16]⟩
abbrev S4 : Shape := ⟨1, ![4]⟩
abbrev S4x1x1 : Shape := ⟨3, ![4, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x2048x1x3, .f32⟩
  | .hbm, ⟨3, _⟩ => ⟨S4x1x8192x3, .f32⟩
  | .hbm, ⟨4, _⟩ => ⟨S4x2048x8192x3, .f32⟩
  | .hbm, ⟨5, _⟩ => ⟨S4x2048x8192x3, .f32⟩
  | .hbm, ⟨6, _⟩ => ⟨S4x2048x8192x3, .f32⟩
  | .hbm, ⟨7, _⟩ => ⟨S4x2048x8192x3, .f32⟩
  | .hbm, ⟨8, _⟩ => ⟨S_, .f32⟩
  | .hbm, ⟨9, _⟩ => ⟨S4x2048x8192, .f32⟩
  | .hbm, ⟨10, _⟩ => ⟨S4x2048x8192, .f32⟩
  | .hbm, ⟨11, _⟩ => ⟨S4x2048x16, .f32⟩
  | .hbm, ⟨12, _⟩ => ⟨S4x2048x16, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4x1x1, .i32⟩
  | .hbm, ⟨18, _⟩ => ⟨S4x2048x16, .i32⟩
  | .hbm, ⟨19, _⟩ => ⟨S4x2048x16, .i32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_values : Ref sig .tc := ⟨.hbm, 11, rfl⟩
abbrev main_indices : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Features.lean ====
abbrev S4x8192x64 : Shape := ⟨3, ![4, 8192, 64]⟩
abbrev S4x2048x16 : Shape := ⟨3, ![4, 2048, 16]⟩
abbrev S128x64 : Shape := ⟨2, ![128, 64]⟩
abbrev S128 : Shape := ⟨1, ![128]⟩
abbrev S32768x64 : Shape := ⟨2, ![32768, 64]⟩
abbrev S64x128 : Shape := ⟨2, ![64, 128]⟩
abbrev S32768x128 : Shape := ⟨2, ![32768, 128]⟩
abbrev S8x128 : Shape := ⟨2, ![8, 128]⟩
abbrev S512x64 : Shape := ⟨2, ![512, 64]⟩
abbrev S512x128 : Shape := ⟨2, ![512, 128]⟩
abbrev S1x128 : Shape := ⟨2, ![1, 128]⟩
abbrev S_ : Shape := ⟨0, ![]⟩
abbrev S131072 : Shape := ⟨1, ![131072]⟩
abbrev S8192x128 : Shape := ⟨2, ![8192, 128]⟩
abbrev S4096 : Shape := ⟨1, ![4096]⟩
abbrev S128x128 : Shape := ⟨2, ![128, 128]⟩
abbrev S256x128 : Shape := ⟨2, ![256, 128]⟩
abbrev S1x16 : Shape := ⟨2, ![1, 16]⟩
abbrev S16 : Shape := ⟨1, ![16]⟩
abbrev S4x2048x128 : Shape := ⟨3, ![4, 2048, 128]⟩

abbrev nBuf : Table → Nat
  | .hbm => 31
  | .local .tc .vmem => 7
  | .local .scVector .vmem => 5
  | _ => 0

abbrev bufTy : (tb : Table) → Fin (nBuf tb) → BufTy
  | .hbm, ⟨0, _⟩ => ⟨S4x8192x64, .f32⟩
  | .hbm, ⟨1, _⟩ => ⟨S4x2048x16, .i32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S32768x64, .f32⟩
  | .hbm, ⟨6, _⟩ => ⟨S64x128, .f32⟩
  | .hbm, ⟨7, _⟩ => ⟨S32768x128, .f32⟩
  | .hbm, ⟨8, _⟩ => ⟨S8x128, .f32⟩
  | .hbm, ⟨9, _⟩ => ⟨S1x128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S131072, .i32⟩
  | .hbm, ⟨29, _⟩ => ⟨S8192x128, .f32⟩
  | .hbm, ⟨30, _⟩ => ⟨S4x2048x128, .f32⟩
  | .local .tc .vmem, ⟨0, _⟩ => ⟨S512x64, .f32⟩
  | .local .tc .vmem, ⟨1, _⟩ => ⟨S512x64, .f32⟩
  | .local .tc .vmem, ⟨2, _⟩ => ⟨S64x128, .f32⟩
  | .local .tc .vmem, ⟨3, _⟩ => ⟨S512x128, .f32⟩
  | .local .tc .vmem, ⟨4, _⟩ => ⟨S512x128, .f32⟩
  | .local .tc .vmem, ⟨5, _⟩ => ⟨S8x128, .f32⟩
  | .local .tc .vmem, ⟨6, _⟩ => ⟨S8x128, .f32⟩
  | .local .scVector .vmem, ⟨0, _⟩ => ⟨S4096, .i32⟩
  | .local .scVector .vmem, ⟨1, _⟩ => ⟨S128x128, .f32⟩
  | .local .scVector .vmem, ⟨2, _⟩ => ⟨S256x128, .f32⟩
  | .local .scVector .vmem, ⟨3, _⟩ => ⟨S128, .f32⟩
  | .local .scVector .vmem, ⟨4, _⟩ => ⟨S128, .f32⟩
  | _, _ => ⟨S4x8192x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v2_0_scv : Ref sig .scVector := ⟨.hbm, 7, rfl⟩
abbrev main_v19_scv : Ref sig .scVector := ⟨.hbm, 28, rfl⟩
abbrev main_v16_scv : Ref sig .scVector := ⟨.hbm, 25, rfl⟩
abbrev main_v18_scv : Ref sig .scVector := ⟨.hbm, 27, rfl⟩
abbrev main_v20_scv : Ref sig .scVector := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32 : BitVec 32 := 16#32
  let v3 : BitVec 32 := Scalar.muli v2 c16_i32
  ![v3.toNat]
@[reducible] def k1_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k1_off2 (k1_t1 : Fin k1_t1_loop.trips) : Fin 1 → Nat :=
  let c0_i32_0 : BitVec 32 := 0#32
  let c1_i32 : BitVec 32 := 1#32
  let arg13 : BitVec 32 := Scf.iv c0_i32_0 c1_i32 k1_t1
  let c128_i32 : BitVec 32 := 128#32
  let v6 : BitVec 32 := Scalar.muli arg13 c128_i32
  ![v6.toNat]
@[reducible] def k1_t2_loop : Scf.Loop 32 :=
  let c0_i32_7 : BitVec 32 := 0#32
  let c8_i32 : BitVec 32 := 8#32
  let v11 : BitVec 32 := Scalar.addi c0_i32_7 c8_i32
  let c1_i32_8 : BitVec 32 := 1#32
  ⟨c0_i32_7, v11, c1_i32_8⟩
def k1_off3 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v14 : Index := Scalar.indexCast v13
  let c0 : Index := 0#32
  ![v14.toNat, 0]
def k1_off4 (k1_t2 : Fin k1_t2_loop.trips) (c1_i32_12 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v17 : BitVec 32 := Scalar.addi v13 c1_i32_12
  let v18 : Index := Scalar.indexCast v17
  let c0_13 : Index := 0#32
  ![v18.toNat, 0]
def k1_off5 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_32 : BitVec 32 := 8#32
  let v100 : BitVec 32 := Scalar.muli arg13 c8_i32_32
  let c0_i32_7 : BitVec 32 := 0#32
  let c1_i32_8 : BitVec 32 := 1#32
  let arg15 : BitVec 32 := Scf.iv c0_i32_7 c1_i32_8 k1_t2
  let v101 : BitVec 32 := Scalar.addi v100 arg15
  let v102 : Index := Scalar.indexCast v101
  let c0_33 : Index := 0#32
  ![v102.toNat, 0]
def k1_off6 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v106 : Index := Scalar.indexCast v13
  let c16 : Index := 16#32
  ![v106.toNat, 16]
def k1_off7 (k1_t2 : Fin k1_t2_loop.trips) (c1_i32_34 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v109 : BitVec 32 := Scalar.addi v13 c1_i32_34
  let v110 : Index := Scalar.indexCast v109
  let c16_35 : Index := 16#32
  ![v110.toNat, 16]
def k1_off8 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_67 : BitVec 32 := 8#32
  let v192 : BitVec 32 := Scalar.muli arg13 c8_i32_67
  let c0_i32_7 : BitVec 32 := 0#32
  let c1_i32_8 : BitVec 32 := 1#32
  let arg15 : BitVec 32 := Scf.iv c0_i32_7 c1_i32_8 k1_t2
  let v193 : BitVec 32 := Scalar.addi v192 arg15
  let v194 : Index := Scalar.indexCast v193
  let c16_68 : Index := 16#32
  ![v194.toNat, 16]
def k1_off9 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v198 : Index := Scalar.indexCast v13
  let c32 : Index := 32#32
  ![v198.toNat, 32]
def k1_off10 (k1_t2 : Fin k1_t2_loop.trips) (c1_i32_69 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v201 : BitVec 32 := Scalar.addi v13 c1_i32_69
  let v202 : Index := Scalar.indexCast v201
  let c32_70 : Index := 32#32
  ![v202.toNat, 32]
def k1_off11 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_102 : BitVec 32 := 8#32
  let v284 : BitVec 32 := Scalar.muli arg13 c8_i32_102
  let c0_i32_7 : BitVec 32 := 0#32
  let c1_i32_8 : BitVec 32 := 1#32
  let arg15 : BitVec 32 := Scf.iv c0_i32_7 c1_i32_8 k1_t2
  let v285 : BitVec 32 := Scalar.addi v284 arg15
  let v286 : Index := Scalar.indexCast v285
  let c32_103 : Index := 32#32
  ![v286.toNat, 32]
def k1_off12 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v290 : Index := Scalar.indexCast v13
  let c48 : Index := 48#32
  ![v290.toNat, 48]
def k1_off13 (k1_t2 : Fin k1_t2_loop.trips) (c1_i32_104 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v293 : BitVec 32 := Scalar.addi v13 c1_i32_104
  let v294 : Index := Scalar.indexCast v293
  let c48_105 : Index := 48#32
  ![v294.toNat, 48]
def k1_off14 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_137 : BitVec 32 := 8#32
  let v376 : BitVec 32 := Scalar.muli arg13 c8_i32_137
  let c0_i32_7 : BitVec 32 := 0#32
  let c1_i32_8 : BitVec 32 := 1#32
  let arg15 : BitVec 32 := Scf.iv c0_i32_7 c1_i32_8 k1_t2
  let v377 : BitVec 32 := Scalar.addi v376 arg15
  let v378 : Index := Scalar.indexCast v377
  let c48_138 : Index := 48#32
  ![v378.toNat, 48]
def k1_off15 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v382 : Index := Scalar.indexCast v13
  let c64 : Index := 64#32
  ![v382.toNat, 64]
def k1_off16 (k1_t2 : Fin k1_t2_loop.trips) (c1_i32_139 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v385 : BitVec 32 := Scalar.addi v13 c1_i32_139
  let v386 : Index := Scalar.indexCast v385
  let c64_140 : Index := 64#32
  ![v386.toNat, 64]
def k1_off17 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_172 : BitVec 32 := 8#32
  let v468 : BitVec 32 := Scalar.muli arg13 c8_i32_172
  let c0_i32_7 : BitVec 32 := 0#32
  let c1_i32_8 : BitVec 32 := 1#32
  let arg15 : BitVec 32 := Scf.iv c0_i32_7 c1_i32_8 k1_t2
  let v469 : BitVec 32 := Scalar.addi v468 arg15
  let v470 : Index := Scalar.indexCast v469
  let c64_173 : Index := 64#32
  ![v470.toNat, 64]
def k1_off18 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v474 : Index := Scalar.indexCast v13
  let c80 : Index := 80#32
  ![v474.toNat, 80]
def k1_off19 (k1_t2 : Fin k1_t2_loop.trips) (c1_i32_174 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v477 : BitVec 32 := Scalar.addi v13 c1_i32_174
  let v478 : Index := Scalar.indexCast v477
  let c80_175 : Index := 80#32
  ![v478.toNat, 80]
def k1_off20 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_207 : BitVec 32 := 8#32
  let v560 : BitVec 32 := Scalar.muli arg13 c8_i32_207
  let c0_i32_7 : BitVec 32 := 0#32
  let c1_i32_8 : BitVec 32 := 1#32
  let arg15 : BitVec 32 := Scf.iv c0_i32_7 c1_i32_8 k1_t2
  let v561 : BitVec 32 := Scalar.addi v560 arg15
  let v562 : Index := Scalar.indexCast v561
  let c80_208 : Index := 80#32
  ![v562.toNat, 80]
def k1_off21 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v566 : Index := Scalar.indexCast v13
  let c96 : Index := 96#32
  ![v566.toNat, 96]
def k1_off22 (k1_t2 : Fin k1_t2_loop.trips) (c1_i32_209 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v569 : BitVec 32 := Scalar.addi v13 c1_i32_209
  let v570 : Index := Scalar.indexCast v569
  let c96_210 : Index := 96#32
  ![v570.toNat, 96]
def k1_off23 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_242 : BitVec 32 := 8#32
  let v652 : BitVec 32 := Scalar.muli arg13 c8_i32_242
  let c0_i32_7 : BitVec 32 := 0#32
  let c1_i32_8 : BitVec 32 := 1#32
  let arg15 : BitVec 32 := Scf.iv c0_i32_7 c1_i32_8 k1_t2
  let v653 : BitVec 32 := Scalar.addi v652 arg15
  let v654 : Index := Scalar.indexCast v653
  let c96_243 : Index := 96#32
  ![v654.toNat, 96]
def k1_off24 (k1_t2 : Fin k1_t2_loop.trips) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v658 : Index := Scalar.indexCast v13
  let c112 : Index := 112#32
  ![v658.toNat, 112]
def k1_off25 (k1_t2 : Fin k1_t2_loop.trips) (c1_i32_244 : BitVec 32) : Fin 2 → Nat :=
  let c0_i32_7 : BitVec 32 := 0#32
  let c1_i32_8 : BitVec 32 := 1#32
  let arg15 : BitVec 32 := Scf.iv c0_i32_7 c1_i32_8 k1_t2
  let c16_i32_11 : BitVec 32 := 16#32
  let v13 : BitVec 32 := Scalar.muli arg15 c16_i32_11
  let v661 : BitVec 32 := Scalar.addi v13 c1_i32_244
  let v662 : Index := Scalar.indexCast v661
  let c112_245 : Index := 112#32
  ![v662.toNat, 112]
def k1_off26 (k1_t1 : Fin k1_t1_loop.trips) (k1_t2 : Fin k1_t2_loop.trips) : Fin 2 → Nat :=
  let c0_i32_0 : BitVec 32 := 0#32
  let c1_i32 : BitVec 32 := 1#32
  let arg13 : BitVec 32 := Scf.iv c0_i32_0 c1_i32 k1_t1
  let c8_i32_277 : BitVec 32 := 8#32
  let v744 : BitVec 32 := Scalar.muli arg13 c8_i32_277
  let c0_i32_7 : BitVec 32 := 0#32
  let c1_i32_8 : BitVec 32 := 1#32
  let arg15 : BitVec 32 := Scf.iv c0_i32_7 c1_i32_8 k1_t2
  let v745 : BitVec 32 := Scalar.addi v744 arg15
  let v746 : Index := Scalar.indexCast v745
  let c112_278 : Index := 112#32
  ![v746.toNat, 112]
def k1_off27 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2_r3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== FeaturesReferenceIdeal.lean ====
abbrev S4x8192x64 : Shape := ⟨3, ![4, 8192, 64]⟩
abbrev S4x2048x16 : Shape := ⟨3, ![4, 2048, 16]⟩
abbrev S128x64 : Shape := ⟨2, ![128, 64]⟩
abbrev S128 : Shape := ⟨1, ![128]⟩
abbrev S4x8192x128 : Shape := ⟨3, ![4, 8192, 128]⟩
abbrev S_ : Shape := ⟨0, ![]⟩
abbrev S1x1x128 : Shape := ⟨3, ![1, 1, 128]⟩
abbrev S32768x128 : Shape := ⟨2, ![32768, 128]⟩
abbrev S131072 : Shape := ⟨1, ![131072]⟩
abbrev S131072x1 : Shape := ⟨2, ![131072, 1]⟩
abbrev S1 : Shape := ⟨1, ![1]⟩
abbrev S1x1 : Shape := ⟨2, ![1, 1]⟩
abbrev S131072x128 : Shape := ⟨2, ![131072, 128]⟩
abbrev S4x2048x16x128 : Shape := ⟨4, ![4, 2048, 16, 128]⟩
abbrev S4x2048x128 : Shape := ⟨3, ![4, 2048, 128]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x2048x16, .i32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S4x8192x128, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x1x128, .f32⟩
  | .hbm, ⟨15, _⟩ => ⟨S_, .f32⟩
  | .hbm, ⟨16, _⟩ => ⟨S1x1x128, .f32⟩
  | .hbm, ⟨17, _⟩ => ⟨S1x1x128, .f32⟩
  | .hbm, ⟨18, _⟩ => ⟨S4x8192x128, .f32⟩
  | .hbm, ⟨19, _⟩ => ⟨S4x8192x128, .f32⟩
  | .hbm, ⟨20, _⟩ => ⟨S4x8192x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x1x128, .f32⟩
  | .hbm, ⟨35, _⟩ => ⟨S4x8192x128, .f32⟩
  | .hbm, ⟨36, _⟩ => ⟨S4x8192x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x1x128, .f32⟩
  | .hbm, ⟨42, _⟩ => ⟨S4x8192x128, .f32⟩
  | .hbm, ⟨43, _⟩ => ⟨S4x8192x128, .f32⟩
  | .hbm, ⟨44, _⟩ => ⟨S1x1x128, .f32⟩
  | .hbm, ⟨45, _⟩ => ⟨S4x8192x128, .f32⟩
  | .hbm, ⟨46, _⟩ => ⟨S4x8192x128, .f32⟩
  | .hbm, ⟨47, _⟩ => ⟨S1x1x128, .f32⟩
  | .hbm, ⟨48, _⟩ => ⟨S4x8192x128, .f32⟩
  | .hbm, ⟨49, _⟩ => ⟨S4x8192x128, .f32⟩
  | .hbm, ⟨50, _⟩ => ⟨S_, .f32⟩
  | .hbm, ⟨51, _⟩ => ⟨S4x8192x128, .f32⟩
  | .hbm, ⟨52, _⟩ => ⟨S4x8192x128, .f32⟩
  | .hbm, ⟨53, _⟩ => ⟨S32768x128, .f32⟩
  | .hbm, ⟨54, _⟩ => ⟨S131072, .i32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S131072x1, .i32⟩
  | .hbm, ⟨63, _⟩ => ⟨S1, .i32⟩
  | .hbm, ⟨64, _⟩ => ⟨S_, .i32⟩
  | .hbm, ⟨65, _⟩ => ⟨S131072x1, .i32⟩
  | .hbm, ⟨66, _⟩ => ⟨S131072x1, .i1⟩
  | .hbm, ⟨67, _⟩ => ⟨S1x1, .i32⟩
  | .hbm, ⟨68, _⟩ => ⟨S131072x1, .i32⟩
  | .hbm, ⟨69, _⟩ => ⟨S131072x1, .i1⟩
  | .hbm, ⟨70, _⟩ => ⟨S131072x1, .i1⟩
  | .hbm, ⟨71, _⟩ => ⟨S_, .i1⟩
  | .hbm, ⟨72, _⟩ => ⟨S131072, .i1⟩
  | .hbm, ⟨73, _⟩ => ⟨S131072x128, .f32⟩
  | .hbm, ⟨74, _⟩ => ⟨S131072x128, .i1⟩
  | .hbm, ⟨75, _⟩ => ⟨S_, .f32⟩
  | .hbm, ⟨76, _⟩ => ⟨S131072x128, .f32⟩
  | .hbm, ⟨77, _⟩ => ⟨S131072x128, .f32⟩
  | .hbm, ⟨78, _⟩ => ⟨S4x2048x16x128, .f32⟩
  | .hbm, ⟨79, _⟩ => ⟨S_, .f32⟩
  | .hbm, ⟨80, _⟩ => ⟨S4x2048x128, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_cst : Ref sig .tc := ⟨.hbm, 50, rfl⟩
abbrev main_call1_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v23 : Ref sig .tc := ⟨.hbm, 77, rfl⟩
abbrev main_v24 : Ref sig .tc := ⟨.hbm, 78, rfl⟩
abbrev main_cst_2 : Ref sig .tc := ⟨.hbm, 79, rfl⟩
abbrev main_v25 : Ref sig .tc := ⟨.hbm, 80, rfl⟩

abbrev nD : Nat := 1
abbrev τ : Topo := Topo.v7x

variable {F : FTy → Type} [FloatOps F]
-- ==== WholeIdeal.lean ====
abbrev S4x8192x64 : Shape := ⟨3, ![4, 8192, 64]⟩
abbrev S4x8192x3 : Shape := ⟨3, ![4, 8192, 3]⟩
abbrev S128x64 : Shape := ⟨2, ![128, 64]⟩
abbrev S128 : Shape := ⟨1, ![128]⟩
abbrev S3x4x8192 : Shape := ⟨3, ![3, 4, 8192]⟩
abbrev S12x8192 : Shape := ⟨2, ![12, 8192]⟩
abbrev S12x64x128 : Shape := ⟨3, ![12, 64, 128]⟩
abbrev S2048x12 : Shape := ⟨2, ![2048, 12]⟩
abbrev S4x64x128 : Shape := ⟨3, ![4, 64, 128]⟩
abbrev S12x1x1 : Shape := ⟨3, ![12, 1, 1]⟩
abbrev S1x12 : Shape := ⟨2, ![1, 12]⟩
abbrev S4 : Shape := ⟨1, ![4]⟩
abbrev S4x1x1 : Shape := ⟨3, ![4, 1, 1]⟩
abbrev S12 : Shape := ⟨1, ![12]⟩
abbrev S4x2048x16 : Shape := ⟨3, ![4, 2048, 16]⟩
abbrev S128x12 : Shape := ⟨2, ![128, 12]⟩
abbrev S4x128x16 : Shape := ⟨3, ![4, 128, 16]⟩
abbrev S128x8192 : Shape := ⟨2, ![128, 8192]⟩
abbrev S128x1 : Shape := ⟨2, ![128, 1]⟩
abbrev S1x8192 : Shape := ⟨2, ![1, 8192]⟩
abbrev S128x16 : Shape := ⟨2, ![128, 16]⟩
abbrev S1x128x16 : Shape := ⟨3, ![1, 128, 16]⟩
abbrev S32768x64 : Shape := ⟨2, ![32768, 64]⟩
abbrev S64x128 : Shape := ⟨2, ![64, 128]⟩
abbrev S32768x128 : Shape := ⟨2, ![32768, 128]⟩
abbrev S8x128 : Shape := ⟨2, ![8, 128]⟩
abbrev S512x64 : Shape := ⟨2, ![512, 64]⟩
abbrev S512x128 : Shape := ⟨2, ![512, 128]⟩
abbrev S1x128 : Shape := ⟨2, ![1, 128]⟩
abbrev S_ : Shape := ⟨0, ![]⟩
abbrev S131072 : Shape := ⟨1, ![131072]⟩
abbrev S8192x128 : Shape := ⟨2, ![8192, 128]⟩
abbrev S4096 : Shape := ⟨1, ![4096]⟩
abbrev S128x128 : Shape := ⟨2, ![128, 128]⟩
abbrev S256x128 : Shape := ⟨2, ![256, 128]⟩
abbrev S1x16 : Shape := ⟨2, ![1, 16]⟩
abbrev S16 : Shape := ⟨1, ![16]⟩
abbrev S4x2048x128 : Shape := ⟨3, ![4, 2048, 128]⟩
abbrev S2048x3x4 : Shape := ⟨3, ![2048, 3, 4]⟩
abbrev S4x2048x3 : Shape := ⟨3, ![4, 2048, 3]⟩

abbrev nBuf : Table → Nat
  | .hbm => 38
  | .local .tc .vmem => 14
  | .local .scVector .vmem => 5
  | _ => 0

abbrev bufTy : (tb : Table) → Fin (nBuf tb) → BufTy
  | .hbm, ⟨0, _⟩ => ⟨S4x8192x64, .f32⟩
  | .hbm, ⟨1, _⟩ => ⟨S4x8192x3, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S3x4x8192, .f32⟩
  | .hbm, ⟨6, _⟩ => ⟨S12x8192, .f32⟩
  | .hbm, ⟨7, _⟩ => ⟨S12x64x128, .f32⟩
  | .hbm, ⟨8, _⟩ => ⟨S2048x12, .f32⟩
  | .hbm, ⟨9, _⟩ => ⟨S4x2048x16, .i32⟩
  | .hbm, ⟨10, _⟩ => ⟨S32768x64, .f32⟩
  | .hbm, ⟨11, _⟩ => ⟨S64x128, .f32⟩
  | .hbm, ⟨12, _⟩ => ⟨S32768x128, .f32⟩
  | .hbm, ⟨13, _⟩ => ⟨S8x128, .f32⟩
  | .hbm, ⟨14, _⟩ => ⟨S1x128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S131072, .i32⟩
  | .hbm, ⟨34, _⟩ => ⟨S8192x128, .f32⟩
  | .hbm, ⟨35, _⟩ => ⟨S4x2048x128, .f32⟩
  | .hbm, ⟨36, _⟩ => ⟨S2048x3x4, .f32⟩
  | .hbm, ⟨37, _⟩ => ⟨S4x2048x3, .f32⟩
  | .local .tc .vmem, ⟨0, _⟩ => ⟨S12x64x128, .f32⟩
  | .local .tc .vmem, ⟨1, _⟩ => ⟨S2048x12, .f32⟩
  | .local .tc .vmem, ⟨2, _⟩ => ⟨S12x8192, .f32⟩
  | .local .tc .vmem, ⟨3, _⟩ => ⟨S128x12, .f32⟩
  | .local .tc .vmem, ⟨4, _⟩ => ⟨S128x12, .f32⟩
  | .local .tc .vmem, ⟨5, _⟩ => ⟨S4x128x16, .i32⟩
  | .local .tc .vmem, ⟨6, _⟩ => ⟨S4x128x16, .i32⟩
  | .local .tc .vmem, ⟨7, _⟩ => ⟨S512x64, .f32⟩
  | .local .tc .vmem, ⟨8, _⟩ => ⟨S512x64, .f32⟩
  | .local .tc .vmem, ⟨9, _⟩ => ⟨S64x128, .f32⟩
  | .local .tc .vmem, ⟨10, _⟩ => ⟨S512x128, .f32⟩
  | .local .tc .vmem, ⟨11, _⟩ => ⟨S512x128, .f32⟩
  | .local .tc .vmem, ⟨12, _⟩ => ⟨S8x128, .f32⟩
  | .local .tc .vmem, ⟨13, _⟩ => ⟨S8x128, .f32⟩
  | .local .scVector .vmem, ⟨0, _⟩ => ⟨S4096, .i32⟩
  | .local .scVector .vmem, ⟨1, _⟩ => ⟨S128x128, .f32⟩
  | .local .scVector .vmem, ⟨2, _⟩ => ⟨S256x128, .f32⟩
  | .local .scVector .vmem, ⟨3, _⟩ => ⟨S128, .f32⟩
  | .local .scVector .vmem, ⟨4, _⟩ => ⟨S128, .f32⟩
  | _, _ => ⟨S4x8192x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v7_0_scv : Ref sig .scVector := ⟨.hbm, 12, rfl⟩
abbrev main_v24_scv : Ref sig .scVector := ⟨.hbm, 33, rfl⟩
abbrev main_v21_scv : Ref sig .scVector := ⟨.hbm, 30, rfl⟩
abbrev main_v23_scv : Ref sig .scVector := ⟨.hbm, 32, rfl⟩
abbrev main_v25_scv : Ref sig .scVector := ⟨.hbm, 34, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_scratch0 : Ref sig .tc := ⟨.vmem, 13, rfl⟩
abbrev cc3_scratch0 : Ref sig .scVector := ⟨.vmem, 0, rfl⟩
abbrev cc3_scratch1 : Ref sig .scVector := ⟨.vmem, 1, rfl⟩
abbrev cc3_scratch2 : Ref sig .scVector := ⟨.vmem, 2, rfl⟩
abbrev cc3_scratch3 : Ref sig .scVector := ⟨.vmem, 3, rfl⟩
abbrev cc3_scratch4 : Ref sig .scVector := ⟨.vmem, 4, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c2047_i32 : BitVec 32 := 2047#32
  let v11 : BitVec 32 := Scalar.addi c1_i32 c2047_i32
  let c1_i32_4 : BitVec 32 := 1#32
  ⟨c1_i32, v11, c1_i32_4⟩
def k0_off1 (k0_t1 : Fin k0_t1_loop.trips) : Fin 2 → Nat :=
  let c1_i32 : BitVec 32 := 1#32
  let c1_i32_4 : BitVec 32 := 1#32
  let arg2 : BitVec 32 := Scf.iv c1_i32 c1_i32_4 k0_t1
  let v38 : Index := Scalar.indexCast arg2
  let c0_10 : Index := 0#32
  ![v38.toNat, 0]
abbrev stage0_0 : Fin 1 → Memref sig .tc .vmem S12x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S12x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x128x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32 : BitVec 32 := 16#32
  let v3 : BitVec 32 := Scalar.muli v2 c16_i32
  ![v3.toNat]
@[reducible] def k3_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k3_off2 (k3_t1 : Fin k3_t1_loop.trips) : Fin 1 → Nat :=
  let c0_i32_0 : BitVec 32 := 0#32
  let c1_i32 : BitVec 32 := 1#32
  let arg13 : BitVec 32 := Scf.iv c0_i32_0 c1_i32 k3_t1
  let c128_i32 : BitVec 32 := 128#32
  let v6 : BitVec 32 := Scalar.muli arg13 c128_i32
  ![v6.toNat]
@[reducible] def k3_t2_loop : Scf.Loop 32 :=
  let c0_i32_7 : BitVec 32 := 0#32
  let c8_i32 : BitVec 32 := 8#32
  let v11 : BitVec 32 := Scalar.addi c0_i32_7 c8_i32
  let c1_i32_8 : BitVec 32 := 1#32
  ⟨c0_i32_7, v11, c1_i32_8⟩
def k3_off3 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v14 : Index := Scalar.indexCast v13
  let c0 : Index := 0#32
  ![v14.toNat, 0]
def k3_off4 (k3_t2 : Fin k3_t2_loop.trips) (c1_i32_12 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v17 : BitVec 32 := Scalar.addi v13 c1_i32_12
  let v18 : Index := Scalar.indexCast v17
  let c0_13 : Index := 0#32
  ![v18.toNat, 0]
def k3_off5 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_32 : BitVec 32 := 8#32
  let v100 : BitVec 32 := Scalar.muli arg13 c8_i32_32
  let c0_i32_7 : BitVec 32 := 0#32
  let c1_i32_8 : BitVec 32 := 1#32
  let arg15 : BitVec 32 := Scf.iv c0_i32_7 c1_i32_8 k3_t2
  let v101 : BitVec 32 := Scalar.addi v100 arg15
  let v102 : Index := Scalar.indexCast v101
  let c0_33 : Index := 0#32
  ![v102.toNat, 0]
def k3_off6 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v106 : Index := Scalar.indexCast v13
  let c16 : Index := 16#32
  ![v106.toNat, 16]
def k3_off7 (k3_t2 : Fin k3_t2_loop.trips) (c1_i32_34 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v109 : BitVec 32 := Scalar.addi v13 c1_i32_34
  let v110 : Index := Scalar.indexCast v109
  let c16_35 : Index := 16#32
  ![v110.toNat, 16]
def k3_off8 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_67 : BitVec 32 := 8#32
  let v192 : BitVec 32 := Scalar.muli arg13 c8_i32_67
  let c0_i32_7 : BitVec 32 := 0#32
  let c1_i32_8 : BitVec 32 := 1#32
  let arg15 : BitVec 32 := Scf.iv c0_i32_7 c1_i32_8 k3_t2
  let v193 : BitVec 32 := Scalar.addi v192 arg15
  let v194 : Index := Scalar.indexCast v193
  let c16_68 : Index := 16#32
  ![v194.toNat, 16]
def k3_off9 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v198 : Index := Scalar.indexCast v13
  let c32 : Index := 32#32
  ![v198.toNat, 32]
def k3_off10 (k3_t2 : Fin k3_t2_loop.trips) (c1_i32_69 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v201 : BitVec 32 := Scalar.addi v13 c1_i32_69
  let v202 : Index := Scalar.indexCast v201
  let c32_70 : Index := 32#32
  ![v202.toNat, 32]
def k3_off11 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_102 : BitVec 32 := 8#32
  let v284 : BitVec 32 := Scalar.muli arg13 c8_i32_102
  let c0_i32_7 : BitVec 32 := 0#32
  let c1_i32_8 : BitVec 32 := 1#32
  let arg15 : BitVec 32 := Scf.iv c0_i32_7 c1_i32_8 k3_t2
  let v285 : BitVec 32 := Scalar.addi v284 arg15
  let v286 : Index := Scalar.indexCast v285
  let c32_103 : Index := 32#32
  ![v286.toNat, 32]
def k3_off12 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v290 : Index := Scalar.indexCast v13
  let c48 : Index := 48#32
  ![v290.toNat, 48]
def k3_off13 (k3_t2 : Fin k3_t2_loop.trips) (c1_i32_104 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v293 : BitVec 32 := Scalar.addi v13 c1_i32_104
  let v294 : Index := Scalar.indexCast v293
  let c48_105 : Index := 48#32
  ![v294.toNat, 48]
def k3_off14 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_137 : BitVec 32 := 8#32
  let v376 : BitVec 32 := Scalar.muli arg13 c8_i32_137
  let c0_i32_7 : BitVec 32 := 0#32
  let c1_i32_8 : BitVec 32 := 1#32
  let arg15 : BitVec 32 := Scf.iv c0_i32_7 c1_i32_8 k3_t2
  let v377 : BitVec 32 := Scalar.addi v376 arg15
  let v378 : Index := Scalar.indexCast v377
  let c48_138 : Index := 48#32
  ![v378.toNat, 48]
def k3_off15 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v382 : Index := Scalar.indexCast v13
  let c64 : Index := 64#32
  ![v382.toNat, 64]
def k3_off16 (k3_t2 : Fin k3_t2_loop.trips) (c1_i32_139 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v385 : BitVec 32 := Scalar.addi v13 c1_i32_139
  let v386 : Index := Scalar.indexCast v385
  let c64_140 : Index := 64#32
  ![v386.toNat, 64]
def k3_off17 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_172 : BitVec 32 := 8#32
  let v468 : BitVec 32 := Scalar.muli arg13 c8_i32_172
  let c0_i32_7 : BitVec 32 := 0#32
  let c1_i32_8 : BitVec 32 := 1#32
  let arg15 : BitVec 32 := Scf.iv c0_i32_7 c1_i32_8 k3_t2
  let v469 : BitVec 32 := Scalar.addi v468 arg15
  let v470 : Index := Scalar.indexCast v469
  let c64_173 : Index := 64#32
  ![v470.toNat, 64]
def k3_off18 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v474 : Index := Scalar.indexCast v13
  let c80 : Index := 80#32
  ![v474.toNat, 80]
def k3_off19 (k3_t2 : Fin k3_t2_loop.trips) (c1_i32_174 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v477 : BitVec 32 := Scalar.addi v13 c1_i32_174
  let v478 : Index := Scalar.indexCast v477
  let c80_175 : Index := 80#32
  ![v478.toNat, 80]
def k3_off20 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_207 : BitVec 32 := 8#32
  let v560 : BitVec 32 := Scalar.muli arg13 c8_i32_207
  let c0_i32_7 : BitVec 32 := 0#32
  let c1_i32_8 : BitVec 32 := 1#32
  let arg15 : BitVec 32 := Scf.iv c0_i32_7 c1_i32_8 k3_t2
  let v561 : BitVec 32 := Scalar.addi v560 arg15
  let v562 : Index := Scalar.indexCast v561
  let c80_208 : Index := 80#32
  ![v562.toNat, 80]
def k3_off21 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v566 : Index := Scalar.indexCast v13
  let c96 : Index := 96#32
  ![v566.toNat, 96]
def k3_off22 (k3_t2 : Fin k3_t2_loop.trips) (c1_i32_209 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v569 : BitVec 32 := Scalar.addi v13 c1_i32_209
  let v570 : Index := Scalar.indexCast v569
  let c96_210 : Index := 96#32
  ![v570.toNat, 96]
def k3_off23 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_242 : BitVec 32 := 8#32
  let v652 : BitVec 32 := Scalar.muli arg13 c8_i32_242
  let c0_i32_7 : BitVec 32 := 0#32
  let c1_i32_8 : BitVec 32 := 1#32
  let arg15 : BitVec 32 := Scf.iv c0_i32_7 c1_i32_8 k3_t2
  let v653 : BitVec 32 := Scalar.addi v652 arg15
  let v654 : Index := Scalar.indexCast v653
  let c96_243 : Index := 96#32
  ![v654.toNat, 96]
def k3_off24 (k3_t2 : Fin k3_t2_loop.trips) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v658 : Index := Scalar.indexCast v13
  let c112 : Index := 112#32
  ![v658.toNat, 112]
def k3_off25 (k3_t2 : Fin k3_t2_loop.trips) (c1_i32_244 : BitVec 32) : Fin 2 → Nat :=
  let c0_i32_7 : BitVec 32 := 0#32
  let c1_i32_8 : BitVec 32 := 1#32
  let arg15 : BitVec 32 := Scf.iv c0_i32_7 c1_i32_8 k3_t2
  let c16_i32_11 : BitVec 32 := 16#32
  let v13 : BitVec 32 := Scalar.muli arg15 c16_i32_11
  let v661 : BitVec 32 := Scalar.addi v13 c1_i32_244
  let v662 : Index := Scalar.indexCast v661
  let c112_245 : Index := 112#32
  ![v662.toNat, 112]
def k3_off26 (k3_t1 : Fin k3_t1_loop.trips) (k3_t2 : Fin k3_t2_loop.trips) : Fin 2 → Nat :=
  let c0_i32_0 : BitVec 32 := 0#32
  let c1_i32 : BitVec 32 := 1#32
  let arg13 : BitVec 32 := Scf.iv c0_i32_0 c1_i32 k3_t1
  let c8_i32_277 : BitVec 32 := 8#32
  let v744 : BitVec 32 := Scalar.muli arg13 c8_i32_277
  let c0_i32_7 : BitVec 32 := 0#32
  let c1_i32_8 : BitVec 32 := 1#32
  let arg15 : BitVec 32 := Scf.iv c0_i32_7 c1_i32_8 k3_t2
  let v745 : BitVec 32 := Scalar.addi v744 arg15
  let v746 : Index := Scalar.indexCast v745
  let c112_278 : Index := 112#32
  ![v746.toNat, 112]
def k3_off27 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2_r3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S4x8192x64 : Shape := ⟨3, ![4, 8192, 64]⟩
abbrev S4x8192x3 : Shape := ⟨3, ![4, 8192, 3]⟩
abbrev S128x64 : Shape := ⟨2, ![128, 64]⟩
abbrev S128 : Shape := ⟨1, ![128]⟩
abbrev S4 : Shape := ⟨1, ![4]⟩
abbrev S_ : Shape := ⟨0, ![]⟩
abbrev S4x2048 : Shape := ⟨2, ![4, 2048]⟩
abbrev S1 : Shape := ⟨1, ![1]⟩
abbrev S4x8192 : Shape := ⟨2, ![4, 8192]⟩
abbrev S4x1 : Shape := ⟨2, ![4, 1]⟩
abbrev S4x2 : Shape := ⟨2, ![4, 2]⟩
abbrev S4x3 : Shape := ⟨2, ![4, 3]⟩
abbrev S4x1x3 : Shape := ⟨3, ![4, 1, 3]⟩
abbrev S4x2048x1 : Shape := ⟨3, ![4, 2048, 1]⟩
abbrev S4x2048x2 : Shape := ⟨3, ![4, 2048, 2]⟩
abbrev S4x2048x3 : Shape := ⟨3, ![4, 2048, 3]⟩
abbrev S4x2048x1x3 : Shape := ⟨4, ![4, 2048, 1, 3]⟩
abbrev S4x1x8192x3 : Shape := ⟨4, ![4, 1, 8192, 3]⟩
abbrev S4x2048x8192x3 : Shape := ⟨4, ![4, 2048, 8192, 3]⟩
abbrev S4x2048x8192 : Shape := ⟨3, ![4, 2048, 8192]⟩
abbrev S4x2048x16 : Shape := ⟨3, ![4, 2048, 16]⟩
abbrev S4x8192x128 : Shape := ⟨3, ![4, 8192, 128]⟩
abbrev S1x1x128 : Shape := ⟨3, ![1, 1, 128]⟩
abbrev S4x32768 : Shape := ⟨2, ![4, 32768]⟩
abbrev S4x32768x1 : Shape := ⟨3, ![4, 32768, 1]⟩
abbrev S1x1x1 : Shape := ⟨3, ![1, 1, 1]⟩
abbrev S4x32768x128 : Shape := ⟨3, ![4, 32768, 128]⟩
abbrev S4x2048x16x128 : Shape := ⟨4, ![4, 2048, 16, 128]⟩
abbrev S4x2048x128 : Shape := ⟨3, ![4, 2048, 128]⟩

abbrev nBuf : Space → Nat
  | .hbm => 177
  | .vmem => 0
  | .smem => 0
  | _ => 0

abbrev hbmTy0_0 (i : Nat) : BufTy := match i % 128 with
  | 0 => ⟨S4x8192x64, .f32⟩
  | 1 => ⟨S4x8192x3, .f32⟩
  | 2 => ⟨S128x64, .f32⟩
  | 3 => ⟨S128, .f32⟩
  | 4 => ⟨S128, .f32⟩
  | 5 => ⟨S4, .i32⟩
  | 6 => ⟨S4, .i32⟩
  | 7 => ⟨S_, .i32⟩
  | 8 => ⟨S4x2048, .i32⟩
  | 9 => ⟨S_, .i32⟩
  | 10 => ⟨S1, .i32⟩
  | 11 => ⟨S_, .i32⟩
  | 12 => ⟨S4, .i32⟩
  | 13 => ⟨S4x2048, .i32⟩
  | 14 => ⟨S_, .f32⟩
  | 15 => ⟨S4x8192, .f32⟩
  | 16 => ⟨S_, .i32⟩
  | 17 => ⟨S4, .i32⟩
  | 18 => ⟨S_, .i32⟩
  | 19 => ⟨S_, .i32⟩
  | 20 => ⟨S4, .i32⟩
  | 21 => ⟨S4x8192x3, .f32⟩
  | 22 => ⟨S_, .i32⟩
  | 23 => ⟨S_, .i32⟩
  | 24 => ⟨S4x2048, .i32⟩
  | 25 => ⟨S4x8192, .f32⟩
  | 26 => ⟨S4, .i32⟩
  | 27 => ⟨S_, .i32⟩
  | 28 => ⟨S_, .i1⟩
  | 29 => ⟨S_, .i32⟩
  | 30 => ⟨S_, .i32⟩
  | 31 => ⟨S_, .i32⟩
  | 32 => ⟨S4, .i32⟩
  | 33 => ⟨S4, .i1⟩
  | 34 => ⟨S_, .i32⟩
  | 35 => ⟨S4, .i32⟩
  | 36 => ⟨S4, .i32⟩
  | 37 => ⟨S4, .i32⟩
  | 38 => ⟨S_, .i32⟩
  | 39 => ⟨S4, .i32⟩
  | 40 => ⟨S4, .i1⟩
  | 41 => ⟨S_, .i32⟩
  | 42 => ⟨S4, .i32⟩
  | 43 => ⟨S4, .i32⟩
  | 44 => ⟨S4, .i32⟩
  | 45 => ⟨S4x1, .i32⟩
  | 46 => ⟨S4x1, .i32⟩
  | 47 => ⟨S4x2, .i32⟩
  | 48 => ⟨S4x3, .f32⟩
  | 49 => ⟨S4x1x3, .f32⟩
  | 50 => ⟨S4x8192x3, .f32⟩
  | 51 => ⟨S4x8192x3, .f32⟩
  | 52 => ⟨S4x8192x3, .f32⟩
  | 53 => ⟨S_, .f32⟩
  | 54 => ⟨S4x8192, .f32⟩
  | 55 => ⟨S4x8192, .f32⟩
  | 56 => ⟨S4x8192, .i32⟩
  | 57 => ⟨S_, .f32⟩
  | 58 => ⟨S_, .i32⟩
  | 59 => ⟨S4, .f32⟩
  | 60 => ⟨S4, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1, .i32⟩
  | 68 => ⟨S4x2048, .i32⟩
  | 69 => ⟨S_, .i32⟩
  | 70 => ⟨S_, .i32⟩
  | 71 => ⟨S4x1, .i32⟩
  | 72 => ⟨S_, .i32⟩
  | 73 => ⟨S4x1, .i32⟩
  | 74 => ⟨S4x1, .i1⟩
  | 75 => ⟨S_, .i32⟩
  | 76 => ⟨S4x1, .i32⟩
  | 77 => ⟨S4x1, .i32⟩
  | 78 => ⟨S4x1, .i32⟩
  | 79 => ⟨S_, .i32⟩
  | 80 => ⟨S4x2048, .i32⟩
  | 81 => ⟨S4x2048, .i1⟩
  | 82 => ⟨S_, .i32⟩
  | 83 => ⟨S4x2048, .i32⟩
  | 84 => ⟨S4x2048, .i32⟩
  | 85 => ⟨S4x2048, .i32⟩
  | 86 => ⟨S4x2048, .i32⟩
  | 87 => ⟨S4x2048x1, .i32⟩
  | 88 => ⟨S4x2048x1, .i32⟩
  | 89 => ⟨S4x2048x2, .i32⟩
  | 90 => ⟨S4x2048x3, .f32⟩
  | 91 => ⟨S4x2048x1x3, .f32⟩
  | 92 => ⟨S4x1x8192x3, .f32⟩
  | 93 => ⟨S4x2048x8192x3, .f32⟩
  | 94 => ⟨S4x2048x8192x3, .f32⟩
  | 95 => ⟨S4x2048x8192x3, .f32⟩
  | 96 => ⟨S4x2048x8192x3, .f32⟩
  | 97 => ⟨S_, .f32⟩
  | 98 => ⟨S4x2048x8192, .f32⟩
  | 99 => ⟨S4x2048x8192, .f32⟩
  | 100 => ⟨S4x2048x16, .f32⟩
  | 101 => ⟨S4x2048x16, .i32⟩
  | 102 => ⟨S4x8192x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x1x128, .f32⟩
  | 112 => ⟨S_, .f32⟩
  | 113 => ⟨S1x1x128, .f32⟩
  | 114 => ⟨S1x1x128, .f32⟩
  | 115 => ⟨S4x8192x128, .f32⟩
  | 116 => ⟨S4x8192x128, .f32⟩
  | 117 => ⟨S4x8192x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S4x8192x64, .f32⟩

abbrev hbmTy0_1 (i : Nat) : BufTy := match i % 128 with
  | 0 => ⟨S_, .f32⟩
  | 1 => ⟨S128, .f32⟩
  | 2 => ⟨S128, .f32⟩
  | 3 => ⟨S1x1x128, .f32⟩
  | 4 => ⟨S4x8192x128, .f32⟩
  | 5 => ⟨S4x8192x128, .f32⟩
  | 6 => ⟨S_, .f32⟩
  | 7 => ⟨S128, .f32⟩
  | 8 => ⟨S128, .f32⟩
  | 9 => ⟨S128, .f32⟩
  | 10 => ⟨S1x1x128, .f32⟩
  | 11 => ⟨S4x8192x128, .f32⟩
  | 12 => ⟨S4x8192x128, .f32⟩
  | 13 => ⟨S1x1x128, .f32⟩
  | 14 => ⟨S4x8192x128, .f32⟩
  | 15 => ⟨S4x8192x128, .f32⟩
  | 16 => ⟨S1x1x128, .f32⟩
  | 17 => ⟨S4x8192x128, .f32⟩
  | 18 => ⟨S4x8192x128, .f32⟩
  | 19 => ⟨S_, .f32⟩
  | 20 => ⟨S4x8192x128, .f32⟩
  | 21 => ⟨S4x8192x128, .f32⟩
  | 22 => ⟨S4x32768, .i32⟩
  | 23 => ⟨S4x32768x1, .i32⟩
  | 24 => ⟨S_, .i32⟩
  | 25 => ⟨S4x32768x1, .i32⟩
  | 26 => ⟨S4x32768x1, .i1⟩
  | 27 => ⟨S_, .i32⟩
  | 28 => ⟨S4x32768x1, .i32⟩
  | 29 => ⟨S4x32768x1, .i32⟩
  | 30 => ⟨S4x32768x1, .i32⟩
  | 31 => ⟨S1, .i32⟩
  | 32 => ⟨S_, .i32⟩
  | 33 => ⟨S4x32768x1, .i32⟩
  | 34 => ⟨S4x32768x1, .i1⟩
  | 35 => ⟨S1x1x1, .i32⟩
  | 36 => ⟨S4x32768x1, .i32⟩
  | 37 => ⟨S4x32768x1, .i1⟩
  | 38 => ⟨S4x32768x1, .i1⟩
  | 39 => ⟨S_, .i1⟩
  | 40 => ⟨S4x32768, .i1⟩
  | 41 => ⟨S4x32768x128, .f32⟩
  | 42 => ⟨S4x32768x128, .i1⟩
  | 43 => ⟨S_, .f32⟩
  | 44 => ⟨S4x32768x128, .f32⟩
  | 45 => ⟨S4x32768x128, .f32⟩
  | 46 => ⟨S4x2048x16x128, .f32⟩
  | 47 => ⟨S_, .f32⟩
  | 48 => ⟨S4x2048x128, .f32⟩
  | _ => ⟨S4x8192x64, .f32⟩

abbrev hbmTy (i : Nat) : BufTy := match i / 128 with
  | 0 => hbmTy0_0 i
  | 1 => hbmTy0_1 i
  | _ => ⟨S4x8192x64, .f32⟩

abbrev bufTy : (tb : Table) → Fin (tcTables nBuf tb) → BufTy
  | .hbm, ⟨i, _⟩ => hbmTy i
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_c_4 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_while0c_c_21 : Ref sig .tc := ⟨.hbm, 27, rfl⟩
abbrev main_while0c_v59 : Ref sig .tc := ⟨.hbm, 28, rfl⟩
abbrev main_while0b_c_21 : Ref sig .tc := ⟨.hbm, 29, rfl⟩
abbrev main_while0b_v59 : Ref sig .tc := ⟨.hbm, 30, rfl⟩
abbrev main_while0b_c_22 : Ref sig .tc := ⟨.hbm, 31, rfl⟩
abbrev main_while0b_v60 : Ref sig .tc := ⟨.hbm, 32, rfl⟩
abbrev main_while0b_v61 : Ref sig .tc := ⟨.hbm, 33, rfl⟩
abbrev main_while0b_c_23 : Ref sig .tc := ⟨.hbm, 34, rfl⟩
abbrev main_while0b_v62 : Ref sig .tc := ⟨.hbm, 35, rfl⟩
abbrev main_while0b_v63 : Ref sig .tc := ⟨.hbm, 36, rfl⟩
abbrev main_while0b_v64 : Ref sig .tc := ⟨.hbm, 37, rfl⟩
abbrev main_while0b_c_24 : Ref sig .tc := ⟨.hbm, 38, rfl⟩
abbrev main_while0b_v65 : Ref sig .tc := ⟨.hbm, 39, rfl⟩
abbrev main_while0b_v66 : Ref sig .tc := ⟨.hbm, 40, rfl⟩
abbrev main_while0b_c_25 : Ref sig .tc := ⟨.hbm, 41, rfl⟩
abbrev main_while0b_v67 : Ref sig .tc := ⟨.hbm, 42, rfl⟩
abbrev main_while0b_v68 : Ref sig .tc := ⟨.hbm, 43, rfl⟩
abbrev main_while0b_v69 : Ref sig .tc := ⟨.hbm, 44, rfl⟩
abbrev main_while0b_v70 : Ref sig .tc := ⟨.hbm, 45, rfl⟩
abbrev main_while0b_v71 : Ref sig .tc := ⟨.hbm, 46, rfl⟩
abbrev main_while0b_v72 : Ref sig .tc := ⟨.hbm, 47, rfl⟩
abbrev main_while0b_v73 : Ref sig .tc := ⟨.hbm, 48, rfl⟩
abbrev main_while0b_v74 : Ref sig .tc := ⟨.hbm, 49, rfl⟩
abbrev main_while0b_v75 : Ref sig .tc := ⟨.hbm, 50, rfl⟩
abbrev main_while0b_v76 : Ref sig .tc := ⟨.hbm, 51, rfl⟩
abbrev main_while0b_v77 : Ref sig .tc := ⟨.hbm, 52, rfl⟩
abbrev main_while0b_cst_26 : Ref sig .tc := ⟨.hbm, 53, rfl⟩
abbrev main_while0b_v78 : Ref sig .tc := ⟨.hbm, 54, rfl⟩
abbrev main_while0b_v79 : Ref sig .tc := ⟨.hbm, 55, rfl⟩
abbrev main_while0b_call0_v0 : Ref sig .tc := ⟨.hbm, 56, rfl⟩
abbrev main_while0b_call0_cst : Ref sig .tc := ⟨.hbm, 57, rfl⟩
abbrev main_while0b_call0_c : Ref sig .tc := ⟨.hbm, 58, rfl⟩
abbrev main_while0b_call0_v1_0 : Ref sig .tc := ⟨.hbm, 59, rfl⟩
abbrev main_while0b_v80 : Ref sig .tc := ⟨.hbm, 60, rfl⟩
abbrev main_while0b_c_27 : Ref sig .tc := ⟨.hbm, 61, rfl⟩
abbrev main_while0b_v81 : Ref sig .tc := ⟨.hbm, 62, rfl⟩
abbrev main_while0b_c_28 : Ref sig .tc := ⟨.hbm, 63, rfl⟩
abbrev main_while0b_v82 : Ref sig .tc := ⟨.hbm, 64, rfl⟩
abbrev main_while0b_v83 : Ref sig .tc := ⟨.hbm, 65, rfl⟩
abbrev main_while0b_v84 : Ref sig .tc := ⟨.hbm, 66, rfl⟩
abbrev main_while0b_v85 : Ref sig .tc := ⟨.hbm, 67, rfl⟩
abbrev main_while0b_v86 : Ref sig .tc := ⟨.hbm, 68, rfl⟩
abbrev main_while0b_c_29 : Ref sig .tc := ⟨.hbm, 69, rfl⟩
abbrev main_while0b_v87 : Ref sig .tc := ⟨.hbm, 70, rfl⟩
abbrev main_v9 : Ref sig .tc := ⟨.hbm, 71, rfl⟩
abbrev main_c_5 : Ref sig .tc := ⟨.hbm, 72, rfl⟩
abbrev main_v10 : Ref sig .tc := ⟨.hbm, 73, rfl⟩
abbrev main_v11 : Ref sig .tc := ⟨.hbm, 74, rfl⟩
abbrev main_c_6 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_c_7 : Ref sig .tc := ⟨.hbm, 79, rfl⟩
abbrev main_v15 : Ref sig .tc := ⟨.hbm, 80, rfl⟩
abbrev main_v16 : Ref sig .tc := ⟨.hbm, 81, rfl⟩
abbrev main_c_8 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_cst_9 : Ref sig .tc := ⟨.hbm, 97, rfl⟩
abbrev main_v31 : Ref sig .tc := ⟨.hbm, 98, rfl⟩
abbrev main_v32 : Ref sig .tc := ⟨.hbm, 99, rfl⟩
abbrev main_values : Ref sig .tc := ⟨.hbm, 100, rfl⟩
abbrev main_indices : Ref sig .tc := ⟨.hbm, 101, rfl⟩
abbrev main_v33 : Ref sig .tc := ⟨.hbm, 102, rfl⟩
abbrev main_cst_10 : Ref sig .tc := ⟨.hbm, 103, rfl⟩
abbrev main_v34 : Ref sig .tc := ⟨.hbm, 104, rfl⟩
abbrev main_cst_11 : Ref sig .tc := ⟨.hbm, 105, rfl⟩
abbrev main_v35 : Ref sig .tc := ⟨.hbm, 106, rfl⟩
abbrev main_v36 : Ref sig .tc := ⟨.hbm, 107, rfl⟩
abbrev main_c_12 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_13 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_call2_cst : Ref sig .tc := ⟨.hbm, 147, rfl⟩
abbrev main_call2_v0 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_c_2 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_c_3 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_cst : Ref sig .tc := ⟨.hbm, 171, rfl⟩
abbrev main_call3_v14 : Ref sig .tc := ⟨.hbm, 172, rfl⟩
abbrev main_v56 : Ref sig .tc := ⟨.hbm, 173, rfl⟩
abbrev main_v57 : Ref sig .tc := ⟨.hbm, 174, rfl⟩
abbrev main_cst_14 : Ref sig .tc := ⟨.hbm, 175, rfl⟩
abbrev main_v58 : Ref sig .tc := ⟨.hbm, 176, rfl⟩

abbrev nD : Nat := 1
abbrev τ : Topo := Topo.v7x

variable {F : FTy → Type} [FloatOps F]

abbrev main_while0_count : Scf.Loop 32 := ⟨0#32, 2047#32, 1#32⟩
-- ==== Proof.Pool.Rows.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout

@[expose] public section

set_option maxRecDepth 16384

noncomputable section

/-! # What the pooling call computes, and what its proofs share in each program that has it

The buffers, views and separating conjunctions here are any program's. -/

namespace Cert.Proof.Pool

open Cert.KernelIdeal
open Idealize.ShloMosaic Idealize.ShloMosaic.ValueIdx Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The result -/

/-- Row `a`, column `b` of a 128 by 128 buffer. -/
def ixR (a b : ℕ) : S128x128.Idx
  | 0 => (⟨a % 128, Nat.mod_lt _ (by decide)⟩ : Fin 128)
  | 1 => (⟨b % 128, Nat.mod_lt _ (by decide)⟩ : Fin 128)

/-- Column `b` of a row of 128. -/
def ixC (b : ℕ) : S128.Idx
  | 0 => (⟨b % 128, Nat.mod_lt _ (by decide)⟩ : Fin 128)

/-- Row `a`, column `b` of the table of rows. -/
def ixH (a b : ℕ) : S32768x128.Idx
  | 0 => (⟨a % 32768, Nat.mod_lt _ (by decide)⟩ : Fin 32768)
  | 1 => (⟨b % 128, Nat.mod_lt _ (by decide)⟩ : Fin 128)

/-- Entry `a` of one tile's list of row numbers. -/
def ixI (a : ℕ) : S4096.Idx
  | 0 => (⟨a % 4096, Nat.mod_lt _ (by decide)⟩ : Fin 4096)

/-- Entry `a` of the whole list of row numbers. -/
def ixJ (a : ℕ) : S131072.Idx
  | 0 => (⟨a % 131072, Nat.mod_lt _ (by decide)⟩ : Fin 131072)

/-- The tile on subcore `s` of core `c`. -/
abbrev wOf (c : Fin 2) (s : Fin 16) : Fin 32 := ⟨2 * s.val + c.val, by omega⟩

section
variable [FloatOps F]

/-- The maximum of `f 0, …, f n`, taken from the left. -/
def maxUpTo (f : ℕ → F .f32) : ℕ → F .f32
  | 0 => f 0
  | n + 1 => FloatOps.maximumf (maxUpTo f n) (f (n + 1))

/-- The maximum over a group of sixteen, scaled, shifted and cut at zero. -/
def act (f : ℕ → F .f32) (a b : F .f32) : F .f32 :=
  FloatOps.maximumf (FloatOps.addf (FloatOps.mulf (maxUpTo f 15) a) b) (Scalar.ofBits .f32 0x00000000#32)

theorem maxUpTo_congr {f g : ℕ → F .f32} : ∀ {n : ℕ}, (∀ r, r ≤ n → f r = g r) → maxUpTo f n = maxUpTo g n
  | 0, h => h 0 (Nat.le_refl _)
  | n + 1, h => by
    show FloatOps.maximumf _ _ = FloatOps.maximumf _ _
    rw [maxUpTo_congr (fun r hr => h r (Nat.le_succ_of_le hr)), h (n + 1) (Nat.le_refl _)]

/-- Only the sixteen rows count. -/
theorem act_congr {f g : ℕ → F .f32} {a b : F .f32} (h : ∀ r, r < 16 → f r = g r) : act f a b = act g a b := by
  unfold act
  rw [maxUpTo_congr (fun r hr => h r (by omega))]

/-- What one tile leaves in its block of results: at row `i 0`, the sixteen rows its list names there, pooled. -/
def tileOut (H : S32768x128.Idx → F .f32) (I : S4096.Idx → BitVec 32) (A B : S128.Idx → F .f32) (i : S256x128.Idx) : F .f32 :=
  act (fun r => H (ixH (I (ixI (16 * (i 0).val + r))).toNat (i 1).val)) (A (ixC (i 1).val)) (B (ixC (i 1).val))

/-- The pooled result of a table, a list of row numbers, a scale and a shift: row `y 0` pools the sixteen rows the list
    names from entry `16 * y 0` on. -/
def poolOut (H : S32768x128.Idx → F .f32) (J : S131072.Idx → BitVec 32) (A B : S128.Idx → F .f32) (y : S8192x128.Idx) : F .f32 :=
  act (fun r => H (ixH (J (ixJ (16 * (y 0).val + r))).toNat (y 1).val)) (A (ixC (y 1).val)) (B (ixC (y 1).val))

/-- Row `x 0` of tile `w`'s block is row `256 w + x 0` of the result. -/
theorem tileOut_eq (H : S32768x128.Idx → F .f32) (J : S131072.Idx → BitVec 32) (A B : S128.Idx → F .f32) (w : Fin 32)
    (x : S256x128.Idx) (y : S8192x128.Idx) (y0 : (y 0).val = 256 * w.val + (x 0).val) (y1 : (y 1).val = (x 1).val) :
    tileOut H (fun z => J (ixJ (4096 * w.val + (z 0).val))) A B x = poolOut H J A B y := by
  have hx0 := (x 0).isLt
  have hw := w.isLt
  simp [S256x128] at hx0
  unfold tileOut poolOut
  rw [y0, y1]
  refine act_congr fun r hr => ?_
  congr 2
  refine congrArg (fun v : BitVec 32 => v.toNat) (congrArg J (funext fun a => ?_))
  fin_cases a
  refine Fin.ext ?_
  show (4096 * w.val + (16 * (x 0).val + r) % 4096) % 131072 = (16 * (256 * w.val + (x 0).val) + r) % 131072
  omega

end

/-! ## Loads, stores and a gather -/

/-- Sixteen lanes of one row of the gathered rows, as a vector of sixteen. -/
theorem read_rows {sig : RefSig} (v : View sig .scVector .vmem S128x128 .f32) (R : v.ty.Contents (Elt F)) (off : Fin 2 → ℕ)
    [c : ClosedOff off] (inb : ∀ a, off a + (![1, 16] : Fin 2 → ℕ) a ≤ S128x128.size a) (h : S1x16.ShapeCasts S16) :
    shapeCast S16 (View.readAt (Elt F) v (Rect.unit (s := S128x128) off ![1, 16] inb).toLoadRect R) h
      = fun x => v.read (Elt F) R (ixR (c.form 0) (c.form 1 + (x 0).val)) := by
  obtain ⟨form, e⟩ := c
  subst e
  funext x
  refine (shapeCast_apply _ h x (ix2 (0 : Fin 1) (x 0)) ?_).trans ?_
  · rw [Shape.rowMajor_val_two, Shape.rowMajor_val_one]
    show 0 * 16 + (x 0).val = (x 0).val
    omega
  · rw [View.readAt_apply]
    refine congrArg (v.read (Elt F) R) ?_
    have h0 := inb 0
    have h1 := inb 1
    have h2 := (x 0).isLt
    simp [S1x16, S128x128, S16] at h0 h1 h2
    funext a
    fin_cases a <;> refine Fin.ext ?_
    · show off 0 + 1 * 0 = off 0 % 128
      omega
    · show off 1 + 1 * (x 0).val = (off 1 + (x 0).val) % 128
      omega

/-- Sixteen lanes of the scale or of the shift. -/
theorem read_lanes {sig : RefSig} (v : View sig .scVector .vmem S128 .f32) (A : v.ty.Contents (Elt F)) (c : ℕ)
    (inb : ∀ a, (![c] : Fin 1 → ℕ) a + (![16] : Fin 1 → ℕ) a ≤ S128.size a) (h : S16.ShapeCasts S16) :
    shapeCast S16 (View.readAt (Elt F) v (Rect.unit (s := S128) ![c] ![16] inb).toLoadRect A) h
      = fun x => v.read (Elt F) A (ixC (c + (x 0).val)) := by
  funext x
  refine (congrFun (shapeCast_self (s := S16) _ h) x).trans ?_
  rw [View.readAt_apply]
  refine congrArg (v.read (Elt F) A) ?_
  have h0 := inb 0
  have h2 := (x 0).isLt
  simp [S128, S16] at h0 h2
  funext a
  fin_cases a
  refine Fin.ext ?_
  show c + 1 * (x 0).val = (c + (x 0).val) % 128
  omega

/-- A vector of sixteen stored as a row of sixteen lanes. -/
theorem cast_out (v : S16.Idx → Elt F .f32) (h : S16.ShapeCasts S1x16) (x : S1x16.Idx) :
    shapeCast S1x16 v h x = v (ix1 (x 1 : Fin 16)) := by
  refine shapeCast_apply _ h x _ ?_
  rw [Shape.rowMajor_val_two, Shape.rowMajor_val_one]
  have h2 := (x 0).isLt
  simp [S1x16] at h2
  show (x 1).val = (x 0).val * 16 + (x 1).val
  omega

/-- Where sixteen lanes of row `r` of the results lie. -/
theorem lanes_mem (i : S256x128.Idx) (r : ℕ) (off : Fin 2 → ℕ) (inb : ∀ a, off a + S1x16.size a ≤ S256x128.size a) (c : ℕ)
    (e : off = ![r, c]) : i ∈ (Rect.unit (s := S256x128) off S1x16.size inb).set
      ↔ (i 0).val = r ∧ c ≤ (i 1).val ∧ (i 1).val < c + 16 := by
  subst e
  rw [Rect.mem_set_unit]
  constructor
  · intro h
    have h0 := h 0
    have h1 := h 1
    simp [S1x16] at h0 h1
    omega
  · intro h a
    fin_cases a <;> simp [S1x16] <;> omega

theorem lanes_emb (r : ℕ) (off : Fin 2 → ℕ) (inb : ∀ a, off a + (![1, 16] : Fin 2 → ℕ) a ≤ S256x128.size a) (c : ℕ) (e : off = ![r, c])
    (x : (Rect.unit (s := S256x128) off ![1, 16] inb).shape.Idx) :
    ((Rect.unit (s := S256x128) off ![1, 16] inb).emb x 1).val = c + (x 1).val := by
  subst e
  show c + 1 * (x 1).val = c + (x 1).val
  omega

/-- The rows one gather lands: row `a` is the table's row named by entry `a` of the list. -/
theorem gather_row (hg : S32768x128.Gathers 0 S128x128) (H : S32768x128.Idx → F .f32) (I : S128.Idx → BitVec 32) (hn)
    (hin : ∀ x, (I x).toNat < S32768x128.size hg.axis) (a b : ℕ) (ha : a < 128) :
    SparseCore.gatherPayload (F := F) (e := .f32) hg H (SparseCore.rows (F := F) I hn hin) (ixR a b)
      = H (ixH (I (ix1 (⟨a, ha⟩ : Fin 128))).toNat b) := by
  unfold SparseCore.gatherPayload
  refine congrArg H ?_
  have hI := hin (ix1 (⟨a, ha⟩ : Fin 128))
  funext c
  fin_cases c
  · refine (Shape.Gathers.idx_axis hg _ _).trans (Fin.ext ?_)
    have e : ∀ z : Fin S128.numel, z.val = a → S128.rowMajor.symm z = ix1 (⟨a, ha⟩ : Fin 128) := fun z hz => by
      refine S128.rowMajor.injective (Fin.ext ?_)
      rw [Equiv.apply_symm_apply, Shape.rowMajor_val_one]
      exact hz
    show (I _).toNat = (I (ix1 (⟨a, ha⟩ : Fin 128))).toNat % 32768
    rw [e _ (Nat.mod_eq_of_lt ha)]
    exact (Nat.mod_eq_of_lt hI).symm
  · exact Fin.ext ((Shape.Gathers.idx_of_ne hg _ _ (1 : Fin 2) (by decide)).trans rfl)

/-! ## Conjunctions over a tile's cells and buffers, and over the tiles -/

section
variable {M : Type} [URA M]

/-- Five members of a set, no two alike, apart from the rest. -/
theorem bigSep_five {I : Type} [DecidableEq I] {s : Finset I} {a b c d e : I} {Φ : I → sProp M} (hs : ∀ x ∈ [a, b, c, d, e], x ∈ s)
    (hn : [e, d, c, b, a].Nodup) : bigSep s Φ = iprop(Φ a ∗ Φ b ∗ Φ c ∗ Φ d ∗ Φ e
      ∗ bigSep (((((s.erase a).erase b).erase c).erase d).erase e) Φ) := by
  simp only [List.nodup_cons, List.mem_cons, List.not_mem_nil, _root_.or_false, not_or] at hn
  simp only [List.forall_mem_cons] at hs
  rw [SparseCore.bigSep_erase' hs.1, SparseCore.bigSep_erase' (i := b) (by simp [hs, hn]), SparseCore.bigSep_erase' (i := c) (by simp [hs, hn]),
    SparseCore.bigSep_erase' (i := d) (by simp [hs, hn]), SparseCore.bigSep_erase' (i := e) (by simp [hs, hn])]

/-- Whatever is had for each of the thirty-two tiles is had for each core and each of its subcores. -/
theorem bigSep_tiles (Φ : Fin 32 → sProp M) :
    bigSep Finset.univ Φ = bigSep Finset.univ fun c : Fin 2 => bigSep Finset.univ fun i : Fin 16 => Φ (wOf c i) := by
  have e : (Finset.univ : Finset (Fin 32)) = (Finset.univ ×ˢ Finset.univ : Finset (Fin 2 × Fin 16)).image fun p => wOf p.1 p.2 := by decide
  have hi : Set.InjOn (fun p : Fin 2 × Fin 16 => wOf p.1 p.2) ((Finset.univ ×ˢ Finset.univ : Finset (Fin 2 × Fin 16)) : Set (Fin 2 × Fin 16)) := by
    intro p _ q _ h
    have h' : 2 * p.2.val + p.1.val = 2 * q.2.val + q.1.val := congrArg Fin.val h
    exact Prod.ext (Fin.ext (by omega)) (Fin.ext (by omega))
  rw [e, bigSep_image_of_injOn hi, SparseCore.bigSep_product]

end

/-- Waits recorded by a task that only waits on its own cells are among those a launch allows it. -/
theorem waits_weaken {nD : ℕ} {τ : Topo} {sig : RefSig} {U : Type} [URA U] {thr : Thread nD τ}
    {X Y Z : sProp (MT nD τ sig (HIx 1) (Elt F) ℕ U ℕ)} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

end Cert.Proof.Pool

end
-- ==== Proof.Pool.Tile.lean ====
module

public import proofs.«01_k».proof.Proof.Pool.Rows
public import proofs.«01_k».proof.Proof.Gen.KernelIdeal
public import proofs.«01_k».proof.Proof.Gen.KernelIdeal.Skeleton

@[expose] public section

set_option maxRecDepth 16384

noncomputable section

/-! # The pooling call: a result row, a round of eight rows, a tile's task, and the launch -/

namespace Cert.Proof.Pool

open Cert.KernelIdeal Cert.KernelIdeal.Gen

open Idealize.ShloMosaic
open Idealize.ShloMosaic.Memref (isWhole_whole)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev hV : Memref sig .scVector .hbm S32768x128 .f32 := Memref.whole main_arg0_scv
abbrev jV : Memref sig .scVector .hbm S131072 .i32 := Memref.whole main_v0_scv
abbrev aV : Memref sig .scVector .hbm S128 .f32 := Memref.whole main_arg2_scv
abbrev bV : Memref sig .scVector .hbm S128 .f32 := Memref.whole main_arg3_scv
abbrev oV : Memref sig .scVector .hbm S8192x128 .f32 := Memref.whole main_v1_scv
abbrev idxS : Memref sig .scVector .vmem S4096 .i32 := Memref.whole cc0_scratch0
abbrev rowS : Memref sig .scVector .vmem S128x128 .f32 := Memref.whole cc0_scratch1
abbrev outS : Memref sig .scVector .vmem S256x128 .f32 := Memref.whole cc0_scratch2
abbrev scaS : Memref sig .scVector .vmem S128 .f32 := Memref.whole cc0_scratch3
abbrev shiS : Memref sig .scVector .vmem S128 .f32 := Memref.whole cc0_scratch4

/-! ## The program as the launch sees it, and its buffers -/

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev hLoc (d : Dev nD) : Loc nD τ sig := (SparseCore.T d).loc main_arg0
abbrev jLoc (d : Dev nD) : Loc nD τ sig := (SparseCore.T d).loc main_v0
abbrev aLoc (d : Dev nD) : Loc nD τ sig := (SparseCore.T d).loc main_arg2
abbrev bLoc (d : Dev nD) : Loc nD τ sig := (SparseCore.T d).loc main_arg3
abbrev oLoc (d : Dev nD) : Loc nD τ sig := (SparseCore.T d).loc main_v1

theorem odiv : 32 ∣ S8192x128.size 0 := ⟨256, rfl⟩
/-- Tile `w`'s block of the result. -/
abbrev oBlk (w : Fin 32) : Rect S8192x128 := Rect.part (s := S8192x128) (a₀ := 0) odiv w
abbrev oBlkSet (w : Fin 32) : Finset S8192x128.Idx := (oV.view.slice (oBlk w)).set

/-- Share `w` of thirty-two of a buffer every tile reads. -/
abbrev sh (w : Fin 32) : PosShare TreeShare := pieceOf fullShare 32 (by decide) w

variable [FloatOps F]

section
variable (d : Dev nD) (L : grid0.Coords)

abbrev cT (L : grid0.Coords) : Fin τ.nSC := (L 0).castLE hcore0
abbrev sT (L : grid0.Coords) : Fin τ.nSub := (L 1).castLE hsub0
abbrev thr (d : Dev nD) (L : grid0.Coords) : Thread nD τ := V d (cT L) (sT L)

set_option maxHeartbeats 4000000 in
/-- One result row: the largest of its sixteen gathered rows, scaled, shifted and cut at zero. -/
theorem trip (k1 : Fin k0_t1_loop.trips) (k2 : Fin k0_t2_loop.trips) (x y : BitVec 32)
    (R : Buf (Elt F) (rowS.view.loc (thr d L))) (A : Buf (Elt F) (scaS.view.loc (thr d L)))
    (B : Buf (Elt F) (shiS.view.loc (thr d L))) (f : Buf (Elt F) (outS.view.loc (thr d L))) (Q : BitVec 32 → sProp 𝕄) :
    iprop((rowS.view.loc (thr d L) ↦{fullShare} R) ∗ (scaS.view.loc (thr d L) ↦{fullShare} A)
      ∗ (shiS.view.loc (thr d L) ↦{fullShare} B) ∗ (outS.view.loc (thr d L) ↦{fullShare} f)
      ∗ ((∃ f', ⌜∀ i : S256x128.Idx, f' i = if (i 0).val = 8 * k1.val + k2.val
              then act (fun r => R (ixR (16 * k2.val + r) (i 1).val)) (A (ixC (i 1).val)) (B (ixC (i 1).val)) else f i⌝
          ∗ (rowS.view.loc (thr d L) ↦{fullShare} R) ∗ (scaS.view.loc (thr d L) ↦{fullShare} A)
          ∗ (shiS.view.loc (thr d L) ↦{fullShare} B) ∗ (outS.view.loc (thr d L) ↦{fullShare} f')) -∗ Q 0#32))
      ⊢ wp frame (wpE (defs₀ (F := F)) 𝒱₀ (thr d L) none) Set.univ
          (k0_t2_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc0_scratch5 cc0_scoped0 cc0_scoped1 cc0_scoped2 cc0_scoped3 k1 x k2 y) Q := by
  iintro ⟨HR, HA, HB, HO, HQ⟩
  unfold k0_t2_body
  sl_exec
  sl_step
  iapply HQ
  iexists _
  isplitr
  swap
  · iframe HR HA HB HO
  ipureintro
  intro i
  sl_unfold_run_names
  have hmem := lanes_mem i (8 * k1.val + k2.val)
  have hemb := lanes_emb (8 * k1.val + k2.val)
  have key : ∀ g : Buf (Elt F) (outS.view.loc (thr d L)), g i = View.read (Elt F) outS.view g i := fun g => rfl
  refine (key _).trans ?_
  split
  · next h0 =>
    refine View.read_writes_apply_of_pieces outS.view f (fun i => act (fun r => R (ixR (16 * k2.val + r) (i 1).val)) (A (ixC (i 1).val)) (B (ixC (i 1).val))) _ ?_ i ?_
    · simp only [List.forall_mem_cons, List.not_mem_nil, false_imp_iff, implies_true, _root_.and_true]
      refine ⟨?_, ?_, ?_, ?_, ?_, ?_, ?_, ?_⟩ <;> intro x
      all_goals
        simp only [k0_pay1, k0_pay2, k0_pay3, k0_pay4, k0_pay5, k0_pay6, k0_pay7, k0_pay8, k0_pay9, k0_pay10, k0_pay11, k0_pay12, k0_pay13, k0_pay14,
          k0_pay15, k0_pay16, k0_pay17, k0_pay18, k0_pay19, k0_pay20, k0_pay21, k0_pay22, k0_pay23, k0_pay24, k0_pay25, read_rows (View.whole cc0_scratch1) R,
          read_lanes (View.whole cc0_scratch3) A, read_lanes (View.whole cc0_scratch4) B, View.read_whole]
        refine (cast_out _ _ x).trans ?_
      · rw [hemb _ _ _ (k0_off26_eq k1 k2) x]; rfl
      · rw [hemb _ _ _ (k0_off23_eq k1 k2) x]; rfl
      · rw [hemb _ _ _ (k0_off20_eq k1 k2) x]; rfl
      · rw [hemb _ _ _ (k0_off17_eq k1 k2) x]; rfl
      · rw [hemb _ _ _ (k0_off14_eq k1 k2) x]; rfl
      · rw [hemb _ _ _ (k0_off11_eq k1 k2) x]; rfl
      · rw [hemb _ _ _ (k0_off8_eq k1 k2) x]; rfl
      · rw [hemb _ _ _ (k0_off5_eq k1 k2) x]; rfl
    · simp only [List.exists_mem_cons_iff, List.not_mem_nil, _root_.false_and, exists_false, _root_.or_false]
      rw [hmem _ _ _ (k0_off5_eq k1 k2), hmem _ _ _ (k0_off8_eq k1 k2), hmem _ _ _ (k0_off11_eq k1 k2), hmem _ _ _ (k0_off14_eq k1 k2),
        hmem _ _ _ (k0_off17_eq k1 k2), hmem _ _ _ (k0_off20_eq k1 k2), hmem _ _ _ (k0_off23_eq k1 k2), hmem _ _ _ (k0_off26_eq k1 k2)]
      have := (i 1).isLt
      simp [S256x128] at this
      omega
  · next h0 =>
    refine (View.read_writes_apply_of_forall_not_mem outS.view f i _ ?_).trans (key f).symm
    simp only [List.forall_mem_cons, List.not_mem_nil, false_imp_iff, implies_true, _root_.and_true]
    rw [hmem _ _ _ (k0_off5_eq k1 k2), hmem _ _ _ (k0_off8_eq k1 k2), hmem _ _ _ (k0_off11_eq k1 k2), hmem _ _ _ (k0_off14_eq k1 k2),
      hmem _ _ _ (k0_off17_eq k1 k2), hmem _ _ _ (k0_off20_eq k1 k2), hmem _ _ _ (k0_off23_eq k1 k2), hmem _ _ _ (k0_off26_eq k1 k2)]
    omega

abbrev hAll : Memref sig .scVector .hbm S32768x128 .f32 :=
  hV.slice (Rect.unit (s := S32768x128) ![0, 0] S32768x128.size inb_S32768x128_S32768x128_0_0) (fun _ => rfl)
abbrev listK (k : Fin k0_t1_loop.trips) : Memref sig .scVector .vmem S128 .i32 :=
  idxS.slice (Rect.unit (s := S4096) (k0_off2 k) S128.size (k0_off2_inb k)) (fun _ => rfl)

omit [FloatOps F] in
theorem list_read (k : Fin k0_t1_loop.trips) (I : S4096.Idx → BitVec 32) (x : S128.Idx) :
    (listK k).view.read (Elt F) I x = I (ixI (128 * k.val + (x 0).val)) := by
  refine (View.read_apply _ _).trans ?_
  refine (cast_eq _ _).trans ?_
  refine congrArg I ?_
  have h := k0_off2_inb k 0
  have e := congrFun (k0_off2_eq k) 0
  have h2 := (x 0).isLt
  simp [S128, S4096] at h h2 e
  funext a
  fin_cases a
  refine Fin.ext ?_
  show k0_off2 k 0 + 1 * (x 0).val = (128 * k.val + (x 0).val) % 4096
  omega

/-- The rows one gather lands: row `a` is the table's row named by entry `a` of the list's stretch. -/
theorem gather_apply (k : Fin k0_t1_loop.trips) (H : S32768x128.Idx → F .f32) (I : S4096.Idx → BitVec 32) (hin)
    (a b : ℕ) (ha : a < 128) :
    SparseCore.gatherPayload (F := F) (e := .f32) gathers_S32768x128_S128x128 ((hAll).view.read (Elt F) H)
        (SparseCore.rows (F := F) ((listK k).view.read (Elt F) I) rfl hin) (ixR a b)
      = H (ixH (I (ixI (128 * k.val + a))).toNat b) := by
  refine (gather_row _ _ _ _ _ a b ha).trans ?_
  rw [list_read]
  refine (View.read_apply _ _).trans ((cast_eq _ _).trans (congrArg H ?_))
  funext c
  fin_cases c <;> exact Fin.ext ((Nat.zero_add _).trans (Nat.one_mul _))

set_option maxHeartbeats 4000000 in
/-- One round: a gather lands 128 rows, and eight rows of the result are pooled from them. -/
theorem round (k1 : Fin k0_t1_loop.trips) (y : BitVec 32) (q : PosShare TreeShare)
    (O : CellTallies nD τ sig (HIx 1)) (W : Waits sig (HIx 1))
    (H : Buf (Elt F) (hV.view.loc (thr d L))) (I : Buf (Elt F) (idxS.view.loc (thr d L)))
    (R : Buf (Elt F) (rowS.view.loc (thr d L))) (A : Buf (Elt F) (scaS.view.loc (thr d L)))
    (B : Buf (Elt F) (shiS.view.loc (thr d L))) (f : Buf (Elt F) (outS.view.loc (thr d L)))
    (hI : ∀ x : S4096.Idx, (show BitVec 32 from I x).toNat < 32768)
    (hf : ∀ i : S256x128.Idx, (i 0).val < 8 * k1.val → f i = tileOut H I A B i) (Q : BitVec 32 → sProp 𝕄) :
    iprop(Transfers.MayWaits (thr d L) (none : HIx 1) O
      ∗ (hV.view.loc (thr d L) ↦{q} H) ∗ (idxS.view.loc (thr d L) ↦{fullShare} I)
      ∗ (rowS.view.loc (thr d L) ↦{fullShare} R) ∗ (scaS.view.loc (thr d L) ↦{fullShare} A)
      ∗ (shiS.view.loc (thr d L) ↦{fullShare} B) ∗ (outS.view.loc (thr d L) ↦{fullShare} f)
      ∗ semVal (thr d L, SemLoc.dma cc0_scratch5.sem) 0 ∗ owes (thr d L) O W
      ∗ ((∃ R' f' W', ⌜∀ i : S256x128.Idx, (i 0).val < 8 * (k1.val + 1) → f' i = tileOut H I A B i⌝
          ∗ ⌜∀ p ∈ W', p ∈ W ∨ p.2 = none⌝
          ∗ (hV.view.loc (thr d L) ↦{q} H) ∗ (idxS.view.loc (thr d L) ↦{fullShare} I)
          ∗ (rowS.view.loc (thr d L) ↦{fullShare} R') ∗ (scaS.view.loc (thr d L) ↦{fullShare} A)
          ∗ (shiS.view.loc (thr d L) ↦{fullShare} B) ∗ (outS.view.loc (thr d L) ↦{fullShare} f')
          ∗ semVal (thr d L, SemLoc.dma cc0_scratch5.sem) 0 ∗ owes (thr d L) O W') -∗ Q 0#32))
      ⊢ wp frame (wpE (defs₀ (F := F)) 𝒱₀ (thr d L) none) Set.univ
          (k0_t1_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc0_scratch5 cc0_scoped0 cc0_scoped1 cc0_scoped2 cc0_scoped3 k1 y) Q := by
  have hin : ∀ x, ((listK k1).view.read (Elt F) I x).toNat < S32768x128.size (gathers_S32768x128_S128x128).axis := fun x => by
    rw [list_read]; exact hI _
  iintro ⟨#Hmw, HH, HI, HR, HA, HB, HO, Hsem, Howe, HQ⟩
  unfold k0_t1_body
  have hN : ∀ h : S32768x128.Gathers 0 S128x128, ∑ j, (rowS.slice (S128x128.rowRect h.axis' j) (S128x128.stride_rowRect h.axis' j)).view.dmaCredit
      = rowS.view.dmaCredit := by decide
  iapply (SparseCore.wp_gatherFromWhole countersEmb 𝒱₀ (thr d L) none (hg := gathers_S32768x128_S128x128) (default : HIx 1)
      rowS.view.dmaCredit (hN _) (by decide) hin) $$ [HH HR HI Hsem]
  · iframe HH HR HI Hsem
  iintro Hfl
  sl_exec
  iapply (Transfers.wp_waitLocalO countersEmb 𝒱₀ (thr d L) none (default : HIx 1) (rfl : rowS.view.dmaCredit = _)) $$ [Hfl Howe]
  · iframe Hfl Howe
    iapply (Transfers.MayWaits.elim (SemLoc.dma cc0_scratch5.sem)) $$ Hmw
  iintro ⟨⟨HR, HH, HI⟩, Hsem, Howe⟩
  have hR : ∀ a b, a < 128 → View.write (Elt F) rowS.view R (SparseCore.gatherPayload gathers_S32768x128_S128x128 ((hAll).view.read (Elt F) H)
        (SparseCore.rows ((listK k1).view.read (Elt F) I) rfl hin)) Finset.univ (ixR a b)
      = H (ixH (I (ixI (128 * k1.val + a))).toNat b) := fun a b ha => by
    refine (congrFun (View.write_whole_univ (Val := Elt F) cc0_scratch1 R _) _).trans ?_
    exact gather_apply k1 H I hin a b ha
  generalize View.write (Elt F) rowS.view R (SparseCore.gatherPayload gathers_S32768x128_S128x128 ((hAll).view.read (Elt F) H)
        (SparseCore.rows ((listK k1).view.read (Elt F) I) rfl hin)) Finset.univ = R' at hR
  sl_exec
  sl_for (fun (t : ℕ) (_ : BitVec 32) => iprop(∃ f', ⌜∀ i : S256x128.Idx, (i 0).val < 8 * k1.val + t → f' i = tileOut H I A B i⌝
      ∗ (rowS.view.loc (thr d L) ↦{fullShare} R') ∗ (scaS.view.loc (thr d L) ↦{fullShare} A)
      ∗ (shiS.view.loc (thr d L) ↦{fullShare} B) ∗ (outS.view.loc (thr d L) ↦{fullShare} f'))) $$ [HR HA HB HO]
  case region =>
    intro k2 acc
    iintro ⟨%f', %hf', HR, HA, HB, HO⟩
    iapply (trip d L k1 k2 _ acc R' A B f')
    iframe HR HA HB HO
    iintro ⟨%f'', %hf'', HR, HA, HB, HO⟩
    iexists f''
    isplitr
    · ipureintro
      intro i hi
      rw [hf'' i]
      split
      · next h0 =>
        have hk2 : k2.val < 8 := Nat.lt_of_lt_of_le k2.isLt k0_t2_abs.2.1
        refine act_congr (fun r hr => ?_)
        rw [hR _ _ (by omega)]
        exact congrArg (fun n => H (ixH (I (ixI n)).toNat (i 1).val)) (by omega)
      · next h0 => exact hf' i (by omega)
    iframe HR HA HB HO
  · iexists f
    isplitr
    · ipureintro; exact hf
    iframe HR HA HB HO
  iintro %_ ⟨%f', %hf', HR, HA, HB, HO⟩
  sl_step
  iapply HQ
  iexists R', f', _
  isplitr
  · ipureintro
    intro i hi
    exact hf' i (by have : Scf.trips k0_t2_loop.lb k0_t2_loop.ub k0_t2_loop.st = 8 := by decide
                    omega)
  isplitr
  swap
  · iframe HH HI HR HA HB HO Hsem Howe
  ipureintro; intro p hp
  rcases Finset.mem_insert.mp hp with hp | hp; · exact .inr (hp ▸ rfl)
  exact .inl hp

abbrev oBlkK : Memref sig .scVector .hbm S256x128 .f32 :=
  oV.slice (Rect.unit (s := S8192x128) (k0_off27 L) S256x128.size (k0_off27_inb L)) (fun _ => rfl)
abbrev jBlkK : Memref sig .scVector .hbm S4096 .i32 :=
  jV.slice (Rect.unit (s := S131072) (k0_off1 L) S4096.size (k0_off1_inb L)) (fun _ => rfl)

abbrev wL (L : grid0.Coords) : Fin 32 := wOf (L 0) (L 1)

omit [FloatOps F] in
theorem oBlkK_set : (oBlkK L).view.set = oBlkSet (wL L) := by
  have e : Rect.unit (s := S8192x128) (k0_off27 L) S256x128.size (k0_off27_inb L) = oBlk (wL L) := by
    unfold oBlk Rect.part Rect.block
    congr 1 <;> funext a
    · rw [k0_off27_eq]
      match a with
      | 0 => simp [Shape.partIx, Shape.partSize, wOf]; omega
      | 1 => simp [Shape.partIx, Shape.partSize]
    · match a with
      | 0 => simp [Shape.partSize]
      | 1 => simp [Shape.partSize]
  show (oV.view.slice (Rect.unit (s := S8192x128) (k0_off27 L) S256x128.size (k0_off27_inb L))).set = (oV.view.slice (oBlk (wL L))).set
  exact e ▸ rfl

abbrev cell (s : DmaSems sig S_) (d : Dev nD) (L : grid0.Coords) : GSem nD τ sig := (thr d L, .dma s.sem)

omit [FloatOps F] in
theorem ownSems0_V :
    (ownSems0 (thr d L) : sProp 𝕄)
      = iprop(semVal (cell cc0_scratch5 d L) 0 ∗ semVal (cell cc0_scoped0 d L) 0 ∗ semVal (cell cc0_scoped1 d L) 0
          ∗ semVal (cell cc0_scoped2 d L) 0 ∗ semVal (cell cc0_scoped3 d L) 0
          ∗ bigSep ((((((ownCells (thr d L)).erase (cell cc0_scratch5 d L)).erase (cell cc0_scoped0 d L)).erase (cell cc0_scoped1 d L)).erase
              (cell cc0_scoped2 d L)).erase (cell cc0_scoped3 d L)) fun g => semVal g 0) := by
  have hm : ∀ s : DmaSems sig S_, (SemLoc.dma s.sem : SemLoc sig).isScoped .scVector = true → cell s d L ∈ ownCells (thr d L) :=
    fun s h => mem_ownCells.mpr ⟨rfl, h⟩
  have hi : Function.Injective fun s : SemLoc sig => ((thr d L, s) : GSem nD τ sig) := fun _ _ e => (Prod.ext_iff.mp e).2
  refine bigSep_five ?_ ?_
  · simp only [List.forall_mem_cons]
    exact ⟨hm _ (by decide), hm _ (by decide), hm _ (by decide), hm _ (by decide), hm _ (by decide), fun _ h => absurd h List.not_mem_nil⟩
  · exact (List.nodup_map_iff hi (l := [.dma cc0_scoped3.sem, .dma cc0_scoped2.sem, .dma cc0_scoped1.sem, .dma cc0_scoped0.sem,
      .dma cc0_scratch5.sem])).mpr (by decide)

abbrev ref (b : Ref sig .scVector) (L : grid0.Coords) : DevRef τ sig := (Proc.scVector (cT L) (sT L)).devRef b

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cT L) (sT L))).erase (ref cc0_scratch0 L)).erase (ref cc0_scratch1 L)).erase (ref cc0_scratch2 L)).erase
              (ref cc0_scratch3 L)).erase (ref cc0_scratch4 L)) fun b => iprop(∃ f, ((d, b) : Loc nD τ sig) ↦{fullShare} f)) := by
  have hm := fun b : Ref sig .scVector => SparseCore.Cfg.mem_ownRefs_of_owner (p := Proc.scVector (cT L) (sT L)) (b := ref b L)
  refine bigSep_five ?_ ?_
  · simp only [List.forall_mem_cons]
    exact ⟨hm _ rfl, hm _ rfl, hm _ rfl, hm _ rfl, hm _ rfl, fun _ h => absurd h List.not_mem_nil⟩
  · exact (List.nodup_map_iff (Proc.devRef_injective _) (l := [cc0_scratch4, cc0_scratch3, cc0_scratch2, cc0_scratch1,
      cc0_scratch0])).mpr (by decide)

omit [FloatOps F] in
/-- What the fetch of a tile's list reads: entry `x` is entry `4096 w + x` of the whole list. -/
theorem list_fetch (J : S131072.Idx → BitVec 32) (x : S4096.Idx) :
    (jBlkK L).view.read (Elt F) J x = J (ixJ (4096 * (wL L).val + (x 0).val)) := by
  refine (View.read_apply _ _).trans ((cast_eq _ _).trans (congrArg J ?_))
  have h := k0_off1_inb L 0
  have e := congrFun (k0_off1_eq L) 0
  have h2 := (x 0).isLt
  simp [S4096, S131072] at h h2 e
  funext a
  fin_cases a
  refine Fin.ext ?_
  show k0_off1 L 0 + 1 * (x 0).val = (4096 * (2 * (L 1).val + (L 0).val) + (x 0).val) % 131072
  omega

abbrev hPts (H : (d : Dev nD) → Buf (Elt F) (hLoc d)) (d : Dev nD) (w : Fin 32) : sProp 𝕄 := hLoc d ↦{sh w} H d
abbrev jPts (J : (d : Dev nD) → Buf (Elt F) (jLoc d)) (d : Dev nD) (w : Fin 32) : sProp 𝕄 := jLoc d ↦{sh w} J d
abbrev aPts (A : (d : Dev nD) → Buf (Elt F) (aLoc d)) (d : Dev nD) (w : Fin 32) : sProp 𝕄 := aLoc d ↦{sh w} A d
abbrev bPts (B : (d : Dev nD) → Buf (Elt F) (bLoc d)) (d : Dev nD) (w : Fin 32) : sProp 𝕄 := bLoc d ↦{sh w} B d
abbrev oPts (o : (d : Dev nD) → Buf (Elt F) (oLoc d)) (d : Dev nD) (w : Fin 32) : sProp 𝕄 := oLoc d ↦[oBlkSet w]{fullShare} o d

/-- The list tile `(i, j)` works from: its 4096 entries of the whole list. -/
def listOf (J : (d : Dev nD) → Buf (Elt F) (jLoc d)) (d : Dev nD) (L : grid0.Coords) : Buf (Elt F) (idxS.view.loc (thr d L)) :=
  fun x : S4096.Idx => J d (ixJ (4096 * (wL L).val + (x 0).val))

/-- The block written out holds the pooled rows: what the tile leaves at row `i` of its block is what the whole result
    is to hold at row `256 w + i`. -/
theorem block_out (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (f : S256x128.Idx → F .f32) (hf : ∀ i, f i = tileOut (H d) (listOf J d L) (A d) (B d) i) (y : S8192x128.Idx)
    (hy : y ∈ (oBlkK L).view.set) :
    (oBlkK L).view.writes (Elt F) (o d) [⟨Rect.whole S256x128, f⟩] y = poolOut (H d) (J d) (A d) (B d) y := by
  obtain ⟨x, -, rfl⟩ := Finset.mem_map.mp hy
  have h := congrFun (View.read_writes_whole (oBlkK L).view (o d) f) x
  refine ((View.read_apply _ _).trans (cast_eq _ _)).symm.trans (h.trans ((hf x).trans ?_))
  have hb := k0_off27_inb L 0
  have e0 := congrFun (k0_off27_eq L) 0
  have e1 := congrFun (k0_off27_eq L) 1
  have hx0 := (x 0).isLt
  have hx1 := (x 1).isLt
  simp [S256x128, S8192x128] at hb e0 e1 hx0 hx1
  have y0 : ((oBlkK L).view.emb x 0).val = 256 * (wL L).val + (x 0).val := by
    show k0_off27 L 0 + 1 * (x 0).val = 256 * (2 * (L 1).val + (L 0).val) + (x 0).val
    omega
  have y1 : ((oBlkK L).view.emb x 1).val = (x 1).val := by
    show k0_off27 L 1 + 1 * (x 1).val = (x 1).val
    omega
  exact tileOut_eq (H d) (J d) (A d) (B d) (wL L) x _ y0 y1

set_option maxHeartbeats 4000000 in
/-- The task of one tile: it fetches its list, the scale and the shift, gathers and pools thirty-two rounds of eight
    rows, and writes its block of the result. -/
theorem tile_body (hF : (K (F := F)).Facts) (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (hJ : ∀ d, ∀ x : S131072.Idx, (show BitVec 32 from J d x).toNat < 32768)
    (O : CellTallies nD τ sig (HIx 1)) (W : Waits sig (HIx 1)) (hO : ∀ g, O g none = 0) :
    iprop(levAts (K (F := F)).L (K (F := F)).lev ∗ emp
        ∗ (hPts H d (wL L) ∗ jPts J d (wL L) ∗ aPts A d (wL L) ∗ bPts B d (wL L) ∗ oPts o d (wL L))
        ∗ scopedBufs (thr d L) ∗ scopedSems0 (thr d L) ∗ owes (thr d L) O W)
      ⊢ wp frame (wpE (defs₀ (F := F)) 𝒱₀ (thr d L) none) Set.univ
          (cc0__sc_pool_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc0_scratch5 cc0_scoped0 cc0_scoped1 cc0_scoped2 cc0_scoped3)
          fun _ => iprop((hPts H d (wL L) ∗ jPts J d (wL L) ∗ aPts A d (wL L) ∗ bPts B d (wL L) ∗ oPts (fun d => poolOut (H d) (J d) (A d) (B d)) d (wL L))
            ∗ scopedBufs (thr d L) ∗ scopedSems0 (thr d L)
            ∗ ∃ W', ⌜∀ p ∈ W', p ∈ W ∨ p.2 = none⌝ ∗ owes (thr d L) O W') := by
  simp only [cc0__sc_pool_body_eq_skeleton]; unfold cc0__sc_pool_body_skel
  rw [(K (F := F)).scopedBufs_V hF d (cT L) (sT L), SparseCore.Cfg.scopedSems0_V (Val := Elt F) d (cT L) (sT L), ownSems0_V, ownBufs_V]
  iintro ⟨#Hlv, -, ⟨Hh, Hj, Ha, Hb, Ho⟩, ⟨⟨%f0, H0⟩, ⟨%f1, H1⟩, ⟨%f2, H2⟩, ⟨%f3, H3⟩, ⟨%f4, H4⟩, Hbufs⟩, ⟨Hg, Hs0, Hs1, Hs2, Hs3, Hsems⟩, HO⟩
  ihave #Hmw := (show levAts (K (F := F)).L (K (F := F)).lev ⊢ Transfers.MayWaits (thr d L) (default : HIx 1) O from
    (K (F := F)).mayWaits_none (thr := thr d L) hO) $$ Hlv
  ihave Hh' := (show hPts H d (wL L) ⊢ hV.view.loc (thr d L) ↦{sh (wL L)} H d from Entails.of_eq rfl) $$ Hh
  ihave Hj' := (show jPts J d (wL L) ⊢ jV.view.loc (thr d L) ↦{sh (wL L)} J d from Entails.of_eq rfl) $$ Hj
  ihave Ha' := (show aPts A d (wL L) ⊢ aV.view.loc (thr d L) ↦{sh (wL L)} A d from Entails.of_eq rfl) $$ Ha
  ihave Hb' := (show bPts B d (wL L) ⊢ bV.view.loc (thr d L) ↦{sh (wL L)} B d from Entails.of_eq rfl) $$ Hb
  ihave Ho' := (show oPts o d (wL L) ⊢ (oBlkK L).view.loc (thr d L) ↦[(oBlkK L).view.set]{fullShare} o d from
    Entails.of_eq (by rw [oBlkK_set])) $$ Ho
  ihave H0' := (show ((thr d L).loc cc0_scratch0 ↦{fullShare} f0 : sProp 𝕄) ⊢ idxS.view.loc (thr d L) ↦{fullShare} f0 from Entails.of_eq rfl) $$ H0
  ihave H1' := (show ((thr d L).loc cc0_scratch1 ↦{fullShare} f1 : sProp 𝕄) ⊢ rowS.view.loc (thr d L) ↦{fullShare} f1 from Entails.of_eq rfl) $$ H1
  ihave H2' := (show ((thr d L).loc cc0_scratch2 ↦{fullShare} f2 : sProp 𝕄) ⊢ outS.view.loc (thr d L) ↦{fullShare} f2 from Entails.of_eq rfl) $$ H2
  ihave H3' := (show ((thr d L).loc cc0_scratch3 ↦{fullShare} f3 : sProp 𝕄) ⊢ scaS.view.loc (thr d L) ↦{fullShare} f3 from Entails.of_eq rfl) $$ H3
  ihave H4' := (show ((thr d L).loc cc0_scratch4 ↦{fullShare} f4 : sProp 𝕄) ⊢ shiS.view.loc (thr d L) ↦{fullShare} f4 from Entails.of_eq rfl) $$ H4
  sl_exec
  have eI : View.write (Elt F) idxS.view f0 ((jBlkK L).view.read (Elt F) (J d)) Finset.univ
      = listOf J d L := by
    refine (View.write_whole_univ _ _ _).trans ?_
    funext x
    exact list_fetch L (J d) x
  have eA : View.write (Elt F) scaS.view f3 (aV.view.read (Elt F) (A d)) Finset.univ = A d :=
    View.write_whole_univ _ _ _
  have eB : View.write (Elt F) shiS.view f4 (bV.view.read (Elt F) (B d)) Finset.univ = B d :=
    View.write_whole_univ _ _ _
  sl_unfold_run_names
  rw [eI, eA, eB]
  sl_for (fun (t : ℕ) (_ : BitVec 32) => iprop(∃ (R' : Buf (Elt F) (rowS.view.loc (thr d L)))
        (f' : Buf (Elt F) (outS.view.loc (thr d L))) (W' : Waits sig (HIx 1)),
      ⌜∀ i : S256x128.Idx, (i 0).val < 8 * t → f' i = tileOut (H d) (listOf J d L) (A d) (B d) i⌝
      ∗ ⌜∀ p ∈ W', p ∈ W ∨ p.2 = none⌝
      ∗ Transfers.MayWaits (thr d L) (none : HIx 1) O
      ∗ (hV.view.loc (thr d L) ↦{sh (wL L)} H d)
      ∗ (idxS.view.loc (thr d L) ↦{fullShare} (listOf J d L))
      ∗ (rowS.view.loc (thr d L) ↦{fullShare} R')
      ∗ (scaS.view.loc (thr d L) ↦{fullShare} A d)
      ∗ (shiS.view.loc (thr d L) ↦{fullShare} B d)
      ∗ (outS.view.loc (thr d L) ↦{fullShare} f')
      ∗ semVal (thr d L, SemLoc.dma cc0_scratch5.sem) 0
      ∗ owes (thr d L) O W')) $$ [Hh' H0' H1' H3' H4' H2' Hg HO]
  case region =>
    iintro %k %acc ⟨%R', %f', %W', %hf, %hW, #Hmw, Hh, HI, HR, HA, HB, Hf, Hs, Howe⟩
    iapply (round d L k acc (sh (wL L)) O W' (H d) (listOf J d L) R' (A d) (B d) f' (fun x => hJ d _) hf)
      $$ [Hh HI HR HA HB Hf Hs Howe]
    isplitr; · iexact Hmw
    iframe Hh HI HR HA HB Hf Hs Howe
    iintro ⟨%R2, %f2', %W2, %hf2, %hW2, Hh, HI, HR, HA, HB, Hf, Hs, Howe⟩
    iexists R2, f2', W2
    isplitr; · ipureintro; exact hf2
    isplitr; · ipureintro; exact fun p hp => (hW2 p hp).elim (hW p) Or.inr
    isplitr; · iexact Hmw
    iframe Hh HI HR HA HB Hf Hs Howe
  · iexists f1, f2, _
    isplitr; · ipureintro; exact fun i hi => absurd hi (by omega)
    isplitr
    rotate_left
    · isplitr; · iexact Hmw
      iframe Hh' H0' H1' H3' H4' H2' Hg HO
    · ipureintro; intro p hp
      simp only [Finset.mem_insert] at hp
      rcases hp with h | h | h | h
      · exact Or.inr (h ▸ rfl)
      · exact Or.inr (h ▸ rfl)
      · exact Or.inr (h ▸ rfl)
      · exact Or.inl h
  iintro %acc ⟨%R', %f', %W', %hf, %hW, -, Hh, HI, HR, HA, HB, Hf, Hs, Howe⟩
  sl_exec
  sl_unfold_run_names
  have hout := block_out d L H J A B o f' (fun i => hf i (by
    have h1 : Scf.trips k0_t1_loop.lb k0_t1_loop.ub k0_t1_loop.st = 32 := by decide
    have := (i 0).isLt
    simp [S256x128] at this
    omega))
  sl_step
  isplitl [Hh Hj' Ha' Hb' Ho']
  · iframe Hh Hj' Ha' Hb'
    iapply (Entails.of_eq (show ((oBlkK L).view.loc (thr d L) ↦[(oBlkK L).view.set]{fullShare}
        (oBlkK L).view.writes (Elt F) (o d) [⟨Rect.whole S256x128, f'⟩] : sProp 𝕄)
        = oPts (fun d => poolOut (H d) (J d) (A d) (B d)) d (wL L) from
      (pointsTo_congr hout).trans (by rw [oBlkK_set])))
    iexact Ho'
  isplitl [HI HR HA HB Hf Hbufs]
  · isplitl [HI]; · iexists _; iexact HI
    isplitl [HR]; · iexists _; iexact HR
    isplitl [Hf]; · iexists _; iexact Hf
    isplitl [HA]; · iexists _; iexact HA
    isplitl [HB]; · iexists _; iexact HB
    iexact Hbufs
  isplitl [Hs Hs0 Hs1 Hs2 Hs3 Hsems]
  · iframe Hs Hs0 Hs1 Hs2 Hs3 Hsems
  iexists _; isplitr
  swap; · iexact Howe
  ipureintro; intro p hp
  rcases Finset.mem_insert.mp hp with hp | hp
  · exact .inr (hp ▸ rfl)
  · exact hW p hp

end

variable (H : (d : Dev nD) → Buf (Elt F) (hLoc d)) (J : (d : Dev nD) → Buf (Elt F) (jLoc d))
  (A : (d : Dev nD) → Buf (Elt F) (aLoc d)) (B : (d : Dev nD) → Buf (Elt F) (bLoc d)) (o : (d : Dev nD) → Buf (Elt F) (oLoc d))

/-! ## The launch: what the tiles are handed and what it takes back -/

/-- What tile `w` is handed, and (with the result's contents for `o`) what it hands back: a share of the table, of the
    list, of the scale and of the shift, and its own block of the result. -/
abbrev part (d : Dev nD) (w : Fin 32) : sProp 𝕄 :=
  iprop(hPts H d w ∗ jPts J d w ∗ aPts A d w ∗ bPts B d w ∗ oPts o d w)

/-- The result of the call on every device. -/
abbrev res (d : Dev nD) : Buf (Elt F) (oLoc d) := poolOut (H d) (J d) (A d) (B d)

/-- The tile of a core and a task of the call's grid. -/
abbrev wK (c : Fin ((K (F := F)).nCore 0)) (i : Fin ((K (F := F)).nSub 0)) : Fin 32 :=
  wOf (Fin.cast nCore_zero c) (Fin.cast nSub_zero i)

/-- What a core's sixteen tiles are handed. -/
abbrev parts (d : Dev nD) (c : Fin ((K (F := F)).nCore 0)) : sProp 𝕄 :=
  bigSep Finset.univ fun i : Fin ((K (F := F)).nSub 0) => part H J A B o d (wK c i)

/-- The call's payloads: a core is handed its sixteen tiles' parts, a tile its own. -/
def P : (K (F := F)).Pay (nD := nD) (Val := Elt F) (Name := ℕ) (U := UU) where
  st := fun q d c => match q with | 0 => parts H J A B o d c
  dn := fun q d c => match q with | 0 => parts H J A B (res H J A B) d c
  go := fun q d c i => match q with | 0 => part H J A B o d (wK c i)
  td := fun q d c i => match q with | 0 => part H J A B (res H J A B) d (wK c i)
  x := fun _ _ => iprop(emp)

instance P_storable : (P H J A B o).IsStorable where
  st q d c := match q with | 0 => inferInstanceAs (BI.Storable (upEmb : UEmb _ 𝕄) (parts H J A B o d c))
  dn q d c := match q with | 0 => inferInstanceAs (BI.Storable (upEmb : UEmb _ 𝕄) (parts H J A B (res H J A B) d c))
  go q d c i := match q with | 0 => inferInstanceAs (BI.Storable (upEmb : UEmb _ 𝕄) (part H J A B o d (wK c i)))
  td q d c i := match q with | 0 => inferInstanceAs (BI.Storable (upEmb : UEmb _ 𝕄) (part H J A B (res H J A B) d (wK c i)))

/-! ## The tasks' obligation and the split of a core's payload -/

/-- The place on the grid of a core and a subcore. -/
def place (c : Fin (grid0.bound 0)) (s : Fin (grid0.bound 1)) : grid0.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 0 ()
      = SparseCore.onTile hcore0 hsub0 (fun c s => cc0__sc_pool_body (place c s)
          hV (isWhole_whole _) jV (isWhole_whole _) aV (isWhole_whole _) bV (isWhole_whole _)
          oV (isWhole_whole _) idxS (isWhole_whole _) rowS (isWhole_whole _) outS (isWhole_whole _)
          scaS (isWhole_whole _) shiS (isWhole_whole _) cc0_scratch5 cc0_scoped0 cc0_scoped1 cc0_scoped2 cc0_scoped3) ⟨⟩ c s := rfl

theorem tileObl (hJ : ∀ d, ∀ x : S131072.Idx, (show BitVec 32 from J d x).toNat < 32768) :
    (K (F := F)).TileObl (D (F := F)) 𝒱 (P H J A B o) v₀ 0 := by
  intro d c i O W hO _ _
  simp only [show (P H J A B o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body d (place ⟨_, hci.1⟩ ⟨_, hci.2⟩) facts H J A B o hJ O W hO).trans (wp_mono frame _ _ fun _ => waits_weaken)

theorem vecSplit : (K (F := F)).VecSplit' (P H J A B o) 0 := by
  intro d c
  show parts H J A B o d c ⊢ |={Set.univ}=> iprop(parts H J A B o d c
      ∗ (parts H J A B (res H J A B) d c -∗ parts H J A B (res H J A B) d c))
  iintro Hp; imodintro
  isplitl [Hp]; · iexact Hp
  iintro Hq; iexact Hq

/-! ## The whole buffers, dealt to the tiles and gathered again -/

omit [FloatOps F] in
theorem oBlkSet_eq (w : Fin 32) : oBlkSet w = (oBlk w).set := by
  show ((View.whole (main_v1_scv : Ref sig .scVector)).slice (oBlk w)).set = _
  rw [View.set_slice]; exact Finset.map_refl

omit [FloatOps F] in
theorem oPts_blocks (d : Dev nD) (f : Buf (Elt F) (oLoc d)) :
    (oLoc d ↦{fullShare} f : sProp 𝕄) = bigSep Finset.univ fun w : Fin 32 => oLoc d ↦[oBlkSet w]{fullShare} f := by
  have hd : ∀ i ∈ (Finset.univ : Finset (Fin 32)), ∀ j ∈ (Finset.univ : Finset (Fin 32)), i ≠ j → Disjoint (oBlkSet i) (oBlkSet j) :=
    fun i _ j _ h => by rw [oBlkSet_eq, oBlkSet_eq]; exact Rect.part_disjoint odiv h
  have hc : (Finset.univ : Finset (Fin 32)).biUnion oBlkSet = Finset.univ :=
    (Finset.biUnion_congr rfl fun i _ => oBlkSet_eq i).trans (Rect.biUnion_part odiv)
  rw [← pointsTo_biUnion Finset.univ (ℓ := oLoc d) oBlkSet hd, hc]; try rfl

/-- The five buffers whole are the tiles' parts. -/
theorem whole_eq (o' : (d : Dev nD) → Buf (Elt F) (oLoc d)) (d : Dev nD) :
    (iprop((hLoc d ↦{fullShare} H d) ∗ (jLoc d ↦{fullShare} J d) ∗ (aLoc d ↦{fullShare} A d) ∗ (bLoc d ↦{fullShare} B d)
        ∗ (oLoc d ↦{fullShare} o' d)) : sProp 𝕄)
      = bigSep Finset.univ fun c => parts H J A B o' d c := by
  refine Eq.trans ?_ (bigSep_tiles fun w => part H J A B o' d w)
  rw [bigSep_sep', bigSep_sep', bigSep_sep', bigSep_sep', oPts_blocks,
    pointsTo_piecesOf (ℓ := hLoc d) Finset.univ (H d) (o := 32) (by decide) fullShare,
    pointsTo_piecesOf (ℓ := jLoc d) Finset.univ (J d) (o := 32) (by decide) fullShare,
    pointsTo_piecesOf (ℓ := aLoc d) Finset.univ (A d) (o := 32) (by decide) fullShare,
    pointsTo_piecesOf (ℓ := bLoc d) Finset.univ (B d) (o := 32) (by decide) fullShare]

/-! ## The ghost state the launch starts from -/

omit [FloatOps F] in
theorem emp_all {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P H J A B o).x q thr) := by
  unfold u₀
  iintro Hu
  ihave Hp := (ownU_pair (initOf (K (F := F)).hsCells (K (F := F)).hsToks) (1 : Counters)) $$ Hu
  icases Hp with ⟨HH, -⟩
  imodintro
  isplitl [HH]; · iexact HH
  isplitr; · rw [emp_all]; iempintro
  rw [show (bigSep Finset.univ fun thr : Thread nD τ => bigSep Finset.univ fun q : Fin 1 => (P H J A B o).x q thr) = bigSep Finset.univ fun _ => iprop(emp) from
    bigSep_congr fun _ _ => bigSep_univ_of_subsingleton (0 : Fin 1), emp_all]
  iempintro

end Cert.Proof.Pool

end
-- ==== Proof.Pool.Main.lean ====
module

public import proofs.«01_k».proof.Proof.Pool.Tile

@[expose] public section

set_option maxRecDepth 16384

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's part -/

abbrev iLoc (d : Dev nD) : Loc nD τ sig := (SparseCore.T d).loc main_arg1
abbrev rLoc (d : Dev nD) : Loc nD τ sig := (SparseCore.T d).loc main_v2

abbrev h' : DevRef τ sig := Proc.devRef .tc main_arg0
abbrev i' : DevRef τ sig := Proc.devRef .tc main_arg1
abbrev a' : DevRef τ sig := Proc.devRef .tc main_arg2
abbrev b' : DevRef τ sig := Proc.devRef .tc main_arg3
abbrev j' : DevRef τ sig := Proc.devRef .tc main_v0
abbrev o' : DevRef τ sig := Proc.devRef .tc main_v1
abbrev r' : DevRef τ sig := Proc.devRef .tc main_v2

/-- The flattening of the index array, and the last reshape. -/
abbrev opFlat : HloOp τ sig (Elt F) := StableHlo.reshape main_arg1 main_v0 (rfl : (.i32 : EltTy) = .i32) shapeCasts_S4x2048x16_S131072
abbrev opRes : HloOp τ sig (Elt F) := StableHlo.reshape main_v1 main_v2 (rfl : (.f32 : EltTy) = .f32) shapeCasts_S8192x128_S4x2048x128

abbrev all7 : Finset (DevRef τ sig) := {h', i', a', b', j', o', r'}

omit [FloatOps F] in
theorem held_all (d : Dev nD) (W : Valuation τ sig (Elt F)) :
    (held (T d) all7 W : sProp 𝕄)
      = iprop((hLoc d ↦{fullShare} W h') ∗ (iLoc d ↦{fullShare} W i') ∗ (aLoc d ↦{fullShare} W a') ∗ (bLoc d ↦{fullShare} W b')
          ∗ (jLoc d ↦{fullShare} W j') ∗ (oLoc d ↦{fullShare} W o') ∗ rLoc d ↦{fullShare} W r') := by
  unfold held all7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What memory holds at the launch. -/
def V0 (d : Dev nD) : Valuation τ sig (Elt F) := fun b => m (d, b)

theorem unscoped_all (d : Dev nD) : (unscopedBufs d (fun b => m ((SparseCore.T d).loc b)) : sProp 𝕄) = held (T d) all7 (V0 m d) := by
  unfold unscopedBufs
  rw [show (Finset.univ.filter fun b : Ref sig .tc => ¬ b.isScoped)
      = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_all]
  rfl

/-- The flat list of row numbers. -/
def flatIdx (I : S4x2048x16.Idx → BitVec 32) : S131072.Idx → BitVec 32 := shapeCast S131072 I shapeCasts_S4x2048x16_S131072

/-- The arrays the call is run on, and the result of the program. -/
abbrev Hm (d : Dev nD) : Buf (Elt F) (hLoc d) := m (hLoc d)
abbrev Jm (d : Dev nD) : Buf (Elt F) (jLoc d) := flatIdx (m (iLoc d))
abbrev Am (d : Dev nD) : Buf (Elt F) (aLoc d) := m (aLoc d)
abbrev Bm (d : Dev nD) : Buf (Elt F) (bLoc d) := m (bLoc d)
abbrev Om (d : Dev nD) : Buf (Elt F) (oLoc d) := m (oLoc d)
def Rm (d : Dev nD) : Buf (Elt F) (rLoc d) :=
  shapeCast S4x2048x128 (poolOut (m (hLoc d)) (flatIdx (m (iLoc d))) (m (aLoc d)) (m (bLoc d))) shapeCasts_S8192x128_S4x2048x128

abbrev PM : (K (F := F)).Pay (nD := nD) (Val := Elt F) (Name := ℕ) (U := UU) := P (Hm m) (Jm m) (Am m) (Bm m) (Om m)

/-- The valuation after the call. -/
def V2 (d : Dev nD) : Valuation τ sig (Elt F) :=
  Function.update ((opFlat (F := F)).result (V0 m d)) o' (res (Hm m) (Jm m) (Am m) (Bm m) d)

theorem flat_of_ne (d : Dev nD) (b : DevRef τ sig) (hb : b ∉ ({j'} : Finset (DevRef τ sig))) : (opFlat (F := F)).result (V0 m d) b = m (d, b) :=
  (opFlat (F := F)).result_of_not_mem _ hb
theorem flat_j (d : Dev nD) : (opFlat (F := F)).result (V0 m d) j' = Jm m d := StableHlo.reshape_result _ _ _ _ _ _ _

theorem res_of_ne (d : Dev nD) (b : DevRef τ sig) (hb : b ∉ ({r'} : Finset (DevRef τ sig))) : (opRes (F := F)).result (V2 m d) b = V2 m d b :=
  (opRes (F := F)).result_of_not_mem _ hb
theorem V2_o (d : Dev nD) : V2 m d o' = res (Hm m) (Jm m) (Am m) (Bm m) d := Function.update_self _ _ _
theorem V2_of_ne (d : Dev nD) (b : DevRef τ sig) (hb : b ≠ o') : V2 m d b = (opFlat (F := F)).result (V0 m d) b := Function.update_of_ne hb _ _
theorem res_r (d : Dev nD) : (opRes (F := F)).result (V2 m d) r' = Rm m d :=
  (StableHlo.reshape_result _ _ _ _ _ _ _).trans (by rw [V2_o]; rfl)

/-- What the program leaves: the arguments as they were, the result at the pooled features. -/
abbrev FIN (d : Dev nD) : sProp 𝕄 :=
  iprop((hLoc d ↦{fullShare} m (hLoc d)) ∗ (iLoc d ↦{fullShare} m (iLoc d)) ∗ (aLoc d ↦{fullShare} m (aLoc d)) ∗ (bLoc d ↦{fullShare} m (bLoc d))
    ∗ rLoc d ↦{fullShare} Rm m d)

theorem held_flat (d : Dev nD) : (held (T d) all7 ((opFlat (F := F)).result (V0 m d)) : sProp 𝕄)
    = iprop((hLoc d ↦{fullShare} Hm m d) ∗ (iLoc d ↦{fullShare} m (iLoc d)) ∗ (aLoc d ↦{fullShare} Am m d) ∗ (bLoc d ↦{fullShare} Bm m d)
          ∗ (jLoc d ↦{fullShare} Jm m d) ∗ (oLoc d ↦{fullShare} Om m d) ∗ rLoc d ↦{fullShare} m (rLoc d)) := by
  rw [held_all, flat_j, flat_of_ne m d h' (by decide), flat_of_ne m d i' (by decide), flat_of_ne m d a' (by decide),
    flat_of_ne m d b' (by decide), flat_of_ne m d o' (by decide), flat_of_ne m d r' (by decide)]

theorem held_V2 (d : Dev nD) : (held (T d) all7 (V2 m d) : sProp 𝕄)
    = iprop((hLoc d ↦{fullShare} Hm m d) ∗ (iLoc d ↦{fullShare} m (iLoc d)) ∗ (aLoc d ↦{fullShare} Am m d) ∗ (bLoc d ↦{fullShare} Bm m d)
          ∗ (jLoc d ↦{fullShare} Jm m d) ∗ (oLoc d ↦{fullShare} res (Hm m) (Jm m) (Am m) (Bm m) d) ∗ rLoc d ↦{fullShare} m (rLoc d)) := by
  rw [held_all, V2_o, V2_of_ne m d h' (by decide), V2_of_ne m d i' (by decide), V2_of_ne m d a' (by decide),
    V2_of_ne m d b' (by decide), V2_of_ne m d j' (by decide), V2_of_ne m d r' (by decide), flat_j, flat_of_ne m d h' (by decide),
    flat_of_ne m d i' (by decide), flat_of_ne m d a' (by decide), flat_of_ne m d b' (by decide), flat_of_ne m d r' (by decide)]

theorem held_end (d : Dev nD) : (held (T d) all7 ((opRes (F := F)).result (V2 m d)) : sProp 𝕄)
    = iprop((hLoc d ↦{fullShare} m (hLoc d)) ∗ (iLoc d ↦{fullShare} m (iLoc d)) ∗ (aLoc d ↦{fullShare} m (aLoc d)) ∗ (bLoc d ↦{fullShare} m (bLoc d))
          ∗ (jLoc d ↦{fullShare} (opRes (F := F)).result (V2 m d) j') ∗ (oLoc d ↦{fullShare} (opRes (F := F)).result (V2 m d) o')
          ∗ rLoc d ↦{fullShare} Rm m d) := by
  rw [held_all, res_r, res_of_ne m d h' (by decide), res_of_ne m d i' (by decide), res_of_ne m d a' (by decide),
    res_of_ne m d b' (by decide), V2_of_ne m d h' (by decide), V2_of_ne m d i' (by decide), V2_of_ne m d a' (by decide),
    V2_of_ne m d b' (by decide), flat_of_ne m d h' (by decide),
    flat_of_ne m d i' (by decide), flat_of_ne m d a' (by decide), flat_of_ne m d b' (by decide)]

theorem flat_bufs : (opFlat (F := F)).bufs ⊆ all7 := show ({i', j'} : Finset (DevRef τ sig)) ⊆ all7 by decide
theorem res_bufs : (opRes (F := F)).bufs ⊆ all7 := show ({o', r'} : Finset (DevRef τ sig)) ⊆ all7 by decide

/-- What the call is started with and what it hands back are the five buffers whole. -/
theorem st_eq (d : Dev nD) : (bigSep Finset.univ fun c : Fin ((K (F := F)).nCore 0) => (PM m).st 0 d c)
    = iprop((hLoc d ↦{fullShare} Hm m d) ∗ (jLoc d ↦{fullShare} Jm m d) ∗ (aLoc d ↦{fullShare} Am m d) ∗ (bLoc d ↦{fullShare} Bm m d)
        ∗ (oLoc d ↦{fullShare} Om m d)) := (whole_eq (Hm m) (Jm m) (Am m) (Bm m) (Om m) d).symm
theorem dn_eq (d : Dev nD) : (bigSep Finset.univ fun c : Fin ((K (F := F)).nCore 0) => (PM m).dn 0 d c)
    = iprop((hLoc d ↦{fullShare} Hm m d) ∗ (jLoc d ↦{fullShare} Jm m d) ∗ (aLoc d ↦{fullShare} Am m d) ∗ (bLoc d ↦{fullShare} Bm m d)
        ∗ (oLoc d ↦{fullShare} res (Hm m) (Jm m) (Am m) (Bm m) d)) := (whole_eq (Hm m) (Jm m) (Am m) (Bm m) (res (Hm m) (Jm m) (Am m) (Bm m)) d).symm

/-- The program on a device's TensorCore: it flattens the index array, runs the call on the arrays dealt to its tiles,
    and reshapes what they brought back. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_all]
  simp only [main, wp_bind, wp_pure]
  iintro ⟨#Hctx, Hst, ⟨Hb, Hheld, Hts, -⟩, -⟩
  iapply (wp_hlo_within 𝒱 (SparseCore.T d) none Set.univ (op := opFlat) (S := all7) flat_bufs (V := V0 m d)) $$ [Hb Hheld]
  · isplitl [Hb] <;> iassumption
  iintro ⟨Hb, Hheld⟩
  rw [wp_ret]; imodintro
  ihave Hh := (Entails.of_eq (held_flat m d)) $$ Hheld
  icases Hh with ⟨Hh, Hi, Ha, Hbb, Hj, Ho, Hr⟩
  iapply ((K (F := F)).wp_run (D (F := F)) 𝒱 (EH := EH) (P := PM m) κ d 0) $$ [Hst Hh Hi Ha Hbb Hj Ho Hr Hb Hts]
  isplitr; · iexact Hctx
  isplitl [Hst]; · iexact Hst
  isplitl [Hh Hj Ha Hbb Ho]
  · iapply (Entails.of_eq (st_eq m d).symm)
    iframe Hh Hj Ha Hbb Ho
  iintro ⟨Hst, Hdn⟩
  ihave Hdn' := (Entails.of_eq (dn_eq m d)) $$ Hdn
  icases Hdn' with ⟨Hh, Hj, Ha, Hbb, Ho⟩
  iapply (wp_hlo_within 𝒱 (SparseCore.T d) none Set.univ (op := opRes) (S := all7) res_bufs (V := V2 m d)) $$ [Hb Hh Hj Ha Hbb Ho Hi Hr]
  · isplitl [Hb]; · iexact Hb
    rw [held_V2]
    iframe Hh Hi Ha Hbb Hj Ho Hr
  iintro ⟨Hb, Hheld⟩
  ihave Hh := (Entails.of_eq (held_end m d)) $$ Hheld
  icases Hh with ⟨Hh, Hi, Ha, Hbb, -, -, Hr⟩
  rw [wp_ret]; imodintro; imodintro
  isplitl [Hst]; · iexact Hst
  isplitr [Hb Hts]
  · iframe Hh Hi Ha Hbb Hr
  isplitl [Hb] <;> iassumption

/-! ## The run -/

/-- What is read off the final state of device `d`. -/
def fq (d : Dev nD) (s' : Phys nD τ sig (Elt F)) : Prop :=
  s'.mem.mem (rLoc d) = Rm m d ∧ s'.mem.mem (hLoc d) = m (hLoc d) ∧ s'.mem.mem (iLoc d) = m (iLoc d)
    ∧ s'.mem.mem (aLoc d) = m (aLoc d) ∧ s'.mem.mem (bLoc d) = m (bLoc d)

omit [FloatOps F] in
/-- A buffer held whole is what the state's memory holds there. -/
theorem read_whole (s' : Phys nD τ sig (Elt F)) (ℓ : Loc nD τ sig) (f : Buf (Elt F) ℓ) (X : sProp 𝕄) :
    iprop((ℓ ↦{fullShare} f) ∗ X ∗ SI s') ⊢ (iprop(⌜s'.mem.mem ℓ = f⌝ ∗ X ∗ SI s') : sProp 𝕄) := by
  iintro ⟨Hp, HX, HSI⟩
  ihave Hq := (persistent_entails_right (SI_pointsTo_agree (st := s') (ℓ := ℓ) (I := Finset.univ) (q := fullShare) (f := f))) $$ [HSI Hp]
  · isplitl [HSI] <;> iassumption
  icases Hq with ⟨%hq, HSI, -⟩
  isplitr; · ipureintro; exact funext fun i => hq i (Finset.mem_univ i)
  isplitl [HX] <;> iassumption

theorem hfin (d : Dev nD) (s' : Phys nD τ sig (Elt F)) : iprop(FIN m d ∗ SI s') ⊢ (⌜fq m d s'⌝ : sProp 𝕄) := by
  iintro ⟨⟨Hh, Hi, Ha, Hb, Hr⟩, HSI⟩
  ihave H1 := (read_whole s' (hLoc d) _ iprop(emp)) $$ [Hh HSI]
  · isplitl [Hh]; · iexact Hh
    isplitr; · iempintro
    iexact HSI
  icases H1 with ⟨%h1, -, HSI⟩
  ihave H1 := (read_whole s' (iLoc d) _ iprop(emp)) $$ [Hi HSI]
  · isplitl [Hi]; · iexact Hi
    isplitr; · iempintro
    iexact HSI
  icases H1 with ⟨%h2, -, HSI⟩
  ihave H1 := (read_whole s' (aLoc d) _ iprop(emp)) $$ [Ha HSI]
  · isplitl [Ha]; · iexact Ha
    isplitr; · iempintro
    iexact HSI
  icases H1 with ⟨%h3, -, HSI⟩
  ihave H1 := (read_whole s' (bLoc d) _ iprop(emp)) $$ [Hb HSI]
  · isplitl [Hb]; · iexact Hb
    isplitr; · iempintro
    iexact HSI
  icases H1 with ⟨%h4, -, HSI⟩
  ihave H1 := (read_whole s' (rLoc d) _ iprop(emp)) $$ [Hr HSI]
  · isplitl [Hr]; · iexact Hr
    isplitr; · iempintro
    iexact HSI
  icases H1 with ⟨%h5, -, -⟩
  ipureintro; exact ⟨h5, h1, h2, h3, h4⟩

/-- What the whole machine is left with: every device as `fq` says, every semaphore at zero. -/
def QC : PUnit × MemSt nD τ sig (Elt F) → Prop := fun r =>
  (∀ d : Dev nD, r.2.mem (rLoc d) = Rm m d ∧ r.2.mem (hLoc d) = m (hLoc d) ∧ r.2.mem (iLoc d) = m (iLoc d)
    ∧ r.2.mem (aLoc d) = m (aLoc d) ∧ r.2.mem (bLoc d) = m (bLoc d)) ∧ r.2.sem = fun _ => 0

/-- Every run of the program from a launch memory whose indices name rows of the table ends, with the result at the pooled
    features and everything else the claims speak of unchanged. -/
theorem run_main [∀ e, Nonempty (Elt F e)] (hJ : ∀ d, ∀ x : S131072.Idx, (flatIdx (m (iLoc d)) x).toNat < 32768) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ hJ)
    (fun q _ => match q with | 0 => SparseCore.Cfg.VecSplit.of_plain (vecSplit _ _ _ _ _))
    m ρ main (fun _ => iprop(emp)) (FIN m) (u₀ (F := F)) (sep_elim_left.trans (hu₀ _ _ _ _ _)) (hmain m ρ) (fq m) (hfin m) (QC m) (fun _ h hz => ⟨h, hz⟩)

/-! ## The pooled value at extended reals -/

/-- The running maximum bounds each of its terms. -/
theorem le_maxUpTo (f : ℕ → Ideal .f32) : ∀ n r, r ≤ n → f r ≤ maxUpTo f n
  | 0, r, h => by obtain rfl : r = 0 := by omega
                  exact le_refl (f 0)
  | n + 1, r, h => by
    show f r ≤ max (maxUpTo f n) (f (n + 1))
    rcases Nat.lt_or_ge n r with hr | hr
    · obtain rfl : r = n + 1 := by omega
      exact le_max_right _ _
    · exact (le_maxUpTo f n r hr).trans (le_max_left _ _)

/-- The running maximum is one of its terms. -/
theorem maxUpTo_mem (f : ℕ → Ideal .f32) : ∀ n, ∃ r, r ≤ n ∧ maxUpTo f n = f r
  | 0 => ⟨0, le_refl 0, rfl⟩
  | n + 1 => by
    obtain ⟨r, hr, e⟩ := maxUpTo_mem f n
    rcases max_choice (maxUpTo f n) (f (n + 1)) with h | h
    · exact ⟨r, by omega, h.trans e⟩
    · exact ⟨n + 1, le_refl _, h⟩

/-- The batch-normalised and rectified feature `x`. -/
def relu1 (a b x : EReal) : EReal := max (x * a + b) 0

/-- With a non-negative scale, normalising and rectifying preserve the order. -/
theorem relu1_mono {a : EReal} (ha : 0 ≤ a) (b : EReal) {x y : EReal} (h : x ≤ y) : relu1 a b x ≤ relu1 a b y :=
  max_le_max (add_le_add (mul_le_mul_of_nonneg_right h ha) le_rfl) le_rfl

/-- Zero as a printed constant. -/
theorem ofBits_zero : (Scalar.ofBits (F := Ideal) .f32 0x00000000#32 : EReal) = 0 := by
  show Ideal.ofBits .f32 0x00000000#32 = 0
  simp [Ideal.ofBits, Ideal.ieee]

/-- Minus infinity as a printed constant. -/
theorem ofBits_bot : (FloatOps.ofBits (F := Ideal) .f32 0xFF800000#32 : EReal) = ⊥ := by
  show Ideal.ofBits .f32 0xFF800000#32 = ⊥
  simp [Ideal.ofBits, Ideal.ieee]

/-- Normalising and rectifying the largest of sixteen features is the largest of the sixteen normalised and
    rectified features, where the scale is not negative. -/
theorem act_eq_fold (f : ℕ → EReal) {a : EReal} (ha : 0 ≤ a) (b : EReal) :
    act (F := Ideal) f a b = (Finset.univ : Finset (Fin 16)).fold max ⊥ (fun k => relu1 a b (f k.val)) := by
  have e : act (F := Ideal) f a b = relu1 a b (maxUpTo (F := Ideal) f 15) := by
    show max (maxUpTo (F := Ideal) f 15 * a + b) (Scalar.ofBits (F := Ideal) .f32 0x00000000#32 : EReal) = _
    rw [ofBits_zero]; rfl
  rw [e]
  obtain ⟨r, hr, er⟩ := maxUpTo_mem f 15
  apply le_antisymm
  · rw [er]
    exact Finset.le_fold_max _ |>.mpr (Or.inr ⟨⟨r, by omega⟩, Finset.mem_univ _, le_rfl⟩)
  · exact Finset.fold_max_le _ |>.mpr ⟨bot_le, fun k _ => relu1_mono ha b (le_maxUpTo f 15 k.val (by omega))⟩

end Cert.Proof.Pool

end
-- ==== Proof.Pool.Ref.lean ====
module

public import proofs.«01_k».proof.Proof.Pool.Main
public import proofs.«01_k».proof.Proof.Gen.ReferenceIdeal.Run
public import Idealize.ShloMosaic.Lib.ReduceAll
public import Idealize.ShloMosaic.Lib.Pointwise.Reduce

@[expose] public section

set_option maxRecDepth 16384

noncomputable section

namespace Cert.Proof.Pool

open Cert.ReferenceIdeal Cert.ReferenceIdeal.Gen
open Cert.KernelIdeal (S8192x128)
open Idealize.ShloMosaic

/-! ## Taking rows -/

/-- Taking rows of the feature table by a column of row numbers: row `y 0`, column `y 1` of the result is column
    `y 1` of the row named, when that number is below the number of rows. -/
theorem take_row {α : Type} (x : S32768x128.Idx → α) (idx : IVec Cert.ReferenceIdeal.S131072x1 32) (y : Cert.ReferenceIdeal.S131072x128.Idx) (n : ℕ)
    (hn : n < 32768) (e : ∀ z : Cert.ReferenceIdeal.S131072x1.Idx, (z 0).val = (y 0).val → idx z = BitVec.ofNat 32 n) :
    Host.gather Cert.ReferenceIdeal.gather_S32768x128_S131072x1_S131072x128_1_0_n_n_0_1_1128 x idx y = x (ixH n (y 1).val) := by
  unfold Host.gather
  congr 1
  funext a
  refine Fin.ext ?_
  set g := Cert.ReferenceIdeal.gather_S32768x128_S131072x1_S131072x128_1_0_n_n_0_1_1128 with hg
  show g.start y idx a + g.batchCoord y a + g.offCoord y a = _
  rw [GatherDims.batchCoord_eq_zero _ _ _ (by rw [hg]; exact List.not_mem_nil)]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ g.startIndexMap from List.mem_singleton.mpr rfl)]
    rw [e _ rfl]
    show min (BitVec.ofNat 32 n).toInt.toNat (32768 - 1) + 0 + 0 = n % 32768
    rw [BitVec.toInt_eq_toNat_cond, BitVec.toNat_ofNat]
    omega
  · have h0 : g.start y idx (1 : Fin 2) = 0 := by
      unfold GatherDims.start
      rw [dif_neg (show (1 : Fin 2) ∉ g.startIndexMap by rw [hg]; decide)]
    have h1 : g.offCoord y (1 : Fin 2) = (y 1).val := by
      unfold GatherDims.offCoord
      rw [dif_pos ((GatherDims.mem_sKept _ _).mpr ⟨by rw [hg]; decide, by rw [hg]; exact List.not_mem_nil⟩)]
      rfl
    show g.start y idx (1 : Fin 2) + 0 + g.offCoord y (1 : Fin 2) = (y 1).val % 128
    have hy : (y 1).val < 128 := (y 1).isLt
    rw [h0, h1]
    omega

/-! ## The reference, read at an index -/

section Reference

variable (H : S32768x128.Idx → EReal) (I : S4x2048x16.Idx → BitVec 32) (A B : S128.Idx → EReal)

/-- The row numbers, a negative one counted from the end. -/
def rowNo : S131072.Idx → BitVec 32 :=
  select (cmpi .slt (shapeCast S131072 I shapeCasts_S4x2048x16_S131072) (broadcastInDim S131072 ![] bcast_S_S131072 (constantI S_ 32 0#32)))
    (addi (shapeCast S131072 I shapeCasts_S4x2048x16_S131072) (broadcastInDim S131072 ![] bcast_S_S131072 (constantI S_ 32 32768#32)))
    (shapeCast S131072 I shapeCasts_S4x2048x16_S131072)

/-- The row numbers as a column. -/
def rowCol : S131072x1.Idx → BitVec 32 := broadcastInDim S131072x1 ![0] bcast_S131072_S131072x1_0 (rowNo I)

/-- Which row numbers name a row. -/
def rowOk : S131072.Idx → BitVec 1 :=
  Host.reduce IntOp.andi
    (andi (cmpi .sge (rowCol I) (broadcastInDim S131072x1 ![] bcast_S_S131072x1 (constantI S_ 32 0#32)))
      (cmpi .sle (rowCol I) (broadcastInDim S131072x1 ![0, 1] bcast_S1x1_S131072x1_0_1
        (broadcastInDim S1x1 ![1] bcast_S1_S1x1_1 (constantI S1 32 32767#32)))))
    (constantI S_ 1 1#1) reducesTo_S131072x1_S131072_d1 h_S_

/-- The features, normalised and rectified. -/
def feat : S32768x128.Idx → EReal :=
  maximumf (F := Ideal) (φ := .f32)
    (addf (F := Ideal) (φ := .f32) (mulf (F := Ideal) (φ := .f32) H (broadcastInDim S32768x128 ![0, 1] bcast_S1x128_S32768x128_0_1 (broadcastInDim S1x128 ![1] bcast_S128_S1x128_1 A)))
      (broadcastInDim S32768x128 ![0, 1] bcast_S1x128_S32768x128_0_1 (broadcastInDim S1x128 ![1] bcast_S128_S1x128_1 B)))
    (broadcastInDim S32768x128 ![] bcast_S_S32768x128 (constant (F := Ideal) S_ .f32 0x00000000#32))

/-- The rows taken. -/
def taken : S131072x128.Idx → EReal :=
  select (broadcastInDim S131072x128 ![0] bcast_S131072_S131072x128_0 (rowOk I))
    (Host.gather gather_S32768x128_S131072x1_S131072x128_1_0_n_n_0_1_1128 (feat H A B) (rowCol I))
    (broadcastInDim S131072x128 ![] bcast_S_S131072x128 (constant (F := Ideal) S_ .f32 0x7FC00000#32))

/-- The reference's result: the largest over each query's sixteen rows. -/
def refOut : S4x2048x128.Idx → EReal :=
  Host.reduce (FloatOps.maximumf (F := Ideal) (φ := .f32)) (shapeCast S4x2048x16x128 (taken H I A B) shapeCasts_S131072x128_S4x2048x16x128)
    (constant (F := Ideal) S_ .f32 0xFF800000#32) reducesTo_S4x2048x16x128_S4x2048x128_d2 h_S_

variable {I}

/-- Row numbers in range are taken as they are. -/
theorem rowNo_eq (hJ : ∀ x, (flatIdx I x).toNat < 32768) : rowNo I = flatIdx I := by
  funext x
  have h := hJ x
  show (if IntOp.cmpi .slt (flatIdx I x) 0#32 = 1#1 then IntOp.addi (flatIdx I x) 32768#32 else flatIdx I x) = _
  rw [if_neg]
  rw [show IntOp.cmpi .slt (flatIdx I x) 0#32 = BitVec.ofBool (decide ((flatIdx I x).toInt < (0#32 : BitVec 32).toInt)) from rfl,
    BitVec.toInt_eq_toNat_cond]
  have : ¬ ((if 2 * (flatIdx I x).toNat < 2 ^ 32 then ((flatIdx I x).toNat : Int) else (flatIdx I x).toNat - (2 ^ 32 : Nat)) < (0#32 : BitVec 32).toInt) := by
    rw [if_pos (by omega)]
    simp
  simp only [this, decide_false]
  decide

/-- The column at row `a`. -/
theorem rowCol_at (hJ : ∀ x, (flatIdx I x).toNat < 32768) (z : S131072x1.Idx) (a : ℕ) (e : (z 0).val = a) :
    rowCol I z = flatIdx I (ixJ a) := by
  unfold rowCol
  rw [rowNo_eq hJ]
  unfold broadcastInDim
  congr 1
  funext b
  obtain rfl : b = 0 := Subsingleton.elim _ _
  refine Fin.ext ?_
  have := (z 0).isLt
  show (z 0).val = a % 131072
  have h2 : (z 0).val < 131072 := (z 0).isLt
  omega

/-- Every row number in range names a row. -/
theorem rowOk_eq (hJ : ∀ x, (flatIdx I x).toNat < 32768) (x : S131072.Idx) : rowOk I x = 1#1 := by
  unfold rowOk
  refine Host.reduce_andi_one _ _ _ _ _ rfl fun z => ?_
  have e := rowCol_at hJ z _ rfl
  have h := hJ (ixJ (z 0).val)
  show IntOp.andi (IntOp.cmpi .sge (rowCol I z) 0#32) (IntOp.cmpi .sle (rowCol I z) 32767#32) = 1#1
  rw [e]
  generalize flatIdx I (ixJ (z 0).val) = v at h
  have h1 : v.toInt = v.toNat := by rw [BitVec.toInt_eq_toNat_cond, if_pos (by omega)]
  have a1 : IntOp.cmpi .sge v 0#32 = BitVec.ofBool (decide ((0#32 : BitVec 32).toInt ≤ v.toInt)) := rfl
  have a2 : IntOp.cmpi .sle v 32767#32 = BitVec.ofBool (decide (v.toInt ≤ (32767#32 : BitVec 32).toInt)) := rfl
  rw [a1, a2, h1, decide_eq_true (by simp), decide_eq_true (by simp; omega)]
  rfl

variable (I)

/-- A feature read at a row and a column. -/
theorem feat_at (r c : ℕ) : feat H A B (ixH r c) = relu1 (A (ixC c)) (B (ixC c)) (H (ixH r c)) := by
  have hb (X : S128.Idx → EReal) : broadcastInDim S32768x128 ![0, 1] bcast_S1x128_S32768x128_0_1 (broadcastInDim S1x128 ![1] bcast_S128_S1x128_1 X) (ixH r c)
      = X (ixC c) := by
    unfold broadcastInDim
    congr 1
    funext b
    obtain rfl : b = 0 := Subsingleton.elim _ _
    rfl
  have hz : (broadcastInDim S32768x128 ![] bcast_S_S32768x128 (constant (F := Ideal) S_ .f32 0x00000000#32) (ixH r c) : EReal) = 0 := ofBits_zero
  show max (H (ixH r c) * broadcastInDim S32768x128 ![0, 1] bcast_S1x128_S32768x128_0_1 (broadcastInDim S1x128 ![1] bcast_S128_S1x128_1 A) (ixH r c)
      + broadcastInDim S32768x128 ![0, 1] bcast_S1x128_S32768x128_0_1 (broadcastInDim S1x128 ![1] bcast_S128_S1x128_1 B) (ixH r c))
    (broadcastInDim S32768x128 ![] bcast_S_S32768x128 (constant (F := Ideal) S_ .f32 0x00000000#32) (ixH r c) : EReal) = _
  rw [hb A, hb B, hz]
  rfl

/-- A taken row read at a column. -/
theorem taken_at (hJ : ∀ x, (flatIdx I x).toNat < 32768) (y : S131072x128.Idx) :
    taken H I A B y = relu1 (A (ixC (y 1).val)) (B (ixC (y 1).val)) (H (ixH (flatIdx I (ixJ (y 0).val)).toNat (y 1).val)) := by
  rw [← feat_at]
  rw [← take_row (feat H A B) (rowCol I) y _ (hJ _) fun z hz => (rowCol_at hJ z _ hz).trans (by rw [BitVec.ofNat_toNat, BitVec.setWidth_eq])]
  unfold taken select
  exact if_pos (rowOk_eq hJ _)

/-- The kernel's result is the reference's: row numbers in range, no scale negative. -/
theorem out_eq_ref (hJ : ∀ x, (flatIdx I x).toNat < 32768) (hA : ∀ c, 0 ≤ A c) :
    shapeCast S4x2048x128 (poolOut (F := Ideal) H (flatIdx I) A B) Cert.KernelIdeal.Gen.shapeCasts_S8192x128_S4x2048x128 = refOut H I A B := by
  funext j
  have b0 : (j 0).val < 4 := (j 0).isLt
  have b1 : (j 1).val < 2048 := (j 1).isLt
  have b2 : (j 2).val < 128 := (j 2).isLt
  rw [shapeCast_apply _ _ j (ix2 ⟨2048 * (j 0).val + (j 1).val, by omega⟩ ⟨(j 2).val, b2⟩ : S8192x128.Idx)
    (by rw [Shape.rowMajor_val_two, Shape.rowMajor_val_three]
        show (2048 * (j 0).val + (j 1).val) * 128 + (j 2).val = ((j 0).val * 2048 + (j 1).val) * 128 + (j 2).val
        omega)]
  unfold poolOut refOut
  rw [act_eq_fold _ (hA _), Host.reduce_eq_fold, Shape.ReducesTo.fold_fiber_r4_a2]
  show Finset.fold max ⊥ _ _ = Finset.fold max (FloatOps.ofBits (F := Ideal) .f32 0xFF800000#32 : EReal) _ _
  rw [ofBits_bot]
  refine congrArg (fun f => Finset.fold max (⊥ : EReal) f Finset.univ) (funext fun k => ?_)
  have hk : k.val < 16 := k.isLt
  rw [shapeCast_apply _ _ _ (ix2 ⟨16 * (2048 * (j 0).val + (j 1).val) + k.val, by omega⟩ ⟨(j 2).val, b2⟩ : S131072x128.Idx)
    (by rw [Shape.rowMajor_val_two, Shape.rowMajor_val_four]
        show (16 * (2048 * (j 0).val + (j 1).val) + k.val) * 128 + (j 2).val
          = (((j 0).val * 2048 + (j 1).val) * 16 + k.val) * 128 + (j 2).val
        omega)]
  rw [taken_at H I A B hJ]
  rfl

end Reference

end Cert.Proof.Pool

end
-- ==== Proof.Pool.Claims.lean ====
module

public import proofs.«01_k».proof.Defs
public import proofs.«01_k».proof.Proof.Pool.Ref
public import proofs.«01_k».proof.Proof.Gen.Kernel
public import proofs.«01_k».proof.Proof.Gen.Pre_in_range
public import Idealize.ShloMosaic.Lib.Quiescent
public import Idealize.ShloMosaic.Lib.Claim

@[expose] public section

set_option maxRecDepth 16384

noncomputable section

namespace Cert.Proof.Pool

open Idealize.ShloMosaic Idealize.SL.Sem
open Cert.KernelIdeal (S4x2048x16 S131072 S32768x128 S128)

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_range.Facts := Cert.Pre_in_range.Gen.facts

/-- The shape relations of the precondition on the indices alone. -/
theorem listed_facts : Cert.Pre_listed.Facts where
  bcast_S_S4x2048x16 := by decide
  reducesTo_S4x2048x16_S_d0_1_2 := by decide
  h_S_ := by decide

instance : Cert.Pre_listed.Facts := listed_facts

/-! ## What the precondition says -/

theorem andi_one {p q : BitVec 1} (h : IntOp.andi p q = 1#1) : p = 1#1 ∧ q = 1#1 := by
  revert p q; decide

theorem ofBool_one {p : Bool} (h : BitVec.ofBool p = 1#1) : p = true := by
  revert p; decide

instance : Subsingleton Cert.Pre_listed.S_.Idx := ⟨fun a b => funext fun i => i.elim0⟩
instance : Subsingleton Cert.Pre_in_range.S_.Idx := ⟨fun a b => funext fun i => i.elim0⟩

/-- A word that is at least 0 and below 32768 as a signed number is so as an unsigned one. -/
theorem word_lt (v : BitVec 32) (h : IntOp.andi (IntOp.cmpi .sge v 0#32) (IntOp.cmpi .slt v 32768#32) = 1#1) : v.toNat < 32768 := by
  obtain ⟨h1, h2⟩ := andi_one h
  have g1 : (0#32 : BitVec 32).toInt ≤ v.toInt := of_decide_eq_true (ofBool_one h1)
  have g2 : v.toInt < (32768#32 : BitVec 32).toInt := of_decide_eq_true (ofBool_one h2)
  have z0 : (0#32 : BitVec 32).toInt = 0 := rfl
  have z1 : (32768#32 : BitVec 32).toInt = 32768 := rfl
  rw [z0, BitVec.toInt_eq_toNat_cond] at g1
  rw [z1, BitVec.toInt_eq_toNat_cond] at g2
  have := v.isLt
  split at g1 <;> omega

section Pre

variable {F : FTy → Type} [FloatOps F] {H : S32768x128.Idx → F .f32} {I : S4x2048x16.Idx → BitVec 32} {A B : S128.Idx → F .f32}

/-- Every row number is below the number of rows. -/
theorem rows_lt_listed (h : Cert.Pre_listed.fn (F := F) H I A B = fun _ => 1#1) (x : S131072.Idx) : (flatIdx I x).toNat < 32768 :=
  word_lt _ (Host.reduce_andi_all _ _ _ _ _ (congrFun h fun i => i.elim0) (Shape.reshapeEquiv _ x))

/-- Every row number is below the number of rows. -/
theorem rows_lt (h : Cert.Pre_in_range.fn (F := F) H I A B = fun _ => 1#1) (x : S131072.Idx) : (flatIdx I x).toNat < 32768 := by
  have e := (andi_one (congrFun h fun i => i.elim0)).1
  exact word_lt _ (Host.reduce_andi_all _ _ _ _ _ e (Shape.reshapeEquiv _ x))

end Pre

/-- Under the precondition no scale is negative. -/
theorem scale_nonneg {H : S32768x128.Idx → Ideal .f32} {I : S4x2048x16.Idx → BitVec 32} {A B : S128.Idx → Ideal .f32}
    (h : Cert.Pre_in_range.fn (F := Ideal) H I A B = fun _ => 1#1) (c : S128.Idx) : (0 : EReal) ≤ A c := by
  have e := (andi_one (congrFun h fun i => i.elim0)).2
  have e' := Host.reduce_andi_all _ _ _ _ _ e c
  have : Ideal.cmp .oge (A c) (Ideal.ofBits .f32 0x00000000#32) = 1#1 := e'
  rw [Ideal.ofBits_zero_f32] at this
  exact of_decide_eq_true (ofBool_one this)

/-! ## The claims -/

/-- The kernel terminates from every memory meeting the precondition, leaving its arguments and every counter at zero. -/
theorem frame_kernel : Cert.quiescent_Kernel := fun m ρ hpre =>
  (θ_run Cert.KernelIdeal.defs _ _).mono (fun _ h => ⟨fun c => (h.1 c).2, h.2⟩)
    (run_main (F := Bits) m ρ fun d x => rows_lt_listed (hpre d) x)

/-- So does its idealization. -/
theorem frame_ideal : Cert.quiescent_KernelIdeal := fun m ρ hpre =>
  (θ_run Cert.KernelIdeal.defs _ _).mono (fun _ h => ⟨fun c => (h.1 c).2, h.2⟩)
    (run_main (F := Ideal) m ρ fun d x => rows_lt_listed (hpre d) x)

/-- So it does under the precondition of the value claim. -/
theorem frame_ideal_in_range : Cert.quiescent_KernelIdeal_pre_in_range := fun m ρ hpre =>
  (θ_run Cert.KernelIdeal.defs _ _).mono (fun _ h => ⟨fun c => (h.1 c).2, h.2⟩)
    (run_main (F := Ideal) m ρ fun d x => rows_lt (hpre d) x)

/-- The reference terminates from every memory, leaving its arguments and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference return the same array. -/
theorem same_result : Cert.algebraic_KernelIdeal_ReferenceIdeal_pre_in_range := fun m ρ m' ρ' hpre hag =>
  ⟨fun c => Rm m c,
    (θ_run Cert.KernelIdeal.defs _ _).mono (fun _ h => h.1) (run_main (F := Ideal) m ρ fun d x => rows_lt (hpre d) x),
    (θ_run Cert.ReferenceIdeal.defs _ _).mono
      (fun r h c => ⟨((h c).1.trans (by
          obtain ⟨e0, e1, e2, e3⟩ := hag c
          rw [e0, e1, e2, e3]
          exact (out_eq_ref _ _ _ _ (fun x => rows_lt (hpre c) x) (scale_nonneg (hpre c))).symm)), (h c).2⟩)
      (Cert.ReferenceIdeal.Value.run (F := Ideal) m' ρ')⟩

end Cert.Proof.Pool

end
-- ==== Proof.Sample.Spec.lean ====
module

public import Idealize.ShloMosaic.PureOps.Ideal

@[expose] public section

noncomputable section

namespace Cert.Proof.Sample

/-! # Furthest point sampling over extended reals

Four clouds of 8192 points. Every point carries a running squared distance to the points chosen so far; a step lowers
these by the distances to the point chosen last and then chooses the first point that is furthest away. -/

/-- Four clouds of points with three coordinates. -/
abbrev Cloud := Fin 4 → Fin 8192 → Fin 3 → EReal

/-- `n` is the first of the places at which `f` is greatest. -/
def IsFirst (f : Fin 8192 → EReal) (n : Fin 8192) : Prop := (∀ m, f m ≤ f n) ∧ ∀ m, f m = f n → n ≤ m

theorem IsFirst.unique {f : Fin 8192 → EReal} {n m : Fin 8192} (hn : IsFirst f n) (hm : IsFirst f m) : n = m := by
  have e : f n = f m := le_antisymm (hm.1 n) (hn.1 m)
  exact le_antisymm (hn.2 m e.symm) (hm.2 n e)

theorem exists_isFirst (f : Fin 8192 → EReal) : ∃ n, IsFirst f n := by
  obtain ⟨a, -, ha⟩ := Finset.exists_max_image Finset.univ f ⟨0, Finset.mem_univ _⟩
  obtain ⟨b, hb, hmin⟩ := Finset.exists_min_image (Finset.univ.filter fun m => f m = f a) id ⟨a, by simp⟩
  have eb : f b = f a := (Finset.mem_filter.1 hb).2
  exact ⟨b, fun m => eb ▸ ha m (Finset.mem_univ _), fun m hm =>
    hmin m (Finset.mem_filter.2 ⟨Finset.mem_univ _, hm.trans eb⟩)⟩

/-- The first place at which `f` is greatest. -/
def first (f : Fin 8192 → EReal) : Fin 8192 := (exists_isFirst f).choose

theorem isFirst_first (f : Fin 8192 → EReal) : IsFirst f (first f) := (exists_isFirst f).choose_spec

theorem eq_first {f : Fin 8192 → EReal} {n : Fin 8192} (h : IsFirst f n) : n = first f := h.unique (isFirst_first f)

/-- The squared distance of the points `l` and `n` of cloud `b`, as a sum over the three coordinates. -/
def sqDist (P : Cloud) (b : Fin 4) (l n : Fin 8192) : EReal :=
  (P b n 0 - P b l 0) * (P b n 0 - P b l 0) + (P b n 1 - P b l 1) * (P b n 1 - P b l 1)
    + (P b n 2 - P b l 2) * (P b n 2 - P b l 2)

/-- The running distances lowered by the distances to the points `last`. -/
def lower (P : Cloud) (dist : Fin 4 → Fin 8192 → EReal) (last : Fin 4 → Fin 8192) : Fin 4 → Fin 8192 → EReal :=
  fun b n => min (dist b n) (sqDist P b (last b) n)

/-- The running distances and the point chosen last, after `k` steps from the distances `far` and point 0. -/
def fps (P : Cloud) (far : EReal) : ℕ → (Fin 4 → Fin 8192 → EReal) × (Fin 4 → Fin 8192)
  | 0 => (fun _ _ => far, fun _ => 0)
  | k + 1 => (lower P (fps P far k).1 (fps P far k).2, fun b => first (lower P (fps P far k).1 (fps P far k).2 b))

theorem fps_succ_fst (P : Cloud) (far : EReal) (k : ℕ) :
    (fps P far (k + 1)).1 = lower P (fps P far k).1 (fps P far k).2 := rfl

theorem fps_succ_snd (P : Cloud) (far : EReal) (k : ℕ) (b : Fin 4) :
    (fps P far (k + 1)).2 b = first ((fps P far (k + 1)).1 b) := rfl

end Cert.Proof.Sample
-- ==== Proof.Sample.Step.lean ====
module

public import proofs.«01_k».proof.Proof.Sample.Spec
public import proofs.«01_k».proof.Proof.Gen.SampleIdeal.Skeleton
public import Idealize.ShloMosaic.Lib.Pointwise
public import Idealize.ShloMosaic.Lib.Pipeline.Value

@[expose] public section

set_option maxRecDepth 16384

noncomputable section

namespace Cert.Proof.Sample

open Cert.SampleIdeal Cert.SampleIdeal.Gen
open Idealize.ShloMosaic

/-! # One trip of the kernel's loop is one step of furthest point sampling

The kernel keeps the 8192 points of a cloud as 64 rows of 128, and coordinate `c` of cloud `b` as plane `4 c + b`. -/

/-- The plane of coordinate `c` of cloud `b`. -/
def plane (c : Fin 3) (b : Fin 4) : Fin 12 := ⟨4 * c.val + b.val, by omega⟩

/-- The point in row `s` and lane `l`. -/
def point (s : Fin 64) (l : Fin 128) : Fin 8192 := ⟨128 * s.val + l.val, by omega⟩

theorem point_surj (n : Fin 8192) : ∃ s l, point s l = n :=
  ⟨⟨n.val / 128, by omega⟩, ⟨n.val % 128, by omega⟩, Fin.ext (by show 128 * (n.val / 128) + n.val % 128 = n.val; omega)⟩

theorem point_inj {s s' : Fin 64} {l l' : Fin 128} (h : point s l = point s' l') : s = s' ∧ l = l' := by
  have e : 128 * s.val + l.val = 128 * s'.val + l'.val := congrArg Fin.val h
  exact ⟨Fin.ext (by omega), Fin.ext (by omega)⟩

/-- `v` holds the clouds `P` in the kernel's arrangement. -/
def Holds (P : Cloud) (v : Vec Ideal S12x64x128 .f32) : Prop :=
  ∀ c b s l, v (ix3 (plane c b) s l) = P b (point s l) c

/-- `d` holds the running distances. -/
def HoldsDist (dist : Fin 4 → Fin 8192 → EReal) (d : FVec Ideal S4x64x128 .f32) : Prop :=
  ∀ b s l, d (ix3 b s l) = dist b (point s l)

/-- `v` holds the coordinates of the points `last`. -/
def HoldsLast (P : Cloud) (last : Fin 4 → Fin 8192) (v : FVec Ideal S12x1x1 .f32) : Prop :=
  ∀ c b, v (ix3 (plane c b) 0 0) = P b (last b) c

theorem pay1_eq (v : Vec Ideal S12x64x128 .f32) : k0_pay1 v = v := shapeCast_self _ _

section Trip
variable {P : Cloud} {v : Vec Ideal S12x64x128 .f32} {dist : Fin 4 → Fin 8192 → EReal} {last : Fin 4 → Fin 8192}
  {d : FVec Ideal S4x64x128 .f32} {L : FVec Ideal S12x1x1 .f32}

theorem holdsLast_pay2 (hv : Holds P v) : HoldsLast P (fun _ => 0) (k0_pay2 v) := by
  intro c b
  unfold k0_pay2
  dsimp only
  rw [pay1_eq, extractStridedSlice_apply (k := ix3 (plane c b) 0 0)]
  · exact hv c b 0 0
  · intro a
    fin_cases a
    · exact (Nat.zero_add _).symm
    · rfl
    · rfl

/-- One coordinate's squared difference, at a point of the tile. -/
theorem sq_apply (hv : Holds P v) (hL : HoldsLast P last L) (off : Fin 3 → ℕ)
    (hs : S12x64x128.Slices off S4x64x128) (c : Fin 3) (ho : off = ![4 * c.val, 0, 0]) (b : Fin 4) (s : Fin 64) (l : Fin 128) :
    extractStridedSlice S4x64x128 off
        (mulf (subf (k0_pay1 v) (broadcastTo S12x64x128 L broadcasts_S12x1x1_S12x64x128))
          (subf (k0_pay1 v) (broadcastTo S12x64x128 L broadcasts_S12x1x1_S12x64x128))) hs (ix3 b s l)
      = (P b (point s l) c - P b (last b) c) * (P b (point s l) c - P b (last b) c) := by
  subst ho
  rw [extractStridedSlice_apply (k := ix3 (plane c b) s l)]
  · have e : broadcastTo S12x64x128 L broadcasts_S12x1x1_S12x64x128 (ix3 (plane c b) s l) = P b (last b) c := by
      rw [broadcastTo_apply (k := ix3 (plane c b) 0 0)]
      · exact hL c b
      · intro a; fin_cases a <;> rfl
    show (k0_pay1 v (ix3 (plane c b) s l) - _) * (k0_pay1 v (ix3 (plane c b) s l) - _) = _
    rw [pay1_eq, e, hv c b s l]
  · intro a
    fin_cases a
    · rfl
    · exact (Nat.zero_add _).symm
    · exact (Nat.zero_add _).symm

theorem holdsDist_pay4 : HoldsDist (fun _ _ => Ideal.ofBits .f32 0x501502F9#32) (k0_pay4 (F := Ideal)) :=
  fun _ _ _ => rfl

theorem holdsDist_pay5 (hv : Holds P v) (hd : HoldsDist dist d) (hL : HoldsLast P last L) :
    HoldsDist (lower P dist last) (k0_pay5 v d L) := by
  intro b s l
  unfold k0_pay5
  show min (d (ix3 b s l)) (_ + _ + _) = _
  rw [hd b s l, sq_apply hv hL ![0, 0, 0] slices_S12x64x128_o0_0_0_S4x64x128 0 rfl,
    sq_apply hv hL ![4, 0, 0] slices_S12x64x128_o4_0_0_S4x64x128 1 rfl,
    sq_apply hv hL ![8, 0, 0] slices_S12x64x128_o8_0_0_S4x64x128 2 rfl]
  rfl

end Trip

/-! ## The first furthest point -/

/-- The smallest word of a family is no larger than any of its words, and is one of them or the word begun with. -/
theorem fold_minsi {ι : Type} [DecidableEq ι] (f : ι → BitVec 32) (z : BitVec 32) (S : Finset ι) :
    (∀ i ∈ S, (S.fold IntOp.minsi z f).toInt ≤ (f i).toInt) ∧
      (S.fold IntOp.minsi z f = z ∨ ∃ i ∈ S, S.fold IntOp.minsi z f = f i) := by
  induction S using Finset.induction_on with
  | empty => exact ⟨fun i h => absurd h (Finset.notMem_empty i), Or.inl (Finset.fold_empty ..)⟩
  | insert a S ha ih =>
    rw [Finset.fold_insert ha]
    by_cases h : (f a).slt (S.fold IntOp.minsi z f)
    · rw [show IntOp.minsi (f a) (S.fold IntOp.minsi z f) = f a from if_pos h]
      have h' : (f a).toInt < (S.fold IntOp.minsi z f).toInt := by simpa [BitVec.slt] using h
      refine ⟨fun i hi => ?_, Or.inr ⟨a, Finset.mem_insert_self _ _, rfl⟩⟩
      rcases Finset.mem_insert.1 hi with rfl | hi
      · exact le_rfl
      · exact h'.le.trans (ih.1 i hi)
    · rw [show IntOp.minsi (f a) (S.fold IntOp.minsi z f) = S.fold IntOp.minsi z f from if_neg h]
      have h' : (S.fold IntOp.minsi z f).toInt ≤ (f a).toInt := by simpa [BitVec.slt] using h
      refine ⟨fun i hi => ?_, ?_⟩
      · rcases Finset.mem_insert.1 hi with rfl | hi
        · exact h'
        · exact ih.1 i hi
      · rcases ih.2 with e | ⟨i, hi, e⟩
        · exact Or.inl e
        · exact Or.inr ⟨i, Finset.mem_insert_of_mem hi, e⟩

/-- The word of a point's number. -/
def word (s : Fin 64) (l : Fin 128) : BitVec 32 :=
  IntOp.addi (IntOp.muli (BitVec.ofNat 32 s.val) 128#32) (BitVec.ofNat 32 l.val)

theorem word_eq (s : Fin 64) (l : Fin 128) : word s l = BitVec.ofNat 32 (point s l).val := by
  apply BitVec.eq_of_toNat_eq
  show ((BitVec.ofNat 32 s.val) * 128#32 + BitVec.ofNat 32 l.val).toNat = _
  simp only [BitVec.toNat_add, BitVec.toNat_mul, BitVec.toNat_ofNat, point]
  omega

theorem toInt_point (n : Fin 8192) : (BitVec.ofNat 32 n.val).toInt = n.val := by
  rw [BitVec.toInt_eq_toNat_of_lt] <;> simp only [BitVec.toNat_ofNat] <;> omega

theorem ofNat_point_inj {n m : Fin 8192} (h : BitVec.ofNat 32 n.val = BitVec.ofNat 32 m.val) : n = m := by
  have e := congrArg BitVec.toInt h
  rw [toInt_point, toInt_point] at e
  exact Fin.ext (by omega)

/-- The smallest number among the points at the greatest distance. -/
theorem fold_first (f : Fin 8192 → EReal) (M : EReal) (hM : ∀ n, f n ≤ M) (hm : ∃ n, f n = M) :
    (Finset.univ : Finset (Fin 64 × Fin 128)).fold IntOp.minsi 2147483647#32
        (fun k => if f (point k.1 k.2) = M then word k.1 k.2 else 1073741824#32)
      = BitVec.ofNat 32 (first f).val := by
  obtain ⟨h1, h2⟩ := fold_minsi (fun k : Fin 64 × Fin 128 => if f (point k.1 k.2) = M then word k.1 k.2 else 1073741824#32)
    2147483647#32 Finset.univ
  set r := (Finset.univ : Finset (Fin 64 × Fin 128)).fold IntOp.minsi 2147483647#32
        (fun k => if f (point k.1 k.2) = M then word k.1 k.2 else 1073741824#32) with hr
  obtain ⟨s, l, e⟩ := point_surj (first f)
  have eM : f (first f) = M := by
    obtain ⟨n, hn⟩ := hm
    exact le_antisymm (hM _) (hn ▸ (isFirst_first f).1 n)
  have hle : r.toInt ≤ ((first f).val : ℤ) := by
    have h := h1 (s, l) (Finset.mem_univ _)
    dsimp only at h
    rw [if_pos (by rw [e]; exact eM), word_eq, toInt_point, e] at h
    exact h
  have hlt := (first f).isLt
  rcases h2 with h | ⟨⟨s', l'⟩, -, h⟩
  · rw [h, show (2147483647#32 : BitVec 32).toInt = 2147483647 from rfl] at hle
    omega
  · dsimp only at h
    by_cases hf : f (point s' l') = M
    · rw [if_pos hf, word_eq] at h
      rw [h, toInt_point] at hle
      have h3 := (isFirst_first f).2 (point s' l') (hf.trans eM.symm)
      have : point s' l' = first f := le_antisymm (by show (point s' l').val ≤ (first f).val; omega) h3
      rw [h, this]
    · rw [if_neg hf] at h
      rw [h, show (1073741824#32 : BitVec 32).toInt = 1073741824 from rfl] at hle
      omega

/-- The greatest distance of a cloud, as the kernel folds it. -/
theorem fold_max_le (f : Fin 8192 → EReal) :
    (∀ n, f n ≤ (Finset.univ : Finset (Fin 64 × Fin 128)).fold max ⊥ fun k => f (point k.1 k.2)) ∧
      ∃ n, f n = (Finset.univ : Finset (Fin 64 × Fin 128)).fold max ⊥ fun k => f (point k.1 k.2) := by
  have hle : ∀ n, f n ≤ (Finset.univ : Finset (Fin 64 × Fin 128)).fold max ⊥ fun k => f (point k.1 k.2) := by
    intro n
    obtain ⟨s, l, rfl⟩ := point_surj n
    exact (Finset.le_fold_max _).mpr (Or.inr ⟨(s, l), Finset.mem_univ _, le_rfl⟩)
  exact ⟨hle, first f, le_antisymm (hle _) ((Finset.fold_max_le _).mpr ⟨bot_le, fun k _ => (isFirst_first f).1 _⟩)⟩

/-- One point picked out of a plane by its number. -/
theorem sum_pick (g : Fin 8192 → EReal) (n : Fin 8192) :
    (∑ s : Fin 64, ∑ l : Fin 128, if word s l = BitVec.ofNat 32 n.val then g (point s l) else 0) = g n := by
  obtain ⟨s₀, l₀, rfl⟩ := point_surj n
  rw [Finset.sum_eq_single s₀, Finset.sum_eq_single l₀]
  · rw [if_pos (word_eq s₀ l₀)]
  · intro l _ hl
    rw [if_neg]
    intro h
    rw [word_eq] at h
    exact hl (point_inj (ofNat_point_inj h)).2
  · intro h; exact absurd (Finset.mem_univ _) h
  · intro s _ hs
    refine Finset.sum_eq_zero fun l _ => ?_
    rw [if_neg]
    intro h
    rw [word_eq] at h
    exact hs (point_inj (ofNat_point_inj h)).1
  · intro h; exact absurd (Finset.mem_univ _) h

/-! ## The trip's chosen point -/

/-- The kernel's point numbers, one per place of the tile. -/
def numbers : IVec S4x64x128 32 :=
  addi (muli (iota .tc S4x64x128 32 [1] iota_S4x64x128_d1_w32) (broadcast S4x64x128 128#32))
    (iota .tc S4x64x128 32 [2] iota_S4x64x128_d2_w32)

theorem numbers_apply (b : Fin 4) (s : Fin 64) (l : Fin 128) : numbers (ix3 b s l) = word s l := by
  show IntOp.addi (IntOp.muli (iota .tc S4x64x128 32 [1] iota_S4x64x128_d1_w32 (ix3 b s l)) 128#32)
    (iota .tc S4x64x128 32 [2] iota_S4x64x128_d2_w32 (ix3 b s l)) = _
  rw [iota_single_apply, iota_single_apply]
  rfl

/-- A value per cloud, spread over the tile. -/
theorem spread_apply {α : Type} (x : S4.Idx → α) (b : Fin 4) (s : Fin 64) (l : Fin 128) :
    broadcastTo S4x64x128 (shapeCast S4x1x1 x shapeCasts_S4_S4x1x1) broadcasts_S4x1x1_S4x64x128 (ix3 b s l)
      = x (ix1 b) := by
  rw [broadcastTo_apply (k := ix3 b 0 0)]
  · exact shapeCast_apply _ _ _ _ (by
      rw [Shape.rowMajor_val_one, Shape.rowMajor_val_three]
      show b.val = (b.val * 1 + 0) * 1 + 0
      omega)
  · intro a; fin_cases a <;> rfl

section Pick
variable (d : FVec Ideal S4x64x128 .f32)

/-- The greatest distance of each cloud. -/
def greatest : FVec Ideal S4 .f32 :=
  multiReduction .maximumf [1, 2] S4 d 0xFF800000#32 reduces_S4x64x128_S4 (.inl rfl) rfl

/-- Where the greatest distance of its cloud is attained. -/
def attained : IVec S4x64x128 1 :=
  cmpf .oeq d (broadcastTo S4x64x128 (shapeCast S4x1x1 (greatest d) shapeCasts_S4_S4x1x1) broadcasts_S4x1x1_S4x64x128)

/-- The number of the first furthest point of each cloud. -/
def chosen : IVec S4 32 :=
  multiReductionI .minsi [1, 2] S4 (select (attained d) numbers (broadcast S4x64x128 1073741824#32))
    2147483647#32 reduces_S4x64x128_S4 rfl

/-- Where that point lies. -/
def mask : IVec S4x64x128 1 :=
  cmpi .eq numbers (broadcastTo S4x64x128 (shapeCast S4x1x1 (chosen d) shapeCasts_S4_S4x1x1) broadcasts_S4x1x1_S4x64x128)

variable {d} {dist : Fin 4 → Fin 8192 → EReal}

theorem greatest_apply (hd : HoldsDist dist d) (b : Fin 4) :
    greatest d (ix1 b) = (Finset.univ : Finset (Fin 64 × Fin 128)).fold max ⊥ fun k => dist b (point k.1 k.2) := by
  unfold greatest
  refine (multiReduction_maximumf_eq_fold _ _ _ _ _ _).trans ?_
  rw [Shape.Reduces.fold_fiber_r3_a12]
  have e0 : (FloatOps.ofBits (F := Ideal) .f32 0xFF800000#32 : EReal) = ⊥ := by
    show Ideal.ofBits .f32 0xFF800000#32 = ⊥
    simp [Ideal.ofBits, Ideal.ieee]
  rw [e0]
  exact Finset.fold_congr fun k _ => hd b k.1 k.2

theorem attained_apply (hd : HoldsDist dist d) (b : Fin 4) (s : Fin 64) (l : Fin 128) :
    attained d (ix3 b s l) = if dist b (point s l) = greatest d (ix1 b) then 1#1 else 0#1 := by
  show Ideal.cmp .oeq (d (ix3 b s l)) (broadcastTo S4x64x128 (shapeCast S4x1x1 (greatest d) shapeCasts_S4_S4x1x1)
    broadcasts_S4x1x1_S4x64x128 (ix3 b s l)) = _
  rw [spread_apply, hd b s l]
  by_cases h : dist b (point s l) = greatest d (ix1 b) <;> simp [Ideal.cmp, h]

theorem chosen_apply (hd : HoldsDist dist d) (b : Fin 4) : chosen d (ix1 b) = BitVec.ofNat 32 (first (dist b)).val := by
  unfold chosen
  refine (multiReductionI_eq_fold _ _ _ _ _ _).trans ?_
  rw [Shape.Reduces.fold_fiber_r3_a12]
  have hg := fold_max_le (dist b)
  rw [← greatest_apply hd b] at hg
  refine Eq.trans (Finset.fold_congr fun k _ => ?_) (fold_first (dist b) (greatest d (ix1 b)) hg.1 hg.2)
  show (if attained d (ix3 b k.1 k.2) = 1#1 then numbers (ix3 b k.1 k.2) else 1073741824#32) = _
  rw [attained_apply hd, numbers_apply]
  by_cases h : dist b (point k.1 k.2) = greatest d (ix1 b) <;> simp [h]

theorem mask_apply (hd : HoldsDist dist d) (b : Fin 4) (s : Fin 64) (l : Fin 128) :
    mask d (ix3 b s l) = if word s l = BitVec.ofNat 32 (first (dist b)).val then 1#1 else 0#1 := by
  show IntOp.cmpi .eq (numbers (ix3 b s l)) (broadcastTo S4x64x128 (shapeCast S4x1x1 (chosen d) shapeCasts_S4_S4x1x1)
    broadcasts_S4x1x1_S4x64x128 (ix3 b s l)) = _
  rw [spread_apply, numbers_apply, chosen_apply hd]
  by_cases h : word s l = BitVec.ofNat 32 (first (dist b)).val
  · rw [if_pos h, h]; simp [IntOp.cmpi]
  · rw [if_neg h]
    show BitVec.ofBool (word s l == BitVec.ofNat 32 (first (dist b)).val) = 0#1
    rw [beq_false_of_ne h]
    rfl

end Pick

theorem holdsLast_pay6 {P : Cloud} {v : Vec Ideal S12x64x128 .f32} {dist : Fin 4 → Fin 8192 → EReal}
    {last : Fin 4 → Fin 8192} {d : FVec Ideal S4x64x128 .f32} {L : FVec Ideal S12x1x1 .f32}
    (hv : Holds P v) (hd : HoldsDist dist d) (hL : HoldsLast P last L) :
    HoldsLast P (fun b => first (lower P dist last b)) (k0_pay6 v d L) := by
  have hd' := holdsDist_pay5 hv hd hL
  intro c b
  have e : k0_pay6 v d L = shapeCast S12x1x1 (multiReduction (F := Ideal) .add [1, 2] S12
      (select (concatenate S12x64x128 0 [⟨S4x64x128, mask (k0_pay5 v d L)⟩, ⟨S4x64x128, mask (k0_pay5 v d L)⟩,
        ⟨S4x64x128, mask (k0_pay5 v d L)⟩] concatenates_S4x64x128_S4x64x128_S4x64x128_S12x64x128_d0) (k0_pay1 v)
        (broadcast S12x64x128 (Scalar.ofBits .f32 0x00000000#32))) 0x00000000#32 reduces_S12x64x128_S12 (.inl rfl) rfl)
      shapeCasts_S12_S12x1x1 := by
    unfold k0_pay6 mask chosen attained greatest numbers
    rfl
  rw [e, shapeCast_apply (k := ix1 (plane c b))]
  · show Ideal.reduceAdd reduces_S12x64x128_S12 _ _ = _
    rw [Ideal.reduceAdd_r3_a12]
    refine Eq.trans (Finset.sum_congr rfl fun s _ => Finset.sum_congr rfl fun l _ => ?_)
      (sum_pick (fun n => P b n c) (first (lower P dist last b)))
    show (if concatenate S12x64x128 0 _ _ (ix3 (plane c b) s l) = 1#1 then k0_pay1 v (ix3 (plane c b) s l)
      else (Scalar.ofBits (F := Ideal) .f32 0x00000000#32 : EReal)) = _
    have hc : concatenate S12x64x128 0 [⟨S4x64x128, mask (k0_pay5 v d L)⟩, ⟨S4x64x128, mask (k0_pay5 v d L)⟩,
        ⟨S4x64x128, mask (k0_pay5 v d L)⟩] concatenates_S4x64x128_S4x64x128_S4x64x128_S12x64x128_d0 (ix3 (plane c b) s l)
        = mask (k0_pay5 v d L) (ix3 b s l) := by
      refine concatenate_apply_piece (t := S12x64x128) 0 _ _ _ c.val (by show c.val < 3; exact c.isLt) S4x64x128 (mask (k0_pay5 v d L)) ?_ rfl
        (4 * c.val) ?_ (ix3 b s l) ?_ ?_
      · fin_cases c <;> rfl
      · fin_cases c <;> rfl
      · intro a ha
        fin_cases a
        · exact absurd rfl ha
        · rfl
        · rfl
      · rfl
    have h0 : (Scalar.ofBits (F := Ideal) .f32 0x00000000#32 : EReal) = 0 := by
      show Ideal.ofBits .f32 0x00000000#32 = 0
      simp [Ideal.ofBits, Ideal.ieee]
    rw [hc, mask_apply hd', pay1_eq, hv c b s l, h0]
    by_cases h : word s l = BitVec.ofNat 32 (first (lower P dist last b)).val <;> simp [h]
  · rw [Shape.rowMajor_val_one, Shape.rowMajor_val_three]
    show (plane c b).val = ((plane c b).val * 1 + 0) * 1 + 0
    omega

end Cert.Proof.Sample
-- ==== Proof.Sample.Main.lean ====
module

public import proofs.«01_k».proof.Proof.Sample.Step
public import proofs.«01_k».proof.Proof.Gen.SampleIdeal.Frame
public import Idealize.ShloMosaic.Lib.WritesUnit
public import Idealize.ShloMosaic.Lib.Pipeline.ValueKit
public import Idealize.ShloMosaic.Lib.Claim

@[expose] public section

set_option maxRecDepth 16384

noncomputable section

namespace Cert.Proof.Sample

open Cert.SampleIdeal Cert.SampleIdeal.Gen
open Idealize.ShloMosaic Idealize.ShloMosaic.TcCoe Idealize.SL.Sem

section Trips
variable (𝒱 : Variants) (c : Dev nD) (bd : Option 𝒱.V) (arg0 : Memref sig .tc .vmem S12x64x128 .f32) (harg0 : arg0.IsWhole)
  (arg1 : Memref sig .tc .vmem S2048x12 .f32) (harg1 : arg1.IsWhole) (v0 : Vec Ideal S12x64x128 .f32)

theorem tripR_eq (k : Fin k0_t1_loop.trips) (acc : FVec Ideal S4x64x128 .f32 × FVec Ideal S12x1x1 .f32) :
    tripR_k0_t1 (F := Ideal) 𝒱 c bd arg0 harg0 arg1 harg1 v0 k acc = (k0_pay5 v0 acc.1 acc.2, k0_pay6 v0 acc.1 acc.2) := by
  unfold tripR_k0_t1 trip_k0_t1
  rfl

theorem tripL_eq (k : Fin k0_t1_loop.trips) (acc : FVec Ideal S4x64x128 .f32 × FVec Ideal S12x1x1 .f32) :
    tripL_k0_t1 (F := Ideal) 𝒱 c bd arg0 harg0 arg1 harg1 v0 k acc
      = [⟨Rect.unit (s := S2048x12) (k0_off1 k) S1x12.size (k0_off1_inb k), k0_pay7 v0 acc.1 acc.2⟩] := by
  unfold tripL_k0_t1 trip_k0_t1
  rfl

end Trips

/-! ## What the call's output block holds -/

/-- The coordinate held in plane `q`. -/
def coordOf (q : Fin 12) : Fin 3 := ⟨q.val / 4, by omega⟩

/-- The cloud held in plane `q`. -/
def cloudOf (q : Fin 12) : Fin 4 := ⟨q.val % 4, by omega⟩

theorem plane_of (q : Fin 12) : plane (coordOf q) (cloudOf q) = q :=
  Fin.ext (by show 4 * (q.val / 4) + q.val % 4 = q.val; omega)

theorem coordOf_plane (c : Fin 3) (b : Fin 4) : coordOf (plane c b) = c :=
  Fin.ext (by show (4 * c.val + b.val) / 4 = c.val; omega)

theorem cloudOf_plane (c : Fin 3) (b : Fin 4) : cloudOf (plane c b) = b :=
  Fin.ext (by show (4 * c.val + b.val) % 4 = b.val; omega)

/-- The distance every point starts with. -/
def far : EReal := Ideal.ofBits .f32 0x501502F9#32

/-- Row `i` of the output: the coordinates of the `i`-th chosen points. -/
def rows (P : Cloud) (y : S2048x12.Idx) : EReal :=
  P (cloudOf (y 1)) ((fps P far (y 0).val).2 (cloudOf (y 1))) (coordOf (y 1))

/-- Coordinates stored as a row. -/
theorem row_apply {P : Cloud} {last : Fin 4 → Fin 8192} {L : FVec Ideal S12x1x1 .f32} (hL : HoldsLast P last L)
    (x : S1x12.Idx) : shapeCast S1x12 L shapeCasts_S12x1x1_S1x12 x = P (cloudOf (x 1)) (last (cloudOf (x 1))) (coordOf (x 1)) := by
  have e : plane (coordOf (x 1)) (cloudOf (x 1)) = x 1 := plane_of (x 1)
  refine (shapeCast_apply L _ x (ix3 (plane (coordOf (x 1)) (cloudOf (x 1))) 0 0) ?_).trans (hL _ _)
  rw [e]
  rw [Shape.rowMajor_val_two, Shape.rowMajor_val_three]
  have h0 : (x 0).val < 1 := (x 0).isLt
  show ((x 1).val * 1 + 0) * 1 + 0 = (x 0).val * 12 + (x 1).val
  omega

/-- The output's row `i` through the rectangle that stores it. -/
theorem rows_emb (P : Cloud) (i : ℕ) (off : Fin 2 → ℕ) (inb : ∀ a, off a + S1x12.size a ≤ S2048x12.size a)
    (ho : off = ![i, 0]) (x : S1x12.Idx) :
    rows P ((Rect.unit (s := S2048x12) off S1x12.size inb).emb x)
      = P (cloudOf (x 1)) ((fps P far i).2 (cloudOf (x 1))) (coordOf (x 1)) := by
  subst ho
  have e0 : ((Rect.unit (s := S2048x12) ![i, 0] S1x12.size inb).emb x 0).val = i := by
    have h0 : (x 0).val < 1 := (x 0).isLt
    show i + 1 * (x 0).val = i
    omega
  have e1 : (Rect.unit (s := S2048x12) ![i, 0] S1x12.size inb).emb x 1 = x 1 := by
    apply Fin.ext
    show 0 + 1 * (x 1).val = (x 1).val
    omega
  unfold rows
  rw [e0, e1]

section Pieces
variable {P : Cloud} {v : Vec Ideal S12x64x128 .f32} (hv : Holds P v)
  (𝒱 : Variants) (c : Dev nD) (bd : Option 𝒱.V) (arg0 : Memref sig .tc .vmem S12x64x128 .f32) (harg0 : arg0.IsWhole)
  (arg1 : Memref sig .tc .vmem S2048x12 .f32) (harg1 : arg1.IsWhole)
include hv

/-- Before trip `k` the carried values are those of `k` steps, and every row stored so far is its row of the output. -/
theorem state_spec (k : ℕ) (hk : k ≤ k0_t1_loop.trips) :
    HoldsDist (fps P far k).1 (st_k0_t1 (F := Ideal) 𝒱 c bd arg0 harg0 arg1 harg1 v (k0_pay4, k0_pay2 v) k).1.1 ∧
      HoldsLast P (fps P far k).2 (st_k0_t1 (F := Ideal) 𝒱 c bd arg0 harg0 arg1 harg1 v (k0_pay4, k0_pay2 v) k).1.2 ∧
      ∀ p ∈ (st_k0_t1 (F := Ideal) 𝒱 c bd arg0 harg0 arg1 harg1 v (k0_pay4, k0_pay2 v) k).2,
        ∀ x : p.1.shape.Idx, p.2 x = rows P (p.1.emb x) := by
  induction k with
  | zero => exact ⟨holdsDist_pay4, holdsLast_pay2 hv, fun p hp => absurd hp List.not_mem_nil⟩
  | succ k ih =>
    obtain ⟨hd, hL, hp⟩ := ih (by omega)
    rw [st_k0_t1_succ (F := Ideal) 𝒱 c bd arg0 harg0 arg1 harg1 v (k0_pay4, k0_pay2 v) ⟨k, hk⟩, tripR_eq, tripL_eq]
    refine ⟨holdsDist_pay5 hv hd hL, holdsLast_pay6 hv hd hL, ?_⟩
    intro p hm
    rcases List.mem_cons.1 hm with rfl | hm
    · intro x
      refine Eq.trans ?_ (rows_emb P (k + 1) _ (k0_off1_inb ⟨k, hk⟩) (k0_off1_eq ⟨k, hk⟩) x).symm
      exact row_apply (holdsLast_pay6 hv hd hL) x
    · exact hp p hm

end Pieces

/-- The block the call leaves holds, row by row, the points chosen. -/
theorem out_apply {P : Cloud} {v : Vec Ideal S12x64x128 .f32} (hv : Holds P v) (c : Dev nD)
    (arg0 : Memref sig .tc .vmem S12x64x128 .f32) (harg0 : arg0.IsWhole)
    (arg1 : Memref sig .tc .vmem S2048x12 .f32) (harg1 : arg1.IsWhole) (y : S2048x12.Idx) :
    out0_A_1 (F := Ideal) c arg0 harg0 arg1 harg1 v y = rows P y := by
  unfold out0_A_1
  rw [View.read_writes_eq_canon _ _ _ (cover0_A_1 c arg0 harg0 arg1 harg1 v)]
  refine View.canon_apply_of_pieces (rows P) _ ?_ y (cover0_A_1 c arg0 harg0 arg1 harg1 v y)
  have hz : (![0, 0, 0] : Fin 3 → ℕ) = fun _ => 0 := by funext a; fin_cases a <;> rfl
  have hr : View.readAt (Elt Ideal) arg0.view
      (Rect.unit (s := S12x64x128) ![0, 0, 0] ![12, 64, 128] inb_S12x64x128_S12x64x128_0_0_0).toLoadRect (harg0.unread v) = v := by
    have e : View.ld (arg0.view.read (Elt Ideal) (harg0.unread v))
        (Rect.unit (s := S12x64x128) ![0, 0, 0] S12x64x128.size inb_S12x64x128_S12x64x128_0_0_0) = v := by
      rw [harg0.read_unread]
      exact View.ld_unit_zero hz _ v
    exact e
  intro p hp
  unfold kernelRun0_A at hp
  dsimp only at hp
  rw [hr] at hp
  rcases List.mem_append.1 hp with hp | hp
  · exact (state_spec hv Variants.none c none arg0 harg0 arg1 harg1 k0_t1_loop.trips le_rfl).2.2 p hp
  · obtain rfl := List.mem_singleton.1 hp
    intro x
    refine Eq.trans ?_ (rows_emb P 0 _ inb_S2048x12_S1x12_0_0 rfl x).symm
    exact row_apply (holdsLast_pay2 hv) x

/-! # The kernel's whole program: what its result array holds -/

/-- The clouds an array of points holds. -/
def cloud (p : S4x8192x3.Idx → EReal) : Cloud := fun b n c => p (ix3 b n c)

/-- The array of the points chosen from the clouds `P`. -/
def sampled (P : Cloud) (y : S4x2048x3.Idx) : EReal := P (y 0) ((fps P far (y 1).val).2 (y 0)) (y 2)

variable (m : (ℓ : Loc nD τ sig) → Buf (Elt Ideal) ℓ) (ρ : Dev nD → PrngReg)

/-- The array the call stages in: the points, coordinates first, each cloud's in rows of 128. -/
theorem entry_eq (c : Dev nD) : V m c main_v2
    = shapeCast S12x64x128 (shapeCast S12x8192 (transpose S3x4x8192 [2, 0, 1] (m ((c : Thread nD τ).loc main_arg0))
        transposes_S4x8192x3_S3x4x8192_2_0_1) shapeCasts_S3x4x8192_S12x8192) shapeCasts_S12x8192_S12x64x128 := by
  unfold V V0 hostOps0
  simp only [List.flatten_cons, List.flatten_nil, List.append_nil]
  after_results
  rfl

/-- It holds the clouds in the kernel's arrangement. -/
theorem holds_entry (c : Dev nD) : Holds (cloud (m ((c : Thread nD τ).loc main_arg0))) (V m c main_v2) := by
  intro q b s l
  rw [entry_eq]
  refine (shapeCast_apply _ _ _ (ix2 (plane q b) (point s l)) ?_).trans
    ((shapeCast_apply _ _ _ (ix3 q b (point s l)) ?_).trans (transpose_apply _ _ _ _ (ix3 b (point s l) q) ?_))
  · rw [Shape.rowMajor_val_two, Shape.rowMajor_val_three]
    show (4 * q.val + b.val) * 8192 + (128 * s.val + l.val) = ((4 * q.val + b.val) * 64 + s.val) * 128 + l.val
    omega
  · rw [Shape.rowMajor_val_two, Shape.rowMajor_val_three]
    show (q.val * 4 + b.val) * 8192 + (128 * s.val + l.val) = (4 * q.val + b.val) * 8192 + (128 * s.val + l.val)
    omega
  · intro a; fin_cases a <;> rfl

theorem holds_block (c : Dev nD) (t : Fin cfg0.N) : Holds (cloud (m ((c : Thread nD τ).loc main_arg0))) (iblk m c 0 t) := by
  intro q b s l
  rw [← holds_entry m c q b s l]
  have idx : ∀ t : Fin cfg0.N, ∀ a, win0_0.index t a = 0 := (by decide +kernel : ∀ t : Fin grid0.N, ∀ a, win0_0.index t a = 0)
  blk_ext [iblk, idx t]

/-- After the call its output array holds the chosen points, row by row. -/
theorem arr_eq (c : Dev nD) : (dats m 0 c).arrAt 1 cfg0.N = rows (cloud (m ((c : Thread nD τ).loc main_arg0))) := by
  refine (dats m 0 c).arrAt_eq_of_covers 1 _ (by decide +kernel) fun t hf y => ?_
  have idx : ∀ t : Fin cfg0.N, ∀ a, win0_1.index t a = 0 := (by decide +kernel : ∀ t : Fin grid0.N, ∀ a, win0_1.index t a = 0)
  blk_simp
  rw [after0_1]
  unfold outsAt0
  rw [out_apply (holds_block m c t)]
  refine congrArg (rows _) (funext fun a => Fin.ext ?_)
  blk_simp [idx t]

/-- The call's output array, as the program's last operations find it. -/
theorem call_out (c : Dev nD) :
    Pipeline.withArrays spec0 c (V0 m c) (fun w => (dats m 0 c).arrAt w cfg0.N) (Proc.devRef .tc main_v3)
      = rows (cloud (m ((c : Thread nD τ).loc main_arg0))) :=
  (Pipeline.withArrays_arr spec0 launch0.win.arr_inj c (V0 m c) (fun w => (dats m 0 c).arrAt w cfg0.N) 1).trans (arr_eq m c)

/-- The program's last two operations, read at an index: point `i` of cloud `b` from row `i` of the call's output. -/
theorem tail_apply (R : S2048x12.Idx → EReal) (b : Fin 4) (i : Fin 2048) (q : Fin 3) :
    transpose S4x2048x3 [2, 0, 1] (shapeCast S2048x3x4 R shapeCasts_S2048x12_S2048x3x4)
      transposes_S2048x3x4_S4x2048x3_2_0_1 (ix3 b i q) = R (ix2 i (plane q b)) := by
  refine (transpose_apply _ _ _ _ (ix3 i q b) ?_).trans (shapeCast_apply _ _ _ (ix2 i (plane q b)) ?_)
  · intro a; fin_cases a <;> rfl
  · rw [Shape.rowMajor_val_two, Shape.rowMajor_val_three]
    show i.val * 12 + (4 * q.val + b.val) = (i.val * 3 + q.val) * 4 + b.val
    omega

theorem rows_apply (P : Cloud) (b : Fin 4) (i : Fin 2048) (q : Fin 3) :
    rows P (ix2 i (plane q b)) = sampled P (ix3 b i q) := by
  show P (cloudOf (plane q b)) ((fps P far i.val).2 (cloudOf (plane q b))) (coordOf (plane q b)) = _
  rw [cloudOf_plane, coordOf_plane]
  rfl

/-- The result array holds the chosen points. -/
theorem result_eq (c : Dev nD) :
    Pipeline.afterTail₀ cfgs (dats m) 0 (V0 m) [hostOps1] c main_v5 = sampled (cloud (m ((c : Thread nD τ).loc main_arg0))) := by
  have e : Pipeline.afterTail₀ cfgs (dats m) 0 (V0 m) [hostOps1] c main_v5
      = transpose S4x2048x3 [2, 0, 1] (shapeCast S2048x3x4 (rows (cloud (m ((c : Thread nD τ).loc main_arg0))))
          shapeCasts_S2048x12_S2048x3x4) transposes_S2048x3x4_S4x2048x3_2_0_1 := by
    rw [← call_out]
    unfold Pipeline.afterTail₀ hostOps1
    simp only [List.flatten_cons, List.flatten_nil, List.append_nil]
    after_results
    rfl
  rw [e]
  funext y
  have hy : y = ix3 (y 0) (y 1) (y 2) := by funext a; fin_cases a <;> rfl
  rw [hy]
  exact (tail_apply _ _ _ _).trans (rows_apply _ _ _ _)

/-- The program's run: the result holds the chosen points and the argument is unchanged. -/
theorem run_kernel : θ_run defs (onTc (τ := τ) (main (F := Ideal))) ⟨m, fun _ => 0, ρ⟩ fun r => ∀ c : Dev nD,
    r.2.mem ((c : Thread nD τ).loc main_v5) = sampled (cloud (m ((c : Thread nD τ).loc main_arg0)))
      ∧ r.2.mem ((c : Thread nD τ).loc main_arg0) = m ((c : Thread nD τ).loc main_arg0) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c)⟩)
    (run_main m ρ)

end Cert.Proof.Sample

end
-- ==== Proof.Sample.RefRun.lean ====
module

public import proofs.«01_k».proof.Proof.Gen.SampleReferenceIdeal
public import Idealize.ShloMosaic.PureOps.Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.Sample.Ref

open Cert.SampleReferenceIdeal Cert.SampleReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! # The reference's run: operations, a counted loop of 2047 trips, operations -/

/-! ## The operations -/

/-- Before the loop: the batch numbers, the index buffer with 0 in its first column, the distances, and the loop's
    first values. -/
abbrev entryOps : List (HloOp τ sig (Elt Ideal)) :=
  [ nullary main_v0 (iotaInDim S4 32 0),
    nullary main_v1 (iotaInDim S4 32 0),
    nullary main_c (constantI S_ 32 0#32),
    unary main_c main_v2 (broadcastInDim S4x2048 ![] bcast_S_S4x2048),
    nullary main_c_0 (constantI S_ 32 0#32),
    unary main_c_0 main_v3 (broadcastInDim S1 ![] bcast_S_S1),
    nullary main_c_1 (constantI S_ 32 0#32),
    unary main_c_1 main_v4 (broadcastInDim S4 ![] bcast_S_S4),
    ternary main_v2 main_v3 main_v4 main_v5 (fun x i u => Host.scatter scatter_S4x2048_S1_S4_0_1_1_0 (fun _ b => b) x i u),
    nullary main_cst (constant (F := Ideal) S_ .f32 0x501502F9#32),
    unary main_cst main_v6 (broadcastInDim S4x8192 ![] bcast_S_S4x8192),
    nullary main_c_2 (constantI S_ 32 0#32),
    unary main_c_2 main_v7 (broadcastInDim S4 ![] bcast_S_S4),
    nullary main_c_3 (constantI S_ 32 1#32),
    nullary main_c_4 (constantI S_ 32 0#32),
    unary main_v1 main_v8_0 id,
    unary main_arg0 main_v8_1 id,
    unary main_c_4 main_v8_2 id,
    unary main_c_3 main_v8_3 id,
    unary main_v5 main_v8_4 id,
    unary main_v6 main_v8_5 id,
    unary main_v7 main_v8_6 id ]

/-- The loop's condition: the counter against 2047. -/
abbrev condOps : List (HloOp τ sig (Elt Ideal)) :=
  [ nullary main_while0c_c_15 (constantI S_ 32 2047#32),
    binary main_v8_2 main_while0c_c_15 main_while0c_v25 (cmpi .slt) ]

/-- One trip, first part: the pairs (batch number, last point). -/
abbrev pairOps : List (HloOp τ sig (Elt Ideal)) :=
  [ nullary main_while0b_c_15 (constantI S_ 32 1#32),
    binary main_v8_3 main_while0b_c_15 main_while0b_v25 addi,
    nullary main_while0b_c_16 (constantI S_ 32 0#32),
    unary main_while0b_c_16 main_while0b_v26 (broadcastInDim S4 ![] bcast_S_S4),
    binary main_v8_0 main_while0b_v26 main_while0b_v27 (cmpi .slt),
    nullary main_while0b_c_17 (constantI S_ 32 4#32),
    unary main_while0b_c_17 main_while0b_v28 (broadcastInDim S4 ![] bcast_S_S4),
    binary main_v8_0 main_while0b_v28 main_while0b_v29 addi,
    ternary main_while0b_v27 main_while0b_v29 main_v8_0 main_while0b_v30 select,
    nullary main_while0b_c_18 (constantI S_ 32 0#32),
    unary main_while0b_c_18 main_while0b_v31 (broadcastInDim S4 ![] bcast_S_S4),
    binary main_v8_6 main_while0b_v31 main_while0b_v32 (cmpi .slt),
    nullary main_while0b_c_19 (constantI S_ 32 8192#32),
    unary main_while0b_c_19 main_while0b_v33 (broadcastInDim S4 ![] bcast_S_S4),
    binary main_v8_6 main_while0b_v33 main_while0b_v34 addi,
    ternary main_while0b_v32 main_while0b_v34 main_v8_6 main_while0b_v35 select,
    unary main_while0b_v30 main_while0b_v36 (broadcastInDim S4x1 ![0] bcast_S4_S4x1_0),
    unary main_while0b_v35 main_while0b_v37 (broadcastInDim S4x1 ![0] bcast_S4_S4x1_0),
    binary main_while0b_v36 main_while0b_v37 main_while0b_v38
      (fun a b => concatenate S4x2 1 [⟨S4x1, a⟩, ⟨S4x1, b⟩] concatenates_S4x1_S4x1_S4x2_d1) ]

/-- Second part: every point's squared distance to its cloud's last point, and the distances lowered to it. -/
abbrev distOps : List (HloOp τ sig (Elt Ideal)) :=
  [ binary main_v8_1 main_while0b_v38 main_while0b_v39 (fun x i => Host.gather gather_S4x8192x3_S4x2_S4x3_1_01_n_n_01_1_113 x i),
    unary main_while0b_v39 main_while0b_v40 (broadcastInDim S4x1x3 ![0, 2] bcast_S4x3_S4x1x3_0_2),
    unary main_while0b_v40 main_while0b_v41 (broadcastInDim S4x8192x3 ![0, 1, 2] bcast_S4x1x3_S4x8192x3_0_1_2),
    binary main_v8_1 main_while0b_v41 main_while0b_v42 (subf (F := Ideal) (φ := .f32)),
    binary main_while0b_v42 main_while0b_v42 main_while0b_v43 (mulf (F := Ideal) (φ := .f32)),
    nullary main_while0b_cst_20 (constant (F := Ideal) S_ .f32 0x00000000#32),
    binary main_while0b_v43 main_while0b_cst_20 main_while0b_v44
      (fun x v => Host.reduceAdd (F := Ideal) (φ := .f32) x v reducesTo_S4x8192x3_S4x8192_d2 h_S_),
    binary main_v8_5 main_while0b_v44 main_while0b_v45 (minimumf (F := Ideal) (φ := .f32)) ]

/-- Third part: each cloud's greatest distance and where it first stands. -/
abbrev argOps : List (HloOp τ sig (Elt Ideal)) :=
  [ nullary main_while0b_call0_v0 (iotaInDim S4x8192 32 1),
    nullary main_while0b_call0_cst (constant (F := Ideal) S_ .f32 0xFF800000#32),
    nullary main_while0b_call0_c (constantI S_ 32 0#32),
    quaternary main_while0b_v45 main_while0b_call0_v0 main_while0b_call0_cst main_while0b_call0_c main_while0b_call0_v1_0
      (fun x y u v j => (Host.argReduce (reducer_argmax_f32_i32 (F := Ideal)) x y u v reducesTo_S4x8192_S4_d1 h_S_ j).1),
    quaternary main_while0b_v45 main_while0b_call0_v0 main_while0b_call0_cst main_while0b_call0_c main_while0b_v46
      (fun x y u v j => (Host.argReduce (reducer_argmax_f32_i32 (F := Ideal)) x y u v reducesTo_S4x8192_S4_d1 h_S_ j).2) ]

/-- Fourth part: that point written to the index buffer, and the loop's next values. -/
abbrev keepOps : List (HloOp τ sig (Elt Ideal)) :=
  [ nullary main_while0b_c_21 (constantI S_ 32 0#32),
    binary main_v8_3 main_while0b_c_21 main_while0b_v47 (cmpi .slt),
    nullary main_while0b_c_22 (constantI S_ 32 2048#32),
    binary main_v8_3 main_while0b_c_22 main_while0b_v48 addi,
    ternary main_while0b_v47 main_while0b_v48 main_v8_3 main_while0b_v49 select,
    unary main_while0b_v49 main_while0b_v50 id,
    unary main_while0b_v50 main_while0b_v51 (broadcastInDim S1 ![] bcast_S_S1),
    ternary main_v8_4 main_while0b_v51 main_while0b_v46 main_while0b_v52
      (fun x i u => Host.scatter scatter_S4x2048_S1_S4_0_1_1_0 (fun _ b => b) x i u),
    nullary main_while0b_c_23 (constantI S_ 32 1#32),
    binary main_v8_2 main_while0b_c_23 main_while0b_v53 addi,
    unary main_while0b_v53 main_v8_2 id,
    unary main_while0b_v25 main_v8_3 id,
    unary main_while0b_v52 main_v8_4 id,
    unary main_while0b_v45 main_v8_5 id,
    unary main_while0b_v46 main_v8_6 id ]

/-- After the loop: the points read at the index buffer. -/
abbrev exitOps : List (HloOp τ sig (Elt Ideal)) :=
  [ unary main_v0 main_v9 (broadcastInDim S4x1 ![0] bcast_S4_S4x1_0),
    nullary main_c_5 (constantI S_ 32 0#32),
    unary main_c_5 main_v10 (broadcastInDim S4x1 ![] bcast_S_S4x1),
    binary main_v9 main_v10 main_v11 (cmpi .slt),
    nullary main_c_6 (constantI S_ 32 4#32),
    unary main_c_6 main_v12 (broadcastInDim S4x1 ![] bcast_S_S4x1),
    binary main_v9 main_v12 main_v13 addi,
    ternary main_v11 main_v13 main_v9 main_v14 select,
    nullary main_c_7 (constantI S_ 32 0#32),
    unary main_c_7 main_v15 (broadcastInDim S4x2048 ![] bcast_S_S4x2048),
    binary main_v8_4 main_v15 main_v16 (cmpi .slt),
    nullary main_c_8 (constantI S_ 32 8192#32),
    unary main_c_8 main_v17 (broadcastInDim S4x2048 ![] bcast_S_S4x2048),
    binary main_v8_4 main_v17 main_v18 addi,
    ternary main_v16 main_v18 main_v8_4 main_v19 select,
    unary main_v14 main_v20 (broadcastInDim S4x2048 ![0, 1] bcast_S4x1_S4x2048_0_1),
    unary main_v20 main_v21 (broadcastInDim S4x2048x1 ![0, 1] bcast_S4x2048_S4x2048x1_0_1),
    unary main_v19 main_v22 (broadcastInDim S4x2048x1 ![0, 1] bcast_S4x2048_S4x2048x1_0_1),
    binary main_v21 main_v22 main_v23
      (fun a b => concatenate S4x2048x2 2 [⟨S4x2048x1, a⟩, ⟨S4x2048x1, b⟩] concatenates_S4x2048x1_S4x2048x1_S4x2048x2_d2),
    binary main_arg0 main_v23 main_v24 (fun x i => Host.gather gather_S4x8192x3_S4x2048x2_S4x2048x3_2_01_n_n_01_2_113 x i) ]

abbrev preI : List (List (HloOp τ sig (Elt Ideal))) := [entryOps]
abbrev bodyI : List (List (HloOp τ sig (Elt Ideal))) := [pairOps ++ distOps, argOps, keepOps]
abbrev postI : List (List (HloOp τ sig (Elt Ideal))) := [exitOps]

abbrev P := Prog (TpuEff nD τ sig (Elt Ideal) (HostLoop.Sig (Pipeline.Sig Λ₀ (Fin 0) fun p => (pcfgs (F := Ideal) p).Adm) 1) .tc) PUnit

theorem main_chain (c : Dev nD) : main (F := Ideal) c = (Pipeline.chain [seq entryOps, HostLoop.enter 0, seq exitOps] : P) := by
  rewrite [chain_seq_cons, Pipeline.chain_cons, chain_seq_cons]
  chain_rfl

theorem body_chain : main_while0_body (F := Ideal) = (Pipeline.chain [seq (pairOps ++ distOps), seq argOps, seq keepOps] : P) := by
  rewrite [chain_seq_cons, chain_seq_cons, chain_seq_cons]
  chain_rfl

/-! ## Each operation's buffers -/

theorem entry_fresh : entryOps.Forall fun op => op.fresh = ∅ := forall_fresh_of_map rfl
theorem trip1_fresh : (pairOps ++ distOps).Forall fun op => op.fresh = ∅ := forall_fresh_of_map rfl
theorem arg_fresh : argOps.Forall fun op => op.fresh = ∅ := forall_fresh_of_map rfl
theorem keep_fresh : keepOps.Forall fun op => op.fresh = ∅ := forall_fresh_of_map rfl
theorem exit_fresh : exitOps.Forall fun op => op.fresh = ∅ := forall_fresh_of_map rfl

theorem entry_sub : entryOps.Forall fun op => op.bufs ⊆ tcRefs τ sig := by
  simp only [List.cons_append, List.nil_append, List.Forall, nullary_bufs_sub, unary_bufs_sub, binary_bufs_sub, ternary_bufs_sub, and_self]
theorem trip1_sub : (pairOps ++ distOps).Forall fun op => op.bufs ⊆ tcRefs τ sig := by
  simp only [List.cons_append, List.nil_append, List.Forall, nullary_bufs_sub, unary_bufs_sub, binary_bufs_sub, ternary_bufs_sub, and_self]
theorem arg_sub : argOps.Forall fun op => op.bufs ⊆ tcRefs τ sig :=
  ⟨nullary_bufs_sub .., nullary_bufs_sub .., nullary_bufs_sub .., quaternary_bufs_sub .., quaternary_bufs_sub ..⟩
theorem keep_sub : keepOps.Forall fun op => op.bufs ⊆ tcRefs τ sig := by
  simp only [List.cons_append, List.nil_append, List.Forall, nullary_bufs_sub, unary_bufs_sub, binary_bufs_sub, ternary_bufs_sub, and_self]
theorem exit_sub : exitOps.Forall fun op => op.bufs ⊆ tcRefs τ sig := by
  simp only [List.cons_append, List.nil_append, List.Forall, nullary_bufs_sub, unary_bufs_sub, binary_bufs_sub, ternary_bufs_sub, and_self]

theorem hpre : Plain preI := .cons entry_sub (hf := List.forall_iff_forall_mem.mp entry_fresh) .nil
theorem hbody : Plain bodyI :=
  .cons trip1_sub (hf := List.forall_iff_forall_mem.mp trip1_fresh)
    (.cons arg_sub (hf := List.forall_iff_forall_mem.mp arg_fresh) (.cons keep_sub (hf := List.forall_iff_forall_mem.mp keep_fresh) .nil))
theorem hpost : Plain postI := .cons exit_sub (hf := List.forall_iff_forall_mem.mp exit_fresh) .nil

/-- What each stretch of a trip and the condition write. -/
abbrev condW : List (Ref sig .tc) := [main_while0c_c_15, main_while0c_v25]
abbrev pairW : List (Ref sig .tc) :=
  [main_while0b_c_15, main_while0b_v25, main_while0b_c_16, main_while0b_v26, main_while0b_v27, main_while0b_c_17, main_while0b_v28,
    main_while0b_v29, main_while0b_v30, main_while0b_c_18, main_while0b_v31, main_while0b_v32, main_while0b_c_19, main_while0b_v33,
    main_while0b_v34, main_while0b_v35, main_while0b_v36, main_while0b_v37, main_while0b_v38]
abbrev distW : List (Ref sig .tc) :=
  [main_while0b_v39, main_while0b_v40, main_while0b_v41, main_while0b_v42, main_while0b_v43, main_while0b_cst_20, main_while0b_v44,
    main_while0b_v45]
abbrev argW : List (Ref sig .tc) :=
  [main_while0b_call0_v0, main_while0b_call0_cst, main_while0b_call0_c, main_while0b_call0_v1_0, main_while0b_v46]
abbrev keepW : List (Ref sig .tc) :=
  [main_while0b_c_21, main_while0b_v47, main_while0b_c_22, main_while0b_v48, main_while0b_v49, main_while0b_v50, main_while0b_v51,
    main_while0b_v52, main_while0b_c_23, main_while0b_v53, main_v8_2, main_v8_3, main_v8_4, main_v8_5, main_v8_6]
abbrev exitW : List (Ref sig .tc) :=
  [main_v9, main_c_5, main_v10, main_v11, main_c_6, main_v12, main_v13, main_v14, main_c_7, main_v15, main_v16, main_c_8, main_v17,
    main_v18, main_v19, main_v20, main_v21, main_v22, main_v23, main_v24]

theorem cond_writes : condOps.Forall fun op => op.writes ⊆ (condW.map (Proc.devRef (τ := τ) .tc)).toFinset := forall_writes_sub_of_map rfl
theorem pair_writes : pairOps.Forall fun op => op.writes ⊆ (pairW.map (Proc.devRef (τ := τ) .tc)).toFinset := forall_writes_sub_of_map rfl
theorem dist_writes : distOps.Forall fun op => op.writes ⊆ (distW.map (Proc.devRef (τ := τ) .tc)).toFinset := forall_writes_sub_of_map rfl
theorem arg_writes : argOps.Forall fun op => op.writes ⊆ (argW.map (Proc.devRef (τ := τ) .tc)).toFinset := forall_writes_sub_of_map rfl
theorem keep_writes : keepOps.Forall fun op => op.writes ⊆ (keepW.map (Proc.devRef (τ := τ) .tc)).toFinset := forall_writes_sub_of_map rfl
theorem exit_writes : exitOps.Forall fun op => op.writes ⊆ (exitW.map (Proc.devRef (τ := τ) .tc)).toFinset := forall_writes_sub_of_map rfl

section
variable (W : Valuation τ sig (Elt Ideal)) (r : Ref sig .tc)
theorem cond_keeps (h : r ∉ condW) : after condOps W (Proc.devRef .tc r) = W (Proc.devRef .tc r) := after_of_writes_sub condOps W cond_writes h
theorem pair_keeps (h : r ∉ pairW) : after pairOps W (Proc.devRef .tc r) = W (Proc.devRef .tc r) := after_of_writes_sub pairOps W pair_writes h
theorem dist_keeps (h : r ∉ distW) : after distOps W (Proc.devRef .tc r) = W (Proc.devRef .tc r) := after_of_writes_sub distOps W dist_writes h
theorem arg_keeps (h : r ∉ argW) : after argOps W (Proc.devRef .tc r) = W (Proc.devRef .tc r) := after_of_writes_sub argOps W arg_writes h
theorem keep_keeps (h : r ∉ keepW) : after keepOps W (Proc.devRef .tc r) = W (Proc.devRef .tc r) := after_of_writes_sub keepOps W keep_writes h
theorem exit_keeps (h : r ∉ exitW) : after exitOps W (Proc.devRef .tc r) = W (Proc.devRef .tc r) := after_of_writes_sub exitOps W exit_writes h
end

/-- A trip, stretch by stretch. -/
theorem trip_eq (W : Valuation τ sig (Elt Ideal)) : afterL bodyI W = after keepOps (after argOps (after distOps (after pairOps W))) := by
  simp only [afterL_cons, afterL_nil, after_append]

/-! ## The counter -/

variable (m : (ℓ : Loc nD τ sig) → Buf (Elt Ideal) ℓ) (ρ : Dev nD → PrngReg)

/-- The buffers before the `k`-th test of the condition. -/
abbrev atK (k : ℕ) (c : Dev nD) : Valuation τ sig (Elt Ideal) := atTrip condOps bodyI (entryContents preI m) k c

theorem keep_counter (Y : Valuation τ sig (Elt Ideal)) :
    after keepOps Y (Proc.devRef .tc main_v8_2) = addi (Y (Proc.devRef .tc main_v8_2)) (constantI S_ 32 1#32) := by
  after_results
  rfl

theorem trip_counter (W : Valuation τ sig (Elt Ideal)) :
    afterL bodyI W (Proc.devRef .tc main_v8_2) = addi (W (Proc.devRef .tc main_v8_2)) (constantI S_ 32 1#32) := by
  rw [trip_eq, keep_counter, arg_keeps _ _ (by decide), dist_keeps _ _ (by decide), pair_keeps _ _ (by decide)]

theorem entry_counter (c : Dev nD) : entryContents preI m c (Proc.devRef .tc main_v8_2) = fun _ => (0#32 : BitVec 32) := by
  simp only [entryContents, afterL_cons, afterL_nil]
  after_reads_simp
  rfl

theorem counter (c : Dev nD) : ∀ k, atK m k c (Proc.devRef .tc main_v8_2) = fun _ => Scf.iv 0#32 1#32 k
  | 0 => by rw [show atK m 0 c = entryContents preI m c from rfl, entry_counter, Scf.iv_zero]
  | k + 1 => by
    rw [show atK m (k + 1) c = afterL bodyI (after condOps (atK m k c)) from rfl, trip_counter, cond_keeps _ _ (by decide),
      counter c k, Scf.iv_succ]
    rfl

set_option backward.isDefEq.respectTransparency.types false in
/-- The condition holds before each of the 2047 trips and not after. -/
theorem cond_spec : CondSpec (pcfgs (F := Ideal)) defs₀ loops (main_while0_cond (F := Ideal)) condOps bodyI (entryContents preI m) 2047 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v8_2 HostLoop.idx0)
        (HloOp.result _ (atK m k c) main_while0c_c_15 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  rw [after_cons, after_cons, after_nil]; iexact Hh

/-- Every execution ends, each buffer with what the operations, in order, leave in it. -/
theorem run_fold : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2047 m c (Proc.devRef .tc b)) :=
  run_loop (pcfgs (F := Ideal)) defs₀ loops main 0 main_while0_cond main_while0_body rfl preI bodyI postI condOps hpre hbody hpost
    (fun c => by rw [main_chain]; rfl) (by rw [body_chain]; rfl) 2047 m ρ (cond_spec m)

end Cert.Proof.Sample.Ref
-- ==== Proof.Sample.RefOps.lean ====
module

public import proofs.«01_k».proof.Proof.Sample.Spec
public import proofs.«01_k».proof.Proof.Gen.SampleReferenceIdeal
public import Idealize.ShloMosaic.Lib.Pipeline.Value
public import Idealize.ShloMosaic.Lib.Pointwise.Reduce
public import Idealize.ShloMosaic.Lib.Routing.OpsOne
public import Idealize.ShloMosaic.PureOps.Ideal.Laws

@[expose] public section

set_option maxRecDepth 16384

noncomputable section

namespace Cert.Proof.Sample.Ref

open Cert.SampleReferenceIdeal Cert.SampleReferenceIdeal.Gen
open Idealize.ShloMosaic

/-! # The reference's operations, read at an index -/

/-! ## Index arithmetic -/

theorem toInt_small (x : BitVec 32) (h : x.toNat < 2 ^ 31) : x.toInt = x.toNat := by
  rw [BitVec.toInt_eq_toNat_cond, if_pos (by omega)]

theorem toNat_ofNat_small (n : ℕ) (h : n < 2 ^ 31) : (BitVec.ofNat 32 n).toNat = n := by
  rw [BitVec.toNat_ofNat, Nat.mod_eq_of_lt (by omega)]

theorem toInt_ofNat (n : ℕ) (h : n < 2 ^ 31) : (BitVec.ofNat 32 n).toInt = n := by
  rw [toInt_small _ (by rw [toNat_ofNat_small n h]; exact h), toNat_ofNat_small n h]

/-- An index that is not negative is taken as it is. -/
theorem wrap_small {s : Shape} (x z c : IVec s 32) (i : s.Idx) (hz : z i = 0#32) (h : (x i).toNat < 2 ^ 31) :
    select (cmpi .slt x z) (addi x c) x i = x i := by
  show (if IntOp.cmpi .slt (x i) (z i) = 1#1 then IntOp.addi (x i) (c i) else x i) = _
  rw [if_neg]
  rw [hz, show IntOp.cmpi .slt (x i) 0#32 = BitVec.ofBool (decide ((x i).toInt < (0#32 : BitVec 32).toInt)) from rfl, toInt_small _ h]
  have : ¬ (((x i).toNat : Int) < (0#32 : BitVec 32).toInt) := by
    show ¬ (((x i).toNat : Int) < 0)
    omega
  simp only [this, decide_false]
  decide

/-! ## Pairs of indices, and the points they name -/

theorem pair_apply (u v : IVec S4x1 32) (b : Fin 4) :
    concatenate S4x2 1 [⟨S4x1, u⟩, ⟨S4x1, v⟩] concatenates_S4x1_S4x1_S4x2_d1 (ix2 b (0 : Fin 2)) = u (ix2 b (0 : Fin 1)) ∧
    concatenate S4x2 1 [⟨S4x1, u⟩, ⟨S4x1, v⟩] concatenates_S4x1_S4x1_S4x2_d1 (ix2 b (1 : Fin 2)) = v (ix2 b (0 : Fin 1)) := by
  constructor
  · refine concatenate_apply_piece (t := S4x2) 1 _ _ _ 0 (by show 0 < 2; decide) S4x1 u rfl rfl 0 rfl _ ?_ rfl
    intro a ha; fin_cases a
    · rfl
    · exact absurd rfl ha
  · refine concatenate_apply_piece (t := S4x2) 1 _ _ _ 1 (by show 1 < 2; decide) S4x1 v rfl rfl 1 rfl _ ?_ rfl
    intro a ha; fin_cases a
    · rfl
    · exact absurd rfl ha

theorem pairs_apply (u v : IVec S4x2048x1 32) (b : Fin 4) (i : Fin 2048) :
    concatenate S4x2048x2 2 [⟨S4x2048x1, u⟩, ⟨S4x2048x1, v⟩] concatenates_S4x2048x1_S4x2048x1_S4x2048x2_d2 (ix3 b i (0 : Fin 2))
      = u (ix3 b i (0 : Fin 1)) ∧
    concatenate S4x2048x2 2 [⟨S4x2048x1, u⟩, ⟨S4x2048x1, v⟩] concatenates_S4x2048x1_S4x2048x1_S4x2048x2_d2 (ix3 b i (1 : Fin 2))
      = v (ix3 b i (0 : Fin 1)) := by
  constructor
  · refine concatenate_apply_piece (t := S4x2048x2) 2 _ _ _ 0 (by show 0 < 2; decide) S4x2048x1 u rfl rfl 0 rfl _ ?_ rfl
    intro a ha; fin_cases a
    · rfl
    · rfl
    · exact absurd rfl ha
  · refine concatenate_apply_piece (t := S4x2048x2) 2 _ _ _ 1 (by show 1 < 2; decide) S4x2048x1 v rfl rfl 1 rfl _ ?_ rfl
    intro a ha; fin_cases a
    · rfl
    · rfl
    · exact absurd rfl ha

/-- The point of each cloud that a pair names. -/
theorem gather_last (x : S4x8192x3.Idx → EReal) (idx : IVec S4x2 32) (b : Fin 4) (q : Fin 3) (n : Fin 8192)
    (h0 : idx (ix2 b (0 : Fin 2)) = BitVec.ofNat 32 b.val) (h1 : idx (ix2 b (1 : Fin 2)) = BitVec.ofNat 32 n.val) :
    Host.gather gather_S4x8192x3_S4x2_S4x3_1_01_n_n_01_1_113 x idx (ix2 b q) = x (ix3 b n q) := by
  unfold Host.gather
  congr 1
  set g := gather_S4x8192x3_S4x2_S4x3_1_01_n_n_01_1_113 with hg
  have hst : ∀ (a : Fin 3) (c : Fin 2) (k : ℕ) (hm : a ∈ g.startIndexMap) (hc : g.startIndexMap.idxOf a = c.val) (hk : k < 2 ^ 31)
      (e : idx (ix2 b c) = BitVec.ofNat 32 k) (hs : k ≤ S4x8192x3.size a - g.sliceSizes a), g.start (ix2 b q) idx a = k := by
    intro a c k hm hc hk e hs
    unfold GatherDims.start
    rw [dif_pos hm]
    have hz : g.siIdx (ix2 b q) ⟨g.startIndexMap.idxOf a, List.idxOf_lt_length_iff.2 hm⟩ = ix2 b c := by
      funext d
      match d with
      | ⟨0, _⟩ => exact Fin.ext rfl
      | ⟨1, _⟩ => exact Fin.ext hc
    rw [hz, e, toInt_ofNat k hk]
    exact Nat.min_eq_left hs
  funext a
  refine Fin.ext ?_
  show g.start (ix2 b q) idx a + g.batchCoord (ix2 b q) a + g.offCoord (ix2 b q) a = _
  rw [GatherDims.batchCoord_eq_zero _ _ _ (by rw [hg]; exact List.not_mem_nil)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (by rw [hg]; decide)),
      hst 0 0 b.val (by rw [hg]; decide) rfl (by omega) h0 (by show b.val ≤ 4 - 1; omega)]
    rfl
  · rw [GatherDims.offCoord_eq_zero _ _ _ (fun h => ((GatherDims.mem_sKept _ _).mp h).1 (by rw [hg]; decide)),
      hst 1 1 n.val (by rw [hg]; decide) rfl (by omega) h1 (by show n.val ≤ 8192 - 1; omega)]
    rfl
  · have e0 : g.start (ix2 b q) idx (2 : Fin 3) = 0 := by
      unfold GatherDims.start
      rw [dif_neg (show (2 : Fin 3) ∉ g.startIndexMap by rw [hg]; decide)]
    have e1 : g.offCoord (ix2 b q) (2 : Fin 3) = q.val := by
      unfold GatherDims.offCoord
      rw [dif_pos ((GatherDims.mem_sKept _ _).mpr ⟨by rw [hg]; decide, by rw [hg]; exact List.not_mem_nil⟩)]
      rfl
    show g.start (ix2 b q) idx (2 : Fin 3) + 0 + g.offCoord (ix2 b q) (2 : Fin 3) = q.val
    rw [e0, e1]
    omega

/-- The points that an array of pairs names. -/
theorem gather_points (x : S4x8192x3.Idx → EReal) (idx : IVec S4x2048x2 32) (b : Fin 4) (i : Fin 2048) (q : Fin 3) (n : Fin 8192)
    (h0 : idx (ix3 b i (0 : Fin 2)) = BitVec.ofNat 32 b.val) (h1 : idx (ix3 b i (1 : Fin 2)) = BitVec.ofNat 32 n.val) :
    Host.gather gather_S4x8192x3_S4x2048x2_S4x2048x3_2_01_n_n_01_2_113 x idx (ix3 b i q) = x (ix3 b n q) := by
  unfold Host.gather
  congr 1
  set g := gather_S4x8192x3_S4x2048x2_S4x2048x3_2_01_n_n_01_2_113 with hg
  have hst : ∀ (a : Fin 3) (c : Fin 2) (k : ℕ) (hm : a ∈ g.startIndexMap) (hc : g.startIndexMap.idxOf a = c.val) (hk : k < 2 ^ 31)
      (e : idx (ix3 b i c) = BitVec.ofNat 32 k) (hs : k ≤ S4x8192x3.size a - g.sliceSizes a), g.start (ix3 b i q) idx a = k := by
    intro a c k hm hc hk e hs
    unfold GatherDims.start
    rw [dif_pos hm]
    have hz : g.siIdx (ix3 b i q) ⟨g.startIndexMap.idxOf a, List.idxOf_lt_length_iff.2 hm⟩ = ix3 b i c := by
      funext d
      match d with
      | ⟨0, _⟩ => exact Fin.ext rfl
      | ⟨1, _⟩ => exact Fin.ext rfl
      | ⟨2, _⟩ => exact Fin.ext hc
    rw [hz, e, toInt_ofNat k hk]
    exact Nat.min_eq_left hs
  funext a
  refine Fin.ext ?_
  show g.start (ix3 b i q) idx a + g.batchCoord (ix3 b i q) a + g.offCoord (ix3 b i q) a = _
  rw [GatherDims.batchCoord_eq_zero _ _ _ (by rw [hg]; exact List.not_mem_nil)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (by rw [hg]; decide)),
      hst 0 0 b.val (by rw [hg]; decide) rfl (by omega) h0 (by show b.val ≤ 4 - 1; omega)]
    rfl
  · rw [GatherDims.offCoord_eq_zero _ _ _ (fun h => ((GatherDims.mem_sKept _ _).mp h).1 (by rw [hg]; decide)),
      hst 1 1 n.val (by rw [hg]; decide) rfl (by omega) h1 (by show n.val ≤ 8192 - 1; omega)]
    rfl
  · have e0 : g.start (ix3 b i q) idx (2 : Fin 3) = 0 := by
      unfold GatherDims.start
      rw [dif_neg (show (2 : Fin 3) ∉ g.startIndexMap by rw [hg]; decide)]
    have e1 : g.offCoord (ix3 b i q) (2 : Fin 3) = q.val := by
      unfold GatherDims.offCoord
      rw [dif_pos ((GatherDims.mem_sKept _ _).mpr ⟨by rw [hg]; decide, by rw [hg]; exact List.not_mem_nil⟩)]
      rfl
    show g.start (ix3 b i q) idx (2 : Fin 3) + 0 + g.offCoord (ix3 b i q) (2 : Fin 3) = q.val
    rw [e0, e1]
    omega

/-- One column of the index buffer written. -/
theorem scatter_column (x : IVec S4x2048 32) (idx : IVec S1 32) (u : IVec S4 32) (k : Fin 2048)
    (h : idx (ix1 (0 : Fin 1)) = BitVec.ofNat 32 k.val) (b : Fin 4) (i : Fin 2048) :
    Host.scatter scatter_S4x2048_S1_S4_0_1_1_0 (fun _ v => v) x idx u (ix2 b i) = if i = k then u (ix1 b) else x (ix2 b i) :=
  Routing.scatter_col (A := 4) (N := 2048) scatter_S4x2048_S1_S4_0_1_1_0 rfl rfl x idx u k (by omega) h b i

/-! ## The greatest value and where it first stands -/

/-- `p` is no better than `r`: a smaller value, or the same value at a place no earlier. -/
def NoBetter (p r : EReal × BitVec 32) : Prop := p.1 < r.1 ∨ p.1 = r.1 ∧ r.2.toInt ≤ p.2.toInt

theorem NoBetter.refl (p : EReal × BitVec 32) : NoBetter p p := Or.inr ⟨rfl, le_refl _⟩

theorem NoBetter.trans {p q r : EReal × BitVec 32} (h : NoBetter p q) (h' : NoBetter q r) : NoBetter p r := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

/-- The reducer keeps the better of two pairs. -/
theorem reducer_eq (a b : EReal × BitVec 32) : NoBetter a (reducer_argmax_f32_i32 (F := Ideal) a b) ∧ NoBetter b (reducer_argmax_f32_i32 (F := Ideal) a b)
    ∧ (reducer_argmax_f32_i32 (F := Ideal) a b = a ∨ reducer_argmax_f32_i32 (F := Ideal) a b = b) := by
  have e : reducer_argmax_f32_i32 (F := Ideal) a b
      = (if b.1 < a.1 then a.1 else b.1, if b.1 < a.1 ∨ (a.1 = b.1 ∧ a.2.toInt < b.2.toInt) then a.2 else b.2) := by
    unfold reducer_argmax_f32_i32
    have e1 : FloatOps.cmpf (F := Ideal) (φ := .f32) .ogt a.1 b.1 = BitVec.ofBool (decide (b.1 < a.1)) := rfl
    have e2 : FloatOps.cmpf (F := Ideal) (φ := .f32) .une a.1 a.1 = BitVec.ofBool (decide (a.1 ≠ a.1)) := rfl
    have e3 : FloatOps.cmpf (F := Ideal) (φ := .f32) .oeq a.1 b.1 = BitVec.ofBool (decide (a.1 = b.1)) := rfl
    have e4 : IntOp.cmpi .slt a.2 b.2 = BitVec.ofBool (decide (a.2.toInt < b.2.toInt)) := rfl
    simp only [e1, e2, e3, e4, ne_eq, not_true_eq_false, decide_false]
    by_cases h1 : b.1 < a.1 <;> by_cases h2 : a.1 = b.1 <;> by_cases h3 : a.2.toInt < b.2.toInt <;>
      simp [h1, h2, h3, IntOp.ori, IntOp.andi, Scalar.select]
  rw [e]
  rcases lt_trichotomy a.1 b.1 with h | h | h
  · rw [if_neg h.le.not_gt, if_neg (by rintro (h' | ⟨h', -⟩); exacts [h.le.not_gt h', h.ne h'])]
    exact ⟨Or.inl h, NoBetter.refl _, Or.inr rfl⟩
  · by_cases hi : a.2.toInt < b.2.toInt
    · rw [if_neg (by rw [h]; exact lt_irrefl _), if_pos (Or.inr ⟨h, hi⟩), ← h]
      exact ⟨NoBetter.refl _, Or.inr ⟨h.symm, hi.le⟩, Or.inl rfl⟩
    · rw [if_neg (by rw [h]; exact lt_irrefl _), if_neg (by rintro (h' | ⟨-, h'⟩); exacts [h'.ne h.symm, hi h'])]
      exact ⟨Or.inr ⟨h, not_lt.1 hi⟩, NoBetter.refl _, Or.inr rfl⟩
  · rw [if_pos h, if_pos (Or.inl h)]
    exact ⟨NoBetter.refl _, Or.inl h, Or.inl rfl⟩

/-- Folding it over a list leaves the best of the pairs met. -/
theorem fold_best (l : List (EReal × BitVec 32)) (a : EReal × BitVec 32) :
    NoBetter a (l.foldl (reducer_argmax_f32_i32 (F := Ideal)) a)
    ∧ (∀ p ∈ l, NoBetter p (l.foldl (reducer_argmax_f32_i32 (F := Ideal)) a))
    ∧ (l.foldl (reducer_argmax_f32_i32 (F := Ideal)) a = a ∨ l.foldl (reducer_argmax_f32_i32 (F := Ideal)) a ∈ l) := by
  induction l generalizing a with
  | nil => exact ⟨NoBetter.refl _, fun _ h => absurd h List.not_mem_nil, Or.inl rfl⟩
  | cons x l ih =>
    obtain ⟨ha, hx, hc⟩ := reducer_eq a x
    obtain ⟨i1, i2, i3⟩ := ih (reducer_argmax_f32_i32 (F := Ideal) a x)
    rw [List.foldl_cons]
    refine ⟨ha.trans i1, fun p hp => ?_, ?_⟩
    · rcases List.mem_cons.1 hp with rfl | hp
      · exact hx.trans i1
      · exact i2 p hp
    · rcases i3 with i3 | i3
      · rcases hc with hc | hc
        · exact Or.inl (i3.trans hc)
        · exact Or.inr (List.mem_cons.2 (Or.inl (i3.trans hc)))
      · exact Or.inr (List.mem_cons_of_mem _ i3)

/-- The arg-max of a cloud's values: the first place of the greatest. -/
theorem argmax_apply (x : S4x8192.Idx → EReal) (b : Fin 4) :
    (Host.argReduce (F := Ideal) (φ := .f32) (reducer_argmax_f32_i32 (F := Ideal)) x (iotaInDim S4x8192 32 1) (constant (F := Ideal) S_ .f32 0xFF800000#32)
      (constantI S_ 32 0#32) reducesTo_S4x8192_S4_d1 h_S_ (ix1 b)).2 = BitVec.ofNat 32 (first fun n => x (ix2 b n)).val := by
  rw [Ideal.argReduce_eq_reduce2, Host.reduce2_eq_foldl_fiber]
  have e0 : (constant (F := Ideal) S_ .f32 0xFF800000#32 (Shape.Idx.first h_S_) : EReal) = ⊥ := by
    show Ideal.ofBits .f32 0xFF800000#32 = ⊥
    simp [Ideal.ofBits, Ideal.ieee]
  set l := Host.argReduceFiber (α := EReal) x (iotaInDim S4x8192 32 1) reducesTo_S4x8192_S4_d1 (ix1 b) with hl
  have hmem : ∀ p, p ∈ l ↔ ∃ n : Fin 8192, p = (x (ix2 b n), BitVec.ofNat 32 n.val) := by
    intro p
    rw [hl]
    unfold Host.argReduceFiber
    simp only [List.mem_map, List.mem_filter, List.mem_finRange, true_and, decide_eq_true_eq]
    constructor
    · rintro ⟨k, hk, rfl⟩
      set i := S4x8192.rowMajor.symm k
      have hb : (i 0).val = b.val := by
        have := congrArg (fun z : S4.Idx => (z 0).val) hk
        rwa [show ((reducesTo_S4x8192_S4_d1.drop i) 0).val = (i 0).val from rfl] at this
      have hi : i = ix2 b (i 1) := by
        funext a
        match a with
        | ⟨0, _⟩ => exact Fin.ext hb
        | ⟨1, _⟩ => rfl
      exact ⟨i 1, Prod.ext (congrArg x hi) rfl⟩
    · rintro ⟨n, rfl⟩
      refine ⟨S4x8192.rowMajor (ix2 b n), ?_, ?_⟩
      · rw [Equiv.symm_apply_apply]
        funext a
        match a with
        | ⟨0, _⟩ => rfl
      · rw [Equiv.symm_apply_apply]
        rfl
  rw [e0]
  obtain ⟨h1, h2, h3⟩ := fold_best l (⊥, constantI S_ 32 0#32 (Shape.Idx.first h_S_))
  set r := l.foldl (reducer_argmax_f32_i32 (F := Ideal)) (⊥, constantI S_ 32 0#32 (Shape.Idx.first h_S_)) with hr
  have hall : ∀ n : Fin 8192, NoBetter (x (ix2 b n), BitVec.ofNat 32 n.val) r := fun n => h2 _ ((hmem _).2 ⟨n, rfl⟩)
  rcases h3 with h3 | h3
  · have hbot : ∀ n : Fin 8192, x (ix2 b n) = ⊥ := fun n => by
      rcases hall n with h | ⟨h, -⟩
      · rw [h3] at h; exact absurd h not_lt_bot
      · rw [h3] at h; exact h
    have : IsFirst (fun n => x (ix2 b n)) 0 :=
      ⟨fun m => (hbot m).le.trans bot_le, fun m _ => Fin.zero_le m⟩
    rw [← eq_first this, h3]
    rfl
  · obtain ⟨n, hn⟩ := (hmem r).1 h3
    have : IsFirst (fun n => x (ix2 b n)) n := by
      refine ⟨fun m => ?_, fun m hm => ?_⟩
      · rcases hall m with h | ⟨h, -⟩
        · rw [hn] at h; exact h.le
        · rw [hn] at h; exact h.le
      · rcases hall m with h | ⟨-, h⟩
        · rw [hn] at h; exact absurd hm h.ne
        · rw [hn] at h
          have h : (BitVec.ofNat 32 n.val).toInt ≤ (BitVec.ofNat 32 m.val).toInt := h
          rw [toInt_ofNat _ (by omega), toInt_ofNat _ (by omega)] at h
          exact Fin.le_def.2 (by omega)
    rw [← eq_first this, hn]

/-! ## The squared distances -/

/-- A point's squared differences from its cloud's last point, summed. -/
theorem distance_apply (p : S4x8192x3.Idx → EReal) (l : S4x3.Idx → EReal) (b : Fin 4) (n : Fin 8192) :
    Host.reduceAdd (F := Ideal) (φ := .f32)
        (mulf (F := Ideal) (φ := .f32)
          (subf (F := Ideal) (φ := .f32) p (broadcastInDim S4x8192x3 ![0, 1, 2] bcast_S4x1x3_S4x8192x3_0_1_2 (broadcastInDim S4x1x3 ![0, 2] bcast_S4x3_S4x1x3_0_2 l)))
          (subf (F := Ideal) (φ := .f32) p (broadcastInDim S4x8192x3 ![0, 1, 2] bcast_S4x1x3_S4x8192x3_0_1_2 (broadcastInDim S4x1x3 ![0, 2] bcast_S4x3_S4x1x3_0_2 l))))
        (constant (F := Ideal) S_ .f32 0x00000000#32) reducesTo_S4x8192x3_S4x8192_d2 h_S_ (ix2 b n)
      = (p (ix3 b n 0) - l (ix2 b 0)) * (p (ix3 b n 0) - l (ix2 b 0)) + (p (ix3 b n 1) - l (ix2 b 1)) * (p (ix3 b n 1) - l (ix2 b 1))
        + (p (ix3 b n 2) - l (ix2 b 2)) * (p (ix3 b n 2) - l (ix2 b 2)) := by
  refine (Ideal.hostReduceAdd_r3_a2 reducesTo_S4x8192x3_S4x8192_d2 _ _ _).trans ?_
  rw [Fin.sum_univ_three]
  have e0 : (constant (F := Ideal) S_ .f32 0x00000000#32 (Shape.Idx.first h_S_) : EReal) = 0 := by
    show Ideal.ofBits .f32 0x00000000#32 = 0
    simp [Ideal.ofBits, Ideal.ieee]
  rw [e0, zero_add]
  have hb : ∀ q : Fin 3, broadcastInDim S4x8192x3 ![0, 1, 2] bcast_S4x1x3_S4x8192x3_0_1_2 (broadcastInDim S4x1x3 ![0, 2] bcast_S4x3_S4x1x3_0_2 l)
      (ix3 b n q) = l (ix2 b q) := by
    intro q
    unfold broadcastInDim
    congr 1
    funext a
    match a with
    | ⟨0, _⟩ => rfl
    | ⟨1, _⟩ => rfl
  have hd : ∀ q : Fin 3, mulf (F := Ideal) (φ := .f32)
          (subf (F := Ideal) (φ := .f32) p (broadcastInDim S4x8192x3 ![0, 1, 2] bcast_S4x1x3_S4x8192x3_0_1_2 (broadcastInDim S4x1x3 ![0, 2] bcast_S4x3_S4x1x3_0_2 l)))
          (subf (F := Ideal) (φ := .f32) p (broadcastInDim S4x8192x3 ![0, 1, 2] bcast_S4x1x3_S4x8192x3_0_1_2 (broadcastInDim S4x1x3 ![0, 2] bcast_S4x3_S4x1x3_0_2 l)))
      (ix3 b n q) = (p (ix3 b n q) - l (ix2 b q)) * (p (ix3 b n q) - l (ix2 b q)) := by
    intro q
    rw [← hb q]
    rfl
  rw [← hd 0, ← hd 1, ← hd 2]
  rfl

end Cert.Proof.Sample.Ref
-- ==== Proof.Sample.RefValue.lean ====
module

public import proofs.«01_k».proof.Proof.Sample.Main
public import proofs.«01_k».proof.Proof.Sample.RefRun
public import proofs.«01_k».proof.Proof.Sample.RefOps

@[expose] public section

set_option maxRecDepth 16384

noncomputable section

namespace Cert.Proof.Sample.Ref

open Cert.SampleReferenceIdeal Cert.SampleReferenceIdeal.Gen
open Idealize.ShloMosaic Idealize.ShloMosaic.TcCoe Idealize.ShloMosaic.Tactic
open Idealize.SL Idealize.SL.Sem
open Idealize.ShloMosaic.StableHlo

/-! # What the reference's result array holds -/

/-! ## Each stretch's values -/

section
variable (W : Valuation τ sig (Elt Ideal))

/-- A column of indices, those below 0 moved up by `c`. -/
abbrev column (x : IVec S4 32) (c : BitVec 32) : IVec S4x1 32 :=
  broadcastInDim S4x1 ![0] bcast_S4_S4x1_0
    (select (cmpi .slt x (broadcastInDim S4 ![] bcast_S_S4 (constantI S_ 32 0#32)))
      (addi x (broadcastInDim S4 ![] bcast_S_S4 (constantI S_ 32 c))) x)

theorem pair_value : after pairOps W (Proc.devRef .tc main_while0b_v38)
    = concatenate S4x2 1 [⟨S4x1, column (W (Proc.devRef .tc main_v8_0)) 4#32⟩, ⟨S4x1, column (W (Proc.devRef .tc main_v8_6)) 8192#32⟩]
        concatenates_S4x1_S4x1_S4x2_d1 := by
  after_results

theorem pair_next : after pairOps W (Proc.devRef .tc main_while0b_v25) = addi (W (Proc.devRef .tc main_v8_3)) (constantI S_ 32 1#32) := by
  after_results

/-- The clouds less their last points. -/
abbrev offset (p : S4x8192x3.Idx → EReal) (i : IVec S4x2 32) : S4x8192x3.Idx → EReal :=
  subf (F := Ideal) (φ := .f32) p (broadcastInDim S4x8192x3 ![0, 1, 2] bcast_S4x1x3_S4x8192x3_0_1_2
    (broadcastInDim S4x1x3 ![0, 2] bcast_S4x3_S4x1x3_0_2 (Host.gather gather_S4x8192x3_S4x2_S4x3_1_01_n_n_01_1_113 p i)))

theorem dist_value : after distOps W (Proc.devRef .tc main_while0b_v45)
    = minimumf (F := Ideal) (φ := .f32) (W (Proc.devRef .tc main_v8_5))
        (Host.reduceAdd (F := Ideal) (φ := .f32)
          (mulf (F := Ideal) (φ := .f32) (offset (W (Proc.devRef .tc main_v8_1)) (W (Proc.devRef .tc main_while0b_v38)))
            (offset (W (Proc.devRef .tc main_v8_1)) (W (Proc.devRef .tc main_while0b_v38))))
          (constant (F := Ideal) S_ .f32 0x00000000#32) reducesTo_S4x8192x3_S4x8192_d2 h_S_) := by
  after_results

theorem arg_value : after argOps W (Proc.devRef .tc main_while0b_v46)
    = fun j => (Host.argReduce (F := Ideal) (φ := .f32) (reducer_argmax_f32_i32 (F := Ideal)) (W (Proc.devRef .tc main_while0b_v45))
        (iotaInDim S4x8192 32 1) (constant (F := Ideal) S_ .f32 0xFF800000#32) (constantI S_ 32 0#32) reducesTo_S4x8192_S4_d1 h_S_ j).2 := by
  after_results
  rfl

theorem keep_next : after keepOps W (Proc.devRef .tc main_v8_3) = W (Proc.devRef .tc main_while0b_v25) := by
  after_results
  rfl

theorem keep_dist : after keepOps W (Proc.devRef .tc main_v8_5) = W (Proc.devRef .tc main_while0b_v45) := by
  after_results
  rfl

theorem keep_last : after keepOps W (Proc.devRef .tc main_v8_6) = W (Proc.devRef .tc main_while0b_v46) := by
  after_results
  rfl

/-- The column that is written, moved up by 2048 if below 0. -/
abbrev place (x : IVec S_ 32) : IVec S1 32 :=
  broadcastInDim S1 ![] bcast_S_S1 (select (cmpi .slt x (constantI S_ 32 0#32)) (addi x (constantI S_ 32 2048#32)) x)

theorem keep_buf : after keepOps W (Proc.devRef .tc main_v8_4)
    = Host.scatter scatter_S4x2048_S1_S4_0_1_1_0 (fun _ v => v) (W (Proc.devRef .tc main_v8_4)) (place (W (Proc.devRef .tc main_v8_3)))
        (W (Proc.devRef .tc main_while0b_v46)) := by
  after_results
  simp only [id_eq]
  rfl

/-- The batch numbers, those below 0 moved up by 4, and the index buffer, its entries below 0 moved up by 8192. -/
abbrev batches (x : IVec S4 32) : IVec S4x1 32 :=
  select (cmpi .slt (broadcastInDim S4x1 ![0] bcast_S4_S4x1_0 x) (broadcastInDim S4x1 ![] bcast_S_S4x1 (constantI S_ 32 0#32)))
    (addi (broadcastInDim S4x1 ![0] bcast_S4_S4x1_0 x) (broadcastInDim S4x1 ![] bcast_S_S4x1 (constantI S_ 32 4#32)))
    (broadcastInDim S4x1 ![0] bcast_S4_S4x1_0 x)
abbrev chosen (x : IVec S4x2048 32) : IVec S4x2048 32 :=
  select (cmpi .slt x (broadcastInDim S4x2048 ![] bcast_S_S4x2048 (constantI S_ 32 0#32)))
    (addi x (broadcastInDim S4x2048 ![] bcast_S_S4x2048 (constantI S_ 32 8192#32))) x

theorem exit_value : after exitOps W (Proc.devRef .tc main_v24)
    = Host.gather gather_S4x8192x3_S4x2048x2_S4x2048x3_2_01_n_n_01_2_113 (W (Proc.devRef .tc main_arg0))
        (concatenate S4x2048x2 2
          [⟨S4x2048x1, broadcastInDim S4x2048x1 ![0, 1] bcast_S4x2048_S4x2048x1_0_1
              (broadcastInDim S4x2048 ![0, 1] bcast_S4x1_S4x2048_0_1 (batches (W (Proc.devRef .tc main_v0))))⟩,
            ⟨S4x2048x1, broadcastInDim S4x2048x1 ![0, 1] bcast_S4x2048_S4x2048x1_0_1 (chosen (W (Proc.devRef .tc main_v8_4)))⟩]
          concatenates_S4x2048x1_S4x2048x1_S4x2048x2_d2) := by
  after_results

end

/-! ## The state before each test of the condition -/

/-- After `k` trips the buffers hold the state after `k` steps: the running distances, the points chosen last and, column
    by column, all the points chosen so far. -/
structure At (p : S4x8192x3.Idx → EReal) (k : ℕ) (W : Valuation τ sig (Elt Ideal)) : Prop where
  arg : W (Proc.devRef .tc main_arg0) = p
  batch : W (Proc.devRef .tc main_v0) = iotaInDim S4 32 0
  lane : W (Proc.devRef .tc main_v8_0) = iotaInDim S4 32 0
  pts : W (Proc.devRef .tc main_v8_1) = p
  next : W (Proc.devRef .tc main_v8_3) = fun _ => BitVec.ofNat 32 (k + 1)
  buf : ∀ (b : Fin 4) (i : Fin 2048), i.val ≤ k →
    (W (Proc.devRef .tc main_v8_4) : IVec S4x2048 32) (ix2 b i) = BitVec.ofNat 32 ((fps (cloud p) far i.val).2 b).val
  dist : ∀ (b : Fin 4) (n : Fin 8192), (W (Proc.devRef .tc main_v8_5) : S4x8192.Idx → EReal) (ix2 b n) = (fps (cloud p) far k).1 b n
  last : ∀ b : Fin 4, (W (Proc.devRef .tc main_v8_6) : IVec S4 32) (ix1 b) = BitVec.ofNat 32 ((fps (cloud p) far k).2 b).val

/-- A column of small indices. -/
theorem column_apply (x : IVec S4 32) (c : BitVec 32) (b : Fin 4) (n : ℕ) (hn : n < 2 ^ 31) (h : x (ix1 b) = BitVec.ofNat 32 n) :
    column x c (ix2 b (0 : Fin 1)) = BitVec.ofNat 32 n := by
  have e : column x c (ix2 b (0 : Fin 1))
      = select (cmpi .slt x (broadcastInDim S4 ![] bcast_S_S4 (constantI S_ 32 0#32)))
        (addi x (broadcastInDim S4 ![] bcast_S_S4 (constantI S_ 32 c))) x (ix1 b) := by
    unfold column broadcastInDim
    congr 1
    funext a
    match a with
    | ⟨0, _⟩ => rfl
  rw [e]
  refine (wrap_small _ _ _ _ rfl ?_).trans h
  rw [h, toNat_ofNat_small n hn]
  exact hn

theorem iota_apply (b : Fin 4) : iotaInDim S4 32 0 (ix1 b) = BitVec.ofNat 32 b.val := rfl

section
variable {p : S4x8192x3.Idx → EReal} {k : ℕ} {W : Valuation τ sig (Elt Ideal)}

/-- The distances after a trip. -/
theorem dist_step (h : At p k W) (b : Fin 4) (n : Fin 8192) :
    (after distOps (after pairOps W) (Proc.devRef .tc main_while0b_v45) : S4x8192.Idx → EReal) (ix2 b n)
      = (fps (cloud p) far (k + 1)).1 b n := by
  rw [dist_value, pair_value, pair_keeps _ _ (by decide), pair_keeps _ _ (by decide), h.lane, h.pts]
  refine (congrArg₂ (min : EReal → EReal → EReal) (h.dist b n) (distance_apply p _ b n)).trans ?_
  have hl : ∀ q : Fin 3, Host.gather gather_S4x8192x3_S4x2_S4x3_1_01_n_n_01_1_113 p
      (concatenate S4x2 1 [⟨S4x1, column (iotaInDim S4 32 0) 4#32⟩, ⟨S4x1, column (W (Proc.devRef .tc main_v8_6)) 8192#32⟩]
        concatenates_S4x1_S4x1_S4x2_d1) (ix2 b q) = p (ix3 b ((fps (cloud p) far k).2 b) q) := fun q =>
    gather_last p _ b q _ ((pair_apply _ _ b).1.trans (column_apply _ _ b b.val (by omega) (iota_apply b)))
      ((pair_apply _ _ b).2.trans (column_apply _ _ b _ (by omega) (h.last b)))
  rw [hl 0, hl 1, hl 2]
  rfl

/-- The points chosen by a trip. -/
theorem last_step (h : At p k W) (b : Fin 4) :
    (after argOps (after distOps (after pairOps W)) (Proc.devRef .tc main_while0b_v46) : IVec S4 32) (ix1 b)
      = BitVec.ofNat 32 ((fps (cloud p) far (k + 1)).2 b).val := by
  rw [arg_value]
  refine (argmax_apply _ b).trans ?_
  rw [fps_succ_snd]
  exact congrArg (fun f => BitVec.ofNat 32 (first f).val) (funext fun n => dist_step h b n)

theorem place_apply (hk : k < 2047) : place (fun _ => BitVec.ofNat 32 (k + 1)) (ix1 (0 : Fin 1)) = BitVec.ofNat 32 (k + 1) := by
  refine (?_ : _ = select (cmpi .slt (fun _ => BitVec.ofNat 32 (k + 1)) (constantI S_ 32 0#32))
    (addi (fun _ => BitVec.ofNat 32 (k + 1)) (constantI S_ 32 2048#32)) (fun _ => BitVec.ofNat 32 (k + 1)) (fun a => a.elim0)).trans ?_
  · unfold place broadcastInDim
    congr 1
    funext a
    exact a.elim0
  · refine wrap_small _ _ _ _ rfl ?_
    show (BitVec.ofNat 32 (k + 1)).toNat < 2 ^ 31
    rw [toNat_ofNat_small _ (by omega)]
    omega

theorem trip_step (hk : k < 2047) (h : At p k W) : At p (k + 1) (afterL bodyI W) := by
  rw [trip_eq]
  refine ⟨?_, ?_, ?_, ?_, ?_, ?_, ?_, ?_⟩
  · rw [keep_keeps _ _ (by decide), arg_keeps _ _ (by decide), dist_keeps _ _ (by decide), pair_keeps _ _ (by decide), h.arg]
  · rw [keep_keeps _ _ (by decide), arg_keeps _ _ (by decide), dist_keeps _ _ (by decide), pair_keeps _ _ (by decide), h.batch]
  · rw [keep_keeps _ _ (by decide), arg_keeps _ _ (by decide), dist_keeps _ _ (by decide), pair_keeps _ _ (by decide), h.lane]
  · rw [keep_keeps _ _ (by decide), arg_keeps _ _ (by decide), dist_keeps _ _ (by decide), pair_keeps _ _ (by decide), h.pts]
  · rw [keep_next, arg_keeps _ _ (by decide), dist_keeps _ _ (by decide), pair_next, h.next]
    funext _
    show BitVec.ofNat 32 (k + 1) + 1#32 = BitVec.ofNat 32 (k + 1 + 1)
    exact (BitVec.ofNat_add (k + 1) 1).symm
  · intro b i hi
    have e3 : after argOps (after distOps (after pairOps W)) (Proc.devRef .tc main_v8_3) = fun _ => BitVec.ofNat 32 (k + 1) := by
      rw [arg_keeps _ _ (by decide), dist_keeps _ _ (by decide), pair_keeps _ _ (by decide), h.next]
    have e4 : after argOps (after distOps (after pairOps W)) (Proc.devRef .tc main_v8_4) = W (Proc.devRef .tc main_v8_4) := by
      rw [arg_keeps _ _ (by decide), dist_keeps _ _ (by decide), pair_keeps _ _ (by decide)]
    rw [keep_buf, e3, e4]
    refine (scatter_column _ _ _ ⟨k + 1, by omega⟩ (place_apply hk) b i).trans ?_
    by_cases hik : i = ⟨k + 1, by omega⟩
    · rw [if_pos hik, last_step h b, hik]
    · rw [if_neg hik]
      exact h.buf b i (by have : i.val ≠ k + 1 := fun e => hik (Fin.ext e); omega)
  · intro b n
    rw [keep_dist, arg_keeps _ _ (by decide)]
    exact dist_step h b n
  · intro b
    rw [keep_last]
    exact last_step h b

theorem cond_step (h : At p k W) : At p k (after condOps W) := by
  refine ⟨?_, ?_, ?_, ?_, ?_, ?_, ?_, ?_⟩
  · rw [cond_keeps _ _ (by decide), h.arg]
  · rw [cond_keeps _ _ (by decide), h.batch]
  · rw [cond_keeps _ _ (by decide), h.lane]
  · rw [cond_keeps _ _ (by decide), h.pts]
  · rw [cond_keeps _ _ (by decide), h.next]
  · intro b i hi; rw [cond_keeps _ _ (by decide)]; exact h.buf b i hi
  · intro b n; rw [cond_keeps _ _ (by decide)]; exact h.dist b n
  · intro b; rw [cond_keeps _ _ (by decide)]; exact h.last b

end

theorem batch_apply (b : Fin 4) (i : Fin 2048) :
    broadcastInDim S4x2048x1 ![0, 1] bcast_S4x2048_S4x2048x1_0_1
        (broadcastInDim S4x2048 ![0, 1] bcast_S4x1_S4x2048_0_1 (batches (iotaInDim S4 32 0))) (ix3 b i (0 : Fin 1))
      = BitVec.ofNat 32 b.val := by
  have e : broadcastInDim S4x2048x1 ![0, 1] bcast_S4x2048_S4x2048x1_0_1
        (broadcastInDim S4x2048 ![0, 1] bcast_S4x1_S4x2048_0_1 (batches (iotaInDim S4 32 0))) (ix3 b i (0 : Fin 1))
      = batches (iotaInDim S4 32 0) (ix2 b (0 : Fin 1)) := by
    unfold broadcastInDim
    congr 1
    funext a
    match a with
    | ⟨0, _⟩ => rfl
    | ⟨1, _⟩ => rfl
  have e' : broadcastInDim S4x1 ![0] bcast_S4_S4x1_0 (iotaInDim S4 32 0) (ix2 b (0 : Fin 1)) = BitVec.ofNat 32 b.val := rfl
  rw [e]
  refine (wrap_small _ _ _ _ rfl ?_).trans e'
  rw [e', toNat_ofNat_small _ (by omega)]
  omega

theorem chosen_apply (x : IVec S4x2048 32) (b : Fin 4) (i : Fin 2048) (n : Fin 8192) (h : x (ix2 b i) = BitVec.ofNat 32 n.val) :
    broadcastInDim S4x2048x1 ![0, 1] bcast_S4x2048_S4x2048x1_0_1 (chosen x) (ix3 b i (0 : Fin 1)) = BitVec.ofNat 32 n.val := by
  have e : broadcastInDim S4x2048x1 ![0, 1] bcast_S4x2048_S4x2048x1_0_1 (chosen x) (ix3 b i (0 : Fin 1)) = chosen x (ix2 b i) := by
    unfold broadcastInDim
    congr 1
    funext a
    match a with
    | ⟨0, _⟩ => rfl
    | ⟨1, _⟩ => rfl
  rw [e]
  refine (wrap_small _ _ _ _ rfl ?_).trans h
  rw [h, toNat_ofNat_small _ (by omega)]
  omega

variable (m : (ℓ : Loc nD τ sig) → Buf (Elt Ideal) ℓ) (ρ : Dev nD → PrngReg)

theorem at_entry (c : Dev nD) : At (m ((c : Thread nD τ).loc main_arg0)) 0 (entryContents preI m c) := by
  simp only [entryContents, afterL_cons, afterL_nil]
  refine ⟨?_, ?_, ?_, ?_, ?_, ?_, ?_, ?_⟩
  · after_results
  · after_results
  · after_results; rfl
  · after_results; rfl
  · after_results; rfl
  · intro b i hi
    after_results
    refine (scatter_column _ _ _ 0 rfl b i).trans ?_
    rw [if_pos (Fin.ext (by show i.val = 0; omega))]
    have : i.val = 0 := by omega
    rw [this]
    rfl
  · intro b n; after_results; rfl
  · intro b; after_results; rfl

theorem at_trip (c : Dev nD) : ∀ k ≤ 2047, At (m ((c : Thread nD τ).loc main_arg0)) k (atK m k c)
  | 0, _ => at_entry m c
  | k + 1, h => trip_step (by omega) (cond_step (at_trip c k (by omega)))

/-- The result array holds the chosen points. -/
theorem final_result (c : Dev nD) : finalContents condOps preI bodyI postI 2047 m c (Proc.devRef .tc main_v24)
    = sampled (cloud (m ((c : Thread nD τ).loc main_arg0))) := by
  have h := cond_step (at_trip m c 2047 (le_refl _))
  show after exitOps (after condOps (atK m 2047 c)) (Proc.devRef .tc main_v24) = _
  rw [exit_value, h.arg, h.batch]
  funext y
  have hy : y = ix3 (y 0) (y 1) (y 2) := by
    funext a
    match a with
    | ⟨0, _⟩ => rfl
    | ⟨1, _⟩ => rfl
    | ⟨2, _⟩ => rfl
  refine (congrArg _ hy).trans ((gather_points _ _ (y 0) (y 1) (y 2) ((fps (cloud (m ((c : Thread nD τ).loc main_arg0))) far (y 1).val).2 (y 0))
    ((pairs_apply _ _ (y 0) (y 1)).1.trans ?_) ((pairs_apply _ _ (y 0) (y 1)).2.trans ?_)).trans rfl)
  · exact batch_apply (y 0) (y 1)
  · exact chosen_apply _ (y 0) (y 1) _ (h.buf (y 0) (y 1) (by have : (y 1).val < 2048 := (y 1).isLt; omega))

theorem final_arg (c : Dev nD) : finalContents condOps preI bodyI postI 2047 m c (Proc.devRef .tc main_arg0)
    = m ((c : Thread nD τ).loc main_arg0) := by
  have h := cond_step (at_trip m c 2047 (le_refl _))
  show after exitOps (after condOps (atK m 2047 c)) (Proc.devRef .tc main_arg0) = _
  rw [exit_keeps _ _ (by decide), h.arg]

end Cert.Proof.Sample.Ref
-- ==== Proof.Sample.Claims.lean ====
module

public import proofs.«01_k».proof.Defs
public import proofs.«01_k».proof.Proof.Sample.RefValue
public import proofs.«01_k».proof.Proof.Gen.Sample
public import proofs.«01_k».proof.Proof.Gen.Sample.Frame
public import proofs.«01_k».proof.Proof.Gen.SampleIdeal.Frame
public import proofs.«01_k».proof.Proof.Gen.SampleReferenceIdeal

@[expose] public section

set_option maxRecDepth 16384

noncomputable section

namespace Cert.Proof.Sample

open Idealize.ShloMosaic Idealize.ShloMosaic.TcCoe Idealize.SL.Sem

/-! # The claims about the sampling call -/

/-- The reference's run: the result holds the chosen points and the argument is unchanged. -/
theorem run_reference (m : (ℓ : Loc Cert.SampleReferenceIdeal.nD Cert.SampleReferenceIdeal.τ Cert.SampleReferenceIdeal.sig) → Buf (Elt Ideal) ℓ)
    (ρ : Dev Cert.SampleReferenceIdeal.nD → PrngReg) :
    θ_run (Cert.SampleReferenceIdeal.defs (F := Ideal)) (onTc (τ := Cert.SampleReferenceIdeal.τ) (Cert.SampleReferenceIdeal.main (F := Ideal)))
      ⟨m, fun _ => 0, ρ⟩ fun r => ∀ c : Dev Cert.SampleReferenceIdeal.nD,
        r.2.mem ((c.tc : Thread Cert.SampleReferenceIdeal.nD Cert.SampleReferenceIdeal.τ).loc Cert.SampleReferenceIdeal.main_v24)
            = sampled (cloud (m ((c.tc : Thread Cert.SampleReferenceIdeal.nD Cert.SampleReferenceIdeal.τ).loc Cert.SampleReferenceIdeal.main_arg0)))
          ∧ r.2.mem ((c.tc : Thread Cert.SampleReferenceIdeal.nD Cert.SampleReferenceIdeal.τ).loc Cert.SampleReferenceIdeal.main_arg0)
            = m ((c.tc : Thread Cert.SampleReferenceIdeal.nD Cert.SampleReferenceIdeal.τ).loc Cert.SampleReferenceIdeal.main_arg0) :=
  (θ_run Cert.SampleReferenceIdeal.defs _ _).mono (fun _ h c =>
    ⟨(h c Cert.SampleReferenceIdeal.main_v24 rfl).trans (Ref.final_result m c), (h c Cert.SampleReferenceIdeal.main_arg0 rfl).trans (Ref.final_arg m c)⟩)
    (Ref.run_fold m ρ)

/-- The kernel terminates from every memory, leaving its argument and every counter at zero. -/
theorem frame_kernel : Cert.quiescent_Sample := fun m ρ _ => Cert.Sample.Gen.frame (F := Bits) m ρ

/-- So does its idealization. -/
theorem frame_ideal : Cert.quiescent_SampleIdeal := fun m ρ _ => Cert.SampleIdeal.Gen.frame (F := Ideal) m ρ

/-- So does the reference. -/
theorem frame_reference : Cert.quiescent_SampleReferenceIdeal := fun m ρ _ =>
  (θ_run Cert.SampleReferenceIdeal.defs _ _).mono (fun r h => ⟨fun c => (h c).2, sem_eq_zero_of_no_sems (by decide) r.2⟩) (run_reference m ρ)

/-- The idealized kernel and the reference return the same points. -/
theorem same_result : Cert.algebraic_SampleIdeal_SampleReferenceIdeal := fun m ρ m' ρ' _ hag =>
  ⟨fun c => sampled (cloud (m ((c.tc : Thread Cert.SampleIdeal.nD Cert.SampleIdeal.τ).loc Cert.SampleIdeal.main_arg0))),
    run_kernel m ρ,
    (θ_run Cert.SampleReferenceIdeal.defs _ _).mono
      (fun r h c => ⟨(h c).1.trans (congrArg (fun p => sampled (cloud p)) (hag c)), (h c).2⟩) (run_reference m' ρ')⟩

end Cert.Proof.Sample

end
-- ==== Proof.Moments.Block.lean ====
module

public import proofs.«01_k».proof.Proof.Gen.MomentsIdeal.Frame
public import Idealize.ShloMosaic.PureOps.Ideal
public import Idealize.ShloMosaic.Lib.Pointwise
public import Idealize.ShloMosaic.Lib.Pipeline.Value
public import Idealize.ShloMosaic.Lib.WritesUnit

@[expose] public section

set_option maxRecDepth 16384

noncomputable section

namespace Cert.Proof.Moments

open Cert.MomentsIdeal Cert.MomentsIdeal.Gen
open Idealize.ShloMosaic Idealize.ShloMosaic.TcCoe

/-! # One block of the feature product, and what it adds to the running sums -/

/-- Entry (`r`, `o`) of the product of a block of features with the weights. -/
def prod (x0 : Vec Ideal S512x64 .f32) (x1 : Vec Ideal S64x128 .f32) (r : Fin 512) (o : Fin 128) : EReal :=
  ∑ k : Fin 64, x0 (ix2 r k) * x1 (ix2 k o)

theorem pay1_apply (x0 : Vec Ideal S512x64 .f32) (x1 : Vec Ideal S64x128 .f32) (r : Fin 512) (o : Fin 128) :
    k0_pay1 (F := Ideal) x0 x1 (ix2 r o) = prod x0 x1 r o := by
  unfold k0_pay1 prod
  pointwise

theorem pay2_apply (y : S8x128.Idx) : k0_pay2 (F := Ideal) y = 0 := by
  unfold k0_pay2
  pointwise

theorem pay3_apply (x0 : Vec Ideal S512x64 .f32) (x1 : Vec Ideal S64x128 .f32) (v : Vec Ideal S1x128 .f32) (o : Fin 128) :
    k0_pay3 (F := Ideal) x0 x1 v (ix2 0 o) = v (ix2 0 o) + ∑ r : Fin 512, prod x0 x1 r o := by
  unfold k0_pay3
  pointwise
  simp only [pay1_apply]

theorem pay4_apply (x0 : Vec Ideal S512x64 .f32) (x1 : Vec Ideal S64x128 .f32) (v : Vec Ideal S1x128 .f32) (o : Fin 128) :
    k0_pay4 (F := Ideal) x0 x1 v (ix2 0 o) = v (ix2 0 o) + ∑ r : Fin 512, prod x0 x1 r o * prod x0 x1 r o := by
  unfold k0_pay4
  pointwise
  simp only [pay1_apply]

theorem zero2 : (![0, 0] : Fin 2 → ℕ) = fun _ => 0 := by funext a; fin_cases a <;> rfl

/-- A load of a whole staging block reads what it holds. -/
theorem load_x {sig : RefSig} (arg1 : Memref sig .tc .vmem S512x64 .f32) (harg1 : arg1.IsWhole) (x0 : Vec Ideal S512x64 .f32) :
    View.readAt (Elt Ideal) arg1.view (Rect.unit (s := S512x64) ![0, 0] ![512, 64] inb_S512x64_S512x64_0_0).toLoadRect
      (harg1.unread x0) = x0 := by
  have e : View.ld (arg1.view.read (Elt Ideal) (harg1.unread x0))
      (Rect.unit (s := S512x64) ![0, 0] S512x64.size inb_S512x64_S512x64_0_0) = x0 := by
    rw [harg1.read_unread]
    exact View.ld_unit_zero zero2 _ x0
  exact e

theorem load_w {sig : RefSig} (arg2 : Memref sig .tc .vmem S64x128 .f32) (harg2 : arg2.IsWhole) (x1 : Vec Ideal S64x128 .f32) :
    View.readAt (Elt Ideal) arg2.view (Rect.unit (s := S64x128) ![0, 0] ![64, 128] inb_S64x128_S64x128_0_0).toLoadRect
      (harg2.unread x1) = x1 := by
  have e : View.ld (arg2.view.read (Elt Ideal) (harg2.unread x1))
      (Rect.unit (s := S64x128) ![0, 0] S64x128.size inb_S64x128_S64x128_0_0) = x1 := by
    rw [harg2.read_unread]
    exact View.ld_unit_zero zero2 _ x1
  exact e

/-- The two rows stored last, over anything. -/
theorem rows_read {sig : RefSig} (v : View sig .tc .vmem S8x128 .f32) (f : v.ty.Contents (Elt Ideal)) (w0 w1 : Vec Ideal S1x128 .f32)
    (L : List (View.Piece (Elt Ideal) S8x128 .f32)) (o : Fin 128) :
    v.read (Elt Ideal) (v.writes (Elt Ideal) f
        (⟨Rect.unit (s := S8x128) ![1, 0] ![1, 128] inb_S8x128_S1x128_1_0, w1⟩
          :: ⟨Rect.unit (s := S8x128) ![0, 0] ![1, 128] inb_S8x128_S1x128_0_0, w0⟩ :: L)) (ix2 0 o) = w0 (ix2 0 o)
      ∧ v.read (Elt Ideal) (v.writes (Elt Ideal) f
        (⟨Rect.unit (s := S8x128) ![1, 0] ![1, 128] inb_S8x128_S1x128_1_0, w1⟩
          :: ⟨Rect.unit (s := S8x128) ![0, 0] ![1, 128] inb_S8x128_S1x128_0_0, w0⟩ :: L)) (ix2 1 o) = w1 (ix2 0 o) := by
  refine ⟨?_, View.read_writes_cons_rows_of_mem _ _ _ _ _ _ (ix2 0 o) (o := 1) rfl rfl rfl⟩
  refine (View.read_writes_cons_rows_of_not_mem _ _ _ _ _ _ (o := 1) (W := 1) rfl rfl (.inl ?_)).trans
    (View.read_writes_cons_rows_of_mem _ _ _ _ _ _ (ix2 0 o) (o := 0) rfl rfl rfl)
  show (0 : ℕ) < 1
  omega

/-- A row read past the store of row 0. -/
theorem row1_past {sig : RefSig} (v : View sig .tc .vmem S8x128 .f32) (f : v.ty.Contents (Elt Ideal)) (w0 : Vec Ideal S1x128 .f32)
    (L : List (View.Piece (Elt Ideal) S8x128 .f32)) (o : Fin 128) :
    v.read (Elt Ideal) (v.writes (Elt Ideal) f
        (⟨Rect.unit (s := S8x128) ![0, 0] ![1, 128] inb_S8x128_S1x128_0_0, w0⟩ :: L)) (ix2 1 o)
      = v.read (Elt Ideal) (v.writes (Elt Ideal) f L) (ix2 1 o) :=
  View.read_writes_cons_rows_of_not_mem _ _ _ _ _ _ (o := 0) (W := 1) rfl rfl (.inr (by show 0 + 1 ≤ 1; omega))

/-- Loads of the two rows. -/
theorem load_row0 {sig : RefSig} (v : View sig .tc .vmem S8x128 .f32) (f : v.ty.Contents (Elt Ideal)) (o : Fin 128) :
    View.readAt (Elt Ideal) v (Rect.unit (s := S8x128) ![0, 0] ![1, 128] inb_S8x128_S1x128_0_0).toLoadRect f (ix2 0 o)
      = v.read (Elt Ideal) f (ix2 0 o) := by
  refine congrArg (v.read (Elt Ideal) f) (funext fun a => Fin.ext ?_)
  fin_cases a
  · rfl
  · show 0 + 1 * o.val = o.val
    omega

theorem load_row1 {sig : RefSig} (v : View sig .tc .vmem S8x128 .f32) (f : v.ty.Contents (Elt Ideal)) (o : Fin 128) :
    View.readAt (Elt Ideal) v (Rect.unit (s := S8x128) ![1, 0] ![1, 128] inb_S8x128_S1x128_1_0).toLoadRect f (ix2 0 o)
      = v.read (Elt Ideal) f (ix2 1 o) := by
  refine congrArg (v.read (Elt Ideal) f) (funext fun a => Fin.ext ?_)
  fin_cases a
  · rfl
  · show 0 + 1 * o.val = o.val
    omega

/-- What a point leaves in the running sums, over what they held. -/
def Adds (x0 : Vec Ideal S512x64 .f32) (x1 : Vec Ideal S64x128 .f32) (old new : Vec Ideal S8x128 .f32) : Prop :=
  ∀ o : Fin 128, new (ix2 0 o) = old (ix2 0 o) + ∑ r : Fin 512, prod x0 x1 r o
    ∧ new (ix2 1 o) = old (ix2 1 o) + ∑ r : Fin 512, prod x0 x1 r o * prod x0 x1 r o

section Cases
variable (c : Dev nD) (i : grid0.Coords) (arg1 : Memref sig .tc .vmem S512x64 .f32) (harg1 : arg1.IsWhole)
  (arg2 : Memref sig .tc .vmem S64x128 .f32) (harg2 : arg2.IsWhole) (arg3 : Memref sig .tc .vmem S512x128 .f32) (harg3 : arg3.IsWhole)
  (arg4 : Memref sig .tc .vmem S8x128 .f32) (harg4 : arg4.IsWhole) (arg5 : Memref sig .tc .vmem S8x128 .f32) (harg5 : arg5.IsWhole)
  (x0 : Vec Ideal S512x64 .f32) (x1 : Vec Ideal S64x128 .f32) (xs0 : Vec Ideal S8x128 .f32)

/-- Every point leaves its product block. -/
theorem out_A (hc0 : cond0_0 i) (hc1 : ¬cond0_1 i) :
    out0_A_2 (F := Ideal) c i arg1 harg1 arg2 harg2 arg3 harg3 arg4 harg4 arg5 harg5 hc0 hc1 x0 x1 = k0_pay1 x0 x1 := by
  unfold out0_A_2 kernelRun0_A
  dsimp only
  rw [load_x, load_w, View.read_writes_junk_eq_canon]
  exact View.canon_unit_zero zero2 _ _

theorem out_B (hc0 : ¬cond0_0 i) (hc1 : ¬cond0_1 i) :
    out0_B_2 (F := Ideal) c i arg1 harg1 arg2 harg2 arg3 harg3 arg4 harg4 arg5 harg5 hc0 hc1 x0 x1 xs0 = k0_pay1 x0 x1 := by
  unfold out0_B_2 kernelRun0_B
  dsimp only
  rw [load_x, load_w, View.read_writes_junk_eq_canon]
  exact View.canon_unit_zero zero2 _ _

theorem out_C (hc0 : ¬cond0_0 i) (hc1 : cond0_1 i) :
    out0_C_2 (F := Ideal) c i arg1 harg1 arg2 harg2 arg3 harg3 arg4 harg4 arg5 harg5 hc0 hc1 x0 x1 xs0 = k0_pay1 x0 x1 := by
  unfold out0_C_2 kernelRun0_C
  dsimp only
  rw [load_x, load_w, View.read_writes_junk_eq_canon]
  exact View.canon_unit_zero zero2 _ _

theorem acc_B (hc0 : ¬cond0_0 i) (hc1 : ¬cond0_1 i) : Adds x0 x1 xs0
    (sout0_B_0 (F := Ideal) c i arg1 harg1 arg2 harg2 arg3 harg3 arg4 harg4 arg5 harg5 hc0 hc1 x0 x1 xs0) := by
  intro o
  unfold sout0_B_0 kernelRun0_B
  dsimp only
  rw [load_x, load_w]
  refine ⟨(rows_read arg5.view _ _ _ _ o).1.trans ?_, (rows_read arg5.view _ _ _ _ o).2.trans ?_⟩
  · rw [pay3_apply, load_row0, harg5.read_unread]
  · rw [pay4_apply]
    unfold kernelRun0_B.sl.v16
    rw [load_row1, harg5.read_unread]

theorem acc_C (hc0 : ¬cond0_0 i) (hc1 : cond0_1 i) : Adds x0 x1 xs0
    (sout0_C_0 (F := Ideal) c i arg1 harg1 arg2 harg2 arg3 harg3 arg4 harg4 arg5 harg5 hc0 hc1 x0 x1 xs0) := by
  intro o
  unfold sout0_C_0 kernelRun0_C
  dsimp only
  unfold kernelRun0_C.sl.HS0_2
  refine ⟨(rows_read arg5.view _ _ _ _ o).1.trans ?_, (rows_read arg5.view _ _ _ _ o).2.trans ?_⟩
  · rw [load_x, load_w, pay3_apply, load_row0, harg5.read_unread]
  · rw [load_x, load_w, pay4_apply]
    unfold kernelRun0_C.sl.v16
    rw [load_row1, harg5.read_unread]

theorem acc_A (hc0 : cond0_0 i) (hc1 : ¬cond0_1 i) : Adds x0 x1 (fun _ => 0)
    (sout0_A_0 (F := Ideal) c i arg1 harg1 arg2 harg2 arg3 harg3 arg4 harg4 arg5 harg5 hc0 hc1 x0 x1) := by
  intro o
  have hz : ∀ y : S8x128.Idx, arg5.view.read (Elt Ideal) (arg5.view.writes (Elt Ideal) arg5.view.junk
      (kernelRun0_A.sl.HS0_1 (F := Ideal))) y = 0 := by
    intro y
    rw [View.read_writes_junk_eq_canon]
    unfold kernelRun0_A.sl.HS0_1
    exact (congrFun (View.canon_unit_zero zero2 _ _) y).trans (pay2_apply y)
  unfold sout0_A_0 kernelRun0_A
  dsimp only
  unfold kernelRun0_A.sl.HS0_2 kernelRun0_A.sl.v16 kernelRun0_A.sl.v9
  refine ⟨(rows_read VS0_0 _ _ _ _ o).1.trans ?_, (rows_read VS0_0 _ _ _ _ o).2.trans ?_⟩
  · rw [load_x, load_w, pay3_apply]
    exact congrArg (· + _) ((load_row0 arg5.view _ o).trans (hz _))
  · rw [load_x, load_w, pay4_apply]
    unfold kernelRun0_A.sl.HS0_2
    exact congrArg (· + _) ((load_row1 arg5.view _ o).trans ((row1_past arg5.view _ _ _ o).trans (hz _)))

/-- The last point hands the running sums out. -/
theorem stats_C (hc0 : ¬cond0_0 i) (hc1 : cond0_1 i) :
    out0_C_3 (F := Ideal) c i arg1 harg1 arg2 harg2 arg3 harg3 arg4 harg4 arg5 harg5 hc0 hc1 x0 x1 xs0
      = sout0_C_0 (F := Ideal) c i arg1 harg1 arg2 harg2 arg3 harg3 arg4 harg4 arg5 harg5 hc0 hc1 x0 x1 xs0 := by
  unfold out0_C_3 sout0_C_0 kernelRun0_C
  dsimp only
  rw [View.read_writes_junk_eq_canon]
  refine (View.canon_unit_zero zero2 _ _).trans ?_
  exact View.ld_unit_zero zero2 _ _

end Cases

end Cert.Proof.Moments

end
-- ==== Proof.Moments.Main.lean ====
module

public import proofs.«01_k».proof.Proof.Moments.Block
public import Idealize.ShloMosaic.Lib.Pipeline.ValueKit
public import Idealize.ShloMosaic.Lib.Claim

@[expose] public section

set_option maxRecDepth 16384

noncomputable section

namespace Cert.Proof.Moments

open Cert.MomentsIdeal Cert.MomentsIdeal.Gen
open Idealize.ShloMosaic Idealize.ShloMosaic.TcCoe Idealize.SL.Sem

/-! # The whole program: the features, their mean and their variance -/

/-- Feature `o` of point `n`, the points of the four clouds counted on. -/
def feat (x : S4x8192x64.Idx → EReal) (w : S128x64.Idx → EReal) (n : Fin 32768) (o : Fin 128) : EReal :=
  ∑ k : Fin 64, x (ix3 ⟨n.val / 8192, by omega⟩ ⟨n.val % 8192, by omega⟩ k) * w (ix2 o k)

/-- The point in row `r` of block `t`. -/
def row (t : ℕ) (ht : t < 64) (r : Fin 512) : Fin 32768 := ⟨512 * t + r.val, by omega⟩

/-- The sum of `g` over the points before point `n`. -/
def upto (g : Fin 32768 → EReal) (n : ℕ) : EReal := ∑ i ∈ Finset.range n, if h : i < 32768 then g ⟨i, h⟩ else 0

theorem upto_block (g : Fin 32768 → EReal) (t : ℕ) (ht : t < 64) :
    upto g (512 * (t + 1)) = upto g (512 * t) + ∑ r : Fin 512, g (row t ht r) := by
  unfold upto
  rw [show 512 * (t + 1) = 512 * t + 512 by omega, Finset.sum_range_add]
  congr 1
  rw [Finset.sum_range]
  refine Finset.sum_congr rfl fun r _ => ?_
  rw [dif_pos (by omega)]
  rfl

theorem upto_all (g : Fin 32768 → EReal) : upto g 32768 = ∑ n : Fin 32768, g n := by
  unfold upto
  rw [Finset.sum_range]
  exact Finset.sum_congr rfl fun n _ => dif_pos n.isLt

/-- Sums that start as the first block's and gain each later block's are the sums over the points so far. -/
theorem upto_of_adds (f : Fin 32768 → Fin 128 → EReal) {N : ℕ} (hN : N = 64) (x0 : Fin N → Vec Ideal S512x64 .f32)
    (x1 : Fin N → Vec Ideal S64x128 .f32) (s : (n : ℕ) → n < N → Vec Ideal S8x128 .f32)
    (hp : ∀ (t : Fin N) (ht : t.val < 64) r o, prod (x0 t) (x1 t) r o = f (row t.val ht r) o)
    (hz : ∀ h, Adds (x0 ⟨0, h⟩) (x1 ⟨0, h⟩) (fun _ => 0) (s 0 h))
    (hs : ∀ n h, Adds (x0 ⟨n + 1, h⟩) (x1 ⟨n + 1, h⟩) (s n (Nat.lt_of_succ_lt h)) (s (n + 1) h)) :
    ∀ (n : ℕ) (hn : n < N) (o : Fin 128), s n hn (ix2 0 o) = upto (fun i => f i o) (512 * (n + 1))
      ∧ s n hn (ix2 1 o) = upto (fun i => f i o * f i o) (512 * (n + 1)) := by
  intro n
  induction n with
  | zero =>
    intro hn o
    have h64 : (0 : ℕ) < 64 := by omega
    obtain ⟨a0, a1⟩ := hz hn o
    simp only [hp ⟨0, hn⟩ h64] at a0 a1
    rw [upto_block _ 0 h64, upto_block _ 0 h64]
    exact ⟨a0, a1⟩
  | succ n ih =>
    intro hn o
    have h64 : n + 1 < 64 := hN ▸ hn
    obtain ⟨a0, a1⟩ := hs n hn o
    simp only [hp ⟨n + 1, hn⟩ h64] at a0 a1
    rw [upto_block _ (n + 1) h64, upto_block _ (n + 1) h64, ← (ih (Nat.lt_of_succ_lt hn) o).1, ← (ih (Nat.lt_of_succ_lt hn) o).2]
    exact ⟨a0, a1⟩

/-- The product of a block of the points in one list with the weights transposed is its rows' features. -/
theorem prod_feat (x : S4x8192x64.Idx → EReal) (w : S128x64.Idx → EReal) (x0 : Vec Ideal S512x64 .f32) (x1 : Vec Ideal S64x128 .f32)
    (t : ℕ) (ht : t < 64)
    (h0 : ∀ r k, x0 (ix2 r k) = shapeCast S32768x64 x shapeCasts_S4x8192x64_S32768x64 (ix2 (row t ht r) k))
    (h1 : ∀ k o, x1 (ix2 k o) = transpose S64x128 [1, 0] w transposes_S128x64_S64x128_1_0 (ix2 k o)) (r : Fin 512) (o : Fin 128) :
    prod x0 x1 r o = feat x w (row t ht r) o := by
  unfold prod feat
  refine Finset.sum_congr rfl fun k _ => ?_
  rw [h0, h1]
  refine congrArg₂ (· * ·) ?_ ?_
  · refine shapeCast_apply _ _ _ (ix3 ⟨(row t ht r).val / 8192, by omega⟩ ⟨(row t ht r).val % 8192, by omega⟩ k) ?_
    rw [Shape.rowMajor_val_two, Shape.rowMajor_val_three]
    show ((512 * t + r.val) / 8192 * 8192 + (512 * t + r.val) % 8192) * 64 + k.val = (512 * t + r.val) * 64 + k.val
    omega
  · refine transpose_apply _ _ _ _ _ ?_
    intro a; fin_cases a <;> rfl

variable (m : (ℓ : Loc nD τ sig) → Buf (Elt Ideal) ℓ) (ρ : Dev nD → PrngReg)

/-- The features of core `c`'s arguments. -/
abbrev feats (c : Dev nD) : Fin 32768 → Fin 128 → EReal :=
  feat (m ((c : Thread nD τ).loc main_arg0)) (m ((c : Thread nD τ).loc main_arg1))

theorem entry_x (c : Dev nD) : V m c main_v0
    = shapeCast S32768x64 (m ((c : Thread nD τ).loc main_arg0)) shapeCasts_S4x8192x64_S32768x64 := by
  unfold V V0 hostOps0
  simp only [List.flatten_cons, List.flatten_nil, List.append_nil]
  after_results
  rfl

theorem entry_w (c : Dev nD) : V m c main_v1
    = transpose S64x128 [1, 0] (m ((c : Thread nD τ).loc main_arg1)) transposes_S128x64_S64x128_1_0 := by
  unfold V V0 hostOps0
  simp only [List.flatten_cons, List.flatten_nil, List.append_nil]
  after_results

theorem block_x (c : Dev nD) (t : Fin cfg0.N) (ht : t.val < 64) (r : Fin 512) (k : Fin 64) :
    iblk m c 0 t (ix2 r k) = V m c main_v0 (ix2 (row t.val ht r) k) := by
  have idx : ∀ t : Fin cfg0.N, win0_0.index t 0 = t.val ∧ win0_0.index t 1 = 0 :=
    (by decide +kernel : ∀ t : Fin grid0.N, win0_0.index t 0 = t.val ∧ win0_0.index t 1 = 0)
  blk_ext [iblk, row, (idx t).1, (idx t).2]

theorem block_w (c : Dev nD) (t : Fin cfg0.N) (k : Fin 64) (o : Fin 128) :
    iblk m c 1 t (ix2 k o) = V m c main_v1 (ix2 k o) := by
  have idx : ∀ t : Fin cfg0.N, ∀ a, win0_1.index t a = 0 := (by decide +kernel : ∀ t : Fin grid0.N, ∀ a, win0_1.index t a = 0)
  blk_ext [iblk, idx t]

/-- The product at point `t` is the block of features of its rows. -/
theorem prod_block (c : Dev nD) (t : Fin cfg0.N) (ht : t.val < 64) (r : Fin 512) (o : Fin 128) :
    prod (iblk m c 0 t) (iblk m c 1 t) r o = feats m c (row t.val ht r) o :=
  prod_feat _ _ _ _ _ ht (fun r k => by rw [block_x m c t ht, entry_x]) (fun k o => by rw [block_w, entry_w]) r o

theorem out_first (c : Dev nD) (t : Fin cfg0.N) (h0 : t.val % 64 = 0) (h1 : ¬t.val % 64 = 63) :
    (outsAt0 m c t.val t.isLt).1 = k0_pay1 (F := Ideal) (iblk m c 0 t) (iblk m c 1 t)
      ∧ Adds (iblk m c 0 t) (iblk m c 1 t) (fun _ => 0) (outsAt0 m c t.val t.isLt).2.2 := by
  rw [outsAt0_A m c t h0 h1]
  dsimp only
  exact ⟨out_A .., fun _ => acc_A ..⟩

theorem out_mid (c : Dev nD) (t : Fin cfg0.N) (h0 : ¬t.val % 64 = 0) (h1 : ¬t.val % 64 = 63) :
    (outsAt0 m c t.val t.isLt).1 = k0_pay1 (F := Ideal) (iblk m c 0 t) (iblk m c 1 t)
      ∧ Adds (iblk m c 0 t) (iblk m c 1 t) (outsAt0 m c (t.val - 1) (by have := t.isLt; omega)).2.2 (outsAt0 m c t.val t.isLt).2.2 := by
  rw [outsAt0_B m c t h0 h1]
  dsimp only
  exact ⟨out_B .., fun _ => acc_B ..⟩

theorem out_last (c : Dev nD) (t : Fin cfg0.N) (h0 : ¬t.val % 64 = 0) (h1 : t.val % 64 = 63) :
    (outsAt0 m c t.val t.isLt).1 = k0_pay1 (F := Ideal) (iblk m c 0 t) (iblk m c 1 t)
      ∧ Adds (iblk m c 0 t) (iblk m c 1 t) (outsAt0 m c (t.val - 1) (by have := t.isLt; omega)).2.2 (outsAt0 m c t.val t.isLt).2.2
      ∧ (outsAt0 m c t.val t.isLt).2.1 = (outsAt0 m c t.val t.isLt).2.2 := by
  rw [outsAt0_C m c t h0 h1]
  dsimp only
  exact ⟨out_C .., (fun _ => acc_C ..), stats_C ..⟩

/-- Every point leaves its block of the product. -/
theorem out_spec (c : Dev nD) (t : Fin cfg0.N) :
    (outsAt0 m c t.val t.isLt).1 = k0_pay1 (F := Ideal) (iblk m c 0 t) (iblk m c 1 t) := by
  by_cases h0 : t.val % 64 = 0
  · exact (out_first m c t h0 (by omega)).1
  · by_cases h1 : t.val % 64 = 63
    · exact (out_last m c t h0 h1).1
    · exact (out_mid m c t h0 h1).1

/-- The running sums after point `n`. -/
theorem acc_spec (c : Dev nD) : ∀ (n : ℕ) (hn : n < cfg0.N) (o : Fin 128),
    (outsAt0 m c n hn).2.2 (ix2 0 o) = upto (fun i => feats m c i o) (512 * (n + 1))
      ∧ (outsAt0 m c n hn).2.2 (ix2 1 o) = upto (fun i => feats m c i o * feats m c i o) (512 * (n + 1)) := by
  refine upto_of_adds (feats m c) (show cfg0.N = 64 from N_0) (iblk m c 0 ·) (iblk m c 1 ·) (fun n hn => (outsAt0 m c n hn).2.2)
    (prod_block m c) (fun h => (out_first m c ⟨0, h⟩ (Nat.zero_mod _) (by dsimp only; omega)).2) fun n hn => ?_
  have h64 : n + 1 < 64 := lt_of_lt_of_eq hn (show cfg0.N = 64 from N_0)
  have h0 : ¬(n + 1) % 64 = 0 := by omega
  by_cases h1 : (n + 1) % 64 = 63
  · exact (out_last m c ⟨n + 1, hn⟩ h0 h1).2.1
  · exact (out_mid m c ⟨n + 1, hn⟩ h0 h1).2

/-- The features as an array. -/
def featArr (c : Dev nD) (y : S32768x128.Idx) : EReal := feats m c (y 0) (y 1)

theorem arr_h (c : Dev nD) : (dats m 0 c).arrAt 2 cfg0.N = featArr m c := by
  refine (dats m 0 c).arrAt_eq_of_covers 2 _ (by decide +kernel) fun t hf y => ?_
  have idx : ∀ t : Fin cfg0.N, win0_2.index t 0 = t.val ∧ win0_2.index t 1 = 0 :=
    (by decide +kernel : ∀ t : Fin grid0.N, win0_2.index t 0 = t.val ∧ win0_2.index t 1 = 0)
  have ht : t.val < 64 := lt_of_lt_of_eq t.isLt (show cfg0.N = 64 from N_0)
  blk_simp
  rw [after0_2, out_spec]
  obtain ⟨r, o, rfl⟩ : ∃ (r : Fin 512) (o : Fin 128), y = ix2 r o := ⟨y 0, y 1, by funext a; fin_cases a <;> rfl⟩
  refine (pay1_apply _ _ _ _).trans ((prod_block m c t ht _ _).trans ?_)
  refine congrArg₂ (feats m c) (Fin.ext ?_) (Fin.ext ?_)
  · blk_simp [row, (idx t).1, (idx t).2]
    show 512 * t.val + r.val = t.val * 512 + r.val
    omega
  · blk_simp [(idx t).1, (idx t).2]

/-- The last point of the grid. -/
def lastPt : Fin cfg0.N := ⟨63, lt_of_lt_of_eq (by decide) (show cfg0.N = 64 from N_0).symm⟩

/-- The running sums after the last point. -/
def sums (c : Dev nD) : S8x128.Idx → EReal := (outsAt0 m c lastPt.val lastPt.isLt).2.2

theorem stats_last (c : Dev nD) (t : Fin cfg0.N) (h : t.val % 64 = 63) : (outsAt0 m c t.val t.isLt).2.1 = sums m c := by
  have ht : t.val < 64 := lt_of_lt_of_eq t.isLt (show cfg0.N = 64 from N_0)
  have e : t = lastPt := Fin.ext (show t.val = 63 by omega)
  rw [(out_last m c t (by omega) h).2.2, e, sums]

theorem arr_s (c : Dev nD) : (dats m 0 c).arrAt 3 cfg0.N = sums m c := by
  refine (dats m 0 c).arrAt_eq_of_covers 3 _ (by decide +kernel) fun t hf y => ?_
  have idx : ∀ t : Fin cfg0.N, ∀ a, win0_3.index t a = 0 := (by decide +kernel : ∀ t : Fin grid0.N, ∀ a, win0_3.index t a = 0)
  blk_simp
  rw [after0_3, stats_last m c t ((flush0_3 t).mp hf)]
  refine congrArg (sums m c) (funext fun a => Fin.ext ?_)
  blk_simp [idx t]

theorem sums_apply (c : Dev nD) (o : Fin 128) : sums m c (ix2 0 o) = ∑ n : Fin 32768, feats m c n o
    ∧ sums m c (ix2 1 o) = ∑ n : Fin 32768, feats m c n o * feats m c n o := by
  unfold sums
  rw [(acc_spec m c lastPt.val lastPt.isLt o).1, (acc_spec m c lastPt.val lastPt.isLt o).2, show lastPt.val = 63 from rfl,
    upto_all, upto_all]
  exact ⟨rfl, rfl⟩

theorem call_s (c : Dev nD) :
    Pipeline.withArrays spec0 c (V0 m c) (fun w => (dats m 0 c).arrAt w cfg0.N) (Proc.devRef .tc main_v2_1) = sums m c :=
  (Pipeline.withArrays_arr spec0 launch0.win.arr_inj c (V0 m c) (fun w => (dats m 0 c).arrAt w cfg0.N) 3).trans (arr_s m c)

/-- The number of points, as the program spells it. -/
abbrev count : EReal := Ideal.ofBits FTy.f32 1191182336#32

/-- The mean of feature `o`. -/
def mean (f : Fin 32768 → Fin 128 → EReal) (o : Fin 128) : EReal := Ideal.div (∑ n : Fin 32768, f n o) count

/-- The variance as the kernel computes it: the mean of the squares less the square of the mean. -/
def varK (f : Fin 32768 → Fin 128 → EReal) (o : Fin 128) : EReal :=
  Ideal.div (∑ n : Fin 32768, f n o * f n o) count - mean f o * mean f o

/-- The small number added to the variance, as the program spells it. -/
abbrev eps : EReal := Ideal.ofBits FTy.f32 925353388#32

/-- The weight and the offset of core `c`'s normalisation. -/
abbrev weight (c : Dev nD) : S128.Idx → EReal := m ((c : Thread nD τ).loc main_arg2)

abbrev offset (c : Dev nD) : S128.Idx → EReal := m ((c : Thread nD τ).loc main_arg3)

theorem call_g (c : Dev nD) : Pipeline.withArrays spec0 c (V0 m c) (fun w => (dats m 0 c).arrAt w cfg0.N) (Proc.devRef .tc main_arg2)
    = weight m c := by
  rw [Pipeline.withArrays_of_ne spec0 c (V0 m c) _ main_arg2 (by decide)]
  unfold V0 hostOps0
  simp only [List.flatten_cons, List.flatten_nil, List.append_nil]
  after_results

theorem call_b (c : Dev nD) : Pipeline.withArrays spec0 c (V0 m c) (fun w => (dats m 0 c).arrAt w cfg0.N) (Proc.devRef .tc main_arg3)
    = offset m c := by
  rw [Pipeline.withArrays_of_ne spec0 c (V0 m c) _ main_arg3 (by decide)]
  unfold V0 hostOps0
  simp only [List.flatten_cons, List.flatten_nil, List.append_nil]
  after_results

/-- The scale of feature `o`, from the weight `g`. -/
def scaleK (f : Fin 32768 → Fin 128 → EReal) (g : EReal) (o : Fin 128) : EReal := g * Ideal.rsqrt (varK f o + eps)

theorem scale_eq (c : Dev nD) (o : Fin 128) :
    Pipeline.afterTail₀ cfgs (dats m) 0 (V0 m) [hostOps1] c main_v16 (ix1 o)
      = scaleK (feats m c) (weight m c (ix1 o)) o := by
  rw [scaleK, varK, mean, ← (sums_apply m c o).1, ← (sums_apply m c o).2, ← call_s, ← call_g m c]
  unfold Pipeline.afterTail₀ hostOps1
  simp only [List.flatten_cons, List.flatten_nil, List.append_nil]
  after_results
  pointwise

theorem shift_eq (c : Dev nD) (o : Fin 128) :
    Pipeline.afterTail₀ cfgs (dats m) 0 (V0 m) [hostOps1] c main_v18 (ix1 o)
      = offset m c (ix1 o) - mean (feats m c) o * scaleK (feats m c) (weight m c (ix1 o)) o := by
  rw [scaleK, varK, mean, ← (sums_apply m c o).1, ← (sums_apply m c o).2, ← call_s, ← call_g m c, ← call_b m c]
  unfold Pipeline.afterTail₀ hostOps1
  simp only [List.flatten_cons, List.flatten_nil, List.append_nil]
  after_results
  pointwise

/-- The program's run: the features, the scale and the shift; the arguments are unchanged. -/
theorem run_kernel : θ_run defs (onTc (τ := τ) (main (F := Ideal))) ⟨m, fun _ => 0, ρ⟩ fun r => ∀ c : Dev nD,
    r.2.mem ((c : Thread nD τ).loc main_v2_0) = featArr m c
      ∧ (∀ o : Fin 128, r.2.mem ((c : Thread nD τ).loc main_v16) (ix1 o)
          = scaleK (feats m c) (weight m c (ix1 o)) o)
      ∧ (∀ o : Fin 128, r.2.mem ((c : Thread nD τ).loc main_v18) (ix1 o)
          = offset m c (ix1 o) - mean (feats m c) o * scaleK (feats m c) (weight m c (ix1 o)) o)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 2).trans (arr_h m c),
      fun o => (congrFun ((h c).2 main_v16 (Pipeline.mem_restRefs_of main_v16 (by decide) (by decide))) (ix1 o)).trans (scale_eq m c o),
      fun o => (congrFun ((h c).2 main_v18 (Pipeline.mem_restRefs_of main_v18 (by decide) (by decide))) (ix1 o)).trans (shift_eq m c o),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.Moments

end
-- ==== Proof.Moments.Ref.lean ====
module

public import proofs.«01_k».proof.Proof.Moments.Main
public import proofs.«01_k».proof.Proof.Gen.MomentsReferenceIdeal.Run

@[expose] public section

set_option maxRecDepth 16384

noncomputable section

namespace Cert.Proof.Moments

open Cert.MomentsReferenceIdeal Cert.MomentsReferenceIdeal.Gen
open Idealize.ShloMosaic

variable (x : S4x8192x64.Idx → EReal) (w : S128x64.Idx → EReal)

/-- Where the reference keeps feature `o` of point `n`. -/
def spot (n : Fin 32768) (o : Fin 128) : S4x8192x128.Idx := ix3 ⟨n.val / 8192, by omega⟩ ⟨n.val % 8192, by omega⟩ o

def refH : S4x8192x128.Idx → EReal :=
  Host.dotGeneral (F := Ideal) (φ₁ := .f32) (φ₂ := .f32) dot_S4x8192x64_S128x64_S4x8192x128_2_1_01_0_n_n none x w

theorem refH_apply (n : Fin 32768) (o : Fin 128) : refH x w (spot n o) = feat x w n o := by
  unfold refH spot feat
  pointwise

def total (h : S4x8192x128.Idx → EReal) : S128.Idx → EReal :=
  Host.reduceAdd (F := Ideal) (φ := .f32) h (constant S_ .f32 0x00000000#32) reducesTo_S4x8192x128_S128_d0_1 h_S_

theorem fiber (o : Fin 128) (i : S4x8192x128.Idx) :
    reducesTo_S4x8192x128_S128_d0_1.drop i = ix1 o ↔ ∃ n : Fin 32768, spot n o = i := by
  constructor
  · intro e
    have h0 : (i 0).val < 4 := (i 0).isLt
    have h1 : (i 1).val < 8192 := (i 1).isLt
    refine ⟨⟨8192 * (i 0).val + (i 1).val, by omega⟩, ?_⟩
    funext a; apply Fin.ext
    match a with
    | ⟨0, _⟩ => show (8192 * (i 0).val + (i 1).val) / 8192 = (i 0).val; omega
    | ⟨1, _⟩ => show (8192 * (i 0).val + (i 1).val) % 8192 = (i 1).val; omega
    | ⟨2, _⟩ => exact (congrArg Fin.val (congrFun e 0)).symm
  · rintro ⟨n, rfl⟩
    funext b; apply Fin.ext
    match b with
    | ⟨0, _⟩ => rfl

theorem spot_inj (o : Fin 128) : Function.Injective fun n : Fin 32768 => spot n o := by
  intro n k e
  have e0 : n.val / 8192 = k.val / 8192 := congrArg Fin.val (congrFun e 0)
  have e1 : n.val % 8192 = k.val % 8192 := congrArg Fin.val (congrFun e 1)
  exact Fin.ext (by omega)

theorem total_apply (h : S4x8192x128.Idx → EReal) (o : Fin 128) : total h (ix1 o) = ∑ n : Fin 32768, h (spot n o) := by
  unfold total
  pointwise
  unfold Ideal.hostReduceAdd
  rw [Finset.sum_filter_eq_sum_of_fiber _ (fun n : Fin 32768 => spot n o) (spot_inj o) (fiber o) h, zero_add]

/-- The reference's mean. -/
def refMean (h : S4x8192x128.Idx → EReal) : S128.Idx → EReal :=
  Host.divf (F := Ideal) (φ := .f32) (total h) (broadcastInDim S128 ![] bcast_S_S128 (constant S_ .f32 0x47000000#32))

theorem refMean_apply (o : Fin 128) : refMean (refH x w) (ix1 o) = mean (feat x w) o := by
  unfold refMean mean
  pointwise
  rw [total_apply]
  simp only [refH_apply]

/-- The reference's mean, spread over the points. -/
def refMeans (h : S4x8192x128.Idx → EReal) : S4x8192x128.Idx → EReal :=
  broadcastInDim S4x8192x128 ![0, 1, 2] bcast_S1x1x128_S4x8192x128_0_1_2 (Host.divf (F := Ideal) (φ := .f32)
    (broadcastInDim S1x1x128 ![2] bcast_S128_S1x1x128_2 (total h)) (broadcastInDim S1x1x128 ![] bcast_S_S1x1x128 (constant S_ .f32 0x47000000#32)))

theorem refMeans_apply (n : Fin 32768) (o : Fin 128) : refMeans (refH x w) (spot n o) = mean (feat x w) o := by
  rw [← refMean_apply]
  unfold refMeans refMean spot
  pointwise

/-- The divisor the reference's variance computes: the number of points less zero. -/
def refCount : S_.Idx → EReal := subf (F := Ideal) (φ := .f32) (constant S_ .f32 0x47000000#32) (sitofp .f32 (constantI S_ 32 0#32))

/-- The reference's variance. -/
def refVar (h : S4x8192x128.Idx → EReal) : S128.Idx → EReal :=
  select (broadcastInDim S128 ![] bcast_S_S128 (cmpf (F := Ideal) (φ := .f32) .ogt refCount (constant S_ .f32 0x00000000#32)))
    (Host.divf (F := Ideal) (φ := .f32) (total (mulf (F := Ideal) (φ := .f32) (subf (F := Ideal) (φ := .f32) h (refMeans h)) (subf (F := Ideal) (φ := .f32) h (refMeans h))))
      (broadcastInDim S128 ![] bcast_S_S128 refCount))
    (broadcastInDim S128 ![] bcast_S_S128 (id (constant (F := Ideal) S_ .f32 0x7FC00000#32)))

theorem count_eq : count = ((32768 : ℝ) : EReal) := by
  unfold count
  simp [Ideal.ofBits, Ideal.ieee, -EReal.coe_mul]; norm_num

theorem refCount_apply (i : S_.Idx) : refCount i = count := by
  have e : refCount i = count - (((0#32).toInt : ℝ) : EReal) := by
    unfold refCount
    pointwise
    rfl
  rw [e]
  simp

theorem dev_apply (n : Fin 32768) (o : Fin 128) :
    subf (F := Ideal) (φ := .f32) (refH x w) (refMeans (refH x w)) (spot n o) = feat x w n o - mean (feat x w) o := by
  rw [← refH_apply, ← refMeans_apply]
  rfl

theorem refVar_apply (o : Fin 128) : refVar (refH x w) (ix1 o)
    = Ideal.div (∑ n : Fin 32768, (feat x w n o - mean (feat x w) o) * (feat x w n o - mean (feat x w) o)) count := by
  have e : total (mulf (F := Ideal) (φ := .f32) (subf (F := Ideal) (φ := .f32) (refH x w) (refMeans (refH x w)))
      (subf (F := Ideal) (φ := .f32) (refH x w) (refMeans (refH x w)))) (ix1 o)
      = ∑ n : Fin 32768, (feat x w n o - mean (feat x w) o) * (feat x w n o - mean (feat x w) o) := by
    rw [total_apply]
    refine Finset.sum_congr rfl fun n _ => ?_
    rw [← dev_apply]
    rfl
  rw [← e]
  unfold refVar
  pointwise
  rw [refCount_apply, if_pos (by rw [count_eq]; norm_num)]

/-- The mean of the squared deviations from the mean. -/
def variance (f : Fin 32768 → Fin 128 → EReal) (o : Fin 128) : EReal :=
  Ideal.div (∑ n : Fin 32768, (f n o - mean f o) * (f n o - mean f o)) count

/-- The scale by its definition: the weight over the deviation. -/
def scaleR (f : Fin 32768 → Fin 128 → EReal) (g : EReal) (o : Fin 128) : EReal := Ideal.div g (Ideal.sqrt (variance f o + eps))

/-- The reference's scale. -/
def refScale (h : S4x8192x128.Idx → EReal) (g : S128.Idx → EReal) : S128.Idx → EReal :=
  Host.divf (F := Ideal) (φ := .f32) g (Host.sqrt (F := Ideal) (φ := .f32) (addf (F := Ideal) (φ := .f32) (refVar h)
    (broadcastInDim S128 ![] bcast_S_S128 (constant (F := Ideal) S_ .f32 0x3727C5AC#32))))

theorem refScale_apply (g : S128.Idx → EReal) (o : Fin 128) : refScale (refH x w) g (ix1 o) = scaleR (feat x w) (g (ix1 o)) o := by
  rw [scaleR, variance, ← refVar_apply]
  unfold refScale
  pointwise

/-- The reference's shift. -/
def refShift (h : S4x8192x128.Idx → EReal) (g b : S128.Idx → EReal) : S128.Idx → EReal :=
  subf (F := Ideal) (φ := .f32) b (mulf (F := Ideal) (φ := .f32) (refMean h) (refScale h g))

theorem refShift_apply (g b : S128.Idx → EReal) (o : Fin 128) :
    refShift (refH x w) g b (ix1 o) = b (ix1 o) - mean (feat x w) o * scaleR (feat x w) (g (ix1 o)) o := by
  rw [← refScale_apply, ← refMean_apply]
  rfl

/-! ## The mean of the squares less the square of the mean -/

theorem div_real (a : ℝ) : Ideal.div (a : EReal) count = ((a / 32768 : ℝ) : EReal) := by
  rw [count_eq, Ideal.div, if_neg (by norm_num), div_eq_mul_inv, EReal.coe_mul, EReal.coe_inv]

theorem sum_real {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem var_real (g : Fin 32768 → ℝ) : (∑ n, g n * g n) / 32768 - (∑ n, g n) / 32768 * ((∑ n, g n) / 32768)
    = (∑ n, (g n - (∑ n, g n) / 32768) * (g n - (∑ n, g n) / 32768)) / 32768 := by
  have e : ∀ c : ℝ, ∑ n, (g n - c) * (g n - c) = (∑ n, g n * g n) - 2 * c * (∑ n, g n) + 32768 * (c * c) := by
    intro c
    have h : ∀ n, (g n - c) * (g n - c) = g n * g n - 2 * c * g n + c * c := fun n => by ring
    simp only [h, Finset.sum_add_distrib, Finset.sum_sub_distrib, ← Finset.mul_sum, Finset.sum_const, Finset.card_univ,
      Fintype.card_fin, nsmul_eq_mul]
    push_cast
    ring
  rw [e]
  ring

theorem mean_real (f : Fin 32768 → Fin 128 → EReal) (g : Fin 32768 → Fin 128 → ℝ) (h : ∀ n o, f n o = (g n o : EReal)) (o : Fin 128) :
    mean f o = (((∑ n, g n o) / 32768 : ℝ) : EReal) := by
  unfold mean
  simp only [h]
  rw [sum_real, div_real]

/-- For features that are real numbers the two variances are one. -/
theorem var_agree (f : Fin 32768 → Fin 128 → EReal) (g : Fin 32768 → Fin 128 → ℝ) (h : ∀ n o, f n o = (g n o : EReal)) (o : Fin 128) :
    varK f o = variance f o := by
  unfold varK variance
  rw [mean_real f g h]
  simp only [h, ← EReal.coe_mul, ← EReal.coe_sub]
  rw [sum_real, sum_real, div_real, div_real, ← EReal.coe_sub, var_real]

/-- It is a real number, and not negative. -/
theorem variance_real (f : Fin 32768 → Fin 128 → EReal) (g : Fin 32768 → Fin 128 → ℝ) (h : ∀ n o, f n o = (g n o : EReal)) (o : Fin 128) :
    ∃ v : ℝ, 0 ≤ v ∧ variance f o = (v : EReal) := by
  refine ⟨(∑ n, (g n o - (∑ n, g n o) / 32768) * (g n o - (∑ n, g n o) / 32768)) / 32768,
    div_nonneg (Finset.sum_nonneg fun n _ => mul_self_nonneg _) (by norm_num), ?_⟩
  unfold variance
  rw [mean_real f g h]
  simp only [h, ← EReal.coe_mul, ← EReal.coe_sub]
  rw [sum_real, div_real]

theorem eps_real : ∃ e : ℝ, 0 < e ∧ eps = (e : EReal) := by
  refine ⟨_, ?_, show eps = _ from by simp [eps, Ideal.ofBits, Ideal.ieee, -EReal.coe_mul]; rfl⟩
  positivity

/-- A weight times the reciprocal root of a positive number is the weight over its root. -/
theorem mul_rsqrt (g : EReal) (v : ℝ) (hv : 0 < v) : g * Ideal.rsqrt (v : EReal) = Ideal.div g (Ideal.sqrt (v : EReal)) := by
  have hs : Real.sqrt v ≠ 0 := (Real.sqrt_pos.mpr hv).ne'
  rw [Ideal.rsqrt_coe, if_neg hv.not_gt, if_neg hv.ne', Ideal.sqrt_coe, if_neg hv.not_gt, Ideal.div,
    if_neg (fun e => hs (EReal.coe_eq_zero.mp e)), EReal.coe_inv]

/-- For features that are real numbers the two scales are one, for any weight. -/
theorem scale_agree (f : Fin 32768 → Fin 128 → EReal) (r : Fin 32768 → Fin 128 → ℝ) (h : ∀ n o, f n o = (r n o : EReal)) (g : EReal) (o : Fin 128) :
    scaleK f g o = scaleR f g o := by
  obtain ⟨v, hv, ev⟩ := variance_real f r h o
  obtain ⟨e, he, ee⟩ := eps_real
  rw [scaleK, scaleR, var_agree f r h, ev, ee, ← EReal.coe_add]
  exact mul_rsqrt g _ (by linarith)

theorem feat_real (hx : ∀ i, ∃ a : ℝ, x i = (a : EReal)) (hw : ∀ i, ∃ a : ℝ, w i = (a : EReal)) :
    ∃ g : Fin 32768 → Fin 128 → ℝ, ∀ n o, feat x w n o = (g n o : EReal) := by
  choose a ha using hx
  choose b hb using hw
  refine ⟨fun n o => ∑ k : Fin 64, a (ix3 ⟨n.val / 8192, by omega⟩ ⟨n.val % 8192, by omega⟩ k) * b (ix2 o k), fun n o => ?_⟩
  unfold feat
  simp only [ha, hb, ← EReal.coe_mul]
  exact sum_real _

end Cert.Proof.Moments

end
-- ==== Proof.Moments.Claims.lean ====
module

public import proofs.«01_k».proof.Defs
public import proofs.«01_k».proof.Proof.Moments.Ref
public import proofs.«01_k».proof.Proof.Pool.Claims
public import proofs.«01_k».proof.Proof.Gen.Moments
public import proofs.«01_k».proof.Proof.Gen.Moments.Frame
public import proofs.«01_k».proof.Proof.Gen.Pre_finite

@[expose] public section

set_option maxRecDepth 16384

noncomputable section

namespace Cert.Proof.Moments

open Idealize.ShloMosaic Idealize.ShloMosaic.TcCoe Idealize.SL.Sem
open Cert.MomentsIdeal (S4x8192x64 S128x64)

instance : Cert.Pre_finite.Facts := Cert.Pre_finite.Gen.facts

/-! # The claims about the feature call -/

instance : Subsingleton Cert.Pre_finite.S_.Idx := ⟨fun a b => funext fun i => i.elim0⟩

/-- An extended real whose absolute value is below `⊤` is a real number. -/
theorem real_of_abs_lt (v : EReal) (h : Ideal.cmp .olt (max v (-v)) (Ideal.ofBits .f32 0x7F800000#32) = 1#1) : ∃ a : ℝ, v = (a : EReal) := by
  have e : Ideal.ofBits .f32 0x7F800000#32 = ⊤ := by simp [Ideal.ofBits, Ideal.ieee]
  rw [e] at h
  have hl : max v (-v) < ⊤ := of_decide_eq_true (Pool.ofBool_one h)
  induction v with
  | bot => simp at hl
  | top => simp at hl
  | coe a => exact ⟨a, rfl⟩

/-- Under the precondition every entry of both arguments is a real number. -/
theorem real_args {x : S4x8192x64.Idx → EReal} {w : S128x64.Idx → EReal}
    {g b : Cert.MomentsIdeal.S128.Idx → EReal}
    (h : Cert.Pre_finite.fn (F := Ideal) x w g b = fun _ => 1#1) :
    (∀ i, ∃ a : ℝ, x i = (a : EReal)) ∧ ∀ i, ∃ a : ℝ, w i = (a : EReal) := by
  obtain ⟨hx, hw⟩ := Pool.andi_one (congrFun h fun i => i.elim0)
  exact ⟨fun i => real_of_abs_lt _ (Host.reduce_andi_all _ _ _ _ _ hx i), fun i => real_of_abs_lt _ (Host.reduce_andi_all _ _ _ _ _ hw i)⟩

/-- The kernel terminates from every memory, leaving its arguments and every counter at zero. -/
theorem frame_kernel : Cert.quiescent_Moments := fun m ρ _ => Cert.Moments.Gen.frame (F := Bits) m ρ

/-- So does its idealization. -/
theorem frame_ideal : Cert.quiescent_MomentsIdeal := fun m ρ _ => Cert.MomentsIdeal.Gen.frame (F := Ideal) m ρ

/-- So does the reference. -/
theorem frame_reference : Cert.quiescent_MomentsReferenceIdeal := fun m ρ _ =>
  (θ_run Cert.MomentsReferenceIdeal.defs _ _).mono (fun r h => ⟨fun c => (h c).2.2.2, sem_eq_zero_of_no_sems (by decide) r.2⟩)
    (Cert.MomentsReferenceIdeal.Value.run m ρ)

theorem shapeCast_refH (x : S4x8192x64.Idx → EReal) (w : S128x64.Idx → EReal) (y : Cert.MomentsIdeal.S32768x128.Idx) :
    shapeCast Cert.MomentsReferenceIdeal.S32768x128 (refH x w) Cert.MomentsReferenceIdeal.Gen.shapeCasts_S4x8192x128_S32768x128 y = feat x w (y 0) (y 1) := by
  refine (shapeCast_apply _ _ _ (spot (y 0) (y 1)) ?_).trans (refH_apply x w (y 0) (y 1))
  unfold spot
  rw [Shape.rowMajor_val_two, Shape.rowMajor_val_three]
  show ((y 0).val / 8192 * 8192 + (y 0).val % 8192) * 128 + (y 1).val = (y 0).val * 128 + (y 1).val
  omega

theorem eq_ix1 (y : Cert.MomentsIdeal.S128.Idx) : y = ix1 (y 0) := by funext a; fin_cases a; rfl

/-- The reference's run: the features, the scale and the shift. -/
theorem run_reference (m : (ℓ : Loc Cert.MomentsReferenceIdeal.nD Cert.MomentsReferenceIdeal.τ Cert.MomentsReferenceIdeal.sig) → Buf (Elt Ideal) ℓ)
    (ρ : Dev Cert.MomentsReferenceIdeal.nD → PrngReg) (x : Dev Cert.MomentsReferenceIdeal.nD → S4x8192x64.Idx → EReal)
    (w : Dev Cert.MomentsReferenceIdeal.nD → S128x64.Idx → EReal) (g b : Dev Cert.MomentsReferenceIdeal.nD → Cert.MomentsIdeal.S128.Idx → EReal)
    (ha : ∀ c : Dev Cert.MomentsReferenceIdeal.nD,
      m ((c.tc : Thread Cert.MomentsReferenceIdeal.nD Cert.MomentsReferenceIdeal.τ).loc Cert.MomentsReferenceIdeal.main_arg0) = x c
        ∧ m ((c.tc : Thread Cert.MomentsReferenceIdeal.nD Cert.MomentsReferenceIdeal.τ).loc Cert.MomentsReferenceIdeal.main_arg1) = w c
        ∧ m ((c.tc : Thread Cert.MomentsReferenceIdeal.nD Cert.MomentsReferenceIdeal.τ).loc Cert.MomentsReferenceIdeal.main_arg2) = g c
        ∧ m ((c.tc : Thread Cert.MomentsReferenceIdeal.nD Cert.MomentsReferenceIdeal.τ).loc Cert.MomentsReferenceIdeal.main_arg3) = b c) :
    θ_run (Cert.MomentsReferenceIdeal.defs (F := Ideal)) (onTc (τ := Cert.MomentsReferenceIdeal.τ) (Cert.MomentsReferenceIdeal.main (F := Ideal)))
      ⟨m, fun _ => 0, ρ⟩ fun r => ∀ c : Dev Cert.MomentsReferenceIdeal.nD,
        r.2.mem ((c.tc : Thread Cert.MomentsReferenceIdeal.nD Cert.MomentsReferenceIdeal.τ).loc Cert.MomentsReferenceIdeal.main_v11)
            = (fun y : Cert.MomentsIdeal.S32768x128.Idx => feat (x c) (w c) (y 0) (y 1))
          ∧ r.2.mem ((c.tc : Thread Cert.MomentsReferenceIdeal.nD Cert.MomentsReferenceIdeal.τ).loc Cert.MomentsReferenceIdeal.main_v8)
            = (fun y : Cert.MomentsIdeal.S128.Idx => scaleR (feat (x c) (w c)) (g c y) (y 0))
          ∧ r.2.mem ((c.tc : Thread Cert.MomentsReferenceIdeal.nD Cert.MomentsReferenceIdeal.τ).loc Cert.MomentsReferenceIdeal.main_v10)
            = (fun y : Cert.MomentsIdeal.S128.Idx => b c y - mean (feat (x c) (w c)) (y 0) * scaleR (feat (x c) (w c)) (g c y) (y 0))
          ∧ r.2.mem ((c.tc : Thread Cert.MomentsReferenceIdeal.nD Cert.MomentsReferenceIdeal.τ).loc Cert.MomentsReferenceIdeal.main_arg0)
            = m ((c.tc : Thread Cert.MomentsReferenceIdeal.nD Cert.MomentsReferenceIdeal.τ).loc Cert.MomentsReferenceIdeal.main_arg0)
          ∧ r.2.mem ((c.tc : Thread Cert.MomentsReferenceIdeal.nD Cert.MomentsReferenceIdeal.τ).loc Cert.MomentsReferenceIdeal.main_arg1)
            = m ((c.tc : Thread Cert.MomentsReferenceIdeal.nD Cert.MomentsReferenceIdeal.τ).loc Cert.MomentsReferenceIdeal.main_arg1)
          ∧ r.2.mem ((c.tc : Thread Cert.MomentsReferenceIdeal.nD Cert.MomentsReferenceIdeal.τ).loc Cert.MomentsReferenceIdeal.main_arg2)
            = m ((c.tc : Thread Cert.MomentsReferenceIdeal.nD Cert.MomentsReferenceIdeal.τ).loc Cert.MomentsReferenceIdeal.main_arg2)
          ∧ r.2.mem ((c.tc : Thread Cert.MomentsReferenceIdeal.nD Cert.MomentsReferenceIdeal.τ).loc Cert.MomentsReferenceIdeal.main_arg3)
            = m ((c.tc : Thread Cert.MomentsReferenceIdeal.nD Cert.MomentsReferenceIdeal.τ).loc Cert.MomentsReferenceIdeal.main_arg3) := by
  refine (θ_run Cert.MomentsReferenceIdeal.defs _ _).mono (fun r h c => ?_) (Cert.MomentsReferenceIdeal.Value.run m ρ)
  obtain ⟨hh, hs, ht, hargs⟩ := h c
  obtain ⟨hx, hw, hg, hb⟩ := ha c
  rw [hx, hw] at hh
  rw [hx, hw, hg] at hs
  rw [hx, hw, hg, hb] at ht
  refine ⟨hh.trans (funext fun y => shapeCast_refH (x c) (w c) y), hs.trans (funext fun y => ?_), ht.trans (funext fun y => ?_), hargs⟩
  · rw [eq_ix1 y]
    exact refScale_apply (x c) (w c) (g c) (y 0)
  · rw [eq_ix1 y]
    exact refShift_apply (x c) (w c) (g c) (b c) (y 0)

/-- The idealized kernel and the reference return the same features, scale and shift. -/
theorem same_result : Cert.algebraic_MomentsIdeal_MomentsReferenceIdeal_pre_finite := fun m ρ m' ρ' hpre hag => by
  refine ⟨fun c => featArr m c,
    fun c (y : Cert.MomentsIdeal.S128.Idx) => scaleR (feats m c) (weight m c y) (y 0),
    fun c (y : Cert.MomentsIdeal.S128.Idx) => offset m c y
      - mean (feats m c) (y 0) * scaleR (feats m c) (weight m c y) (y 0),
    ?_, run_reference m' ρ' _ _ _ _ hag⟩
  refine (θ_run Cert.MomentsIdeal.defs _ _).mono (fun r h c => ?_) (run_kernel m ρ)
  obtain ⟨h0, h1, h2, hargs⟩ := h c
  obtain ⟨f, hf⟩ := feat_real _ _ (real_args (hpre c)).1 (real_args (hpre c)).2
  refine ⟨h0, funext fun y => ?_, funext fun y => ?_, hargs⟩
  · rw [eq_ix1 y]
    exact (h1 (y 0)).trans (scale_agree _ f hf _ (y 0))
  · rw [eq_ix1 y]
    exact (h2 (y 0)).trans (congrArg (fun s : EReal => offset m c (ix1 (y 0)) - mean (feats m c) (y 0) * s) (scale_agree _ f hf _ (y 0)))

end Cert.Proof.Moments

end
-- ==== Proof.Near.Block.lean ====
module

public import proofs.«01_k».proof.Proof.Gen.NeighboursIdeal.Frame
public import proofs.«01_k».proof.Proof.Sample.Spec
public import Idealize.ShloMosaic.Lib.SortPrefix
public import proofs.«01_k».proof.Proof.Sample.Step
public import Idealize.ShloMosaic.Lib.Pointwise
public import Idealize.ShloMosaic.Lib.Pipeline.ValueKit
public import Idealize.ShloMosaic.Lib.WritesUnit

@[expose] public section

set_option maxRecDepth 16384

noncomputable section

namespace Cert.Proof.Near

open Cert.NeighboursIdeal Cert.NeighboursIdeal.Gen
open Idealize.ShloMosaic

/-! # Picking the least again and again lists what a stable sort lists first -/

/-- The first place at which `f` is least. -/
def least (f : Fin 8192 → EReal) : Fin 8192 := Sample.first fun n => -f n

theorem least_le (f : Fin 8192 → EReal) (n : Fin 8192) : f (least f) ≤ f n :=
  EReal.neg_le_neg_iff.1 ((Sample.isFirst_first fun n => -f n).1 n)

theorem least_first (f : Fin 8192 → EReal) (n : Fin 8192) (h : f n = f (least f)) : least f ≤ n :=
  (Sample.isFirst_first fun n => -f n).2 n (congrArg Neg.neg h)

/-- The values after `r` rounds, each of which overwrites the least by `C`. -/
def rest (C : EReal) (f : Fin 8192 → EReal) : ℕ → Fin 8192 → EReal
  | 0 => f
  | r + 1 => Function.update (rest C f r) (least (rest C f r)) C

/-- The place picked in round `r`. -/
def picked (C : EReal) (f : Fin 8192 → EReal) (r : ℕ) : Fin 8192 := least (rest C f r)

section Rounds
variable {C : EReal} {f : Fin 8192 → EReal}

/-- A place not picked keeps its value. -/
theorem rest_keep (r : ℕ) (n : Fin 8192) (h : ∀ k < r, picked C f k ≠ n) : rest C f r n = f n := by
  induction r with
  | zero => rfl
  | succ r ih =>
    have h1 : n ≠ least (rest C f r) := fun e => h r (Nat.lt_succ_self r) e.symm
    show Function.update (rest C f r) (least (rest C f r)) C n = f n
    rw [Function.update_of_ne h1]
    exact ih fun k hk => h k (Nat.lt_succ_of_lt hk)

/-- A place picked is overwritten. -/
theorem rest_picked (r : ℕ) (n : Fin 8192) (h : ∃ k < r, picked C f k = n) : rest C f r n = C := by
  induction r with
  | zero => obtain ⟨k, hk, -⟩ := h; exact absurd hk (Nat.not_lt_zero k)
  | succ r ih =>
    show Function.update (rest C f r) (least (rest C f r)) C n = C
    by_cases h1 : n = least (rest C f r)
    · rw [h1, Function.update_self]
    · rw [Function.update_of_ne h1]
      obtain ⟨k, hk, e⟩ := h
      refine ih ⟨k, ?_, e⟩
      rcases Nat.lt_succ_iff_lt_or_eq.1 hk with hk | rfl
      · exact hk
      · exact absurd e.symm h1

variable (hf : ∀ n, f n < C)
include hf

/-- No place is picked twice. -/
theorem picked_ne (r : ℕ) (hr : r < 8192) (k : ℕ) (hk : k < r) : picked C f k ≠ picked C f r := by
  intro e
  obtain ⟨p, hp⟩ : ∃ p : Fin 8192, p ∉ (Finset.range r).image (picked C f) := by
    by_contra hall
    push Not at hall
    have h1 := Finset.card_le_card (fun p _ => hall p : (Finset.univ : Finset (Fin 8192)) ⊆ _)
    rw [Finset.card_univ, Fintype.card_fin] at h1
    have h2 := Finset.card_image_le (s := Finset.range r) (f := picked C f)
    rw [Finset.card_range] at h2
    omega
  have h1 : rest C f r p = f p := rest_keep r p fun j hj e => hp (Finset.mem_image.2 ⟨j, Finset.mem_range.2 hj, e⟩)
  have h2 : rest C f r (picked C f r) = C := rest_picked r _ ⟨k, hk, e⟩
  have h3 : rest C f r (picked C f r) ≤ rest C f r p := least_le _ _
  rw [h1, h2] at h3
  exact absurd (hf p) (not_lt.2 h3)

/-- Nothing left when round `r` picks comes before what it picks. -/
theorem picked_before (r : ℕ) (hr : r < 8192) (q : Fin 8192) (h : ∀ k < r, picked C f k ≠ q) :
    f (picked C f r) ≤ f q ∧ (f q = f (picked C f r) → picked C f r ≤ q) := by
  have h1 : rest C f r q = f q := rest_keep r q h
  have h2 : rest C f r (picked C f r) = f (picked C f r) := rest_keep r _ fun k hk => picked_ne hf r hr k hk
  have h3 : rest C f r (picked C f r) ≤ rest C f r q := least_le _ _
  refine ⟨by rwa [h1, h2] at h3, fun e => least_first _ _ ?_⟩
  exact h1.trans (e.trans h2.symm)

end Rounds

/-! ## The stable sort -/

/-- The order by value, then by place. -/
def byPlace (f : Fin 8192 → EReal) (a b : Fin 8192) : Bool :=
  decide (f a < f b) || (decide (f a = f b) && decide (a < b))

theorem byPlace_total (f : Fin 8192 → EReal) : StrictTotalBefore (byPlace f) :=
  StrictTotalBefore.of_key_then_position (fun a b : EReal => decide (a < b)) f (by simp)
    (fun a b c hab hbc => by
      simp only [decide_eq_true_eq] at *
      exact lt_trans hab hbc)
    (fun a b => by
      simp only [decide_eq_true_eq]
      exact lt_trichotomy a b)

theorem not_byPlace {f : Fin 8192 → EReal} {a b : Fin 8192} :
    byPlace f b a = false ↔ f a ≤ f b ∧ (f b = f a → a ≤ b) := by
  unfold byPlace
  simp only [Bool.or_eq_false_iff, decide_eq_false_iff_not, not_lt, Bool.and_eq_false_iff]
  constructor
  · rintro ⟨h, h'⟩
    exact ⟨h, fun e => h'.elim (fun h => absurd e h) id⟩
  · rintro ⟨h, h'⟩
    refine ⟨h, ?_⟩
    by_cases e : f b = f a
    · exact Or.inr (h' e)
    · exact Or.inl e

/-- Inserting by value alone, before places further on, keeps the order by value and place. -/
theorem insert_sorted (f : Fin 8192 → EReal) (a : Fin 8192) (l : List (Fin 8192)) (ha : ∀ b ∈ l, a < b)
    (hl : l.Pairwise fun x y => byPlace f y x = false) :
    (insertBefore (fun x y => decide (f x < f y)) a l).Pairwise fun x y => byPlace f y x = false := by
  induction l with
  | nil => simp [insertBefore]
  | cons b l ih =>
    obtain ⟨hb, hl'⟩ := List.pairwise_cons.mp hl
    unfold insertBefore
    split
    · next h =>
      have hba : f b < f a := of_decide_eq_true h
      refine List.pairwise_cons.mpr ⟨fun x hx => ?_, ih (fun x hx => ha x (List.mem_cons_of_mem _ hx)) hl'⟩
      rcases List.mem_cons.mp ((perm_insertBefore _ a l).mem_iff.mp hx) with rfl | hx'
      · exact not_byPlace.2 ⟨hba.le, fun e => absurd e hba.ne'⟩
      · exact hb x hx'
    · next h =>
      have hab : f a ≤ f b := not_lt.1 fun h' => h (decide_eq_true h')
      refine List.pairwise_cons.mpr ⟨fun x hx => not_byPlace.2 ⟨?_, fun _ => (ha x hx).le⟩, hl⟩
      rcases List.mem_cons.mp hx with rfl | hx'
      · exact hab
      · exact hab.trans (not_byPlace.1 (hb x hx')).1

theorem stableSort_sorted (f : Fin 8192 → EReal) (l : List (Fin 8192)) (hl : l.Pairwise (· < ·)) :
    (stableSort (fun x y => decide (f x < f y)) l).Pairwise fun x y => byPlace f y x = false := by
  induction l with
  | nil => simp [stableSort]
  | cons a l ih =>
    obtain ⟨ha, hl'⟩ := List.pairwise_cons.mp hl
    unfold stableSort
    exact insert_sorted f a _ (fun b hb => ha b ((perm_stableSort _ l).mem_iff.mp hb)) (ih hl')

/-- The stable sort by value is the sort by value and place. -/
theorem sortPositions_eq (f : Fin 8192 → EReal) :
    sortPositions 8192 (fun x y => decide (f x < f y)) = sortPositions 8192 (byPlace f) :=
  (byPlace_total f).eq_stableSort_of_sorted (perm_stableSort _ _)
    (stableSort_sorted f (List.finRange 8192) (List.pairwise_lt_finRange 8192))

theorem sortedFrom_congr {n : ℕ} {B B' : Fin n → Fin n → Bool} (h : sortPositions n B = sortPositions n B') (r : Fin n) :
    sortedFrom B r = sortedFrom B' r := by
  unfold sortedFrom
  rw [List.get_eq_getElem, List.get_eq_getElem]
  exact List.getElem_of_eq h _

/-- Entry `r` of the stable sort by value is the place round `r` picks. -/
theorem sorted_eq_picked {C : EReal} {f : Fin 8192 → EReal} (hf : ∀ n, f n < C) (r : Fin 8192) :
    sortedFrom (fun x y => decide (f x < f y)) r = picked C f r.val := by
  rw [sortedFrom_congr (sortPositions_eq f) r]
  refine (byPlace_total f).sortedFrom_eq_of_prefix le_rfl (fun i : Fin 8192 => picked C f i.val) ?_ ?_ ?_ r
  · intro i j hij
    rcases lt_trichotomy i j with h | h | h
    · exact absurd hij (picked_ne hf j.val j.isLt i.val h)
    · exact h
    · exact absurd hij.symm (picked_ne hf i.val i.isLt j.val h)
  · intro i j hij
    exact not_byPlace.2 (picked_before hf i.val i.isLt _ fun k hk => picked_ne hf j.val j.isLt k (hk.trans hij))
  · intro i p hp
    exact not_byPlace.2 (picked_before hf i.val i.isLt p fun k hk => hp ⟨k, hk.trans i.isLt⟩)

section Round

/-! # The kernel's body as sixteen rounds for each cloud

A round picks, for each of the block's samples, the first point at the least distance, then overwrites that distance. -/

variable {F : FTy → Type} [FloatOps F]

/-- The number of each point. -/
def lane : IVec S128x8192 32 := iota .tc S128x8192 32 [1] iota_S128x8192_d1_w32

/-- The first point at the least distance. -/
def pick (d : FVec F S128x8192 .f32) : IVec S128x1 32 :=
  shapeCast S128x1 (multiReductionI .minsi [1] S128
    (select (cmpf .oeq d (broadcastTo S128x8192 (shapeCast S128x1
        (multiReduction .minimumf [1] S128 d 0x7F800000#32 reduces_S128x8192_S128 (.inl rfl) rfl) shapeCasts_S128_S128x1)
      broadcasts_S128x1_S128x8192)) lane (broadcast S128x8192 1073741824#32))
    2147483647#32 reduces_S128x8192_S128 rfl) shapeCasts_S128_S128x1

/-- The distances with that point's overwritten. -/
def mark (d : FVec F S128x8192 .f32) : FVec F S128x8192 .f32 :=
  select (cmpi .eq lane (broadcastTo S128x8192 (pick d) broadcasts_S128x1_S128x8192))
    (broadcast S128x8192 (Scalar.ofBits .f32 0x7F61B1E6#32)) d

/-- The distances after `n` rounds. -/
def rounds (d : FVec F S128x8192 .f32) : ℕ → FVec F S128x8192 .f32
  | 0 => d
  | n + 1 => mark (rounds d n)

/-- The squared distances of the samples, in coordinates `q`, from the points, in coordinates `p`. -/
def dist (q0 q1 q2 : FVec F S128x1 .f32) (p0 p1 p2 : FVec F S1x8192 .f32) : FVec F S128x8192 .f32 :=
  addf (addf
    (mulf (subf (broadcastTo S128x8192 q0 broadcasts_S128x1_S128x8192) (broadcastTo S128x8192 p0 broadcasts_S1x8192_S128x8192))
      (subf (broadcastTo S128x8192 q0 broadcasts_S128x1_S128x8192) (broadcastTo S128x8192 p0 broadcasts_S1x8192_S128x8192)))
    (mulf (subf (broadcastTo S128x8192 q1 broadcasts_S128x1_S128x8192) (broadcastTo S128x8192 p1 broadcasts_S1x8192_S128x8192))
      (subf (broadcastTo S128x8192 q1 broadcasts_S128x1_S128x8192) (broadcastTo S128x8192 p1 broadcasts_S1x8192_S128x8192))))
    (mulf (subf (broadcastTo S128x8192 q2 broadcasts_S128x1_S128x8192) (broadcastTo S128x8192 p2 broadcasts_S1x8192_S128x8192))
      (subf (broadcastTo S128x8192 q2 broadcasts_S128x1_S128x8192) (broadcastTo S128x8192 p2 broadcasts_S1x8192_S128x8192)))

/-- The points picked in the rounds from `d`, numbered on from `k`. -/
def column (d : FVec F S128x8192 .f32) (k : BitVec 32) (n : ℕ) : IVec S128x1 32 :=
  addi (pick (rounds d n)) (broadcast S128x1 k)

/-- The sixteen columns side by side. -/
def columns (d : FVec F S128x8192 .f32) (k : BitVec 32) : IVec S1x128x16 32 :=
  shapeCast S1x128x16 (concatenate S128x16 1 [⟨S128x1, column d k 0⟩, ⟨S128x1, column d k 1⟩, ⟨S128x1, column d k 2⟩,
    ⟨S128x1, column d k 3⟩, ⟨S128x1, column d k 4⟩, ⟨S128x1, column d k 5⟩, ⟨S128x1, column d k 6⟩, ⟨S128x1, column d k 7⟩,
    ⟨S128x1, column d k 8⟩, ⟨S128x1, column d k 9⟩, ⟨S128x1, column d k 10⟩, ⟨S128x1, column d k 11⟩, ⟨S128x1, column d k 12⟩,
    ⟨S128x1, column d k 13⟩, ⟨S128x1, column d k 14⟩, ⟨S128x1, column d k 15⟩]
    concatenates_S128x1_S128x1_S128x1_S128x1_S128x1_S128x1_S128x1_S128x1_S128x1_S128x1_S128x1_S128x1_S128x1_S128x1_S128x1_S128x1_S128x16_d1)
    shapeCasts_S128x16_S1x128x16

variable (x0 : Vec F S12x8192 .f32) (x1 : Vec F S128x12 .f32)

/-- One column of the samples' coordinates. -/
def sampleCol (off : Fin 2 → ℕ) (h : S128x12.Slices off S128x1) : FVec F S128x1 .f32 :=
  extractStridedSlice S128x1 off (shapeCast S128x12 (View.ld x1 r0_0) shapeCasts_S128x12_S128x12) h

/-- One row of the points' coordinates. -/
def pointRow (v : Vec F S1x8192 .f32) : FVec F S1x8192 .f32 := shapeCast S1x8192 v shapeCasts_S1x8192_S1x8192

/-- The distances from the points of each cloud. -/
def dist0 : FVec F S128x8192 .f32 :=
  dist (sampleCol x1 ![0, 0] slices_S128x12_o0_0_S128x1) (sampleCol x1 ![0, 4] slices_S128x12_o0_4_S128x1)
    (sampleCol x1 ![0, 8] slices_S128x12_o0_8_S128x1)
    (pointRow (View.ld x0 r0_1)) (pointRow (View.ld x0 r0_2)) (pointRow (View.ld x0 r0_3))
@[inherit_doc dist0] def dist1 : FVec F S128x8192 .f32 :=
  dist (sampleCol x1 ![0, 1] slices_S128x12_o0_1_S128x1) (sampleCol x1 ![0, 5] slices_S128x12_o0_5_S128x1)
    (sampleCol x1 ![0, 9] slices_S128x12_o0_9_S128x1)
    (pointRow (View.ld x0 r0_5)) (pointRow (View.ld x0 r0_6)) (pointRow (View.ld x0 r0_7))
@[inherit_doc dist0] def dist2 : FVec F S128x8192 .f32 :=
  dist (sampleCol x1 ![0, 2] slices_S128x12_o0_2_S128x1) (sampleCol x1 ![0, 6] slices_S128x12_o0_6_S128x1)
    (sampleCol x1 ![0, 10] slices_S128x12_o0_10_S128x1)
    (pointRow (View.ld x0 r0_9)) (pointRow (View.ld x0 r0_10)) (pointRow (View.ld x0 r0_11))
@[inherit_doc dist0] def dist3 : FVec F S128x8192 .f32 :=
  dist (sampleCol x1 ![0, 3] slices_S128x12_o0_3_S128x1) (sampleCol x1 ![0, 7] slices_S128x12_o0_7_S128x1)
    (sampleCol x1 ![0, 11] slices_S128x12_o0_11_S128x1)
    (pointRow (View.ld x0 r0_13)) (pointRow (View.ld x0 r0_14)) (pointRow (View.ld x0 r0_15))

/-- The body leaves the columns of the four clouds. -/
theorem out_eq : out0_2 x0 x1 = View.canon [⟨r0_16, columns (dist3 x0 x1) 24576#32⟩, ⟨r0_12, columns (dist2 x0 x1) 16384#32⟩,
    ⟨r0_8, columns (dist1 x0 x1) 8192#32⟩, ⟨r0_4, columns (dist0 x0 x1) 0#32⟩] := rfl

end Round

/-! # What one grid point leaves -/

/-- The value a picked distance is overwritten by. -/
def top : EReal := Ideal.ofBits .f32 0x7F61B1E6#32

/-- `D` holds the distances `f`. -/
def Holds (f : Fin 128 → Fin 8192 → EReal) (D : FVec Ideal S128x8192 .f32) : Prop := ∀ q n, D (ix2 q n) = f q n

/-- A value per sample, spread over the points. -/
theorem spread_apply {α : Type} (x : S128x1.Idx → α) (q : Fin 128) (n : Fin 8192) :
    broadcastTo S128x8192 x broadcasts_S128x1_S128x8192 (ix2 q n) = x (ix2 q 0) :=
  broadcastTo_apply _ _ _ _ (by intro a; fin_cases a <;> rfl)

/-- A value per point, spread over the samples. -/
theorem spread_row {α : Type} (x : S1x8192.Idx → α) (q : Fin 128) (n : Fin 8192) :
    broadcastTo S128x8192 x broadcasts_S1x8192_S128x8192 (ix2 q n) = x (ix2 0 n) :=
  broadcastTo_apply _ _ _ _ (by intro a; fin_cases a <;> rfl)

/-- A list of values as a column. -/
theorem col_apply {α : Type} (x : S128.Idx → α) (q : Fin 128) :
    shapeCast S128x1 x shapeCasts_S128_S128x1 (ix2 q 0) = x (ix1 q) :=
  shapeCast_apply _ _ _ _ (by
    rw [Shape.rowMajor_val_one, Shape.rowMajor_val_two]
    show q.val = q.val * 1 + 0
    omega)

theorem lane_apply (q : Fin 128) (n : Fin 8192) : lane (ix2 q n) = BitVec.ofNat 32 n.val := by
  unfold lane
  rw [iota_single_apply]
  rfl

/-- The smallest number among the points at the least distance. -/
theorem fold_least (f : Fin 8192 → EReal) (M : EReal) (hM : ∀ n, M ≤ f n) (hm : ∃ n, f n = M) :
    (Finset.univ : Finset (Fin 8192)).fold IntOp.minsi 2147483647#32
        (fun n => if f n = M then BitVec.ofNat 32 n.val else 1073741824#32) = BitVec.ofNat 32 (least f).val := by
  obtain ⟨h1, h2⟩ := Sample.fold_minsi (fun n : Fin 8192 => if f n = M then BitVec.ofNat 32 n.val else 1073741824#32)
    2147483647#32 Finset.univ
  set r := (Finset.univ : Finset (Fin 8192)).fold IntOp.minsi 2147483647#32
        (fun n => if f n = M then BitVec.ofNat 32 n.val else 1073741824#32) with hr
  have eM : f (least f) = M := by
    obtain ⟨n, hn⟩ := hm
    exact le_antisymm (hn ▸ least_le f n) (hM _)
  have hle : r.toInt ≤ ((least f).val : ℤ) := by
    have h := h1 (least f) (Finset.mem_univ _)
    rwa [if_pos eM, Sample.toInt_point] at h
  have hlt := (least f).isLt
  rcases h2 with h | ⟨n, -, h⟩
  · rw [h, show (2147483647#32 : BitVec 32).toInt = 2147483647 from rfl] at hle
    omega
  · by_cases hf : f n = M
    · rw [if_pos hf] at h
      rw [h, Sample.toInt_point] at hle
      have h3 := least_first f n (hf.trans eM.symm)
      have : n = least f := le_antisymm (by show n.val ≤ (least f).val; omega) h3
      rw [h, this]
    · rw [if_neg hf] at h
      rw [h, show (1073741824#32 : BitVec 32).toInt = 1073741824 from rfl] at hle
      omega

/-- The least distance, as the kernel folds it. -/
theorem fold_min (f : Fin 8192 → EReal) :
    (∀ n, (Finset.univ : Finset (Fin 8192)).fold min ⊤ f ≤ f n) ∧ ∃ n, f n = (Finset.univ : Finset (Fin 8192)).fold min ⊤ f := by
  have h : ∀ n, (Finset.univ : Finset (Fin 8192)).fold min ⊤ f ≤ f n := fun n =>
    (Finset.fold_min_le _).mpr (Or.inr ⟨n, Finset.mem_univ _, le_rfl⟩)
  exact ⟨h, least f, le_antisymm ((Finset.le_fold_min _).mpr ⟨le_top, fun n _ => least_le f n⟩) (h _)⟩

set_option maxHeartbeats 4000000 in
/-- Sixteen columns side by side, read in column `r`. -/
theorem beside_apply (g : ℕ → IVec S128x1 32) (q : Fin 128) (r : Fin 16) :
    concatenate S128x16 1 [⟨S128x1, g 0⟩, ⟨S128x1, g 1⟩, ⟨S128x1, g 2⟩, ⟨S128x1, g 3⟩, ⟨S128x1, g 4⟩, ⟨S128x1, g 5⟩,
      ⟨S128x1, g 6⟩, ⟨S128x1, g 7⟩, ⟨S128x1, g 8⟩, ⟨S128x1, g 9⟩, ⟨S128x1, g 10⟩, ⟨S128x1, g 11⟩, ⟨S128x1, g 12⟩,
      ⟨S128x1, g 13⟩, ⟨S128x1, g 14⟩, ⟨S128x1, g 15⟩]
      concatenates_S128x1_S128x1_S128x1_S128x1_S128x1_S128x1_S128x1_S128x1_S128x1_S128x1_S128x1_S128x1_S128x1_S128x1_S128x1_S128x1_S128x16_d1
      (ix2 q r) = g r.val (ix2 q 0) := by
  refine concatenate_apply_piece (t := S128x16) 1 _ _ _ r.val (by show r.val < 16; exact r.isLt) S128x1 (g r.val) ?_ rfl
      r.val ?_ (ix2 q 0) ?_ ?_
  · fin_cases r <;> rfl
  · fin_cases r <;> rfl
  · intro a ha
    fin_cases a
    · rfl
    · exact absurd rfl ha
  · rfl

section Rounds
variable {f : Fin 128 → Fin 8192 → EReal} {D : FVec Ideal S128x8192 .f32}

/-- The least distance of each sample. -/
theorem min_apply (hD : Holds f D) (q : Fin 128) :
    multiReduction .minimumf [1] S128 D 0x7F800000#32 reduces_S128x8192_S128 (.inl rfl) rfl (ix1 q)
      = (Finset.univ : Finset (Fin 8192)).fold min ⊤ (f q) := by
  refine (multiReduction_minimumf_eq_fold _ _ _ _ _ _).trans ?_
  rw [Shape.Reduces.fold_fiber_r2_a1]
  have e0 : (FloatOps.ofBits (F := Ideal) .f32 0x7F800000#32 : EReal) = ⊤ := by
    show Ideal.ofBits .f32 0x7F800000#32 = ⊤
    simp [Ideal.ofBits, Ideal.ieee]
  rw [e0]
  exact Finset.fold_congr fun n _ => hD q n

theorem pick_apply (hD : Holds f D) (q : Fin 128) : pick D (ix2 q 0) = BitVec.ofNat 32 (least (f q)).val := by
  unfold pick
  rw [col_apply]
  refine (multiReductionI_eq_fold _ _ _ _ _ _).trans ?_
  rw [Shape.Reduces.fold_fiber_r2_a1]
  refine Eq.trans (Finset.fold_congr fun n _ => ?_) (fold_least (f q) _ (fold_min (f q)).1 (fold_min (f q)).2)
  show (if Ideal.cmp .oeq (D (ix2 q n)) (broadcastTo S128x8192 _ broadcasts_S128x1_S128x8192 (ix2 q n)) = 1#1
    then lane (ix2 q n) else 1073741824#32) = _
  rw [spread_apply, col_apply, min_apply hD, hD q n, lane_apply]
  by_cases h : f q n = (Finset.univ : Finset (Fin 8192)).fold min ⊤ (f q) <;> simp [Ideal.cmp, h]

theorem mark_holds (hD : Holds f D) : Holds (fun q => Function.update (f q) (least (f q)) top) (mark D) := by
  intro q n
  show (if IntOp.cmpi .eq (lane (ix2 q n)) (broadcastTo S128x8192 (pick D) broadcasts_S128x1_S128x8192 (ix2 q n)) = 1#1
    then top else D (ix2 q n)) = Function.update (f q) (least (f q)) top n
  rw [spread_apply, lane_apply, pick_apply hD, hD q n]
  by_cases h : n = least (f q)
  · subst h
    rw [Function.update_self, if_pos]
    simp [IntOp.cmpi]
  · rw [Function.update_of_ne h, if_neg]
    have h' : BitVec.ofNat 32 n.val ≠ BitVec.ofNat 32 (least (f q)).val := fun e => h (Sample.ofNat_point_inj e)
    show ¬BitVec.ofBool (BitVec.ofNat 32 n.val == BitVec.ofNat 32 (least (f q)).val) = 1#1
    rw [beq_false_of_ne h']
    decide

theorem rounds_holds (hD : Holds f D) (r : ℕ) : Holds (fun q => rest top (f q) r) (rounds D r) := by
  induction r with
  | zero => exact hD
  | succ r ih => exact mark_holds ih

theorem column_apply (hD : Holds f D) (k : BitVec 32) (r : ℕ) (q : Fin 128) :
    column D k r (ix2 q 0) = IntOp.addi (BitVec.ofNat 32 (picked top (f q) r).val) k := by
  show IntOp.addi (pick (rounds D r) (ix2 q 0)) k = _
  rw [pick_apply (rounds_holds hD r)]
  rfl

theorem columns_apply (hD : Holds f D) (k : BitVec 32) (q : Fin 128) (r : Fin 16) :
    columns D k (ix3 0 q r) = IntOp.addi (BitVec.ofNat 32 (picked top (f q) r.val).val) k := by
  unfold columns
  refine (shapeCast_apply _ _ _ (ix2 q r) ?_).trans ((beside_apply (column D k) q r).trans (column_apply hD k r.val q))
  rw [Shape.rowMajor_val_two, Shape.rowMajor_val_three]
  show q.val * 16 + r.val = (0 * 128 + q.val) * 16 + r.val
  omega

end Rounds

/-! ## The distances -/

/-- The squared distance of sample `q` from point `n` in cloud `b`. -/
def sq (x0 : Vec Ideal S12x8192 .f32) (x1 : Vec Ideal S128x12 .f32) (b : Fin 4) (q : Fin 128) (n : Fin 8192) : EReal :=
  (x1 (ix2 q (Sample.plane 0 b)) - x0 (ix2 (Sample.plane 0 b) n)) * (x1 (ix2 q (Sample.plane 0 b)) - x0 (ix2 (Sample.plane 0 b) n))
    + (x1 (ix2 q (Sample.plane 1 b)) - x0 (ix2 (Sample.plane 1 b) n)) * (x1 (ix2 q (Sample.plane 1 b)) - x0 (ix2 (Sample.plane 1 b) n))
    + (x1 (ix2 q (Sample.plane 2 b)) - x0 (ix2 (Sample.plane 2 b) n)) * (x1 (ix2 q (Sample.plane 2 b)) - x0 (ix2 (Sample.plane 2 b) n))

theorem dist_apply (q0 q1 q2 : FVec Ideal S128x1 .f32) (p0 p1 p2 : FVec Ideal S1x8192 .f32) (q : Fin 128) (n : Fin 8192) :
    dist q0 q1 q2 p0 p1 p2 (ix2 q n)
      = (q0 (ix2 q 0) - p0 (ix2 0 n)) * (q0 (ix2 q 0) - p0 (ix2 0 n)) + (q1 (ix2 q 0) - p1 (ix2 0 n)) * (q1 (ix2 q 0) - p1 (ix2 0 n))
        + (q2 (ix2 q 0) - p2 (ix2 0 n)) * (q2 (ix2 q 0) - p2 (ix2 0 n)) := by
  rw [← spread_apply q0 q n, ← spread_apply q1 q n, ← spread_apply q2 q n, ← spread_row p0 q n, ← spread_row p1 q n,
    ← spread_row p2 q n]
  rfl

section Block
variable (x0 : Vec Ideal S12x8192 .f32) (x1 : Vec Ideal S128x12 .f32)

theorem sampleCol_apply (off : Fin 2 → ℕ) (h : S128x12.Slices off S128x1) (j : Fin 12) (ho : off = ![0, j.val]) (q : Fin 128) :
    sampleCol x1 off h (ix2 q 0) = x1 (ix2 q j) := by
  subst ho
  unfold sampleCol
  have hz : (![0, 0] : Fin 2 → ℕ) = fun _ => 0 := by funext a; fin_cases a <;> rfl
  have e : View.ld x1 r0_0 = x1 := View.ld_unit_zero hz _ x1
  have e' : shapeCast S128x12 x1 shapeCasts_S128x12_S128x12 = x1 := shapeCast_self _ _
  rw [extractStridedSlice_apply (k := ix2 q j), e, e']
  intro a
  fin_cases a
  · exact (Nat.zero_add _).symm
  · rfl

theorem pointRow_apply (off : Fin 2 → ℕ) (inb : ∀ a, off a + S1x8192.size a ≤ S12x8192.size a) (j : Fin 12)
    (ho : off = ![j.val, 0]) (n : Fin 8192) :
    pointRow (View.ld x0 (Rect.unit (s := S12x8192) off S1x8192.size inb)) (ix2 0 n) = x0 (ix2 j n) := by
  subst ho
  unfold pointRow
  rw [shapeCast_self]
  refine congrArg x0 (funext fun a => Fin.ext ?_)
  fin_cases a
  · rfl
  · show 0 + 1 * n.val = n.val
    omega

/-- The distances the kernel takes from the columns and rows of cloud `b`. -/
theorem dist_holds (b : Fin 4) {o0 o1 o2 : Fin 2 → ℕ} {h0 : S128x12.Slices o0 S128x1} {h1 : S128x12.Slices o1 S128x1}
    {h2 : S128x12.Slices o2 S128x1} {i0 i1 i2 : Fin 2 → ℕ} {j0 : ∀ a, i0 a + S1x8192.size a ≤ S12x8192.size a}
    {j1 : ∀ a, i1 a + S1x8192.size a ≤ S12x8192.size a} {j2 : ∀ a, i2 a + S1x8192.size a ≤ S12x8192.size a}
    (eo : o0 = ![0, (Sample.plane 0 b).val] ∧ o1 = ![0, (Sample.plane 1 b).val] ∧ o2 = ![0, (Sample.plane 2 b).val])
    (ei : i0 = ![(Sample.plane 0 b).val, 0] ∧ i1 = ![(Sample.plane 1 b).val, 0] ∧ i2 = ![(Sample.plane 2 b).val, 0]) :
    Holds (sq x0 x1 b) (dist (sampleCol x1 o0 h0) (sampleCol x1 o1 h1) (sampleCol x1 o2 h2)
      (pointRow (View.ld x0 (Rect.unit (s := S12x8192) i0 S1x8192.size j0)))
      (pointRow (View.ld x0 (Rect.unit (s := S12x8192) i1 S1x8192.size j1)))
      (pointRow (View.ld x0 (Rect.unit (s := S12x8192) i2 S1x8192.size j2)))) := by
  intro q n
  rw [dist_apply, sampleCol_apply x1 _ _ _ eo.1, sampleCol_apply x1 _ _ _ eo.2.1, sampleCol_apply x1 _ _ _ eo.2.2,
    pointRow_apply x0 _ _ _ ei.1, pointRow_apply x0 _ _ _ ei.2.1, pointRow_apply x0 _ _ _ ei.2.2]
  rfl

theorem dist0_holds : Holds (sq x0 x1 0) (dist0 x0 x1) := dist_holds x0 x1 0 ⟨rfl, rfl, rfl⟩ ⟨rfl, rfl, rfl⟩
theorem dist1_holds : Holds (sq x0 x1 1) (dist1 x0 x1) := dist_holds x0 x1 1 ⟨rfl, rfl, rfl⟩ ⟨rfl, rfl, rfl⟩
theorem dist2_holds : Holds (sq x0 x1 2) (dist2 x0 x1) := dist_holds x0 x1 2 ⟨rfl, rfl, rfl⟩ ⟨rfl, rfl, rfl⟩
theorem dist3_holds : Holds (sq x0 x1 3) (dist3 x0 x1) := dist_holds x0 x1 3 ⟨rfl, rfl, rfl⟩ ⟨rfl, rfl, rfl⟩

/-- The points' first number in each cloud. -/
def base (b : Fin 4) : BitVec 32 := BitVec.ofNat 32 (8192 * b.val)

/-- The numbers the block holds: for each cloud and sample, the points picked in the sixteen rounds. -/
def found (y : S4x128x16.Idx) : BitVec 32 :=
  IntOp.addi (BitVec.ofNat 32 (picked top (sq x0 x1 (y 0) (y 1)) (y 2).val).val) (base (y 0))

/-- The columns of cloud `b` are the block's where they are stored. -/
theorem found_emb (b : Fin 4) (k : BitVec 32) (hk : k = base b) (D : FVec Ideal S128x8192 .f32) (hD : Holds (sq x0 x1 b) D)
    (off : Fin 3 → ℕ) (inb : ∀ a, off a + S1x128x16.size a ≤ S4x128x16.size a) (ho : off = ![b.val, 0, 0]) (x : S1x128x16.Idx) :
    columns D k x = found x0 x1 ((Rect.unit (s := S4x128x16) off S1x128x16.size inb).emb x) := by
  subst ho hk
  obtain ⟨q, r, rfl⟩ : ∃ (q : Fin 128) (r : Fin 16), x = ix3 0 q r :=
    ⟨x 1, x 2, by funext a; fin_cases a; exact Fin.ext (Nat.lt_one_iff.1 (x 0).isLt); rfl; rfl⟩
  rw [columns_apply hD]
  have e : (Rect.unit (s := S4x128x16) ![b.val, 0, 0] S1x128x16.size inb).emb (ix3 0 q r) = ix3 b q r := by
    funext a
    apply Fin.ext
    fin_cases a
    · rfl
    · show 0 + 1 * q.val = q.val
      omega
    · show 0 + 1 * r.val = r.val
      omega
  rw [e]
  rfl

theorem out_apply (y : S4x128x16.Idx) : out0_2 x0 x1 y = found x0 x1 y := by
  rw [out_eq]
  refine View.canon_apply_of_pieces (found x0 x1) _ ?_ y (cover0_2 (F := Ideal) _ _ _ _ y)
  intro p hp x
  rcases List.mem_cons.1 hp with rfl | hp
  · exact found_emb x0 x1 3 _ rfl _ (dist3_holds x0 x1) _ inb_S4x128x16_S1x128x16_3_0_0 rfl x
  rcases List.mem_cons.1 hp with rfl | hp
  · exact found_emb x0 x1 2 _ rfl _ (dist2_holds x0 x1) _ inb_S4x128x16_S1x128x16_2_0_0 rfl x
  rcases List.mem_cons.1 hp with rfl | hp
  · exact found_emb x0 x1 1 _ rfl _ (dist1_holds x0 x1) _ inb_S4x128x16_S1x128x16_1_0_0 rfl x
  obtain rfl := List.mem_singleton.1 hp
  exact found_emb x0 x1 0 _ rfl _ (dist0_holds x0 x1) _ inb_S4x128x16_S1x128x16_0_0_0 rfl x

end Block

end Cert.Proof.Near

end
-- ==== Proof.Near.Main.lean ====
module

public import proofs.«01_k».proof.Proof.Near.Block
public import proofs.«01_k».proof.Proof.Gen.NeighboursIdeal.Value
public import Idealize.ShloMosaic.Lib.Claim

@[expose] public section

set_option maxRecDepth 16384

noncomputable section

namespace Cert.Proof.Near

open Cert.NeighboursIdeal Cert.NeighboursIdeal.Gen
open Idealize.ShloMosaic Idealize.ShloMosaic.TcCoe Idealize.SL.Sem

/-! # The whole program: the nearest points of every sample -/

/-- The squared distance of sample `i` from point `n` in cloud `b`. -/
def gap (p1 : S4x8192x3.Idx → EReal) (p2 : S4x2048x3.Idx → EReal) (b : Fin 4) (i : Fin 2048) (n : Fin 8192) : EReal :=
  (p2 (ix3 b i 0) - p1 (ix3 b n 0)) * (p2 (ix3 b i 0) - p1 (ix3 b n 0))
    + (p2 (ix3 b i 1) - p1 (ix3 b n 1)) * (p2 (ix3 b i 1) - p1 (ix3 b n 1))
    + (p2 (ix3 b i 2) - p1 (ix3 b n 2)) * (p2 (ix3 b i 2) - p1 (ix3 b n 2))

/-- The points picked in sixteen rounds for every sample, the points of the clouds counted on. -/
def nearest (p1 : S4x8192x3.Idx → EReal) (p2 : S4x2048x3.Idx → EReal) (y : S4x2048x16.Idx) : BitVec 32 :=
  IntOp.addi (BitVec.ofNat 32 (picked top (gap p1 p2 (y 0) (y 1)) (y 2).val).val) (base (y 0))

variable (m : (ℓ : Loc nD τ sig) → Buf (Elt Ideal) ℓ) (ρ : Dev nD → PrngReg)

theorem entry_points (c : Dev nD) : V m c main_v1
    = shapeCast S12x8192 (transpose S3x4x8192 [2, 0, 1] (m ((c : Thread nD τ).loc main_arg0)) transposes_S4x8192x3_S3x4x8192_2_0_1)
        shapeCasts_S3x4x8192_S12x8192 := by
  unfold V hostOps0
  after_results
  rfl

theorem entry_samples (c : Dev nD) : V m c main_v3
    = shapeCast S2048x12 (transpose S2048x3x4 [1, 2, 0] (m ((c : Thread nD τ).loc main_arg1)) transposes_S4x2048x3_S2048x3x4_1_2_0)
        shapeCasts_S2048x3x4_S2048x12 := by
  unfold V hostOps0
  after_results
  rfl

theorem points_apply (c : Dev nD) (k : Fin 3) (b : Fin 4) (n : Fin 8192) :
    V m c main_v1 (ix2 (Sample.plane k b) n) = m ((c : Thread nD τ).loc main_arg0) (ix3 b n k) := by
  rw [entry_points]
  refine (shapeCast_apply _ _ _ (ix3 k b n) ?_).trans (transpose_apply _ _ _ _ (ix3 b n k) (by intro a; fin_cases a <;> rfl))
  rw [Shape.rowMajor_val_two, Shape.rowMajor_val_three]
  show (k.val * 4 + b.val) * 8192 + n.val = (4 * k.val + b.val) * 8192 + n.val
  omega

theorem samples_apply (c : Dev nD) (k : Fin 3) (b : Fin 4) (i : Fin 2048) :
    V m c main_v3 (ix2 i (Sample.plane k b)) = m ((c : Thread nD τ).loc main_arg1) (ix3 b i k) := by
  rw [entry_samples]
  refine (shapeCast_apply _ _ _ (ix3 i k b) ?_).trans (transpose_apply _ _ _ _ (ix3 b i k) (by intro a; fin_cases a <;> rfl))
  rw [Shape.rowMajor_val_two, Shape.rowMajor_val_three]
  show (i.val * 3 + k.val) * 4 + b.val = i.val * 12 + (4 * k.val + b.val)
  omega

/-- Sample `q` of block `t`. -/
def sampleAt (t : ℕ) (ht : t < 16) (q : Fin 128) : Fin 2048 := ⟨128 * t + q.val, by omega⟩

theorem block_points (c : Dev nD) (t : Fin cfg0.N) (j : Fin 12) (n : Fin 8192) :
    iblk m c 0 t (ix2 j n) = V m c main_v1 (ix2 j n) := by
  have idx : ∀ t : Fin cfg0.N, ∀ a, win0_0.index t a = 0 := (by decide +kernel : ∀ t : Fin grid0.N, ∀ a, win0_0.index t a = 0)
  blk_ext [iblk, idx t]

theorem block_samples (c : Dev nD) (t : Fin cfg0.N) (ht : t.val < 16) (q : Fin 128) (j : Fin 12) :
    iblk m c 1 t (ix2 q j) = V m c main_v3 (ix2 (sampleAt t.val ht q) j) := by
  have idx : ∀ t : Fin cfg0.N, win0_1.index t 0 = t.val ∧ win0_1.index t 1 = 0 :=
    (by decide +kernel : ∀ t : Fin grid0.N, win0_1.index t 0 = t.val ∧ win0_1.index t 1 = 0)
  blk_ext [iblk, sampleAt, (idx t).1, (idx t).2]

theorem sq_block (c : Dev nD) (t : Fin cfg0.N) (ht : t.val < 16) (b : Fin 4) (q : Fin 128) :
    sq (iblk m c 0 t) (iblk m c 1 t) b q
      = gap (m ((c : Thread nD τ).loc main_arg0)) (m ((c : Thread nD τ).loc main_arg1)) b (sampleAt t.val ht q) := by
  funext n
  have hp : ∀ k : Fin 3, iblk m c 0 t (ix2 (Sample.plane k b) n) = m ((c : Thread nD τ).loc main_arg0) (ix3 b n k) :=
    fun k => (block_points m c t _ n).trans (points_apply m c k b n)
  have hs : ∀ k : Fin 3, iblk m c 1 t (ix2 q (Sample.plane k b))
      = m ((c : Thread nD τ).loc main_arg1) (ix3 b (sampleAt t.val ht q) k) :=
    fun k => (block_samples m c t ht q _).trans (samples_apply m c k b _)
  unfold sq gap
  rw [hp 0, hp 1, hp 2, hs 0, hs 1, hs 2]

/-- The output array holds the nearest points. -/
theorem arr_eq (c : Dev nD) : (dats m 0 c).arrAt 2 cfg0.N
    = nearest (m ((c : Thread nD τ).loc main_arg0)) (m ((c : Thread nD τ).loc main_arg1)) := by
  refine (dats m 0 c).arrAt_eq_of_covers 2 _ (by decide +kernel) fun t hf y => ?_
  have idx : ∀ t : Fin cfg0.N, win0_2.index t 0 = 0 ∧ win0_2.index t 1 = t.val ∧ win0_2.index t 2 = 0 :=
    (by decide +kernel : ∀ t : Fin grid0.N, win0_2.index t 0 = 0 ∧ win0_2.index t 1 = t.val ∧ win0_2.index t 2 = 0)
  have ht : t.val < 16 := lt_of_lt_of_eq t.isLt (show cfg0.N = 16 from N_0)
  blk_simp
  rw [after0_2]
  obtain ⟨b, q, r, rfl⟩ : ∃ (b : Fin 4) (q : Fin 128) (r : Fin 16), y = ix3 b q r :=
    ⟨y 0, y 1, y 2, by funext a; fin_cases a <;> rfl⟩
  refine (out_apply _ _ _).trans ?_
  have e : nearest (m ((c : Thread nD τ).loc main_arg0)) (m ((c : Thread nD τ).loc main_arg1)) (ix3 b (sampleAt t.val ht q) r)
      = found (iblk m c 0 t) (iblk m c 1 t) (ix3 b q r) := by
    unfold nearest found
    exact congrArg (fun f => IntOp.addi (BitVec.ofNat 32 (picked top f r.val).val) (base b)) (sq_block m c t ht b q).symm
  refine e.symm.trans (congrArg _ (funext fun a => Fin.ext ?_))
  fin_cases a
  · blk_simp [(idx t).1]
    rfl
  · blk_simp [sampleAt, (idx t).2.1]
    show 128 * t.val + q.val = t.val * 128 + q.val
    omega
  · blk_simp [(idx t).2.2]
    rfl

/-- The program's run: the nearest points; the arguments are unchanged. -/
theorem run_kernel : θ_run defs (onTc (τ := τ) (main (F := Ideal))) ⟨m, fun _ => 0, ρ⟩ fun r => ∀ c : Dev nD,
    r.2.mem ((c : Thread nD τ).loc main_v4) = nearest (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr_eq m c), (h c).2⟩) (Cert.NeighboursIdeal.Value.run_blocks m ρ)

end Cert.Proof.Near

end
-- ==== Proof.Near.Ref.lean ====
module

public import proofs.«01_k».proof.Proof.Near.Main
public import proofs.«01_k».proof.Proof.Gen.NeighboursReferenceIdeal.Run

@[expose] public section

set_option maxRecDepth 16384

noncomputable section

namespace Cert.Proof.Near.Ref

open Cert.NeighboursReferenceIdeal Cert.NeighboursReferenceIdeal.Gen
open Idealize.ShloMosaic

/-! # The reference's nearest points -/

variable (p1 : S4x8192x3.Idx → EReal) (p2 : S4x2048x3.Idx → EReal)

/-- The reference's differences of coordinates. -/
def diff : S4x2048x8192x3.Idx → EReal :=
  subf (F := Ideal) (φ := .f32)
    (broadcastInDim S4x2048x8192x3 ![0, 1, 2, 3] bcast_S4x2048x1x3_S4x2048x8192x3_0_1_2_3 (broadcastInDim S4x2048x1x3 ![0, 1, 3] bcast_S4x2048x3_S4x2048x1x3_0_1_3 p2))
    (broadcastInDim S4x2048x8192x3 ![0, 1, 2, 3] bcast_S4x1x8192x3_S4x2048x8192x3_0_1_2_3 (broadcastInDim S4x1x8192x3 ![0, 2, 3] bcast_S4x8192x3_S4x1x8192x3_0_2_3 p1))

theorem diff_apply (b : Fin 4) (i : Fin 2048) (n : Fin 8192) (k : Fin 3) :
    diff p1 p2 (ix4 b i n k) = p2 (ix3 b i k) - p1 (ix3 b n k) := by
  unfold diff
  pointwise

/-- The reference's squared distances. -/
def dists : S4x2048x8192.Idx → EReal :=
  Host.reduceAdd (F := Ideal) (φ := .f32) (mulf (F := Ideal) (φ := .f32) (diff p1 p2) (diff p1 p2))
    (constant S_ .f32 0x00000000#32) reducesTo_S4x2048x8192x3_S4x2048x8192_d3 h_S_

theorem dists_apply (b : Fin 4) (i : Fin 2048) (n : Fin 8192) : dists p1 p2 (ix3 b i n) = gap p1 p2 b i n := by
  unfold dists gap
  pointwise
  rw [Fin.sum_univ_three]
  simp only [diff_apply]

/-- The positions the reference's top-k gives. -/
def top16 : IVec S4x2048x16 32 :=
  (Host.topK S4x2048x16 2 (FloatOps.cmpfTotal (F := Ideal) (φ := .f32) .gt) (Host.negf (F := Ideal) (φ := .f32) (dists p1 p2))
    sliceFits_S4x2048x8192_S4x2048x16).2

/-- Sorting the last of three axes with the places carried along: the place that comes out at `k`. -/
theorem places_apply {A B N : ℕ} {α : Type} (cmp : α → α → BitVec 1) (x : (⟨3, ![A, B, N]⟩ : Shape).Idx → α)
    (b : Fin A) (i : Fin B) (k : Fin N) :
    (Host.sort2 ⟨3, ![A, B, N]⟩ 2 (fun p q : α × BitVec 32 => cmp p.1 q.1) x (iotaInDim ⟨3, ![A, B, N]⟩ 32 (2 : Fin 3))).2 (ix3 b i k)
      = BitVec.ofNat 32 (sortedFrom (fun u v : Fin N => cmp (x (ix3 b i u)) (x (ix3 b i v)) == 1#1) k).val := by
  have ha : ∀ v : Fin N, Shape.Idx.along (s := ⟨3, ![A, B, N]⟩) (ix3 b i k) (2 : Fin 3) v = ix3 b i v := by
    intro v
    funext a
    fin_cases a <;> rfl
  have hb : (fun u v : Fin N => cmp (x (Shape.Idx.along (s := ⟨3, ![A, B, N]⟩) (ix3 b i k) (2 : Fin 3) u))
        (x (Shape.Idx.along (s := ⟨3, ![A, B, N]⟩) (ix3 b i k) (2 : Fin 3) v)) == 1#1)
      = fun u v => cmp (x (ix3 b i u)) (x (ix3 b i v)) == 1#1 := by
    funext u v
    rw [ha u, ha v]
  unfold Host.sort2
  rw [dif_pos (Nat.lt_succ_self 2)]
  exact congrArg (fun D : Fin N → Fin N → Bool => BitVec.ofNat 32 (sortedFrom D k).val) hb

theorem top16_apply (b : Fin 4) (i : Fin 2048) (r : Fin 16) : top16 p1 p2 (ix3 b i r)
    = BitVec.ofNat 32 (sortedFrom (fun x y => decide (gap p1 p2 b i x < gap p1 p2 b i y)) (⟨r.val, by omega⟩ : Fin 8192)).val := by
  have hb : (fun u v : Fin 8192 => FloatOps.cmpfTotal (F := Ideal) (φ := .f32) CmpDirection.gt
        (Host.negf (F := Ideal) (φ := .f32) (dists p1 p2) (ix3 b i u)) (Host.negf (F := Ideal) (φ := .f32) (dists p1 p2) (ix3 b i v)) == 1#1)
      = fun x y => decide (gap p1 p2 b i x < gap p1 p2 b i y) := by
    funext k k'
    rw [← dists_apply, ← dists_apply]
    show (BitVec.ofBool (decide (-(dists p1 p2 (ix3 b i k')) < -(dists p1 p2 (ix3 b i k)))) == 1#1) = _
    rw [decide_eq_decide.2 EReal.neg_lt_neg_iff]
    cases decide (dists p1 p2 (ix3 b i k) < dists p1 p2 (ix3 b i k')) <;> rfl
  unfold top16 Host.topK
  dsimp only
  rw [extractStridedSlice_apply (k := ix3 b i (⟨r.val, by omega⟩ : Fin 8192))]
  · refine (places_apply (FloatOps.cmpfTotal (F := Ideal) (φ := .f32) CmpDirection.gt) (Host.negf (F := Ideal) (φ := .f32) (dists p1 p2)) b i _).trans ?_
    rw [hb]
  · intro a
    fin_cases a <;> exact (Nat.zero_add _).symm

/-- The reference's result. -/
def found : IVec S4x2048x16 32 :=
  addi (top16 p1 p2) (broadcastInDim S4x2048x16 ![0, 1, 2] bcast_S4x1x1_S4x2048x16_0_1_2
    (broadcastInDim S4x1x1 ![0] bcast_S4_S4x1x1_0 (muli (iotaInDim S4 32 0) (broadcastInDim S4 ![] bcast_S_S4 (constantI S_ 32 8192#32)))))

theorem found_apply (b : Fin 4) (i : Fin 2048) (r : Fin 16) : found p1 p2 (ix3 b i r)
    = IntOp.addi (top16 p1 p2 (ix3 b i r)) (base b) := by
  have e : base b = IntOp.muli (BitVec.ofNat 32 b.val) 8192#32 := by fin_cases b <;> rfl
  rw [e]
  unfold found
  pointwise

/-- Where every distance is below the overwriting value, the reference finds the points the kernel picks. -/
theorem found_eq (h : ∀ b i n, gap p1 p2 b i n < top) : found p1 p2 = nearest p1 p2 := by
  funext y
  obtain ⟨b, i, r, rfl⟩ : ∃ (b : Fin 4) (i : Fin 2048) (r : Fin 16), y = ix3 b i r :=
    ⟨y 0, y 1, y 2, by funext a; fin_cases a <;> rfl⟩
  rw [found_apply, top16_apply, sorted_eq_picked (h b i)]
  rfl

end Cert.Proof.Near.Ref

end
-- ==== Proof.Near.Claims.lean ====
module

public import proofs.«01_k».proof.Defs
public import proofs.«01_k».proof.Proof.Near.Ref
public import proofs.«01_k».proof.Proof.Pool.Claims
public import proofs.«01_k».proof.Proof.Gen.Neighbours
public import proofs.«01_k».proof.Proof.Gen.Neighbours.Frame
public import proofs.«01_k».proof.Proof.Gen.Pre_bounded

@[expose] public section

set_option maxRecDepth 16384

noncomputable section

namespace Cert.Proof.Near

open Idealize.ShloMosaic Idealize.ShloMosaic.TcCoe Idealize.SL.Sem
open Cert.NeighboursIdeal (S4x8192x3 S4x2048x3)

instance : Cert.Pre_bounded.Facts := Cert.Pre_bounded.Gen.facts

/-! # The claims about the neighbour search -/

instance : Subsingleton Cert.Pre_bounded.S_.Idx := ⟨fun a b => funext fun i => i.elim0⟩

/-- The bound on the coordinates, a real number. -/
theorem bound_eq : Ideal.ofBits .f32 0x5D5E0B6B#32 = ((999999984306749440 : ℝ) : EReal) := by
  simp [Ideal.ofBits, Ideal.ieee, -EReal.coe_mul]
  norm_num

/-- The overwriting value, a real number. -/
theorem top_eq : ∃ t : ℝ, top = (t : EReal) ∧ 2 * (10 : ℝ) ^ 38 < t := by
  refine ⟨_, by unfold top; simp [Ideal.ofBits, Ideal.ieee, -EReal.coe_mul]; rfl, ?_⟩
  norm_num

/-- An extended real whose absolute value is below the bound is a real number below it. -/
theorem small_of_abs_lt (v : EReal) (h : Ideal.cmp .olt (max v (-v)) (Ideal.ofBits .f32 0x5D5E0B6B#32) = 1#1) :
    ∃ a : ℝ, v = (a : EReal) ∧ |a| < 10 ^ 18 := by
  rw [bound_eq] at h
  have hl : max v (-v) < ((999999984306749440 : ℝ) : EReal) := of_decide_eq_true (Pool.ofBool_one h)
  induction v with
  | bot => simp at hl
  | top => simp at hl
  | coe a =>
    refine ⟨a, rfl, ?_⟩
    obtain ⟨h1, h2⟩ := max_lt_iff.1 hl
    have h1' : a < 999999984306749440 := EReal.coe_lt_coe_iff.1 h1
    have h2' : -a < 999999984306749440 := EReal.coe_lt_coe_iff.1 h2
    rw [abs_lt]
    constructor <;> linarith

/-- Under the precondition every coordinate is a real number below the bound. -/
theorem small_args {p1 : S4x8192x3.Idx → EReal} {p2 : S4x2048x3.Idx → EReal}
    (h : Cert.Pre_bounded.fn (F := Ideal) p1 p2 = fun _ => 1#1) :
    (∀ i, ∃ a : ℝ, p1 i = (a : EReal) ∧ |a| < 10 ^ 18) ∧ ∀ i, ∃ a : ℝ, p2 i = (a : EReal) ∧ |a| < 10 ^ 18 := by
  obtain ⟨h1, h2⟩ := Pool.andi_one (congrFun h fun i => i.elim0)
  exact ⟨fun i => small_of_abs_lt _ (Host.reduce_andi_all _ _ _ _ _ h1 i), fun i => small_of_abs_lt _ (Host.reduce_andi_all _ _ _ _ _ h2 i)⟩

/-- The square of a difference of two small numbers. -/
theorem sq_small {u v : EReal} (hu : ∃ a : ℝ, u = (a : EReal) ∧ |a| < 10 ^ 18) (hv : ∃ a : ℝ, v = (a : EReal) ∧ |a| < 10 ^ 18) :
    ∃ s : ℝ, (u - v) * (u - v) = (s : EReal) ∧ s ≤ 4 * 10 ^ 36 := by
  obtain ⟨a, rfl, ha⟩ := hu
  obtain ⟨c, rfl, hc⟩ := hv
  refine ⟨(a - c) * (a - c), by rw [EReal.coe_mul, EReal.coe_sub], ?_⟩
  rw [abs_lt] at ha hc
  nlinarith

/-- Small points are nearer to each other than the overwriting value. -/
theorem gap_lt {p1 : S4x8192x3.Idx → EReal} {p2 : S4x2048x3.Idx → EReal}
    (h1 : ∀ i, ∃ a : ℝ, p1 i = (a : EReal) ∧ |a| < 10 ^ 18) (h2 : ∀ i, ∃ a : ℝ, p2 i = (a : EReal) ∧ |a| < 10 ^ 18)
    (b : Fin 4) (i : Fin 2048) (n : Fin 8192) : gap p1 p2 b i n < top := by
  obtain ⟨t, ht, hb⟩ := top_eq
  obtain ⟨s0, e0, l0⟩ := sq_small (h2 (ix3 b i 0)) (h1 (ix3 b n 0))
  obtain ⟨s1, e1, l1⟩ := sq_small (h2 (ix3 b i 1)) (h1 (ix3 b n 1))
  obtain ⟨s2, e2, l2⟩ := sq_small (h2 (ix3 b i 2)) (h1 (ix3 b n 2))
  unfold gap
  rw [e0, e1, e2, ht, ← EReal.coe_add, ← EReal.coe_add, EReal.coe_lt_coe_iff]
  linarith

/-- The kernel terminates from every memory, leaving its arguments and every counter at zero. -/
theorem frame_kernel : Cert.quiescent_Neighbours := fun m ρ _ => Cert.Neighbours.Gen.frame (F := Bits) m ρ

/-- So does its idealization. -/
theorem frame_ideal : Cert.quiescent_NeighboursIdeal := fun m ρ _ => Cert.NeighboursIdeal.Gen.frame (F := Ideal) m ρ

/-- So does the reference. -/
theorem frame_reference : Cert.quiescent_NeighboursReferenceIdeal := fun m ρ _ =>
  (θ_run Cert.NeighboursReferenceIdeal.defs _ _).mono (fun r h => ⟨fun c => (h c).2, sem_eq_zero_of_no_sems (by decide) r.2⟩)
    (Cert.NeighboursReferenceIdeal.Value.run m ρ)

/-- The idealized kernel and the reference find the same points. -/
theorem same_result : Cert.algebraic_NeighboursIdeal_NeighboursReferenceIdeal_pre_bounded := fun m ρ m' ρ' hpre hag => by
  refine ⟨fun c => nearest (m ((c.tc : Thread Cert.NeighboursIdeal.nD Cert.NeighboursIdeal.τ).loc Cert.NeighboursIdeal.main_arg0))
    (m ((c.tc : Thread Cert.NeighboursIdeal.nD Cert.NeighboursIdeal.τ).loc Cert.NeighboursIdeal.main_arg1)), run_kernel m ρ, ?_⟩
  refine (θ_run Cert.NeighboursReferenceIdeal.defs _ _).mono (fun r h c => ?_) (Cert.NeighboursReferenceIdeal.Value.run m' ρ')
  obtain ⟨h13, h0, h1⟩ := h c
  rw [(hag c).1, (hag c).2] at h13
  exact ⟨h13.trans (Ref.found_eq _ _ (gap_lt (small_args (hpre c)).1 (small_args (hpre c)).2)), h0, h1⟩

end Cert.Proof.Near

end
-- ==== Proof.Joint.Tile.lean ====
module

public import proofs.«01_k».proof.Proof.Pool.Rows
public import proofs.«01_k».proof.Proof.Gen.FeaturesIdeal
public import proofs.«01_k».proof.Proof.Gen.FeaturesIdeal.Skeleton
public import proofs.«01_k».proof.Proof.Gen.FeaturesIdeal.Launch

@[expose] public section

set_option maxRecDepth 16384

noncomputable section

/-! # The pooling call: a result row, a round of eight rows, a tile's task, and the launch -/

namespace Cert.Proof.Joint

open Cert.FeaturesIdeal Cert.FeaturesIdeal.Gen

open Cert.Proof.Pool (ixR ixC ixH ixI ixJ wOf maxUpTo act tileOut poolOut
  act_congr tileOut_eq read_rows read_lanes cast_out lanes_mem lanes_emb gather_row bigSep_five waits_weaken bigSep_tiles)
open Idealize.ShloMosaic
open Idealize.ShloMosaic.Memref (isWhole_whole)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

abbrev hV : Memref sig .scVector .hbm S32768x128 .f32 := Memref.whole main_v2_0_scv
abbrev jV : Memref sig .scVector .hbm S131072 .i32 := Memref.whole main_v19_scv
abbrev aV : Memref sig .scVector .hbm S128 .f32 := Memref.whole main_v16_scv
abbrev bV : Memref sig .scVector .hbm S128 .f32 := Memref.whole main_v18_scv
abbrev oV : Memref sig .scVector .hbm S8192x128 .f32 := Memref.whole main_v20_scv
abbrev idxS : Memref sig .scVector .vmem S4096 .i32 := Memref.whole cc1_scratch0
abbrev rowS : Memref sig .scVector .vmem S128x128 .f32 := Memref.whole cc1_scratch1
abbrev outS : Memref sig .scVector .vmem S256x128 .f32 := Memref.whole cc1_scratch2
abbrev scaS : Memref sig .scVector .vmem S128 .f32 := Memref.whole cc1_scratch3
abbrev shiS : Memref sig .scVector .vmem S128 .f32 := Memref.whole cc1_scratch4

/-! ## The program as the launch sees it, and its buffers -/

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev hLoc (d : Dev nD) : Loc nD τ sig := (SparseCore.T d).loc main_v2_0
abbrev jLoc (d : Dev nD) : Loc nD τ sig := (SparseCore.T d).loc main_v19
abbrev aLoc (d : Dev nD) : Loc nD τ sig := (SparseCore.T d).loc main_v16
abbrev bLoc (d : Dev nD) : Loc nD τ sig := (SparseCore.T d).loc main_v18
abbrev oLoc (d : Dev nD) : Loc nD τ sig := (SparseCore.T d).loc main_v20

theorem odiv : 32 ∣ S8192x128.size 0 := ⟨256, rfl⟩
/-- Tile `w`'s block of the result. -/
abbrev oBlk (w : Fin 32) : Rect S8192x128 := Rect.part (s := S8192x128) (a₀ := 0) odiv w
abbrev oBlkSet (w : Fin 32) : Finset S8192x128.Idx := (oV.view.slice (oBlk w)).set

/-- Share `w` of thirty-two of a buffer every tile reads. -/
abbrev sh (w : Fin 32) : PosShare TreeShare := pieceOf fullShare 32 (by decide) w

variable [FloatOps F]

section
variable (d : Dev nD) (L : grid1.Coords)

abbrev cT (L : grid1.Coords) : Fin τ.nSC := (L 0).castLE hcore1
abbrev sT (L : grid1.Coords) : Fin τ.nSub := (L 1).castLE hsub1
abbrev thr (d : Dev nD) (L : grid1.Coords) : Thread nD τ := V d (cT L) (sT L)

set_option maxHeartbeats 4000000 in
/-- One result row: the largest of its sixteen gathered rows, scaled, shifted and cut at zero. -/
theorem trip (k1 : Fin k1_t1_loop.trips) (k2 : Fin k1_t2_loop.trips) (x y : BitVec 32)
    (R : Buf (Elt F) (rowS.view.loc (thr d L))) (A : Buf (Elt F) (scaS.view.loc (thr d L)))
    (B : Buf (Elt F) (shiS.view.loc (thr d L))) (f : Buf (Elt F) (outS.view.loc (thr d L))) (Q : BitVec 32 → sProp 𝕄) :
    iprop((rowS.view.loc (thr d L) ↦{fullShare} R) ∗ (scaS.view.loc (thr d L) ↦{fullShare} A)
      ∗ (shiS.view.loc (thr d L) ↦{fullShare} B) ∗ (outS.view.loc (thr d L) ↦{fullShare} f)
      ∗ ((∃ f', ⌜∀ i : S256x128.Idx, f' i = if (i 0).val = 8 * k1.val + k2.val
              then act (fun r => R (ixR (16 * k2.val + r) (i 1).val)) (A (ixC (i 1).val)) (B (ixC (i 1).val)) else f i⌝
          ∗ (rowS.view.loc (thr d L) ↦{fullShare} R) ∗ (scaS.view.loc (thr d L) ↦{fullShare} A)
          ∗ (shiS.view.loc (thr d L) ↦{fullShare} B) ∗ (outS.view.loc (thr d L) ↦{fullShare} f')) -∗ Q 0#32))
      ⊢ wp frame (wpE (defs₀ (F := F)) 𝒱₀ (thr d L) none) Set.univ
          (k1_t2_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc1_scratch5 cc1_scoped0 cc1_scoped1 cc1_scoped2 cc1_scoped3 k1 x k2 y) Q := by
  iintro ⟨HR, HA, HB, HO, HQ⟩
  unfold k1_t2_body
  sl_exec
  sl_step
  iapply HQ
  iexists _
  isplitr
  swap
  · iframe HR HA HB HO
  ipureintro
  intro i
  sl_unfold_run_names
  have hmem := lanes_mem i (8 * k1.val + k2.val)
  have hemb := lanes_emb (8 * k1.val + k2.val)
  have key : ∀ g : Buf (Elt F) (outS.view.loc (thr d L)), g i = View.read (Elt F) outS.view g i := fun g => rfl
  refine (key _).trans ?_
  split
  · next h0 =>
    refine View.read_writes_apply_of_pieces outS.view f (fun i => act (fun r => R (ixR (16 * k2.val + r) (i 1).val)) (A (ixC (i 1).val)) (B (ixC (i 1).val))) _ ?_ i ?_
    · simp only [List.forall_mem_cons, List.not_mem_nil, false_imp_iff, implies_true, _root_.and_true]
      refine ⟨?_, ?_, ?_, ?_, ?_, ?_, ?_, ?_⟩ <;> intro x
      all_goals
        simp only [k1_pay1, k1_pay2, k1_pay3, k1_pay4, k1_pay5, k1_pay6, k1_pay7, k1_pay8, k1_pay9, k1_pay10, k1_pay11, k1_pay12, k1_pay13, k1_pay14,
          k1_pay15, k1_pay16, k1_pay17, k1_pay18, k1_pay19, k1_pay20, k1_pay21, k1_pay22, k1_pay23, k1_pay24, k1_pay25, read_rows (View.whole cc1_scratch1) R,
          read_lanes (View.whole cc1_scratch3) A, read_lanes (View.whole cc1_scratch4) B, View.read_whole]
        refine (cast_out _ _ x).trans ?_
      · rw [hemb _ _ _ (k1_off26_eq k1 k2) x]; rfl
      · rw [hemb _ _ _ (k1_off23_eq k1 k2) x]; rfl
      · rw [hemb _ _ _ (k1_off20_eq k1 k2) x]; rfl
      · rw [hemb _ _ _ (k1_off17_eq k1 k2) x]; rfl
      · rw [hemb _ _ _ (k1_off14_eq k1 k2) x]; rfl
      · rw [hemb _ _ _ (k1_off11_eq k1 k2) x]; rfl
      · rw [hemb _ _ _ (k1_off8_eq k1 k2) x]; rfl
      · rw [hemb _ _ _ (k1_off5_eq k1 k2) x]; rfl
    · simp only [List.exists_mem_cons_iff, List.not_mem_nil, _root_.false_and, exists_false, _root_.or_false]
      rw [hmem _ _ _ (k1_off5_eq k1 k2), hmem _ _ _ (k1_off8_eq k1 k2), hmem _ _ _ (k1_off11_eq k1 k2), hmem _ _ _ (k1_off14_eq k1 k2),
        hmem _ _ _ (k1_off17_eq k1 k2), hmem _ _ _ (k1_off20_eq k1 k2), hmem _ _ _ (k1_off23_eq k1 k2), hmem _ _ _ (k1_off26_eq k1 k2)]
      have := (i 1).isLt
      simp [S256x128] at this
      omega
  · next h0 =>
    refine (View.read_writes_apply_of_forall_not_mem outS.view f i _ ?_).trans (key f).symm
    simp only [List.forall_mem_cons, List.not_mem_nil, false_imp_iff, implies_true, _root_.and_true]
    rw [hmem _ _ _ (k1_off5_eq k1 k2), hmem _ _ _ (k1_off8_eq k1 k2), hmem _ _ _ (k1_off11_eq k1 k2), hmem _ _ _ (k1_off14_eq k1 k2),
      hmem _ _ _ (k1_off17_eq k1 k2), hmem _ _ _ (k1_off20_eq k1 k2), hmem _ _ _ (k1_off23_eq k1 k2), hmem _ _ _ (k1_off26_eq k1 k2)]
    omega

abbrev hAll : Memref sig .scVector .hbm S32768x128 .f32 :=
  hV.slice (Rect.unit (s := S32768x128) ![0, 0] S32768x128.size inb_S32768x128_S32768x128_0_0) (fun _ => rfl)
abbrev listK (k : Fin k1_t1_loop.trips) : Memref sig .scVector .vmem S128 .i32 :=
  idxS.slice (Rect.unit (s := S4096) (k1_off2 k) S128.size (k1_off2_inb k)) (fun _ => rfl)

omit [FloatOps F] in
theorem list_read (k : Fin k1_t1_loop.trips) (I : S4096.Idx → BitVec 32) (x : S128.Idx) :
    (listK k).view.read (Elt F) I x = I (ixI (128 * k.val + (x 0).val)) := by
  refine (View.read_apply _ _).trans ?_
  refine (cast_eq _ _).trans ?_
  refine congrArg I ?_
  have h := k1_off2_inb k 0
  have e := congrFun (k1_off2_eq k) 0
  have h2 := (x 0).isLt
  simp [S128, S4096] at h h2 e
  funext a
  fin_cases a
  refine Fin.ext ?_
  show k1_off2 k 0 + 1 * (x 0).val = (128 * k.val + (x 0).val) % 4096
  omega

/-- The rows one gather lands: row `a` is the table's row named by entry `a` of the list's stretch. -/
theorem gather_apply (k : Fin k1_t1_loop.trips) (H : S32768x128.Idx → F .f32) (I : S4096.Idx → BitVec 32) (hin)
    (a b : ℕ) (ha : a < 128) :
    SparseCore.gatherPayload (F := F) (e := .f32) gathers_S32768x128_S128x128 ((hAll).view.read (Elt F) H)
        (SparseCore.rows (F := F) ((listK k).view.read (Elt F) I) rfl hin) (ixR a b)
      = H (ixH (I (ixI (128 * k.val + a))).toNat b) := by
  refine (gather_row _ _ _ _ _ a b ha).trans ?_
  rw [list_read]
  refine (View.read_apply _ _).trans ((cast_eq _ _).trans (congrArg H ?_))
  funext c
  fin_cases c <;> exact Fin.ext ((Nat.zero_add _).trans (Nat.one_mul _))

set_option maxHeartbeats 4000000 in
/-- One round: a gather lands 128 rows, and eight rows of the result are pooled from them. -/
theorem round (k1 : Fin k1_t1_loop.trips) (y : BitVec 32) (q : PosShare TreeShare)
    (O : CellTallies nD τ sig (HIx 1)) (W : Waits sig (HIx 1))
    (H : Buf (Elt F) (hV.view.loc (thr d L))) (I : Buf (Elt F) (idxS.view.loc (thr d L)))
    (R : Buf (Elt F) (rowS.view.loc (thr d L))) (A : Buf (Elt F) (scaS.view.loc (thr d L)))
    (B : Buf (Elt F) (shiS.view.loc (thr d L))) (f : Buf (Elt F) (outS.view.loc (thr d L)))
    (hI : ∀ x : S4096.Idx, (show BitVec 32 from I x).toNat < 32768)
    (hf : ∀ i : S256x128.Idx, (i 0).val < 8 * k1.val → f i = tileOut H I A B i) (Q : BitVec 32 → sProp 𝕄) :
    iprop(Transfers.MayWaits (thr d L) (none : HIx 1) O
      ∗ (hV.view.loc (thr d L) ↦{q} H) ∗ (idxS.view.loc (thr d L) ↦{fullShare} I)
      ∗ (rowS.view.loc (thr d L) ↦{fullShare} R) ∗ (scaS.view.loc (thr d L) ↦{fullShare} A)
      ∗ (shiS.view.loc (thr d L) ↦{fullShare} B) ∗ (outS.view.loc (thr d L) ↦{fullShare} f)
      ∗ semVal (thr d L, SemLoc.dma cc1_scratch5.sem) 0 ∗ owes (thr d L) O W
      ∗ ((∃ R' f' W', ⌜∀ i : S256x128.Idx, (i 0).val < 8 * (k1.val + 1) → f' i = tileOut H I A B i⌝
          ∗ ⌜∀ p ∈ W', p ∈ W ∨ p.2 = none⌝
          ∗ (hV.view.loc (thr d L) ↦{q} H) ∗ (idxS.view.loc (thr d L) ↦{fullShare} I)
          ∗ (rowS.view.loc (thr d L) ↦{fullShare} R') ∗ (scaS.view.loc (thr d L) ↦{fullShare} A)
          ∗ (shiS.view.loc (thr d L) ↦{fullShare} B) ∗ (outS.view.loc (thr d L) ↦{fullShare} f')
          ∗ semVal (thr d L, SemLoc.dma cc1_scratch5.sem) 0 ∗ owes (thr d L) O W') -∗ Q 0#32))
      ⊢ wp frame (wpE (defs₀ (F := F)) 𝒱₀ (thr d L) none) Set.univ
          (k1_t1_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc1_scratch5 cc1_scoped0 cc1_scoped1 cc1_scoped2 cc1_scoped3 k1 y) Q := by
  have hin : ∀ x, ((listK k1).view.read (Elt F) I x).toNat < S32768x128.size (gathers_S32768x128_S128x128).axis := fun x => by
    rw [list_read]; exact hI _
  iintro ⟨#Hmw, HH, HI, HR, HA, HB, HO, Hsem, Howe, HQ⟩
  unfold k1_t1_body
  have hN : ∀ h : S32768x128.Gathers 0 S128x128, ∑ j, (rowS.slice (S128x128.rowRect h.axis' j) (S128x128.stride_rowRect h.axis' j)).view.dmaCredit
      = rowS.view.dmaCredit := by decide
  iapply (SparseCore.wp_gatherFromWhole countersEmb 𝒱₀ (thr d L) none (hg := gathers_S32768x128_S128x128) (default : HIx 1)
      rowS.view.dmaCredit (hN _) (by decide) hin) $$ [HH HR HI Hsem]
  · iframe HH HR HI Hsem
  iintro Hfl
  sl_exec
  iapply (Transfers.wp_waitLocalO countersEmb 𝒱₀ (thr d L) none (default : HIx 1) (rfl : rowS.view.dmaCredit = _)) $$ [Hfl Howe]
  · iframe Hfl Howe
    iapply (Transfers.MayWaits.elim (SemLoc.dma cc1_scratch5.sem)) $$ Hmw
  iintro ⟨⟨HR, HH, HI⟩, Hsem, Howe⟩
  have hR : ∀ a b, a < 128 → View.write (Elt F) rowS.view R (SparseCore.gatherPayload gathers_S32768x128_S128x128 ((hAll).view.read (Elt F) H)
        (SparseCore.rows ((listK k1).view.read (Elt F) I) rfl hin)) Finset.univ (ixR a b)
      = H (ixH (I (ixI (128 * k1.val + a))).toNat b) := fun a b ha => by
    refine (congrFun (View.write_whole_univ (Val := Elt F) cc1_scratch1 R _) _).trans ?_
    exact gather_apply k1 H I hin a b ha
  generalize View.write (Elt F) rowS.view R (SparseCore.gatherPayload gathers_S32768x128_S128x128 ((hAll).view.read (Elt F) H)
        (SparseCore.rows ((listK k1).view.read (Elt F) I) rfl hin)) Finset.univ = R' at hR
  sl_exec
  sl_for (fun (t : ℕ) (_ : BitVec 32) => iprop(∃ f', ⌜∀ i : S256x128.Idx, (i 0).val < 8 * k1.val + t → f' i = tileOut H I A B i⌝
      ∗ (rowS.view.loc (thr d L) ↦{fullShare} R') ∗ (scaS.view.loc (thr d L) ↦{fullShare} A)
      ∗ (shiS.view.loc (thr d L) ↦{fullShare} B) ∗ (outS.view.loc (thr d L) ↦{fullShare} f'))) $$ [HR HA HB HO]
  case region =>
    intro k2 acc
    iintro ⟨%f', %hf', HR, HA, HB, HO⟩
    iapply (trip d L k1 k2 _ acc R' A B f')
    iframe HR HA HB HO
    iintro ⟨%f'', %hf'', HR, HA, HB, HO⟩
    iexists f''
    isplitr
    · ipureintro
      intro i hi
      rw [hf'' i]
      split
      · next h0 =>
        have hk2 : k2.val < 8 := Nat.lt_of_lt_of_le k2.isLt k1_t2_abs.2.1
        refine act_congr (fun r hr => ?_)
        rw [hR _ _ (by omega)]
        exact congrArg (fun n => H (ixH (I (ixI n)).toNat (i 1).val)) (by omega)
      · next h0 => exact hf' i (by omega)
    iframe HR HA HB HO
  · iexists f
    isplitr
    · ipureintro; exact hf
    iframe HR HA HB HO
  iintro %_ ⟨%f', %hf', HR, HA, HB, HO⟩
  sl_step
  iapply HQ
  iexists R', f', _
  isplitr
  · ipureintro
    intro i hi
    exact hf' i (by have : Scf.trips k1_t2_loop.lb k1_t2_loop.ub k1_t2_loop.st = 8 := by decide
                    omega)
  isplitr
  swap
  · iframe HH HI HR HA HB HO Hsem Howe
  ipureintro; intro p hp
  rcases Finset.mem_insert.mp hp with hp | hp; · exact .inr (hp ▸ rfl)
  exact .inl hp

abbrev oBlkK : Memref sig .scVector .hbm S256x128 .f32 :=
  oV.slice (Rect.unit (s := S8192x128) (k1_off27 L) S256x128.size (k1_off27_inb L)) (fun _ => rfl)
abbrev jBlkK : Memref sig .scVector .hbm S4096 .i32 :=
  jV.slice (Rect.unit (s := S131072) (k1_off1 L) S4096.size (k1_off1_inb L)) (fun _ => rfl)

abbrev wL (L : grid1.Coords) : Fin 32 := wOf (L 0) (L 1)

omit [FloatOps F] in
theorem oBlkK_set : (oBlkK L).view.set = oBlkSet (wL L) := by
  have e : Rect.unit (s := S8192x128) (k1_off27 L) S256x128.size (k1_off27_inb L) = oBlk (wL L) := by
    unfold oBlk Rect.part Rect.block
    congr 1 <;> funext a
    · rw [k1_off27_eq]
      match a with
      | 0 => simp [Shape.partIx, Shape.partSize, wOf]; omega
      | 1 => simp [Shape.partIx, Shape.partSize]
    · match a with
      | 0 => simp [Shape.partSize]
      | 1 => simp [Shape.partSize]
  show (oV.view.slice (Rect.unit (s := S8192x128) (k1_off27 L) S256x128.size (k1_off27_inb L))).set = (oV.view.slice (oBlk (wL L))).set
  exact e ▸ rfl

abbrev cell (s : DmaSems sig S_) (d : Dev nD) (L : grid1.Coords) : GSem nD τ sig := (thr d L, .dma s.sem)

omit [FloatOps F] in
theorem ownSems0_V :
    (ownSems0 (thr d L) : sProp 𝕄)
      = iprop(semVal (cell cc1_scratch5 d L) 0 ∗ semVal (cell cc1_scoped0 d L) 0 ∗ semVal (cell cc1_scoped1 d L) 0
          ∗ semVal (cell cc1_scoped2 d L) 0 ∗ semVal (cell cc1_scoped3 d L) 0
          ∗ bigSep ((((((ownCells (thr d L)).erase (cell cc1_scratch5 d L)).erase (cell cc1_scoped0 d L)).erase (cell cc1_scoped1 d L)).erase
              (cell cc1_scoped2 d L)).erase (cell cc1_scoped3 d L)) fun g => semVal g 0) := by
  have hm : ∀ s : DmaSems sig S_, (SemLoc.dma s.sem : SemLoc sig).isScoped .scVector = true → cell s d L ∈ ownCells (thr d L) :=
    fun s h => mem_ownCells.mpr ⟨rfl, h⟩
  have hi : Function.Injective fun s : SemLoc sig => ((thr d L, s) : GSem nD τ sig) := fun _ _ e => (Prod.ext_iff.mp e).2
  refine bigSep_five ?_ ?_
  · simp only [List.forall_mem_cons]
    exact ⟨hm _ (by decide), hm _ (by decide), hm _ (by decide), hm _ (by decide), hm _ (by decide), fun _ h => absurd h List.not_mem_nil⟩
  · exact (List.nodup_map_iff hi (l := [.dma cc1_scoped3.sem, .dma cc1_scoped2.sem, .dma cc1_scoped1.sem, .dma cc1_scoped0.sem,
      .dma cc1_scratch5.sem])).mpr (by decide)

abbrev ref (b : Ref sig .scVector) (L : grid1.Coords) : DevRef τ sig := (Proc.scVector (cT L) (sT L)).devRef b

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f)
          ∗ bigSep ((((((ownRefs (τ := τ) (.scVector (cT L) (sT L))).erase (ref cc1_scratch0 L)).erase (ref cc1_scratch1 L)).erase (ref cc1_scratch2 L)).erase
              (ref cc1_scratch3 L)).erase (ref cc1_scratch4 L)) fun b => iprop(∃ f, ((d, b) : Loc nD τ sig) ↦{fullShare} f)) := by
  have hm := fun b : Ref sig .scVector => SparseCore.Cfg.mem_ownRefs_of_owner (p := Proc.scVector (cT L) (sT L)) (b := ref b L)
  refine bigSep_five ?_ ?_
  · simp only [List.forall_mem_cons]
    exact ⟨hm _ rfl, hm _ rfl, hm _ rfl, hm _ rfl, hm _ rfl, fun _ h => absurd h List.not_mem_nil⟩
  · exact (List.nodup_map_iff (Proc.devRef_injective _) (l := [cc1_scratch4, cc1_scratch3, cc1_scratch2, cc1_scratch1,
      cc1_scratch0])).mpr (by decide)

omit [FloatOps F] in
/-- What the fetch of a tile's list reads: entry `x` is entry `4096 w + x` of the whole list. -/
theorem list_fetch (J : S131072.Idx → BitVec 32) (x : S4096.Idx) :
    (jBlkK L).view.read (Elt F) J x = J (ixJ (4096 * (wL L).val + (x 0).val)) := by
  refine (View.read_apply _ _).trans ((cast_eq _ _).trans (congrArg J ?_))
  have h := k1_off1_inb L 0
  have e := congrFun (k1_off1_eq L) 0
  have h2 := (x 0).isLt
  simp [S4096, S131072] at h h2 e
  funext a
  fin_cases a
  refine Fin.ext ?_
  show k1_off1 L 0 + 1 * (x 0).val = (4096 * (2 * (L 1).val + (L 0).val) + (x 0).val) % 131072
  omega

abbrev hPts (H : (d : Dev nD) → Buf (Elt F) (hLoc d)) (d : Dev nD) (w : Fin 32) : sProp 𝕄 := hLoc d ↦{sh w} H d
abbrev jPts (J : (d : Dev nD) → Buf (Elt F) (jLoc d)) (d : Dev nD) (w : Fin 32) : sProp 𝕄 := jLoc d ↦{sh w} J d
abbrev aPts (A : (d : Dev nD) → Buf (Elt F) (aLoc d)) (d : Dev nD) (w : Fin 32) : sProp 𝕄 := aLoc d ↦{sh w} A d
abbrev bPts (B : (d : Dev nD) → Buf (Elt F) (bLoc d)) (d : Dev nD) (w : Fin 32) : sProp 𝕄 := bLoc d ↦{sh w} B d
abbrev oPts (o : (d : Dev nD) → Buf (Elt F) (oLoc d)) (d : Dev nD) (w : Fin 32) : sProp 𝕄 := oLoc d ↦[oBlkSet w]{fullShare} o d

/-- The list tile `(i, j)` works from: its 4096 entries of the whole list. -/
def listOf (J : (d : Dev nD) → Buf (Elt F) (jLoc d)) (d : Dev nD) (L : grid1.Coords) : Buf (Elt F) (idxS.view.loc (thr d L)) :=
  fun x : S4096.Idx => J d (ixJ (4096 * (wL L).val + (x 0).val))

/-- The block written out holds the pooled rows: what the tile leaves at row `i` of its block is what the whole result
    is to hold at row `256 w + i`. -/
theorem block_out (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (f : S256x128.Idx → F .f32) (hf : ∀ i, f i = tileOut (H d) (listOf J d L) (A d) (B d) i) (y : S8192x128.Idx)
    (hy : y ∈ (oBlkK L).view.set) :
    (oBlkK L).view.writes (Elt F) (o d) [⟨Rect.whole S256x128, f⟩] y = poolOut (H d) (J d) (A d) (B d) y := by
  obtain ⟨x, -, rfl⟩ := Finset.mem_map.mp hy
  have h := congrFun (View.read_writes_whole (oBlkK L).view (o d) f) x
  refine ((View.read_apply _ _).trans (cast_eq _ _)).symm.trans (h.trans ((hf x).trans ?_))
  have hb := k1_off27_inb L 0
  have e0 := congrFun (k1_off27_eq L) 0
  have e1 := congrFun (k1_off27_eq L) 1
  have hx0 := (x 0).isLt
  have hx1 := (x 1).isLt
  simp [S256x128, S8192x128] at hb e0 e1 hx0 hx1
  have y0 : ((oBlkK L).view.emb x 0).val = 256 * (wL L).val + (x 0).val := by
    show k1_off27 L 0 + 1 * (x 0).val = 256 * (2 * (L 1).val + (L 0).val) + (x 0).val
    omega
  have y1 : ((oBlkK L).view.emb x 1).val = (x 1).val := by
    show k1_off27 L 1 + 1 * (x 1).val = (x 1).val
    omega
  exact tileOut_eq (H d) (J d) (A d) (B d) (wL L) x _ y0 y1

set_option maxHeartbeats 4000000 in
/-- The task of one tile: it fetches its list, the scale and the shift, gathers and pools thirty-two rounds of eight
    rows, and writes its block of the result. -/
theorem tile_body (hF : (K (F := F)).Facts) (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (hJ : ∀ d, ∀ x : S131072.Idx, (show BitVec 32 from J d x).toNat < 32768)
    (O : CellTallies nD τ sig (HIx 1)) (W : Waits sig (HIx 1)) (hO : ∀ g, O g none = 0) :
    iprop(levAts (K (F := F)).L (K (F := F)).lev ∗ emp
        ∗ (hPts H d (wL L) ∗ jPts J d (wL L) ∗ aPts A d (wL L) ∗ bPts B d (wL L) ∗ oPts o d (wL L))
        ∗ scopedBufs (thr d L) ∗ scopedSems0 (thr d L) ∗ owes (thr d L) O W)
      ⊢ wp frame (wpE (defs₀ (F := F)) 𝒱₀ (thr d L) none) Set.univ
          (cc1__sc_pool_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc1_scratch5 cc1_scoped0 cc1_scoped1 cc1_scoped2 cc1_scoped3)
          fun _ => iprop((hPts H d (wL L) ∗ jPts J d (wL L) ∗ aPts A d (wL L) ∗ bPts B d (wL L) ∗ oPts (fun d => poolOut (H d) (J d) (A d) (B d)) d (wL L))
            ∗ scopedBufs (thr d L) ∗ scopedSems0 (thr d L)
            ∗ ∃ W', ⌜∀ p ∈ W', p ∈ W ∨ p.2 = none⌝ ∗ owes (thr d L) O W') := by
  simp only [cc1__sc_pool_body_eq_skeleton]; unfold cc1__sc_pool_body_skel
  rw [(K (F := F)).scopedBufs_V hF d (cT L) (sT L), SparseCore.Cfg.scopedSems0_V (Val := Elt F) d (cT L) (sT L), ownSems0_V, ownBufs_V]
  iintro ⟨#Hlv, -, ⟨Hh, Hj, Ha, Hb, Ho⟩, ⟨⟨%f0, H0⟩, ⟨%f1, H1⟩, ⟨%f2, H2⟩, ⟨%f3, H3⟩, ⟨%f4, H4⟩, Hbufs⟩, ⟨Hg, Hs0, Hs1, Hs2, Hs3, Hsems⟩, HO⟩
  ihave #Hmw := (show levAts (K (F := F)).L (K (F := F)).lev ⊢ Transfers.MayWaits (thr d L) (default : HIx 1) O from
    (K (F := F)).mayWaits_none (thr := thr d L) hO) $$ Hlv
  ihave Hh' := (show hPts H d (wL L) ⊢ hV.view.loc (thr d L) ↦{sh (wL L)} H d from Entails.of_eq rfl) $$ Hh
  ihave Hj' := (show jPts J d (wL L) ⊢ jV.view.loc (thr d L) ↦{sh (wL L)} J d from Entails.of_eq rfl) $$ Hj
  ihave Ha' := (show aPts A d (wL L) ⊢ aV.view.loc (thr d L) ↦{sh (wL L)} A d from Entails.of_eq rfl) $$ Ha
  ihave Hb' := (show bPts B d (wL L) ⊢ bV.view.loc (thr d L) ↦{sh (wL L)} B d from Entails.of_eq rfl) $$ Hb
  ihave Ho' := (show oPts o d (wL L) ⊢ (oBlkK L).view.loc (thr d L) ↦[(oBlkK L).view.set]{fullShare} o d from
    Entails.of_eq (by rw [oBlkK_set])) $$ Ho
  ihave H0' := (show ((thr d L).loc cc1_scratch0 ↦{fullShare} f0 : sProp 𝕄) ⊢ idxS.view.loc (thr d L) ↦{fullShare} f0 from Entails.of_eq rfl) $$ H0
  ihave H1' := (show ((thr d L).loc cc1_scratch1 ↦{fullShare} f1 : sProp 𝕄) ⊢ rowS.view.loc (thr d L) ↦{fullShare} f1 from Entails.of_eq rfl) $$ H1
  ihave H2' := (show ((thr d L).loc cc1_scratch2 ↦{fullShare} f2 : sProp 𝕄) ⊢ outS.view.loc (thr d L) ↦{fullShare} f2 from Entails.of_eq rfl) $$ H2
  ihave H3' := (show ((thr d L).loc cc1_scratch3 ↦{fullShare} f3 : sProp 𝕄) ⊢ scaS.view.loc (thr d L) ↦{fullShare} f3 from Entails.of_eq rfl) $$ H3
  ihave H4' := (show ((thr d L).loc cc1_scratch4 ↦{fullShare} f4 : sProp 𝕄) ⊢ shiS.view.loc (thr d L) ↦{fullShare} f4 from Entails.of_eq rfl) $$ H4
  sl_exec
  have eI : View.write (Elt F) idxS.view f0 ((jBlkK L).view.read (Elt F) (J d)) Finset.univ
      = listOf J d L := by
    refine (View.write_whole_univ _ _ _).trans ?_
    funext x
    exact list_fetch L (J d) x
  have eA : View.write (Elt F) scaS.view f3 (aV.view.read (Elt F) (A d)) Finset.univ = A d :=
    View.write_whole_univ _ _ _
  have eB : View.write (Elt F) shiS.view f4 (bV.view.read (Elt F) (B d)) Finset.univ = B d :=
    View.write_whole_univ _ _ _
  sl_unfold_run_names
  rw [eI, eA, eB]
  sl_for (fun (t : ℕ) (_ : BitVec 32) => iprop(∃ (R' : Buf (Elt F) (rowS.view.loc (thr d L)))
        (f' : Buf (Elt F) (outS.view.loc (thr d L))) (W' : Waits sig (HIx 1)),
      ⌜∀ i : S256x128.Idx, (i 0).val < 8 * t → f' i = tileOut (H d) (listOf J d L) (A d) (B d) i⌝
      ∗ ⌜∀ p ∈ W', p ∈ W ∨ p.2 = none⌝
      ∗ Transfers.MayWaits (thr d L) (none : HIx 1) O
      ∗ (hV.view.loc (thr d L) ↦{sh (wL L)} H d)
      ∗ (idxS.view.loc (thr d L) ↦{fullShare} (listOf J d L))
      ∗ (rowS.view.loc (thr d L) ↦{fullShare} R')
      ∗ (scaS.view.loc (thr d L) ↦{fullShare} A d)
      ∗ (shiS.view.loc (thr d L) ↦{fullShare} B d)
      ∗ (outS.view.loc (thr d L) ↦{fullShare} f')
      ∗ semVal (thr d L, SemLoc.dma cc1_scratch5.sem) 0
      ∗ owes (thr d L) O W')) $$ [Hh' H0' H1' H3' H4' H2' Hg HO]
  case region =>
    iintro %k %acc ⟨%R', %f', %W', %hf, %hW, #Hmw, Hh, HI, HR, HA, HB, Hf, Hs, Howe⟩
    iapply (round d L k acc (sh (wL L)) O W' (H d) (listOf J d L) R' (A d) (B d) f' (fun x => hJ d _) hf)
      $$ [Hh HI HR HA HB Hf Hs Howe]
    isplitr; · iexact Hmw
    iframe Hh HI HR HA HB Hf Hs Howe
    iintro ⟨%R2, %f2', %W2, %hf2, %hW2, Hh, HI, HR, HA, HB, Hf, Hs, Howe⟩
    iexists R2, f2', W2
    isplitr; · ipureintro; exact hf2
    isplitr; · ipureintro; exact fun p hp => (hW2 p hp).elim (hW p) Or.inr
    isplitr; · iexact Hmw
    iframe Hh HI HR HA HB Hf Hs Howe
  · iexists f1, f2, _
    isplitr; · ipureintro; exact fun i hi => absurd hi (by omega)
    isplitr
    rotate_left
    · isplitr; · iexact Hmw
      iframe Hh' H0' H1' H3' H4' H2' Hg HO
    · ipureintro; intro p hp
      simp only [Finset.mem_insert] at hp
      rcases hp with h | h | h | h
      · exact Or.inr (h ▸ rfl)
      · exact Or.inr (h ▸ rfl)
      · exact Or.inr (h ▸ rfl)
      · exact Or.inl h
  iintro %acc ⟨%R', %f', %W', %hf, %hW, -, Hh, HI, HR, HA, HB, Hf, Hs, Howe⟩
  sl_exec
  sl_unfold_run_names
  have hout := block_out d L H J A B o f' (fun i => hf i (by
    have h1 : Scf.trips k1_t1_loop.lb k1_t1_loop.ub k1_t1_loop.st = 32 := by decide
    have := (i 0).isLt
    simp [S256x128] at this
    omega))
  sl_step
  isplitl [Hh Hj' Ha' Hb' Ho']
  · iframe Hh Hj' Ha' Hb'
    iapply (Entails.of_eq (show ((oBlkK L).view.loc (thr d L) ↦[(oBlkK L).view.set]{fullShare}
        (oBlkK L).view.writes (Elt F) (o d) [⟨Rect.whole S256x128, f'⟩] : sProp 𝕄)
        = oPts (fun d => poolOut (H d) (J d) (A d) (B d)) d (wL L) from
      (pointsTo_congr hout).trans (by rw [oBlkK_set])))
    iexact Ho'
  isplitl [HI HR HA HB Hf Hbufs]
  · isplitl [HI]; · iexists _; iexact HI
    isplitl [HR]; · iexists _; iexact HR
    isplitl [Hf]; · iexists _; iexact Hf
    isplitl [HA]; · iexists _; iexact HA
    isplitl [HB]; · iexists _; iexact HB
    iexact Hbufs
  isplitl [Hs Hs0 Hs1 Hs2 Hs3 Hsems]
  · iframe Hs Hs0 Hs1 Hs2 Hs3 Hsems
  iexists _; isplitr
  swap; · iexact Howe
  ipureintro; intro p hp
  rcases Finset.mem_insert.mp hp with hp | hp
  · exact .inr (hp ▸ rfl)
  · exact hW p hp

end

variable (H : (d : Dev nD) → Buf (Elt F) (hLoc d)) (J : (d : Dev nD) → Buf (Elt F) (jLoc d))
  (A : (d : Dev nD) → Buf (Elt F) (aLoc d)) (B : (d : Dev nD) → Buf (Elt F) (bLoc d)) (o : (d : Dev nD) → Buf (Elt F) (oLoc d))

/-! ## The launch: what the tiles are handed and what it takes back -/

/-- What tile `w` is handed, and (with the result's contents for `o`) what it hands back: a share of the table, of the
    list, of the scale and of the shift, and its own block of the result. -/
abbrev part (d : Dev nD) (w : Fin 32) : sProp 𝕄 :=
  iprop(hPts H d w ∗ jPts J d w ∗ aPts A d w ∗ bPts B d w ∗ oPts o d w)

/-- The result of the call on every device. -/
abbrev res (d : Dev nD) : Buf (Elt F) (oLoc d) := poolOut (H d) (J d) (A d) (B d)

/-- The tile of a core and a task of the call's grid. -/
abbrev wK (c : Fin ((K (F := F)).nCore 0)) (i : Fin ((K (F := F)).nSub 0)) : Fin 32 :=
  wOf (Fin.cast nCore_zero c) (Fin.cast nSub_zero i)

/-- What a core's sixteen tiles are handed. -/
abbrev parts (d : Dev nD) (c : Fin ((K (F := F)).nCore 0)) : sProp 𝕄 :=
  bigSep Finset.univ fun i : Fin ((K (F := F)).nSub 0) => part H J A B o d (wK c i)

/-- The call's payloads: a core is handed its sixteen tiles' parts, a tile its own. -/
def P : (K (F := F)).Pay (nD := nD) (Val := Elt F) (Name := ℕ) (U := UU) where
  st := fun q d c => match q with | 0 => parts H J A B o d c
  dn := fun q d c => match q with | 0 => parts H J A B (res H J A B) d c
  go := fun q d c i => match q with | 0 => part H J A B o d (wK c i)
  td := fun q d c i => match q with | 0 => part H J A B (res H J A B) d (wK c i)
  x := fun _ _ => iprop(emp)

instance P_storable : (P H J A B o).IsStorable where
  st q d c := match q with | 0 => inferInstanceAs (BI.Storable (upEmb : UEmb _ 𝕄) (parts H J A B o d c))
  dn q d c := match q with | 0 => inferInstanceAs (BI.Storable (upEmb : UEmb _ 𝕄) (parts H J A B (res H J A B) d c))
  go q d c i := match q with | 0 => inferInstanceAs (BI.Storable (upEmb : UEmb _ 𝕄) (part H J A B o d (wK c i)))
  td q d c i := match q with | 0 => inferInstanceAs (BI.Storable (upEmb : UEmb _ 𝕄) (part H J A B (res H J A B) d (wK c i)))

/-! ## The tasks' obligation and the split of a core's payload -/

/-- The place on the grid of a core and a subcore. -/
def place (c : Fin (grid1.bound 0)) (s : Fin (grid1.bound 1)) : grid1.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 1 ()
      = SparseCore.onTile hcore1 hsub1 (fun c s => cc1__sc_pool_body (place c s)
          hV (isWhole_whole _) jV (isWhole_whole _) aV (isWhole_whole _) bV (isWhole_whole _)
          oV (isWhole_whole _) idxS (isWhole_whole _) rowS (isWhole_whole _) outS (isWhole_whole _)
          scaS (isWhole_whole _) shiS (isWhole_whole _) cc1_scratch5 cc1_scoped0 cc1_scoped1 cc1_scoped2 cc1_scoped3) ⟨⟩ c s := rfl

theorem tileObl (hJ : ∀ d, ∀ x : S131072.Idx, (show BitVec 32 from J d x).toNat < 32768) :
    (K (F := F)).TileObl (D (F := F)) 𝒱 (P H J A B o) v₀ 0 := by
  intro d c i O W hO _ _
  simp only [show (P H J A B o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body d (place ⟨_, hci.1⟩ ⟨_, hci.2⟩) facts H J A B o hJ O W hO).trans (wp_mono frame _ _ fun _ => waits_weaken)

theorem vecSplit : (K (F := F)).VecSplit' (P H J A B o) 0 := by
  intro d c
  show parts H J A B o d c ⊢ |={Set.univ}=> iprop(parts H J A B o d c
      ∗ (parts H J A B (res H J A B) d c -∗ parts H J A B (res H J A B) d c))
  iintro Hp; imodintro
  isplitl [Hp]; · iexact Hp
  iintro Hq; iexact Hq

/-! ## The whole buffers, dealt to the tiles and gathered again -/

omit [FloatOps F] in
theorem oBlkSet_eq (w : Fin 32) : oBlkSet w = (oBlk w).set := by
  show ((View.whole (main_v20_scv : Ref sig .scVector)).slice (oBlk w)).set = _
  rw [View.set_slice]; exact Finset.map_refl

omit [FloatOps F] in
theorem oPts_blocks (d : Dev nD) (f : Buf (Elt F) (oLoc d)) :
    (oLoc d ↦{fullShare} f : sProp 𝕄) = bigSep Finset.univ fun w : Fin 32 => oLoc d ↦[oBlkSet w]{fullShare} f := by
  have hd : ∀ i ∈ (Finset.univ : Finset (Fin 32)), ∀ j ∈ (Finset.univ : Finset (Fin 32)), i ≠ j → Disjoint (oBlkSet i) (oBlkSet j) :=
    fun i _ j _ h => by rw [oBlkSet_eq, oBlkSet_eq]; exact Rect.part_disjoint odiv h
  have hc : (Finset.univ : Finset (Fin 32)).biUnion oBlkSet = Finset.univ :=
    (Finset.biUnion_congr rfl fun i _ => oBlkSet_eq i).trans (Rect.biUnion_part odiv)
  rw [← pointsTo_biUnion Finset.univ (ℓ := oLoc d) oBlkSet hd, hc]; try rfl

/-- The five buffers whole are the tiles' parts. -/
theorem whole_eq (o' : (d : Dev nD) → Buf (Elt F) (oLoc d)) (d : Dev nD) :
    (iprop((hLoc d ↦{fullShare} H d) ∗ (jLoc d ↦{fullShare} J d) ∗ (aLoc d ↦{fullShare} A d) ∗ (bLoc d ↦{fullShare} B d)
        ∗ (oLoc d ↦{fullShare} o' d)) : sProp 𝕄)
      = bigSep Finset.univ fun c => parts H J A B o' d c := by
  refine Eq.trans ?_ (bigSep_tiles fun w => part H J A B o' d w)
  rw [bigSep_sep', bigSep_sep', bigSep_sep', bigSep_sep', oPts_blocks,
    pointsTo_piecesOf (ℓ := hLoc d) Finset.univ (H d) (o := 32) (by decide) fullShare,
    pointsTo_piecesOf (ℓ := jLoc d) Finset.univ (J d) (o := 32) (by decide) fullShare,
    pointsTo_piecesOf (ℓ := aLoc d) Finset.univ (A d) (o := 32) (by decide) fullShare,
    pointsTo_piecesOf (ℓ := bLoc d) Finset.univ (B d) (o := 32) (by decide) fullShare]

/-! ## The ghost state the launch starts from -/

omit [FloatOps F] in
theorem emp_all {I : Type} (s : Finset I) : (bigSep s fun _ => iprop(emp)) = (iprop(emp) : sProp 𝕄) := bigSep_emp_const s

/-- The launch's element: the calls' cells, the feature call's staging cells, and no counter. -/
def u₀ : UU := ((initOf (K (F := F)).hsCells (K (F := F)).hsToks,
  initOf (Pipeline.cells (nD := nD) (τ := τ) cfgs cellOf_inj) (Pipeline.launchToks (nD := nD) (τ := τ) cfgs cellOf_inj)), 1)

/-- What device `d` has of the feature call's staging cells. -/
abbrev stage (d : Dev nD) : sProp 𝕄 :=
  iprop((bigSep Finset.univ fun p : Fin 1 => Pipeline.cellsGhost cfgs (EP (F := F)) p d)
    ∗ bigSep Finset.univ fun p : Fin 1 => Pipeline.toksInit cfgs (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => stage d)
        ∗ bigSep Finset.univ fun thr : Thread nD τ => bigSep Finset.univ fun q : Fin 1 => (P H J A B o).x q thr) := by
  unfold u₀
  iintro Hu
  ihave Hp := (ownU_pair (initOf (K (F := F)).hsCells (K (F := F)).hsToks,
    initOf (Pipeline.cells (nD := nD) (τ := τ) cfgs cellOf_inj) (Pipeline.launchToks (nD := nD) (τ := τ) cfgs cellOf_inj)) (1 : Counters)) $$ Hu
  icases Hp with ⟨HB, -⟩
  ihave Hq := (own_pair_emb _ _ _) $$ HB
  icases Hq with ⟨HH, HP⟩
  imod (Pipeline.fund_ghost cfgs (EP (F := F)) cellOf_inj) $$ HP with ⟨Hg, Ht⟩
  imodintro
  isplitl [HH]; · iexact HH
  isplitl [Hg Ht]
  · rw [bigSep_sep']
    iframe Hg Ht
  rw [show (bigSep Finset.univ fun thr : Thread nD τ => bigSep Finset.univ fun q : Fin 1 => (P H J A B o).x q thr) = bigSep Finset.univ fun _ => iprop(emp) from
    bigSep_congr fun _ _ => bigSep_univ_of_subsingleton (0 : Fin 1), emp_all]
  iempintro

end Cert.Proof.Joint

end
-- ==== Proof.Joint.Region.lean ====
module

public import proofs.«01_k».proof.Proof.Joint.Tile
public import proofs.«01_k».proof.Proof.Gen.FeaturesIdeal.Points
public import Idealize.ShloMosaic.Lib.Pipeline.FrameBody
public import Idealize.ShloMosaic.Lib.Pipeline.FrameSuffix
public import Idealize.ShloMosaic.Lib.Ring
public import Idealize.ShloMosaic.Lib.WordCmp
public import proofs.«01_k».proof.Proof.Moments.Block

@[expose] public section

set_option maxRecDepth 16384

noncomputable section

namespace Cert.Proof.Joint

open Cert.FeaturesIdeal Cert.FeaturesIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The points of the feature call: what each block of the grid finds in memory, and which of the three cases it is (the first block, one between, or the last) -/

variable (m : (ℓ : Loc nD τ sig) → Buf (Elt F) ℓ)

/-- The host's lines before the feature call: the clouds' points in one list, the weights transposed. -/
abbrev opX : HloOp τ sig (Elt F) := StableHlo.reshape main_arg0 main_v0 (rfl : (.f32 : EltTy) = .f32) shapeCasts_S4x8192x64_S32768x64
abbrev opW : HloOp τ sig (Elt F) := StableHlo.unary main_arg2 main_v1
  ((transpose S64x128 [1, 0] · transposes_S128x64_S64x128_1_0) : (⟨S128x64, .f32⟩ : BufTy).Contents (Elt F) → (⟨S64x128, .f32⟩ : BufTy).Contents (Elt F))

/-- What the feature call finds in memory. -/
def entry (c : Dev nD) : Valuation τ sig (Elt F) := StableHlo.after [opX, opW] (fun b => m (c, b))
abbrev enter (c : Dev nD) (b : Ref sig .tc) : Buf (Elt F) ((c : Thread nD τ).loc b) := entry m c (Proc.devRef .tc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (enter m c (Pipeline.arrRef spec0 w))

theorem before0_0_of {c : Dev nD} (dat : Dat τ (Elt F) (HIx 1) ℕ UU ℕ cfg0 c) (hA : dat.A 0 = enter m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) (HIx 1) ℕ UU ℕ cfg0 c) (hA : dat.A 1 = enter m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

abbrev cond0_1 (i : grid0.Coords) : Prop := k0_cond2 i = 1#1

theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem idleAt0_3_A : ∀ t : Fin cfg0.N, cond0_0 (grid0.coords t) → ¬cond0_1 (grid0.coords t) → cfg0.idle 3 (grid0.coords t) = true := by decide +kernel

theorem noFlush0_3_A : ∀ t : Fin cfg0.N, cond0_0 (grid0.coords t) → ¬cond0_1 (grid0.coords t) → (cfg0.win 3).flush t = false := by decide +kernel

theorem idleAt0_3_B : ∀ t : Fin cfg0.N, ¬cond0_0 (grid0.coords t) → ¬cond0_1 (grid0.coords t) → cfg0.idle 3 (grid0.coords t) = true := by decide +kernel

theorem noFlush0_3_B : ∀ t : Fin cfg0.N, ¬cond0_0 (grid0.coords t) → ¬cond0_1 (grid0.coords t) → (cfg0.win 3).flush t = false := by decide +kernel

theorem liveAt0_3_C : ∀ t : Fin cfg0.N, ¬cond0_0 (grid0.coords t) → cond0_1 (grid0.coords t) → cfg0.idle 3 (grid0.coords t) = false := by decide +kernel

abbrev VO0_2 : View sig .tc .vmem S512x128 .f32 := (Memref.whole cc0_stg2_0 : Memref sig .tc .vmem S512x128 .f32).view

abbrev VO0_3 : View sig .tc .vmem S8x128 .f32 := (Memref.whole cc0_stg3_0 : Memref sig .tc .vmem S8x128 .f32).view

abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

abbrev scM0_0 : Memref sig .tc .vmem S8x128 .f32 := Memref.whole cc0_scratch0

abbrev VS0_0 : View sig .tc .vmem S8x128 .f32 := scM0_0.view

/-- Before the first point: the scratch at anything, the generator's register at some state. -/
def start (c : Dev nD) : sProp 𝕄 := iprop(Pipeline.scopedRest spec0 c ∗ (∃ r, prngReg c r))

theorem PhiA0_eq (c : Dev nD) :
    (start c : sProp 𝕄)
      = iprop(iprop((∃ d, owns (c : Thread nD τ) scM0_0 fullShare d)) ∗ (∃ r, prngReg c r)) := by
  unfold start; rw [scopedRest0_eq]; simp only [scM0_0, owns_whole]; try rfl

/-! # The feature call as a whole: the running sums after each block, and that every block does its part -/

/-! What each case leaves in its results and in the sums (`A` the first block, `B` one between, `C` the last). -/

section Cases

variable (c : Dev nD) (i : grid0.Coords) (arg1 : Memref sig .tc .vmem S512x64 .f32) (harg1 : arg1.IsWhole)
  (arg2 : Memref sig .tc .vmem S64x128 .f32) (harg2 : arg2.IsWhole) (arg3 : Memref sig .tc .vmem S512x128 .f32) (harg3 : arg3.IsWhole)
  (arg4 : Memref sig .tc .vmem S8x128 .f32) (harg4 : arg4.IsWhole) (arg5 : Memref sig .tc .vmem S8x128 .f32) (harg5 : arg5.IsWhole)

section A

variable (hc0 : cond0_0 i) (hc1 : ¬cond0_1 i) (x0 : Vec F S512x64 .f32) (x1 : Vec F S64x128 .f32)

set_option maxHeartbeats 1000000 in

def kernelRun0_A :
    Σ' (L2 : List (View.Piece (Elt F) S512x128 .f32)), Σ' (L3 : List (View.Piece (Elt F) S8x128 .f32)), { LS0 : List (View.Piece (Elt F) S8x128 .f32) //
      ∀ (xi3 : Vec F S8x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) 𝒱₀ c none) E (cc0__mlp_body i arg1 harg1 arg2 harg2 arg3 harg3 arg4 harg4 arg5 harg5) K } := by
  refine ⟨?_, [], ?_, fun xi3 E K => ?run⟩
  case run =>
    simp only [cc0__mlp_body_eq_skeleton]; unfold cc0__mlp_body_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

theorem cover0_A_2 (y : S512x128.Idx) :
    ∃ pc ∈ (kernelRun0_A c i _ harg1 _ harg2 _ harg3 _ harg4 _ harg5 hc0 hc1 x0 x1).1, y ∈ pc.1.set :=
  View.cover_of_tiledL _ S512x128.size (by sl_kernel_rfl) y

def out0_A_2 : Vec F S512x128 .f32 :=
  VO0_2.read (Elt F) (VO0_2.writes (Elt F) VO0_2.junk (kernelRun0_A c i _ harg1 _ harg2 _ harg3 _ harg4 _ harg5 hc0 hc1 x0 x1).1)

def out0_A_3 : Vec F S8x128 .f32 :=
  VO0_3.read (Elt F) (VO0_3.writes (Elt F) VO0_3.junk (kernelRun0_A c i _ harg1 _ harg2 _ harg3 _ harg4 _ harg5 hc0 hc1 x0 x1).2.1)

theorem scover0_A_0 (y : S8x128.Idx) :
    ∃ pc ∈ (kernelRun0_A c i _ harg1 _ harg2 _ harg3 _ harg4 _ harg5 hc0 hc1 x0 x1).2.2.1, y ∈ pc.1.set :=
  View.cover_of_wholeMem _ (by sl_whole_mem) y

def sout0_A_0 : Vec F S8x128 .f32 :=
  VS0_0.read (Elt F) (VS0_0.writes (Elt F) VS0_0.junk (kernelRun0_A c i _ harg1 _ harg2 _ harg3 _ harg4 _ harg5 hc0 hc1 x0 x1).2.2.1)

end A

section B

variable (hc0 : ¬cond0_0 i) (hc1 : ¬cond0_1 i) (x0 : Vec F S512x64 .f32) (x1 : Vec F S64x128 .f32) (xs0 : Vec F S8x128 .f32)

set_option maxHeartbeats 1000000 in

def kernelRun0_B :
    Σ' (L2 : List (View.Piece (Elt F) S512x128 .f32)), Σ' (L3 : List (View.Piece (Elt F) S8x128 .f32)), { LS0 : List (View.Piece (Elt F) S8x128 .f32) //
      ∀ (xi3 : Vec F S8x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (arg5.view.loc (c : Thread nD τ) ↦[arg5.view.set]{fullShare} arg5.view.writes (Elt F) (harg5.unread xs0) LS0)) -∗ K ⟨⟩))
          ⊢ wp frame (wpE (defs₀ (F := F)) 𝒱₀ c none) E (cc0__mlp_body i arg1 harg1 arg2 harg2 arg3 harg3 arg4 harg4 arg5 harg5) K } := by
  refine ⟨?_, [], ?_, fun xi3 E K => ?run⟩
  case run =>
    simp only [cc0__mlp_body_eq_skeleton]; unfold cc0__mlp_body_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexact HS0

theorem cover0_B_2 (y : S512x128.Idx) :
    ∃ pc ∈ (kernelRun0_B c i _ harg1 _ harg2 _ harg3 _ harg4 _ harg5 hc0 hc1 x0 x1 xs0).1, y ∈ pc.1.set :=
  View.cover_of_tiledL _ S512x128.size (by sl_kernel_rfl) y

def out0_B_2 : Vec F S512x128 .f32 :=
  VO0_2.read (Elt F) (VO0_2.writes (Elt F) VO0_2.junk (kernelRun0_B c i _ harg1 _ harg2 _ harg3 _ harg4 _ harg5 hc0 hc1 x0 x1 xs0).1)

def out0_B_3 : Vec F S8x128 .f32 :=
  VO0_3.read (Elt F) (VO0_3.writes (Elt F) VO0_3.junk (kernelRun0_B c i _ harg1 _ harg2 _ harg3 _ harg4 _ harg5 hc0 hc1 x0 x1 xs0).2.1)

def sout0_B_0 : Vec F S8x128 .f32 :=
  arg5.view.read (Elt F) (arg5.view.writes (Elt F) (harg5.unread xs0) (kernelRun0_B c i _ harg1 _ harg2 _ harg3 _ harg4 _ harg5 hc0 hc1 x0 x1 xs0).2.2.1)

end B

section C

variable (hc0 : ¬cond0_0 i) (hc1 : cond0_1 i) (x0 : Vec F S512x64 .f32) (x1 : Vec F S64x128 .f32) (xs0 : Vec F S8x128 .f32)

set_option maxHeartbeats 1000000 in

def kernelRun0_C :
    Σ' (L2 : List (View.Piece (Elt F) S512x128 .f32)), Σ' (L3 : List (View.Piece (Elt F) S8x128 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xs0) LS0)) -∗ K ⟨⟩))
          ⊢ wp frame (wpE (defs₀ (F := F)) 𝒱₀ c none) E (cc0__mlp_body i arg1 harg1 arg2 harg2 arg3 harg3 arg4 harg4 arg5 harg5) K } := by
  refine ⟨?_, ?_, ?_, fun E K => ?run⟩
  case run =>
    simp only [cc0__mlp_body_eq_skeleton]; unfold cc0__mlp_body_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexact HS0

theorem cover0_C_2 (y : S512x128.Idx) :
    ∃ pc ∈ (kernelRun0_C c i _ harg1 _ harg2 _ harg3 _ harg4 _ harg5 hc0 hc1 x0 x1 xs0).1, y ∈ pc.1.set :=
  View.cover_of_tiledL _ S512x128.size (by sl_kernel_rfl) y

def out0_C_2 : Vec F S512x128 .f32 :=
  VO0_2.read (Elt F) (VO0_2.writes (Elt F) VO0_2.junk (kernelRun0_C c i _ harg1 _ harg2 _ harg3 _ harg4 _ harg5 hc0 hc1 x0 x1 xs0).1)

theorem cover0_C_3 (y : S8x128.Idx) :
    ∃ pc ∈ (kernelRun0_C c i _ harg1 _ harg2 _ harg3 _ harg4 _ harg5 hc0 hc1 x0 x1 xs0).2.1, y ∈ pc.1.set :=
  View.cover_of_tiledL _ S8x128.size (by sl_kernel_rfl) y

def out0_C_3 : Vec F S8x128 .f32 :=
  VO0_3.read (Elt F) (VO0_3.writes (Elt F) VO0_3.junk (kernelRun0_C c i _ harg1 _ harg2 _ harg3 _ harg4 _ harg5 hc0 hc1 x0 x1 xs0).2.1)

def sout0_C_0 : Vec F S8x128 .f32 :=
  arg5.view.read (Elt F) (arg5.view.writes (Elt F) (harg5.unread xs0) (kernelRun0_C c i _ harg1 _ harg2 _ harg3 _ harg4 _ harg5 hc0 hc1 x0 x1 xs0).2.2.1)

end C

end Cases

/-! What block `t` leaves: its features, the sums written out, and the running sums, begun at `xs`. -/

abbrev leftA (c : Dev nD) (t : Fin cfg0.N) (h0 : t.val % 64 = 0) (h1 : ¬t.val % 64 = 63) :
    Vec F S512x128 .f32 × Vec F S8x128 .f32 × Vec F S8x128 .f32 :=
  (out0_A_2 c (grid0.coords t) _ (hs0_0 t) _ (hs0_1 t) _ (hs0_2 t) _ (hs0_3 t) scM0_0 (Memref.isWhole_whole _) ((hcond0_0 t).mpr h0) (mt (hcond0_1 t).mp h1) (iblk m c 0 t) (iblk m c 1 t),
    out0_A_3 c (grid0.coords t) _ (hs0_0 t) _ (hs0_1 t) _ (hs0_2 t) _ (hs0_3 t) scM0_0 (Memref.isWhole_whole _) ((hcond0_0 t).mpr h0) (mt (hcond0_1 t).mp h1) (iblk m c 0 t) (iblk m c 1 t),
    sout0_A_0 c (grid0.coords t) _ (hs0_0 t) _ (hs0_1 t) _ (hs0_2 t) _ (hs0_3 t) scM0_0 (Memref.isWhole_whole _) ((hcond0_0 t).mpr h0) (mt (hcond0_1 t).mp h1) (iblk m c 0 t) (iblk m c 1 t))

abbrev leftB (c : Dev nD) (t : Fin cfg0.N) (h0 : ¬t.val % 64 = 0) (h1 : ¬t.val % 64 = 63) (xs : Vec F S8x128 .f32) :
    Vec F S512x128 .f32 × Vec F S8x128 .f32 × Vec F S8x128 .f32 :=
  (out0_B_2 c (grid0.coords t) _ (hs0_0 t) _ (hs0_1 t) _ (hs0_2 t) _ (hs0_3 t) scM0_0 (Memref.isWhole_whole _) (mt (hcond0_0 t).mp h0) (mt (hcond0_1 t).mp h1) (iblk m c 0 t) (iblk m c 1 t) xs,
    out0_B_3 c (grid0.coords t) _ (hs0_0 t) _ (hs0_1 t) _ (hs0_2 t) _ (hs0_3 t) scM0_0 (Memref.isWhole_whole _) (mt (hcond0_0 t).mp h0) (mt (hcond0_1 t).mp h1) (iblk m c 0 t) (iblk m c 1 t) xs,
    sout0_B_0 c (grid0.coords t) _ (hs0_0 t) _ (hs0_1 t) _ (hs0_2 t) _ (hs0_3 t) scM0_0 (Memref.isWhole_whole _) (mt (hcond0_0 t).mp h0) (mt (hcond0_1 t).mp h1) (iblk m c 0 t) (iblk m c 1 t) xs)

abbrev leftC (c : Dev nD) (t : Fin cfg0.N) (h0 : ¬t.val % 64 = 0) (h1 : t.val % 64 = 63) (xs : Vec F S8x128 .f32) :
    Vec F S512x128 .f32 × Vec F S8x128 .f32 × Vec F S8x128 .f32 :=
  (out0_C_2 c (grid0.coords t) _ (hs0_0 t) _ (hs0_1 t) _ (hs0_2 t) _ (hs0_3 t) scM0_0 (Memref.isWhole_whole _) (mt (hcond0_0 t).mp h0) ((hcond0_1 t).mpr h1) (iblk m c 0 t) (iblk m c 1 t) xs,
    out0_C_3 c (grid0.coords t) _ (hs0_0 t) _ (hs0_1 t) _ (hs0_2 t) _ (hs0_3 t) scM0_0 (Memref.isWhole_whole _) (mt (hcond0_0 t).mp h0) ((hcond0_1 t).mpr h1) (iblk m c 0 t) (iblk m c 1 t) xs,
    sout0_C_0 c (grid0.coords t) _ (hs0_0 t) _ (hs0_1 t) _ (hs0_2 t) _ (hs0_3 t) scM0_0 (Memref.isWhole_whole _) (mt (hcond0_0 t).mp h0) ((hcond0_1 t).mpr h1) (iblk m c 0 t) (iblk m c 1 t) xs)

/-- The block of features, the sums written out, and the running sums, after block `n`. -/
def outsAt0 (c : Dev nD) : (n : ℕ) → n < cfg0.N → Vec F S512x128 .f32 × Vec F S8x128 .f32 × Vec F S8x128 .f32
  | 0, hn => leftA m c ⟨0, hn⟩ (Nat.zero_mod _) (by show ¬0 % 64 = 63; omega)
  | n + 1, hn =>
    if h0 : (n + 1) % 64 = 0 then
      if h1 : (n + 1) % 64 = 63 then
        False.elim (by have hN : n + 1 < 64 := lt_of_lt_of_eq hn (show cfg0.N = 64 from N_0); omega)
      else leftA m c ⟨n + 1, hn⟩ h0 h1
    else
      if h1 : (n + 1) % 64 = 63 then leftC m c ⟨n + 1, hn⟩ h0 h1 (outsAt0 c n (Nat.lt_of_succ_lt hn)).2.2
      else leftB m c ⟨n + 1, hn⟩ h0 h1 (outsAt0 c n (Nat.lt_of_succ_lt hn)).2.2

theorem outsAt0_A (c : Dev nD) (t : Fin cfg0.N) (h0 : t.val % 64 = 0) (h1 : ¬t.val % 64 = 63) :
    outsAt0 m c t.val t.isLt = leftA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 m c t.val t.isLt = leftB m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 64 = 0) (h1 : t.val % 64 = 63) :
    outsAt0 m c t.val t.isLt = leftC m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The running sums' buffer before block `n`: anything at first, then what the block before left. -/
def PhiS (c : Dev nD) : (n : ℕ) → n ≤ cfg0.N → sProp 𝕄
  | 0, _ => start c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = start c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The feature call's arrays, and what its blocks leave in them. -/
def dats (_ : Fin 1) (c : Dev nD) : Dat τ (Elt F) (HIx 1) ℕ UU ℕ cfg0 c where
  A w := enter m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := (K (F := F)).Otc c 0
  recorded _ := {x | x.2 = none}

theorem A_eq (c : Dev nD) (w : Fin cfg0.W) : (dats m 0 c).A w = enter m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What a block of the feature call is given. -/
def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What a block of the feature call gives back. -/
def bodyPost (c : Dev nD) (t : Fin cfg0.N) : sProp 𝕄 :=
  iprop((dats m 0 c).Φ t.succ ∗ (dats m 0 c).owesAt none t.succ
    ∗ (dats m 0 c).leavesExact 0 t
    ∗ (dats m 0 c).leavesExact 1 t
    ∗ (dats m 0 c).leavesExact 2 t
    ∗ (dats m 0 c).leavesExact 3 t)

set_option maxHeartbeats 4800000 in

/-- Every block of the feature call runs, and leaves what `outsAt0` says. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).owesAt none t.succ = (dats m 0 c).owesAt none t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 64 = 0
  · by_cases h1 : t.val % 64 = 63
    · exfalso; omega
    · rw [Dat.leavesExact_idle (dats m 0 c) 3 t (idleAt0_3_A t ((hcond0_0 t).mpr h0) (mt (hcond0_1 t).mp h1)) (noFlush0_3_A t ((hcond0_0 t).mpr h0) (mt (hcond0_1 t).mp h1))]
      rw [PhiS_castSucc m c t, PhiS_zero m c _ _ (by omega), PhiA0_eq]
      rw [outsAt0_A m c t h0 h1]
      unfold leftA out0_A_2 sout0_A_0; (try dsimp only)
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (mt (hcond0_1 t).mp h1) (iblk m c 0 t) (iblk m c 1 t)).2.2.2 _ Set.univ _)
      iframe H0 H1
      isplitl [H2]; · iexists _; iexact H2
      iframe H3 HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      iframe Ho H0 H1
      isplitl [H2]
      · unfold owns; iexists _; isplitr
        swap; · iexact H2
        ipureintro; exact View.read_writes_of_cover _ _ _ _ _ (cover0_A_2 c _ _ _ _ _ _ _ _ _ _ _ _ _ _ _)
      iexists _; iexact H3
  · by_cases h1 : t.val % 64 = 63
    · rw [show (dats m 0 c).leavesExact 3 t = owns (c : Thread nD τ) (ms0_3 t) fullShare ((dats m 0 c).after 3 t) from by
      unfold Dat.leavesExact; rw [liveAt0_3_C t (mt (hcond0_0 t).mp h0) ((hcond0_1 t).mpr h1)], after0_3]
      rw [PhiS_castSucc m c t, PhiS_pos m c _ _ (by omega)]
      rw [outsAt0_C m c t h0 h1]
      unfold leftC out0_C_2 out0_C_3 sout0_C_0; (try dsimp only)
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (mt (hcond0_0 t).mp h0) ((hcond0_1 t).mpr h1) (iblk m c 0 t) (iblk m c 1 t) _).2.2.2 Set.univ _)
      iframe H0 H1
      isplitl [H2]; · iexists _; iexact H2
      isplitl [H3]; · iexists _; iexact H3
      isplitl [HS0]; · iexact HS0
      iintro ⟨H0, H1, ⟨%e2, H2⟩, ⟨%e3, H3⟩, HS0⟩
      isplitl [HS0 Hg]
      · isplitl [HS0]
        · unfold owns; iexists _; isplitr
          swap; · iexact HS0
          ipureintro; rfl
        iexact Hg
      iframe Ho H0 H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dats m 0 c) 3 t (idleAt0_3_B t (mt (hcond0_0 t).mp h0) (mt (hcond0_1 t).mp h1)) (noFlush0_3_B t (mt (hcond0_0 t).mp h0) (mt (hcond0_1 t).mp h1))]
      rw [PhiS_castSucc m c t, PhiS_pos m c _ _ (by omega)]
      rw [outsAt0_B m c t h0 h1]
      unfold leftB out0_B_2 sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (mt (hcond0_0 t).mp h0) (mt (hcond0_1 t).mp h1) (iblk m c 0 t) (iblk m c 1 t) _).2.2.2 _ Set.univ _)
      iframe H0 H1
      isplitl [H2]; · iexists _; iexact H2
      iframe H3 HS0
      iintro ⟨H0, H1, ⟨%e2, H2⟩, H3, HS0⟩
      isplitl [HS0 Hg]
      · isplitl [HS0]
        · unfold owns; iexists _; isplitr
          swap; · iexact HS0
          ipureintro; rfl
        iexact Hg
      iframe Ho H0 H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

theorem defs₀_row (t : Fin cfg0.N) :
    defs₀ (F := F) .tc cfg0.body (cfg0.bodyArgs t (cfg0.slots t)) = bodyAt0 t := by
  rfl

theorem body_obligation (c : Dev nD) : BodyObligation (dats (F := F) m 0 c) (defs₀ (F := F)) 𝒱₀ none Set.univ := fun t => by
  rw [bigSep_W0, bigSep_W0, defs₀_row]
  exact triple_restated (sound_body m c t) rfl .rfl fun _ => .rfl

theorem hin (c : Dev nD) : start c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ start c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ start c :=
  Phi_out m c _ (by rw [Fin.val_last]; have : cfg0.N = 64 := N_0; omega)

/-! ## One block of the feature product, and what it adds to the running sums -/

section Values

open Moments (prod zero2 load_x load_w rows_read row1_past load_row0 load_row1 Adds)

theorem pay1_apply (x0 : Vec Ideal S512x64 .f32) (x1 : Vec Ideal S64x128 .f32) (r : Fin 512) (o : Fin 128) :
    k0_pay1 (F := Ideal) x0 x1 (ix2 r o) = prod x0 x1 r o :=
  Moments.pay1_apply x0 x1 r o

theorem pay2_apply (y : S8x128.Idx) : k0_pay2 (F := Ideal) y = 0 :=
  Moments.pay2_apply y

theorem pay3_apply (x0 : Vec Ideal S512x64 .f32) (x1 : Vec Ideal S64x128 .f32) (v : Vec Ideal S1x128 .f32) (o : Fin 128) :
    k0_pay3 (F := Ideal) x0 x1 v (ix2 0 o) = v (ix2 0 o) + ∑ r : Fin 512, prod x0 x1 r o :=
  Moments.pay3_apply x0 x1 v o

theorem pay4_apply (x0 : Vec Ideal S512x64 .f32) (x1 : Vec Ideal S64x128 .f32) (v : Vec Ideal S1x128 .f32) (o : Fin 128) :
    k0_pay4 (F := Ideal) x0 x1 v (ix2 0 o) = v (ix2 0 o) + ∑ r : Fin 512, prod x0 x1 r o * prod x0 x1 r o :=
  Moments.pay4_apply x0 x1 v o

section Cases
variable (c : Dev nD) (i : grid0.Coords) (arg1 : Memref sig .tc .vmem S512x64 .f32) (harg1 : arg1.IsWhole)
  (arg2 : Memref sig .tc .vmem S64x128 .f32) (harg2 : arg2.IsWhole) (arg3 : Memref sig .tc .vmem S512x128 .f32) (harg3 : arg3.IsWhole)
  (arg4 : Memref sig .tc .vmem S8x128 .f32) (harg4 : arg4.IsWhole) (arg5 : Memref sig .tc .vmem S8x128 .f32) (harg5 : arg5.IsWhole)
  (x0 : Vec Ideal S512x64 .f32) (x1 : Vec Ideal S64x128 .f32) (xs0 : Vec Ideal S8x128 .f32)

/-- Every point leaves its product block. -/
theorem out_A (hc0 : cond0_0 i) (hc1 : ¬cond0_1 i) :
    out0_A_2 (F := Ideal) c i _ harg1 _ harg2 _ harg3 _ harg4 _ harg5 hc0 hc1 x0 x1 = k0_pay1 x0 x1 := by
  unfold out0_A_2 kernelRun0_A
  dsimp only
  rw [load_x, load_w, View.read_writes_junk_eq_canon]
  exact View.canon_unit_zero zero2 _ _

theorem out_B (hc0 : ¬cond0_0 i) (hc1 : ¬cond0_1 i) :
    out0_B_2 (F := Ideal) c i _ harg1 _ harg2 _ harg3 _ harg4 _ harg5 hc0 hc1 x0 x1 xs0 = k0_pay1 x0 x1 := by
  unfold out0_B_2 kernelRun0_B
  dsimp only
  rw [load_x, load_w, View.read_writes_junk_eq_canon]
  exact View.canon_unit_zero zero2 _ _

theorem out_C (hc0 : ¬cond0_0 i) (hc1 : cond0_1 i) :
    out0_C_2 (F := Ideal) c i _ harg1 _ harg2 _ harg3 _ harg4 _ harg5 hc0 hc1 x0 x1 xs0 = k0_pay1 x0 x1 := by
  unfold out0_C_2 kernelRun0_C
  dsimp only
  rw [load_x, load_w, View.read_writes_junk_eq_canon]
  exact View.canon_unit_zero zero2 _ _

theorem acc_B (hc0 : ¬cond0_0 i) (hc1 : ¬cond0_1 i) : Adds x0 x1 xs0
    (sout0_B_0 (F := Ideal) c i _ harg1 _ harg2 _ harg3 _ harg4 _ harg5 hc0 hc1 x0 x1 xs0) := by
  intro o
  unfold sout0_B_0 kernelRun0_B
  dsimp only
  rw [load_x, load_w]
  refine ⟨(rows_read arg5.view _ _ _ _ o).1.trans ?_, (rows_read arg5.view _ _ _ _ o).2.trans ?_⟩
  · rw [pay3_apply, load_row0, harg5.read_unread]
  · rw [pay4_apply]
    unfold kernelRun0_B.sl.v16
    rw [load_row1, harg5.read_unread]

theorem acc_C (hc0 : ¬cond0_0 i) (hc1 : cond0_1 i) : Adds x0 x1 xs0
    (sout0_C_0 (F := Ideal) c i _ harg1 _ harg2 _ harg3 _ harg4 _ harg5 hc0 hc1 x0 x1 xs0) := by
  intro o
  unfold sout0_C_0 kernelRun0_C
  dsimp only
  unfold kernelRun0_C.sl.HS0_2
  refine ⟨(rows_read arg5.view _ _ _ _ o).1.trans ?_, (rows_read arg5.view _ _ _ _ o).2.trans ?_⟩
  · rw [load_x, load_w, pay3_apply, load_row0, harg5.read_unread]
  · rw [load_x, load_w, pay4_apply]
    unfold kernelRun0_C.sl.v16
    rw [load_row1, harg5.read_unread]

theorem acc_A (hc0 : cond0_0 i) (hc1 : ¬cond0_1 i) : Adds x0 x1 (fun _ => 0)
    (sout0_A_0 (F := Ideal) c i _ harg1 _ harg2 _ harg3 _ harg4 _ harg5 hc0 hc1 x0 x1) := by
  intro o
  have hz : ∀ y : S8x128.Idx, arg5.view.read (Elt Ideal) (arg5.view.writes (Elt Ideal) arg5.view.junk
      (kernelRun0_A.sl.HS0_1 (F := Ideal))) y = 0 := by
    intro y
    rw [View.read_writes_junk_eq_canon]
    unfold kernelRun0_A.sl.HS0_1
    exact (congrFun (View.canon_unit_zero zero2 _ _) y).trans (pay2_apply y)
  unfold sout0_A_0 kernelRun0_A
  dsimp only
  unfold kernelRun0_A.sl.HS0_2 kernelRun0_A.sl.v16 kernelRun0_A.sl.v9
  refine ⟨(rows_read VS0_0 _ _ _ _ o).1.trans ?_, (rows_read VS0_0 _ _ _ _ o).2.trans ?_⟩
  · rw [load_x, load_w, pay3_apply]
    exact congrArg (· + _) ((load_row0 arg5.view _ o).trans (hz _))
  · rw [load_x, load_w, pay4_apply]
    unfold kernelRun0_A.sl.HS0_2
    exact congrArg (· + _) ((load_row1 arg5.view _ o).trans ((row1_past arg5.view _ _ _ o).trans (hz _)))

/-- The last point hands the running sums out. -/
theorem stats_C (hc0 : ¬cond0_0 i) (hc1 : cond0_1 i) :
    out0_C_3 (F := Ideal) c i _ harg1 _ harg2 _ harg3 _ harg4 _ harg5 hc0 hc1 x0 x1 xs0
      = sout0_C_0 (F := Ideal) c i _ harg1 _ harg2 _ harg3 _ harg4 _ harg5 hc0 hc1 x0 x1 xs0 := by
  unfold out0_C_3 sout0_C_0 kernelRun0_C
  dsimp only
  rw [View.read_writes_junk_eq_canon]
  refine (View.canon_unit_zero zero2 _ _).trans ?_
  exact View.ld_unit_zero zero2 _ _

end Cases

end Values

end Cert.Proof.Joint

end
-- ==== Proof.Joint.Main.lean ====
module

public import proofs.«01_k».proof.Proof.Joint.Region
public import proofs.«01_k».proof.Proof.Joint.Tile
public import Idealize.ShloMosaic.Lib.Pipeline.FrameTail
public import Idealize.ShloMosaic.Lib.Pipeline.RegionArrays
public import Idealize.ShloMosaic.Lib.Pipeline.RegionsLoop
public import Idealize.ShloMosaic.Lib.Pipeline.ValueKit
public import proofs.«01_k».proof.Proof.Pool.Main

@[expose] public section

set_option maxRecDepth 16384

noncomputable section

namespace Cert.Proof.Joint

open Cert.FeaturesIdeal Cert.FeaturesIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat ucRefs afterRegion RegionSeg)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! # The feature call, between the host's lines

The core enters it owing the SparseCore call's start signals and having waited for nothing but its own copies; the
call's waits are for its own copies too, so it leaves with the same. -/

/-- No call has a prefetched table. -/
abbrev adm : (p : Fin 1) → (pcfgs (F := F) p).Adm := fun p => (cfgs p).toPCfg_adm

/-- What memory holds after the feature call. -/
def left (c : Dev nD) : Valuation τ sig (Elt F) := afterRegion (dats m 0 c) (entry m c)

/-- What the core owes, and that it has waited for its own copies alone. -/
abbrev debt (c : Dev nD) : sProp 𝕄 :=
  iprop(∃ W, ⌜(K (F := F)).WBelow (SparseCore.T c) W 0⌝ ∗ owes (SparseCore.T c) ((K (F := F)).Otc c 0) W)

theorem own_of_below {c : Dev nD} {W : Waits sig (HIx 1)} (h : (K (F := F)).WBelow (SparseCore.T c) W 0) (x : SemLoc sig × HIx 1)
    (hx : x ∈ W) : x.2 = none := by
  obtain ⟨s, i⟩ := x
  cases i with
  | none => rfl
  | some q => exact absurd (h _ hx) (Nat.not_le.2 ((K (F := F)).lev_some_pos (SparseCore.T c, s) q))

theorem below_of_own {c : Dev nD} {W : Waits sig (HIx 1)} (h : ∀ x ∈ W, x.2 = none) : (K (F := F)).WBelow (SparseCore.T c) W 0 := by
  intro x hx
  rw [h x hx]
  exact Nat.le_refl 0

/-- The feature call, entered with the memory the host left and leaving it as the call does. -/
def region : RegionSeg pcfgs adm (dats m) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation m c).loose
  hwaits c := Pipeline.cellsWaits_of_cut (Pipeline.pin pcfgs adm) (dats m) none 0 c 0 ((K (F := F)).Otc c 0) (fun _ => rfl)
    (fun _ _ => Finset.mem_univ _) (fun _ _ => Nat.le_refl 0)
    (fun g i h => ⟨Finset.mem_univ _, Nat.lt_of_lt_of_le (Nat.succ_pos _) (SparseCore.Cfg.lev_of_Otc_pos h)⟩)
  pre c := iprop(held (c.tc : Thread nD τ) (ucRefs τ sig) (entry m c) ∗ (∃ r, prngReg c r) ∗ debt c)
  post c := iprop(held (c.tc : Thread nD τ) (ucRefs τ sig) (left m c) ∗ (∃ r, prngReg c r) ∗ debt c)
  X c := iprop(∃ r, prngReg c r)
  Y c := iprop(∃ r, prngReg c r)
  Z c := Pipeline.unscopedRest spec0 c (fun b => entry m c (Proc.devRef .tc b))
  hentry c := by
    rw [Pipeline.ownSems0_none, Pipeline.prefHeld_of_none _ rfl, ← Pipeline.unscopedBufs_held c (entry m c)]
    have hsplit := Pipeline.arrays_of_unscopedBufs (p := 0) pcfgs adm (dats m) winFacts0 arr_whole0 c
      (fun _ => by unfold Dat.share; split <;> rfl)
      (fun b => entry m c (Proc.devRef .tc b)) (fun w => A_eq m c w)
    iintro ⟨⟨Hub, Hp, %W, %hW, HO⟩, -, -⟩
    ihave H := hsplit $$ Hub
    icases H with ⟨Ha, Hrest⟩
    imodintro
    isplitl [Ha]; · iexact Ha
    isplitr; · iempintro
    isplitl [HO]
    · unfold Dat.owesAt Pipeline.owesWithin
      iexists W; isplitr
      · ipureintro
        exact fun x hx => Or.inl (own_of_below hW x hx)
      iexact HO
    iframe Hp Hrest
  hin c := (show _ ⊢ start c from by
    unfold start; iintro ⟨Hp, -, Hr⟩
    isplitl [Hr] <;> iassumption).trans (hin m c)
  hout c := (hout m c).trans (by
    rw [Pipeline.ownSems0_none]; unfold start
    iintro ⟨Hr, Hp⟩
    isplitl [Hp]; · iexact Hp
    isplitr; · iempintro
    iexact Hr)
  hexit c := by
    have hjoin := Pipeline.unscopedBufs_of_arrays (p := 0) pcfgs adm (Ix := HIx 1) (Name := ℕ) (U := UU) (Lvl := ℕ)
      winFacts0 arr_whole0 c (dats m) (fun _ => by unfold Dat.share; split <;> rfl)
      (fun b => entry m c (Proc.devRef .tc b)) (fun b => left m c (Proc.devRef .tc b)) ((dats m 0 c).arrAt · cfg0.N)
      (fun w => (Pipeline.afterRegion_arr (dats m 0 c) (entry m c) winFacts0.arr_inj w).symm)
      (fun b hb => Pipeline.afterRegion_of_not_arr (dats m 0 c) (entry m c)
        fun w h => hb (h ▸ Finset.mem_image.mpr ⟨w, Finset.mem_univ _, rfl⟩))
    rw [← Pipeline.unscopedBufs_held c (left m c)]
    iintro ⟨Ha, HO, Hp, Hrest⟩
    imodintro
    isplitl [Ha Hrest]
    · iapply hjoin; isplitl [Ha] <;> iassumption
    isplitl [Hp]; · iexact Hp
    unfold Dat.owesAt Pipeline.owesWithin
    icases HO with ⟨%W, %hW, HO⟩; iexists W; isplitr
    · ipureintro
      refine below_of_own fun x hx => ?_
      rcases hW hx with h | ⟨_, _, h⟩
      · exact h
      · rw [h]
    iexact HO

/-! # The program: the host's lines, the feature call, the host's lines, the pooling call, a reshape -/

/-- The host's lines between the two calls: the scale and the shift from the sums, and the index array laid flat. -/
abbrev midOps : List (HloOp τ sig (Elt F)) :=
  [ StableHlo.unary main_v2_1 main_v3 ((extractStridedSlice S1x128 ![0, 0] · slices_S8x128_S1x128_0_0) : (⟨S8x128, .f32⟩ : BufTy).Contents (Elt F) → (⟨S1x128, .f32⟩ : BufTy).Contents (Elt F)),
    StableHlo.reshape main_v3 main_v4 (rfl : (.f32 : EltTy) = .f32) shapeCasts_S1x128_S128,
    StableHlo.nullary main_cst (constant S_ .f32 0x47000000#32),
    StableHlo.unary main_cst main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.unary main_v2_1 main_v7 ((extractStridedSlice S1x128 ![1, 0] · slices_S8x128_S1x128_1_0) : (⟨S8x128, .f32⟩ : BufTy).Contents (Elt F) → (⟨S1x128, .f32⟩ : BufTy).Contents (Elt F)),
    StableHlo.reshape main_v7 main_v8 (rfl : (.f32 : EltTy) = .f32) shapeCasts_S1x128_S128,
    StableHlo.nullary main_cst_0 (constant S_ .f32 0x47000000#32),
    StableHlo.unary main_cst_0 main_v9 (broadcastInDim S128 ![] bcast_S_S128 : (⟨S_, .f32⟩ : BufTy).Contents (Elt F) → (⟨S128, .f32⟩ : BufTy).Contents (Elt F)),
    StableHlo.binary main_v8 main_v9 main_v10 (Host.divf : (⟨S128, .f32⟩ : BufTy).Contents (Elt F) → (⟨S128, .f32⟩ : BufTy).Contents (Elt F) → (⟨S128, .f32⟩ : BufTy).Contents (Elt F)),
    StableHlo.binary main_v6 main_v6 main_v11 (mulf : (⟨S128, .f32⟩ : BufTy).Contents (Elt F) → (⟨S128, .f32⟩ : BufTy).Contents (Elt F) → (⟨S128, .f32⟩ : BufTy).Contents (Elt F)),
    StableHlo.binary main_v10 main_v11 main_v12 (subf : (⟨S128, .f32⟩ : BufTy).Contents (Elt F) → (⟨S128, .f32⟩ : BufTy).Contents (Elt F) → (⟨S128, .f32⟩ : BufTy).Contents (Elt F)),
    StableHlo.nullary main_cst_1 (constant S_ .f32 0x3727C5AC#32),
    StableHlo.unary main_cst_1 main_v13 (broadcastInDim S128 ![] bcast_S_S128 : (⟨S_, .f32⟩ : BufTy).Contents (Elt F) → (⟨S128, .f32⟩ : BufTy).Contents (Elt F)),
    StableHlo.binary main_v12 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.rsqrt : (⟨S128, .f32⟩ : BufTy).Contents (Elt F) → (⟨S128, .f32⟩ : BufTy).Contents (Elt F)),
    StableHlo.binary main_arg3 main_v15 main_v16 (mulf : (⟨S128, .f32⟩ : BufTy).Contents (Elt F) → (⟨S128, .f32⟩ : BufTy).Contents (Elt F) → (⟨S128, .f32⟩ : BufTy).Contents (Elt F)),
    StableHlo.binary main_v6 main_v16 main_v17 (mulf : (⟨S128, .f32⟩ : BufTy).Contents (Elt F) → (⟨S128, .f32⟩ : BufTy).Contents (Elt F) → (⟨S128, .f32⟩ : BufTy).Contents (Elt F)),
    StableHlo.binary main_arg4 main_v17 main_v18 (subf : (⟨S128, .f32⟩ : BufTy).Contents (Elt F) → (⟨S128, .f32⟩ : BufTy).Contents (Elt F) → (⟨S128, .f32⟩ : BufTy).Contents (Elt F)),
    StableHlo.reshape main_arg1 main_v19 (rfl : (.i32 : EltTy) = .i32) shapeCasts_S4x2048x16_S131072 ]

abbrev opRes : HloOp τ sig (Elt F) := StableHlo.reshape main_v20 main_v21 (rfl : (.f32 : EltTy) = .f32) shapeCasts_S8192x128_S4x2048x128

theorem main_eq (d : Dev nD) : main (F := F) d = (Pipeline.chain
    [ StableHlo.seq [opX, opW], Prog.lift (.customCall (SparseCore.inner (Pipeline.entry 0)) ()), StableHlo.seq midOps, sc.run d 0,
      StableHlo.seq [opRes] ]
      : Prog (TpuEff nD τ sig (Elt F) (SparseCore.Sig (Pipeline.Sig Λ₀ (Fin 1) fun p => (pcfgs (F := F) p).Adm) 1) .tc) PUnit) := by
  rewrite [StableHlo.chain_seq_cons, Pipeline.chain_cons, StableHlo.chain_seq_cons, Pipeline.chain_cons, StableHlo.chain_seq_cons]
  chain_rfl

theorem pre_sub : ∀ op ∈ ([opX, opW] : List (HloOp τ sig (Elt F))), op.bufs ⊆ ucRefs τ sig := fun op h =>
  Pipeline.sub_ucRefs op (List.forall_iff_forall_mem.mp
    (show ([opX, opW] : List (HloOp τ sig (Elt F))).Forall fun op => op.bufs ⊆ StableHlo.tcRefs τ sig from
      ⟨StableHlo.reshape_bufs_sub .., StableHlo.unary_bufs_sub ..⟩) op h)

theorem mid_sub : ∀ op ∈ (midOps : List (HloOp τ sig (Elt F))), op.bufs ⊆ ucRefs τ sig := fun op h =>
  Pipeline.sub_ucRefs op (List.forall_iff_forall_mem.mp
    (show (midOps : List (HloOp τ sig (Elt F))).Forall fun op => op.bufs ⊆ StableHlo.tcRefs τ sig from
      ⟨StableHlo.unary_bufs_sub .., StableHlo.reshape_bufs_sub .., StableHlo.nullary_bufs_sub .., StableHlo.unary_bufs_sub ..,
        StableHlo.binary_bufs_sub .., StableHlo.unary_bufs_sub .., StableHlo.reshape_bufs_sub .., StableHlo.nullary_bufs_sub ..,
        StableHlo.unary_bufs_sub .., StableHlo.binary_bufs_sub .., StableHlo.binary_bufs_sub .., StableHlo.binary_bufs_sub ..,
        StableHlo.nullary_bufs_sub .., StableHlo.unary_bufs_sub .., StableHlo.binary_bufs_sub .., StableHlo.unary_bufs_sub ..,
        StableHlo.binary_bufs_sub .., StableHlo.binary_bufs_sub .., StableHlo.binary_bufs_sub .., StableHlo.reshape_bufs_sub ..⟩) op h)

theorem res_sub : ∀ op ∈ ([opRes] : List (HloOp τ sig (Elt F))), op.bufs ⊆ ucRefs τ sig := fun op h =>
  Pipeline.sub_ucRefs op (List.forall_iff_forall_mem.mp
    (show ([opRes] : List (HloOp τ sig (Elt F))).Forall fun op => op.bufs ⊆ StableHlo.tcRefs τ sig from StableHlo.reshape_bufs_sub ..) op h)

theorem pre_fresh : ∀ op ∈ ([opX, opW] : List (HloOp τ sig (Elt F))), op.fresh = ∅ :=
  List.forall_iff_forall_mem.mp ⟨rfl, rfl⟩

theorem mid_fresh : ∀ op ∈ (midOps : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl⟩

theorem res_fresh : ∀ op ∈ ([opRes] : List (HloOp τ sig (Elt F))), op.fresh = ∅ := List.forall_iff_forall_mem.mp rfl

/-! ## What memory holds along the way -/

abbrev h' : DevRef τ sig := Proc.devRef .tc main_v2_0
abbrev j' : DevRef τ sig := Proc.devRef .tc main_v19
abbrev a' : DevRef τ sig := Proc.devRef .tc main_v16
abbrev b' : DevRef τ sig := Proc.devRef .tc main_v18
abbrev o' : DevRef τ sig := Proc.devRef .tc main_v20

/-- When the pooling call starts. -/
def V3 (d : Dev nD) : Valuation τ sig (Elt F) := StableHlo.after midOps (left m d)

abbrev Hm (d : Dev nD) : Buf (Elt F) (hLoc d) := V3 m d h'
abbrev Jm (d : Dev nD) : Buf (Elt F) (jLoc d) := V3 m d j'
abbrev Am (d : Dev nD) : Buf (Elt F) (aLoc d) := V3 m d a'
abbrev Bm (d : Dev nD) : Buf (Elt F) (bLoc d) := V3 m d b'
abbrev Om (d : Dev nD) : Buf (Elt F) (oLoc d) := V3 m d o'

abbrev PM : (K (F := F)).Pay (nD := nD) (Val := Elt F) (Name := ℕ) (U := UU) := P (Hm m) (Jm m) (Am m) (Bm m) (Om m)

/-- When it ends. -/
def V4 (d : Dev nD) : Valuation τ sig (Elt F) := Function.update (V3 m d) o' (res (Hm m) (Jm m) (Am m) (Bm m) d)

/-- When the program ends. -/
def V5 (d : Dev nD) : Valuation τ sig (Elt F) := StableHlo.after [opRes] (V4 m d)

/-- The buffers the pooling call is given. -/
abbrev five : Finset (DevRef τ sig) := {h', j', a', b', o'}

theorem five_sub : five ⊆ ucRefs τ sig := by
  intro b hb
  simp only [five, Finset.mem_insert, Finset.mem_singleton] at hb
  rcases hb with rfl | rfl | rfl | rfl | rfl <;> exact Pipeline.devRef_mem_ucRefs rfl

omit [FloatOps F] in
theorem held_five (d : Dev nD) (W : Valuation τ sig (Elt F)) :
    (held (SparseCore.T d) five W : sProp 𝕄)
      = iprop((hLoc d ↦{fullShare} W h') ∗ (jLoc d ↦{fullShare} W j') ∗ (aLoc d ↦{fullShare} W a') ∗ (bLoc d ↦{fullShare} W b')
          ∗ (oLoc d ↦{fullShare} W o')) := by
  unfold held five
  rw [SparseCore.bigSep_insert' (by decide), SparseCore.bigSep_insert' (by decide), SparseCore.bigSep_insert' (by decide),
    SparseCore.bigSep_insert' (by decide), bigSep_singleton]

theorem V4_o (d : Dev nD) : V4 m d o' = res (Hm m) (Jm m) (Am m) (Bm m) d := Function.update_self _ _ _
theorem V4_of_ne (d : Dev nD) (b : DevRef τ sig) (hb : b ≠ o') : V4 m d b = V3 m d b := Function.update_of_ne hb _ _

theorem held_rest (d : Dev nD) : (held (SparseCore.T d) (ucRefs τ sig \ five) (V4 m d) : sProp 𝕄) = held (SparseCore.T d) (ucRefs τ sig \ five) (V3 m d) :=
  StableHlo.held_congr _ fun b hb => V4_of_ne m d b fun e =>
    (Finset.mem_sdiff.mp hb).2 (e ▸ by simp only [five, Finset.mem_insert, Finset.mem_singleton, true_or, or_true])

/-- What the pooling call is started with and what it hands back are the five buffers whole. -/
theorem st_eq (d : Dev nD) : (bigSep Finset.univ fun c : Fin ((K (F := F)).nCore 0) => (PM m).st 0 d c) = held (SparseCore.T d) five (V3 m d) := by
  rw [held_five]
  exact (whole_eq (Hm m) (Jm m) (Am m) (Bm m) (Om m) d).symm
theorem dn_eq (d : Dev nD) : (bigSep Finset.univ fun c : Fin ((K (F := F)).nCore 0) => (PM m).dn 0 d c) = held (SparseCore.T d) five (V4 m d) := by
  rw [held_five, V4_o, V4_of_ne m d h' (by decide), V4_of_ne m d j' (by decide), V4_of_ne m d a' (by decide), V4_of_ne m d b' (by decide)]
  exact (whole_eq (Hm m) (Jm m) (Am m) (Bm m) (res (Hm m) (Jm m) (Am m) (Bm m)) d).symm

/-- What the program leaves. -/
abbrev FIN (d : Dev nD) : sProp 𝕄 := held (SparseCore.T d) (ucRefs τ sig) (V5 m d)

instance lands : (EP (F := F)).LandsIn (upEmb : UEmb _ 𝕄) := by unfold EP; infer_instance

/-- The feature call, of the body table and of the program. -/
abbrev entryCall : Prog (TpuEff nD τ sig (Elt F) (Pipeline.Sig Λ₀ (Fin 1) fun p => (pcfgs (F := F) p).Adm) .tc) PUnit :=
  .op (.customCall (Pipeline.entry 0) ()) fun r => .ret r

theorem entry_lift : SparseCore.liftProg (Q := 1) (entryCall (F := F)) = Prog.lift (.customCall (SparseCore.inner (Pipeline.entry 0)) ()) := rfl

theorem region_pre (d : Dev nD) : (region m).pre d
    = iprop(held (SparseCore.T d) (ucRefs τ sig) (entry m d) ∗ (∃ r, prngReg d r) ∗ debt d) := rfl
theorem region_post (d : Dev nD) : (region m).post d
    = iprop(held (SparseCore.T d) (ucRefs τ sig) (left m d) ∗ (∃ r, prngReg d r) ∗ debt d) := rfl

/-- The feature call in the whole program. -/
theorem call_wp [∀ e, Nonempty (Elt F e)] (d : Dev nD) (Q : PUnit → sProp 𝕄) :
    iprop(((boundary (SparseCore.T d) ∗ held (SparseCore.T d) (ucRefs τ sig) (left m d) ∗ (∃ r, prngReg d r) ∗ debt d) -∗ Q ⟨⟩)
        ∗ boundary (SparseCore.T d) ∗ (held (SparseCore.T d) (ucRefs τ sig) (entry m d) ∗ (∃ r, prngReg d r) ∗ debt d)
        ∗ levAts (K (F := F)).L (K (F := F)).lev ∗ stage d)
      ⊢ wp frame (wpE ((K (F := F)).defs (D (F := F))) 𝒱 (SparseCore.T d) none) Set.univ
          (Prog.lift (.customCall (SparseCore.inner (Pipeline.entry 0)) ())) Q := by
  rw [← entry_lift]
  refine BI.Entails.trans ?_ ((K (F := F)).wp_liftProg (D (F := F)) 𝒱 (SparseCore.T d) Set.univ none entryCall Q)
  refine BI.Entails.trans ?_ (Pipeline.RegionSeg.wp (α := PUnit) pcfgs adm (dats m) none cellOf_inj EP defs₀ 𝒱₀ (K (F := F)).L (K (F := F)).lev
    (region m) d none (fun _ h => nomatch h) (fun r => .ret r) Q)
  rw [show (stage (F := F) d) = iprop((Pipeline.cellsGhost cfgs (EP (F := F)) 0 d) ∗ Pipeline.toksInit cfgs (EP (F := F)) 0 d) from by
    unfold stage; rw [bigSep_univ_of_subsingleton (0 : Fin 1), bigSep_univ_of_subsingleton (0 : Fin 1)]]
  rw [region_pre, region_post]
  show (_ : sProp 𝕄) ⊢ (_ : sProp 𝕄)
  iintro ⟨Hk, Hb, Hpre, Hlev, Hg, Ht⟩
  isplitl [Hk]
  · iintro ⟨Hb, Hpost⟩
    rw [wp_ret]; imodintro
    iapply Hk
    iframe Hb Hpost
  iframe Hb Hpre Hlev Hg Ht

theorem split_mid (d : Dev nD) : (held (d.tc : Thread nD τ) (ucRefs τ sig) (StableHlo.after midOps (left m d)) : sProp 𝕄)
    = iprop(held (SparseCore.T d) five (V3 m d) ∗ held (SparseCore.T d) (ucRefs τ sig \ five) (V3 m d)) :=
  StableHlo.held_sub_split (SparseCore.T d) five_sub (V3 m d)
theorem fin_eq (d : Dev nD) : (held (d.tc : Thread nD τ) (ucRefs τ sig) (StableHlo.after [opRes] (V4 m d)) : sProp 𝕄) = FIN m d := rfl

/-- The core's part in the pooling call before it is made, less what the core owes. -/
abbrev part0 (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem state_eq (d : Dev nD) : ((K (F := F)).tcSt EH d 0 : sProp 𝕄) = iprop(debt d ∗ part0 d) := rfl

/-- The program on a device's TensorCore: its lines and its two calls, one after another. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ stage d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((SparseCore.T d).loc b)) : sProp 𝕄) = held (SparseCore.T d) (ucRefs τ sig) (fun b => m (d, b)) :=
    Pipeline.unscopedBufs_held d (fun b => m (d, b))
  unfold SparseCore.Cfg.tcRes SparseCore.Cfg.tcEnd
  rw [hu, main_eq, Pipeline.chain_cons]
  iintro ⟨#Hctx, Hst, ⟨Hb, Hheld, Hts, Hp⟩, Hg⟩
  ihave #Hlev := ((K (F := F)).ctx_levAts κ) $$ Hctx
  iapply (StableHlo.wp_seq 𝒱 none Set.univ d (ucRefs τ sig) _ [opX, opW] pre_sub pre_fresh (fun b => m (d, b))) $$ [Hb Hheld]
  · isplitl [Hb] <;> iassumption
  iintro ⟨Hb, Hheld⟩
  rw [Pipeline.chain_cons, wp_bind]
  ihave Hst' := (Entails.of_eq (state_eq d)) $$ Hst
  icases Hst' with ⟨HO, Hst⟩
  iapply (call_wp m d _) $$ [Hb Hheld Hts Hp Hg HO Hst]
  isplitr [Hb Hheld Hp Hg HO]
  · iintro ⟨Hb, Hheld, -, HO⟩
    rw [Pipeline.chain_cons]
    iapply (StableHlo.wp_seq 𝒱 none Set.univ d (ucRefs τ sig) _ midOps mid_sub mid_fresh (left m d)) $$ [Hb Hheld]
    · isplitl [Hb] <;> iassumption
    iintro ⟨Hb, Hheld⟩
    ihave Hh := (Entails.of_eq (split_mid m d)) $$ Hheld
    icases Hh with ⟨Hfive, Hrest⟩
    rw [Pipeline.chain_cons, wp_bind]
    iapply ((K (F := F)).wp_run (D (F := F)) 𝒱 (EH := EH) (P := PM m) κ d 0) $$ [HO Hst Hfive Hrest Hb Hts]
    isplitr; · iexact Hctx
    isplitl [HO Hst]
    · iapply (Entails.of_eq (state_eq d).symm)
      iframe HO Hst
    isplitl [Hfive]
    · iapply (Entails.of_eq (st_eq m d).symm); iexact Hfive
    iintro ⟨Hst, Hdn⟩
    ihave Hfive := (Entails.of_eq (dn_eq m d)) $$ Hdn
    ihave Hrest := (Entails.of_eq (held_rest m d).symm) $$ Hrest
    ihave Hheld := (Entails.of_eq (StableHlo.held_sub_split (SparseCore.T d) five_sub (V4 m d)).symm) $$ [Hfive Hrest]
    · isplitl [Hfive] <;> iassumption
    rw [Pipeline.chain_cons]
    iapply (StableHlo.wp_seq 𝒱 none Set.univ d (ucRefs τ sig) _ [opRes] res_sub res_fresh (V4 m d)) $$ [Hb Hheld]
    · isplitl [Hb] <;> iassumption
    iintro ⟨Hb, Hheld⟩
    rw [Pipeline.chain_nil, wp_pure]; imodintro
    isplitl [Hst]; · iexact Hst
    isplitl [Hheld]; · iapply (Entails.of_eq (fin_eq m d)); iexact Hheld
    isplitl [Hb] <;> iassumption
  isplitl [Hb]; · iexact Hb
  isplitl [Hheld Hp HO]
  · isplitl [Hheld]; · iexact Hheld
    isplitl [Hp]; · iexists _; iexact Hp
    iexact HO
  isplitr; · iexact Hlev
  iexact Hg

/-! ## The run -/

/-- What is read off the final state of device `d`. -/
def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all (ucRefs τ sig) (fun b => ((SparseCore.T d).1, b)) (V5 m d) s') $$ [Hh HSI]
  · isplitl [Hh] <;> iassumption
  icases Hr with ⟨%h, -⟩
  ipureintro; exact h

/-- What the whole machine is left with: every device as `fq` says, every semaphore at zero. -/
def QC : PUnit × MemSt nD τ sig (Elt F) → Prop := fun r =>
  (∀ d : Dev nD, ∀ b ∈ ucRefs τ sig, r.2.mem (d, b) = V5 m d b) ∧ r.2.sem = fun _ => 0

/-- Every run of the program from a launch memory whose indices name rows of the features ends, with every buffer as `V5`
    says and every counter at zero. -/
theorem run_main [∀ e, Nonempty (Elt F e)] (hJ : ∀ d, ∀ x : S131072.Idx, (show BitVec 32 from Jm m d x).toNat < 32768) :
    θ_run (Cert.FeaturesIdeal.defs (F := F)) (Cert.FeaturesIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ hJ)
    (fun q _ => match q with | 0 => SparseCore.Cfg.VecSplit.of_plain (vecSplit _ _ _ _ _))
    m ρ main (fun d => stage d) (FIN m) (u₀ (F := F)) (sep_elim_left.trans (hu₀ _ _ _ _ _)) (hmain m ρ) (fq m) (hfin m) (QC m) (fun _ h hz => ⟨h, hz⟩)

/-! # The arguments at the end, the row numbers, and the result -/

/-- A buffer of none of the feature call's four arrays, nor written by the host's lines before it, is as it was. -/
theorem left_arg (c : Dev nD) (b : Ref sig .tc) (hb : ∀ w, b ≠ Pipeline.arrRef spec0 w)
    (he : entry m c (Proc.devRef .tc b) = m ((c : Thread nD τ).loc b)) : left m c (Proc.devRef .tc b) = m ((c : Thread nD τ).loc b) :=
  (Pipeline.afterRegion_of_not_arr (dats m 0 c) (entry m c) (b := b) hb).trans he

theorem left_0 (c : Dev nD) : left m c (Proc.devRef .tc main_arg0) = m ((c : Thread nD τ).loc main_arg0) :=
  left_arg m c main_arg0 (by decide) (by unfold entry; after_results)
theorem left_1 (c : Dev nD) : left m c (Proc.devRef .tc main_arg1) = m ((c : Thread nD τ).loc main_arg1) :=
  left_arg m c main_arg1 (by decide) (by unfold entry; after_results)
theorem left_2 (c : Dev nD) : left m c (Proc.devRef .tc main_arg2) = m ((c : Thread nD τ).loc main_arg2) :=
  left_arg m c main_arg2 (by decide) (by unfold entry; after_results)
theorem left_3 (c : Dev nD) : left m c (Proc.devRef .tc main_arg3) = m ((c : Thread nD τ).loc main_arg3) :=
  left_arg m c main_arg3 (by decide) (by unfold entry; after_results)
theorem left_4 (c : Dev nD) : left m c (Proc.devRef .tc main_arg4) = m ((c : Thread nD τ).loc main_arg4) :=
  left_arg m c main_arg4 (by decide) (by unfold entry; after_results)

/-- The row numbers of core `c`, as a list. -/
abbrev rows (c : Dev nD) : S131072.Idx → BitVec 32 := Pool.flatIdx (m ((c : Thread nD τ).loc main_arg1))

theorem J_eq (c : Dev nD) : Jm m c = rows m c := by
  rw [rows, ← left_1 m c]
  unfold Jm V3
  after_results
  rfl

/-- The program's result. -/
theorem V5_out (c : Dev nD) : V5 m c (Proc.devRef .tc main_v21)
    = shapeCast S4x2048x128 (res (Hm m) (Jm m) (Am m) (Bm m) c) shapeCasts_S8192x128_S4x2048x128 := by
  rw [← V4_o]
  unfold V5
  after_results
  rfl

/-- A buffer the host's lines after the feature call do not write is as the call left it. -/
theorem V5_0 (c : Dev nD) : V5 m c (Proc.devRef .tc main_arg0) = m ((c : Thread nD τ).loc main_arg0) := by
  rw [← left_0 m c]
  unfold V5
  after_results
  rw [V4_of_ne m c _ (by decide)]
  unfold V3
  after_results
theorem V5_1 (c : Dev nD) : V5 m c (Proc.devRef .tc main_arg1) = m ((c : Thread nD τ).loc main_arg1) := by
  rw [← left_1 m c]
  unfold V5
  after_results
  rw [V4_of_ne m c _ (by decide)]
  unfold V3
  after_results
theorem V5_2 (c : Dev nD) : V5 m c (Proc.devRef .tc main_arg2) = m ((c : Thread nD τ).loc main_arg2) := by
  rw [← left_2 m c]
  unfold V5
  after_results
  rw [V4_of_ne m c _ (by decide)]
  unfold V3
  after_results
theorem V5_3 (c : Dev nD) : V5 m c (Proc.devRef .tc main_arg3) = m ((c : Thread nD τ).loc main_arg3) := by
  rw [← left_3 m c]
  unfold V5
  after_results
  rw [V4_of_ne m c _ (by decide)]
  unfold V3
  after_results
theorem V5_4 (c : Dev nD) : V5 m c (Proc.devRef .tc main_arg4) = m ((c : Thread nD τ).loc main_arg4) := by
  rw [← left_4 m c]
  unfold V5
  after_results
  rw [V4_of_ne m c _ (by decide)]
  unfold V3
  after_results

/-- The result of core `c`. -/
abbrev pooled (c : Dev nD) : Buf (Elt F) ((c : Thread nD τ).loc main_v21) :=
  shapeCast S4x2048x128 (res (Hm m) (Jm m) (Am m) (Bm m) c) shapeCasts_S8192x128_S4x2048x128

/-- Every run whose indices name points ends with the result in place, the arguments unchanged and every counter at zero. -/
theorem run_kernel [∀ e, Nonempty (Elt F e)] (hI : ∀ c x, (rows m c x).toNat < 32768) :
    θ_run (Cert.FeaturesIdeal.defs (F := F)) (Cert.FeaturesIdeal.threads (F := F)) ⟨m, fun _ => 0, ρ⟩ fun r =>
      (∀ c : Dev nD, r.2.mem ((c : Thread nD τ).loc main_v21) = pooled m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0 := by
  have at' : ∀ (r : PUnit × MemSt nD τ sig (Elt F)), QC m r → ∀ (c : Dev nD) (b : Ref sig .tc), b.isScoped = false →
      r.2.mem ((c : Thread nD τ).loc b) = V5 m c (Proc.devRef .tc b) :=
    fun r h c b hb => h.1 c _ (Pipeline.devRef_mem_ucRefs hb)
  refine (θ_run Cert.FeaturesIdeal.defs _ _).mono (fun r h => ⟨fun c =>
    ⟨(at' r h c main_v21 rfl).trans (V5_out m c), (at' r h c main_arg0 rfl).trans (V5_0 m c), (at' r h c main_arg1 rfl).trans (V5_1 m c),
      (at' r h c main_arg2 rfl).trans (V5_2 m c), (at' r h c main_arg3 rfl).trans (V5_3 m c), (at' r h c main_arg4 rfl).trans (V5_4 m c)⟩, h.2⟩)
    (run_main m ρ fun c x => ?_)
  rw [J_eq]
  exact hI c x

end Cert.Proof.Joint

end
-- ==== Proof.Joint.Value.lean ====
module

public import proofs.«01_k».proof.Proof.Joint.Main
public import proofs.«01_k».proof.Proof.Joint.Region
public import proofs.«01_k».proof.Proof.Moments.Ref
public import Idealize.ShloMosaic.Lib.Pipeline.ValueKit

@[expose] public section

set_option maxRecDepth 16384

noncomputable section

namespace Cert.Proof.Joint

open Cert.FeaturesIdeal Cert.FeaturesIdeal.Gen
open Idealize.ShloMosaic Idealize.ShloMosaic.TcCoe Idealize.SL.Sem
open Cert.Proof.Moments (prod Adds feat row upto upto_of_adds upto_all prod_feat mean varK scaleK count eps)

/-! # What the feature call leaves, and what the pooling call is given -/

variable (m : (ℓ : Loc nD τ sig) → Buf (Elt Ideal) ℓ)

/-- The features of core `c`'s arguments. -/
abbrev feats (c : Dev nD) : Fin 32768 → Fin 128 → EReal :=
  feat (m ((c : Thread nD τ).loc main_arg0)) (m ((c : Thread nD τ).loc main_arg2))

/-- The weight and the offset of core `c`'s normalisation. -/
abbrev weight (c : Dev nD) : S128.Idx → EReal := m ((c : Thread nD τ).loc main_arg3)
abbrev offset (c : Dev nD) : S128.Idx → EReal := m ((c : Thread nD τ).loc main_arg4)

theorem entry_x (c : Dev nD) : enter m c main_v0
    = shapeCast S32768x64 (m ((c : Thread nD τ).loc main_arg0)) shapeCasts_S4x8192x64_S32768x64 := by
  unfold enter entry
  after_results
  rfl

theorem entry_w (c : Dev nD) : enter m c main_v1
    = transpose S64x128 [1, 0] (m ((c : Thread nD τ).loc main_arg2)) transposes_S128x64_S64x128_1_0 := by
  unfold enter entry
  after_results

theorem block_x (c : Dev nD) (t : Fin cfg0.N) (ht : t.val < 64) (r : Fin 512) (k : Fin 64) :
    iblk m c 0 t (ix2 r k) = enter m c main_v0 (ix2 (row t.val ht r) k) := by
  have idx : ∀ t : Fin cfg0.N, win0_0.index t 0 = t.val ∧ win0_0.index t 1 = 0 :=
    (by decide +kernel : ∀ t : Fin grid0.N, win0_0.index t 0 = t.val ∧ win0_0.index t 1 = 0)
  blk_ext [iblk, row, (idx t).1, (idx t).2]

theorem block_w (c : Dev nD) (t : Fin cfg0.N) (k : Fin 64) (o : Fin 128) :
    iblk m c 1 t (ix2 k o) = enter m c main_v1 (ix2 k o) := by
  have idx : ∀ t : Fin cfg0.N, ∀ a, win0_1.index t a = 0 := (by decide +kernel : ∀ t : Fin grid0.N, ∀ a, win0_1.index t a = 0)
  blk_ext [iblk, idx t]

/-- The product at point `t` is the block of features of its rows. -/
theorem prod_block (c : Dev nD) (t : Fin cfg0.N) (ht : t.val < 64) (r : Fin 512) (o : Fin 128) :
    prod (iblk m c 0 t) (iblk m c 1 t) r o = feats m c (row t.val ht r) o :=
  prod_feat _ _ _ _ _ ht (fun r k => by rw [block_x m c t ht, entry_x]) (fun k o => by rw [block_w, entry_w]) r o

theorem out_first (c : Dev nD) (t : Fin cfg0.N) (h0 : t.val % 64 = 0) (h1 : ¬t.val % 64 = 63) :
    (outsAt0 m c t.val t.isLt).1 = k0_pay1 (F := Ideal) (iblk m c 0 t) (iblk m c 1 t)
      ∧ Adds (iblk m c 0 t) (iblk m c 1 t) (fun _ => 0) (outsAt0 m c t.val t.isLt).2.2 := by
  rw [outsAt0_A m c t h0 h1]
  dsimp only
  exact ⟨out_A .., fun _ => acc_A ..⟩

theorem out_mid (c : Dev nD) (t : Fin cfg0.N) (h0 : ¬t.val % 64 = 0) (h1 : ¬t.val % 64 = 63) :
    (outsAt0 m c t.val t.isLt).1 = k0_pay1 (F := Ideal) (iblk m c 0 t) (iblk m c 1 t)
      ∧ Adds (iblk m c 0 t) (iblk m c 1 t) (outsAt0 m c (t.val - 1) (by have := t.isLt; omega)).2.2 (outsAt0 m c t.val t.isLt).2.2 := by
  rw [outsAt0_B m c t h0 h1]
  dsimp only
  exact ⟨out_B .., fun _ => acc_B ..⟩

theorem out_last (c : Dev nD) (t : Fin cfg0.N) (h0 : ¬t.val % 64 = 0) (h1 : t.val % 64 = 63) :
    (outsAt0 m c t.val t.isLt).1 = k0_pay1 (F := Ideal) (iblk m c 0 t) (iblk m c 1 t)
      ∧ Adds (iblk m c 0 t) (iblk m c 1 t) (outsAt0 m c (t.val - 1) (by have := t.isLt; omega)).2.2 (outsAt0 m c t.val t.isLt).2.2
      ∧ (outsAt0 m c t.val t.isLt).2.1 = (outsAt0 m c t.val t.isLt).2.2 := by
  rw [outsAt0_C m c t h0 h1]
  dsimp only
  exact ⟨out_C .., (fun _ => acc_C ..), stats_C ..⟩

/-- Every point leaves its block of the product. -/
theorem out_spec (c : Dev nD) (t : Fin cfg0.N) :
    (outsAt0 m c t.val t.isLt).1 = k0_pay1 (F := Ideal) (iblk m c 0 t) (iblk m c 1 t) := by
  by_cases h0 : t.val % 64 = 0
  · exact (out_first m c t h0 (by omega)).1
  · by_cases h1 : t.val % 64 = 63
    · exact (out_last m c t h0 h1).1
    · exact (out_mid m c t h0 h1).1

/-- The running sums after point `n`. -/
theorem acc_spec (c : Dev nD) : ∀ (n : ℕ) (hn : n < cfg0.N) (o : Fin 128),
    (outsAt0 m c n hn).2.2 (ix2 0 o) = upto (fun i => feats m c i o) (512 * (n + 1))
      ∧ (outsAt0 m c n hn).2.2 (ix2 1 o) = upto (fun i => feats m c i o * feats m c i o) (512 * (n + 1)) := by
  refine upto_of_adds (feats m c) (show cfg0.N = 64 from N_0) (iblk m c 0 ·) (iblk m c 1 ·) (fun n hn => (outsAt0 m c n hn).2.2)
    (prod_block m c) (fun h => (out_first m c ⟨0, h⟩ (Nat.zero_mod _) (by dsimp only; omega)).2) fun n hn => ?_
  have h64 : n + 1 < 64 := lt_of_lt_of_eq hn (show cfg0.N = 64 from N_0)
  have h0 : ¬(n + 1) % 64 = 0 := by omega
  by_cases h1 : (n + 1) % 64 = 63
  · exact (out_last m c ⟨n + 1, hn⟩ h0 h1).2.1
  · exact (out_mid m c ⟨n + 1, hn⟩ h0 h1).2

/-- The features as an array. -/
def featArr (c : Dev nD) (y : S32768x128.Idx) : EReal := feats m c (y 0) (y 1)

theorem arr_h (c : Dev nD) : (dats m 0 c).arrAt 2 cfg0.N = featArr m c := by
  refine (dats m 0 c).arrAt_eq_of_covers 2 _ (by decide +kernel) fun t hf y => ?_
  have idx : ∀ t : Fin cfg0.N, win0_2.index t 0 = t.val ∧ win0_2.index t 1 = 0 :=
    (by decide +kernel : ∀ t : Fin grid0.N, win0_2.index t 0 = t.val ∧ win0_2.index t 1 = 0)
  have ht : t.val < 64 := lt_of_lt_of_eq t.isLt (show cfg0.N = 64 from N_0)
  blk_simp
  rw [after0_2, out_spec]
  obtain ⟨r, o, rfl⟩ : ∃ (r : Fin 512) (o : Fin 128), y = ix2 r o := ⟨y 0, y 1, by funext a; fin_cases a <;> rfl⟩
  refine (pay1_apply _ _ _ _).trans ((prod_block m c t ht _ _).trans ?_)
  refine congrArg₂ (feats m c) (Fin.ext ?_) (Fin.ext ?_)
  · blk_simp [row, (idx t).1, (idx t).2]
    show 512 * t.val + r.val = t.val * 512 + r.val
    omega
  · blk_simp [(idx t).1, (idx t).2]

/-- The last point of the grid. -/
def lastPt : Fin cfg0.N := ⟨63, lt_of_lt_of_eq (by decide) (show cfg0.N = 64 from N_0).symm⟩

/-- The running sums after the last point. -/
def sums (c : Dev nD) : S8x128.Idx → EReal := (outsAt0 m c lastPt.val lastPt.isLt).2.2

theorem stats_last (c : Dev nD) (t : Fin cfg0.N) (h : t.val % 64 = 63) : (outsAt0 m c t.val t.isLt).2.1 = sums m c := by
  have ht : t.val < 64 := lt_of_lt_of_eq t.isLt (show cfg0.N = 64 from N_0)
  have e : t = lastPt := Fin.ext (show t.val = 63 by omega)
  rw [(out_last m c t (by omega) h).2.2, e, sums]

theorem arr_s (c : Dev nD) : (dats m 0 c).arrAt 3 cfg0.N = sums m c := by
  refine (dats m 0 c).arrAt_eq_of_covers 3 _ (by decide +kernel) fun t hf y => ?_
  have idx : ∀ t : Fin cfg0.N, ∀ a, win0_3.index t a = 0 := (by decide +kernel : ∀ t : Fin grid0.N, ∀ a, win0_3.index t a = 0)
  blk_simp
  rw [after0_3, stats_last m c t ((flush0_3 t).mp hf)]
  refine congrArg (sums m c) (funext fun a => Fin.ext ?_)
  blk_simp [idx t]

theorem sums_apply (c : Dev nD) (o : Fin 128) : sums m c (ix2 0 o) = ∑ n : Fin 32768, feats m c n o
    ∧ sums m c (ix2 1 o) = ∑ n : Fin 32768, feats m c n o * feats m c n o := by
  unfold sums
  rw [(acc_spec m c lastPt.val lastPt.isLt o).1, (acc_spec m c lastPt.val lastPt.isLt o).2, show lastPt.val = 63 from rfl,
    upto_all, upto_all]
  exact ⟨rfl, rfl⟩

theorem left_h (c : Dev nD) : left m c h' = featArr m c :=
  (Pipeline.afterRegion_arr (dats m 0 c) (entry m c) winFacts0.arr_inj 2).trans (arr_h m c)

theorem left_s (c : Dev nD) : left m c (Proc.devRef .tc main_v2_1) = sums m c :=
  (Pipeline.afterRegion_arr (dats m 0 c) (entry m c) winFacts0.arr_inj 3).trans (arr_s m c)

theorem H_eq (c : Dev nD) : Hm m c = featArr m c := by
  rw [← left_h]
  unfold Hm V3
  after_results

theorem A_apply (c : Dev nD) (o : Fin 128) : Am m c (ix1 o) = scaleK (feats m c) (weight m c (ix1 o)) o := by
  rw [scaleK, varK, mean, ← (sums_apply m c o).1, ← (sums_apply m c o).2, ← left_s, weight, ← left_3 m c]
  unfold Am V3
  after_results
  pointwise

theorem B_apply (c : Dev nD) (o : Fin 128) : Bm m c (ix1 o)
    = offset m c (ix1 o) - mean (feats m c) o * scaleK (feats m c) (weight m c (ix1 o)) o := by
  rw [scaleK, varK, mean, ← (sums_apply m c o).1, ← (sums_apply m c o).2, ← left_s, weight, offset, ← left_3 m c, ← left_4 m c]
  unfold Bm V3
  after_results
  pointwise

end Cert.Proof.Joint

end
-- ==== Proof.Joint.Ref.lean ====
module

public import proofs.«01_k».proof.Proof.Joint.Value
public import proofs.«01_k».proof.Proof.Pool.Ref
public import proofs.«01_k».proof.Proof.Gen.FeaturesReferenceIdeal.Run

@[expose] public section

set_option maxRecDepth 16384

noncomputable section

namespace Cert.Proof.Joint

open Cert.FeaturesReferenceIdeal Cert.FeaturesReferenceIdeal.Gen
open Idealize.ShloMosaic Idealize.ShloMosaic.TcCoe
open Cert.Proof.Moments (feat mean varK variance scaleK scaleR eps spot refH refMean refVar refH_apply refMean_apply refVar_apply)

/-! # The reference -/

/-- The rows of table `G` named by `I`, and the largest over each query's sixteen. -/
def pick (G : S32768x128.Idx → EReal) (I : S4x2048x16.Idx → BitVec 32) : S4x2048x128.Idx → EReal :=
  Host.reduce (FloatOps.maximumf (F := Ideal) (φ := .f32))
    (shapeCast S4x2048x16x128
      (select (broadcastInDim S131072x128 ![0] bcast_S131072_S131072x128_0 (Pool.rowOk I))
        (Host.gather gather_S32768x128_S131072x1_S131072x128_1_0_n_n_0_1_1128 G (Pool.rowCol I))
        (broadcastInDim S131072x128 ![] bcast_S_S131072x128 (constant (F := Ideal) S_ .f32 0x7FC00000#32)))
      shapeCasts_S131072x128_S4x2048x16x128)
    (constant (F := Ideal) S_ .f32 0xFF800000#32) reducesTo_S4x2048x16x128_S4x2048x128_d2 h_S_

/-- The pooling call's reference is that of the table of its normalised features. -/
theorem refOut_eq (H : S32768x128.Idx → EReal) (I : S4x2048x16.Idx → BitVec 32) (A B : S128.Idx → EReal) :
    Pool.refOut H I A B = pick (Pool.feat H A B) I := rfl

variable (x : S4x8192x64.Idx → EReal) (w : S128x64.Idx → EReal) (g b : S128.Idx → EReal)

/-- A row of one number for each feature, spread over the points. -/
def spread (v : S128.Idx → EReal) : S4x8192x128.Idx → EReal :=
  broadcastInDim S4x8192x128 ![0, 1, 2] bcast_S1x1x128_S4x8192x128_0_1_2 (broadcastInDim S1x1x128 ![2] bcast_S128_S1x1x128_2 v)

theorem spread_apply (v : S128.Idx → EReal) (n : Fin 32768) (o : Fin 128) : spread v (spot n o) = v (ix1 o) := by
  unfold spread spot
  pointwise

/-- The deviation of each feature. -/
def refDev (h : S4x8192x128.Idx → EReal) : S128.Idx → EReal :=
  Host.sqrt (F := Ideal) (φ := .f32) (addf (F := Ideal) (φ := .f32) (refVar h)
    (broadcastInDim S128 ![] bcast_S_S128 (constant (F := Ideal) S_ .f32 0x3727C5AC#32)))

theorem refDev_apply (o : Fin 128) : refDev (refH x w) (ix1 o) = Ideal.sqrt (variance (feat x w) o + eps) := by
  rw [variance, ← refVar_apply]
  unfold refDev
  pointwise

/-- The normalised and rectified features. -/
def refNorm (h : S4x8192x128.Idx → EReal) : S4x8192x128.Idx → EReal :=
  maximumf (F := Ideal) (φ := .f32)
    (addf (F := Ideal) (φ := .f32)
      (mulf (F := Ideal) (φ := .f32)
        (Host.divf (F := Ideal) (φ := .f32) (subf (F := Ideal) (φ := .f32) h (spread (refMean h))) (spread (refDev h)))
        (spread g))
      (spread b))
    (broadcastInDim S4x8192x128 ![] bcast_S_S4x8192x128 (constant (F := Ideal) S_ .f32 0x00000000#32))

theorem refNorm_apply (n : Fin 32768) (o : Fin 128) : refNorm g b (refH x w) (spot n o)
    = max (Ideal.div (feat x w n o - mean (feat x w) o) (Ideal.sqrt (variance (feat x w) o + eps)) * g (ix1 o) + b (ix1 o)) 0 := by
  have hz : (broadcastInDim S4x8192x128 ![] bcast_S_S4x8192x128 (constant (F := Ideal) S_ .f32 0x00000000#32) (spot n o) : EReal) = 0 :=
    Pool.ofBits_zero
  rw [← refH_apply, ← refMean_apply, ← refDev_apply, ← spread_apply (refMean (refH x w)) n o, ← spread_apply (refDev (refH x w)) n o,
    ← spread_apply g n o, ← spread_apply b n o, ← hz]
  rfl

/-- The table of normalised features. -/
def refTab : S32768x128.Idx → EReal :=
  shapeCast S32768x128 (refNorm g b (refH x w)) shapeCasts_S4x8192x128_S32768x128

theorem refTab_apply (y : S32768x128.Idx) : refTab x w g b y = refNorm g b (refH x w) (spot (y 0) (y 1)) := by
  refine shapeCast_apply _ _ _ (spot (y 0) (y 1)) ?_
  unfold spot
  rw [Shape.rowMajor_val_two, Shape.rowMajor_val_three]
  show ((y 0).val / 8192 * 8192 + (y 0).val % 8192) * 128 + (y 1).val = (y 0).val * 128 + (y 1).val
  omega

/-- What the reference returns. -/
theorem res_eq (m : (ℓ : Loc nD τ sig) → Buf (Elt Ideal) ℓ) (c : Dev nD) : Value.res_main_v25 m c
    = pick (refTab (m ((c.tc : Thread nD τ).loc main_arg0)) (m ((c.tc : Thread nD τ).loc main_arg2))
        (m ((c.tc : Thread nD τ).loc main_arg3)) (m ((c.tc : Thread nD τ).loc main_arg4))) (m ((c.tc : Thread nD τ).loc main_arg1)) := rfl

/-! ## Scale and shift against mean and deviation -/

theorem div_coe (a s : ℝ) (hs : s ≠ 0) : Ideal.div (a : EReal) (s : EReal) = ((a / s : ℝ) : EReal) := by
  rw [Ideal.div, if_neg (fun e => hs (EReal.coe_eq_zero.mp e)), div_eq_mul_inv, EReal.coe_mul, EReal.coe_inv]

/-- Scaling and shifting a real number by real numbers, the offset any extended real. -/
theorem affine (h μ s γ : ℝ) (β : EReal) : (h : EReal) * ((γ / s : ℝ) : EReal) + (β - (μ : EReal) * ((γ / s : ℝ) : EReal))
    = (((h - μ) / s : ℝ) : EReal) * (γ : EReal) + β := by
  simp only [← EReal.coe_mul]
  induction β with
  | bot => simp
  | top => rw [EReal.top_sub_coe, EReal.coe_add_top, EReal.coe_add_top]
  | coe β =>
    simp only [← EReal.coe_sub, ← EReal.coe_add]
    congr 1
    ring

section Agree

variable (f : Fin 32768 → Fin 128 → EReal) (r : Fin 32768 → Fin 128 → ℝ) (hf : ∀ n o, f n o = (r n o : EReal)) (γ : ℝ) (o : Fin 128)

include hf in
/-- The scale of real features by a real weight. -/
theorem scale_real : ∃ s : ℝ, 0 < s ∧ Ideal.sqrt (variance f o + eps) = (s : EReal) ∧ scaleK f (γ : EReal) o = ((γ / s : ℝ) : EReal) := by
  obtain ⟨v, hv, ev⟩ := Moments.variance_real f r hf o
  obtain ⟨e, he, ee⟩ := Moments.eps_real
  have hp : 0 < v + e := by linarith
  have es : Ideal.sqrt (variance f o + eps) = ((Real.sqrt (v + e) : ℝ) : EReal) := by
    rw [ev, ee, ← EReal.coe_add, Ideal.sqrt_coe, if_neg hp.not_gt]
  refine ⟨Real.sqrt (v + e), Real.sqrt_pos.mpr hp, es, ?_⟩
  rw [Moments.scale_agree f r hf, scaleR, es, div_coe _ _ (Real.sqrt_pos.mpr hp).ne']

include hf in
theorem scale_nonneg (hγ : 0 ≤ γ) : 0 ≤ scaleK f (γ : EReal) o := by
  obtain ⟨s, hs, -, e⟩ := scale_real f r hf γ o
  rw [e]
  exact EReal.coe_nonneg.mpr (div_nonneg hγ hs.le)

include hf in
/-- The kernel's normalised feature is the reference's. -/
theorem norm_agree (β : EReal) (n : Fin 32768) :
    Pool.relu1 (scaleK f (γ : EReal) o) (β - mean f o * scaleK f (γ : EReal) o) (f n o)
      = max (Ideal.div (f n o - mean f o) (Ideal.sqrt (variance f o + eps)) * (γ : EReal) + β) 0 := by
  obtain ⟨s, hs, es, e⟩ := scale_real f r hf γ o
  unfold Pool.relu1
  rw [e, es, hf, Moments.mean_real f r hf, ← EReal.coe_sub, div_coe _ _ hs.ne', affine]

end Agree

end Cert.Proof.Joint

end
-- ==== Proof.Joint.Claims.lean ====
module

public import proofs.«01_k».proof.Defs
public import proofs.«01_k».proof.Proof.Joint.Ref
public import proofs.«01_k».proof.Proof.Pool.Claims
public import proofs.«01_k».proof.Proof.Moments.Claims
public import proofs.«01_k».proof.Proof.Gen.Features
public import proofs.«01_k».proof.Proof.Gen.Pre_ordered
public import Idealize.ShloMosaic.Lib.Quiescent
public import Idealize.ShloMosaic.Lib.Claim

@[expose] public section

set_option maxRecDepth 16384

noncomputable section

namespace Cert.Proof.Joint

open Idealize.ShloMosaic Idealize.ShloMosaic.TcCoe Idealize.SL.Sem
open Cert.Proof.Moments (mean scaleK)
open Cert.FeaturesIdeal (S4x8192x64 S4x2048x16 S131072 S128x64 S128 S32768x128 S4x2048x128)

instance : Cert.Features.Facts := Cert.Features.Gen.facts
instance : Cert.FeaturesIdeal.Facts := Cert.FeaturesIdeal.Gen.facts
instance : Cert.FeaturesReferenceIdeal.Facts := Cert.FeaturesReferenceIdeal.Gen.facts
instance : Cert.Pre_ordered.Facts := Cert.Pre_ordered.Gen.facts

/-- The shape relations of the precondition on the indices alone. -/
theorem named_facts : Cert.Pre_named.Facts where
  bcast_S_S4x2048x16 := by decide
  reducesTo_S4x2048x16_S_d0_1_2 := by decide
  h_S_ := by decide

instance : Cert.Pre_named.Facts := named_facts

/-! # What the preconditions say -/

instance : Subsingleton Cert.Pre_named.S_.Idx := ⟨fun a b => funext fun i => i.elim0⟩
instance : Subsingleton Cert.Pre_ordered.S_.Idx := ⟨fun a b => funext fun i => i.elim0⟩

section Pre

variable {F : FTy → Type} [FloatOps F]
variable {x : S4x8192x64.Idx → F .f32} {I : S4x2048x16.Idx → BitVec 32} {w : S128x64.Idx → F .f32} {g b : S128.Idx → F .f32}

/-- Every index is below the number of points. -/
theorem rows_lt (h : Cert.Pre_named.fn (F := F) x I w g b = fun _ => 1#1) (y : S131072.Idx) : (Pool.flatIdx I y).toNat < 32768 :=
  Pool.word_lt _ (Host.reduce_andi_all _ _ _ _ _ (congrFun h fun i => i.elim0) (Shape.reshapeEquiv _ y))

theorem rows_lt_ordered (h : Cert.Pre_ordered.fn (F := F) x I w g b = fun _ => 1#1) (y : S131072.Idx) :
    (Pool.flatIdx I y).toNat < 32768 := by
  obtain ⟨hxiw, -⟩ := Pool.andi_one (congrFun h fun i => i.elim0)
  obtain ⟨hxi, -⟩ := Pool.andi_one hxiw
  obtain ⟨-, hi⟩ := Pool.andi_one hxi
  exact Pool.word_lt _ (Host.reduce_andi_all _ _ _ _ _ hi (Shape.reshapeEquiv _ y))

end Pre

section PreIdeal

variable {x : S4x8192x64.Idx → EReal} {I : S4x2048x16.Idx → BitVec 32} {w : S128x64.Idx → EReal} {g b : S128.Idx → EReal}

/-- Every feature and every weight matrix entry is a real number. -/
theorem real_args (h : Cert.Pre_ordered.fn (F := Ideal) x I w g b = fun _ => 1#1) :
    (∀ i, ∃ a : ℝ, x i = (a : EReal)) ∧ ∀ i, ∃ a : ℝ, w i = (a : EReal) := by
  obtain ⟨hxiw, -⟩ := Pool.andi_one (congrFun h fun i => i.elim0)
  obtain ⟨hxi, hw⟩ := Pool.andi_one hxiw
  obtain ⟨hx, -⟩ := Pool.andi_one hxi
  exact ⟨fun i => Moments.real_of_abs_lt _ (Host.reduce_andi_all _ _ _ _ _ hx i),
    fun i => Moments.real_of_abs_lt _ (Host.reduce_andi_all _ _ _ _ _ hw i)⟩

/-- An extended real that is neither negative nor `⊤` is a real number that is not negative. -/
theorem real_of_nonneg (v : EReal) (h : IntOp.andi (Ideal.cmp .oge v (Ideal.ofBits .f32 0x00000000#32))
    (Ideal.cmp .olt v (Ideal.ofBits .f32 0x7F800000#32)) = 1#1) : ∃ a : ℝ, 0 ≤ a ∧ v = (a : EReal) := by
  obtain ⟨h0, h1⟩ := Pool.andi_one h
  have e : Ideal.ofBits .f32 0x7F800000#32 = ⊤ := by simp [Ideal.ofBits, Ideal.ieee]
  rw [Ideal.ofBits_zero_f32] at h0
  rw [e] at h1
  have l0 : (0 : EReal) ≤ v := of_decide_eq_true (Pool.ofBool_one h0)
  have l1 : v < ⊤ := of_decide_eq_true (Pool.ofBool_one h1)
  induction v with
  | bot => simp at l0
  | top => simp at l1
  | coe a => exact ⟨a, EReal.coe_nonneg.mp l0, rfl⟩

/-- Every weight of the normalisation is a real number that is not negative. -/
theorem real_weight (h : Cert.Pre_ordered.fn (F := Ideal) x I w g b = fun _ => 1#1) (o : S128.Idx) :
    ∃ a : ℝ, 0 ≤ a ∧ g o = (a : EReal) := by
  obtain ⟨-, hg⟩ := Pool.andi_one (congrFun h fun i => i.elim0)
  exact real_of_nonneg _ (Host.reduce_andi_all _ _ _ _ _ hg o)

end PreIdeal

/-! # The claims -/

/-- The kernel and its idealization have one body table for their kernels: label by label it is the same function. -/
theorem bodies_eq : Cert.Features.defs₀ (F := Bits) = Cert.FeaturesIdeal.defs₀ (F := Bits) := by
  funext p l a
  cases p with
  | tc => fin_cases l <;> rfl
  | scVector c s => fin_cases l <;> rfl
  | scScalar c => fin_cases l <;> rfl

theorem defs_eq : Cert.Features.defs (F := Bits) = Cert.FeaturesIdeal.defs (F := Bits) :=
  congrArg (fun D => (Cert.FeaturesIdeal.sc (F := Bits)).defs (Pipeline.defs (Cert.FeaturesIdeal.pcfgs (F := Bits)) D)) bodies_eq

/-- The kernel terminates from every memory meeting the precondition, leaving its arguments and every counter at zero. -/
theorem frame_kernel : Cert.quiescent_Features := fun m ρ hpre => by
  refine (congrArg (fun D => θ_run D (Cert.Features.threads (F := Bits)) ⟨m, fun _ => 0, ρ⟩ _) defs_eq).mpr ?_
  exact (θ_run Cert.FeaturesIdeal.defs _ _).mono (fun _ h => ⟨fun c => (h.1 c).2, h.2⟩)
    (run_kernel (F := Bits) m ρ fun d y => rows_lt (hpre d) y)

/-- So does its idealization. -/
theorem frame_ideal : Cert.quiescent_FeaturesIdeal := fun m ρ hpre =>
  (θ_run Cert.FeaturesIdeal.defs _ _).mono (fun _ h => ⟨fun c => (h.1 c).2, h.2⟩)
    (run_kernel (F := Ideal) m ρ fun d y => rows_lt (hpre d) y)

/-- So it does under the precondition of the value claim. -/
theorem frame_ideal_ordered : Cert.quiescent_FeaturesIdeal_pre_ordered := fun m ρ hpre =>
  (θ_run Cert.FeaturesIdeal.defs _ _).mono (fun _ h => ⟨fun c => (h.1 c).2, h.2⟩)
    (run_kernel (F := Ideal) m ρ fun d y => rows_lt_ordered (hpre d) y)

/-- The reference terminates from every memory, leaving its arguments and every counter at zero. -/
theorem frame_reference : Cert.quiescent_FeaturesReferenceIdeal := fun m ρ _ =>
  (θ_run Cert.FeaturesReferenceIdeal.defs _ _).mono (fun r h => ⟨fun c => (h c).2, sem_eq_zero_of_no_sems (by decide) r.2⟩)
    (Cert.FeaturesReferenceIdeal.Value.run (F := Ideal) m ρ)

section Result

variable (m : (ℓ : Loc Cert.FeaturesIdeal.nD Cert.FeaturesIdeal.τ Cert.FeaturesIdeal.sig) → Buf (Elt Ideal) ℓ)
  (c : Dev Cert.FeaturesIdeal.nD)

abbrev argX : S4x8192x64.Idx → EReal := m ((c : Thread Cert.FeaturesIdeal.nD Cert.FeaturesIdeal.τ).loc Cert.FeaturesIdeal.main_arg0)
abbrev argI : S4x2048x16.Idx → BitVec 32 := m ((c : Thread Cert.FeaturesIdeal.nD Cert.FeaturesIdeal.τ).loc Cert.FeaturesIdeal.main_arg1)
abbrev argW : S128x64.Idx → EReal := m ((c : Thread Cert.FeaturesIdeal.nD Cert.FeaturesIdeal.τ).loc Cert.FeaturesIdeal.main_arg2)

/-- What the pooling call is given. -/
def tabH : S32768x128.Idx → EReal := Hm m c
def tabJ : S131072.Idx → BitVec 32 := Jm m c
def tabA : S128.Idx → EReal := Am m c
def tabB : S128.Idx → EReal := Bm m c

theorem tabA_nonneg (h : Cert.Pre_ordered.fn (F := Ideal) (argX m c) (argI m c) (argW m c) (weight m c) (offset m c) = fun _ => 1#1)
    (y : S128.Idx) : 0 ≤ tabA m c y := by
  obtain ⟨r, hr⟩ := Moments.feat_real _ _ (real_args h).1 (real_args h).2
  obtain ⟨γ, h0, eγ⟩ := real_weight h (ix1 (y 0))
  have e : tabA m c y = scaleK (feats m c) (γ : EReal) (y 0) := by
    rw [← eγ]
    exact (congrArg (tabA m c) (Moments.eq_ix1 y)).trans (A_apply m c (y 0))
  rw [e]
  exact scale_nonneg _ r hr γ _ h0

/-- The features the pooling call normalises are the reference's. -/
theorem tab_eq (h : Cert.Pre_ordered.fn (F := Ideal) (argX m c) (argI m c) (argW m c) (weight m c) (offset m c) = fun _ => 1#1) :
    Pool.feat (tabH m c) (tabA m c) (tabB m c) = refTab (argX m c) (argW m c) (weight m c) (offset m c) := by
  obtain ⟨r, hr⟩ := Moments.feat_real _ _ (real_args h).1 (real_args h).2
  funext y
  have h0 : (y 0).val < 32768 := (y 0).isLt
  have h1 : (y 1).val < 128 := (y 1).isLt
  have ey : y = Pool.ixH (y 0).val (y 1).val := by
    funext a; apply Fin.ext
    match a with
    | ⟨0, _⟩ => show (y 0).val = (y 0).val % 32768; omega
    | ⟨1, _⟩ => show (y 1).val = (y 1).val % 128; omega
  have ec : (Pool.ixC (y 1).val : S128.Idx) = ix1 (⟨(y 1).val, h1⟩ : Fin 128) := by
    funext a; apply Fin.ext
    match a with
    | ⟨0, _⟩ => show (y 1).val % 128 = (y 1).val; omega
  obtain ⟨γ, hγ, eγ⟩ := real_weight h (ix1 (⟨(y 1).val, h1⟩ : Fin 128))
  have e1 : Pool.feat (tabH m c) (tabA m c) (tabB m c) y
      = Pool.relu1 (tabA m c (Pool.ixC (y 1).val)) (tabB m c (Pool.ixC (y 1).val)) (tabH m c y) :=
    (congrArg (Pool.feat (tabH m c) (tabA m c) (tabB m c)) ey).trans ((Pool.feat_at _ _ _ _ _).trans
      (congrArg (fun z => Pool.relu1 (tabA m c (Pool.ixC (y 1).val)) (tabB m c (Pool.ixC (y 1).val)) (tabH m c z)) ey.symm))
  have eA : tabA m c (Pool.ixC (y 1).val) = scaleK (feats m c) (γ : EReal) ⟨(y 1).val, h1⟩ := by
    rw [ec, ← eγ]; exact A_apply m c _
  have eB : tabB m c (Pool.ixC (y 1).val) = offset m c (ix1 (⟨(y 1).val, h1⟩ : Fin 128))
      - mean (feats m c) ⟨(y 1).val, h1⟩ * scaleK (feats m c) (γ : EReal) ⟨(y 1).val, h1⟩ := by
    rw [ec, ← eγ]; exact B_apply m c _
  have eH : tabH m c y = feats m c (y 0) (y 1) := congrFun (H_eq m c) y
  rw [e1, eA, eB, eH, refTab_apply]
  refine (norm_agree _ r hr γ (y 1) _ (y 0)).trans ?_
  rw [← eγ]
  exact (refNorm_apply _ _ _ _ _ _).symm

/-- The kernel's result is the pooling call's on what it is given. -/
theorem pooled_tabs : pooled m c = shapeCast S4x2048x128 (Pool.poolOut (F := Ideal) (tabH m c) (Pool.flatIdx (argI m c)) (tabA m c) (tabB m c))
    Cert.KernelIdeal.Gen.shapeCasts_S8192x128_S4x2048x128 := by
  rw [show Pool.flatIdx (argI m c) = tabJ m c from (J_eq m c).symm]
  rfl

/-- The kernel's result is the reference's. -/
theorem pooled_eq (h : Cert.Pre_ordered.fn (F := Ideal) (argX m c) (argI m c) (argW m c) (weight m c) (offset m c) = fun _ => 1#1) :
    pooled m c = pick (refTab (argX m c) (argW m c) (weight m c) (offset m c)) (argI m c) := by
  rw [← tab_eq m c h, ← refOut_eq]
  exact (pooled_tabs m c).trans (Pool.out_eq_ref _ _ _ _ (fun y => rows_lt_ordered h y) (tabA_nonneg m c h))

end Result

/-- The idealized kernel and the reference return the same array. -/
theorem same_result : Cert.algebraic_FeaturesIdeal_FeaturesReferenceIdeal_pre_ordered := fun m ρ m' ρ' hpre hag =>
  ⟨fun c => pooled m c,
    (θ_run Cert.FeaturesIdeal.defs _ _).mono (fun _ h => h.1) (run_kernel (F := Ideal) m ρ fun d y => rows_lt_ordered (hpre d) y),
    (θ_run Cert.FeaturesReferenceIdeal.defs _ _).mono
      (fun r h c => ⟨((h c).1.trans ((res_eq m' c).trans (by
          obtain ⟨e0, e1, e2, e3, e4⟩ := hag c
          rw [e0, e1, e2, e3, e4]
          exact (pooled_eq m c (hpre c)).symm))), (h c).2⟩)
      (Cert.FeaturesReferenceIdeal.Value.run (F := Ideal) m' ρ')⟩

end Cert.Proof.Joint

end
-- ==== Proof.Whole.Tile.lean ====
module

public import proofs.«01_k».proof.Proof.Pool.Rows
public import proofs.«01_k».proof.Proof.Gen.WholeIdeal
public import proofs.«01_k».proof.Proof.Gen.WholeIdeal.Skeleton
public import proofs.«01_k».proof.Proof.Gen.WholeIdeal.Launch

@[expose] public section

set_option maxRecDepth 16384

noncomputable section

/-! # The pooling call: a result row, a round of eight rows, a tile's task, and the launch -/

namespace Cert.Proof.Whole

open Cert.WholeIdeal Cert.WholeIdeal.Gen

open Cert.Proof.Pool (ixR ixC ixH ixI ixJ wOf maxUpTo act tileOut poolOut
  act_congr tileOut_eq read_rows read_lanes cast_out lanes_mem lanes_emb gather_row bigSep_five waits_weaken bigSep_tiles)
open Idealize.ShloMosaic
open Idealize.ShloMosaic.Memref (isWhole_whole)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

abbrev hV : Memref sig .scVector .hbm S32768x128 .f32 := Memref.whole main_v7_0_scv
abbrev jV : Memref sig .scVector .hbm S131072 .i32 := Memref.whole main_v24_scv
abbrev aV : Memref sig .scVector .hbm S128 .f32 := Memref.whole main_v21_scv
abbrev bV : Memref sig .scVector .hbm S128 .f32 := Memref.whole main_v23_scv
abbrev oV : Memref sig .scVector .hbm S8192x128 .f32 := Memref.whole main_v25_scv
abbrev idxS : Memref sig .scVector .vmem S4096 .i32 := Memref.whole cc3_scratch0
abbrev rowS : Memref sig .scVector .vmem S128x128 .f32 := Memref.whole cc3_scratch1
abbrev outS : Memref sig .scVector .vmem S256x128 .f32 := Memref.whole cc3_scratch2
abbrev scaS : Memref sig .scVector .vmem S128 .f32 := Memref.whole cc3_scratch3
abbrev shiS : Memref sig .scVector .vmem S128 .f32 := Memref.whole cc3_scratch4

/-! ## The program as the launch sees it, and its buffers -/

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev hLoc (d : Dev nD) : Loc nD τ sig := (SparseCore.T d).loc main_v7_0
abbrev jLoc (d : Dev nD) : Loc nD τ sig := (SparseCore.T d).loc main_v24
abbrev aLoc (d : Dev nD) : Loc nD τ sig := (SparseCore.T d).loc main_v21
abbrev bLoc (d : Dev nD) : Loc nD τ sig := (SparseCore.T d).loc main_v23
abbrev oLoc (d : Dev nD) : Loc nD τ sig := (SparseCore.T d).loc main_v25

theorem odiv : 32 ∣ S8192x128.size 0 := ⟨256, rfl⟩
/-- Tile `w`'s block of the result. -/
abbrev oBlk (w : Fin 32) : Rect S8192x128 := Rect.part (s := S8192x128) (a₀ := 0) odiv w
abbrev oBlkSet (w : Fin 32) : Finset S8192x128.Idx := (oV.view.slice (oBlk w)).set

/-- Share `w` of thirty-two of a buffer every tile reads. -/
abbrev sh (w : Fin 32) : PosShare TreeShare := pieceOf fullShare 32 (by decide) w

variable [FloatOps F]

section
variable (d : Dev nD) (L : grid3.Coords)

abbrev cT (L : grid3.Coords) : Fin τ.nSC := (L 0).castLE hcore3
abbrev sT (L : grid3.Coords) : Fin τ.nSub := (L 1).castLE hsub3
abbrev thr (d : Dev nD) (L : grid3.Coords) : Thread nD τ := V d (cT L) (sT L)

set_option maxHeartbeats 4000000 in
/-- One result row: the largest of its sixteen gathered rows, scaled, shifted and cut at zero. -/
theorem trip (k1 : Fin k3_t1_loop.trips) (k2 : Fin k3_t2_loop.trips) (x y : BitVec 32)
    (R : Buf (Elt F) (rowS.view.loc (thr d L))) (A : Buf (Elt F) (scaS.view.loc (thr d L)))
    (B : Buf (Elt F) (shiS.view.loc (thr d L))) (f : Buf (Elt F) (outS.view.loc (thr d L))) (Q : BitVec 32 → sProp 𝕄) :
    iprop((rowS.view.loc (thr d L) ↦{fullShare} R) ∗ (scaS.view.loc (thr d L) ↦{fullShare} A)
      ∗ (shiS.view.loc (thr d L) ↦{fullShare} B) ∗ (outS.view.loc (thr d L) ↦{fullShare} f)
      ∗ ((∃ f', ⌜∀ i : S256x128.Idx, f' i = if (i 0).val = 8 * k1.val + k2.val
              then act (fun r => R (ixR (16 * k2.val + r) (i 1).val)) (A (ixC (i 1).val)) (B (ixC (i 1).val)) else f i⌝
          ∗ (rowS.view.loc (thr d L) ↦{fullShare} R) ∗ (scaS.view.loc (thr d L) ↦{fullShare} A)
          ∗ (shiS.view.loc (thr d L) ↦{fullShare} B) ∗ (outS.view.loc (thr d L) ↦{fullShare} f')) -∗ Q 0#32))
      ⊢ wp frame (wpE (defs₀ (F := F)) 𝒱₀ (thr d L) none) Set.univ
          (k3_t2_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc3_scratch5 cc3_scoped0 cc3_scoped1 cc3_scoped2 cc3_scoped3 k1 x k2 y) Q := by
  iintro ⟨HR, HA, HB, HO, HQ⟩
  unfold k3_t2_body
  sl_exec
  sl_step
  iapply HQ
  iexists _
  isplitr
  swap
  · iframe HR HA HB HO
  ipureintro
  intro i
  sl_unfold_run_names
  have hmem := lanes_mem i (8 * k1.val + k2.val)
  have hemb := lanes_emb (8 * k1.val + k2.val)
  have key : ∀ g : Buf (Elt F) (outS.view.loc (thr d L)), g i = View.read (Elt F) outS.view g i := fun g => rfl
  refine (key _).trans ?_
  split
  · next h0 =>
    refine View.read_writes_apply_of_pieces outS.view f (fun i => act (fun r => R (ixR (16 * k2.val + r) (i 1).val)) (A (ixC (i 1).val)) (B (ixC (i 1).val))) _ ?_ i ?_
    · simp only [List.forall_mem_cons, List.not_mem_nil, false_imp_iff, implies_true, _root_.and_true]
      refine ⟨?_, ?_, ?_, ?_, ?_, ?_, ?_, ?_⟩ <;> intro x
      all_goals
        simp only [k3_pay1, k3_pay2, k3_pay3, k3_pay4, k3_pay5, k3_pay6, k3_pay7, k3_pay8, k3_pay9, k3_pay10, k3_pay11, k3_pay12, k3_pay13, k3_pay14,
          k3_pay15, k3_pay16, k3_pay17, k3_pay18, k3_pay19, k3_pay20, k3_pay21, k3_pay22, k3_pay23, k3_pay24, k3_pay25, read_rows (View.whole cc3_scratch1) R,
          read_lanes (View.whole cc3_scratch3) A, read_lanes (View.whole cc3_scratch4) B, View.read_whole]
        refine (cast_out _ _ x).trans ?_
      · rw [hemb _ _ _ (k3_off26_eq k1 k2) x]; rfl
      · rw [hemb _ _ _ (k3_off23_eq k1 k2) x]; rfl
      · rw [hemb _ _ _ (k3_off20_eq k1 k2) x]; rfl
      · rw [hemb _ _ _ (k3_off17_eq k1 k2) x]; rfl
      · rw [hemb _ _ _ (k3_off14_eq k1 k2) x]; rfl
      · rw [hemb _ _ _ (k3_off11_eq k1 k2) x]; rfl
      · rw [hemb _ _ _ (k3_off8_eq k1 k2) x]; rfl
      · rw [hemb _ _ _ (k3_off5_eq k1 k2) x]; rfl
    · simp only [List.exists_mem_cons_iff, List.not_mem_nil, _root_.false_and, exists_false, _root_.or_false]
      rw [hmem _ _ _ (k3_off5_eq k1 k2), hmem _ _ _ (k3_off8_eq k1 k2), hmem _ _ _ (k3_off11_eq k1 k2), hmem _ _ _ (k3_off14_eq k1 k2),
        hmem _ _ _ (k3_off17_eq k1 k2), hmem _ _ _ (k3_off20_eq k1 k2), hmem _ _ _ (k3_off23_eq k1 k2), hmem _ _ _ (k3_off26_eq k1 k2)]
      have := (i 1).isLt
      simp [S256x128] at this
      omega
  · next h0 =>
    refine (View.read_writes_apply_of_forall_not_mem outS.view f i _ ?_).trans (key f).symm
    simp only [List.forall_mem_cons, List.not_mem_nil, false_imp_iff, implies_true, _root_.and_true]
    rw [hmem _ _ _ (k3_off5_eq k1 k2), hmem _ _ _ (k3_off8_eq k1 k2), hmem _ _ _ (k3_off11_eq k1 k2), hmem _ _ _ (k3_off14_eq k1 k2),
      hmem _ _ _ (k3_off17_eq k1 k2), hmem _ _ _ (k3_off20_eq k1 k2), hmem _ _ _ (k3_off23_eq k1 k2), hmem _ _ _ (k3_off26_eq k1 k2)]
    omega

abbrev hAll : Memref sig .scVector .hbm S32768x128 .f32 :=
  hV.slice (Rect.unit (s := S32768x128) ![0, 0] S32768x128.size inb_S32768x128_S32768x128_0_0) (fun _ => rfl)
abbrev listK (k : Fin k3_t1_loop.trips) : Memref sig .scVector .vmem S128 .i32 :=
  idxS.slice (Rect.unit (s := S4096) (k3_off2 k) S128.size (k3_off2_inb k)) (fun _ => rfl)

omit [FloatOps F] in
theorem list_read (k : Fin k3_t1_loop.trips) (I : S4096.Idx → BitVec 32) (x : S128.Idx) :
    (listK k).view.read (Elt F) I x = I (ixI (128 * k.val + (x 0).val)) := by
  refine (View.read_apply _ _).trans ?_
  refine (cast_eq _ _).trans ?_
  refine congrArg I ?_
  have h := k3_off2_inb k 0
  have e := congrFun (k3_off2_eq k) 0
  have h2 := (x 0).isLt
  simp [S128, S4096] at h h2 e
  funext a
  fin_cases a
  refine Fin.ext ?_
  show k3_off2 k 0 + 1 * (x 0).val = (128 * k.val + (x 0).val) % 4096
  omega

/-- The rows one gather lands: row `a` is the table's row named by entry `a` of the list's stretch. -/
theorem gather_apply (k : Fin k3_t1_loop.trips) (H : S32768x128.Idx → F .f32) (I : S4096.Idx → BitVec 32) (hin)
    (a b : ℕ) (ha : a < 128) :
    SparseCore.gatherPayload (F := F) (e := .f32) gathers_S32768x128_S128x128 ((hAll).view.read (Elt F) H)
        (SparseCore.rows (F := F) ((listK k).view.read (Elt F) I) rfl hin) (ixR a b)
      = H (ixH (I (ixI (128 * k.val + a))).toNat b) := by
  refine (gather_row _ _ _ _ _ a b ha).trans ?_
  rw [list_read]
  refine (View.read_apply _ _).trans ((cast_eq _ _).trans (congrArg H ?_))
  funext c
  fin_cases c <;> exact Fin.ext ((Nat.zero_add _).trans (Nat.one_mul _))

set_option maxHeartbeats 4000000 in
/-- One round: a gather lands 128 rows, and eight rows of the result are pooled from them. -/
theorem round (k1 : Fin k3_t1_loop.trips) (y : BitVec 32) (q : PosShare TreeShare)
    (O : CellTallies nD τ sig (HIx 1)) (W : Waits sig (HIx 1))
    (H : Buf (Elt F) (hV.view.loc (thr d L))) (I : Buf (Elt F) (idxS.view.loc (thr d L)))
    (R : Buf (Elt F) (rowS.view.loc (thr d L))) (A : Buf (Elt F) (scaS.view.loc (thr d L)))
    (B : Buf (Elt F) (shiS.view.loc (thr d L))) (f : Buf (Elt F) (outS.view.loc (thr d L)))
    (hI : ∀ x : S4096.Idx, (show BitVec 32 from I x).toNat < 32768)
    (hf : ∀ i : S256x128.Idx, (i 0).val < 8 * k1.val → f i = tileOut H I A B i) (Q : BitVec 32 → sProp 𝕄) :
    iprop(Transfers.MayWaits (thr d L) (none : HIx 1) O
      ∗ (hV.view.loc (thr d L) ↦{q} H) ∗ (idxS.view.loc (thr d L) ↦{fullShare} I)
      ∗ (rowS.view.loc (thr d L) ↦{fullShare} R) ∗ (scaS.view.loc (thr d L) ↦{fullShare} A)
      ∗ (shiS.view.loc (thr d L) ↦{fullShare} B) ∗ (outS.view.loc (thr d L) ↦{fullShare} f)
      ∗ semVal (thr d L, SemLoc.dma cc3_scratch5.sem) 0 ∗ owes (thr d L) O W
      ∗ ((∃ R' f' W', ⌜∀ i : S256x128.Idx, (i 0).val < 8 * (k1.val + 1) → f' i = tileOut H I A B i⌝
          ∗ ⌜∀ p ∈ W', p ∈ W ∨ p.2 = none⌝
          ∗ (hV.view.loc (thr d L) ↦{q} H) ∗ (idxS.view.loc (thr d L) ↦{fullShare} I)
          ∗ (rowS.view.loc (thr d L) ↦{fullShare} R') ∗ (scaS.view.loc (thr d L) ↦{fullShare} A)
          ∗ (shiS.view.loc (thr d L) ↦{fullShare} B) ∗ (outS.view.loc (thr d L) ↦{fullShare} f')
          ∗ semVal (thr d L, SemLoc.dma cc3_scratch5.sem) 0 ∗ owes (thr d L) O W') -∗ Q 0#32))
      ⊢ wp frame (wpE (defs₀ (F := F)) 𝒱₀ (thr d L) none) Set.univ
          (k3_t1_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc3_scratch5 cc3_scoped0 cc3_scoped1 cc3_scoped2 cc3_scoped3 k1 y) Q := by
  have hin : ∀ x, ((listK k1).view.read (Elt F) I x).toNat < S32768x128.size (gathers_S32768x128_S128x128).axis := fun x => by
    rw [list_read]; exact hI _
  iintro ⟨#Hmw, HH, HI, HR, HA, HB, HO, Hsem, Howe, HQ⟩
  unfold k3_t1_body
  have hN : ∀ h : S32768x128.Gathers 0 S128x128, ∑ j, (rowS.slice (S128x128.rowRect h.axis' j) (S128x128.stride_rowRect h.axis' j)).view.dmaCredit
      = rowS.view.dmaCredit := by decide
  iapply (SparseCore.wp_gatherFromWhole countersEmb 𝒱₀ (thr d L) none (hg := gathers_S32768x128_S128x128) (default : HIx 1)
      rowS.view.dmaCredit (hN _) (by decide) hin) $$ [HH HR HI Hsem]
  · iframe HH HR HI Hsem
  iintro Hfl
  sl_exec
  iapply (Transfers.wp_waitLocalO countersEmb 𝒱₀ (thr d L) none (default : HIx 1) (rfl : rowS.view.dmaCredit = _)) $$ [Hfl Howe]
  · iframe Hfl Howe
    iapply (Transfers.MayWaits.elim (SemLoc.dma cc3_scratch5.sem)) $$ Hmw
  iintro ⟨⟨HR, HH, HI⟩, Hsem, Howe⟩
  have hR : ∀ a b, a < 128 → View.write (Elt F) rowS.view R (SparseCore.gatherPayload gathers_S32768x128_S128x128 ((hAll).view.read (Elt F) H)
        (SparseCore.rows ((listK k1).view.read (Elt F) I) rfl hin)) Finset.univ (ixR a b)
      = H (ixH (I (ixI (128 * k1.val + a))).toNat b) := fun a b ha => by
    refine (congrFun (View.write_whole_univ (Val := Elt F) cc3_scratch1 R _) _).trans ?_
    exact gather_apply k1 H I hin a b ha
  generalize View.write (Elt F) rowS.view R (SparseCore.gatherPayload gathers_S32768x128_S128x128 ((hAll).view.read (Elt F) H)
        (SparseCore.rows ((listK k1).view.read (Elt F) I) rfl hin)) Finset.univ = R' at hR
  sl_exec
  sl_for (fun (t : ℕ) (_ : BitVec 32) => iprop(∃ f', ⌜∀ i : S256x128.Idx, (i 0).val < 8 * k1.val + t → f' i = tileOut H I A B i⌝
      ∗ (rowS.view.loc (thr d L) ↦{fullShare} R') ∗ (scaS.view.loc (thr d L) ↦{fullShare} A)
      ∗ (shiS.view.loc (thr d L) ↦{fullShare} B) ∗ (outS.view.loc (thr d L) ↦{fullShare} f'))) $$ [HR HA HB HO]
  case region =>
    intro k2 acc
    iintro ⟨%f', %hf', HR, HA, HB, HO⟩
    iapply (trip d L k1 k2 _ acc R' A B f')
    iframe HR HA HB HO
    iintro ⟨%f'', %hf'', HR, HA, HB, HO⟩
    iexists f''
    isplitr
    · ipureintro
      intro i hi
      rw [hf'' i]
      split
      · next h0 =>
        have hk2 : k2.val < 8 := Nat.lt_of_lt_of_le k2.isLt k3_t2_abs.2.1
        refine act_congr (fun r hr => ?_)
        rw [hR _ _ (by omega)]
        exact congrArg (fun n => H (ixH (I (ixI n)).toNat (i 1).val)) (by omega)
      · next h0 => exact hf' i (by omega)
    iframe HR HA HB HO
  · iexists f
    isplitr
    · ipureintro; exact hf
    iframe HR HA HB HO
  iintro %_ ⟨%f', %hf', HR, HA, HB, HO⟩
  sl_step
  iapply HQ
  iexists R', f', _
  isplitr
  · ipureintro
    intro i hi
    exact hf' i (by have : Scf.trips k3_t2_loop.lb k3_t2_loop.ub k3_t2_loop.st = 8 := by decide
                    omega)
  isplitr
  swap
  · iframe HH HI HR HA HB HO Hsem Howe
  ipureintro; intro p hp
  rcases Finset.mem_insert.mp hp with hp | hp; · exact .inr (hp ▸ rfl)
  exact .inl hp

abbrev oBlkK : Memref sig .scVector .hbm S256x128 .f32 :=
  oV.slice (Rect.unit (s := S8192x128) (k3_off27 L) S256x128.size (k3_off27_inb L)) (fun _ => rfl)
abbrev jBlkK : Memref sig .scVector .hbm S4096 .i32 :=
  jV.slice (Rect.unit (s := S131072) (k3_off1 L) S4096.size (k3_off1_inb L)) (fun _ => rfl)

abbrev wL (L : grid3.Coords) : Fin 32 := wOf (L 0) (L 1)

omit [FloatOps F] in
theorem oBlkK_set : (oBlkK L).view.set = oBlkSet (wL L) := by
  have e : Rect.unit (s := S8192x128) (k3_off27 L) S256x128.size (k3_off27_inb L) = oBlk (wL L) := by
    unfold oBlk Rect.part Rect.block
    congr 1 <;> funext a
    · rw [k3_off27_eq]
      match a with
      | 0 => simp [Shape.partIx, Shape.partSize, wOf]; omega
      | 1 => simp [Shape.partIx, Shape.partSize]
    · match a with
      | 0 => simp [Shape.partSize]
      | 1 => simp [Shape.partSize]
  show (oV.view.slice (Rect.unit (s := S8192x128) (k3_off27 L) S256x128.size (k3_off27_inb L))).set = (oV.view.slice (oBlk (wL L))).set
  exact e ▸ rfl

abbrev cell (s : DmaSems sig S_) (d : Dev nD) (L : grid3.Coords) : GSem nD τ sig := (thr d L, .dma s.sem)

omit [FloatOps F] in
theorem ownSems0_V :
    (ownSems0 (thr d L) : sProp 𝕄)
      = iprop(semVal (cell cc3_scratch5 d L) 0 ∗ semVal (cell cc3_scoped0 d L) 0 ∗ semVal (cell cc3_scoped1 d L) 0
          ∗ semVal (cell cc3_scoped2 d L) 0 ∗ semVal (cell cc3_scoped3 d L) 0
          ∗ bigSep ((((((ownCells (thr d L)).erase (cell cc3_scratch5 d L)).erase (cell cc3_scoped0 d L)).erase (cell cc3_scoped1 d L)).erase
              (cell cc3_scoped2 d L)).erase (cell cc3_scoped3 d L)) fun g => semVal g 0) := by
  have hm : ∀ s : DmaSems sig S_, (SemLoc.dma s.sem : SemLoc sig).isScoped .scVector = true → cell s d L ∈ ownCells (thr d L) :=
    fun s h => mem_ownCells.mpr ⟨rfl, h⟩
  have hi : Function.Injective fun s : SemLoc sig => ((thr d L, s) : GSem nD τ sig) := fun _ _ e => (Prod.ext_iff.mp e).2
  refine bigSep_five ?_ ?_
  · simp only [List.forall_mem_cons]
    exact ⟨hm _ (by decide), hm _ (by decide), hm _ (by decide), hm _ (by decide), hm _ (by decide), fun _ h => absurd h List.not_mem_nil⟩
  · exact (List.nodup_map_iff hi (l := [.dma cc3_scoped3.sem, .dma cc3_scoped2.sem, .dma cc3_scoped1.sem, .dma cc3_scoped0.sem,
      .dma cc3_scratch5.sem])).mpr (by decide)

abbrev ref (b : Ref sig .scVector) (L : grid3.Coords) : DevRef τ sig := (Proc.scVector (cT L) (sT L)).devRef b

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ (∃ f, (thr d L).loc cc3_scratch4 ↦{fullShare} f)
          ∗ bigSep ((((((ownRefs (τ := τ) (.scVector (cT L) (sT L))).erase (ref cc3_scratch0 L)).erase (ref cc3_scratch1 L)).erase (ref cc3_scratch2 L)).erase
              (ref cc3_scratch3 L)).erase (ref cc3_scratch4 L)) fun b => iprop(∃ f, ((d, b) : Loc nD τ sig) ↦{fullShare} f)) := by
  have hm := fun b : Ref sig .scVector => SparseCore.Cfg.mem_ownRefs_of_owner (p := Proc.scVector (cT L) (sT L)) (b := ref b L)
  refine bigSep_five ?_ ?_
  · simp only [List.forall_mem_cons]
    exact ⟨hm _ rfl, hm _ rfl, hm _ rfl, hm _ rfl, hm _ rfl, fun _ h => absurd h List.not_mem_nil⟩
  · exact (List.nodup_map_iff (Proc.devRef_injective _) (l := [cc3_scratch4, cc3_scratch3, cc3_scratch2, cc3_scratch1,
      cc3_scratch0])).mpr (by decide)

omit [FloatOps F] in
/-- What the fetch of a tile's list reads: entry `x` is entry `4096 w + x` of the whole list. -/
theorem list_fetch (J : S131072.Idx → BitVec 32) (x : S4096.Idx) :
    (jBlkK L).view.read (Elt F) J x = J (ixJ (4096 * (wL L).val + (x 0).val)) := by
  refine (View.read_apply _ _).trans ((cast_eq _ _).trans (congrArg J ?_))
  have h := k3_off1_inb L 0
  have e := congrFun (k3_off1_eq L) 0
  have h2 := (x 0).isLt
  simp [S4096, S131072] at h h2 e
  funext a
  fin_cases a
  refine Fin.ext ?_
  show k3_off1 L 0 + 1 * (x 0).val = (4096 * (2 * (L 1).val + (L 0).val) + (x 0).val) % 131072
  omega

abbrev hPts (H : (d : Dev nD) → Buf (Elt F) (hLoc d)) (d : Dev nD) (w : Fin 32) : sProp 𝕄 := hLoc d ↦{sh w} H d
abbrev jPts (J : (d : Dev nD) → Buf (Elt F) (jLoc d)) (d : Dev nD) (w : Fin 32) : sProp 𝕄 := jLoc d ↦{sh w} J d
abbrev aPts (A : (d : Dev nD) → Buf (Elt F) (aLoc d)) (d : Dev nD) (w : Fin 32) : sProp 𝕄 := aLoc d ↦{sh w} A d
abbrev bPts (B : (d : Dev nD) → Buf (Elt F) (bLoc d)) (d : Dev nD) (w : Fin 32) : sProp 𝕄 := bLoc d ↦{sh w} B d
abbrev oPts (o : (d : Dev nD) → Buf (Elt F) (oLoc d)) (d : Dev nD) (w : Fin 32) : sProp 𝕄 := oLoc d ↦[oBlkSet w]{fullShare} o d

/-- The list tile `(i, j)` works from: its 4096 entries of the whole list. -/
def listOf (J : (d : Dev nD) → Buf (Elt F) (jLoc d)) (d : Dev nD) (L : grid3.Coords) : Buf (Elt F) (idxS.view.loc (thr d L)) :=
  fun x : S4096.Idx => J d (ixJ (4096 * (wL L).val + (x 0).val))

/-- The block written out holds the pooled rows: what the tile leaves at row `i` of its block is what the whole result
    is to hold at row `256 w + i`. -/
theorem block_out (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (f : S256x128.Idx → F .f32) (hf : ∀ i, f i = tileOut (H d) (listOf J d L) (A d) (B d) i) (y : S8192x128.Idx)
    (hy : y ∈ (oBlkK L).view.set) :
    (oBlkK L).view.writes (Elt F) (o d) [⟨Rect.whole S256x128, f⟩] y = poolOut (H d) (J d) (A d) (B d) y := by
  obtain ⟨x, -, rfl⟩ := Finset.mem_map.mp hy
  have h := congrFun (View.read_writes_whole (oBlkK L).view (o d) f) x
  refine ((View.read_apply _ _).trans (cast_eq _ _)).symm.trans (h.trans ((hf x).trans ?_))
  have hb := k3_off27_inb L 0
  have e0 := congrFun (k3_off27_eq L) 0
  have e1 := congrFun (k3_off27_eq L) 1
  have hx0 := (x 0).isLt
  have hx1 := (x 1).isLt
  simp [S256x128, S8192x128] at hb e0 e1 hx0 hx1
  have y0 : ((oBlkK L).view.emb x 0).val = 256 * (wL L).val + (x 0).val := by
    show k3_off27 L 0 + 1 * (x 0).val = 256 * (2 * (L 1).val + (L 0).val) + (x 0).val
    omega
  have y1 : ((oBlkK L).view.emb x 1).val = (x 1).val := by
    show k3_off27 L 1 + 1 * (x 1).val = (x 1).val
    omega
  exact tileOut_eq (H d) (J d) (A d) (B d) (wL L) x _ y0 y1

set_option maxHeartbeats 4000000 in
/-- The task of one tile: it fetches its list, the scale and the shift, gathers and pools thirty-two rounds of eight
    rows, and writes its block of the result. -/
theorem tile_body (hF : (K (F := F)).Facts) (H : (d : Dev nD) → Buf (Elt F) (hLoc d)) (J : (d : Dev nD) → Buf (Elt F) (jLoc d))
    (A : (d : Dev nD) → Buf (Elt F) (aLoc d)) (B : (d : Dev nD) → Buf (Elt F) (bLoc d)) (o : (d : Dev nD) → Buf (Elt F) (oLoc d))
    (hJ : ∀ d, ∀ x : S131072.Idx, (show BitVec 32 from J d x).toNat < 32768)
    (O : CellTallies nD τ sig (HIx 1)) (W : Waits sig (HIx 1)) (hO : ∀ g, O g none = 0) :
    iprop(levAts (K (F := F)).L (K (F := F)).lev ∗ emp
        ∗ (hPts H d (wL L) ∗ jPts J d (wL L) ∗ aPts A d (wL L) ∗ bPts B d (wL L) ∗ oPts o d (wL L))
        ∗ scopedBufs (thr d L) ∗ scopedSems0 (thr d L) ∗ owes (thr d L) O W)
      ⊢ wp frame (wpE (defs₀ (F := F)) 𝒱₀ (thr d L) none) Set.univ
          (cc3__sc_pool_body L hV (isWhole_whole _) jV (isWhole_whole _) aV (isWhole_whole _) bV (isWhole_whole _)
            oV (isWhole_whole _) idxS (isWhole_whole _) rowS (isWhole_whole _) outS (isWhole_whole _)
            scaS (isWhole_whole _) shiS (isWhole_whole _) cc3_scratch5 cc3_scoped0 cc3_scoped1 cc3_scoped2 cc3_scoped3)
          fun _ => iprop((hPts H d (wL L) ∗ jPts J d (wL L) ∗ aPts A d (wL L) ∗ bPts B d (wL L) ∗ oPts (fun d => poolOut (H d) (J d) (A d) (B d)) d (wL L))
            ∗ scopedBufs (thr d L) ∗ scopedSems0 (thr d L)
            ∗ ∃ W', ⌜∀ p ∈ W', p ∈ W ∨ p.2 = none⌝ ∗ owes (thr d L) O W') := by
  simp only [cc3__sc_pool_body_eq_skeleton]; unfold cc3__sc_pool_body_skel
  rw [(K (F := F)).scopedBufs_V hF d (cT L) (sT L), SparseCore.Cfg.scopedSems0_V (Val := Elt F) d (cT L) (sT L), ownSems0_V, ownBufs_V]
  iintro ⟨#Hlv, -, ⟨Hh, Hj, Ha, Hb, Ho⟩, ⟨⟨%f0, H0⟩, ⟨%f1, H1⟩, ⟨%f2, H2⟩, ⟨%f3, H3⟩, ⟨%f4, H4⟩, Hbufs⟩, ⟨Hg, Hs0, Hs1, Hs2, Hs3, Hsems⟩, HO⟩
  ihave #Hmw := (show levAts (K (F := F)).L (K (F := F)).lev ⊢ Transfers.MayWaits (thr d L) (default : HIx 1) O from
    (K (F := F)).mayWaits_none (thr := thr d L) hO) $$ Hlv
  ihave Hh' := (show hPts H d (wL L) ⊢ hV.view.loc (thr d L) ↦{sh (wL L)} H d from Entails.of_eq rfl) $$ Hh
  ihave Hj' := (show jPts J d (wL L) ⊢ jV.view.loc (thr d L) ↦{sh (wL L)} J d from Entails.of_eq rfl) $$ Hj
  ihave Ha' := (show aPts A d (wL L) ⊢ aV.view.loc (thr d L) ↦{sh (wL L)} A d from Entails.of_eq rfl) $$ Ha
  ihave Hb' := (show bPts B d (wL L) ⊢ bV.view.loc (thr d L) ↦{sh (wL L)} B d from Entails.of_eq rfl) $$ Hb
  ihave Ho' := (show oPts o d (wL L) ⊢ (oBlkK L).view.loc (thr d L) ↦[(oBlkK L).view.set]{fullShare} o d from
    Entails.of_eq (by rw [oBlkK_set])) $$ Ho
  ihave H0' := (show ((thr d L).loc cc3_scratch0 ↦{fullShare} f0 : sProp 𝕄) ⊢ idxS.view.loc (thr d L) ↦{fullShare} f0 from Entails.of_eq rfl) $$ H0
  ihave H1' := (show ((thr d L).loc cc3_scratch1 ↦{fullShare} f1 : sProp 𝕄) ⊢ rowS.view.loc (thr d L) ↦{fullShare} f1 from Entails.of_eq rfl) $$ H1
  ihave H2' := (show ((thr d L).loc cc3_scratch2 ↦{fullShare} f2 : sProp 𝕄) ⊢ outS.view.loc (thr d L) ↦{fullShare} f2 from Entails.of_eq rfl) $$ H2
  ihave H3' := (show ((thr d L).loc cc3_scratch3 ↦{fullShare} f3 : sProp 𝕄) ⊢ scaS.view.loc (thr d L) ↦{fullShare} f3 from Entails.of_eq rfl) $$ H3
  ihave H4' := (show ((thr d L).loc cc3_scratch4 ↦{fullShare} f4 : sProp 𝕄) ⊢ shiS.view.loc (thr d L) ↦{fullShare} f4 from Entails.of_eq rfl) $$ H4
  sl_exec
  have eI : View.write (Elt F) idxS.view f0 ((jBlkK L).view.read (Elt F) (J d)) Finset.univ
      = listOf J d L := by
    refine (View.write_whole_univ _ _ _).trans ?_
    funext x
    exact list_fetch L (J d) x
  have eA : View.write (Elt F) scaS.view f3 (aV.view.read (Elt F) (A d)) Finset.univ = A d :=
    View.write_whole_univ _ _ _
  have eB : View.write (Elt F) shiS.view f4 (bV.view.read (Elt F) (B d)) Finset.univ = B d :=
    View.write_whole_univ _ _ _
  sl_unfold_run_names
  rw [eI, eA, eB]
  sl_for (fun (t : ℕ) (_ : BitVec 32) => iprop(∃ (R' : Buf (Elt F) (rowS.view.loc (thr d L)))
        (f' : Buf (Elt F) (outS.view.loc (thr d L))) (W' : Waits sig (HIx 1)),
      ⌜∀ i : S256x128.Idx, (i 0).val < 8 * t → f' i = tileOut (H d) (listOf J d L) (A d) (B d) i⌝
      ∗ ⌜∀ p ∈ W', p ∈ W ∨ p.2 = none⌝
      ∗ Transfers.MayWaits (thr d L) (none : HIx 1) O
      ∗ (hV.view.loc (thr d L) ↦{sh (wL L)} H d)
      ∗ (idxS.view.loc (thr d L) ↦{fullShare} (listOf J d L))
      ∗ (rowS.view.loc (thr d L) ↦{fullShare} R')
      ∗ (scaS.view.loc (thr d L) ↦{fullShare} A d)
      ∗ (shiS.view.loc (thr d L) ↦{fullShare} B d)
      ∗ (outS.view.loc (thr d L) ↦{fullShare} f')
      ∗ semVal (thr d L, SemLoc.dma cc3_scratch5.sem) 0
      ∗ owes (thr d L) O W')) $$ [Hh' H0' H1' H3' H4' H2' Hg HO]
  case region =>
    iintro %k %acc ⟨%R', %f', %W', %hf, %hW, #Hmw, Hh, HI, HR, HA, HB, Hf, Hs, Howe⟩
    iapply (round d L k acc (sh (wL L)) O W' (H d) (listOf J d L) R' (A d) (B d) f' (fun x => hJ d _) hf)
      $$ [Hh HI HR HA HB Hf Hs Howe]
    isplitr; · iexact Hmw
    iframe Hh HI HR HA HB Hf Hs Howe
    iintro ⟨%R2, %f2', %W2, %hf2, %hW2, Hh, HI, HR, HA, HB, Hf, Hs, Howe⟩
    iexists R2, f2', W2
    isplitr; · ipureintro; exact hf2
    isplitr; · ipureintro; exact fun p hp => (hW2 p hp).elim (hW p) Or.inr
    isplitr; · iexact Hmw
    iframe Hh HI HR HA HB Hf Hs Howe
  · iexists f1, f2, _
    isplitr; · ipureintro; exact fun i hi => absurd hi (by omega)
    isplitr
    rotate_left
    · isplitr; · iexact Hmw
      iframe Hh' H0' H1' H3' H4' H2' Hg HO
    · ipureintro; intro p hp
      simp only [Finset.mem_insert] at hp
      rcases hp with h | h | h | h
      · exact Or.inr (h ▸ rfl)
      · exact Or.inr (h ▸ rfl)
      · exact Or.inr (h ▸ rfl)
      · exact Or.inl h
  iintro %acc ⟨%R', %f', %W', %hf, %hW, -, Hh, HI, HR, HA, HB, Hf, Hs, Howe⟩
  sl_exec
  sl_unfold_run_names
  have hout := block_out d L H J A B o f' (fun i => hf i (by
    have h1 : Scf.trips k3_t1_loop.lb k3_t1_loop.ub k3_t1_loop.st = 32 := by decide
    have := (i 0).isLt
    simp [S256x128] at this
    omega))
  sl_step
  isplitl [Hh Hj' Ha' Hb' Ho']
  · iframe Hh Hj' Ha' Hb'
    iapply (Entails.of_eq (show ((oBlkK L).view.loc (thr d L) ↦[(oBlkK L).view.set]{fullShare}
        (oBlkK L).view.writes (Elt F) (o d) [⟨Rect.whole S256x128, f'⟩] : sProp 𝕄)
        = oPts (fun d => poolOut (H d) (J d) (A d) (B d)) d (wL L) from
      (pointsTo_congr hout).trans (by rw [oBlkK_set])))
    iexact Ho'
  isplitl [HI HR HA HB Hf Hbufs]
  · isplitl [HI]; · iexists _; iexact HI
    isplitl [HR]; · iexists _; iexact HR
    isplitl [Hf]; · iexists _; iexact Hf
    isplitl [HA]; · iexists _; iexact HA
    isplitl [HB]; · iexists _; iexact HB
    iexact Hbufs
  isplitl [Hs Hs0 Hs1 Hs2 Hs3 Hsems]
  · iframe Hs Hs0 Hs1 Hs2 Hs3 Hsems
  iexists _; isplitr
  swap; · iexact Howe
  ipureintro; intro p hp
  rcases Finset.mem_insert.mp hp with hp | hp
  · exact .inr (hp ▸ rfl)
  · exact hW p hp

end

variable (H : (d : Dev nD) → Buf (Elt F) (hLoc d)) (J : (d : Dev nD) → Buf (Elt F) (jLoc d))
  (A : (d : Dev nD) → Buf (Elt F) (aLoc d)) (B : (d : Dev nD) → Buf (Elt F) (bLoc d)) (o : (d : Dev nD) → Buf (Elt F) (oLoc d))

/-! ## The launch: what the tiles are handed and what it takes back -/

/-- What tile `w` is handed, and (with the result's contents for `o`) what it hands back: a share of the table, of the
    list, of the scale and of the shift, and its own block of the result. -/
abbrev part (d : Dev nD) (w : Fin 32) : sProp 𝕄 :=
  iprop(hPts H d w ∗ jPts J d w ∗ aPts A d w ∗ bPts B d w ∗ oPts o d w)

/-- The result of the call on every device. -/
abbrev res (d : Dev nD) : Buf (Elt F) (oLoc d) := poolOut (H d) (J d) (A d) (B d)

/-- The tile of a core and a task of the call's grid. -/
abbrev wK (c : Fin ((K (F := F)).nCore 0)) (i : Fin ((K (F := F)).nSub 0)) : Fin 32 :=
  wOf (Fin.cast nCore_zero c) (Fin.cast nSub_zero i)

/-- What a core's sixteen tiles are handed. -/
abbrev parts (d : Dev nD) (c : Fin ((K (F := F)).nCore 0)) : sProp 𝕄 :=
  bigSep Finset.univ fun i : Fin ((K (F := F)).nSub 0) => part H J A B o d (wK c i)

/-- The call's payloads: a core is handed its sixteen tiles' parts, a tile its own. -/
def P : (K (F := F)).Pay (nD := nD) (Val := Elt F) (Name := ℕ) (U := UU) where
  st := fun q d c => match q with | 0 => parts H J A B o d c
  dn := fun q d c => match q with | 0 => parts H J A B (res H J A B) d c
  go := fun q d c i => match q with | 0 => part H J A B o d (wK c i)
  td := fun q d c i => match q with | 0 => part H J A B (res H J A B) d (wK c i)
  x := fun _ _ => iprop(emp)

instance P_storable : (P H J A B o).IsStorable where
  st q d c := match q with | 0 => inferInstanceAs (BI.Storable (upEmb : UEmb _ 𝕄) (parts H J A B o d c))
  dn q d c := match q with | 0 => inferInstanceAs (BI.Storable (upEmb : UEmb _ 𝕄) (parts H J A B (res H J A B) d c))
  go q d c i := match q with | 0 => inferInstanceAs (BI.Storable (upEmb : UEmb _ 𝕄) (part H J A B o d (wK c i)))
  td q d c i := match q with | 0 => inferInstanceAs (BI.Storable (upEmb : UEmb _ 𝕄) (part H J A B (res H J A B) d (wK c i)))

/-! ## The tasks' obligation and the split of a core's payload -/

/-- The place on the grid of a core and a subcore. -/
def place (c : Fin (grid3.bound 0)) (s : Fin (grid3.bound 1)) : grid3.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 3 ()
      = SparseCore.onTile hcore3 hsub3 (fun c s => cc3__sc_pool_body (place c s)
          hV (isWhole_whole _) jV (isWhole_whole _) aV (isWhole_whole _) bV (isWhole_whole _)
          oV (isWhole_whole _) idxS (isWhole_whole _) rowS (isWhole_whole _) outS (isWhole_whole _)
          scaS (isWhole_whole _) shiS (isWhole_whole _) cc3_scratch5 cc3_scoped0 cc3_scoped1 cc3_scoped2 cc3_scoped3) ⟨⟩ c s := rfl

theorem tileObl (hJ : ∀ d, ∀ x : S131072.Idx, (show BitVec 32 from J d x).toNat < 32768) :
    (K (F := F)).TileObl (D (F := F)) 𝒱 (P H J A B o) v₀ 0 := by
  intro d c i O W hO _ _
  simp only [show (P H J A B o).ox = fun _ _ => 0 from rfl, add_zero]
  have hci : ((K (F := F)).core 0 c).val < grid3.bound 0 ∧ ((K (F := F)).sub 0 i).val < grid3.bound 1 := ⟨c.isLt, i.isLt⟩
  change _ ⊢ wp _ _ _ (Pipeline.liftProg (defs₀ (F := F) (.scVector ((K (F := F)).core 0 c) ((K (F := F)).sub 0 i)) 3 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body d (place ⟨_, hci.1⟩ ⟨_, hci.2⟩) facts H J A B o hJ O W hO).trans (wp_mono frame _ _ fun _ => waits_weaken)

theorem vecSplit : (K (F := F)).VecSplit' (P H J A B o) 0 := by
  intro d c
  show parts H J A B o d c ⊢ |={Set.univ}=> iprop(parts H J A B o d c
      ∗ (parts H J A B (res H J A B) d c -∗ parts H J A B (res H J A B) d c))
  iintro Hp; imodintro
  isplitl [Hp]; · iexact Hp
  iintro Hq; iexact Hq

/-! ## The whole buffers, dealt to the tiles and gathered again -/

omit [FloatOps F] in
theorem oBlkSet_eq (w : Fin 32) : oBlkSet w = (oBlk w).set := by
  show ((View.whole (main_v25_scv : Ref sig .scVector)).slice (oBlk w)).set = _
  rw [View.set_slice]; exact Finset.map_refl

omit [FloatOps F] in
theorem oPts_blocks (d : Dev nD) (f : Buf (Elt F) (oLoc d)) :
    (oLoc d ↦{fullShare} f : sProp 𝕄) = bigSep Finset.univ fun w : Fin 32 => oLoc d ↦[oBlkSet w]{fullShare} f := by
  have hd : ∀ i ∈ (Finset.univ : Finset (Fin 32)), ∀ j ∈ (Finset.univ : Finset (Fin 32)), i ≠ j → Disjoint (oBlkSet i) (oBlkSet j) :=
    fun i _ j _ h => by rw [oBlkSet_eq, oBlkSet_eq]; exact Rect.part_disjoint odiv h
  have hc : (Finset.univ : Finset (Fin 32)).biUnion oBlkSet = Finset.univ :=
    (Finset.biUnion_congr rfl fun i _ => oBlkSet_eq i).trans (Rect.biUnion_part odiv)
  rw [← pointsTo_biUnion Finset.univ (ℓ := oLoc d) oBlkSet hd, hc]; try rfl

/-- The five buffers whole are the tiles' parts. -/
theorem whole_eq (o' : (d : Dev nD) → Buf (Elt F) (oLoc d)) (d : Dev nD) :
    (iprop((hLoc d ↦{fullShare} H d) ∗ (jLoc d ↦{fullShare} J d) ∗ (aLoc d ↦{fullShare} A d) ∗ (bLoc d ↦{fullShare} B d)
        ∗ (oLoc d ↦{fullShare} o' d)) : sProp 𝕄)
      = bigSep Finset.univ fun c => parts H J A B o' d c := by
  refine Eq.trans ?_ (bigSep_tiles fun w => part H J A B o' d w)
  rw [bigSep_sep', bigSep_sep', bigSep_sep', bigSep_sep', oPts_blocks,
    pointsTo_piecesOf (ℓ := hLoc d) Finset.univ (H d) (o := 32) (by decide) fullShare,
    pointsTo_piecesOf (ℓ := jLoc d) Finset.univ (J d) (o := 32) (by decide) fullShare,
    pointsTo_piecesOf (ℓ := aLoc d) Finset.univ (A d) (o := 32) (by decide) fullShare,
    pointsTo_piecesOf (ℓ := bLoc d) Finset.univ (B d) (o := 32) (by decide) fullShare]

/-! ## The ghost state the launch starts from -/

omit [FloatOps F] in
theorem emp_all {I : Type} (s : Finset I) : (bigSep s fun _ => iprop(emp)) = (iprop(emp) : sProp 𝕄) := bigSep_emp_const s

/-- The launch's element: the calls' cells, the staging cells of the calls before it, and no counter. -/
def u₀ : UU := ((initOf (K (F := F)).hsCells (K (F := F)).hsToks,
  initOf (Pipeline.cells (nD := nD) (τ := τ) cfgs cellOf_inj) (Pipeline.launchToks (nD := nD) (τ := τ) cfgs cellOf_inj)), 1)

/-- What device `d` has of the staging cells of the calls before it. -/
abbrev stage (d : Dev nD) : sProp 𝕄 :=
  iprop((bigSep Finset.univ fun p : Fin 3 => Pipeline.cellsGhost cfgs (EP (F := F)) p d)
    ∗ bigSep Finset.univ fun p : Fin 3 => Pipeline.toksInit cfgs (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => stage d)
        ∗ bigSep Finset.univ fun thr : Thread nD τ => bigSep Finset.univ fun q : Fin 1 => (P H J A B o).x q thr) := by
  unfold u₀
  iintro Hu
  ihave Hp := (ownU_pair (initOf (K (F := F)).hsCells (K (F := F)).hsToks,
    initOf (Pipeline.cells (nD := nD) (τ := τ) cfgs cellOf_inj) (Pipeline.launchToks (nD := nD) (τ := τ) cfgs cellOf_inj)) (1 : Counters)) $$ Hu
  icases Hp with ⟨HB, -⟩
  ihave Hq := (own_pair_emb _ _ _) $$ HB
  icases Hq with ⟨HH, HP⟩
  imod (Pipeline.fund_ghost cfgs (EP (F := F)) cellOf_inj) $$ HP with ⟨Hg, Ht⟩
  imodintro
  isplitl [HH]; · iexact HH
  isplitl [Hg Ht]
  · rw [bigSep_sep']
    iframe Hg Ht
  rw [show (bigSep Finset.univ fun thr : Thread nD τ => bigSep Finset.univ fun q : Fin 1 => (P H J A B o).x q thr) = bigSep Finset.univ fun _ => iprop(emp) from
    bigSep_congr fun _ _ => bigSep_univ_of_subsingleton (0 : Fin 1), emp_all]
  iempintro

end Cert.Proof.Whole

end
-- ==== Proof.Whole.Region.lean ====
module

public import proofs.«01_k».proof.Proof.Whole.Tile
public import proofs.«01_k».proof.Proof.Gen.WholeIdeal.Points
public import Idealize.ShloMosaic.Lib.Pipeline.FrameBody
public import Idealize.ShloMosaic.Lib.Pipeline.FrameSuffix
public import Idealize.ShloMosaic.Lib.Ring
public import Idealize.ShloMosaic.Lib.WordCmp
public import proofs.«01_k».proof.Proof.Moments.Block

@[expose] public section

set_option maxRecDepth 16384

noncomputable section

namespace Cert.Proof.Whole

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The points of the feature call: what each block of the grid finds in memory, and which of the three cases it is (the first block, one between, or the last) -/

variable (M : Dev nD → Valuation τ sig (Elt F))

/-- What the feature call finds in memory, as the core names its buffers. -/
abbrev enter (c : Dev nD) (b : Ref sig .tc) : Buf (Elt F) ((c : Thread nD τ).loc b) := M c (Proc.devRef .tc b)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (enter M c (Pipeline.arrRef spec2 w))

theorem before0_0_of {c : Dev nD} (dat : Dat τ (Elt F) (HIx 1) ℕ UU ℕ cfg2 c) (hA : dat.A 0 = enter M c (Pipeline.arrRef spec2 0))
    (hafter : ∀ t, dat.after 0 t = iblk M c 0 t) (t : Fin cfg2.N) (d) : dat.before 0 t d = iblk M c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) (HIx 1) ℕ UU ℕ cfg2 c) (hA : dat.A 1 = enter M c (Pipeline.arrRef spec2 1))
    (hafter : ∀ t, dat.after 1 t = iblk M c 1 t) (t : Fin cfg2.N) (d) : dat.before 1 t d = iblk M c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid2.Coords) : Prop := (Scalar.cmpi .ne (Scalar.extui (Scalar.cmpi .eq (BitVec.ofNat 32 (i 0).val) 0#32)) 0#32) = 1#1

theorem hcond0_0 : ∀ t : Fin cfg2.N, cond0_0 (grid2.coords t) ↔ t.val % 64 = 0 :=
  (fun t => by
    have ht : t.val < 64 := Nat.lt_of_lt_of_eq t.isLt N_2
    have e0 : (grid2.coords t 0).val = t.val / 1 % 64 := Pipeline.Grid.coords_val t 0 (by decide) rfl
    simp only [cond0_0, e0]
    word_cmp
   : ∀ t : Fin grid2.N, cond0_0 (grid2.coords t) ↔ t.val % 64 = 0)

abbrev cond0_1 (i : grid2.Coords) : Prop := k2_cond2 i = 1#1

theorem hcond0_1 : ∀ t : Fin cfg2.N, cond0_1 (grid2.coords t) ↔ t.val % 64 = 63 :=
  (fun t => by
    have ht : t.val < 64 := Nat.lt_of_lt_of_eq t.isLt N_2
    have e0 : (grid2.coords t 0).val = t.val / 1 % 64 := Pipeline.Grid.coords_val t 0 (by decide) rfl
    simp only [cond0_1, k2_cond2, e0]
    word_cmp
   : ∀ t : Fin grid2.N, cond0_1 (grid2.coords t) ↔ t.val % 64 = 63)

theorem liveAt0_0 : ∀ t : Fin cfg2.N, cfg2.idle 0 (grid2.coords t) = false := fun _ => rfl

theorem liveAt0_1 : ∀ t : Fin cfg2.N, cfg2.idle 1 (grid2.coords t) = false := fun _ => rfl

theorem liveAt0_2 : ∀ t : Fin cfg2.N, cfg2.idle 2 (grid2.coords t) = false := fun _ => rfl

theorem idleAt0_3_A : ∀ t : Fin cfg2.N, cond0_0 (grid2.coords t) → ¬cond0_1 (grid2.coords t) → cfg2.idle 3 (grid2.coords t) = true := by decide +kernel

theorem noFlush0_3_A : ∀ t : Fin cfg2.N, cond0_0 (grid2.coords t) → ¬cond0_1 (grid2.coords t) → (cfg2.win 3).flush t = false := by decide +kernel

theorem idleAt0_3_B : ∀ t : Fin cfg2.N, ¬cond0_0 (grid2.coords t) → ¬cond0_1 (grid2.coords t) → cfg2.idle 3 (grid2.coords t) = true := by decide +kernel

theorem noFlush0_3_B : ∀ t : Fin cfg2.N, ¬cond0_0 (grid2.coords t) → ¬cond0_1 (grid2.coords t) → (cfg2.win 3).flush t = false := by decide +kernel

theorem liveAt0_3_C : ∀ t : Fin cfg2.N, ¬cond0_0 (grid2.coords t) → cond0_1 (grid2.coords t) → cfg2.idle 3 (grid2.coords t) = false := by decide +kernel

abbrev VO0_2 : View sig .tc .vmem S512x128 .f32 := (Memref.whole cc2_stg2_0 : Memref sig .tc .vmem S512x128 .f32).view

abbrev VO0_3 : View sig .tc .vmem S8x128 .f32 := (Memref.whole cc2_stg3_0 : Memref sig .tc .vmem S8x128 .f32).view

abbrev ms2_0 (t : Fin cfg2.N) : Memref sig .tc .vmem S512x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x128 .f32 := win2_3.stage (cfg2.slots t 3)
abbrev hs2_3 (t : Fin cfg2.N) : (ms2_3 t).IsWhole := hstage2_3 ((cfg2.slots t 3).cast nbuf2_3)

abbrev scM0_0 : Memref sig .tc .vmem S8x128 .f32 := Memref.whole cc2_scratch0

abbrev VS0_0 : View sig .tc .vmem S8x128 .f32 := scM0_0.view

/-- The other calls' staging buffers, at anything, and the generator's register at some state. -/
def others (c : Dev nD) : sProp 𝕄 :=
  iprop(((∃ v, (c : Thread nD τ).loc cc0_stg0_0 ↦{fullShare} v) ∗ (∃ v, (c : Thread nD τ).loc cc0_stg1_0 ↦{fullShare} v)
    ∗ (∃ v, (c : Thread nD τ).loc cc1_stg0_0 ↦{fullShare} v) ∗ (∃ v, (c : Thread nD τ).loc cc1_stg1_0 ↦{fullShare} v)
    ∗ (∃ v, (c : Thread nD τ).loc cc1_stg1_1 ↦{fullShare} v) ∗ (∃ v, (c : Thread nD τ).loc cc1_stg2_0 ↦{fullShare} v)
    ∗ (∃ v, (c : Thread nD τ).loc cc1_stg2_1 ↦{fullShare} v)) ∗ (∃ r, prngReg c r))

/-- Before the first point: the scratch at anything, and the rest. -/
def start (c : Dev nD) : sProp 𝕄 := iprop(Pipeline.scopedRest spec2 c ∗ (∃ r, prngReg c r))

theorem start_of (c : Dev nD) : (start c : sProp 𝕄) ⊢ iprop(iprop((∃ d, owns (c : Thread nD τ) scM0_0 fullShare d)) ∗ others c) := by
  unfold start others; rw [scopedRest2_eq]; simp only [scM0_0, owns_whole]
  iintro ⟨⟨H0, H1, H2, H3, H4, H5, H6, HS⟩, Hg⟩
  isplitl [HS]; · iexact HS
  isplitr [Hg]
  · iframe H0 H1 H2 H3 H4
    isplitl [H5] <;> iassumption
  iexact Hg

theorem of_start (c : Dev nD) : iprop(iprop((∃ d, owns (c : Thread nD τ) scM0_0 fullShare d)) ∗ others c) ⊢ (start c : sProp 𝕄) := by
  unfold start others; rw [scopedRest2_eq]; simp only [scM0_0, owns_whole]
  iintro ⟨HS, ⟨⟨H0, H1, H2, H3, H4, H5, H6⟩, Hg⟩⟩
  isplitr [Hg]
  · iframe H0 H1 H2 H3 H4 H5
    isplitl [H6] <;> iassumption
  iexact Hg

theorem PhiA0_eq (c : Dev nD) :
    (start c : sProp 𝕄) = iprop(iprop((∃ d, owns (c : Thread nD τ) scM0_0 fullShare d)) ∗ others c) :=
  Entails.antisymm (start_of c) (of_start c)

/-! # The feature call as a whole: the running sums after each block, and that every block does its part -/

/-! What each case leaves in its results and in the sums (`A` the first block, `B` one between, `C` the last). -/

section Cases

variable (c : Dev nD) (i : grid2.Coords) (arg1 : Memref sig .tc .vmem S512x64 .f32) (harg1 : arg1.IsWhole)
  (arg2 : Memref sig .tc .vmem S64x128 .f32) (harg2 : arg2.IsWhole) (arg3 : Memref sig .tc .vmem S512x128 .f32) (harg3 : arg3.IsWhole)
  (arg4 : Memref sig .tc .vmem S8x128 .f32) (harg4 : arg4.IsWhole) (arg5 : Memref sig .tc .vmem S8x128 .f32) (harg5 : arg5.IsWhole)

section A

variable (hc0 : cond0_0 i) (hc1 : ¬cond0_1 i) (x0 : Vec F S512x64 .f32) (x1 : Vec F S64x128 .f32)

set_option maxHeartbeats 1000000 in

def kernelRun0_A :
    Σ' (L2 : List (View.Piece (Elt F) S512x128 .f32)), Σ' (L3 : List (View.Piece (Elt F) S8x128 .f32)), { LS0 : List (View.Piece (Elt F) S8x128 .f32) //
      ∀ (xi3 : Vec F S8x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) 𝒱₀ c none) E (cc2__mlp_body i arg1 harg1 arg2 harg2 arg3 harg3 arg4 harg4 arg5 harg5) K } := by
  refine ⟨?_, [], ?_, fun xi3 E K => ?run⟩
  case run =>
    simp only [cc2__mlp_body_eq_skeleton]; unfold cc2__mlp_body_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

theorem cover0_A_2 (y : S512x128.Idx) :
    ∃ pc ∈ (kernelRun0_A c i _ harg1 _ harg2 _ harg3 _ harg4 _ harg5 hc0 hc1 x0 x1).1, y ∈ pc.1.set :=
  View.cover_of_tiledL _ S512x128.size (by sl_kernel_rfl) y

def out0_A_2 : Vec F S512x128 .f32 :=
  VO0_2.read (Elt F) (VO0_2.writes (Elt F) VO0_2.junk (kernelRun0_A c i _ harg1 _ harg2 _ harg3 _ harg4 _ harg5 hc0 hc1 x0 x1).1)

def out0_A_3 : Vec F S8x128 .f32 :=
  VO0_3.read (Elt F) (VO0_3.writes (Elt F) VO0_3.junk (kernelRun0_A c i _ harg1 _ harg2 _ harg3 _ harg4 _ harg5 hc0 hc1 x0 x1).2.1)

theorem scover0_A_0 (y : S8x128.Idx) :
    ∃ pc ∈ (kernelRun0_A c i _ harg1 _ harg2 _ harg3 _ harg4 _ harg5 hc0 hc1 x0 x1).2.2.1, y ∈ pc.1.set :=
  View.cover_of_wholeMem _ (by sl_whole_mem) y

def sout0_A_0 : Vec F S8x128 .f32 :=
  VS0_0.read (Elt F) (VS0_0.writes (Elt F) VS0_0.junk (kernelRun0_A c i _ harg1 _ harg2 _ harg3 _ harg4 _ harg5 hc0 hc1 x0 x1).2.2.1)

end A

section B

variable (hc0 : ¬cond0_0 i) (hc1 : ¬cond0_1 i) (x0 : Vec F S512x64 .f32) (x1 : Vec F S64x128 .f32) (xs0 : Vec F S8x128 .f32)

set_option maxHeartbeats 1000000 in

def kernelRun0_B :
    Σ' (L2 : List (View.Piece (Elt F) S512x128 .f32)), Σ' (L3 : List (View.Piece (Elt F) S8x128 .f32)), { LS0 : List (View.Piece (Elt F) S8x128 .f32) //
      ∀ (xi3 : Vec F S8x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (arg5.view.loc (c : Thread nD τ) ↦[arg5.view.set]{fullShare} arg5.view.writes (Elt F) (harg5.unread xs0) LS0)) -∗ K ⟨⟩))
          ⊢ wp frame (wpE (defs₀ (F := F)) 𝒱₀ c none) E (cc2__mlp_body i arg1 harg1 arg2 harg2 arg3 harg3 arg4 harg4 arg5 harg5) K } := by
  refine ⟨?_, [], ?_, fun xi3 E K => ?run⟩
  case run =>
    simp only [cc2__mlp_body_eq_skeleton]; unfold cc2__mlp_body_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexact HS0

theorem cover0_B_2 (y : S512x128.Idx) :
    ∃ pc ∈ (kernelRun0_B c i _ harg1 _ harg2 _ harg3 _ harg4 _ harg5 hc0 hc1 x0 x1 xs0).1, y ∈ pc.1.set :=
  View.cover_of_tiledL _ S512x128.size (by sl_kernel_rfl) y

def out0_B_2 : Vec F S512x128 .f32 :=
  VO0_2.read (Elt F) (VO0_2.writes (Elt F) VO0_2.junk (kernelRun0_B c i _ harg1 _ harg2 _ harg3 _ harg4 _ harg5 hc0 hc1 x0 x1 xs0).1)

def out0_B_3 : Vec F S8x128 .f32 :=
  VO0_3.read (Elt F) (VO0_3.writes (Elt F) VO0_3.junk (kernelRun0_B c i _ harg1 _ harg2 _ harg3 _ harg4 _ harg5 hc0 hc1 x0 x1 xs0).2.1)

def sout0_B_0 : Vec F S8x128 .f32 :=
  arg5.view.read (Elt F) (arg5.view.writes (Elt F) (harg5.unread xs0) (kernelRun0_B c i _ harg1 _ harg2 _ harg3 _ harg4 _ harg5 hc0 hc1 x0 x1 xs0).2.2.1)

end B

section C

variable (hc0 : ¬cond0_0 i) (hc1 : cond0_1 i) (x0 : Vec F S512x64 .f32) (x1 : Vec F S64x128 .f32) (xs0 : Vec F S8x128 .f32)

set_option maxHeartbeats 1000000 in

def kernelRun0_C :
    Σ' (L2 : List (View.Piece (Elt F) S512x128 .f32)), Σ' (L3 : List (View.Piece (Elt F) S8x128 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xs0) LS0)) -∗ K ⟨⟩))
          ⊢ wp frame (wpE (defs₀ (F := F)) 𝒱₀ c none) E (cc2__mlp_body i arg1 harg1 arg2 harg2 arg3 harg3 arg4 harg4 arg5 harg5) K } := by
  refine ⟨?_, ?_, ?_, fun E K => ?run⟩
  case run =>
    simp only [cc2__mlp_body_eq_skeleton]; unfold cc2__mlp_body_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexact HS0

theorem cover0_C_2 (y : S512x128.Idx) :
    ∃ pc ∈ (kernelRun0_C c i _ harg1 _ harg2 _ harg3 _ harg4 _ harg5 hc0 hc1 x0 x1 xs0).1, y ∈ pc.1.set :=
  View.cover_of_tiledL _ S512x128.size (by sl_kernel_rfl) y

def out0_C_2 : Vec F S512x128 .f32 :=
  VO0_2.read (Elt F) (VO0_2.writes (Elt F) VO0_2.junk (kernelRun0_C c i _ harg1 _ harg2 _ harg3 _ harg4 _ harg5 hc0 hc1 x0 x1 xs0).1)

theorem cover0_C_3 (y : S8x128.Idx) :
    ∃ pc ∈ (kernelRun0_C c i _ harg1 _ harg2 _ harg3 _ harg4 _ harg5 hc0 hc1 x0 x1 xs0).2.1, y ∈ pc.1.set :=
  View.cover_of_tiledL _ S8x128.size (by sl_kernel_rfl) y

def out0_C_3 : Vec F S8x128 .f32 :=
  VO0_3.read (Elt F) (VO0_3.writes (Elt F) VO0_3.junk (kernelRun0_C c i _ harg1 _ harg2 _ harg3 _ harg4 _ harg5 hc0 hc1 x0 x1 xs0).2.1)

def sout0_C_0 : Vec F S8x128 .f32 :=
  arg5.view.read (Elt F) (arg5.view.writes (Elt F) (harg5.unread xs0) (kernelRun0_C c i _ harg1 _ harg2 _ harg3 _ harg4 _ harg5 hc0 hc1 x0 x1 xs0).2.2.1)

end C

end Cases

/-! What block `t` leaves: its features, the sums written out, and the running sums, begun at `xs`. -/

abbrev leftA (c : Dev nD) (t : Fin cfg2.N) (h0 : t.val % 64 = 0) (h1 : ¬t.val % 64 = 63) :
    Vec F S512x128 .f32 × Vec F S8x128 .f32 × Vec F S8x128 .f32 :=
  (out0_A_2 c (grid2.coords t) _ (hs2_0 t) _ (hs2_1 t) _ (hs2_2 t) _ (hs2_3 t) scM0_0 (Memref.isWhole_whole _) ((hcond0_0 t).mpr h0) (mt (hcond0_1 t).mp h1) (iblk M c 0 t) (iblk M c 1 t),
    out0_A_3 c (grid2.coords t) _ (hs2_0 t) _ (hs2_1 t) _ (hs2_2 t) _ (hs2_3 t) scM0_0 (Memref.isWhole_whole _) ((hcond0_0 t).mpr h0) (mt (hcond0_1 t).mp h1) (iblk M c 0 t) (iblk M c 1 t),
    sout0_A_0 c (grid2.coords t) _ (hs2_0 t) _ (hs2_1 t) _ (hs2_2 t) _ (hs2_3 t) scM0_0 (Memref.isWhole_whole _) ((hcond0_0 t).mpr h0) (mt (hcond0_1 t).mp h1) (iblk M c 0 t) (iblk M c 1 t))

abbrev leftB (c : Dev nD) (t : Fin cfg2.N) (h0 : ¬t.val % 64 = 0) (h1 : ¬t.val % 64 = 63) (xs : Vec F S8x128 .f32) :
    Vec F S512x128 .f32 × Vec F S8x128 .f32 × Vec F S8x128 .f32 :=
  (out0_B_2 c (grid2.coords t) _ (hs2_0 t) _ (hs2_1 t) _ (hs2_2 t) _ (hs2_3 t) scM0_0 (Memref.isWhole_whole _) (mt (hcond0_0 t).mp h0) (mt (hcond0_1 t).mp h1) (iblk M c 0 t) (iblk M c 1 t) xs,
    out0_B_3 c (grid2.coords t) _ (hs2_0 t) _ (hs2_1 t) _ (hs2_2 t) _ (hs2_3 t) scM0_0 (Memref.isWhole_whole _) (mt (hcond0_0 t).mp h0) (mt (hcond0_1 t).mp h1) (iblk M c 0 t) (iblk M c 1 t) xs,
    sout0_B_0 c (grid2.coords t) _ (hs2_0 t) _ (hs2_1 t) _ (hs2_2 t) _ (hs2_3 t) scM0_0 (Memref.isWhole_whole _) (mt (hcond0_0 t).mp h0) (mt (hcond0_1 t).mp h1) (iblk M c 0 t) (iblk M c 1 t) xs)

abbrev leftC (c : Dev nD) (t : Fin cfg2.N) (h0 : ¬t.val % 64 = 0) (h1 : t.val % 64 = 63) (xs : Vec F S8x128 .f32) :
    Vec F S512x128 .f32 × Vec F S8x128 .f32 × Vec F S8x128 .f32 :=
  (out0_C_2 c (grid2.coords t) _ (hs2_0 t) _ (hs2_1 t) _ (hs2_2 t) _ (hs2_3 t) scM0_0 (Memref.isWhole_whole _) (mt (hcond0_0 t).mp h0) ((hcond0_1 t).mpr h1) (iblk M c 0 t) (iblk M c 1 t) xs,
    out0_C_3 c (grid2.coords t) _ (hs2_0 t) _ (hs2_1 t) _ (hs2_2 t) _ (hs2_3 t) scM0_0 (Memref.isWhole_whole _) (mt (hcond0_0 t).mp h0) ((hcond0_1 t).mpr h1) (iblk M c 0 t) (iblk M c 1 t) xs,
    sout0_C_0 c (grid2.coords t) _ (hs2_0 t) _ (hs2_1 t) _ (hs2_2 t) _ (hs2_3 t) scM0_0 (Memref.isWhole_whole _) (mt (hcond0_0 t).mp h0) ((hcond0_1 t).mpr h1) (iblk M c 0 t) (iblk M c 1 t) xs)

/-- The block of features, the sums written out, and the running sums, after block `n`. -/
def outsAt0 (c : Dev nD) : (n : ℕ) → n < cfg2.N → Vec F S512x128 .f32 × Vec F S8x128 .f32 × Vec F S8x128 .f32
  | 0, hn => leftA M c ⟨0, hn⟩ (Nat.zero_mod _) (by show ¬0 % 64 = 63; omega)
  | n + 1, hn =>
    if h0 : (n + 1) % 64 = 0 then
      if h1 : (n + 1) % 64 = 63 then
        False.elim (by have hN : n + 1 < 64 := lt_of_lt_of_eq hn (show cfg2.N = 64 from N_2); omega)
      else leftA M c ⟨n + 1, hn⟩ h0 h1
    else
      if h1 : (n + 1) % 64 = 63 then leftC M c ⟨n + 1, hn⟩ h0 h1 (outsAt0 c n (Nat.lt_of_succ_lt hn)).2.2
      else leftB M c ⟨n + 1, hn⟩ h0 h1 (outsAt0 c n (Nat.lt_of_succ_lt hn)).2.2

theorem outsAt0_A (c : Dev nD) (t : Fin cfg2.N) (h0 : t.val % 64 = 0) (h1 : ¬t.val % 64 = 63) :
    outsAt0 M c t.val t.isLt = leftA M c t h0 h1 := by
  obtain ⟨n, hn⟩ := t
  cases n with
  | zero => exact rfl
  | succ n => exact (dif_pos h0).trans ((dif_neg h1).trans rfl)

theorem outsAt0_B (c : Dev nD) (t : Fin cfg2.N) (h0 : ¬t.val % 64 = 0) (h1 : ¬t.val % 64 = 63) :
    outsAt0 M c t.val t.isLt = leftB M c t h0 h1 (outsAt0 M c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg2.N) (h0 : ¬t.val % 64 = 0) (h1 : t.val % 64 = 63) :
    outsAt0 M c t.val t.isLt = leftC M c t h0 h1 (outsAt0 M c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The running sums' buffer before block `n`: anything at first, then what the block before left. -/
def PhiS (c : Dev nD) : (n : ℕ) → n ≤ cfg2.N → sProp 𝕄
  | 0, _ => start c
  | n + 1, hn => iprop(iprop(owns (c : Thread nD τ) scM0_0 fullShare ((outsAt0 M c n hn).2.2)) ∗ others c)

theorem PhiS_zero (c : Dev nD) (n : ℕ) (h : n ≤ cfg2.N) (hz : n = 0) : PhiS M c n h = start c := by
  subst hz; rfl

theorem PhiS_succ (c : Dev nD) (n : ℕ) (hn : n < cfg2.N) :
    PhiS M c (n + 1) hn = iprop(iprop(owns (c : Thread nD τ) scM0_0 fullShare ((outsAt0 M c n hn).2.2)) ∗ others c) := rfl

theorem PhiS_pos (c : Dev nD) (n : ℕ) (h : n ≤ cfg2.N) (hz : n ≠ 0) :
    PhiS M c n h = iprop(iprop(owns (c : Thread nD τ) scM0_0 fullShare ((outsAt0 M c (n - 1) (by omega)).2.2)) ∗ others c) := by
  cases n with
  | zero => exact absurd rfl hz
  | succ n => rfl

/-- The feature call's arrays, and what its blocks leave in them. -/
def dat2 (c : Dev nD) : Dat τ (Elt F) (HIx 1) ℕ UU ℕ cfg2 c where
  A w := enter M c (Pipeline.arrRef spec2 w)
  after w t := match w with
    | ⟨0, _⟩ => iblk M c 0 t
    | ⟨1, _⟩ => iblk M c 1 t
    | ⟨2, _⟩ => (outsAt0 M c t.val t.isLt).1
    | ⟨3, _⟩ => (outsAt0 M c t.val t.isLt).2.1
  Φ t := PhiS M c t.val (Nat.le_of_lt_succ t.isLt)
  q _ := fullShare
  owed _ := (K (F := F)).Otc c 0
  recorded _ := {x | x.2 = none}

theorem A_eq (c : Dev nD) (w : Fin cfg2.W) : (dat2 M c).A w = enter M c (Pipeline.arrRef spec2 w) := by
  dsimp only [dat2]

theorem PhiS_castSucc (c : Dev nD) (t : Fin cfg2.N) :
    (dat2 M c).Φ t.castSucc = PhiS M c t.val (Nat.le_of_lt t.isLt) := by
  dsimp only [dat2]; exact Pipeline.Dat.Φ_castSucc (PhiS M c) t

theorem after0_0 (c : Dev nD) (t : Fin cfg2.N) : (dat2 M c).after 0 t = iblk M c 0 t := by dsimp only [dat2]
theorem after0_1 (c : Dev nD) (t : Fin cfg2.N) : (dat2 M c).after 1 t = iblk M c 1 t := by dsimp only [dat2]
theorem after0_2 (c : Dev nD) (t : Fin cfg2.N) : (dat2 M c).after 2 t = (outsAt0 M c t.val t.isLt).1 := by dsimp only [dat2]
theorem after0_3 (c : Dev nD) (t : Fin cfg2.N) : (dat2 M c).after 3 t = (outsAt0 M c t.val t.isLt).2.1 := by dsimp only [dat2]

theorem before0_0 (c : Dev nD) (t : Fin cfg2.N) (d) : (dat2 M c).before 0 t d = iblk M c 0 t :=
  before0_0_of M (dat2 M c) (A_eq M c 0) (after0_0 M c) t d
theorem before0_1 (c : Dev nD) (t : Fin cfg2.N) (d) : (dat2 M c).before 1 t d = iblk M c 1 t :=
  before0_1_of M (dat2 M c) (A_eq M c 1) (after0_1 M c) t d

/-- What a block of the feature call is given. -/
def bodyPre (c : Dev nD) (t : Fin cfg2.N) : sProp 𝕄 :=
  iprop((dat2 M c).Φ t.castSucc ∗ (dat2 M c).owesAt none t.castSucc
    ∗ (∃ d, owns (c : Thread nD τ) (ms2_0 t) fullShare ((dat2 M c).before 0 t d))
    ∗ (∃ d, owns (c : Thread nD τ) (ms2_1 t) fullShare ((dat2 M c).before 1 t d))
    ∗ (∃ d, owns (c : Thread nD τ) (ms2_2 t) fullShare ((dat2 M c).before 2 t d))
    ∗ (∃ d, owns (c : Thread nD τ) (ms2_3 t) fullShare ((dat2 M c).before 3 t d)))

/-- What a block of the feature call gives back. -/
def bodyPost (c : Dev nD) (t : Fin cfg2.N) : sProp 𝕄 :=
  iprop((dat2 M c).Φ t.succ ∗ (dat2 M c).owesAt none t.succ
    ∗ (dat2 M c).leavesExact 0 t
    ∗ (dat2 M c).leavesExact 1 t
    ∗ (dat2 M c).leavesExact 2 t
    ∗ (dat2 M c).leavesExact 3 t)

set_option maxHeartbeats 4800000 in

/-- Every block of the feature call runs, and leaves what `outsAt0` says. -/
theorem sound_body (c : Dev nD) (t : Fin cfg2.N) :
    bodyPre M c t ⊢ wp frame (wpE (defs₀ (F := F)) 𝒱₀ c none) Set.univ (bodyAt2 t) (fun _ => bodyPost M c t) := by
  unfold bodyPre bodyPost bodyAt2
  simp only [before0_0, before0_1]
  rw [show (dat2 M c).owesAt none t.succ = (dat2 M c).owesAt none t.castSucc from rfl]
  rw [show (dat2 M c).Φ t.succ = PhiS M c (t.val + 1) t.isLt from rfl, PhiS_succ]
  have hN : t.val < 64 := lt_of_lt_of_eq t.isLt (show cfg2.N = 64 from N_2)
  rw [show (dat2 M c).leavesExact 0 t = owns (c : Thread nD τ) (ms2_0 t) fullShare ((dat2 M c).after 0 t) from by
    unfold Dat.leavesExact; rw [liveAt0_0 t], after0_0]
  rw [show (dat2 M c).leavesExact 1 t = owns (c : Thread nD τ) (ms2_1 t) fullShare ((dat2 M c).after 1 t) from by
    unfold Dat.leavesExact; rw [liveAt0_1 t], after0_1]
  rw [show (dat2 M c).leavesExact 2 t = owns (c : Thread nD τ) (ms2_2 t) fullShare ((dat2 M c).after 2 t) from by
    unfold Dat.leavesExact; rw [liveAt0_2 t], after0_2]
  by_cases h0 : t.val % 64 = 0
  · by_cases h1 : t.val % 64 = 63
    · exfalso; omega
    · rw [Dat.leavesExact_idle (dat2 M c) 3 t (idleAt0_3_A t ((hcond0_0 t).mpr h0) (mt (hcond0_1 t).mp h1)) (noFlush0_3_A t ((hcond0_0 t).mpr h0) (mt (hcond0_1 t).mp h1))]
      rw [PhiS_castSucc M c t, PhiS_zero M c _ _ (by omega), PhiA0_eq]
      rw [outsAt0_A M c t h0 h1]
      unfold leftA out0_A_2 sout0_A_0; (try dsimp only)
      iintro ⟨⟨HS0, Hg⟩, Ho, ⟨%d0, H0⟩, ⟨%d1, H1⟩, ⟨%d2, H2⟩, ⟨%d3, H3⟩⟩
      iapply ((kernelRun0_A c (grid2.coords t) _ _ _ _ _ _ _ _ _ _ ((hcond0_0 t).mpr h0) (mt (hcond0_1 t).mp h1) (iblk M c 0 t) (iblk M c 1 t)).2.2.2 _ Set.univ _)
      iframe H0 H1
      isplitl [H2]; · iexists _; iexact H2
      iframe H3 HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      iframe Ho H0 H1
      isplitl [H2]
      · unfold owns; iexists _; isplitr
        swap; · iexact H2
        ipureintro; exact View.read_writes_of_cover _ _ _ _ _ (cover0_A_2 c _ _ _ _ _ _ _ _ _ _ _ _ _ _ _)
      iexists _; iexact H3
  · by_cases h1 : t.val % 64 = 63
    · rw [show (dat2 M c).leavesExact 3 t = owns (c : Thread nD τ) (ms2_3 t) fullShare ((dat2 M c).after 3 t) from by
      unfold Dat.leavesExact; rw [liveAt0_3_C t (mt (hcond0_0 t).mp h0) ((hcond0_1 t).mpr h1)], after0_3]
      rw [PhiS_castSucc M c t, PhiS_pos M c _ _ (by omega)]
      rw [outsAt0_C M c t h0 h1]
      unfold leftC out0_C_2 out0_C_3 sout0_C_0; (try dsimp only)
      iintro ⟨⟨HS0, Hg⟩, Ho, ⟨%d0, H0⟩, ⟨%d1, H1⟩, ⟨%d2, H2⟩, ⟨%d3, H3⟩⟩
      iapply ((kernelRun0_C c (grid2.coords t) _ _ _ _ _ _ _ _ _ _ (mt (hcond0_0 t).mp h0) ((hcond0_1 t).mpr h1) (iblk M c 0 t) (iblk M c 1 t) _).2.2.2 Set.univ _)
      iframe H0 H1
      isplitl [H2]; · iexists _; iexact H2
      isplitl [H3]; · iexists _; iexact H3
      isplitl [HS0]; · iexact HS0
      iintro ⟨H0, H1, ⟨%e2, H2⟩, ⟨%e3, H3⟩, HS0⟩
      isplitl [HS0 Hg]
      · isplitl [HS0]
        · unfold owns; iexists _; isplitr
          swap; · iexact HS0
          ipureintro; rfl
        iexact Hg
      iframe Ho H0 H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat2 M c) 3 t (idleAt0_3_B t (mt (hcond0_0 t).mp h0) (mt (hcond0_1 t).mp h1)) (noFlush0_3_B t (mt (hcond0_0 t).mp h0) (mt (hcond0_1 t).mp h1))]
      rw [PhiS_castSucc M c t, PhiS_pos M c _ _ (by omega)]
      rw [outsAt0_B M c t h0 h1]
      unfold leftB out0_B_2 sout0_B_0; (try dsimp only)
      iintro ⟨⟨HS0, Hg⟩, Ho, ⟨%d0, H0⟩, ⟨%d1, H1⟩, ⟨%d2, H2⟩, ⟨%d3, H3⟩⟩
      iapply ((kernelRun0_B c (grid2.coords t) _ _ _ _ _ _ _ _ _ _ (mt (hcond0_0 t).mp h0) (mt (hcond0_1 t).mp h1) (iblk M c 0 t) (iblk M c 1 t) _).2.2.2 _ Set.univ _)
      iframe H0 H1
      isplitl [H2]; · iexists _; iexact H2
      iframe H3 HS0
      iintro ⟨H0, H1, ⟨%e2, H2⟩, H3, HS0⟩
      isplitl [HS0 Hg]
      · isplitl [HS0]
        · unfold owns; iexists _; isplitr
          swap; · iexact HS0
          ipureintro; rfl
        iexact Hg
      iframe Ho H0 H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

theorem defs₀_row (t : Fin cfg2.N) :
    defs₀ (F := F) .tc cfg2.body (cfg2.bodyArgs t (cfg2.slots t)) = bodyAt2 t := by
  rfl

theorem body_obligation (c : Dev nD) : BodyObligation (dat2 (F := F) M c) (defs₀ (F := F)) 𝒱₀ none Set.univ := fun t => by
  rw [bigSep_W2, bigSep_W2, defs₀_row]
  exact triple_restated (sound_body M c t) rfl .rfl fun _ => .rfl

theorem hin (c : Dev nD) : start c ⊢ (dat2 M c).Φ 0 := by
  rw [show (dat2 M c).Φ 0 = PhiS M c 0 (Nat.zero_le _) from rfl, PhiS_zero M c 0 _ rfl]
  try exact Idealize.SL.BI.Entails.refl _

theorem Phi_out (c : Dev nD) (t : Fin (cfg2.N + 1)) (ht : t.val ≠ 0) : (dat2 M c).Φ t ⊢ start c := by
  rw [show (dat2 M c).Φ t = PhiS M c t.val (Nat.le_of_lt_succ t.isLt) from rfl, PhiS_pos M c _ _ ht, PhiA0_eq]
  iintro ⟨HS0, Hg⟩
  isplitl [HS0]
  · iexists _; iexact HS0
  iexact Hg

theorem hout (c : Dev nD) : (dat2 M c).Φ (Fin.last cfg2.N) ⊢ start c :=
  Phi_out M c _ (by rw [Fin.val_last]; have : cfg2.N = 64 := N_2; omega)

/-! ## One block of the feature product, and what it adds to the running sums -/

section Values

open Moments (prod zero2 load_x load_w rows_read row1_past load_row0 load_row1 Adds)

theorem pay1_apply (x0 : Vec Ideal S512x64 .f32) (x1 : Vec Ideal S64x128 .f32) (r : Fin 512) (o : Fin 128) :
    k2_pay1 (F := Ideal) x0 x1 (ix2 r o) = prod x0 x1 r o :=
  Moments.pay1_apply x0 x1 r o

theorem pay2_apply (y : S8x128.Idx) : k2_pay2 (F := Ideal) y = 0 :=
  Moments.pay2_apply y

theorem pay3_apply (x0 : Vec Ideal S512x64 .f32) (x1 : Vec Ideal S64x128 .f32) (v : Vec Ideal S1x128 .f32) (o : Fin 128) :
    k2_pay3 (F := Ideal) x0 x1 v (ix2 0 o) = v (ix2 0 o) + ∑ r : Fin 512, prod x0 x1 r o :=
  Moments.pay3_apply x0 x1 v o

theorem pay4_apply (x0 : Vec Ideal S512x64 .f32) (x1 : Vec Ideal S64x128 .f32) (v : Vec Ideal S1x128 .f32) (o : Fin 128) :
    k2_pay4 (F := Ideal) x0 x1 v (ix2 0 o) = v (ix2 0 o) + ∑ r : Fin 512, prod x0 x1 r o * prod x0 x1 r o :=
  Moments.pay4_apply x0 x1 v o

section Cases
variable (c : Dev nD) (i : grid2.Coords) (arg1 : Memref sig .tc .vmem S512x64 .f32) (harg1 : arg1.IsWhole)
  (arg2 : Memref sig .tc .vmem S64x128 .f32) (harg2 : arg2.IsWhole) (arg3 : Memref sig .tc .vmem S512x128 .f32) (harg3 : arg3.IsWhole)
  (arg4 : Memref sig .tc .vmem S8x128 .f32) (harg4 : arg4.IsWhole) (arg5 : Memref sig .tc .vmem S8x128 .f32) (harg5 : arg5.IsWhole)
  (x0 : Vec Ideal S512x64 .f32) (x1 : Vec Ideal S64x128 .f32) (xs0 : Vec Ideal S8x128 .f32)

/-- Every point leaves its product block. -/
theorem out_A (hc0 : cond0_0 i) (hc1 : ¬cond0_1 i) :
    out0_A_2 (F := Ideal) c i _ harg1 _ harg2 _ harg3 _ harg4 _ harg5 hc0 hc1 x0 x1 = k2_pay1 x0 x1 := by
  unfold out0_A_2 kernelRun0_A
  dsimp only
  rw [load_x, load_w, View.read_writes_junk_eq_canon]
  exact View.canon_unit_zero zero2 _ _

theorem out_B (hc0 : ¬cond0_0 i) (hc1 : ¬cond0_1 i) :
    out0_B_2 (F := Ideal) c i _ harg1 _ harg2 _ harg3 _ harg4 _ harg5 hc0 hc1 x0 x1 xs0 = k2_pay1 x0 x1 := by
  unfold out0_B_2 kernelRun0_B
  dsimp only
  rw [load_x, load_w, View.read_writes_junk_eq_canon]
  exact View.canon_unit_zero zero2 _ _

theorem out_C (hc0 : ¬cond0_0 i) (hc1 : cond0_1 i) :
    out0_C_2 (F := Ideal) c i _ harg1 _ harg2 _ harg3 _ harg4 _ harg5 hc0 hc1 x0 x1 xs0 = k2_pay1 x0 x1 := by
  unfold out0_C_2 kernelRun0_C
  dsimp only
  rw [load_x, load_w, View.read_writes_junk_eq_canon]
  exact View.canon_unit_zero zero2 _ _

theorem acc_B (hc0 : ¬cond0_0 i) (hc1 : ¬cond0_1 i) : Adds x0 x1 xs0
    (sout0_B_0 (F := Ideal) c i _ harg1 _ harg2 _ harg3 _ harg4 _ harg5 hc0 hc1 x0 x1 xs0) := by
  intro o
  unfold sout0_B_0 kernelRun0_B
  dsimp only
  rw [load_x, load_w]
  refine ⟨(rows_read arg5.view _ _ _ _ o).1.trans ?_, (rows_read arg5.view _ _ _ _ o).2.trans ?_⟩
  · rw [pay3_apply, load_row0, harg5.read_unread]
  · rw [pay4_apply]
    unfold kernelRun0_B.sl.v16
    rw [load_row1, harg5.read_unread]

theorem acc_C (hc0 : ¬cond0_0 i) (hc1 : cond0_1 i) : Adds x0 x1 xs0
    (sout0_C_0 (F := Ideal) c i _ harg1 _ harg2 _ harg3 _ harg4 _ harg5 hc0 hc1 x0 x1 xs0) := by
  intro o
  unfold sout0_C_0 kernelRun0_C
  dsimp only
  unfold kernelRun0_C.sl.HS0_2
  refine ⟨(rows_read arg5.view _ _ _ _ o).1.trans ?_, (rows_read arg5.view _ _ _ _ o).2.trans ?_⟩
  · rw [load_x, load_w, pay3_apply, load_row0, harg5.read_unread]
  · rw [load_x, load_w, pay4_apply]
    unfold kernelRun0_C.sl.v16
    rw [load_row1, harg5.read_unread]

theorem acc_A (hc0 : cond0_0 i) (hc1 : ¬cond0_1 i) : Adds x0 x1 (fun _ => 0)
    (sout0_A_0 (F := Ideal) c i _ harg1 _ harg2 _ harg3 _ harg4 _ harg5 hc0 hc1 x0 x1) := by
  intro o
  have hz : ∀ y : S8x128.Idx, arg5.view.read (Elt Ideal) (arg5.view.writes (Elt Ideal) arg5.view.junk
      (kernelRun0_A.sl.HS0_1 (F := Ideal))) y = 0 := by
    intro y
    rw [View.read_writes_junk_eq_canon]
    unfold kernelRun0_A.sl.HS0_1
    exact (congrFun (View.canon_unit_zero zero2 _ _) y).trans (pay2_apply y)
  unfold sout0_A_0 kernelRun0_A
  dsimp only
  unfold kernelRun0_A.sl.HS0_2 kernelRun0_A.sl.v16 kernelRun0_A.sl.v9
  refine ⟨(rows_read VS0_0 _ _ _ _ o).1.trans ?_, (rows_read VS0_0 _ _ _ _ o).2.trans ?_⟩
  · rw [load_x, load_w, pay3_apply]
    exact congrArg (· + _) ((load_row0 arg5.view _ o).trans (hz _))
  · rw [load_x, load_w, pay4_apply]
    unfold kernelRun0_A.sl.HS0_2
    exact congrArg (· + _) ((load_row1 arg5.view _ o).trans ((row1_past arg5.view _ _ _ o).trans (hz _)))

/-- The last point hands the running sums out. -/
theorem stats_C (hc0 : ¬cond0_0 i) (hc1 : cond0_1 i) :
    out0_C_3 (F := Ideal) c i _ harg1 _ harg2 _ harg3 _ harg4 _ harg5 hc0 hc1 x0 x1 xs0
      = sout0_C_0 (F := Ideal) c i _ harg1 _ harg2 _ harg3 _ harg4 _ harg5 hc0 hc1 x0 x1 xs0 := by
  unfold out0_C_3 sout0_C_0 kernelRun0_C
  dsimp only
  rw [View.read_writes_junk_eq_canon]
  refine (View.canon_unit_zero zero2 _ _).trans ?_
  exact View.ld_unit_zero zero2 _ _

end Cases

end Values

end Cert.Proof.Whole

end
-- ==== Proof.Whole.Searches.lean ====
module

public import proofs.«01_k».proof.Proof.Whole.Region
public import proofs.«01_k».proof.Proof.Gen.WholeIdeal.Skeleton
public import proofs.«01_k».proof.Proof.Gen.NeighboursIdeal.Frame

@[expose] public section

set_option maxRecDepth 16384

noncomputable section

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The sampling call

It keeps, for every point, the distance to the nearest point chosen so far, and the coordinates of the last point chosen; each trip of its loop stores one more row of the result. -/

namespace Cert.Proof.Whole.Fps

local notation "𝕄" => MT nD τ sig (HIx 1) (Elt F) ℕ UU ℕ

/-- What a trip hands to the next: the distances, and the coordinates of the last point chosen. -/
abbrev Carried (F : FTy → Type) : Type := FVec F S4x64x128 .f32 × FVec F S12x1x1 .f32

/-- The row trip `k` stores. -/
def piece (v : Vec F S12x64x128 .f32) (k : Fin k0_t1_loop.trips) (acc : Carried F) : View.Piece (Elt F) S2048x12 .f32 :=
  ⟨Rect.unit (s := S2048x12) (k0_off1 k) S1x12.size (k0_off1_inb k), k0_pay7 v acc.1 acc.2⟩

/-- What is carried after `k` trips, with the rows they stored. -/
def after (v : Vec F S12x64x128 .f32) : ℕ → Carried F × List (View.Piece (Elt F) S2048x12 .f32)
  | 0 => ((k0_pay4, k0_pay2 v), [⟨Rect.unit (s := S2048x12) ![0, 0] S1x12.size inb_S2048x12_S1x12_0_0, k0_pay3 v⟩])
  | k + 1 => if h : k < k0_t1_loop.trips then
      ((k0_pay5 v (after v k).1.1 (after v k).1.2, k0_pay6 v (after v k).1.1 (after v k).1.2),
        piece v ⟨k, h⟩ (after v k).1 :: (after v k).2)
    else after v k

theorem after_succ (v : Vec F S12x64x128 .f32) (k : Fin k0_t1_loop.trips) :
    after v (k.val + 1) = ((k0_pay5 v (after v k.val).1.1 (after v k.val).1.2, k0_pay6 v (after v k.val).1.1 (after v k.val).1.2),
      piece v k (after v k.val).1 :: (after v k.val).2) := by
  rw [after, dif_pos k.isLt]

/-- The rows of the result, as they are stored. -/
def stored (v : Vec F S12x64x128 .f32) : List (View.Piece (Elt F) S2048x12 .f32) := (after v k0_t1_loop.trips).2

set_option maxHeartbeats 4000000 in
/-- The call's body on whole buffers: the input as it was, the output with the rows stored. -/
theorem run_body (c : Dev nD) (arg0 : Memref sig .tc .vmem S12x64x128 .f32) (harg0 : arg0.IsWhole)
    (arg1 : Memref sig .tc .vmem S2048x12 .f32) (harg1 : arg1.IsWhole) (v : Vec F S12x64x128 .f32) (E : Set ℕ) (Q : PUnit → sProp 𝕄) :
    iprop(owns (c : Thread nD τ) arg0 fullShare v ∗ (∃ d, owns (c : Thread nD τ) arg1 fullShare d)
        ∗ (iprop(owns (c : Thread nD τ) arg0 fullShare v ∗ (∃ f, arg1.view.loc (c : Thread nD τ) ↦[arg1.view.set]{fullShare} arg1.view.writes (Elt F) f (stored v))) -∗ Q ⟨⟩))
      ⊢ wp frame (wpE (defs₀ (F := F)) 𝒱₀ c none) E (cc0__fps_body arg0 harg0 arg1 harg1) Q := by
  have hz : (![0, 0, 0] : Fin 3 → ℕ) = fun _ => 0 := by funext a; fin_cases a <;> rfl
  have hr : View.readAt (Elt F) arg0.view
      (Rect.unit (s := S12x64x128) ![0, 0, 0] S12x64x128.size inb_S12x64x128_S12x64x128_0_0_0).toLoadRect (harg0.unread v) = v := by
    have e : View.ld (arg0.view.read (Elt F) (harg0.unread v))
        (Rect.unit (s := S12x64x128) ![0, 0, 0] S12x64x128.size inb_S12x64x128_S12x64x128_0_0_0) = v := by
      rw [harg0.read_unread]
      exact View.ld_unit_zero hz _ v
    exact e
  simp only [cc0__fps_body_eq_skeleton]; unfold cc0__fps_body_skel
  unfold owns
  iintro ⟨⟨%f0, %hf0, H0⟩, ⟨%d1, %f1, -, H1⟩, Hk⟩
  obtain rfl := harg0.eq_unread hf0
  sl_exec
  sl_for (fun (t : ℕ) (acc : Carried F) => iprop(⌜acc = (after v t).1⌝
      ∗ (∃ f, arg1.view.loc (c : Thread nD τ) ↦[arg1.view.set]{fullShare} arg1.view.writes (Elt F) f (after v t).2))) $$ [H1]
  · iintro %k %acc ⟨%hacc, ⟨%f, H1⟩⟩
    subst hacc
    sl_unfold_run_names
    unfold k0_t1_body
    sl_exec
    sl_step
    rw [after_succ]
    isplitr
    · ipureintro; rfl
    iexists f
    iexact H1
  · isplitr
    · ipureintro
      sl_unfold_run_names
      rfl
    iexists f1
    sl_unfold_run_names
    iexact H1
  iintro %acc ⟨%hacc, ⟨%f, H1⟩⟩
  sl_exec
  sl_step
  iapply Hk
  isplitl [H0]
  · iexists _; isplitr; · ipureintro; exact harg0.read_unread _
    iexact H0
  iexists f; iexact H1

/-- The rows fill the result. -/
theorem cover (v : Vec F S12x64x128 .f32) (y : S2048x12.Idx) : ∃ pc ∈ stored v, y ∈ pc.1.set :=
  View.cover_of_tiledL (stored v) S1x12.size (by sl_kernel_rfl) y

/-- The result. -/
def out (v : Vec F S12x64x128 .f32) : Vec F S2048x12 .f32 := View.canon (stored v)

variable (M : Dev nD → Valuation τ sig (Elt F))

/-- Window `w`'s block. -/
def iblk (c : Dev nD) (w : Fin cfg0.W) (t : Fin cfg0.N) : ((cfg0.win w).xblock (cfg0.grid.coords t)).Idx → Elt F (cfg0.win w).elt :=
  ((cfg0.win w).blk t).view.read (Elt F) (enter M c (Pipeline.arrRef spec0 w))

theorem before_of {c : Dev nD} (dat : Dat τ (Elt F) (HIx 1) ℕ UU ℕ cfg0 c) (hA : dat.A 0 = enter M c (Pipeline.arrRef spec0 0))
    (hafter : ∀ t, dat.after 0 t = iblk M c 0 t) (t : Fin cfg0.N) (d) : dat.before 0 t d = iblk M c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What the call does not use: the other calls' buffers and the generator's register. -/
def untouched (c : Dev nD) : sProp 𝕄 :=
  iprop((Pipeline.scopedRest spec0 c : sProp 𝕄) ∗ (∃ r, prngReg c r))

/-- The sampling call's arrays, and what it leaves in them. -/
def dat (c : Dev nD) : Dat τ (Elt F) (HIx 1) ℕ UU ℕ cfg0 c where
  A w := enter M c (Pipeline.arrRef spec0 w)
  after w t := match w with
    | ⟨0, _⟩ => iblk M c 0 t
    | ⟨1, _⟩ => out (iblk M c 0 t)
  Φ _ := untouched c
  q _ := fullShare
  owed _ := (K (F := F)).Otc c 0
  recorded _ := {x | x.2 = none}

theorem A_eq (c : Dev nD) (w : Fin cfg0.W) : (dat M c).A w = enter M c (Pipeline.arrRef spec0 w) := by
  dsimp only [dat]

theorem after_0 (c : Dev nD) (t : Fin cfg0.N) : (dat M c).after 0 t = iblk M c 0 t := by dsimp only [dat]
theorem after_1 (c : Dev nD) (t : Fin cfg0.N) : (dat M c).after 1 t = out (iblk M c 0 t) := by dsimp only [dat]

theorem before_0 (c : Dev nD) (t : Fin cfg0.N) (d) : (dat M c).before 0 t d = iblk M c 0 t :=
  before_of M (dat M c) (A_eq M c 0) (after_0 M c) t d

/-- The sampling call's buffers. -/
abbrev b0 (t : Fin cfg0.N) : Memref sig .tc .vmem S12x64x128 .f32 := win0_0.stage (cfg0.slots t 0)
abbrev b1 (t : Fin cfg0.N) : Memref sig .tc .vmem S2048x12 .f32 := win0_1.stage (cfg0.slots t 1)

/-- What the body is given. -/
def bodyPre (c : Dev nD) (t : Fin cfg0.N) : sProp 𝕄 :=
  iprop((dat M c).Φ t.castSucc ∗ (dat M c).owesAt none t.castSucc
    ∗ (∃ d, owns (c : Thread nD τ) (b0 t) fullShare ((dat M c).before 0 t d))
    ∗ (∃ d, owns (c : Thread nD τ) (b1 t) fullShare ((dat M c).before 1 t d)))

/-- What the body gives back. -/
def bodyPost (c : Dev nD) (t : Fin cfg0.N) : sProp 𝕄 :=
  iprop((dat M c).Φ t.succ ∗ (dat M c).owesAt none t.succ
    ∗ owns (c : Thread nD τ) (b0 t) fullShare ((dat M c).after 0 t)
    ∗ owns (c : Thread nD τ) (b1 t) fullShare ((dat M c).after 1 t))

theorem sound_body (c : Dev nD) (t : Fin cfg0.N) :
    bodyPre M c t ⊢ wp frame (wpE (defs₀ (F := F)) 𝒱₀ c none) Set.univ (bodyAt0 t) (fun _ => bodyPost M c t) := by
  unfold bodyPre bodyPost bodyAt0
  simp only [before_0]
  rw [show (dat M c).Φ t.succ = (dat M c).Φ t.castSucc from rfl,
    show (dat M c).owesAt none t.succ = (dat M c).owesAt none t.castSucc from rfl,
    after_0, after_1]
  iintro ⟨HΦ, Ho, ⟨%d0, H0⟩, ⟨%d1, H1⟩⟩
  iapply (run_body c _ _ _ _ (iblk M c 0 t) Set.univ _)
  isplitl [H0]; · iexact H0
  isplitl [H1]; · iexists _; iexact H1
  iintro ⟨H0, ⟨%e1, H1⟩⟩
  iframe HΦ Ho H0
  unfold owns; iexists _; isplitr
  swap; · iexact H1
  ipureintro; exact View.read_writes_eq_canon _ _ _ (cover _)

theorem defs₀_row (t : Fin cfg0.N) :
    defs₀ (F := F) .tc cfg0.body (cfg0.bodyArgs t (cfg0.slots t)) = bodyAt0 t := by
  rfl

theorem body_obligation (c : Dev nD) : BodyObligation (dat (F := F) M c) (defs₀ (F := F)) 𝒱₀ none Set.univ := fun t => by
  rw [bigSep_W0, bigSep_W0, defs₀_row]
  exact triple_restated (sound_body M c t) rfl .rfl fun _ => .rfl

end Cert.Proof.Whole.Fps

/-! # The neighbour call -/

namespace Cert.Proof.Whole.Knn

local notation "𝕄" => MT nD τ sig (HIx 1) (Elt F) ℕ UU ℕ

/-- The block of neighbours a point of the grid leaves, from the points and its block of samples. -/
abbrev out (x0 : Vec F S12x8192 .f32) (x1 : Vec F S128x12 .f32) : Vec F S4x128x16 .i32 :=
  Cert.NeighboursIdeal.Gen.out0_2 x0 x1

set_option maxHeartbeats 9000000 in
/-- The call's body on whole buffers: the inputs as they were, the output at `out` of them. -/
theorem run_body (c : Dev nD) (E : Set ℕ) (i : grid1.Coords) (arg1 : Memref sig .tc .vmem S12x8192 .f32) (harg1 : arg1.IsWhole)
    (arg2 : Memref sig .tc .vmem S128x12 .f32) (harg2 : arg2.IsWhole) (arg3 : Memref sig .tc .vmem S4x128x16 .i32) (harg3 : arg3.IsWhole)
    (x0 : Vec F S12x8192 .f32) (x1 : Vec F S128x12 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ Q ⟨⟩))
      ⊢ wp frame (wpE (defs₀ (F := F)) 𝒱₀ c none) E (cc1__knn_body i arg1 harg1 arg2 harg2 arg3 harg3) Q := by
  simp only [cc1__knn_body_eq_skeleton]; unfold cc1__knn_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (Cert.NeighboursIdeal.Gen.cover0_2 _ _ _ _)).trans ?_
  rfl

variable (M : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (enter M c (Pipeline.arrRef spec1 w))

theorem before0_of {c : Dev nD} (dat : Dat τ (Elt F) (HIx 1) ℕ UU ℕ cfg1 c) (hA : dat.A 0 = enter M c (Pipeline.arrRef spec1 0))
    (hafter : ∀ t, dat.after 0 t = iblk M c 0 t) (t : Fin cfg1.N) (d) : dat.before 0 t d = iblk M c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) (HIx 1) ℕ UU ℕ cfg1 c) (hA : dat.A 1 = enter M c (Pipeline.arrRef spec1 1))
    (hafter : ∀ t, dat.after 1 t = iblk M c 1 t) (t : Fin cfg1.N) (d) : dat.before 1 t d = iblk M c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the call does not use: the other calls' buffers and the generator's register. -/
def untouched (c : Dev nD) : sProp 𝕄 :=
  iprop((Pipeline.scopedRest spec1 c : sProp 𝕄) ∗ (∃ r, prngReg c r))

/-- The neighbour call's arrays, and what its blocks leave in them. -/
def dat (c : Dev nD) : Dat τ (Elt F) (HIx 1) ℕ UU ℕ cfg1 c where
  A w := enter M c (Pipeline.arrRef spec1 w)
  after w t := match w with
    | ⟨0, _⟩ => iblk M c 0 t
    | ⟨1, _⟩ => iblk M c 1 t
    | ⟨2, _⟩ => out (iblk M c 0 t) (iblk M c 1 t)
  Φ _ := untouched c
  q _ := fullShare
  owed _ := (K (F := F)).Otc c 0
  recorded _ := {x | x.2 = none}

theorem A_eq (c : Dev nD) (w : Fin cfg1.W) : (dat M c).A w = enter M c (Pipeline.arrRef spec1 w) := by
  dsimp only [dat]

theorem after_0 (c : Dev nD) (t : Fin cfg1.N) : (dat M c).after 0 t = iblk M c 0 t := by dsimp only [dat]
theorem after_1 (c : Dev nD) (t : Fin cfg1.N) : (dat M c).after 1 t = iblk M c 1 t := by dsimp only [dat]
theorem after_2 (c : Dev nD) (t : Fin cfg1.N) : (dat M c).after 2 t = out (iblk M c 0 t) (iblk M c 1 t) := by dsimp only [dat]

theorem before_0 (c : Dev nD) (t : Fin cfg1.N) (d) : (dat M c).before 0 t d = iblk M c 0 t :=
  before0_of M (dat M c) (A_eq M c 0) (after_0 M c) t d
theorem before_1 (c : Dev nD) (t : Fin cfg1.N) (d) : (dat M c).before 1 t d = iblk M c 1 t :=
  before1_of M (dat M c) (A_eq M c 1) (after_1 M c) t d

/-- The neighbour call's buffers. -/
abbrev b0 (t : Fin cfg1.N) : Memref sig .tc .vmem S12x8192 .f32 := win1_0.stage (cfg1.slots t 0)
abbrev b1 (t : Fin cfg1.N) : Memref sig .tc .vmem S128x12 .f32 := win1_1.stage (cfg1.slots t 1)
abbrev b2 (t : Fin cfg1.N) : Memref sig .tc .vmem S4x128x16 .i32 := win1_2.stage (cfg1.slots t 2)

/-- What the body is given at point `t`. -/
def bodyPre (c : Dev nD) (t : Fin cfg1.N) : sProp 𝕄 :=
  iprop((dat M c).Φ t.castSucc ∗ (dat M c).owesAt none t.castSucc
    ∗ (∃ d, owns (c : Thread nD τ) (b0 t) fullShare ((dat M c).before 0 t d))
    ∗ (∃ d, owns (c : Thread nD τ) (b1 t) fullShare ((dat M c).before 1 t d))
    ∗ (∃ d, owns (c : Thread nD τ) (b2 t) fullShare ((dat M c).before 2 t d)))

/-- What the body gives back at point `t`. -/
def bodyPost (c : Dev nD) (t : Fin cfg1.N) : sProp 𝕄 :=
  iprop((dat M c).Φ t.succ ∗ (dat M c).owesAt none t.succ
    ∗ owns (c : Thread nD τ) (b0 t) fullShare ((dat M c).after 0 t)
    ∗ owns (c : Thread nD τ) (b1 t) fullShare ((dat M c).after 1 t)
    ∗ owns (c : Thread nD τ) (b2 t) fullShare ((dat M c).after 2 t))

theorem sound_body (c : Dev nD) (t : Fin cfg1.N) :
    bodyPre M c t ⊢ wp frame (wpE (defs₀ (F := F)) 𝒱₀ c none) Set.univ (bodyAt1 t) (fun _ => bodyPost M c t) := by
  unfold bodyPre bodyPost bodyAt1
  simp only [before_0, before_1]
  rw [show (dat M c).Φ t.succ = (dat M c).Φ t.castSucc from rfl,
    show (dat M c).owesAt none t.succ = (dat M c).owesAt none t.castSucc from rfl,
    after_0, after_1, after_2]
  iintro ⟨HΦ, Ho, ⟨%d0, H0⟩, ⟨%d1, H1⟩, ⟨%d2, H2⟩⟩
  iapply (run_body c Set.univ (grid1.coords t) _ _ _ _ _ _ (iblk M c 0 t) (iblk M c 1 t) _)
  iframe H0 H1
  isplitl [H2]; · iexists _; iexact H2
  iintro ⟨H0, H1, H2⟩
  iframe HΦ Ho H0 H1 H2

theorem defs₀_row (t : Fin cfg1.N) :
    defs₀ (F := F) .tc cfg1.body (cfg1.bodyArgs t (cfg1.slots t)) = bodyAt1 t := by
  rfl

theorem body_obligation (c : Dev nD) : BodyObligation (dat (F := F) M c) (defs₀ (F := F)) 𝒱₀ none Set.univ := fun t => by
  rw [bigSep_W1, bigSep_W1, defs₀_row]
  exact triple_restated (sound_body M c t) rfl .rfl fun _ => .rfl

end Cert.Proof.Whole.Knn

end
-- ==== Proof.Whole.Main.lean ====
module

public import proofs.«01_k».proof.Proof.Whole.Region
public import proofs.«01_k».proof.Proof.Whole.Searches
public import proofs.«01_k».proof.Proof.Whole.Tile
public import Idealize.ShloMosaic.Lib.Pipeline.FrameTail
public import Idealize.ShloMosaic.Lib.Pipeline.RegionArrays
public import Idealize.ShloMosaic.Lib.Pipeline.RegionsLoop
public import Idealize.ShloMosaic.Lib.Pipeline.ValueKit
public import proofs.«01_k».proof.Proof.Pool.Main

@[expose] public section

set_option maxRecDepth 16384

noncomputable section

namespace Cert.Proof.Whole

open Cert.WholeIdeal Cert.WholeIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat ucRefs afterRegion RegionSeg BodyObligation)
open Idealize.ShloMosaic.Tactic

variable {F : FTy → Type} [FloatOps F]

local notation "𝕄" => MT nD τ sig (HIx 1) (Elt F) ℕ UU ℕ

/-! # The three TensorCore calls, between the host's lines

The core enters each owing the SparseCore call's start signals and having waited for nothing but its own copies; the
call's waits are for its own copies too, so it leaves with the same. -/

/-- No call has a prefetched table. -/
abbrev adm : (p : Fin 3) → (pcfgs (F := F) p).Adm := fun p => (cfgs p).toPCfg_adm

/-- What the core owes, and that it has waited for its own copies alone. -/
abbrev debt (c : Dev nD) : sProp 𝕄 :=
  iprop(∃ W, ⌜(K (F := F)).WBelow (SparseCore.T c) W 0⌝ ∗ owes (SparseCore.T c) ((K (F := F)).Otc c 0) W)

theorem own_of_below {c : Dev nD} {W : Waits sig (HIx 1)} (h : (K (F := F)).WBelow (SparseCore.T c) W 0) (x : SemLoc sig × HIx 1)
    (hx : x ∈ W) : x.2 = none := by
  obtain ⟨s, i⟩ := x
  cases i with
  | none => rfl
  | some q => exact absurd (h _ hx) (Nat.not_le.2 ((K (F := F)).lev_some_pos (SparseCore.T c, s) q))

theorem below_of_own {c : Dev nD} {W : Waits sig (HIx 1)} (h : ∀ x ∈ W, x.2 = none) : (K (F := F)).WBelow (SparseCore.T c) W 0 := by
  intro x hx
  rw [h x hx]
  exact Nat.le_refl 0

/-- Arrays and blocks for each of the three calls. -/
abbrev Dats (F : FTy → Type) [FloatOps F] : Type :=
  (p : Fin 3) → (c : Dev nD) → Dat τ (Elt F) (HIx 1) ℕ UU ℕ (cfgs p) c

/-- What is asked of a call entered with memory `E`. -/
structure Runs (D : Dats F) (p : Fin 3) (E : Dev nD → Valuation τ sig (Elt F)) : Prop where
  launch : Pipeline.LaunchFacts (nD := nD) (τ := τ) cfgs p
  arrays : ∀ c w, (D p c).A w = E c (Proc.devRef .tc (Pipeline.arrRef (cfgs p).spec w))
  share : ∀ c w, (D p c).q w = fullShare
  owed : ∀ c t, (D p c).owed t = (K (F := F)).Otc c 0
  recorded : ∀ c t, (D p c).recorded t = {x | x.2 = none}
  body : ∀ c, BodyObligation (D p c) (defs₀ (F := F)) 𝒱₀ none Set.univ
  first : ∀ c, iprop((Pipeline.scopedRest (cfgs p).spec c : sProp 𝕄) ∗ (∃ r, prngReg c r)) ⊢ (D p c).Φ 0
  last : ∀ c, (D p c).Φ (Fin.last (cfgs p).N) ⊢ iprop((Pipeline.scopedRest (cfgs p).spec c : sProp 𝕄) ∗ (∃ r, prngReg c r))

/-- A call, entered with memory `E` and leaving it as the call does. -/
def segment (D : Dats F) (p : Fin 3) (E : Dev nD → Valuation τ sig (Elt F)) (h : Runs D p E) :
    RegionSeg pcfgs adm D none defs₀ 𝒱₀ (K (F := F)).L (K (F := F)).lev p where
  win := h.launch.win.to₀
  block_pos := h.launch.block_pos
  stage_whole := h.launch.stage_whole
  K := PEmpty
  osem k := k.elim
  ho := Pipeline.OwnSemFacts.none _
  hbody c := (h.body c).loose
  hwaits c := Pipeline.cellsWaits_of_cut (Pipeline.pin pcfgs adm) D none p c 0 ((K (F := F)).Otc c 0) (fun t => h.owed c t)
    (fun _ _ => Finset.mem_univ _) (fun _ _ => Nat.le_refl 0)
    (fun g i h => ⟨Finset.mem_univ _, Nat.lt_of_lt_of_le (Nat.succ_pos _) (SparseCore.Cfg.lev_of_Otc_pos h)⟩)
  pre c := iprop(held (c.tc : Thread nD τ) (ucRefs τ sig) (E c) ∗ (∃ r, prngReg c r) ∗ debt c)
  post c := iprop(held (c.tc : Thread nD τ) (ucRefs τ sig) (afterRegion (D p c) (E c)) ∗ (∃ r, prngReg c r) ∗ debt c)
  X c := iprop(∃ r, prngReg c r)
  Y c := iprop(∃ r, prngReg c r)
  Z c := Pipeline.unscopedRest (cfgs p).spec c (fun b => E c (Proc.devRef .tc b))
  hentry c := by
    rw [Pipeline.ownSems0_none, Pipeline.prefHeld_of_none _ rfl, ← Pipeline.unscopedBufs_held c (E c)]
    have hsplit := Pipeline.arrays_of_unscopedBufs (p := p) pcfgs adm D h.launch.win h.launch.arr_whole c
      ((D p c).share_full (h.share c))
      (fun b => E c (Proc.devRef .tc b)) (fun w => h.arrays c w)
    iintro ⟨⟨Hub, Hp, %W, %hW, HO⟩, -, -⟩
    ihave H := hsplit $$ Hub
    icases H with ⟨Ha, Hrest⟩
    imodintro
    isplitl [Ha]; · iexact Ha
    isplitr; · iempintro
    isplitl [HO]
    · unfold Dat.owesAt Pipeline.owesWithin
      rw [h.owed]
      iexists W; isplitr
      · ipureintro
        exact fun x hx => Or.inl (show x ∈ (D p c).recorded 0 from by rw [h.recorded]; exact own_of_below hW x hx)
      iexact HO
    iframe Hp Hrest
  hin c := (show _ ⊢ iprop((Pipeline.scopedRest (cfgs p).spec c : sProp 𝕄) ∗ (∃ r, prngReg c r)) from by
    iintro ⟨Hp, -, Hr⟩
    isplitl [Hr] <;> iassumption).trans (h.first c)
  hout c := (h.last c).trans (by
    rw [Pipeline.ownSems0_none]
    iintro ⟨Hr, Hp⟩
    isplitl [Hp]; · iexact Hp
    isplitr; · iempintro
    iexact Hr)
  hexit c := by
    have hjoin := Pipeline.unscopedBufs_of_arrays (p := p) pcfgs adm (Ix := HIx 1) (Name := ℕ) (U := UU) (Lvl := ℕ)
      h.launch.win h.launch.arr_whole c D ((D p c).share_full (h.share c))
      (fun b => E c (Proc.devRef .tc b)) (fun b => afterRegion (D p c) (E c) (Proc.devRef .tc b)) ((D p c).arrAt · (cfgs p).N)
      (fun w => (Pipeline.afterRegion_arr (D p c) (E c) h.launch.win.arr_inj w).symm)
      (fun b hb => Pipeline.afterRegion_of_not_arr (D p c) (E c)
        fun w h => hb (h ▸ Finset.mem_image.mpr ⟨w, Finset.mem_univ _, rfl⟩))
    rw [← Pipeline.unscopedBufs_held c (afterRegion (D p c) (E c))]
    iintro ⟨Ha, HO, Hp, Hrest⟩
    imodintro
    isplitl [Ha Hrest]
    · iapply hjoin; isplitl [Ha] <;> iassumption
    isplitl [Hp]; · iexact Hp
    unfold Dat.owesAt Pipeline.owesWithin
    rw [h.owed]
    icases HO with ⟨%W, %hW, HO⟩; iexists W; isplitr
    · ipureintro
      refine below_of_own fun x hx => ?_
      rcases hW hx with hr | ⟨_, _, hr⟩
      · exact (show x ∈ {y : SemLoc sig × HIx 1 | y.2 = none} from h.recorded c _ ▸ hr)
      · rw [hr]
    iexact HO

variable (m : (ℓ : Loc nD τ sig) → Buf (Elt F) ℓ)

/-! ## What memory holds along the way -/

/-- The host's lines before the sampling call: the points, coordinates first. -/
abbrev ops0 : List (HloOp τ sig (Elt F)) :=
  [ StableHlo.unary main_arg1 main_v0 ((transpose S3x4x8192 [2, 0, 1] · transposes_S4x8192x3_S3x4x8192_2_0_1) : (⟨S4x8192x3, .f32⟩ : BufTy).Contents (Elt F) → (⟨S3x4x8192, .f32⟩ : BufTy).Contents (Elt F)),
    StableHlo.reshape main_v0 main_v1 (rfl : (.f32 : EltTy) = .f32) shapeCasts_S3x4x8192_S12x8192,
    StableHlo.reshape main_v1 main_v2 (rfl : (.f32 : EltTy) = .f32) shapeCasts_S12x8192_S12x64x128 ]

/-- The host's lines before the feature call. -/
abbrev ops2 : List (HloOp τ sig (Elt F)) :=
  [ StableHlo.reshape main_arg0 main_v5 (rfl : (.f32 : EltTy) = .f32) shapeCasts_S4x8192x64_S32768x64,
    StableHlo.unary main_arg2 main_v6 ((transpose S64x128 [1, 0] · transposes_S128x64_S64x128_1_0) : (⟨S128x64, .f32⟩ : BufTy).Contents (Elt F) → (⟨S64x128, .f32⟩ : BufTy).Contents (Elt F)) ]

/-- When the sampling call starts, and when it ends, which is when the neighbour call starts. -/
def E0 (c : Dev nD) : Valuation τ sig (Elt F) := StableHlo.after ops0 (fun b => m (c, b))
def E1 (c : Dev nD) : Valuation τ sig (Elt F) := afterRegion (Fps.dat (E0 m) c) (E0 m c)
/-- When the neighbour call ends. -/
def L1 (c : Dev nD) : Valuation τ sig (Elt F) := afterRegion (Knn.dat (E1 m) c) (E1 m c)
/-- When the feature call starts, and when it ends. -/
def E2 (c : Dev nD) : Valuation τ sig (Elt F) := StableHlo.after ops2 (L1 m c)
def L2 (c : Dev nD) : Valuation τ sig (Elt F) := afterRegion (dat2 (E2 m) c) (E2 m c)

/-- The calls' arrays and blocks. -/
def dats : Dats F
  | 0, c => Fps.dat (E0 m) c
  | 1, c => Knn.dat (E1 m) c
  | 2, c => dat2 (E2 m) c

theorem runs0 : Runs (dats m) 0 (E0 m) where
  launch := launch0
  arrays c w := Fps.A_eq (E0 m) c w
  share _ _ := rfl
  owed _ _ := rfl
  recorded _ _ := rfl
  body c := Fps.body_obligation (E0 m) c
  first _ := Entails.refl _
  last _ := Entails.refl _

theorem runs1 : Runs (dats m) 1 (E1 m) where
  launch := launch1
  arrays c w := Knn.A_eq (E1 m) c w
  share _ _ := rfl
  owed _ _ := rfl
  recorded _ _ := rfl
  body c := Knn.body_obligation (E1 m) c
  first _ := Entails.refl _
  last _ := Entails.refl _

theorem runs2 : Runs (dats m) 2 (E2 m) where
  launch := launch2
  arrays c w := A_eq (E2 m) c w
  share _ _ := rfl
  owed _ _ := rfl
  recorded _ _ := rfl
  body c := body_obligation (E2 m) c
  first c := hin (E2 m) c
  last c := hout (E2 m) c

variable (m : (ℓ : Loc nD τ sig) → Buf (Elt F) ℓ) (ρ : Dev nD → PrngReg)

/-! # The program: the host's lines, the sampling call, the neighbour call, the host's lines, the feature call, the host's lines, the pooling call, the host's lines -/

/-- The host's lines between the two calls: the scale and the shift from the sums, and the index array laid flat. -/
abbrev midOps : List (HloOp τ sig (Elt F)) :=
  [ StableHlo.unary main_v7_1 main_v8 ((extractStridedSlice S1x128 ![0, 0] · slices_S8x128_S1x128_0_0) : (⟨S8x128, .f32⟩ : BufTy).Contents (Elt F) → (⟨S1x128, .f32⟩ : BufTy).Contents (Elt F)),
    StableHlo.reshape main_v8 main_v9 (rfl : (.f32 : EltTy) = .f32) shapeCasts_S1x128_S128,
    StableHlo.nullary main_cst (constant S_ .f32 0x47000000#32),
    StableHlo.unary main_cst main_v10 (broadcastInDim S128 ![] bcast_S_S128 : (⟨S_, .f32⟩ : BufTy).Contents (Elt F) → (⟨S128, .f32⟩ : BufTy).Contents (Elt F)),
    StableHlo.binary main_v9 main_v10 main_v11 (Host.divf : (⟨S128, .f32⟩ : BufTy).Contents (Elt F) → (⟨S128, .f32⟩ : BufTy).Contents (Elt F) → (⟨S128, .f32⟩ : BufTy).Contents (Elt F)),
    StableHlo.unary main_v7_1 main_v12 ((extractStridedSlice S1x128 ![1, 0] · slices_S8x128_S1x128_1_0) : (⟨S8x128, .f32⟩ : BufTy).Contents (Elt F) → (⟨S1x128, .f32⟩ : BufTy).Contents (Elt F)),
    StableHlo.reshape main_v12 main_v13 (rfl : (.f32 : EltTy) = .f32) shapeCasts_S1x128_S128,
    StableHlo.nullary main_cst_0 (constant S_ .f32 0x47000000#32),
    StableHlo.unary main_cst_0 main_v14 (broadcastInDim S128 ![] bcast_S_S128 : (⟨S_, .f32⟩ : BufTy).Contents (Elt F) → (⟨S128, .f32⟩ : BufTy).Contents (Elt F)),
    StableHlo.binary main_v13 main_v14 main_v15 (Host.divf : (⟨S128, .f32⟩ : BufTy).Contents (Elt F) → (⟨S128, .f32⟩ : BufTy).Contents (Elt F) → (⟨S128, .f32⟩ : BufTy).Contents (Elt F)),
    StableHlo.binary main_v11 main_v11 main_v16 (mulf : (⟨S128, .f32⟩ : BufTy).Contents (Elt F) → (⟨S128, .f32⟩ : BufTy).Contents (Elt F) → (⟨S128, .f32⟩ : BufTy).Contents (Elt F)),
    StableHlo.binary main_v15 main_v16 main_v17 (subf : (⟨S128, .f32⟩ : BufTy).Contents (Elt F) → (⟨S128, .f32⟩ : BufTy).Contents (Elt F) → (⟨S128, .f32⟩ : BufTy).Contents (Elt F)),
    StableHlo.nullary main_cst_1 (constant S_ .f32 0x3727C5AC#32),
    StableHlo.unary main_cst_1 main_v18 (broadcastInDim S128 ![] bcast_S_S128 : (⟨S_, .f32⟩ : BufTy).Contents (Elt F) → (⟨S128, .f32⟩ : BufTy).Contents (Elt F)),
    StableHlo.binary main_v17 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.rsqrt : (⟨S128, .f32⟩ : BufTy).Contents (Elt F) → (⟨S128, .f32⟩ : BufTy).Contents (Elt F)),
    StableHlo.binary main_arg3 main_v20 main_v21 (mulf : (⟨S128, .f32⟩ : BufTy).Contents (Elt F) → (⟨S128, .f32⟩ : BufTy).Contents (Elt F) → (⟨S128, .f32⟩ : BufTy).Contents (Elt F)),
    StableHlo.binary main_v11 main_v21 main_v22 (mulf : (⟨S128, .f32⟩ : BufTy).Contents (Elt F) → (⟨S128, .f32⟩ : BufTy).Contents (Elt F) → (⟨S128, .f32⟩ : BufTy).Contents (Elt F)),
    StableHlo.binary main_arg4 main_v22 main_v23 (subf : (⟨S128, .f32⟩ : BufTy).Contents (Elt F) → (⟨S128, .f32⟩ : BufTy).Contents (Elt F) → (⟨S128, .f32⟩ : BufTy).Contents (Elt F)),
    StableHlo.reshape main_v4 main_v24 (rfl : (.i32 : EltTy) = .i32) shapeCasts_S4x2048x16_S131072 ]

/-- The host's last lines: the two results. -/
abbrev opsEnd : List (HloOp τ sig (Elt F)) :=
  [ StableHlo.reshape main_v25 main_v26 (rfl : (.f32 : EltTy) = .f32) shapeCasts_S8192x128_S4x2048x128,
    StableHlo.reshape main_v3 main_v27 (rfl : (.f32 : EltTy) = .f32) shapeCasts_S2048x12_S2048x3x4,
    StableHlo.unary main_v27 main_v28 ((transpose S4x2048x3 [2, 0, 1] · transposes_S2048x3x4_S4x2048x3_2_0_1) : (⟨S2048x3x4, .f32⟩ : BufTy).Contents (Elt F) → (⟨S4x2048x3, .f32⟩ : BufTy).Contents (Elt F)) ]

/-- TensorCore call `p`, of the program. -/
abbrev callAt (p : Fin 3) : Prog (TpuEff nD τ sig (Elt F) (SparseCore.Sig (Pipeline.Sig Λ₀ (Fin 3) fun p => (pcfgs (F := F) p).Adm) 1) .tc) PUnit :=
  Prog.lift (.customCall (SparseCore.inner (Pipeline.entry p)) ())

theorem main_eq (d : Dev nD) : main (F := F) d = (Pipeline.chain
    [ StableHlo.seq ops0, callAt 0, callAt 1, StableHlo.seq ops2, callAt 2, StableHlo.seq midOps, sc.run d 0, StableHlo.seq opsEnd ]
      : Prog (TpuEff nD τ sig (Elt F) (SparseCore.Sig (Pipeline.Sig Λ₀ (Fin 3) fun p => (pcfgs (F := F) p).Adm) 1) .tc) PUnit) := by
  rewrite [StableHlo.chain_seq_cons, Pipeline.chain_cons, Pipeline.chain_cons, StableHlo.chain_seq_cons, Pipeline.chain_cons,
    StableHlo.chain_seq_cons, Pipeline.chain_cons, StableHlo.chain_seq_cons]
  chain_rfl

theorem sub0 : ∀ op ∈ (ops0 : List (HloOp τ sig (Elt F))), op.bufs ⊆ ucRefs τ sig := fun op h =>
  Pipeline.sub_ucRefs op (List.forall_iff_forall_mem.mp
    (show (ops0 : List (HloOp τ sig (Elt F))).Forall fun op => op.bufs ⊆ StableHlo.tcRefs τ sig from
      ⟨StableHlo.unary_bufs_sub .., StableHlo.reshape_bufs_sub .., StableHlo.reshape_bufs_sub ..⟩) op h)

theorem sub2 : ∀ op ∈ (ops2 : List (HloOp τ sig (Elt F))), op.bufs ⊆ ucRefs τ sig := fun op h =>
  Pipeline.sub_ucRefs op (List.forall_iff_forall_mem.mp
    (show (ops2 : List (HloOp τ sig (Elt F))).Forall fun op => op.bufs ⊆ StableHlo.tcRefs τ sig from
      ⟨StableHlo.reshape_bufs_sub .., StableHlo.unary_bufs_sub ..⟩) op h)

theorem end_sub : ∀ op ∈ (opsEnd : List (HloOp τ sig (Elt F))), op.bufs ⊆ ucRefs τ sig := fun op h =>
  Pipeline.sub_ucRefs op (List.forall_iff_forall_mem.mp
    (show (opsEnd : List (HloOp τ sig (Elt F))).Forall fun op => op.bufs ⊆ StableHlo.tcRefs τ sig from
      ⟨StableHlo.reshape_bufs_sub .., StableHlo.reshape_bufs_sub .., StableHlo.unary_bufs_sub ..⟩) op h)

theorem fresh0 : ∀ op ∈ (ops0 : List (HloOp τ sig (Elt F))), op.fresh = ∅ := List.forall_iff_forall_mem.mp ⟨rfl, rfl, rfl⟩
theorem fresh2 : ∀ op ∈ (ops2 : List (HloOp τ sig (Elt F))), op.fresh = ∅ := List.forall_iff_forall_mem.mp ⟨rfl, rfl⟩
theorem end_fresh : ∀ op ∈ (opsEnd : List (HloOp τ sig (Elt F))), op.fresh = ∅ := List.forall_iff_forall_mem.mp ⟨rfl, rfl, rfl⟩

theorem mid_sub : ∀ op ∈ (midOps : List (HloOp τ sig (Elt F))), op.bufs ⊆ ucRefs τ sig := fun op h =>
  Pipeline.sub_ucRefs op (List.forall_iff_forall_mem.mp
    (show (midOps : List (HloOp τ sig (Elt F))).Forall fun op => op.bufs ⊆ StableHlo.tcRefs τ sig from
      ⟨StableHlo.unary_bufs_sub .., StableHlo.reshape_bufs_sub .., StableHlo.nullary_bufs_sub .., StableHlo.unary_bufs_sub ..,
        StableHlo.binary_bufs_sub .., StableHlo.unary_bufs_sub .., StableHlo.reshape_bufs_sub .., StableHlo.nullary_bufs_sub ..,
        StableHlo.unary_bufs_sub .., StableHlo.binary_bufs_sub .., StableHlo.binary_bufs_sub .., StableHlo.binary_bufs_sub ..,
        StableHlo.nullary_bufs_sub .., StableHlo.unary_bufs_sub .., StableHlo.binary_bufs_sub .., StableHlo.unary_bufs_sub ..,
        StableHlo.binary_bufs_sub .., StableHlo.binary_bufs_sub .., StableHlo.binary_bufs_sub .., StableHlo.reshape_bufs_sub ..⟩) op h)

theorem mid_fresh : ∀ op ∈ (midOps : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl⟩

/-! ## What memory holds along the way -/

abbrev h' : DevRef τ sig := Proc.devRef .tc main_v7_0
abbrev j' : DevRef τ sig := Proc.devRef .tc main_v24
abbrev a' : DevRef τ sig := Proc.devRef .tc main_v21
abbrev b' : DevRef τ sig := Proc.devRef .tc main_v23
abbrev o' : DevRef τ sig := Proc.devRef .tc main_v25

/-- When the pooling call starts. -/
def V3 (d : Dev nD) : Valuation τ sig (Elt F) := StableHlo.after midOps (L2 m d)

abbrev Hm (d : Dev nD) : Buf (Elt F) (hLoc d) := V3 m d h'
abbrev Jm (d : Dev nD) : Buf (Elt F) (jLoc d) := V3 m d j'
abbrev Am (d : Dev nD) : Buf (Elt F) (aLoc d) := V3 m d a'
abbrev Bm (d : Dev nD) : Buf (Elt F) (bLoc d) := V3 m d b'
abbrev Om (d : Dev nD) : Buf (Elt F) (oLoc d) := V3 m d o'

abbrev PM : (K (F := F)).Pay (nD := nD) (Val := Elt F) (Name := ℕ) (U := UU) := P (Hm m) (Jm m) (Am m) (Bm m) (Om m)

/-- When it ends. -/
def V4 (d : Dev nD) : Valuation τ sig (Elt F) := Function.update (V3 m d) o' (res (Hm m) (Jm m) (Am m) (Bm m) d)

/-- When the program ends. -/
def V5 (d : Dev nD) : Valuation τ sig (Elt F) := StableHlo.after opsEnd (V4 m d)

/-- The buffers the pooling call is given. -/
abbrev five : Finset (DevRef τ sig) := {h', j', a', b', o'}

theorem five_sub : five ⊆ ucRefs τ sig := by
  intro b hb
  simp only [five, Finset.mem_insert, Finset.mem_singleton] at hb
  rcases hb with rfl | rfl | rfl | rfl | rfl <;> exact Pipeline.devRef_mem_ucRefs rfl

omit [FloatOps F] in
theorem held_five (d : Dev nD) (W : Valuation τ sig (Elt F)) :
    (held (SparseCore.T d) five W : sProp 𝕄)
      = iprop((hLoc d ↦{fullShare} W h') ∗ (jLoc d ↦{fullShare} W j') ∗ (aLoc d ↦{fullShare} W a') ∗ (bLoc d ↦{fullShare} W b')
          ∗ (oLoc d ↦{fullShare} W o')) := by
  unfold held five
  rw [SparseCore.bigSep_insert' (by decide), SparseCore.bigSep_insert' (by decide), SparseCore.bigSep_insert' (by decide),
    SparseCore.bigSep_insert' (by decide), bigSep_singleton]

theorem V4_o (d : Dev nD) : V4 m d o' = res (Hm m) (Jm m) (Am m) (Bm m) d := Function.update_self _ _ _
theorem V4_of_ne (d : Dev nD) (b : DevRef τ sig) (hb : b ≠ o') : V4 m d b = V3 m d b := Function.update_of_ne hb _ _

theorem held_rest (d : Dev nD) : (held (SparseCore.T d) (ucRefs τ sig \ five) (V4 m d) : sProp 𝕄) = held (SparseCore.T d) (ucRefs τ sig \ five) (V3 m d) :=
  StableHlo.held_congr _ fun b hb => V4_of_ne m d b fun e =>
    (Finset.mem_sdiff.mp hb).2 (e ▸ by simp only [five, Finset.mem_insert, Finset.mem_singleton, true_or, or_true])

/-- What the pooling call is started with and what it hands back are the five buffers whole. -/
theorem st_eq (d : Dev nD) : (bigSep Finset.univ fun c : Fin ((K (F := F)).nCore 0) => (PM m).st 0 d c) = held (SparseCore.T d) five (V3 m d) := by
  rw [held_five]
  exact (whole_eq (Hm m) (Jm m) (Am m) (Bm m) (Om m) d).symm
theorem dn_eq (d : Dev nD) : (bigSep Finset.univ fun c : Fin ((K (F := F)).nCore 0) => (PM m).dn 0 d c) = held (SparseCore.T d) five (V4 m d) := by
  rw [held_five, V4_o, V4_of_ne m d h' (by decide), V4_of_ne m d j' (by decide), V4_of_ne m d a' (by decide), V4_of_ne m d b' (by decide)]
  exact (whole_eq (Hm m) (Jm m) (Am m) (Bm m) (res (Hm m) (Jm m) (Am m) (Bm m)) d).symm

/-- What the program leaves. -/
abbrev FIN (d : Dev nD) : sProp 𝕄 := held (SparseCore.T d) (ucRefs τ sig) (V5 m d)

instance lands : (EP (F := F)).LandsIn (upEmb : UEmb _ 𝕄) := by unfold EP; infer_instance

/-- What a call starts with of its staging cells. -/
abbrev staged (p : Fin 3) (d : Dev nD) : sProp 𝕄 :=
  iprop((Pipeline.cellsGhost cfgs (EP (F := F)) p d) ∗ Pipeline.toksInit cfgs (EP (F := F)) p d)

theorem stage_split (d : Dev nD) : (stage d : sProp 𝕄) ⊢ iprop(staged 0 d ∗ staged 1 d ∗ staged 2 d) := by
  unfold stage
  rw [bigSep_W1, bigSep_W1]
  iintro ⟨⟨G0, G1, G2⟩, ⟨T0, T1, T2⟩⟩
  isplitl [G0 T0]
  · isplitl [G0] <;> iassumption
  isplitl [G1 T1]
  · isplitl [G1] <;> iassumption
  isplitl [G2] <;> iassumption

/-- TensorCore call `p`, of the body table. -/
abbrev entryCall (p : Fin 3) : Prog (TpuEff nD τ sig (Elt F) (Pipeline.Sig Λ₀ (Fin 3) fun p => (pcfgs (F := F) p).Adm) .tc) PUnit :=
  .op (.customCall (Pipeline.entry p) ()) fun r => .ret r

theorem entry_lift (p : Fin 3) : SparseCore.liftProg (Q := 1) (entryCall (F := F) p) = callAt p := rfl

theorem segment_pre (D : Dats F) (p : Fin 3) (E : Dev nD → Valuation τ sig (Elt F)) (h : Runs D p E) (d : Dev nD) :
    (segment D p E h).pre d = iprop(held (SparseCore.T d) (ucRefs τ sig) (E d) ∗ (∃ r, prngReg d r) ∗ debt d) := rfl
theorem segment_post (D : Dats F) (p : Fin 3) (E : Dev nD → Valuation τ sig (Elt F)) (h : Runs D p E) (d : Dev nD) :
    (segment D p E h).post d
      = iprop(held (SparseCore.T d) (ucRefs τ sig) (Pipeline.afterRegion (D p d) (E d)) ∗ (∃ r, prngReg d r) ∗ debt d) := rfl

/-- A TensorCore call in the whole program. -/
theorem call_wp [∀ e, Nonempty (Elt F e)] (D' : Dats F) (p : Fin 3) (E : Dev nD → Valuation τ sig (Elt F)) (h : Runs D' p E) (d : Dev nD)
    (V' : Valuation τ sig (Elt F)) (hV : V' = Pipeline.afterRegion (D' p d) (E d)) (Q : PUnit → sProp 𝕄) :
    iprop(((boundary (SparseCore.T d) ∗ held (SparseCore.T d) (ucRefs τ sig) V' ∗ (∃ r, prngReg d r) ∗ debt d) -∗ Q ⟨⟩)
        ∗ boundary (SparseCore.T d) ∗ (held (SparseCore.T d) (ucRefs τ sig) (E d) ∗ (∃ r, prngReg d r) ∗ debt d)
        ∗ levAts (K (F := F)).L (K (F := F)).lev ∗ staged p d)
      ⊢ wp frame (wpE ((K (F := F)).defs (D (F := F))) 𝒱 (SparseCore.T d) none) Set.univ (callAt p) Q := by
  subst hV
  rw [← entry_lift]
  refine BI.Entails.trans ?_ ((K (F := F)).wp_liftProg (D (F := F)) 𝒱 (SparseCore.T d) Set.univ none (entryCall p) Q)
  refine BI.Entails.trans ?_ (Pipeline.RegionSeg.wp (α := PUnit) pcfgs adm D' none cellOf_inj EP defs₀ 𝒱₀ (K (F := F)).L (K (F := F)).lev
    (segment D' p E h) d none (fun _ h => nomatch h) (fun r => .ret r) Q)
  rw [segment_pre, segment_post]
  show (_ : sProp 𝕄) ⊢ (_ : sProp 𝕄)
  iintro ⟨Hk, Hb, Hpre, Hlev, Hg, Ht⟩
  isplitl [Hk]
  · iintro ⟨Hb, Hpost⟩
    rw [wp_ret]; imodintro
    iapply Hk
    iframe Hb Hpost
  iframe Hb Hpre Hlev Hg Ht

theorem split_mid (d : Dev nD) : (held (d.tc : Thread nD τ) (ucRefs τ sig) (StableHlo.after midOps (L2 m d)) : sProp 𝕄)
    = iprop(held (SparseCore.T d) five (V3 m d) ∗ held (SparseCore.T d) (ucRefs τ sig \ five) (V3 m d)) :=
  StableHlo.held_sub_split (SparseCore.T d) five_sub (V3 m d)
theorem fin_eq (d : Dev nD) : (held (d.tc : Thread nD τ) (ucRefs τ sig) (StableHlo.after opsEnd (V4 m d)) : sProp 𝕄) = FIN m d := rfl

/-- The core's part in the pooling call before it is made, less what the core owes. -/
abbrev part0 (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem state_eq (d : Dev nD) : ((K (F := F)).tcSt EH d 0 : sProp 𝕄) = iprop(debt d ∗ part0 d) := rfl

/-- The program on a device's TensorCore: its lines and its four calls, one after another. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ stage d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((SparseCore.T d).loc b)) : sProp 𝕄) = held (SparseCore.T d) (ucRefs τ sig) (fun b => m (d, b)) :=
    Pipeline.unscopedBufs_held d (fun b => m (d, b))
  unfold SparseCore.Cfg.tcRes SparseCore.Cfg.tcEnd
  rw [hu, main_eq, Pipeline.chain_cons]
  iintro ⟨#Hctx, Hst, ⟨Hb, Hheld, Hts, Hp⟩, Hg⟩
  ihave #Hlev := ((K (F := F)).ctx_levAts κ) $$ Hctx
  ihave Hg' := (stage_split d) $$ Hg
  icases Hg' with ⟨G0, G1, G2⟩
  iapply (StableHlo.wp_seq 𝒱 none Set.univ d (ucRefs τ sig) _ ops0 sub0 fresh0 (fun b => m (d, b))) $$ [Hb Hheld]
  · isplitl [Hb] <;> iassumption
  iintro ⟨Hb, Hheld⟩
  rw [Pipeline.chain_cons, wp_bind]
  ihave Hst' := (Entails.of_eq (state_eq d)) $$ Hst
  icases Hst' with ⟨HO, Hst⟩
  iapply (call_wp (dats m) 0 (E0 m) (runs0 m) d (E1 m d) rfl _) $$ [Hb Hheld Hts Hp HO Hst G0 G1 G2]
  isplitr [Hb Hheld Hp HO G0]
  · iintro ⟨Hb, Hheld, Hp, HO⟩
    rw [Pipeline.chain_cons, wp_bind]
    iapply (call_wp (dats m) 1 (E1 m) (runs1 m) d (L1 m d) rfl _) $$ [Hb Hheld Hts Hp HO Hst G1 G2]
    isplitr [Hb Hheld Hp HO G1]
    · iintro ⟨Hb, Hheld, Hp, HO⟩
      rw [Pipeline.chain_cons]
      iapply (StableHlo.wp_seq 𝒱 none Set.univ d (ucRefs τ sig) _ ops2 sub2 fresh2 (L1 m d)) $$ [Hb Hheld]
      · isplitl [Hb] <;> iassumption
      iintro ⟨Hb, Hheld⟩
      rw [Pipeline.chain_cons, wp_bind]
      iapply (call_wp (dats m) 2 (E2 m) (runs2 m) d (L2 m d) rfl _) $$ [Hb Hheld Hts Hp HO Hst G2]
      isplitr [Hb Hheld Hp HO G2]
      · iintro ⟨Hb, Hheld, -, HO⟩
        rw [Pipeline.chain_cons]
        iapply (StableHlo.wp_seq 𝒱 none Set.univ d (ucRefs τ sig) _ midOps mid_sub mid_fresh (L2 m d)) $$ [Hb Hheld]
        · isplitl [Hb] <;> iassumption
        iintro ⟨Hb, Hheld⟩
        ihave Hh := (Entails.of_eq (split_mid m d)) $$ Hheld
        icases Hh with ⟨Hfive, Hrest⟩
        rw [Pipeline.chain_cons, wp_bind]
        iapply ((K (F := F)).wp_run (D (F := F)) 𝒱 (EH := EH) (P := PM m) κ d 0) $$ [HO Hst Hfive Hrest Hb Hts]
        isplitr; · iexact Hctx
        isplitl [HO Hst]
        · iapply (Entails.of_eq (state_eq d).symm)
          iframe HO Hst
        isplitl [Hfive]
        · iapply (Entails.of_eq (st_eq m d).symm); iexact Hfive
        iintro ⟨Hst, Hdn⟩
        ihave Hfive := (Entails.of_eq (dn_eq m d)) $$ Hdn
        ihave Hrest := (Entails.of_eq (held_rest m d).symm) $$ Hrest
        ihave Hheld := (Entails.of_eq (StableHlo.held_sub_split (SparseCore.T d) five_sub (V4 m d)).symm) $$ [Hfive Hrest]
        · isplitl [Hfive] <;> iassumption
        rw [Pipeline.chain_cons]
        iapply (StableHlo.wp_seq 𝒱 none Set.univ d (ucRefs τ sig) _ opsEnd end_sub end_fresh (V4 m d)) $$ [Hb Hheld]
        · isplitl [Hb] <;> iassumption
        iintro ⟨Hb, Hheld⟩
        rw [Pipeline.chain_nil, wp_pure]; imodintro
        isplitl [Hst]; · iexact Hst
        isplitl [Hheld]; · iapply (Entails.of_eq (fin_eq m d)); iexact Hheld
        isplitl [Hb] <;> iassumption
      isplitl [Hb]; · iexact Hb
      isplitl [Hheld Hp HO]
      · iframe Hheld Hp HO
      isplitr; · iexact Hlev
      iexact G2
    isplitl [Hb]; · iexact Hb
    isplitl [Hheld Hp HO]
    · iframe Hheld Hp HO
    isplitr; · iexact Hlev
    iexact G1
  isplitl [Hb]; · iexact Hb
  isplitl [Hheld Hp HO]
  · isplitl [Hheld]; · iexact Hheld
    isplitl [Hp]; · iexists _; iexact Hp
    iexact HO
  isplitr; · iexact Hlev
  iexact G0

/-! ## The run -/

/-- What is read off the final state of device `d`. -/
def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all (ucRefs τ sig) (fun b => ((SparseCore.T d).1, b)) (V5 m d) s') $$ [Hh HSI]
  · isplitl [Hh] <;> iassumption
  icases Hr with ⟨%h, -⟩
  ipureintro; exact h

/-- What the whole machine is left with: every device as `fq` says, every semaphore at zero. -/
def QC : PUnit × MemSt nD τ sig (Elt F) → Prop := fun r =>
  (∀ d : Dev nD, ∀ b ∈ ucRefs τ sig, r.2.mem (d, b) = V5 m d b) ∧ r.2.sem = fun _ => 0

/-- Every run of the program from a launch memory whose indices name rows of the features ends, with every buffer as `V5`
    says and every counter at zero. -/
theorem run_main [∀ e, Nonempty (Elt F e)] (hJ : ∀ d, ∀ x : S131072.Idx, (show BitVec 32 from Jm m d x).toNat < 32768) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ hJ)
    (fun q _ => match q with | 0 => SparseCore.Cfg.VecSplit.of_plain (vecSplit _ _ _ _ _))
    m ρ main (fun d => stage d) (FIN m) (u₀ (F := F)) (sep_elim_left.trans (hu₀ _ _ _ _ _)) (hmain m ρ) (fq m) (hfin m) (QC m) (fun _ h hz => ⟨h, hz⟩)

/-! # The arguments at the end, the row numbers, and the results -/

/-- A buffer that no line and no call up to the end of the feature call writes is as it was. -/
theorem kept (c : Dev nD) (b : Ref sig .tc) (h0 : ∀ w, b ≠ Pipeline.arrRef spec0 w) (h1 : ∀ w, b ≠ Pipeline.arrRef spec1 w)
    (h2 : ∀ w, b ≠ Pipeline.arrRef spec2 w)
    (e0 : E0 m c (Proc.devRef .tc b) = m ((c : Thread nD τ).loc b)) (e2 : E2 m c (Proc.devRef .tc b) = L1 m c (Proc.devRef .tc b)) :
    L2 m c (Proc.devRef .tc b) = m ((c : Thread nD τ).loc b) :=
  (Pipeline.afterRegion_of_not_arr (dat2 (E2 m) c) (E2 m c) (b := b) h2).trans (e2.trans
    ((Pipeline.afterRegion_of_not_arr (Knn.dat (E1 m) c) (E1 m c) (b := b) h1).trans
      ((Pipeline.afterRegion_of_not_arr (Fps.dat (E0 m) c) (E0 m c) (b := b) h0).trans e0)))

theorem L2_0 (c : Dev nD) : L2 m c (Proc.devRef .tc main_arg0) = m ((c : Thread nD τ).loc main_arg0) :=
  kept m c main_arg0 (by decide) (by decide) (by decide) (by unfold E0; after_results) (by unfold E2; after_results)
theorem L2_1 (c : Dev nD) : L2 m c (Proc.devRef .tc main_arg1) = m ((c : Thread nD τ).loc main_arg1) :=
  kept m c main_arg1 (by decide) (by decide) (by decide) (by unfold E0; after_results) (by unfold E2; after_results)
theorem L2_2 (c : Dev nD) : L2 m c (Proc.devRef .tc main_arg2) = m ((c : Thread nD τ).loc main_arg2) :=
  kept m c main_arg2 (by decide) (by decide) (by decide) (by unfold E0; after_results) (by unfold E2; after_results)
theorem L2_3 (c : Dev nD) : L2 m c (Proc.devRef .tc main_arg3) = m ((c : Thread nD τ).loc main_arg3) :=
  kept m c main_arg3 (by decide) (by decide) (by decide) (by unfold E0; after_results) (by unfold E2; after_results)
theorem L2_4 (c : Dev nD) : L2 m c (Proc.devRef .tc main_arg4) = m ((c : Thread nD τ).loc main_arg4) :=
  kept m c main_arg4 (by decide) (by decide) (by decide) (by unfold E0; after_results) (by unfold E2; after_results)

/-- The points chosen, row by row, when the sampling call ends. -/
abbrev chosen (c : Dev nD) : Buf (Elt F) ((c : Thread nD τ).loc main_v3) := E1 m c (Proc.devRef .tc main_v3)

/-- The neighbours when the neighbour call ends. -/
abbrev neighbours (c : Dev nD) : Buf (Elt F) ((c : Thread nD τ).loc main_v4) := L1 m c (Proc.devRef .tc main_v4)

/-- The later calls leave the points chosen, -/
theorem L2_chosen (c : Dev nD) : L2 m c (Proc.devRef .tc main_v3) = chosen m c :=
  (Pipeline.afterRegion_of_not_arr (dat2 (E2 m) c) (E2 m c) (b := main_v3) (by decide)).trans
    ((show E2 m c (Proc.devRef .tc main_v3) = L1 m c (Proc.devRef .tc main_v3) from by unfold E2; after_results).trans
      ((Pipeline.afterRegion_arr (Knn.dat (E1 m) c) (E1 m c) winFacts1.arr_inj 1).trans
        (((Knn.dat (E1 m) c).arrAt_in 1 rfl cfg1.N).trans (Knn.A_eq (E1 m) c 1))))

/-- and the neighbours. -/
theorem L2_neighbours (c : Dev nD) : L2 m c (Proc.devRef .tc main_v4) = neighbours m c :=
  (Pipeline.afterRegion_of_not_arr (dat2 (E2 m) c) (E2 m c) (b := main_v4) (by decide)).trans
    (by unfold E2; after_results)

/-- The row numbers of core `c`, as a list. -/
abbrev rowsOf (c : Dev nD) : S131072.Idx → BitVec 32 := Pool.flatIdx (neighbours m c)

theorem J_eq (c : Dev nD) : Jm m c = rowsOf m c := by
  rw [rowsOf, ← L2_neighbours m c]
  unfold Jm V3
  after_results
  rfl

/-- The program's results. -/
abbrev pooled (c : Dev nD) : Buf (Elt F) ((c : Thread nD τ).loc main_v26) :=
  shapeCast S4x2048x128 (res (Hm m) (Jm m) (Am m) (Bm m) c) shapeCasts_S8192x128_S4x2048x128
abbrev points (c : Dev nD) : Buf (Elt F) ((c : Thread nD τ).loc main_v28) :=
  transpose S4x2048x3 [2, 0, 1] (shapeCast S2048x3x4 (chosen m c) shapeCasts_S2048x12_S2048x3x4) transposes_S2048x3x4_S4x2048x3_2_0_1

theorem V5_y (c : Dev nD) : V5 m c (Proc.devRef .tc main_v26) = pooled m c := by
  rw [pooled, ← V4_o]
  unfold V5
  after_results
  rfl

theorem V5_p (c : Dev nD) : V5 m c (Proc.devRef .tc main_v28) = points m c := by
  have e : V4 m c (Proc.devRef .tc main_v3) = chosen m c := by
    rw [← L2_chosen, V4_of_ne m c _ (by decide)]
    unfold V3
    after_results
  rw [points, ← e]
  unfold V5
  after_results
  rfl

/-- An argument is as it was. -/
theorem V5_0 (c : Dev nD) : V5 m c (Proc.devRef .tc main_arg0) = m ((c : Thread nD τ).loc main_arg0) := by
  rw [← L2_0 m c]
  unfold V5
  after_results
  rw [V4_of_ne m c _ (by decide)]
  unfold V3
  after_results
theorem V5_1 (c : Dev nD) : V5 m c (Proc.devRef .tc main_arg1) = m ((c : Thread nD τ).loc main_arg1) := by
  rw [← L2_1 m c]
  unfold V5
  after_results
  rw [V4_of_ne m c _ (by decide)]
  unfold V3
  after_results
theorem V5_2 (c : Dev nD) : V5 m c (Proc.devRef .tc main_arg2) = m ((c : Thread nD τ).loc main_arg2) := by
  rw [← L2_2 m c]
  unfold V5
  after_results
  rw [V4_of_ne m c _ (by decide)]
  unfold V3
  after_results
theorem V5_3 (c : Dev nD) : V5 m c (Proc.devRef .tc main_arg3) = m ((c : Thread nD τ).loc main_arg3) := by
  rw [← L2_3 m c]
  unfold V5
  after_results
  rw [V4_of_ne m c _ (by decide)]
  unfold V3
  after_results
theorem V5_4 (c : Dev nD) : V5 m c (Proc.devRef .tc main_arg4) = m ((c : Thread nD τ).loc main_arg4) := by
  rw [← L2_4 m c]
  unfold V5
  after_results
  rw [V4_of_ne m c _ (by decide)]
  unfold V3
  after_results

/-- Every run whose neighbours name points ends with the results in place, the arguments unchanged and every counter at zero. -/
theorem run_kernel [∀ e, Nonempty (Elt F e)] (hI : ∀ c x, (rowsOf m c x).toNat < 32768) :
    θ_run (Cert.WholeIdeal.defs (F := F)) (Cert.WholeIdeal.threads (F := F)) ⟨m, fun _ => 0, ρ⟩ fun r =>
      (∀ c : Dev nD, r.2.mem ((c : Thread nD τ).loc main_v26) = pooled m c
        ∧ r.2.mem ((c : Thread nD τ).loc main_v28) = points m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0 := by
  have at' : ∀ (r : PUnit × MemSt nD τ sig (Elt F)), QC m r → ∀ (c : Dev nD) (b : Ref sig .tc), b.isScoped = false →
      r.2.mem ((c : Thread nD τ).loc b) = V5 m c (Proc.devRef .tc b) :=
    fun r h c b hb => h.1 c _ (Pipeline.devRef_mem_ucRefs hb)
  refine (θ_run Cert.WholeIdeal.defs _ _).mono (fun r h => ⟨fun c =>
    ⟨(at' r h c main_v26 rfl).trans (V5_y m c), (at' r h c main_v28 rfl).trans (V5_p m c), (at' r h c main_arg0 rfl).trans (V5_0 m c),
      (at' r h c main_arg1 rfl).trans (V5_1 m c), (at' r h c main_arg2 rfl).trans (V5_2 m c), (at' r h c main_arg3 rfl).trans (V5_3 m c),
      (at' r h c main_arg4 rfl).trans (V5_4 m c)⟩, h.2⟩)
    (run_main m ρ fun c x => ?_)
  rw [J_eq]
  exact hI c x

end Cert.Proof.Whole

end
-- ==== Proof.Whole.Search.lean ====
module

public import proofs.«01_k».proof.Proof.Whole.Main
public import proofs.«01_k».proof.Proof.Sample.Main
public import proofs.«01_k».proof.Proof.Near.Main
public import Idealize.ShloMosaic.Lib.Pipeline.ValueKit

@[expose] public section

set_option maxRecDepth 16384

noncomputable section

namespace Cert.Proof.Whole

open Cert.WholeIdeal Cert.WholeIdeal.Gen
open Idealize.ShloMosaic Idealize.ShloMosaic.TcCoe Idealize.SL.Sem
open Cert.Proof.Sample (Cloud Holds HoldsDist HoldsLast fps far rows cloud sampled plane point)
open Cert.Proof.Near (nearest gap sampleAt)

/-! # The points chosen, and their neighbours -/

/-- Before trip `k` the carried values are those of `k` steps, and every row stored so far is its row of the result. -/
theorem fps_spec {P : Cloud} {v : Vec Ideal S12x64x128 .f32} (hv : Holds P v) (k : ℕ) (hk : k ≤ k0_t1_loop.trips) :
    HoldsDist (fps P far k).1 (Fps.after v k).1.1 ∧ HoldsLast P (fps P far k).2 (Fps.after v k).1.2 ∧
      ∀ p ∈ (Fps.after v k).2, ∀ x : p.1.shape.Idx, p.2 x = rows P (p.1.emb x) := by
  induction k with
  | zero =>
    refine ⟨Sample.holdsDist_pay4, Sample.holdsLast_pay2 hv, fun p hp => ?_⟩
    obtain rfl := List.mem_singleton.1 hp
    intro x
    refine Eq.trans ?_ (Sample.rows_emb P 0 _ inb_S2048x12_S1x12_0_0 rfl x).symm
    exact Sample.row_apply (Sample.holdsLast_pay2 hv) x
  | succ k ih =>
    obtain ⟨hd, hL, hp⟩ := ih (by omega)
    rw [Fps.after_succ v ⟨k, hk⟩]
    refine ⟨Sample.holdsDist_pay5 hv hd hL, Sample.holdsLast_pay6 hv hd hL, ?_⟩
    intro p hm
    rcases List.mem_cons.1 hm with rfl | hm
    · intro x
      refine Eq.trans ?_ (Sample.rows_emb P (k + 1) _ (k0_off1_inb ⟨k, hk⟩) (Cert.SampleIdeal.Gen.k0_off1_eq ⟨k, hk⟩) x).symm
      exact Sample.row_apply (Sample.holdsLast_pay6 hv hd hL) x
    · exact hp p hm

/-- The sampling call leaves the points chosen, row by row. -/
theorem fps_out {P : Cloud} {v : Vec Ideal S12x64x128 .f32} (hv : Holds P v) (y : S2048x12.Idx) : Fps.out v y = rows P y := by
  have h : ∀ p ∈ Fps.stored v, ∀ x : p.1.shape.Idx, p.2 x = rows P (p.1.emb x) := by
    unfold Fps.stored
    exact (fps_spec hv k0_t1_loop.trips le_rfl).2.2
  exact View.canon_apply_of_pieces (rows P) _ h y (Fps.cover v y)

variable (m : (ℓ : Loc nD τ sig) → Buf (Elt Ideal) ℓ)

/-- The points of core `c`. -/
abbrev pts (c : Dev nD) : S4x8192x3.Idx → EReal := m ((c : Thread nD τ).loc main_arg1)

/-- What the sampling call is given: the points, coordinates first, each cloud's in rows of 128. -/
theorem E0_v2 (c : Dev nD) : E0 m c (Proc.devRef .tc main_v2)
    = shapeCast S12x64x128 (shapeCast S12x8192 (transpose S3x4x8192 [2, 0, 1] (pts m c)
        transposes_S4x8192x3_S3x4x8192_2_0_1) shapeCasts_S3x4x8192_S12x8192) shapeCasts_S12x8192_S12x64x128 := by
  unfold E0
  after_results
  rfl

theorem E0_v1 (c : Dev nD) : E0 m c (Proc.devRef .tc main_v1)
    = shapeCast S12x8192 (transpose S3x4x8192 [2, 0, 1] (pts m c) transposes_S4x8192x3_S3x4x8192_2_0_1) shapeCasts_S3x4x8192_S12x8192 := by
  unfold E0
  after_results
  rfl

theorem holds_entry (c : Dev nD) : Holds (cloud (pts m c)) (E0 m c (Proc.devRef .tc main_v2)) := by
  intro q b s l
  rw [E0_v2]
  refine (shapeCast_apply _ _ _ (ix2 (plane q b) (point s l)) ?_).trans
    ((shapeCast_apply _ _ _ (ix3 q b (point s l)) ?_).trans (transpose_apply _ _ _ _ (ix3 b (point s l) q) ?_))
  · rw [Shape.rowMajor_val_two, Shape.rowMajor_val_three]
    show (4 * q.val + b.val) * 8192 + (128 * s.val + l.val) = ((4 * q.val + b.val) * 64 + s.val) * 128 + l.val
    omega
  · rw [Shape.rowMajor_val_two, Shape.rowMajor_val_three]
    show (q.val * 4 + b.val) * 8192 + (128 * s.val + l.val) = (4 * q.val + b.val) * 8192 + (128 * s.val + l.val)
    omega
  · intro a; fin_cases a <;> rfl

theorem holds_block (c : Dev nD) (t : Fin cfg0.N) : Holds (cloud (pts m c)) (Fps.iblk (E0 m) c 0 t) := by
  intro q b s l
  rw [← holds_entry m c q b s l]
  have idx : ∀ t : Fin cfg0.N, ∀ a, win0_0.index t a = 0 := (by decide +kernel : ∀ t : Fin grid0.N, ∀ a, win0_0.index t a = 0)
  blk_ext [Fps.iblk, idx t]

/-- After the call its output array holds the chosen points, row by row. -/
theorem fps_arr (c : Dev nD) : (Fps.dat (E0 m) c).arrAt 1 cfg0.N = rows (cloud (pts m c)) := by
  refine (Fps.dat (E0 m) c).arrAt_eq_of_covers 1 _ (by decide +kernel) fun t hf y => ?_
  have idx : ∀ t : Fin cfg0.N, ∀ a, win0_1.index t a = 0 := (by decide +kernel : ∀ t : Fin grid0.N, ∀ a, win0_1.index t a = 0)
  blk_simp
  rw [Fps.after_1]
  refine (fps_out (holds_block m c t) _).trans ?_
  refine congrArg (rows _) (funext fun a => Fin.ext ?_)
  blk_simp [idx t]

theorem chosen_eq (c : Dev nD) : chosen m c = rows (cloud (pts m c)) :=
  (Pipeline.afterRegion_arr (Fps.dat (E0 m) c) (E0 m c) winFacts0.arr_inj 1).trans (fps_arr m c)

theorem E1_v1 (c : Dev nD) : E1 m c (Proc.devRef .tc main_v1) = E0 m c (Proc.devRef .tc main_v1) :=
  Pipeline.afterRegion_of_not_arr (Fps.dat (E0 m) c) (E0 m c) (b := main_v1) (by decide)

/-- The chosen points as the second result. -/
theorem points_eq (c : Dev nD) : points m c = sampled (cloud (pts m c)) := by
  rw [points, chosen_eq]
  funext y
  have hy : y = ix3 (y 0) (y 1) (y 2) := by funext a; fin_cases a <;> rfl
  rw [hy]
  exact (Sample.tail_apply _ _ _ _).trans (Sample.rows_apply _ _ _ _)

theorem points_apply (c : Dev nD) (k : Fin 3) (b : Fin 4) (n : Fin 8192) :
    E1 m c (Proc.devRef .tc main_v1) (ix2 (plane k b) n) = pts m c (ix3 b n k) := by
  rw [E1_v1, E0_v1]
  refine (shapeCast_apply _ _ _ (ix3 k b n) ?_).trans (transpose_apply _ _ _ _ (ix3 b n k) (by intro a; fin_cases a <;> rfl))
  rw [Shape.rowMajor_val_two, Shape.rowMajor_val_three]
  show (k.val * 4 + b.val) * 8192 + n.val = (4 * k.val + b.val) * 8192 + n.val
  omega

theorem samples_apply (c : Dev nD) (k : Fin 3) (b : Fin 4) (i : Fin 2048) :
    E1 m c (Proc.devRef .tc main_v3) (ix2 i (plane k b)) = sampled (cloud (pts m c)) (ix3 b i k) :=
  (congrFun (chosen_eq m c) _).trans (Sample.rows_apply _ _ _ _)

theorem block_points (c : Dev nD) (t : Fin cfg1.N) (j : Fin 12) (n : Fin 8192) :
    Knn.iblk (E1 m) c 0 t (ix2 j n) = E1 m c (Proc.devRef .tc main_v1) (ix2 j n) := by
  have idx : ∀ t : Fin cfg1.N, ∀ a, win1_0.index t a = 0 := (by decide +kernel : ∀ t : Fin grid1.N, ∀ a, win1_0.index t a = 0)
  blk_ext [Knn.iblk, idx t]

theorem block_samples (c : Dev nD) (t : Fin cfg1.N) (ht : t.val < 16) (q : Fin 128) (j : Fin 12) :
    Knn.iblk (E1 m) c 1 t (ix2 q j) = E1 m c (Proc.devRef .tc main_v3) (ix2 (sampleAt t.val ht q) j) := by
  have idx : ∀ t : Fin cfg1.N, win1_1.index t 0 = t.val ∧ win1_1.index t 1 = 0 :=
    (by decide +kernel : ∀ t : Fin grid1.N, win1_1.index t 0 = t.val ∧ win1_1.index t 1 = 0)
  blk_ext [Knn.iblk, sampleAt, (idx t).1, (idx t).2]

theorem sq_block (c : Dev nD) (t : Fin cfg1.N) (ht : t.val < 16) (b : Fin 4) (q : Fin 128) :
    Near.sq (Knn.iblk (E1 m) c 0 t) (Knn.iblk (E1 m) c 1 t) b q
      = gap (pts m c) (sampled (cloud (pts m c))) b (sampleAt t.val ht q) := by
  funext n
  have hp : ∀ k : Fin 3, Knn.iblk (E1 m) c 0 t (ix2 (plane k b) n) = pts m c (ix3 b n k) :=
    fun k => (block_points m c t _ n).trans (points_apply m c k b n)
  have hs : ∀ k : Fin 3, Knn.iblk (E1 m) c 1 t (ix2 q (plane k b)) = sampled (cloud (pts m c)) (ix3 b (sampleAt t.val ht q) k) :=
    fun k => (block_samples m c t ht q _).trans (samples_apply m c k b _)
  unfold Near.sq gap
  rw [hp 0, hp 1, hp 2, hs 0, hs 1, hs 2]

/-- After the neighbour call its output array holds the nearest points. -/
theorem knn_arr (c : Dev nD) : (Knn.dat (E1 m) c).arrAt 2 cfg1.N = nearest (pts m c) (sampled (cloud (pts m c))) := by
  refine (Knn.dat (E1 m) c).arrAt_eq_of_covers 2 _ (by decide +kernel) fun t hf y => ?_
  have idx : ∀ t : Fin cfg1.N, win1_2.index t 0 = 0 ∧ win1_2.index t 1 = t.val ∧ win1_2.index t 2 = 0 :=
    (by decide +kernel : ∀ t : Fin grid1.N, win1_2.index t 0 = 0 ∧ win1_2.index t 1 = t.val ∧ win1_2.index t 2 = 0)
  have ht : t.val < 16 := lt_of_lt_of_eq t.isLt (show cfg1.N = 16 from N_1)
  blk_simp
  rw [Knn.after_2]
  obtain ⟨b, q, r, rfl⟩ : ∃ (b : Fin 4) (q : Fin 128) (r : Fin 16), y = ix3 b q r :=
    ⟨y 0, y 1, y 2, by funext a; fin_cases a <;> rfl⟩
  refine (Near.out_apply _ _ _).trans ?_
  have e : nearest (pts m c) (sampled (cloud (pts m c))) (ix3 b (sampleAt t.val ht q) r)
      = Near.found (Knn.iblk (E1 m) c 0 t) (Knn.iblk (E1 m) c 1 t) (ix3 b q r) := by
    unfold nearest Near.found
    exact congrArg (fun f => IntOp.addi (BitVec.ofNat 32 (Near.picked Near.top f r.val).val) (Near.base b)) (sq_block m c t ht b q).symm
  refine e.symm.trans (congrArg _ (funext fun a => Fin.ext ?_))
  fin_cases a
  · blk_simp [(idx t).1]
    rfl
  · blk_simp [sampleAt, (idx t).2.1]
    show 128 * t.val + q.val = t.val * 128 + q.val
    omega
  · blk_simp [(idx t).2.2]
    rfl

theorem neighbours_eq (c : Dev nD) : neighbours m c = nearest (pts m c) (sampled (cloud (pts m c))) :=
  (Pipeline.afterRegion_arr (Knn.dat (E1 m) c) (E1 m c) winFacts1.arr_inj 2).trans (knn_arr m c)

/-- Every neighbour is a row of the table of features. -/
theorem nearest_lt (p1 : S4x8192x3.Idx → EReal) (p2 : S4x2048x3.Idx → EReal) (y : S4x2048x16.Idx) : (nearest p1 p2 y).toNat < 32768 := by
  have h : ∀ (n : Fin 8192) (b : Fin 4), (IntOp.addi (BitVec.ofNat 32 n.val) (Near.base b)).toNat < 32768 := by
    intro n b
    have hn := n.isLt
    have hb := b.isLt
    unfold IntOp.addi Near.base
    rw [BitVec.toNat_add, BitVec.toNat_ofNat, BitVec.toNat_ofNat]
    omega
  exact h _ _

theorem rows_lt (c : Dev nD) (y : S131072.Idx) : (rowsOf m c y).toNat < 32768 := by
  rw [rowsOf, neighbours_eq]
  exact nearest_lt _ _ (Shape.reshapeEquiv _ y)

end Cert.Proof.Whole

end
-- ==== Proof.Whole.Value.lean ====
module

public import proofs.«01_k».proof.Proof.Whole.Search
public import proofs.«01_k».proof.Proof.Whole.Region
public import proofs.«01_k».proof.Proof.Moments.Ref
public import Idealize.ShloMosaic.Lib.Pipeline.ValueKit

@[expose] public section

set_option maxRecDepth 16384

noncomputable section

namespace Cert.Proof.Whole

open Cert.WholeIdeal Cert.WholeIdeal.Gen
open Idealize.ShloMosaic Idealize.ShloMosaic.TcCoe Idealize.SL.Sem
open Cert.Proof.Moments (prod Adds feat row upto upto_of_adds upto_all prod_feat mean varK scaleK count eps)

/-! # What the feature call leaves, and what the pooling call is given -/

variable (m : (ℓ : Loc nD τ sig) → Buf (Elt Ideal) ℓ)

/-- The features of core `c`'s arguments. -/
abbrev feats (c : Dev nD) : Fin 32768 → Fin 128 → EReal :=
  feat (m ((c : Thread nD τ).loc main_arg0)) (m ((c : Thread nD τ).loc main_arg2))

/-- The weight and the offset of core `c`'s normalisation. -/
abbrev weight (c : Dev nD) : S128.Idx → EReal := m ((c : Thread nD τ).loc main_arg3)
abbrev offset (c : Dev nD) : S128.Idx → EReal := m ((c : Thread nD τ).loc main_arg4)

/-- A buffer that no line and no call before the feature call writes is as it was. -/
theorem L1_arg (c : Dev nD) (b : Ref sig .tc) (h0 : ∀ w, b ≠ Pipeline.arrRef spec0 w) (h1 : ∀ w, b ≠ Pipeline.arrRef spec1 w)
    (e0 : E0 m c (Proc.devRef .tc b) = m ((c : Thread nD τ).loc b)) : L1 m c (Proc.devRef .tc b) = m ((c : Thread nD τ).loc b) :=
  (Pipeline.afterRegion_of_not_arr (Knn.dat (E1 m) c) (E1 m c) (b := b) h1).trans
    ((Pipeline.afterRegion_of_not_arr (Fps.dat (E0 m) c) (E0 m c) (b := b) h0).trans e0)

theorem entry_x (c : Dev nD) : enter (E2 m) c main_v5
    = shapeCast S32768x64 (m ((c : Thread nD τ).loc main_arg0)) shapeCasts_S4x8192x64_S32768x64 := by
  rw [← L1_arg m c main_arg0 (by decide) (by decide) (by unfold E0; after_results)]
  unfold enter E2
  after_results
  rfl

theorem entry_w (c : Dev nD) : enter (E2 m) c main_v6
    = transpose S64x128 [1, 0] (m ((c : Thread nD τ).loc main_arg2)) transposes_S128x64_S64x128_1_0 := by
  rw [← L1_arg m c main_arg2 (by decide) (by decide) (by unfold E0; after_results)]
  unfold enter E2
  after_results

theorem block_x (c : Dev nD) (t : Fin cfg2.N) (ht : t.val < 64) (r : Fin 512) (k : Fin 64) :
    iblk (E2 m) c 0 t (ix2 r k) = enter (E2 m) c main_v5 (ix2 (row t.val ht r) k) := by
  have idx : ∀ t : Fin cfg2.N, win2_0.index t 0 = t.val ∧ win2_0.index t 1 = 0 :=
    (by decide +kernel : ∀ t : Fin grid2.N, win2_0.index t 0 = t.val ∧ win2_0.index t 1 = 0)
  blk_ext [iblk, row, (idx t).1, (idx t).2]

theorem block_w (c : Dev nD) (t : Fin cfg2.N) (k : Fin 64) (o : Fin 128) :
    iblk (E2 m) c 1 t (ix2 k o) = enter (E2 m) c main_v6 (ix2 k o) := by
  have idx : ∀ t : Fin cfg2.N, ∀ a, win2_1.index t a = 0 := (by decide +kernel : ∀ t : Fin grid2.N, ∀ a, win2_1.index t a = 0)
  blk_ext [iblk, idx t]

/-- The product at point `t` is the block of features of its rows. -/
theorem prod_block (c : Dev nD) (t : Fin cfg2.N) (ht : t.val < 64) (r : Fin 512) (o : Fin 128) :
    prod (iblk (E2 m) c 0 t) (iblk (E2 m) c 1 t) r o = feats m c (row t.val ht r) o :=
  prod_feat _ _ _ _ _ ht (fun r k => by rw [block_x m c t ht, entry_x]) (fun k o => by rw [block_w, entry_w]) r o

theorem out_first (c : Dev nD) (t : Fin cfg2.N) (h0 : t.val % 64 = 0) (h1 : ¬t.val % 64 = 63) :
    (outsAt0 (E2 m) c t.val t.isLt).1 = k2_pay1 (F := Ideal) (iblk (E2 m) c 0 t) (iblk (E2 m) c 1 t)
      ∧ Adds (iblk (E2 m) c 0 t) (iblk (E2 m) c 1 t) (fun _ => 0) (outsAt0 (E2 m) c t.val t.isLt).2.2 := by
  rw [outsAt0_A (E2 m) c t h0 h1]
  dsimp only
  exact ⟨out_A .., fun _ => acc_A ..⟩

theorem out_mid (c : Dev nD) (t : Fin cfg2.N) (h0 : ¬t.val % 64 = 0) (h1 : ¬t.val % 64 = 63) :
    (outsAt0 (E2 m) c t.val t.isLt).1 = k2_pay1 (F := Ideal) (iblk (E2 m) c 0 t) (iblk (E2 m) c 1 t)
      ∧ Adds (iblk (E2 m) c 0 t) (iblk (E2 m) c 1 t) (outsAt0 (E2 m) c (t.val - 1) (by have := t.isLt; omega)).2.2 (outsAt0 (E2 m) c t.val t.isLt).2.2 := by
  rw [outsAt0_B (E2 m) c t h0 h1]
  dsimp only
  exact ⟨out_B .., fun _ => acc_B ..⟩

theorem out_last (c : Dev nD) (t : Fin cfg2.N) (h0 : ¬t.val % 64 = 0) (h1 : t.val % 64 = 63) :
    (outsAt0 (E2 m) c t.val t.isLt).1 = k2_pay1 (F := Ideal) (iblk (E2 m) c 0 t) (iblk (E2 m) c 1 t)
      ∧ Adds (iblk (E2 m) c 0 t) (iblk (E2 m) c 1 t) (outsAt0 (E2 m) c (t.val - 1) (by have := t.isLt; omega)).2.2 (outsAt0 (E2 m) c t.val t.isLt).2.2
      ∧ (outsAt0 (E2 m) c t.val t.isLt).2.1 = (outsAt0 (E2 m) c t.val t.isLt).2.2 := by
  rw [outsAt0_C (E2 m) c t h0 h1]
  dsimp only
  exact ⟨out_C .., (fun _ => acc_C ..), stats_C ..⟩

/-- Every point leaves its block of the product. -/
theorem out_spec (c : Dev nD) (t : Fin cfg2.N) :
    (outsAt0 (E2 m) c t.val t.isLt).1 = k2_pay1 (F := Ideal) (iblk (E2 m) c 0 t) (iblk (E2 m) c 1 t) := by
  by_cases h0 : t.val % 64 = 0
  · exact (out_first m c t h0 (by omega)).1
  · by_cases h1 : t.val % 64 = 63
    · exact (out_last m c t h0 h1).1
    · exact (out_mid m c t h0 h1).1

/-- The running sums after point `n`. -/
theorem acc_spec (c : Dev nD) : ∀ (n : ℕ) (hn : n < cfg2.N) (o : Fin 128),
    (outsAt0 (E2 m) c n hn).2.2 (ix2 0 o) = upto (fun i => feats m c i o) (512 * (n + 1))
      ∧ (outsAt0 (E2 m) c n hn).2.2 (ix2 1 o) = upto (fun i => feats m c i o * feats m c i o) (512 * (n + 1)) := by
  refine upto_of_adds (feats m c) (show cfg2.N = 64 from N_2) (iblk (E2 m) c 0 ·) (iblk (E2 m) c 1 ·) (fun n hn => (outsAt0 (E2 m) c n hn).2.2)
    (prod_block m c) (fun h => (out_first m c ⟨0, h⟩ (Nat.zero_mod _) (by dsimp only; omega)).2) fun n hn => ?_
  have h64 : n + 1 < 64 := lt_of_lt_of_eq hn (show cfg2.N = 64 from N_2)
  have h0 : ¬(n + 1) % 64 = 0 := by omega
  by_cases h1 : (n + 1) % 64 = 63
  · exact (out_last m c ⟨n + 1, hn⟩ h0 h1).2.1
  · exact (out_mid m c ⟨n + 1, hn⟩ h0 h1).2

/-- The features as an array. -/
def featArr (c : Dev nD) (y : S32768x128.Idx) : EReal := feats m c (y 0) (y 1)

theorem arr_h (c : Dev nD) : (dat2 (E2 m) c).arrAt 2 cfg2.N = featArr m c := by
  refine (dat2 (E2 m) c).arrAt_eq_of_covers 2 _ (by decide +kernel) fun t hf y => ?_
  have idx : ∀ t : Fin cfg2.N, win2_2.index t 0 = t.val ∧ win2_2.index t 1 = 0 :=
    (by decide +kernel : ∀ t : Fin grid2.N, win2_2.index t 0 = t.val ∧ win2_2.index t 1 = 0)
  have ht : t.val < 64 := lt_of_lt_of_eq t.isLt (show cfg2.N = 64 from N_2)
  blk_simp
  rw [after0_2, out_spec]
  obtain ⟨r, o, rfl⟩ : ∃ (r : Fin 512) (o : Fin 128), y = ix2 r o := ⟨y 0, y 1, by funext a; fin_cases a <;> rfl⟩
  refine (pay1_apply _ _ _ _).trans ((prod_block m c t ht _ _).trans ?_)
  refine congrArg₂ (feats m c) (Fin.ext ?_) (Fin.ext ?_)
  · blk_simp [row, (idx t).1, (idx t).2]
    show 512 * t.val + r.val = t.val * 512 + r.val
    omega
  · blk_simp [(idx t).1, (idx t).2]

/-- The last point of the grid. -/
def lastPt : Fin cfg2.N := ⟨63, lt_of_lt_of_eq (by decide) (show cfg2.N = 64 from N_2).symm⟩

/-- The running sums after the last point. -/
def sums (c : Dev nD) : S8x128.Idx → EReal := (outsAt0 (E2 m) c lastPt.val lastPt.isLt).2.2

theorem stats_last (c : Dev nD) (t : Fin cfg2.N) (h : t.val % 64 = 63) : (outsAt0 (E2 m) c t.val t.isLt).2.1 = sums m c := by
  have ht : t.val < 64 := lt_of_lt_of_eq t.isLt (show cfg2.N = 64 from N_2)
  have e : t = lastPt := Fin.ext (show t.val = 63 by omega)
  rw [(out_last m c t (by omega) h).2.2, e, sums]

theorem arr_s (c : Dev nD) : (dat2 (E2 m) c).arrAt 3 cfg2.N = sums m c := by
  refine (dat2 (E2 m) c).arrAt_eq_of_covers 3 _ (by decide +kernel) fun t hf y => ?_
  have idx : ∀ t : Fin cfg2.N, ∀ a, win2_3.index t a = 0 := (by decide +kernel : ∀ t : Fin grid2.N, ∀ a, win2_3.index t a = 0)
  blk_simp
  rw [after0_3, stats_last m c t ((flush2_3 t).mp hf)]
  refine congrArg (sums m c) (funext fun a => Fin.ext ?_)
  blk_simp [idx t]

theorem sums_apply (c : Dev nD) (o : Fin 128) : sums m c (ix2 0 o) = ∑ n : Fin 32768, feats m c n o
    ∧ sums m c (ix2 1 o) = ∑ n : Fin 32768, feats m c n o * feats m c n o := by
  unfold sums
  rw [(acc_spec m c lastPt.val lastPt.isLt o).1, (acc_spec m c lastPt.val lastPt.isLt o).2, show lastPt.val = 63 from rfl,
    upto_all, upto_all]
  exact ⟨rfl, rfl⟩

theorem L2_h (c : Dev nD) : L2 m c h' = featArr m c :=
  (Pipeline.afterRegion_arr (dat2 (E2 m) c) (E2 m c) winFacts2.arr_inj 2).trans (arr_h m c)

theorem L2_s (c : Dev nD) : L2 m c (Proc.devRef .tc main_v7_1) = sums m c :=
  (Pipeline.afterRegion_arr (dat2 (E2 m) c) (E2 m c) winFacts2.arr_inj 3).trans (arr_s m c)

theorem H_eq (c : Dev nD) : Hm m c = featArr m c := by
  rw [← L2_h]
  unfold Hm V3
  after_results

theorem A_apply (c : Dev nD) (o : Fin 128) : Am m c (ix1 o) = scaleK (feats m c) (weight m c (ix1 o)) o := by
  rw [scaleK, varK, mean, ← (sums_apply m c o).1, ← (sums_apply m c o).2, ← L2_s, weight, ← L2_3 m c]
  unfold Am V3
  after_results
  pointwise

theorem B_apply (c : Dev nD) (o : Fin 128) : Bm m c (ix1 o)
    = offset m c (ix1 o) - mean (feats m c) o * scaleK (feats m c) (weight m c (ix1 o)) o := by
  rw [scaleK, varK, mean, ← (sums_apply m c o).1, ← (sums_apply m c o).2, ← L2_s, weight, offset, ← L2_3 m c, ← L2_4 m c]
  unfold Bm V3
  after_results
  pointwise

end Cert.Proof.Whole

end
-- ==== Proof.Whole.RefRun.lean ====
module

public import proofs.«01_k».proof.Proof.Gen.WholeReferenceIdeal
public import Idealize.ShloMosaic.PureOps.Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.Whole.Ref

open Cert.WholeReferenceIdeal Cert.WholeReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! # The reference's run: operations, a counted loop of 2047 trips, operations -/

/-! ## The operations -/

/-- Before the loop: the batch numbers, the index buffer with 0 in its first column, the distances, and the loop's
    first values. -/
abbrev entryOps : List (HloOp τ sig (Elt Ideal)) :=
  [ nullary main_v0 (iotaInDim S4 32 0),
    nullary main_v1 (iotaInDim S4 32 0),
    nullary main_c (constantI S_ 32 0#32),
    unary main_c main_v2 (broadcastInDim S4x2048 ![] bcast_S_S4x2048),
    nullary main_c_0 (constantI S_ 32 0#32),
    unary main_c_0 main_v3 (broadcastInDim S1 ![] bcast_S_S1),
    nullary main_c_1 (constantI S_ 32 0#32),
    unary main_c_1 main_v4 (broadcastInDim S4 ![] bcast_S_S4),
    ternary main_v2 main_v3 main_v4 main_v5 (fun x i u => Host.scatter scatter_S4x2048_S1_S4_0_1_1_0 (fun _ b => b) x i u),
    nullary main_cst (constant (F := Ideal) S_ .f32 0x501502F9#32),
    unary main_cst main_v6 (broadcastInDim S4x8192 ![] bcast_S_S4x8192),
    nullary main_c_2 (constantI S_ 32 0#32),
    unary main_c_2 main_v7 (broadcastInDim S4 ![] bcast_S_S4),
    nullary main_c_3 (constantI S_ 32 1#32),
    nullary main_c_4 (constantI S_ 32 0#32),
    unary main_v1 main_v8_0 id,
    unary main_arg1 main_v8_1 id,
    unary main_c_4 main_v8_2 id,
    unary main_c_3 main_v8_3 id,
    unary main_v5 main_v8_4 id,
    unary main_v6 main_v8_5 id,
    unary main_v7 main_v8_6 id ]

/-- The loop's condition: the counter against 2047. -/
abbrev condOps : List (HloOp τ sig (Elt Ideal)) :=
  [ nullary main_while0c_c_21 (constantI S_ 32 2047#32),
    binary main_v8_2 main_while0c_c_21 main_while0c_v59 (cmpi .slt) ]

/-- One trip, first part: the pairs (batch number, last point). -/
abbrev pairOps : List (HloOp τ sig (Elt Ideal)) :=
  [ nullary main_while0b_c_21 (constantI S_ 32 1#32),
    binary main_v8_3 main_while0b_c_21 main_while0b_v59 addi,
    nullary main_while0b_c_22 (constantI S_ 32 0#32),
    unary main_while0b_c_22 main_while0b_v60 (broadcastInDim S4 ![] bcast_S_S4),
    binary main_v8_0 main_while0b_v60 main_while0b_v61 (cmpi .slt),
    nullary main_while0b_c_23 (constantI S_ 32 4#32),
    unary main_while0b_c_23 main_while0b_v62 (broadcastInDim S4 ![] bcast_S_S4),
    binary main_v8_0 main_while0b_v62 main_while0b_v63 addi,
    ternary main_while0b_v61 main_while0b_v63 main_v8_0 main_while0b_v64 select,
    nullary main_while0b_c_24 (constantI S_ 32 0#32),
    unary main_while0b_c_24 main_while0b_v65 (broadcastInDim S4 ![] bcast_S_S4),
    binary main_v8_6 main_while0b_v65 main_while0b_v66 (cmpi .slt),
    nullary main_while0b_c_25 (constantI S_ 32 8192#32),
    unary main_while0b_c_25 main_while0b_v67 (broadcastInDim S4 ![] bcast_S_S4),
    binary main_v8_6 main_while0b_v67 main_while0b_v68 addi,
    ternary main_while0b_v66 main_while0b_v68 main_v8_6 main_while0b_v69 select,
    unary main_while0b_v64 main_while0b_v70 (broadcastInDim S4x1 ![0] bcast_S4_S4x1_0),
    unary main_while0b_v69 main_while0b_v71 (broadcastInDim S4x1 ![0] bcast_S4_S4x1_0),
    binary main_while0b_v70 main_while0b_v71 main_while0b_v72
      (fun a b => concatenate S4x2 1 [⟨S4x1, a⟩, ⟨S4x1, b⟩] concatenates_S4x1_S4x1_S4x2_d1) ]

/-- Second part: every point's squared distance to its cloud's last point, and the distances lowered to it. -/
abbrev distOps : List (HloOp τ sig (Elt Ideal)) :=
  [ binary main_v8_1 main_while0b_v72 main_while0b_v73 (fun x i => Host.gather gather_S4x8192x3_S4x2_S4x3_1_01_n_n_01_1_113 x i),
    unary main_while0b_v73 main_while0b_v74 (broadcastInDim S4x1x3 ![0, 2] bcast_S4x3_S4x1x3_0_2),
    unary main_while0b_v74 main_while0b_v75 (broadcastInDim S4x8192x3 ![0, 1, 2] bcast_S4x1x3_S4x8192x3_0_1_2),
    binary main_v8_1 main_while0b_v75 main_while0b_v76 (subf (F := Ideal) (φ := .f32)),
    binary main_while0b_v76 main_while0b_v76 main_while0b_v77 (mulf (F := Ideal) (φ := .f32)),
    nullary main_while0b_cst_26 (constant (F := Ideal) S_ .f32 0x00000000#32),
    binary main_while0b_v77 main_while0b_cst_26 main_while0b_v78
      (fun x v => Host.reduceAdd (F := Ideal) (φ := .f32) x v reducesTo_S4x8192x3_S4x8192_d2 h_S_),
    binary main_v8_5 main_while0b_v78 main_while0b_v79 (minimumf (F := Ideal) (φ := .f32)) ]

/-- Third part: each cloud's greatest distance and where it first stands. -/
abbrev argOps : List (HloOp τ sig (Elt Ideal)) :=
  [ nullary main_while0b_call0_v0 (iotaInDim S4x8192 32 1),
    nullary main_while0b_call0_cst (constant (F := Ideal) S_ .f32 0xFF800000#32),
    nullary main_while0b_call0_c (constantI S_ 32 0#32),
    quaternary main_while0b_v79 main_while0b_call0_v0 main_while0b_call0_cst main_while0b_call0_c main_while0b_call0_v1_0
      (fun x y u v j => (Host.argReduce (reducer_argmax_f32_i32 (F := Ideal)) x y u v reducesTo_S4x8192_S4_d1 h_S_ j).1),
    quaternary main_while0b_v79 main_while0b_call0_v0 main_while0b_call0_cst main_while0b_call0_c main_while0b_v80
      (fun x y u v j => (Host.argReduce (reducer_argmax_f32_i32 (F := Ideal)) x y u v reducesTo_S4x8192_S4_d1 h_S_ j).2) ]

/-- Fourth part: that point written to the index buffer, and the loop's next values. -/
abbrev keepOps : List (HloOp τ sig (Elt Ideal)) :=
  [ nullary main_while0b_c_27 (constantI S_ 32 0#32),
    binary main_v8_3 main_while0b_c_27 main_while0b_v81 (cmpi .slt),
    nullary main_while0b_c_28 (constantI S_ 32 2048#32),
    binary main_v8_3 main_while0b_c_28 main_while0b_v82 addi,
    ternary main_while0b_v81 main_while0b_v82 main_v8_3 main_while0b_v83 select,
    unary main_while0b_v83 main_while0b_v84 id,
    unary main_while0b_v84 main_while0b_v85 (broadcastInDim S1 ![] bcast_S_S1),
    ternary main_v8_4 main_while0b_v85 main_while0b_v80 main_while0b_v86
      (fun x i u => Host.scatter scatter_S4x2048_S1_S4_0_1_1_0 (fun _ b => b) x i u),
    nullary main_while0b_c_29 (constantI S_ 32 1#32),
    binary main_v8_2 main_while0b_c_29 main_while0b_v87 addi,
    unary main_while0b_v87 main_v8_2 id,
    unary main_while0b_v59 main_v8_3 id,
    unary main_while0b_v86 main_v8_4 id,
    unary main_while0b_v79 main_v8_5 id,
    unary main_while0b_v80 main_v8_6 id ]

/-- After the loop: first, the points read at the index buffer. -/
abbrev exitOps : List (HloOp τ sig (Elt Ideal)) :=
  [ unary main_v0 main_v9 (broadcastInDim S4x1 ![0] bcast_S4_S4x1_0),
    nullary main_c_5 (constantI S_ 32 0#32),
    unary main_c_5 main_v10 (broadcastInDim S4x1 ![] bcast_S_S4x1),
    binary main_v9 main_v10 main_v11 (cmpi .slt),
    nullary main_c_6 (constantI S_ 32 4#32),
    unary main_c_6 main_v12 (broadcastInDim S4x1 ![] bcast_S_S4x1),
    binary main_v9 main_v12 main_v13 addi,
    ternary main_v11 main_v13 main_v9 main_v14 select,
    nullary main_c_7 (constantI S_ 32 0#32),
    unary main_c_7 main_v15 (broadcastInDim S4x2048 ![] bcast_S_S4x2048),
    binary main_v8_4 main_v15 main_v16 (cmpi .slt),
    nullary main_c_8 (constantI S_ 32 8192#32),
    unary main_c_8 main_v17 (broadcastInDim S4x2048 ![] bcast_S_S4x2048),
    binary main_v8_4 main_v17 main_v18 addi,
    ternary main_v16 main_v18 main_v8_4 main_v19 select,
    unary main_v14 main_v20 (broadcastInDim S4x2048 ![0, 1] bcast_S4x1_S4x2048_0_1),
    unary main_v20 main_v21 (broadcastInDim S4x2048x1 ![0, 1] bcast_S4x2048_S4x2048x1_0_1),
    unary main_v19 main_v22 (broadcastInDim S4x2048x1 ![0, 1] bcast_S4x2048_S4x2048x1_0_1),
    binary main_v21 main_v22 main_v23
      (fun a b => concatenate S4x2048x2 2 [⟨S4x2048x1, a⟩, ⟨S4x2048x1, b⟩] concatenates_S4x2048x1_S4x2048x1_S4x2048x2_d2),
    binary main_arg1 main_v23 main_v24 (fun x i => Host.gather gather_S4x8192x3_S4x2048x2_S4x2048x3_2_01_n_n_01_2_113 x i) ]

/-- The squared distances of the points read from every point, and the places of the sixteen least. -/
abbrev nearOps : List (HloOp τ sig (Elt Ideal)) :=
  [ unary main_v24 main_v25 (broadcastInDim S4x2048x1x3 ![0, 1, 3] bcast_S4x2048x3_S4x2048x1x3_0_1_3),
    unary main_arg1 main_v26 (broadcastInDim S4x1x8192x3 ![0, 2, 3] bcast_S4x8192x3_S4x1x8192x3_0_2_3),
    unary main_v25 main_v27 (broadcastInDim S4x2048x8192x3 ![0, 1, 2, 3] bcast_S4x2048x1x3_S4x2048x8192x3_0_1_2_3),
    unary main_v26 main_v28 (broadcastInDim S4x2048x8192x3 ![0, 1, 2, 3] bcast_S4x1x8192x3_S4x2048x8192x3_0_1_2_3),
    binary main_v27 main_v28 main_v29 (subf (F := Ideal) (φ := .f32)),
    binary main_v29 main_v29 main_v30 (mulf (F := Ideal) (φ := .f32)),
    nullary main_cst_9 (constant (F := Ideal) S_ .f32 0x00000000#32),
    binary main_v30 main_cst_9 main_v31 (fun x v => Host.reduceAdd (F := Ideal) (φ := .f32) x v reducesTo_S4x2048x8192x3_S4x2048x8192_d3 h_S_),
    unary main_v31 main_v32 (Host.negf (F := Ideal) (φ := .f32)),
    unary main_v32 main_values (fun x => (Host.topK S4x2048x16 2 (FloatOps.cmpfTotal (F := Ideal) (φ := .f32) .gt) x sliceFits_S4x2048x8192_S4x2048x16).1),
    unary main_v32 main_indices (fun x => (Host.topK S4x2048x16 2 (FloatOps.cmpfTotal (F := Ideal) (φ := .f32) .gt) x sliceFits_S4x2048x8192_S4x2048x16).2) ]

/-- The features, their means and their variances. -/
abbrev statOps : List (HloOp τ sig (Elt Ideal)) :=
  [ binary main_arg0 main_arg2 main_v33 (fun l r => Host.dotGeneral (F := Ideal) (φ₁ := .f32) (φ₂ := .f32) dot_S4x8192x64_S128x64_S4x8192x128_2_1_01_0_n_n none l r),
    nullary main_cst_10 (constant (F := Ideal) S_ .f32 0x00000000#32),
    binary main_v33 main_cst_10 main_v34 (fun x v => Host.reduceAdd (F := Ideal) (φ := .f32) x v reducesTo_S4x8192x128_S128_d0_1 h_S_),
    nullary main_cst_11 (constant (F := Ideal) S_ .f32 0x47000000#32),
    unary main_cst_11 main_v35 (broadcastInDim S128 ![] bcast_S_S128),
    binary main_v34 main_v35 main_v36 (Host.divf (F := Ideal) (φ := .f32)),
    nullary main_c_12 (constantI S_ 32 0#32),
    nullary main_call1_cst (constant (F := Ideal) S_ .f32 0x00000000#32),
    binary main_v33 main_call1_cst main_call1_v0 (fun x v => Host.reduceAdd (F := Ideal) (φ := .f32) x v reducesTo_S4x8192x128_S128_d0_1 h_S_),
    unary main_call1_v0 main_call1_v1 (broadcastInDim S1x1x128 ![2] bcast_S128_S1x1x128_2),
    nullary main_call1_cst_0 (constant (F := Ideal) S_ .f32 0x47000000#32),
    unary main_call1_cst_0 main_call1_v2 (broadcastInDim S1x1x128 ![] bcast_S_S1x1x128),
    binary main_call1_v1 main_call1_v2 main_call1_v3 (Host.divf (F := Ideal) (φ := .f32)),
    unary main_call1_v3 main_call1_v4 (broadcastInDim S4x8192x128 ![0, 1, 2] bcast_S1x1x128_S4x8192x128_0_1_2),
    binary main_v33 main_call1_v4 main_call1_v5 (subf (F := Ideal) (φ := .f32)),
    binary main_call1_v5 main_call1_v5 main_call1_v6 (mulf (F := Ideal) (φ := .f32)),
    unary main_c_12 main_call1_v7 (sitofp (F := Ideal) .f32),
    nullary main_call1_cst_1 (constant (F := Ideal) S_ .f32 0x47000000#32),
    binary main_call1_cst_1 main_call1_v7 main_call1_v8 (subf (F := Ideal) (φ := .f32)),
    nullary main_call1_cst_2 (constant (F := Ideal) S_ .f32 0x00000000#32),
    binary main_call1_v6 main_call1_cst_2 main_call1_v9 (fun x v => Host.reduceAdd (F := Ideal) (φ := .f32) x v reducesTo_S4x8192x128_S128_d0_1 h_S_),
    unary main_call1_v8 main_call1_v10 (broadcastInDim S128 ![] bcast_S_S128),
    binary main_call1_v9 main_call1_v10 main_call1_v11 (Host.divf (F := Ideal) (φ := .f32)),
    nullary main_call1_cst_3 (constant (F := Ideal) S_ .f32 0x00000000#32),
    binary main_call1_v8 main_call1_cst_3 main_call1_v12 (cmpf (F := Ideal) (φ := .f32) .ogt),
    nullary main_call1_cst_4 (constant (F := Ideal) S_ .f32 0x7FC00000#32),
    unary main_call1_cst_4 main_call1_call0_v0 id,
    unary main_call1_call0_v0 main_call1_call0_v1 (broadcastInDim S128 ![] bcast_S_S128),
    ternary main_call1_v12 main_call1_v11 main_call1_call0_v1 main_v37 (fun p a b => select (broadcastInDim S128 ![] bcast_S_S128 p) a b) ]

/-- The features normalised and rectified. -/
abbrev normOps : List (HloOp τ sig (Elt Ideal)) :=
  [ unary main_v36 main_v38 (broadcastInDim S1x1x128 ![2] bcast_S128_S1x1x128_2),
    unary main_v38 main_v39 (broadcastInDim S4x8192x128 ![0, 1, 2] bcast_S1x1x128_S4x8192x128_0_1_2),
    binary main_v33 main_v39 main_v40 (subf (F := Ideal) (φ := .f32)),
    nullary main_cst_13 (constant (F := Ideal) S_ .f32 0x3727C5AC#32),
    unary main_cst_13 main_v41 (broadcastInDim S128 ![] bcast_S_S128),
    binary main_v37 main_v41 main_v42 (addf (F := Ideal) (φ := .f32)),
    unary main_v42 main_v43 (Host.sqrt (F := Ideal) (φ := .f32)),
    unary main_v43 main_v44 (broadcastInDim S1x1x128 ![2] bcast_S128_S1x1x128_2),
    unary main_v44 main_v45 (broadcastInDim S4x8192x128 ![0, 1, 2] bcast_S1x1x128_S4x8192x128_0_1_2),
    binary main_v40 main_v45 main_v46 (Host.divf (F := Ideal) (φ := .f32)),
    unary main_arg3 main_v47 (broadcastInDim S1x1x128 ![2] bcast_S128_S1x1x128_2),
    unary main_v47 main_v48 (broadcastInDim S4x8192x128 ![0, 1, 2] bcast_S1x1x128_S4x8192x128_0_1_2),
    binary main_v46 main_v48 main_v49 (mulf (F := Ideal) (φ := .f32)),
    unary main_arg4 main_v50 (broadcastInDim S1x1x128 ![2] bcast_S128_S1x1x128_2),
    unary main_v50 main_v51 (broadcastInDim S4x8192x128 ![0, 1, 2] bcast_S1x1x128_S4x8192x128_0_1_2),
    binary main_v49 main_v51 main_v52 (addf (F := Ideal) (φ := .f32)),
    nullary main_call2_cst (constant (F := Ideal) S_ .f32 0x00000000#32),
    unary main_call2_cst main_call2_v0 (broadcastInDim S4x8192x128 ![] bcast_S_S4x8192x128),
    binary main_v52 main_call2_v0 main_v53 (maximumf (F := Ideal) (φ := .f32)) ]

/-- The rows that the places name, and the largest over each point's sixteen. -/
abbrev takeOps : List (HloOp τ sig (Elt Ideal)) :=
  [ reshape main_indices main_v54 (rfl : (.i32 : EltTy) = .i32) shapeCasts_S4x2048x16_S4x32768,
    unary main_v54 main_v55 (broadcastInDim S4x32768x1 ![0, 1] bcast_S4x32768_S4x32768x1_0_1),
    nullary main_call3_c (constantI S_ 32 0#32),
    unary main_call3_c main_call3_v0 (broadcastInDim S4x32768x1 ![] bcast_S_S4x32768x1),
    binary main_v55 main_call3_v0 main_call3_v1 (cmpi .slt),
    nullary main_call3_c_0 (constantI S_ 32 8192#32),
    unary main_call3_c_0 main_call3_v2 (broadcastInDim S4x32768x1 ![] bcast_S_S4x32768x1),
    binary main_v55 main_call3_v2 main_call3_v3 addi,
    ternary main_call3_v1 main_call3_v3 main_v55 main_call3_v4 select,
    nullary main_call3_c_1 (constantI S1 32 8191#32),
    nullary main_call3_c_2 (constantI S_ 32 0#32),
    unary main_call3_c_2 main_call3_v5 (broadcastInDim S4x32768x1 ![] bcast_S_S4x32768x1),
    binary main_call3_v4 main_call3_v5 main_call3_v6 (cmpi .sge),
    unary main_call3_c_1 main_call3_v7 (broadcastInDim S1x1x1 ![2] bcast_S1_S1x1x1_2),
    unary main_call3_v7 main_call3_v8 (broadcastInDim S4x32768x1 ![0, 1, 2] bcast_S1x1x1_S4x32768x1_0_1_2),
    binary main_call3_v4 main_call3_v8 main_call3_v9 (cmpi .sle),
    binary main_call3_v6 main_call3_v9 main_call3_v10 andi,
    nullary main_call3_c_3 (constantI S_ 1 1#1),
    binary main_call3_v10 main_call3_c_3 main_call3_v11 (fun x v => Host.reduce IntOp.andi x v reducesTo_S4x32768x1_S4x32768_d2 h_S_),
    binary main_v53 main_call3_v4 main_call3_v12 (fun x i => Host.gather gather_S4x8192x128_S4x32768x1_S4x32768x128_2_1_0_0_1_2_11128 x i),
    unary main_call3_v11 main_call3_v13 (broadcastInDim S4x32768x128 ![0, 1] bcast_S4x32768_S4x32768x128_0_1),
    nullary main_call3_cst (constant (F := Ideal) S_ .f32 0x7FC00000#32),
    unary main_call3_cst main_call3_v14 (broadcastInDim S4x32768x128 ![] bcast_S_S4x32768x128),
    ternary main_call3_v13 main_call3_v12 main_call3_v14 main_v56 select,
    reshape main_v56 main_v57 (rfl : (.f32 : EltTy) = .f32) shapeCasts_S4x32768x128_S4x2048x16x128,
    nullary main_cst_14 (constant (F := Ideal) S_ .f32 0xFF800000#32),
    binary main_v57 main_cst_14 main_v58 (fun x v => Host.reduce (FloatOps.maximumf (F := Ideal) (φ := .f32)) x v reducesTo_S4x2048x16x128_S4x2048x128_d2 h_S_) ]

abbrev preI : List (List (HloOp τ sig (Elt Ideal))) := [entryOps]
abbrev bodyI : List (List (HloOp τ sig (Elt Ideal))) := [pairOps ++ distOps, argOps, keepOps]
abbrev postI : List (List (HloOp τ sig (Elt Ideal))) := [exitOps, nearOps, statOps, normOps, takeOps]

abbrev P := Prog (TpuEff nD τ sig (Elt Ideal) (HostLoop.Sig (Pipeline.Sig Λ₀ (Fin 0) fun p => (pcfgs (F := Ideal) p).Adm) 1) .tc) PUnit

theorem main_chain (c : Dev nD) : main (F := Ideal) c = (Pipeline.chain [seq entryOps, HostLoop.enter 0, seq exitOps, seq nearOps, seq statOps, seq normOps, seq takeOps] : P) := by
  rewrite [chain_seq_cons, Pipeline.chain_cons, chain_seq_cons, chain_seq_cons, chain_seq_cons, chain_seq_cons]
  chain_rfl

theorem body_chain : main_while0_body (F := Ideal) = (Pipeline.chain [seq (pairOps ++ distOps), seq argOps, seq keepOps] : P) := by
  rewrite [chain_seq_cons, chain_seq_cons, chain_seq_cons]
  chain_rfl

/-! ## Each operation's buffers -/

theorem entry_fresh : entryOps.Forall fun op => op.fresh = ∅ := forall_fresh_of_map rfl
theorem trip1_fresh : (pairOps ++ distOps).Forall fun op => op.fresh = ∅ := forall_fresh_of_map rfl
theorem arg_fresh : argOps.Forall fun op => op.fresh = ∅ := forall_fresh_of_map rfl
theorem keep_fresh : keepOps.Forall fun op => op.fresh = ∅ := forall_fresh_of_map rfl
theorem exit_fresh : exitOps.Forall fun op => op.fresh = ∅ := forall_fresh_of_map rfl
theorem near_fresh : nearOps.Forall fun op => op.fresh = ∅ := forall_fresh_of_map rfl
theorem stat_fresh : statOps.Forall fun op => op.fresh = ∅ := forall_fresh_of_map rfl
theorem norm_fresh : normOps.Forall fun op => op.fresh = ∅ := forall_fresh_of_map rfl
theorem take_fresh : takeOps.Forall fun op => op.fresh = ∅ := forall_fresh_of_map rfl

theorem entry_sub : entryOps.Forall fun op => op.bufs ⊆ tcRefs τ sig := by
  simp only [List.cons_append, List.nil_append, List.Forall, nullary_bufs_sub, unary_bufs_sub, binary_bufs_sub, ternary_bufs_sub, and_self]
theorem trip1_sub : (pairOps ++ distOps).Forall fun op => op.bufs ⊆ tcRefs τ sig := by
  simp only [List.cons_append, List.nil_append, List.Forall, nullary_bufs_sub, unary_bufs_sub, binary_bufs_sub, ternary_bufs_sub, and_self]
theorem arg_sub : argOps.Forall fun op => op.bufs ⊆ tcRefs τ sig :=
  ⟨nullary_bufs_sub .., nullary_bufs_sub .., nullary_bufs_sub .., quaternary_bufs_sub .., quaternary_bufs_sub ..⟩
theorem keep_sub : keepOps.Forall fun op => op.bufs ⊆ tcRefs τ sig := by
  simp only [List.cons_append, List.nil_append, List.Forall, nullary_bufs_sub, unary_bufs_sub, binary_bufs_sub, ternary_bufs_sub, and_self]
theorem exit_sub : exitOps.Forall fun op => op.bufs ⊆ tcRefs τ sig := by
  simp only [List.cons_append, List.nil_append, List.Forall, nullary_bufs_sub, unary_bufs_sub, binary_bufs_sub, ternary_bufs_sub, and_self]
theorem near_sub : nearOps.Forall fun op => op.bufs ⊆ tcRefs τ sig := by
  simp only [List.Forall, nullary_bufs_sub, unary_bufs_sub, binary_bufs_sub, ternary_bufs_sub, reshape_bufs_sub, and_self]
theorem stat_sub : statOps.Forall fun op => op.bufs ⊆ tcRefs τ sig := by
  simp only [List.Forall, nullary_bufs_sub, unary_bufs_sub, binary_bufs_sub, ternary_bufs_sub, reshape_bufs_sub, and_self]
theorem norm_sub : normOps.Forall fun op => op.bufs ⊆ tcRefs τ sig := by
  simp only [List.Forall, nullary_bufs_sub, unary_bufs_sub, binary_bufs_sub, ternary_bufs_sub, reshape_bufs_sub, and_self]
theorem take_sub : takeOps.Forall fun op => op.bufs ⊆ tcRefs τ sig := by
  simp only [List.Forall, nullary_bufs_sub, unary_bufs_sub, binary_bufs_sub, ternary_bufs_sub, reshape_bufs_sub, and_self]

theorem hpre : Plain preI := .cons entry_sub (hf := List.forall_iff_forall_mem.mp entry_fresh) .nil
theorem hbody : Plain bodyI :=
  .cons trip1_sub (hf := List.forall_iff_forall_mem.mp trip1_fresh)
    (.cons arg_sub (hf := List.forall_iff_forall_mem.mp arg_fresh) (.cons keep_sub (hf := List.forall_iff_forall_mem.mp keep_fresh) .nil))
theorem hpost : Plain postI :=
  .cons exit_sub (hf := List.forall_iff_forall_mem.mp exit_fresh) (.cons near_sub (hf := List.forall_iff_forall_mem.mp near_fresh)
    (.cons stat_sub (hf := List.forall_iff_forall_mem.mp stat_fresh) (.cons norm_sub (hf := List.forall_iff_forall_mem.mp norm_fresh)
      (.cons take_sub (hf := List.forall_iff_forall_mem.mp take_fresh) .nil))))

/-- What each stretch and the condition write. -/
abbrev condW : List (Ref sig .tc) := [main_while0c_c_21, main_while0c_v59]
abbrev pairW : List (Ref sig .tc) :=
  [main_while0b_c_21, main_while0b_v59, main_while0b_c_22, main_while0b_v60, main_while0b_v61, main_while0b_c_23, main_while0b_v62,
    main_while0b_v63, main_while0b_v64, main_while0b_c_24, main_while0b_v65, main_while0b_v66, main_while0b_c_25, main_while0b_v67,
    main_while0b_v68, main_while0b_v69, main_while0b_v70, main_while0b_v71, main_while0b_v72]
abbrev distW : List (Ref sig .tc) :=
  [main_while0b_v73, main_while0b_v74, main_while0b_v75, main_while0b_v76, main_while0b_v77, main_while0b_cst_26, main_while0b_v78,
    main_while0b_v79]
abbrev argW : List (Ref sig .tc) :=
  [main_while0b_call0_v0, main_while0b_call0_cst, main_while0b_call0_c, main_while0b_call0_v1_0, main_while0b_v80]
abbrev keepW : List (Ref sig .tc) :=
  [main_while0b_c_27, main_while0b_v81, main_while0b_c_28, main_while0b_v82, main_while0b_v83, main_while0b_v84, main_while0b_v85,
    main_while0b_v86, main_while0b_c_29, main_while0b_v87, main_v8_2, main_v8_3, main_v8_4, main_v8_5, main_v8_6]
abbrev exitW : List (Ref sig .tc) :=
  [main_v9, main_c_5, main_v10, main_v11, main_c_6, main_v12, main_v13, main_v14, main_c_7, main_v15, main_v16, main_c_8, main_v17,
    main_v18, main_v19, main_v20, main_v21, main_v22, main_v23, main_v24]
abbrev nearW : List (Ref sig .tc) :=
  [main_v25, main_v26, main_v27, main_v28, main_v29, main_v30, main_cst_9, main_v31, main_v32, main_values, main_indices]
abbrev statW : List (Ref sig .tc) :=
  [main_v33, main_cst_10, main_v34, main_cst_11, main_v35, main_v36, main_c_12, main_call1_cst, main_call1_v0, main_call1_v1,
    main_call1_cst_0, main_call1_v2, main_call1_v3, main_call1_v4, main_call1_v5, main_call1_v6, main_call1_v7, main_call1_cst_1,
    main_call1_v8, main_call1_cst_2, main_call1_v9, main_call1_v10, main_call1_v11, main_call1_cst_3, main_call1_v12,
    main_call1_cst_4, main_call1_call0_v0, main_call1_call0_v1, main_v37]
abbrev normW : List (Ref sig .tc) :=
  [main_v38, main_v39, main_v40, main_cst_13, main_v41, main_v42, main_v43, main_v44, main_v45, main_v46, main_v47, main_v48,
    main_v49, main_v50, main_v51, main_v52, main_call2_cst, main_call2_v0, main_v53]
abbrev takeW : List (Ref sig .tc) :=
  [main_v54, main_v55, main_call3_c, main_call3_v0, main_call3_v1, main_call3_c_0, main_call3_v2, main_call3_v3, main_call3_v4,
    main_call3_c_1, main_call3_c_2, main_call3_v5, main_call3_v6, main_call3_v7, main_call3_v8, main_call3_v9, main_call3_v10,
    main_call3_c_3, main_call3_v11, main_call3_v12, main_call3_v13, main_call3_cst, main_call3_v14, main_v56, main_v57, main_cst_14,
    main_v58]

theorem cond_writes : condOps.Forall fun op => op.writes ⊆ (condW.map (Proc.devRef (τ := τ) .tc)).toFinset := forall_writes_sub_of_map rfl
theorem pair_writes : pairOps.Forall fun op => op.writes ⊆ (pairW.map (Proc.devRef (τ := τ) .tc)).toFinset := forall_writes_sub_of_map rfl
theorem dist_writes : distOps.Forall fun op => op.writes ⊆ (distW.map (Proc.devRef (τ := τ) .tc)).toFinset := forall_writes_sub_of_map rfl
theorem arg_writes : argOps.Forall fun op => op.writes ⊆ (argW.map (Proc.devRef (τ := τ) .tc)).toFinset := forall_writes_sub_of_map rfl
theorem keep_writes : keepOps.Forall fun op => op.writes ⊆ (keepW.map (Proc.devRef (τ := τ) .tc)).toFinset := forall_writes_sub_of_map rfl
theorem exit_writes : exitOps.Forall fun op => op.writes ⊆ (exitW.map (Proc.devRef (τ := τ) .tc)).toFinset := forall_writes_sub_of_map rfl
theorem near_writes : nearOps.Forall fun op => op.writes ⊆ (nearW.map (Proc.devRef (τ := τ) .tc)).toFinset := forall_writes_sub_of_map rfl
theorem stat_writes : statOps.Forall fun op => op.writes ⊆ (statW.map (Proc.devRef (τ := τ) .tc)).toFinset := forall_writes_sub_of_map rfl
theorem norm_writes : normOps.Forall fun op => op.writes ⊆ (normW.map (Proc.devRef (τ := τ) .tc)).toFinset := forall_writes_sub_of_map rfl
theorem take_writes : takeOps.Forall fun op => op.writes ⊆ (takeW.map (Proc.devRef (τ := τ) .tc)).toFinset := forall_writes_sub_of_map rfl

section
variable (W : Valuation τ sig (Elt Ideal)) (r : Ref sig .tc)
theorem cond_keeps (h : r ∉ condW) : after condOps W (Proc.devRef .tc r) = W (Proc.devRef .tc r) := after_of_writes_sub condOps W cond_writes h
theorem pair_keeps (h : r ∉ pairW) : after pairOps W (Proc.devRef .tc r) = W (Proc.devRef .tc r) := after_of_writes_sub pairOps W pair_writes h
theorem dist_keeps (h : r ∉ distW) : after distOps W (Proc.devRef .tc r) = W (Proc.devRef .tc r) := after_of_writes_sub distOps W dist_writes h
theorem arg_keeps (h : r ∉ argW) : after argOps W (Proc.devRef .tc r) = W (Proc.devRef .tc r) := after_of_writes_sub argOps W arg_writes h
theorem keep_keeps (h : r ∉ keepW) : after keepOps W (Proc.devRef .tc r) = W (Proc.devRef .tc r) := after_of_writes_sub keepOps W keep_writes h
theorem exit_keeps (h : r ∉ exitW) : after exitOps W (Proc.devRef .tc r) = W (Proc.devRef .tc r) := after_of_writes_sub exitOps W exit_writes h
theorem near_keeps (h : r ∉ nearW) : after nearOps W (Proc.devRef .tc r) = W (Proc.devRef .tc r) := after_of_writes_sub nearOps W near_writes h
theorem stat_keeps (h : r ∉ statW) : after statOps W (Proc.devRef .tc r) = W (Proc.devRef .tc r) := after_of_writes_sub statOps W stat_writes h
theorem norm_keeps (h : r ∉ normW) : after normOps W (Proc.devRef .tc r) = W (Proc.devRef .tc r) := after_of_writes_sub normOps W norm_writes h
theorem take_keeps (h : r ∉ takeW) : after takeOps W (Proc.devRef .tc r) = W (Proc.devRef .tc r) := after_of_writes_sub takeOps W take_writes h
end

/-- A trip, stretch by stretch. -/
theorem trip_eq (W : Valuation τ sig (Elt Ideal)) : afterL bodyI W = after keepOps (after argOps (after distOps (after pairOps W))) := by
  simp only [afterL_cons, afterL_nil, after_append]

/-! ## The counter -/

variable (m : (ℓ : Loc nD τ sig) → Buf (Elt Ideal) ℓ) (ρ : Dev nD → PrngReg)

/-- The buffers before the `k`-th test of the condition. -/
abbrev atK (k : ℕ) (c : Dev nD) : Valuation τ sig (Elt Ideal) := atTrip condOps bodyI (entryContents preI m) k c

theorem keep_counter (Y : Valuation τ sig (Elt Ideal)) :
    after keepOps Y (Proc.devRef .tc main_v8_2) = addi (Y (Proc.devRef .tc main_v8_2)) (constantI S_ 32 1#32) := by
  after_results
  rfl

theorem trip_counter (W : Valuation τ sig (Elt Ideal)) :
    afterL bodyI W (Proc.devRef .tc main_v8_2) = addi (W (Proc.devRef .tc main_v8_2)) (constantI S_ 32 1#32) := by
  rw [trip_eq, keep_counter, arg_keeps _ _ (by decide), dist_keeps _ _ (by decide), pair_keeps _ _ (by decide)]

theorem entry_counter (c : Dev nD) : entryContents preI m c (Proc.devRef .tc main_v8_2) = fun _ => (0#32 : BitVec 32) := by
  simp only [entryContents, afterL_cons, afterL_nil]
  after_reads_simp
  rfl

theorem counter (c : Dev nD) : ∀ k, atK m k c (Proc.devRef .tc main_v8_2) = fun _ => Scf.iv 0#32 1#32 k
  | 0 => by rw [show atK m 0 c = entryContents preI m c from rfl, entry_counter, Scf.iv_zero]
  | k + 1 => by
    rw [show atK m (k + 1) c = afterL bodyI (after condOps (atK m k c)) from rfl, trip_counter, cond_keeps _ _ (by decide),
      counter c k, Scf.iv_succ]
    rfl

set_option backward.isDefEq.respectTransparency.types false in
/-- The condition holds before each of the 2047 trips and not after. -/
theorem cond_spec : CondSpec (pcfgs (F := Ideal)) defs₀ loops (main_while0_cond (F := Ideal)) condOps bodyI (entryContents preI m) 2047 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · iframe Hb Hh
  iintro ⟨Hb, Hh⟩
  rw [wp_ret]; imodintro
  iapply (wp_hlo_within (Variants.lift Variants.none) (c : Thread nD τ) bd Set.univ (sub_ucRefs _ (binary_bufs_sub ..))) $$ [Hb Hh]
  · iframe Hb Hh
  iintro ⟨Hb, Hh⟩
  rw [HostLoop.elt_apply, wp_ret]; imodintro
  isplitr
  · ipureintro
    show Iff (IntOp.cmpi .slt (HloOp.result _ (atK m k c) main_v8_2 HostLoop.idx0)
        (HloOp.result _ (atK m k c) main_while0c_c_21 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  rw [after_cons, after_cons, after_nil]; iexact Hh

/-- Every execution ends, each buffer with what the operations, in order, leave in it. -/
theorem run_fold : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2047 m c (Proc.devRef .tc b)) :=
  run_loop (pcfgs (F := Ideal)) defs₀ loops main 0 main_while0_cond main_while0_body rfl preI bodyI postI condOps hpre hbody hpost
    (fun c => by rw [main_chain]; rfl) (by rw [body_chain]; rfl) 2047 m ρ (cond_spec m)

end Cert.Proof.Whole.Ref
-- ==== Proof.Whole.RefSearch.lean ====
module

public import proofs.«01_k».proof.Proof.Sample.Main
public import proofs.«01_k».proof.Proof.Whole.RefRun
public import proofs.«01_k».proof.Proof.Sample.RefValue

@[expose] public section

set_option maxRecDepth 16384

noncomputable section

namespace Cert.Proof.Whole.Ref

open Cert.WholeReferenceIdeal Cert.WholeReferenceIdeal.Gen
open Idealize.ShloMosaic Idealize.ShloMosaic.TcCoe Idealize.ShloMosaic.Tactic
open Idealize.SL Idealize.SL.Sem
open Idealize.ShloMosaic.StableHlo
open Cert.Proof.Sample (cloud sampled fps far first fps_succ_snd)
open Cert.Proof.Sample.Ref (column offset place batches chosen column_apply iota_apply distance_apply gather_last pair_apply argmax_apply
  toNat_ofNat_small place_apply scatter_column gather_points pairs_apply batch_apply chosen_apply)

/-! # What the reference's result array holds -/

/-! ## Each stretch's values -/

section
variable (W : Valuation τ sig (Elt Ideal))

theorem pair_value : after pairOps W (Proc.devRef .tc main_while0b_v72)
    = concatenate S4x2 1 [⟨S4x1, column (W (Proc.devRef .tc main_v8_0)) 4#32⟩, ⟨S4x1, column (W (Proc.devRef .tc main_v8_6)) 8192#32⟩]
        concatenates_S4x1_S4x1_S4x2_d1 := by
  after_results

theorem pair_next : after pairOps W (Proc.devRef .tc main_while0b_v59) = addi (W (Proc.devRef .tc main_v8_3)) (constantI S_ 32 1#32) := by
  after_results

theorem dist_value : after distOps W (Proc.devRef .tc main_while0b_v79)
    = minimumf (F := Ideal) (φ := .f32) (W (Proc.devRef .tc main_v8_5))
        (Host.reduceAdd (F := Ideal) (φ := .f32)
          (mulf (F := Ideal) (φ := .f32) (offset (W (Proc.devRef .tc main_v8_1)) (W (Proc.devRef .tc main_while0b_v72)))
            (offset (W (Proc.devRef .tc main_v8_1)) (W (Proc.devRef .tc main_while0b_v72))))
          (constant (F := Ideal) S_ .f32 0x00000000#32) reducesTo_S4x8192x3_S4x8192_d2 h_S_) := by
  after_results
  rfl

theorem arg_value : after argOps W (Proc.devRef .tc main_while0b_v80)
    = fun j => (Host.argReduce (F := Ideal) (φ := .f32) (Cert.SampleReferenceIdeal.reducer_argmax_f32_i32 (F := Ideal)) (W (Proc.devRef .tc main_while0b_v79))
        (iotaInDim S4x8192 32 1) (constant (F := Ideal) S_ .f32 0xFF800000#32) (constantI S_ 32 0#32) reducesTo_S4x8192_S4_d1 h_S_ j).2 := by
  after_results
  rfl

theorem keep_next : after keepOps W (Proc.devRef .tc main_v8_3) = W (Proc.devRef .tc main_while0b_v59) := by
  after_results
  rfl

theorem keep_dist : after keepOps W (Proc.devRef .tc main_v8_5) = W (Proc.devRef .tc main_while0b_v79) := by
  after_results
  rfl

theorem keep_last : after keepOps W (Proc.devRef .tc main_v8_6) = W (Proc.devRef .tc main_while0b_v80) := by
  after_results
  rfl

theorem keep_buf : after keepOps W (Proc.devRef .tc main_v8_4)
    = Host.scatter Cert.SampleReferenceIdeal.scatter_S4x2048_S1_S4_0_1_1_0 (fun _ v => v) (W (Proc.devRef .tc main_v8_4)) (place (W (Proc.devRef .tc main_v8_3)))
        (W (Proc.devRef .tc main_while0b_v80)) := by
  after_results
  simp only [id_eq]
  rfl

theorem exit_value : after exitOps W (Proc.devRef .tc main_v24)
    = Host.gather Cert.SampleReferenceIdeal.gather_S4x8192x3_S4x2048x2_S4x2048x3_2_01_n_n_01_2_113 (W (Proc.devRef .tc main_arg1))
        (concatenate S4x2048x2 2
          [⟨S4x2048x1, broadcastInDim S4x2048x1 ![0, 1] bcast_S4x2048_S4x2048x1_0_1
              (broadcastInDim S4x2048 ![0, 1] bcast_S4x1_S4x2048_0_1 (batches (W (Proc.devRef .tc main_v0))))⟩,
            ⟨S4x2048x1, broadcastInDim S4x2048x1 ![0, 1] bcast_S4x2048_S4x2048x1_0_1 (chosen (W (Proc.devRef .tc main_v8_4)))⟩]
          concatenates_S4x2048x1_S4x2048x1_S4x2048x2_d2) := by
  after_results
  rfl

end

/-! ## The state before each test of the condition -/

/-- After `k` trips the buffers hold the state after `k` steps: the running distances, the points chosen last and, column
    by column, all the points chosen so far. -/
structure At (p : S4x8192x3.Idx → EReal) (k : ℕ) (W : Valuation τ sig (Elt Ideal)) : Prop where
  arg : W (Proc.devRef .tc main_arg1) = p
  batch : W (Proc.devRef .tc main_v0) = iotaInDim S4 32 0
  lane : W (Proc.devRef .tc main_v8_0) = iotaInDim S4 32 0
  pts : W (Proc.devRef .tc main_v8_1) = p
  next : W (Proc.devRef .tc main_v8_3) = fun _ => BitVec.ofNat 32 (k + 1)
  buf : ∀ (b : Fin 4) (i : Fin 2048), i.val ≤ k →
    (W (Proc.devRef .tc main_v8_4) : IVec S4x2048 32) (ix2 b i) = BitVec.ofNat 32 ((fps (cloud p) far i.val).2 b).val
  dist : ∀ (b : Fin 4) (n : Fin 8192), (W (Proc.devRef .tc main_v8_5) : S4x8192.Idx → EReal) (ix2 b n) = (fps (cloud p) far k).1 b n
  last : ∀ b : Fin 4, (W (Proc.devRef .tc main_v8_6) : IVec S4 32) (ix1 b) = BitVec.ofNat 32 ((fps (cloud p) far k).2 b).val

section
variable {p : S4x8192x3.Idx → EReal} {k : ℕ} {W : Valuation τ sig (Elt Ideal)}

/-- The distances after a trip. -/
theorem dist_step (h : At p k W) (b : Fin 4) (n : Fin 8192) :
    (after distOps (after pairOps W) (Proc.devRef .tc main_while0b_v79) : S4x8192.Idx → EReal) (ix2 b n)
      = (fps (cloud p) far (k + 1)).1 b n := by
  rw [dist_value, pair_value, pair_keeps _ _ (by decide), pair_keeps _ _ (by decide), h.lane, h.pts]
  refine (congrArg₂ (min : EReal → EReal → EReal) (h.dist b n) (distance_apply p _ b n)).trans ?_
  have hl : ∀ q : Fin 3, Host.gather Cert.SampleReferenceIdeal.gather_S4x8192x3_S4x2_S4x3_1_01_n_n_01_1_113 p
      (concatenate S4x2 1 [⟨S4x1, column (iotaInDim S4 32 0) 4#32⟩, ⟨S4x1, column (W (Proc.devRef .tc main_v8_6)) 8192#32⟩]
        concatenates_S4x1_S4x1_S4x2_d1) (ix2 b q) = p (ix3 b ((fps (cloud p) far k).2 b) q) := fun q =>
    gather_last p _ b q _ ((pair_apply _ _ b).1.trans (column_apply _ _ b b.val (by omega) (iota_apply b)))
      ((pair_apply _ _ b).2.trans (column_apply _ _ b _ (by omega) (h.last b)))
  rw [hl 0, hl 1, hl 2]
  rfl

/-- The points chosen by a trip. -/
theorem last_step (h : At p k W) (b : Fin 4) :
    (after argOps (after distOps (after pairOps W)) (Proc.devRef .tc main_while0b_v80) : IVec S4 32) (ix1 b)
      = BitVec.ofNat 32 ((fps (cloud p) far (k + 1)).2 b).val := by
  rw [arg_value]
  refine (argmax_apply _ b).trans ?_
  rw [fps_succ_snd]
  exact congrArg (fun f => BitVec.ofNat 32 (first f).val) (funext fun n => dist_step h b n)

theorem trip_step (hk : k < 2047) (h : At p k W) : At p (k + 1) (afterL bodyI W) := by
  rw [trip_eq]
  refine ⟨?_, ?_, ?_, ?_, ?_, ?_, ?_, ?_⟩
  · rw [keep_keeps _ _ (by decide), arg_keeps _ _ (by decide), dist_keeps _ _ (by decide), pair_keeps _ _ (by decide), h.arg]
  · rw [keep_keeps _ _ (by decide), arg_keeps _ _ (by decide), dist_keeps _ _ (by decide), pair_keeps _ _ (by decide), h.batch]
  · rw [keep_keeps _ _ (by decide), arg_keeps _ _ (by decide), dist_keeps _ _ (by decide), pair_keeps _ _ (by decide), h.lane]
  · rw [keep_keeps _ _ (by decide), arg_keeps _ _ (by decide), dist_keeps _ _ (by decide), pair_keeps _ _ (by decide), h.pts]
  · rw [keep_next, arg_keeps _ _ (by decide), dist_keeps _ _ (by decide), pair_next, h.next]
    funext _
    show BitVec.ofNat 32 (k + 1) + 1#32 = BitVec.ofNat 32 (k + 1 + 1)
    exact (BitVec.ofNat_add (k + 1) 1).symm
  · intro b i hi
    have e3 : after argOps (after distOps (after pairOps W)) (Proc.devRef .tc main_v8_3) = fun _ => BitVec.ofNat 32 (k + 1) := by
      rw [arg_keeps _ _ (by decide), dist_keeps _ _ (by decide), pair_keeps _ _ (by decide), h.next]
    have e4 : after argOps (after distOps (after pairOps W)) (Proc.devRef .tc main_v8_4) = W (Proc.devRef .tc main_v8_4) := by
      rw [arg_keeps _ _ (by decide), dist_keeps _ _ (by decide), pair_keeps _ _ (by decide)]
    rw [keep_buf, e3, e4]
    refine (scatter_column _ _ _ ⟨k + 1, by omega⟩ (place_apply hk) b i).trans ?_
    by_cases hik : i = ⟨k + 1, by omega⟩
    · rw [if_pos hik, last_step h b, hik]
    · rw [if_neg hik]
      exact h.buf b i (by have : i.val ≠ k + 1 := fun e => hik (Fin.ext e); omega)
  · intro b n
    rw [keep_dist, arg_keeps _ _ (by decide)]
    exact dist_step h b n
  · intro b
    rw [keep_last]
    exact last_step h b

theorem cond_step (h : At p k W) : At p k (after condOps W) := by
  refine ⟨?_, ?_, ?_, ?_, ?_, ?_, ?_, ?_⟩
  · rw [cond_keeps _ _ (by decide), h.arg]
  · rw [cond_keeps _ _ (by decide), h.batch]
  · rw [cond_keeps _ _ (by decide), h.lane]
  · rw [cond_keeps _ _ (by decide), h.pts]
  · rw [cond_keeps _ _ (by decide), h.next]
  · intro b i hi; rw [cond_keeps _ _ (by decide)]; exact h.buf b i hi
  · intro b n; rw [cond_keeps _ _ (by decide)]; exact h.dist b n
  · intro b; rw [cond_keeps _ _ (by decide)]; exact h.last b

end

variable (m : (ℓ : Loc nD τ sig) → Buf (Elt Ideal) ℓ) (ρ : Dev nD → PrngReg)

theorem at_entry (c : Dev nD) : At (m ((c : Thread nD τ).loc main_arg1)) 0 (entryContents preI m c) := by
  simp only [entryContents, afterL_cons, afterL_nil]
  refine ⟨?_, ?_, ?_, ?_, ?_, ?_, ?_, ?_⟩
  · after_results
  · after_results
  · after_results; rfl
  · after_results; rfl
  · after_results; rfl
  · intro b i hi
    after_results
    refine (scatter_column _ _ _ 0 rfl b i).trans ?_
    rw [if_pos (Fin.ext (by show i.val = 0; omega))]
    have : i.val = 0 := by omega
    rw [this]
    rfl
  · intro b n; after_results; rfl
  · intro b; after_results; rfl

theorem at_trip (c : Dev nD) : ∀ k ≤ 2047, At (m ((c : Thread nD τ).loc main_arg1)) k (atK m k c)
  | 0, _ => at_entry m c
  | k + 1, h => trip_step (by omega) (cond_step (at_trip c k (by omega)))

/-- The buffers after the stretches that follow the loop. -/
abbrev X0 (c : Dev nD) : Valuation τ sig (Elt Ideal) := after exitOps (after condOps (atK m 2047 c))
abbrev X1 (c : Dev nD) : Valuation τ sig (Elt Ideal) := after nearOps (X0 m c)
abbrev X2 (c : Dev nD) : Valuation τ sig (Elt Ideal) := after statOps (X1 m c)
abbrev X3 (c : Dev nD) : Valuation τ sig (Elt Ideal) := after normOps (X2 m c)
abbrev X4 (c : Dev nD) : Valuation τ sig (Elt Ideal) := after takeOps (X3 m c)

theorem final_eq (c : Dev nD) : finalContents condOps preI bodyI postI 2047 m c = X4 m c := rfl

/-- After the loop the chosen points are read. -/
theorem X0_points (c : Dev nD) : X0 m c (Proc.devRef .tc main_v24) = sampled (cloud (m ((c : Thread nD τ).loc main_arg1))) := by
  have h := cond_step (at_trip m c 2047 (le_refl _))
  show after exitOps (after condOps (atK m 2047 c)) (Proc.devRef .tc main_v24) = _
  rw [exit_value, h.arg, h.batch]
  funext y
  have hy : y = ix3 (y 0) (y 1) (y 2) := by
    funext a
    match a with
    | ⟨0, _⟩ => rfl
    | ⟨1, _⟩ => rfl
    | ⟨2, _⟩ => rfl
  refine (congrArg _ hy).trans ((gather_points _ _ (y 0) (y 1) (y 2) ((fps (cloud (m ((c : Thread nD τ).loc main_arg1))) far (y 1).val).2 (y 0))
    ((pairs_apply _ _ (y 0) (y 1)).1.trans ?_) ((pairs_apply _ _ (y 0) (y 1)).2.trans ?_)).trans rfl)
  · exact batch_apply (y 0) (y 1)
  · exact chosen_apply _ (y 0) (y 1) _ (h.buf (y 0) (y 1) (by have : (y 1).val < 2048 := (y 1).isLt; omega))

theorem X0_cloud (c : Dev nD) : X0 m c (Proc.devRef .tc main_arg1) = m ((c : Thread nD τ).loc main_arg1) :=
  (exit_keeps _ _ (by decide)).trans (cond_step (at_trip m c 2047 (le_refl _))).arg

/-- A buffer that neither a trip nor the condition writes is as it was. -/
theorem loop_keeps (c : Dev nD) (b : Ref sig .tc) (hb : b ∉ condW ++ pairW ++ distW ++ argW ++ keepW)
    (he : entryContents preI m c (Proc.devRef .tc b) = m ((c : Thread nD τ).loc b)) :
    ∀ k, atK m k c (Proc.devRef .tc b) = m ((c : Thread nD τ).loc b)
  | 0 => he
  | k + 1 => by
    simp only [List.mem_append, not_or] at hb
    obtain ⟨⟨⟨⟨h0, h1⟩, h2⟩, h3⟩, h4⟩ := hb
    rw [show atK m (k + 1) c = afterL bodyI (after condOps (atK m k c)) from rfl, trip_eq, keep_keeps _ _ h4, arg_keeps _ _ h3,
      dist_keeps _ _ h2, pair_keeps _ _ h1, cond_keeps _ _ h0, loop_keeps c b (by simp only [List.mem_append, not_or]; exact ⟨⟨⟨⟨h0, h1⟩, h2⟩, h3⟩, h4⟩) he k]

/-- Nor is one that the reading of the points does not write. -/
theorem X0_keeps (c : Dev nD) (b : Ref sig .tc) (hb : b ∉ condW ++ pairW ++ distW ++ argW ++ keepW) (hx : b ∉ exitW)
    (he : entryContents preI m c (Proc.devRef .tc b) = m ((c : Thread nD τ).loc b)) :
    X0 m c (Proc.devRef .tc b) = m ((c : Thread nD τ).loc b) := by
  have h0 : b ∉ condW := fun h => hb (by simp only [List.mem_append]; exact Or.inl (Or.inl (Or.inl (Or.inl h))))
  exact (exit_keeps _ _ hx).trans ((cond_keeps _ _ h0).trans (loop_keeps m c b hb he 2047))

theorem X0_0 (c : Dev nD) : X0 m c (Proc.devRef .tc main_arg0) = m ((c : Thread nD τ).loc main_arg0) :=
  X0_keeps m c _ (by decide) (by decide) (by simp only [entryContents, afterL_cons, afterL_nil]; after_results)
theorem X0_2 (c : Dev nD) : X0 m c (Proc.devRef .tc main_arg2) = m ((c : Thread nD τ).loc main_arg2) :=
  X0_keeps m c _ (by decide) (by decide) (by simp only [entryContents, afterL_cons, afterL_nil]; after_results)
theorem X0_3 (c : Dev nD) : X0 m c (Proc.devRef .tc main_arg3) = m ((c : Thread nD τ).loc main_arg3) :=
  X0_keeps m c _ (by decide) (by decide) (by simp only [entryContents, afterL_cons, afterL_nil]; after_results)
theorem X0_4 (c : Dev nD) : X0 m c (Proc.devRef .tc main_arg4) = m ((c : Thread nD τ).loc main_arg4) :=
  X0_keeps m c _ (by decide) (by decide) (by simp only [entryContents, afterL_cons, afterL_nil]; after_results)

end Cert.Proof.Whole.Ref
-- ==== Proof.Whole.Ref.lean ====
module

public import proofs.«01_k».proof.Proof.Whole.RefSearch
public import proofs.«01_k».proof.Proof.Near.Ref
public import proofs.«01_k».proof.Proof.Joint.Ref

@[expose] public section

set_option maxRecDepth 16384

noncomputable section

namespace Cert.Proof.Whole.Ref

open Cert.WholeReferenceIdeal Cert.WholeReferenceIdeal.Gen
open Idealize.ShloMosaic Idealize.ShloMosaic.TcCoe Idealize.ShloMosaic.Tactic
open Idealize.SL Idealize.SL.Sem
open Idealize.ShloMosaic.StableHlo
open Cert.Proof.Sample (cloud sampled)
open Cert.Proof.Sample.Ref (wrap_small toNat_ofNat_small toInt_ofNat)
open Cert.Proof.Near (gap nearest picked)
open Cert.Proof.Moments (refH refMean refVar)
open Cert.Proof.Joint (refNorm pick)

/-! # The rest of the reference: the nearest points, the features and the pooling -/

/-! ## The rows that the places name -/

/-- The places as a column for each cloud, those below 0 moved up by 8192. -/
def places (I : IVec S4x2048x16 32) : IVec S4x32768x1 32 :=
  select
    (cmpi .slt (broadcastInDim S4x32768x1 ![0, 1] bcast_S4x32768_S4x32768x1_0_1 (shapeCast S4x32768 I shapeCasts_S4x2048x16_S4x32768))
      (broadcastInDim S4x32768x1 ![] bcast_S_S4x32768x1 (constantI S_ 32 0#32)))
    (addi (broadcastInDim S4x32768x1 ![0, 1] bcast_S4x32768_S4x32768x1_0_1 (shapeCast S4x32768 I shapeCasts_S4x2048x16_S4x32768))
      (broadcastInDim S4x32768x1 ![] bcast_S_S4x32768x1 (constantI S_ 32 8192#32)))
    (broadcastInDim S4x32768x1 ![0, 1] bcast_S4x32768_S4x32768x1_0_1 (shapeCast S4x32768 I shapeCasts_S4x2048x16_S4x32768))

/-- Which of them name a point. -/
def named (I : IVec S4x2048x16 32) : IVec S4x32768 1 :=
  Host.reduce IntOp.andi
    (andi (cmpi .sge (places I) (broadcastInDim S4x32768x1 ![] bcast_S_S4x32768x1 (constantI S_ 32 0#32)))
      (cmpi .sle (places I) (broadcastInDim S4x32768x1 ![0, 1, 2] bcast_S1x1x1_S4x32768x1_0_1_2
        (broadcastInDim S1x1x1 ![2] bcast_S1_S1x1x1_2 (constantI S1 32 8191#32)))))
    (constantI S_ 1 1#1) reducesTo_S4x32768x1_S4x32768_d2 h_S_

/-- The rows of `G` that the places name. -/
def taken (G : S4x8192x128.Idx → EReal) (I : IVec S4x2048x16 32) : S4x32768x128.Idx → EReal :=
  select (broadcastInDim S4x32768x128 ![0, 1] bcast_S4x32768_S4x32768x128_0_1 (named I))
    (Host.gather gather_S4x8192x128_S4x32768x1_S4x32768x128_2_1_0_0_1_2_11128 G (places I))
    (broadcastInDim S4x32768x128 ![] bcast_S_S4x32768x128 (constant (F := Ideal) S_ .f32 0x7FC00000#32))

/-- The largest over each point's sixteen. -/
def largest (G : S4x8192x128.Idx → EReal) (I : IVec S4x2048x16 32) : S4x2048x128.Idx → EReal :=
  Host.reduce (FloatOps.maximumf (F := Ideal) (φ := .f32))
    (shapeCast S4x2048x16x128 (taken G I) shapeCasts_S4x32768x128_S4x2048x16x128)
    (constant (F := Ideal) S_ .f32 0xFF800000#32) reducesTo_S4x2048x16x128_S4x2048x128_d2 h_S_

/-- Taking rows, cloud by cloud. -/
theorem gather_rows (x : S4x8192x128.Idx → EReal) (idx : IVec S4x32768x1 32) (b : Fin 4) (j : Fin 32768) (o : Fin 128) (n : Fin 8192)
    (h : idx (ix3 b j (0 : Fin 1)) = BitVec.ofNat 32 n.val) :
    Host.gather gather_S4x8192x128_S4x32768x1_S4x32768x128_2_1_0_0_1_2_11128 x idx (ix3 b j o) = x (ix3 b n o) := by
  unfold Host.gather
  congr 1
  set g := gather_S4x8192x128_S4x32768x1_S4x32768x128_2_1_0_0_1_2_11128 with hg
  funext a
  refine Fin.ext ?_
  show g.start (ix3 b j o) idx a + g.batchCoord (ix3 b j o) a + g.offCoord (ix3 b j o) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).2 (by rw [hg]; decide)),
      GatherDims.start_batching _ _ _ _ (by rw [hg]; decide)]
    have e : g.batchCoord (ix3 b j o) (0 : Fin 3) = b.val := by
      unfold GatherDims.batchCoord
      rw [dif_pos (show (0 : Fin 3) ∈ g.operandBatchingDims by rw [hg]; decide)]
      rfl
    rw [e]
    exact Nat.zero_add _
  · rw [GatherDims.offCoord_eq_zero _ _ _ (fun h => ((GatherDims.mem_sKept _ _).mp h).1 (by rw [hg]; decide)),
      GatherDims.batchCoord_eq_zero _ _ _ (by rw [hg]; decide)]
    have e : g.start (ix3 b j o) idx (1 : Fin 3) = n.val := by
      unfold GatherDims.start
      rw [dif_pos (show (1 : Fin 3) ∈ g.startIndexMap by rw [hg]; decide)]
      have hz : g.siIdx (ix3 b j o) ⟨g.startIndexMap.idxOf 1, List.idxOf_lt_length_iff.2 (show (1 : Fin 3) ∈ g.startIndexMap by rw [hg]; decide)⟩
          = ix3 b j (0 : Fin 1) := by
        funext d
        match d with
        | ⟨0, _⟩ => exact Fin.ext rfl
        | ⟨1, _⟩ => exact Fin.ext rfl
        | ⟨2, _⟩ => exact Fin.ext rfl
      rw [hz, h, toInt_ofNat _ (by omega)]
      exact Nat.min_eq_left (by show n.val ≤ 8192 - 1; omega)
    rw [e]
    rfl
  · rw [GatherDims.batchCoord_eq_zero _ _ _ (by rw [hg]; decide)]
    have e0 : g.start (ix3 b j o) idx (2 : Fin 3) = 0 := by
      unfold GatherDims.start
      rw [dif_neg (show (2 : Fin 3) ∉ g.startIndexMap by rw [hg]; decide)]
    have e1 : g.offCoord (ix3 b j o) (2 : Fin 3) = o.val := by
      unfold GatherDims.offCoord
      rw [dif_pos ((GatherDims.mem_sKept _ _).mpr ⟨by rw [hg]; decide, by rw [hg]; decide⟩)]
      rfl
    rw [e0, e1]
    show 0 + 0 + o.val = o.val
    omega

/-- The number of a point passes both tests. -/
theorem in_range (n : Fin 8192) :
    IntOp.andi (IntOp.cmpi .sge (BitVec.ofNat 32 n.val) 0#32) (IntOp.cmpi .sle (BitVec.ofNat 32 n.val) 8191#32) = 1#1 := by
  have hn := n.isLt
  have h1 : (BitVec.ofNat 32 n.val).toInt = n.val := toInt_ofNat _ (by omega)
  have a1 : IntOp.cmpi .sge (BitVec.ofNat 32 n.val) 0#32 = BitVec.ofBool (decide ((0#32 : BitVec 32).toInt ≤ (BitVec.ofNat 32 n.val).toInt)) := rfl
  have a2 : IntOp.cmpi .sle (BitVec.ofNat 32 n.val) 8191#32
      = BitVec.ofBool (decide ((BitVec.ofNat 32 n.val).toInt ≤ (8191#32 : BitVec 32).toInt)) := rfl
  rw [a1, a2, h1, decide_eq_true (by simp), decide_eq_true (by simp; omega)]
  rfl

section
variable {I : IVec S4x2048x16 32} (f : Fin 4 → Fin 2048 → Fin 16 → Fin 8192)
  (hI : ∀ b i r, I (ix3 b i r) = BitVec.ofNat 32 (f b i r).val)

include hI in
theorem places_apply (b : Fin 4) (j : Fin 32768) :
    places I (ix3 b j (0 : Fin 1)) = BitVec.ofNat 32 (f b ⟨j.val / 16, by omega⟩ ⟨j.val % 16, by omega⟩).val := by
  have e : broadcastInDim S4x32768x1 ![0, 1] bcast_S4x32768_S4x32768x1_0_1 (shapeCast S4x32768 I shapeCasts_S4x2048x16_S4x32768)
      (ix3 b j (0 : Fin 1)) = BitVec.ofNat 32 (f b ⟨j.val / 16, by omega⟩ ⟨j.val % 16, by omega⟩).val := by
    rw [← hI]
    refine (?_ : _ = shapeCast S4x32768 I shapeCasts_S4x2048x16_S4x32768 (ix2 b j)).trans (shapeCast_apply _ _ _ _ ?_)
    · unfold broadcastInDim
      congr 1
      funext a
      match a with
      | ⟨0, _⟩ => rfl
      | ⟨1, _⟩ => rfl
    · rw [Shape.rowMajor_val_two, Shape.rowMajor_val_three]
      show (b.val * 2048 + j.val / 16) * 16 + j.val % 16 = b.val * 32768 + j.val
      omega
  unfold places
  refine (wrap_small _ _ _ _ rfl ?_).trans e
  rw [e, toNat_ofNat_small _ (by omega)]
  omega

include hI in
theorem named_apply (y : S4x32768.Idx) : named I y = 1#1 := by
  unfold named
  refine Host.reduce_andi_one _ _ _ _ _ rfl fun z => ?_
  have hz : z = ix3 (z 0) (z 1) (0 : Fin 1) := by
    funext a
    match a with
    | ⟨0, _⟩ => rfl
    | ⟨1, _⟩ => rfl
    | ⟨2, _⟩ => exact Subsingleton.elim (α := Fin 1) _ _
  have e : places I z = _ := (congrArg (places I) hz).trans (places_apply f hI (z 0) (z 1))
  show IntOp.andi (IntOp.cmpi .sge (places I z) 0#32) (IntOp.cmpi .sle (places I z) 8191#32) = 1#1
  rw [e]
  exact in_range _

include hI in
theorem taken_apply (G : S4x8192x128.Idx → EReal) (b : Fin 4) (j : Fin 32768) (o : Fin 128) :
    taken G I (ix3 b j o) = G (ix3 b (f b ⟨j.val / 16, by omega⟩ ⟨j.val % 16, by omega⟩) o) := by
  rw [← gather_rows G (places I) b j o _ (places_apply f hI b j)]
  unfold taken select
  exact if_pos (named_apply f hI _)

end

/-! ## The same rows of the table of all clouds -/

/-- A row taken from the table of all clouds. -/
theorem pick_row (T : Cert.ReferenceIdeal.S32768x128.Idx → EReal) {I : S4x2048x16.Idx → BitVec 32} (hJ : ∀ x, (Pool.flatIdx I x).toNat < 32768)
    (y : Cert.ReferenceIdeal.S131072x128.Idx) :
    select (broadcastInDim Cert.ReferenceIdeal.S131072x128 ![0] Cert.ReferenceIdeal.Gen.bcast_S131072_S131072x128_0 (Pool.rowOk I))
        (Host.gather Cert.ReferenceIdeal.gather_S32768x128_S131072x1_S131072x128_1_0_n_n_0_1_1128 T (Pool.rowCol I))
        (broadcastInDim Cert.ReferenceIdeal.S131072x128 ![] Cert.ReferenceIdeal.Gen.bcast_S_S131072x128 (constant (F := Ideal) S_ .f32 0x7FC00000#32)) y
      = T (Pool.ixH (Pool.flatIdx I (Pool.ixJ (y 0).val)).toNat (y 1).val) := by
  rw [← Pool.take_row T (Pool.rowCol I) y _ (hJ _) fun z hz => (Pool.rowCol_at hJ z _ hz).trans (by rw [BitVec.ofNat_toNat, BitVec.setWidth_eq])]
  unfold select
  exact if_pos (Pool.rowOk_eq hJ _)

/-- The rows the reference takes cloud by cloud are the rows that the numbers counted over all clouds name. -/
theorem largest_eq (G : S4x8192x128.Idx → EReal) (I : IVec S4x2048x16 32) (N : S4x2048x16.Idx → BitVec 32)
    (f : Fin 4 → Fin 2048 → Fin 16 → Fin 8192) (hI : ∀ b i r, I (ix3 b i r) = BitVec.ofNat 32 (f b i r).val)
    (hN : ∀ b i r, (N (ix3 b i r)).toNat = 8192 * b.val + (f b i r).val) (hJ : ∀ x, (Pool.flatIdx N x).toNat < 32768) :
    largest G I = pick (shapeCast Cert.ReferenceIdeal.S32768x128 G Cert.FeaturesReferenceIdeal.Gen.shapeCasts_S4x8192x128_S32768x128) N := by
  unfold largest pick
  refine congrArg (fun A => Host.reduce (FloatOps.maximumf (F := Ideal) (φ := .f32)) A
    (constant (F := Ideal) S_ .f32 0xFF800000#32) reducesTo_S4x2048x16x128_S4x2048x128_d2 h_S_) (funext fun y => ?_)
  obtain ⟨b, i, r, o, rfl⟩ : ∃ (b : Fin 4) (i : Fin 2048) (r : Fin 16) (o : Fin 128), y = ix4 b i r o :=
    ⟨y 0, y 1, y 2, y 3, by funext a; fin_cases a <;> rfl⟩
  have hb := b.isLt
  have hi := i.isLt
  have hr := r.isLt
  have ho := o.isLt
  have hn := (f b i r).isLt
  refine (shapeCast_apply _ _ _ (ix3 b (⟨16 * i.val + r.val, by omega⟩ : Fin 32768) o) ?_).trans ((taken_apply f hI G b _ o).trans ?_)
  · rw [Shape.rowMajor_val_three, Shape.rowMajor_val_four]
    show (b.val * 32768 + (16 * i.val + r.val)) * 128 + o.val = ((b.val * 2048 + i.val) * 16 + r.val) * 128 + o.val
    omega
  have ei : (⟨(16 * i.val + r.val) / 16, by omega⟩ : Fin 2048) = i := Fin.ext (by show (16 * i.val + r.val) / 16 = i.val; omega)
  have er : (⟨(16 * i.val + r.val) % 16, by omega⟩ : Fin 16) = r := Fin.ext (by show (16 * i.val + r.val) % 16 = r.val; omega)
  show G (ix3 b (f b ⟨(16 * i.val + r.val) / 16, _⟩ ⟨(16 * i.val + r.val) % 16, _⟩) o) = _
  rw [ei, er]
  refine Eq.symm ((shapeCast_apply _ _ _
    (ix2 (⟨16 * (2048 * b.val + i.val) + r.val, by omega⟩ : Fin 131072) o : Cert.ReferenceIdeal.S131072x128.Idx) ?_).trans
      ((pick_row _ hJ _).trans (shapeCast_apply _ _ _ (ix3 b (f b i r) o) ?_)))
  · rw [Shape.rowMajor_val_two, Shape.rowMajor_val_four]
    show (16 * (2048 * b.val + i.val) + r.val) * 128 + o.val = ((b.val * 2048 + i.val) * 16 + r.val) * 128 + o.val
    omega
  · have e : Pool.flatIdx N (Pool.ixJ (16 * (2048 * b.val + i.val) + r.val)) = N (ix3 b i r) := by
      unfold Pool.flatIdx
      refine shapeCast_apply _ _ _ _ ?_
      rw [Shape.rowMajor_val_one, Shape.rowMajor_val_three]
      show (b.val * 2048 + i.val) * 16 + r.val = (16 * (2048 * b.val + i.val) + r.val) % 131072
      omega
    rw [Shape.rowMajor_val_two, Shape.rowMajor_val_three]
    show (b.val * 8192 + (f b i r).val) * 128 + o.val
      = ((Pool.flatIdx N (Pool.ixJ (16 * (2048 * b.val + i.val) + r.val))).toNat % 32768) * 128 + o.val % 128
    rw [e, hN]
    omega

/-! ## Each stretch's values -/

section
variable (W : Valuation τ sig (Elt Ideal))

theorem near_value : after nearOps W (Proc.devRef .tc main_indices)
    = Near.Ref.top16 (W (Proc.devRef .tc main_arg1)) (W (Proc.devRef .tc main_v24)) := by
  after_results
  rfl

theorem stat_feats : after statOps W (Proc.devRef .tc main_v33) = refH (W (Proc.devRef .tc main_arg0)) (W (Proc.devRef .tc main_arg2)) := by
  after_results
  rfl

theorem stat_mean : after statOps W (Proc.devRef .tc main_v36)
    = refMean (refH (W (Proc.devRef .tc main_arg0)) (W (Proc.devRef .tc main_arg2))) := by
  after_results
  rfl

theorem stat_var : after statOps W (Proc.devRef .tc main_v37)
    = refVar (refH (W (Proc.devRef .tc main_arg0)) (W (Proc.devRef .tc main_arg2))) := by
  after_results
  rfl

theorem norm_value : after normOps (after statOps W) (Proc.devRef .tc main_v53)
    = refNorm (W (Proc.devRef .tc main_arg3)) (W (Proc.devRef .tc main_arg4))
        (refH (W (Proc.devRef .tc main_arg0)) (W (Proc.devRef .tc main_arg2))) := by
  have e3 := stat_keeps W main_arg3 (by decide)
  have e4 := stat_keeps W main_arg4 (by decide)
  have eh := stat_feats W
  have em := stat_mean W
  have ev := stat_var W
  generalize after statOps W = X at e3 e4 eh em ev ⊢
  after_results
  rw [e3, e4, eh, em, ev]
  rfl

theorem take_value : after takeOps W (Proc.devRef .tc main_v58) = largest (W (Proc.devRef .tc main_v53)) (W (Proc.devRef .tc main_indices)) := by
  after_results
  rfl

end

/-! ## The results -/

variable (m : (ℓ : Loc nD τ sig) → Buf (Elt Ideal) ℓ)

/-- A buffer that no stretch after the loop writes is as it was. -/
theorem X4_keeps (c : Dev nD) (b : Ref sig .tc) (h1 : b ∉ nearW) (h2 : b ∉ statW) (h3 : b ∉ normW) (h4 : b ∉ takeW) :
    X4 m c (Proc.devRef .tc b) = X0 m c (Proc.devRef .tc b) :=
  (take_keeps _ _ h4).trans ((norm_keeps _ _ h3).trans ((stat_keeps _ _ h2).trans (near_keeps _ _ h1)))

/-- The second result holds the chosen points. -/
theorem X4_points (c : Dev nD) : X4 m c (Proc.devRef .tc main_v24) = sampled (cloud (m ((c : Thread nD τ).loc main_arg1))) :=
  (X4_keeps m c _ (by decide) (by decide) (by decide) (by decide)).trans (X0_points m c)

/-- The first holds the largest of each chosen point's sixteen nearest points' features. -/
theorem X4_pooled (c : Dev nD) : X4 m c (Proc.devRef .tc main_v58)
    = largest (refNorm (m ((c : Thread nD τ).loc main_arg3)) (m ((c : Thread nD τ).loc main_arg4))
          (refH (m ((c : Thread nD τ).loc main_arg0)) (m ((c : Thread nD τ).loc main_arg2))))
        (Near.Ref.top16 (m ((c : Thread nD τ).loc main_arg1)) (sampled (cloud (m ((c : Thread nD τ).loc main_arg1))))) := by
  have k : ∀ b, b ∉ nearW → X1 m c (Proc.devRef .tc b) = X0 m c (Proc.devRef .tc b) := fun b h => near_keeps _ _ h
  show after takeOps (X3 m c) (Proc.devRef .tc main_v58) = _
  rw [take_value, show X3 m c = after normOps (after statOps (X1 m c)) from rfl, norm_value, k main_arg0 (by decide), k main_arg2 (by decide),
    k main_arg3 (by decide), k main_arg4 (by decide), X0_0, X0_2, X0_3, X0_4, norm_keeps _ _ (by decide), stat_keeps _ _ (by decide)]
  show largest _ (after nearOps (X0 m c) (Proc.devRef .tc main_indices)) = _
  rw [near_value, X0_cloud, X0_points]

theorem X4_0 (c : Dev nD) : X4 m c (Proc.devRef .tc main_arg0) = m ((c : Thread nD τ).loc main_arg0) :=
  (X4_keeps m c _ (by decide) (by decide) (by decide) (by decide)).trans (X0_0 m c)
theorem X4_1 (c : Dev nD) : X4 m c (Proc.devRef .tc main_arg1) = m ((c : Thread nD τ).loc main_arg1) :=
  (X4_keeps m c _ (by decide) (by decide) (by decide) (by decide)).trans (X0_cloud m c)
theorem X4_2 (c : Dev nD) : X4 m c (Proc.devRef .tc main_arg2) = m ((c : Thread nD τ).loc main_arg2) :=
  (X4_keeps m c _ (by decide) (by decide) (by decide) (by decide)).trans (X0_2 m c)
theorem X4_3 (c : Dev nD) : X4 m c (Proc.devRef .tc main_arg3) = m ((c : Thread nD τ).loc main_arg3) :=
  (X4_keeps m c _ (by decide) (by decide) (by decide) (by decide)).trans (X0_3 m c)
theorem X4_4 (c : Dev nD) : X4 m c (Proc.devRef .tc main_arg4) = m ((c : Thread nD τ).loc main_arg4) :=
  (X4_keeps m c _ (by decide) (by decide) (by decide) (by decide)).trans (X0_4 m c)

/-- The reference's run: the results are in place and the arguments are unchanged. -/
theorem run (ρ : Dev nD → PrngReg) : θ_run (defs (F := Ideal)) (onTc (τ := τ) (main (F := Ideal))) ⟨m, fun _ => 0, ρ⟩ fun r => ∀ c : Dev nD,
    r.2.mem ((c : Thread nD τ).loc main_v58)
        = largest (refNorm (m ((c : Thread nD τ).loc main_arg3)) (m ((c : Thread nD τ).loc main_arg4))
            (refH (m ((c : Thread nD τ).loc main_arg0)) (m ((c : Thread nD τ).loc main_arg2))))
          (Near.Ref.top16 (m ((c : Thread nD τ).loc main_arg1)) (sampled (cloud (m ((c : Thread nD τ).loc main_arg1)))))
      ∧ r.2.mem ((c : Thread nD τ).loc main_v24) = sampled (cloud (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c main_v58 rfl).trans (X4_pooled m c), (h c main_v24 rfl).trans (X4_points m c), (h c main_arg0 rfl).trans (X4_0 m c),
      (h c main_arg1 rfl).trans (X4_1 m c), (h c main_arg2 rfl).trans (X4_2 m c), (h c main_arg3 rfl).trans (X4_3 m c),
      (h c main_arg4 rfl).trans (X4_4 m c)⟩)
    (run_fold m ρ)

end Cert.Proof.Whole.Ref

end
-- ==== Proof.Whole.Claims.lean ====
module

public import proofs.«01_k».proof.Defs
public import proofs.«01_k».proof.Proof.Whole.Value
public import proofs.«01_k».proof.Proof.Whole.Ref
public import proofs.«01_k».proof.Proof.Joint.Claims
public import proofs.«01_k».proof.Proof.Near.Claims
public import proofs.«01_k».proof.Proof.Gen.Pre_tame
public import Idealize.ShloMosaic.Lib.Quiescent
public import Idealize.ShloMosaic.Lib.Claim

@[expose] public section

set_option maxRecDepth 16384

noncomputable section

namespace Cert.Proof.Whole

open Idealize.ShloMosaic Idealize.ShloMosaic.TcCoe Idealize.SL.Sem
open Cert.Proof.Moments (mean scaleK)
open Cert.Proof.Sample (cloud sampled)
open Cert.Proof.Near (gap nearest picked)
open Cert.Proof.Joint (refTab pick)
open Cert.WholeIdeal (S4x8192x64 S4x8192x3 S4x2048x3 S4x2048x16 S131072 S128x64 S128 S32768x128 S4x2048x128)

instance : Cert.WholeIdeal.Facts := Cert.WholeIdeal.Gen.facts
instance : Cert.WholeReferenceIdeal.Facts := Cert.WholeReferenceIdeal.Gen.facts
instance : Cert.Pre_tame.Facts := Cert.Pre_tame.Gen.facts
instance : Subsingleton Cert.Pre_tame.S_.Idx := ⟨fun a b => funext fun i => i.elim0⟩

/-! # What the precondition says -/

/-- Every feature, coordinate and weight is a real number, the coordinates are small, and no weight of the normalisation
    is negative. -/
structure Tame (x : S4x8192x64.Idx → EReal) (p : S4x8192x3.Idx → EReal) (w : S128x64.Idx → EReal) (g : S128.Idx → EReal) : Prop where
  feat : ∀ i, ∃ a : ℝ, x i = (a : EReal)
  pts : ∀ i, ∃ a : ℝ, p i = (a : EReal) ∧ |a| < 10 ^ 18
  mat : ∀ i, ∃ a : ℝ, w i = (a : EReal)
  weight : ∀ o, ∃ a : ℝ, 0 ≤ a ∧ g o = (a : EReal)

theorem tame_of {x : S4x8192x64.Idx → EReal} {p : S4x8192x3.Idx → EReal} {w : S128x64.Idx → EReal} {g b : S128.Idx → EReal}
    (h : Cert.Pre_tame.fn (F := Ideal) x p w g b = fun _ => 1#1) : Tame x p w g := by
  obtain ⟨hxpw, hg⟩ := Pool.andi_one (congrFun h fun i => i.elim0)
  obtain ⟨hxp, hw⟩ := Pool.andi_one hxpw
  obtain ⟨hx, hp⟩ := Pool.andi_one hxp
  exact ⟨fun i => Moments.real_of_abs_lt _ (Host.reduce_andi_all _ _ _ _ _ hx i),
    fun i => Near.small_of_abs_lt _ (Host.reduce_andi_all _ _ _ _ _ hp i),
    fun i => Moments.real_of_abs_lt _ (Host.reduce_andi_all _ _ _ _ _ hw i),
    fun o => Joint.real_of_nonneg _ (Host.reduce_andi_all _ _ _ _ _ hg o)⟩

/-! # The search -/

/-- Of small points the reference's places, the cloud's first row added, are the kernel's row numbers. -/
theorem rows_agree (p : S4x8192x3.Idx → EReal) (h : ∀ i, ∃ a : ℝ, p i = (a : EReal) ∧ |a| < 10 ^ 18) (b : Fin 4) (i : Fin 2048) (r : Fin 16) :
    Near.Ref.top16 p (sampled (cloud p)) (ix3 b i r) = BitVec.ofNat 32 (picked Near.top (gap p (sampled (cloud p)) b i) r.val).val := by
  have hg : ∀ n, gap p (sampled (cloud p)) b i n < Near.top := Near.gap_lt h (fun j => h _) b i
  refine (Near.Ref.top16_apply _ _ _ _ _).trans ?_
  exact congrArg (fun z : Fin 8192 => BitVec.ofNat 32 z.val) (Near.sorted_eq_picked hg _)

theorem nearest_toNat (p1 : S4x8192x3.Idx → EReal) (p2 : S4x2048x3.Idx → EReal) (b : Fin 4) (i : Fin 2048) (r : Fin 16) :
    (nearest p1 p2 (ix3 b i r)).toNat = 8192 * b.val + (picked Near.top (gap p1 p2 b i) r.val).val := by
  have hn : ∀ n : Fin 8192, (IntOp.addi (BitVec.ofNat 32 n.val) (Near.base b)).toNat = 8192 * b.val + n.val := by
    intro n
    have := n.isLt
    have := b.isLt
    unfold IntOp.addi Near.base
    rw [BitVec.toNat_add, BitVec.toNat_ofNat, BitVec.toNat_ofNat]
    omega
  exact hn _

/-! # The features -/

section Result

variable (m : (ℓ : Loc Cert.WholeIdeal.nD Cert.WholeIdeal.τ Cert.WholeIdeal.sig) → Buf (Elt Ideal) ℓ)
  (c : Dev Cert.WholeIdeal.nD)

abbrev argX : S4x8192x64.Idx → EReal := m ((c : Thread Cert.WholeIdeal.nD Cert.WholeIdeal.τ).loc Cert.WholeIdeal.main_arg0)
abbrev argP : S4x8192x3.Idx → EReal := m ((c : Thread Cert.WholeIdeal.nD Cert.WholeIdeal.τ).loc Cert.WholeIdeal.main_arg1)
abbrev argW : S128x64.Idx → EReal := m ((c : Thread Cert.WholeIdeal.nD Cert.WholeIdeal.τ).loc Cert.WholeIdeal.main_arg2)

/-- What the pooling call is given. -/
def tabH : S32768x128.Idx → EReal := Hm m c
def tabJ : S131072.Idx → BitVec 32 := Jm m c
def tabA : S128.Idx → EReal := Am m c
def tabB : S128.Idx → EReal := Bm m c

variable (h : Tame (argX m c) (argP m c) (argW m c) (weight m c))

include h in
theorem tabA_nonneg (y : S128.Idx) : 0 ≤ tabA m c y := by
  obtain ⟨r, hr⟩ := Moments.feat_real _ _ h.feat h.mat
  obtain ⟨γ, h0, eγ⟩ := h.weight (ix1 (y 0))
  have e : tabA m c y = scaleK (feats m c) (γ : EReal) (y 0) := by
    rw [← eγ]
    exact (congrArg (tabA m c) (Moments.eq_ix1 y)).trans (A_apply m c (y 0))
  rw [e]
  exact Joint.scale_nonneg _ r hr γ _ h0

include h in
/-- The features the pooling call normalises are the reference's. -/
theorem tab_eq : Pool.feat (tabH m c) (tabA m c) (tabB m c) = refTab (argX m c) (argW m c) (weight m c) (offset m c) := by
  obtain ⟨r, hr⟩ := Moments.feat_real _ _ h.feat h.mat
  funext y
  have h0 : (y 0).val < 32768 := (y 0).isLt
  have h1 : (y 1).val < 128 := (y 1).isLt
  have ey : y = Pool.ixH (y 0).val (y 1).val := by
    funext a; apply Fin.ext
    match a with
    | ⟨0, _⟩ => show (y 0).val = (y 0).val % 32768; omega
    | ⟨1, _⟩ => show (y 1).val = (y 1).val % 128; omega
  have ec : (Pool.ixC (y 1).val : S128.Idx) = ix1 (⟨(y 1).val, h1⟩ : Fin 128) := by
    funext a; apply Fin.ext
    match a with
    | ⟨0, _⟩ => show (y 1).val % 128 = (y 1).val; omega
  obtain ⟨γ, hγ, eγ⟩ := h.weight (ix1 (⟨(y 1).val, h1⟩ : Fin 128))
  have e1 : Pool.feat (tabH m c) (tabA m c) (tabB m c) y
      = Pool.relu1 (tabA m c (Pool.ixC (y 1).val)) (tabB m c (Pool.ixC (y 1).val)) (tabH m c y) :=
    (congrArg (Pool.feat (tabH m c) (tabA m c) (tabB m c)) ey).trans ((Pool.feat_at _ _ _ _ _).trans
      (congrArg (fun z => Pool.relu1 (tabA m c (Pool.ixC (y 1).val)) (tabB m c (Pool.ixC (y 1).val)) (tabH m c z)) ey.symm))
  have eA : tabA m c (Pool.ixC (y 1).val) = scaleK (feats m c) (γ : EReal) ⟨(y 1).val, h1⟩ := by
    rw [ec, ← eγ]; exact A_apply m c _
  have eB : tabB m c (Pool.ixC (y 1).val) = offset m c (ix1 (⟨(y 1).val, h1⟩ : Fin 128))
      - mean (feats m c) ⟨(y 1).val, h1⟩ * scaleK (feats m c) (γ : EReal) ⟨(y 1).val, h1⟩ := by
    rw [ec, ← eγ]; exact B_apply m c _
  have eH : tabH m c y = feats m c (y 0) (y 1) := congrFun (H_eq m c) y
  rw [e1, eA, eB, eH, Joint.refTab_apply]
  refine (Joint.norm_agree _ r hr γ (y 1) _ (y 0)).trans ?_
  rw [← eγ]
  exact (Joint.refNorm_apply _ _ _ _ _ _).symm

/-- The kernel's result is the pooling call's on what it is given. -/
theorem pooled_tabs : pooled m c
    = shapeCast S4x2048x128 (Pool.poolOut (F := Ideal) (tabH m c) (Pool.flatIdx (nearest (argP m c) (sampled (cloud (argP m c))))) (tabA m c) (tabB m c))
      Cert.KernelIdeal.Gen.shapeCasts_S8192x128_S4x2048x128 := by
  have eJ : tabJ m c = Pool.flatIdx (nearest (argP m c) (sampled (cloud (argP m c)))) :=
    (J_eq m c).trans (congrArg Pool.flatIdx (neighbours_eq m c))
  rw [← eJ]
  rfl

include h in
/-- The kernel's first result is the reference's. -/
theorem pooled_eq : pooled m c = Ref.largest (Joint.refNorm (weight m c) (offset m c) (Moments.refH (argX m c) (argW m c)))
    (Near.Ref.top16 (argP m c) (sampled (cloud (argP m c)))) := by
  have hJ : ∀ y, (Pool.flatIdx (nearest (argP m c) (sampled (cloud (argP m c)))) y).toNat < 32768 := fun y => nearest_lt _ _ _
  refine (pooled_tabs m c).trans ((Pool.out_eq_ref _ _ _ _ hJ (tabA_nonneg m c h)).trans ?_)
  rw [Joint.refOut_eq, tab_eq m c h]
  exact (Ref.largest_eq _ _ _ (fun b i r => picked Near.top (gap (argP m c) (sampled (cloud (argP m c))) b i) r.val)
    (rows_agree _ h.pts) (nearest_toNat _ _) hJ).symm

end Result

/-! # The claims -/

/-- The idealized kernel terminates from every memory, leaving its arguments and every counter at zero. -/
theorem frame_ideal : Cert.quiescent_WholeIdeal := fun m ρ _ =>
  (θ_run Cert.WholeIdeal.defs _ _).mono (fun _ h => ⟨fun c => (h.1 c).2.2, h.2⟩) (run_kernel (F := Ideal) m ρ fun d y => rows_lt m d y)

/-- The reference terminates from every memory, leaving its arguments and every counter at zero. -/
theorem frame_reference : Cert.quiescent_WholeReferenceIdeal := fun m ρ _ =>
  (θ_run Cert.WholeReferenceIdeal.defs _ _).mono (fun r h => ⟨fun c => (h c).2.2, sem_eq_zero_of_no_sems (by decide) r.2⟩) (Ref.run m ρ)

/-- The idealized kernel and the reference return the same arrays. -/
theorem same_result : Cert.algebraic_WholeIdeal_WholeReferenceIdeal_pre_tame := fun m ρ m' ρ' hpre hag =>
  ⟨fun c => pooled m c, fun c => points m c,
    (θ_run Cert.WholeIdeal.defs _ _).mono (fun _ h => h.1) (run_kernel (F := Ideal) m ρ fun d y => rows_lt m d y),
    (θ_run Cert.WholeReferenceIdeal.defs _ _).mono
      (fun r h c => by
        obtain ⟨e0, e1, e2, e3, e4⟩ := hag c
        obtain ⟨hy, hp, hargs⟩ := h c
        rw [e0, e1, e2, e3, e4] at hy
        rw [e1] at hp
        exact ⟨hy.trans (pooled_eq m c (tame_of (hpre c))).symm, hp.trans (points_eq m c).symm, hargs⟩)
      (Ref.run m' ρ')⟩

end Cert.Proof.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Pool.Claims
public import proofs.«01_k».proof.Proof.Gen.Sample
public import proofs.«01_k».proof.Proof.Gen.SampleIdeal
public import proofs.«01_k».proof.Proof.Gen.SampleReferenceIdeal
public import proofs.«01_k».proof.Proof.Sample.Claims
public import proofs.«01_k».proof.Proof.Gen.Moments
public import proofs.«01_k».proof.Proof.Gen.Moments.Frame
public import proofs.«01_k».proof.Proof.Gen.MomentsIdeal
public import proofs.«01_k».proof.Proof.Gen.MomentsIdeal.Frame
public import proofs.«01_k».proof.Proof.Gen.MomentsReferenceIdeal
public import proofs.«01_k».proof.Proof.Gen.MomentsReferenceIdeal.Run
public import proofs.«01_k».proof.Proof.Gen.Pre_finite
public import proofs.«01_k».proof.Proof.Moments.Claims
public import proofs.«01_k».proof.Proof.Gen.Neighbours
public import proofs.«01_k».proof.Proof.Gen.Neighbours.Frame
public import proofs.«01_k».proof.Proof.Gen.NeighboursIdeal
public import proofs.«01_k».proof.Proof.Gen.NeighboursIdeal.Frame
public import proofs.«01_k».proof.Proof.Gen.NeighboursIdeal.Value
public import proofs.«01_k».proof.Proof.Gen.NeighboursReferenceIdeal
public import proofs.«01_k».proof.Proof.Gen.NeighboursReferenceIdeal.Run
public import proofs.«01_k».proof.Proof.Gen.Pre_bounded
public import proofs.«01_k».proof.Proof.Near.Claims
public import proofs.«01_k».proof.Proof.Gen.Features
public import proofs.«01_k».proof.Proof.Gen.FeaturesIdeal
public import proofs.«01_k».proof.Proof.Gen.FeaturesIdeal.Skeleton
public import proofs.«01_k».proof.Proof.Gen.FeaturesIdeal.Launch
public import proofs.«01_k».proof.Proof.Gen.FeaturesIdeal.Points
public import proofs.«01_k».proof.Proof.Gen.FeaturesReferenceIdeal
public import proofs.«01_k».proof.Proof.Gen.FeaturesReferenceIdeal.Run
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeIdeal.Loops
public import proofs.«01_k».proof.Proof.Gen.WholeReferenceIdeal
public import proofs.«01_k».proof.Proof.Gen.Pre_tame
public import proofs.«01_k».proof.Proof.Gen.Pre_ordered
public import proofs.«01_k».proof.Proof.Joint.Claims
public import proofs.«01_k».proof.Proof.Whole.Claims

@[expose] public section

noncomputable section

namespace Cert.Proof

open Idealize.ShloMosaic Idealize.SL.Sem Cert.Kernel

/-- Everything this certificate claims. -/
theorem claim : Cert.Claim := ⟨Cert.Kernel.Gen.facts, Cert.KernelIdeal.Gen.facts, Cert.ReferenceIdeal.Gen.facts,
  Cert.Sample.Gen.facts, Cert.SampleIdeal.Gen.facts, Cert.SampleReferenceIdeal.Gen.facts,
  Cert.Moments.Gen.facts, Cert.MomentsIdeal.Gen.facts, Cert.MomentsReferenceIdeal.Gen.facts,
  Cert.Neighbours.Gen.facts, Cert.NeighboursIdeal.Gen.facts, Cert.NeighboursReferenceIdeal.Gen.facts,
  Cert.Features.Gen.facts, Cert.FeaturesIdeal.Gen.facts, Cert.FeaturesReferenceIdeal.Gen.facts,
  Cert.WholeIdeal.Gen.facts, Cert.WholeReferenceIdeal.Gen.facts,
  Pool.listed_facts, Cert.Pre_in_range.Gen.facts, Cert.Pre_finite.Gen.facts, Cert.Pre_bounded.Gen.facts,
  Joint.named_facts, Cert.Pre_ordered.Gen.facts, Cert.Pre_tame.Gen.facts,
  Pool.frame_kernel, Pool.frame_ideal, Pool.frame_ideal_in_range, Pool.frame_reference, fun m ρ _ => Pool.frame_reference m ρ trivial,
  Sample.frame_kernel, Sample.frame_ideal, Sample.frame_reference,
  Moments.frame_kernel, Moments.frame_ideal, fun m ρ _ => Moments.frame_ideal m ρ trivial,
  Moments.frame_reference, fun m ρ _ => Moments.frame_reference m ρ trivial,
  Near.frame_kernel, Near.frame_ideal, fun m ρ _ => Near.frame_ideal m ρ trivial,
  Near.frame_reference, fun m ρ _ => Near.frame_reference m ρ trivial,
  Joint.frame_kernel, Joint.frame_ideal, Joint.frame_ideal_ordered,
  Joint.frame_reference, fun m ρ _ => Joint.frame_reference m ρ trivial,
  Whole.frame_ideal, fun m ρ _ => Whole.frame_ideal m ρ trivial,
  Whole.frame_reference, fun m ρ _ => Whole.frame_reference m ρ trivial,
  trivial, Pool.same_result, trivial, Sample.same_result, trivial, Moments.same_result, trivial, Near.same_result,
  trivial, Joint.same_result, Whole.same_result⟩

end Cert.Proof

end
